-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2 = (fun _ => 1#1)

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadKernelIdeal_head_regular [hPre_head_regular : Cert.Pre_head_regular.Facts] (m : (ℓ : Loc Cert.HeadKernelIdeal.nD Cert.HeadKernelIdeal.τ Cert.HeadKernelIdeal.sig) → Buf (Elt Ideal) ℓ) : Prop :=
  ∀ c : Dev Cert.HeadKernelIdeal.nD,
    (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).1 = (fun _ => 1#1)
    ∧ (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).2.1 = (fun _ => 1#1)
    ∧ (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).2.2.1 = (fun _ => 1#1)
    ∧ (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).2.2.2.1 = (fun _ => 1#1)
    ∧ (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).2.2.2.2.1 = (fun _ => 1#1)
    ∧ (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).2.2.2.2.2.1 = (fun _ => 1#1)
    ∧ (Cert.Pre_head_regular.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4)) (m ((c.tc : Thread Cert.HeadKernelIdeal.nD Cert.HeadKernelIdeal.τ).loc Cert.HeadKernelIdeal.main_arg5)) (m ((c.tc : Thread Cert.HeadKernelIdeal.nD Cert.HeadKernelIdeal.τ).loc Cert.HeadKernelIdeal.main_arg6)) (m ((c.tc : Thread Cert.HeadKernelIdeal.nD Cert.HeadKernelIdeal.τ).loc Cert.HeadKernelIdeal.main_arg7)) (m ((c.tc : Thread Cert.HeadKernelIdeal.nD Cert.HeadKernelIdeal.τ).loc Cert.HeadKernelIdeal.main_arg8)) (m ((c.tc : Thread Cert.HeadKernelIdeal.nD Cert.HeadKernelIdeal.τ).loc Cert.HeadKernelIdeal.main_arg9)) (m ((c.tc : Thread Cert.HeadKernelIdeal.nD Cert.HeadKernelIdeal.τ).loc Cert.HeadKernelIdeal.main_arg10))).2.2.2.2.2.2 = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_head_regular [hPre_head_regular : Cert.Pre_head_regular.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).1 = (fun _ => 1#1)
    ∧ (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).2.1 = (fun _ => 1#1)
    ∧ (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).2.2.1 = (fun _ => 1#1)
    ∧ (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).2.2.2.1 = (fun _ => 1#1)
    ∧ (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).2.2.2.2.1 = (fun _ => 1#1)
    ∧ (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).2.2.2.2.2.1 = (fun _ => 1#1)
    ∧ (Cert.Pre_head_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10))).2.2.2.2.2.2 = (fun _ => 1#1)

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstKernelIdeal_first_separated [hPre_first_separated : Cert.Pre_first_separated.Facts] (m : (ℓ : Loc Cert.FirstKernelIdeal.nD Cert.FirstKernelIdeal.τ Cert.FirstKernelIdeal.sig) → Buf (Elt Ideal) ℓ) : Prop :=
  ∀ c : Dev Cert.FirstKernelIdeal.nD,
    (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.2.2.2.2.2.1 = (fun _ => 1#1)
    ∧ (Cert.Pre_first_separated.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6))).2.2.2.2.2.2.2.2.2.2.2 = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_first_separated [hPre_first_separated : Cert.Pre_first_separated.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.2.2.2.2.2.1 = (fun _ => 1#1)
    ∧ (Cert.Pre_first_separated.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))).2.2.2.2.2.2.2.2.2.2.2 = (fun _ => 1#1)

def Pre_SumsKernel (m : (ℓ : Loc Cert.SumsKernel.nD Cert.SumsKernel.τ Cert.SumsKernel.sig) → Buf (Elt Bits) ℓ) : Prop :=
  True

def Pre_SumsKernelIdeal (m : (ℓ : Loc Cert.SumsKernelIdeal.nD Cert.SumsKernelIdeal.τ Cert.SumsKernelIdeal.sig) → Buf (Elt Ideal) ℓ) : Prop :=
  True

def Pre_SumsReferenceIdeal (m : (ℓ : Loc Cert.SumsReferenceIdeal.nD Cert.SumsReferenceIdeal.τ Cert.SumsReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailKernelIdeal_tail_finite [hPre_tail_finite : Cert.Pre_tail_finite.Facts] (m : (ℓ : Loc Cert.TailKernelIdeal.nD Cert.TailKernelIdeal.τ Cert.TailKernelIdeal.sig) → Buf (Elt Ideal) ℓ) : Prop :=
  ∀ c : Dev Cert.TailKernelIdeal.nD,
    (Cert.Pre_tail_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9))).1 = (fun _ => 1#1)
    ∧ (Cert.Pre_tail_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9))).2.1 = (fun _ => 1#1)
    ∧ (Cert.Pre_tail_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9))).2.2.1 = (fun _ => 1#1)
    ∧ (Cert.Pre_tail_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9))).2.2.2 = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_tail_finite [hPre_tail_finite : Cert.Pre_tail_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_tail_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))).1 = (fun _ => 1#1)
    ∧ (Cert.Pre_tail_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))).2.1 = (fun _ => 1#1)
    ∧ (Cert.Pre_tail_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))).2.2.1 = (fun _ => 1#1)
    ∧ (Cert.Pre_tail_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))).2.2.2 = (fun _ => 1#1)

def Pre_NetKernel (m : (ℓ : Loc Cert.NetKernel.nD Cert.NetKernel.τ Cert.NetKernel.sig) → Buf (Elt Bits) ℓ) : Prop :=
  True

def Pre_NetKernelIdeal (m : (ℓ : Loc Cert.NetKernelIdeal.nD Cert.NetKernelIdeal.τ Cert.NetKernelIdeal.sig) → Buf (Elt Ideal) ℓ) : Prop :=
  True

def Pre_NetKernelIdeal_both_separated [hPre_both_separated : Cert.Pre_both_separated.Facts] (m : (ℓ : Loc Cert.NetKernelIdeal.nD Cert.NetKernelIdeal.τ Cert.NetKernelIdeal.sig) → Buf (Elt Ideal) ℓ) : Prop :=
  ∀ c : Dev Cert.NetKernelIdeal.nD,
    (Cert.Pre_both_separated.fn (F := Ideal) (m ((c.tc : Thread Cert.NetKernelIdeal.nD Cert.NetKernelIdeal.τ).loc Cert.NetKernelIdeal.main_arg0)) (m ((c.tc : Thread Cert.NetKernelIdeal.nD Cert.NetKernelIdeal.τ).loc Cert.NetKernelIdeal.main_arg1)) (m ((c.tc : Thread Cert.NetKernelIdeal.nD Cert.NetKernelIdeal.τ).loc Cert.NetKernelIdeal.main_arg2)) (m ((c.tc : Thread Cert.NetKernelIdeal.nD Cert.NetKernelIdeal.τ).loc Cert.NetKernelIdeal.main_arg3)) (m ((c.tc : Thread Cert.NetKernelIdeal.nD Cert.NetKernelIdeal.τ).loc Cert.NetKernelIdeal.main_arg4)) (m ((c.tc : Thread Cert.NetKernelIdeal.nD Cert.NetKernelIdeal.τ).loc Cert.NetKernelIdeal.main_arg5)) (m ((c.tc : Thread Cert.NetKernelIdeal.nD Cert.NetKernelIdeal.τ).loc Cert.NetKernelIdeal.main_arg6)) (m ((c.tc : Thread Cert.NetKernelIdeal.nD Cert.NetKernelIdeal.τ).loc Cert.NetKernelIdeal.main_arg7)) (m ((c.tc : Thread Cert.NetKernelIdeal.nD Cert.NetKernelIdeal.τ).loc Cert.NetKernelIdeal.main_arg8)) (m ((c.tc : Thread Cert.NetKernelIdeal.nD Cert.NetKernelIdeal.τ).loc Cert.NetKernelIdeal.main_arg9)) (m ((c.tc : Thread Cert.NetKernelIdeal.nD Cert.NetKernelIdeal.τ).loc Cert.NetKernelIdeal.main_arg10)) (m ((c.tc : Thread Cert.NetKernelIdeal.nD Cert.NetKernelIdeal.τ).loc Cert.NetKernelIdeal.main_arg11)) (m ((c.tc : Thread Cert.NetKernelIdeal.nD Cert.NetKernelIdeal.τ).loc Cert.NetKernelIdeal.main_arg12)) (m ((c.tc : Thread Cert.NetKernelIdeal.nD Cert.NetKernelIdeal.τ).loc Cert.NetKernelIdeal.main_arg13)) (m ((c.tc : Thread Cert.NetKernelIdeal.nD Cert.NetKernelIdeal.τ).loc Cert.NetKernelIdeal.main_arg14)) (m ((c.tc : Thread Cert.NetKernelIdeal.nD Cert.NetKernelIdeal.τ).loc Cert.NetKernelIdeal.main_arg15)) (m ((c.tc : Thread Cert.NetKernelIdeal.nD Cert.NetKernelIdeal.τ).loc Cert.NetKernelIdeal.main_arg16)) (m ((c.tc : Thread Cert.NetKernelIdeal.nD Cert.NetKernelIdeal.τ).loc Cert.NetKernelIdeal.main_arg17)) (m ((c.tc : Thread Cert.NetKernelIdeal.nD Cert.NetKernelIdeal.τ).loc Cert.NetKernelIdeal.main_arg18)) (m ((c.tc : Thread Cert.NetKernelIdeal.nD Cert.NetKernelIdeal.τ).loc Cert.NetKernelIdeal.main_arg19)) (m ((c.tc : Thread Cert.NetKernelIdeal.nD Cert.NetKernelIdeal.τ).loc Cert.NetKernelIdeal.main_arg20)) (m ((c.tc : Thread Cert.NetKernelIdeal.nD Cert.NetKernelIdeal.τ).loc Cert.NetKernelIdeal.main_arg21)) (m ((c.tc : Thread Cert.NetKernelIdeal.nD Cert.NetKernelIdeal.τ).loc Cert.NetKernelIdeal.main_arg22)) (m ((c.tc : Thread Cert.NetKernelIdeal.nD Cert.NetKernelIdeal.τ).loc Cert.NetKernelIdeal.main_arg23)) (m ((c.tc : Thread Cert.NetKernelIdeal.nD Cert.NetKernelIdeal.τ).loc Cert.NetKernelIdeal.main_arg24)) (m ((c.tc : Thread Cert.NetKernelIdeal.nD Cert.NetKernelIdeal.τ).loc Cert.NetKernelIdeal.main_arg25)) (m ((c.tc : Thread Cert.NetKernelIdeal.nD Cert.NetKernelIdeal.τ).loc Cert.NetKernelIdeal.main_arg26)) (m ((c.tc : Thread Cert.NetKernelIdeal.nD Cert.NetKernelIdeal.τ).loc Cert.NetKernelIdeal.main_arg27)) (m ((c.tc : Thread Cert.NetKernelIdeal.nD Cert.NetKernelIdeal.τ).loc Cert.NetKernelIdeal.main_arg28)) (m ((c.tc : Thread Cert.NetKernelIdeal.nD Cert.NetKernelIdeal.τ).loc Cert.NetKernelIdeal.main_arg29)) (m ((c.tc : Thread Cert.NetKernelIdeal.nD Cert.NetKernelIdeal.τ).loc Cert.NetKernelIdeal.main_arg30)) (m ((c.tc : Thread Cert.NetKernelIdeal.nD Cert.NetKernelIdeal.τ).loc Cert.NetKernelIdeal.main_arg31)) (m ((c.tc : Thread Cert.NetKernelIdeal.nD Cert.NetKernelIdeal.τ).loc Cert.NetKernelIdeal.main_arg32)) (m ((c.tc : Thread Cert.NetKernelIdeal.nD Cert.NetKernelIdeal.τ).loc Cert.NetKernelIdeal.main_arg33))).1 = (fun _ => 1#1)
    ∧ (Cert.Pre_both_separated.fn (F := Ideal) (m ((c.tc : Thread Cert.NetKernelIdeal.nD Cert.NetKernelIdeal.τ).loc Cert.NetKernelIdeal.main_arg0)) (m ((c.tc : Thread Cert.NetKernelIdeal.nD Cert.NetKernelIdeal.τ).loc Cert.NetKernelIdeal.main_arg1)) (m ((c.tc : Thread Cert.NetKernelIdeal.nD Cert.NetKernelIdeal.τ).loc Cert.NetKernelIdeal.main_arg2)) (m ((c.tc : Thread Cert.NetKernelIdeal.nD Cert.NetKernelIdeal.τ).loc Cert.NetKernelIdeal.main_arg3)) (m ((c.tc : Thread Cert.NetKernelIdeal.nD Cert.NetKernelIdeal.τ).loc Cert.NetKernelIdeal.main_arg4)) (m ((c.tc : Thread Cert.NetKernelIdeal.nD Cert.NetKernelIdeal.τ).loc Cert.NetKernelIdeal.main_arg5)) (m ((c.tc : Thread Cert.NetKernelIdeal.nD Cert.NetKernelIdeal.τ).loc Cert.NetKernelIdeal.main_arg6)) (m ((c.tc : Thread Cert.NetKernelIdeal.nD Cert.NetKernelIdeal.τ).loc Cert.NetKernelIdeal.main_arg7)) (m ((c.tc : Thread Cert.NetKernelIdeal.nD Cert.NetKernelIdeal.τ).loc Cert.NetKernelIdeal.main_arg8)) (m ((c.tc : Thread Cert.NetKernelIdeal.nD Cert.NetKernelIdeal.τ).loc Cert.NetKernelIdeal.main_arg9)) (m ((c.tc : Thread Cert.NetKernelIdeal.nD Cert.NetKernelIdeal.τ).loc Cert.NetKernelIdeal.main_arg10)) (m ((c.tc : Thread Cert.NetKernelIdeal.nD Cert.NetKernelIdeal.τ).loc Cert.NetKernelIdeal.main_arg11)) (m ((c.tc : Thread Cert.NetKernelIdeal.nD Cert.NetKernelIdeal.τ).loc Cert.NetKernelIdeal.main_arg12)) (m ((c.tc : Thread Cert.NetKernelIdeal.nD Cert.NetKernelIdeal.τ).loc Cert.NetKernelIdeal.main_arg13)) (m ((c.tc : Thread Cert.NetKernelIdeal.nD Cert.NetKernelIdeal.τ).loc Cert.NetKernelIdeal.main_arg14)) (m ((c.tc : Thread Cert.NetKernelIdeal.nD Cert.NetKernelIdeal.τ).loc Cert.NetKernelIdeal.main_arg15)) (m ((c.tc : Thread Cert.NetKernelIdeal.nD Cert.NetKernelIdeal.τ).loc Cert.NetKernelIdeal.main_arg16)) (m ((c.tc : Thread Cert.NetKernelIdeal.nD Cert.NetKernelIdeal.τ).loc Cert.NetKernelIdeal.main_arg17)) (m ((c.tc : Thread Cert.NetKernelIdeal.nD Cert.NetKernelIdeal.τ).loc Cert.NetKernelIdeal.main_arg18)) (m ((c.tc : Thread Cert.NetKernelIdeal.nD Cert.NetKernelIdeal.τ).loc Cert.NetKernelIdeal.main_arg19)) (m ((c.tc : Thread Cert.NetKernelIdeal.nD Cert.NetKernelIdeal.τ).loc Cert.NetKernelIdeal.main_arg20)) (m ((c.tc : Thread Cert.NetKernelIdeal.nD Cert.NetKernelIdeal.τ).loc Cert.NetKernelIdeal.main_arg21)) (m ((c.tc : Thread Cert.NetKernelIdeal.nD Cert.NetKernelIdeal.τ).loc Cert.NetKernelIdeal.main_arg22)) (m ((c.tc : Thread Cert.NetKernelIdeal.nD Cert.NetKernelIdeal.τ).loc Cert.NetKernelIdeal.main_arg23)) (m ((c.tc : Thread Cert.NetKernelIdeal.nD Cert.NetKernelIdeal.τ).loc Cert.NetKernelIdeal.main_arg24)) (m ((c.tc : Thread Cert.NetKernelIdeal.nD Cert.NetKernelIdeal.τ).loc Cert.NetKernelIdeal.main_arg25)) (m ((c.tc : Thread Cert.NetKernelIdeal.nD Cert.NetKernelIdeal.τ).loc Cert.NetKernelIdeal.main_arg26)) (m ((c.tc : Thread Cert.NetKernelIdeal.nD Cert.NetKernelIdeal.τ).loc Cert.NetKernelIdeal.main_arg27)) (m ((c.tc : Thread Cert.NetKernelIdeal.nD Cert.NetKernelIdeal.τ).loc Cert.NetKernelIdeal.main_arg28)) (m ((c.tc : Thread Cert.NetKernelIdeal.nD Cert.NetKernelIdeal.τ).loc Cert.NetKernelIdeal.main_arg29)) (m ((c.tc : Thread Cert.NetKernelIdeal.nD Cert.NetKernelIdeal.τ).loc Cert.NetKernelIdeal.main_arg30)) (m ((c.tc : Thread Cert.NetKernelIdeal.nD Cert.NetKernelIdeal.τ).loc Cert.NetKernelIdeal.main_arg31)) (m ((c.tc : Thread Cert.NetKernelIdeal.nD Cert.NetKernelIdeal.τ).loc Cert.NetKernelIdeal.main_arg32)) (m ((c.tc : Thread Cert.NetKernelIdeal.nD Cert.NetKernelIdeal.τ).loc Cert.NetKernelIdeal.main_arg33))).2.1 = (fun _ => 1#1)
    ∧ (Cert.Pre_both_separated.fn (F := Ideal) (m ((c.tc : Thread Cert.NetKernelIdeal.nD Cert.NetKernelIdeal.τ).loc Cert.NetKernelIdeal.main_arg0)) (m ((c.tc : Thread Cert.NetKernelIdeal.nD Cert.NetKernelIdeal.τ).loc Cert.NetKernelIdeal.main_arg1)) (m ((c.tc : Thread Cert.NetKernelIdeal.nD Cert.NetKernelIdeal.τ).loc Cert.NetKernelIdeal.main_arg2)) (m ((c.tc : Thread Cert.NetKernelIdeal.nD Cert.NetKernelIdeal.τ).loc Cert.NetKernelIdeal.main_arg3)) (m ((c.tc : Thread Cert.NetKernelIdeal.nD Cert.NetKernelIdeal.τ).loc Cert.NetKernelIdeal.main_arg4)) (m ((c.tc : Thread Cert.NetKernelIdeal.nD Cert.NetKernelIdeal.τ).loc Cert.NetKernelIdeal.main_arg5)) (m ((c.tc : Thread Cert.NetKernelIdeal.nD Cert.NetKernelIdeal.τ).loc Cert.NetKernelIdeal.main_arg6)) (m ((c.tc : Thread Cert.NetKernelIdeal.nD Cert.NetKernelIdeal.τ).loc Cert.NetKernelIdeal.main_arg7)) (m ((c.tc : Thread Cert.NetKernelIdeal.nD Cert.NetKernelIdeal.τ).loc Cert.NetKernelIdeal.main_arg8)) (m ((c.tc : Thread Cert.NetKernelIdeal.nD Cert.NetKernelIdeal.τ).loc Cert.NetKernelIdeal.main_arg9)) (m ((c.tc : Thread Cert.NetKernelIdeal.nD Cert.NetKernelIdeal.τ).loc Cert.NetKernelIdeal.main_arg10)) (m ((c.tc : Thread Cert.NetKernelIdeal.nD Cert.NetKernelIdeal.τ).loc Cert.NetKernelIdeal.main_arg11)) (m ((c.tc : Thread Cert.NetKernelIdeal.nD Cert.NetKernelIdeal.τ).loc Cert.NetKernelIdeal.main_arg12)) (m ((c.tc : Thread Cert.NetKernelIdeal.nD Cert.NetKernelIdeal.τ).loc Cert.NetKernelIdeal.main_arg13)) (m ((c.tc : Thread Cert.NetKernelIdeal.nD Cert.NetKernelIdeal.τ).loc Cert.NetKernelIdeal.main_arg14)) (m ((c.tc : Thread Cert.NetKernelIdeal.nD Cert.NetKernelIdeal.τ).loc Cert.NetKernelIdeal.main_arg15)) (m ((c.tc : Thread Cert.NetKernelIdeal.nD Cert.NetKernelIdeal.τ).loc Cert.NetKernelIdeal.main_arg16)) (m ((c.tc : Thread Cert.NetKernelIdeal.nD Cert.NetKernelIdeal.τ).loc Cert.NetKernelIdeal.main_arg17)) (m ((c.tc : Thread Cert.NetKernelIdeal.nD Cert.NetKernelIdeal.τ).loc Cert.NetKernelIdeal.main_arg18)) (m ((c.tc : Thread Cert.NetKernelIdeal.nD Cert.NetKernelIdeal.τ).loc Cert.NetKernelIdeal.main_arg19)) (m ((c.tc : Thread Cert.NetKernelIdeal.nD Cert.NetKernelIdeal.τ).loc Cert.NetKernelIdeal.main_arg20)) (m ((c.tc : Thread Cert.NetKernelIdeal.nD Cert.NetKernelIdeal.τ).loc Cert.NetKernelIdeal.main_arg21)) (m ((c.tc : Thread Cert.NetKernelIdeal.nD Cert.NetKernelIdeal.τ).loc Cert.NetKernelIdeal.main_arg22)) (m ((c.tc : Thread Cert.NetKernelIdeal.nD Cert.NetKernelIdeal.τ).loc Cert.NetKernelIdeal.main_arg23)) (m ((c.tc : Thread Cert.NetKernelIdeal.nD Cert.NetKernelIdeal.τ).loc Cert.NetKernelIdeal.main_arg24)) (m ((c.tc : Thread Cert.NetKernelIdeal.nD Cert.NetKernelIdeal.τ).loc Cert.NetKernelIdeal.main_arg25)) (m ((c.tc : Thread Cert.NetKernelIdeal.nD Cert.NetKernelIdeal.τ).loc Cert.NetKernelIdeal.main_arg26)) (m ((c.tc : Thread Cert.NetKernelIdeal.nD Cert.NetKernelIdeal.τ).loc Cert.NetKernelIdeal.main_arg27)) (m ((c.tc : Thread Cert.NetKernelIdeal.nD Cert.NetKernelIdeal.τ).loc Cert.NetKernelIdeal.main_arg28)) (m ((c.tc : Thread Cert.NetKernelIdeal.nD Cert.NetKernelIdeal.τ).loc Cert.NetKernelIdeal.main_arg29)) (m ((c.tc : Thread Cert.NetKernelIdeal.nD Cert.NetKernelIdeal.τ).loc Cert.NetKernelIdeal.main_arg30)) (m ((c.tc : Thread Cert.NetKernelIdeal.nD Cert.NetKernelIdeal.τ).loc Cert.NetKernelIdeal.main_arg31)) (m ((c.tc : Thread Cert.NetKernelIdeal.nD Cert.NetKernelIdeal.τ).loc Cert.NetKernelIdeal.main_arg32)) (m ((c.tc : Thread Cert.NetKernelIdeal.nD Cert.NetKernelIdeal.τ).loc Cert.NetKernelIdeal.main_arg33))).2.2.1 = (fun _ => 1#1)
    ∧ (Cert.Pre_both_separated.fn (F := Ideal) (m ((c.tc : Thread Cert.NetKernelIdeal.nD Cert.NetKernelIdeal.τ).loc Cert.NetKernelIdeal.main_arg0)) (m ((c.tc : Thread Cert.NetKernelIdeal.nD Cert.NetKernelIdeal.τ).loc Cert.NetKernelIdeal.main_arg1)) (m ((c.tc : Thread Cert.NetKernelIdeal.nD Cert.NetKernelIdeal.τ).loc Cert.NetKernelIdeal.main_arg2)) (m ((c.tc : Thread Cert.NetKernelIdeal.nD Cert.NetKernelIdeal.τ).loc Cert.NetKernelIdeal.main_arg3)) (m ((c.tc : Thread Cert.NetKernelIdeal.nD Cert.NetKernelIdeal.τ).loc Cert.NetKernelIdeal.main_arg4)) (m ((c.tc : Thread Cert.NetKernelIdeal.nD Cert.NetKernelIdeal.τ).loc Cert.NetKernelIdeal.main_arg5)) (m ((c.tc : Thread Cert.NetKernelIdeal.nD Cert.NetKernelIdeal.τ).loc Cert.NetKernelIdeal.main_arg6)) (m ((c.tc : Thread Cert.NetKernelIdeal.nD Cert.NetKernelIdeal.τ).loc Cert.NetKernelIdeal.main_arg7)) (m ((c.tc : Thread Cert.NetKernelIdeal.nD Cert.NetKernelIdeal.τ).loc Cert.NetKernelIdeal.main_arg8)) (m ((c.tc : Thread Cert.NetKernelIdeal.nD Cert.NetKernelIdeal.τ).loc Cert.NetKernelIdeal.main_arg9)) (m ((c.tc : Thread Cert.NetKernelIdeal.nD Cert.NetKernelIdeal.τ).loc Cert.NetKernelIdeal.main_arg10)) (m ((c.tc : Thread Cert.NetKernelIdeal.nD Cert.NetKernelIdeal.τ).loc Cert.NetKernelIdeal.main_arg11)) (m ((c.tc : Thread Cert.NetKernelIdeal.nD Cert.NetKernelIdeal.τ).loc Cert.NetKernelIdeal.main_arg12)) (m ((c.tc : Thread Cert.NetKernelIdeal.nD Cert.NetKernelIdeal.τ).loc Cert.NetKernelIdeal.main_arg13)) (m ((c.tc : Thread Cert.NetKernelIdeal.nD Cert.NetKernelIdeal.τ).loc Cert.NetKernelIdeal.main_arg14)) (m ((c.tc : Thread Cert.NetKernelIdeal.nD Cert.NetKernelIdeal.τ).loc Cert.NetKernelIdeal.main_arg15)) (m ((c.tc : Thread Cert.NetKernelIdeal.nD Cert.NetKernelIdeal.τ).loc Cert.NetKernelIdeal.main_arg16)) (m ((c.tc : Thread Cert.NetKernelIdeal.nD Cert.NetKernelIdeal.τ).loc Cert.NetKernelIdeal.main_arg17)) (m ((c.tc : Thread Cert.NetKernelIdeal.nD Cert.NetKernelIdeal.τ).loc Cert.NetKernelIdeal.main_arg18)) (m ((c.tc : Thread Cert.NetKernelIdeal.nD Cert.NetKernelIdeal.τ).loc Cert.NetKernelIdeal.main_arg19)) (m ((c.tc : Thread Cert.NetKernelIdeal.nD Cert.NetKernelIdeal.τ).loc Cert.NetKernelIdeal.main_arg20)) (m ((c.tc : Thread Cert.NetKernelIdeal.nD Cert.NetKernelIdeal.τ).loc Cert.NetKernelIdeal.main_arg21)) (m ((c.tc : Thread Cert.NetKernelIdeal.nD Cert.NetKernelIdeal.τ).loc Cert.NetKernelIdeal.main_arg22)) (m ((c.tc : Thread Cert.NetKernelIdeal.nD Cert.NetKernelIdeal.τ).loc Cert.NetKernelIdeal.main_arg23)) (m ((c.tc : Thread Cert.NetKernelIdeal.nD Cert.NetKernelIdeal.τ).loc Cert.NetKernelIdeal.main_arg24)) (m ((c.tc : Thread Cert.NetKernelIdeal.nD Cert.NetKernelIdeal.τ).loc Cert.NetKernelIdeal.main_arg25)) (m ((c.tc : Thread Cert.NetKernelIdeal.nD Cert.NetKernelIdeal.τ).loc Cert.NetKernelIdeal.main_arg26)) (m ((c.tc : Thread Cert.NetKernelIdeal.nD Cert.NetKernelIdeal.τ).loc Cert.NetKernelIdeal.main_arg27)) (m ((c.tc : Thread Cert.NetKernelIdeal.nD Cert.NetKernelIdeal.τ).loc Cert.NetKernelIdeal.main_arg28)) (m ((c.tc : Thread Cert.NetKernelIdeal.nD Cert.NetKernelIdeal.τ).loc Cert.NetKernelIdeal.main_arg29)) (m ((c.tc : Thread Cert.NetKernelIdeal.nD Cert.NetKernelIdeal.τ).loc Cert.NetKernelIdeal.main_arg30)) (m ((c.tc : Thread Cert.NetKernelIdeal.nD Cert.NetKernelIdeal.τ).loc Cert.NetKernelIdeal.main_arg31)) (m ((c.tc : Thread Cert.NetKernelIdeal.nD Cert.NetKernelIdeal.τ).loc Cert.NetKernelIdeal.main_arg32)) (m ((c.tc : Thread Cert.NetKernelIdeal.nD Cert.NetKernelIdeal.τ).loc Cert.NetKernelIdeal.main_arg33))).2.2.2.1 = (fun _ => 1#1)
    ∧ (Cert.Pre_both_separated.fn (F := Ideal) (m ((c.tc : Thread Cert.NetKernelIdeal.nD Cert.NetKernelIdeal.τ).loc Cert.NetKernelIdeal.main_arg0)) (m ((c.tc : Thread Cert.NetKernelIdeal.nD Cert.NetKernelIdeal.τ).loc Cert.NetKernelIdeal.main_arg1)) (m ((c.tc : Thread Cert.NetKernelIdeal.nD Cert.NetKernelIdeal.τ).loc Cert.NetKernelIdeal.main_arg2)) (m ((c.tc : Thread Cert.NetKernelIdeal.nD Cert.NetKernelIdeal.τ).loc Cert.NetKernelIdeal.main_arg3)) (m ((c.tc : Thread Cert.NetKernelIdeal.nD Cert.NetKernelIdeal.τ).loc Cert.NetKernelIdeal.main_arg4)) (m ((c.tc : Thread Cert.NetKernelIdeal.nD Cert.NetKernelIdeal.τ).loc Cert.NetKernelIdeal.main_arg5)) (m ((c.tc : Thread Cert.NetKernelIdeal.nD Cert.NetKernelIdeal.τ).loc Cert.NetKernelIdeal.main_arg6)) (m ((c.tc : Thread Cert.NetKernelIdeal.nD Cert.NetKernelIdeal.τ).loc Cert.NetKernelIdeal.main_arg7)) (m ((c.tc : Thread Cert.NetKernelIdeal.nD Cert.NetKernelIdeal.τ).loc Cert.NetKernelIdeal.main_arg8)) (m ((c.tc : Thread Cert.NetKernelIdeal.nD Cert.NetKernelIdeal.τ).loc Cert.NetKernelIdeal.main_arg9)) (m ((c.tc : Thread Cert.NetKernelIdeal.nD Cert.NetKernelIdeal.τ).loc Cert.NetKernelIdeal.main_arg10)) (m ((c.tc : Thread Cert.NetKernelIdeal.nD Cert.NetKernelIdeal.τ).loc Cert.NetKernelIdeal.main_arg11)) (m ((c.tc : Thread Cert.NetKernelIdeal.nD Cert.NetKernelIdeal.τ).loc Cert.NetKernelIdeal.main_arg12)) (m ((c.tc : Thread Cert.NetKernelIdeal.nD Cert.NetKernelIdeal.τ).loc Cert.NetKernelIdeal.main_arg13)) (m ((c.tc : Thread Cert.NetKernelIdeal.nD Cert.NetKernelIdeal.τ).loc Cert.NetKernelIdeal.main_arg14)) (m ((c.tc : Thread Cert.NetKernelIdeal.nD Cert.NetKernelIdeal.τ).loc Cert.NetKernelIdeal.main_arg15)) (m ((c.tc : Thread Cert.NetKernelIdeal.nD Cert.NetKernelIdeal.τ).loc Cert.NetKernelIdeal.main_arg16)) (m ((c.tc : Thread Cert.NetKernelIdeal.nD Cert.NetKernelIdeal.τ).loc Cert.NetKernelIdeal.main_arg17)) (m ((c.tc : Thread Cert.NetKernelIdeal.nD Cert.NetKernelIdeal.τ).loc Cert.NetKernelIdeal.main_arg18)) (m ((c.tc : Thread Cert.NetKernelIdeal.nD Cert.NetKernelIdeal.τ).loc Cert.NetKernelIdeal.main_arg19)) (m ((c.tc : Thread Cert.NetKernelIdeal.nD Cert.NetKernelIdeal.τ).loc Cert.NetKernelIdeal.main_arg20)) (m ((c.tc : Thread Cert.NetKernelIdeal.nD Cert.NetKernelIdeal.τ).loc Cert.NetKernelIdeal.main_arg21)) (m ((c.tc : Thread Cert.NetKernelIdeal.nD Cert.NetKernelIdeal.τ).loc Cert.NetKernelIdeal.main_arg22)) (m ((c.tc : Thread Cert.NetKernelIdeal.nD Cert.NetKernelIdeal.τ).loc Cert.NetKernelIdeal.main_arg23)) (m ((c.tc : Thread Cert.NetKernelIdeal.nD Cert.NetKernelIdeal.τ).loc Cert.NetKernelIdeal.main_arg24)) (m ((c.tc : Thread Cert.NetKernelIdeal.nD Cert.NetKernelIdeal.τ).loc Cert.NetKernelIdeal.main_arg25)) (m ((c.tc : Thread Cert.NetKernelIdeal.nD Cert.NetKernelIdeal.τ).loc Cert.NetKernelIdeal.main_arg26)) (m ((c.tc : Thread Cert.NetKernelIdeal.nD Cert.NetKernelIdeal.τ).loc Cert.NetKernelIdeal.main_arg27)) (m ((c.tc : Thread Cert.NetKernelIdeal.nD Cert.NetKernelIdeal.τ).loc Cert.NetKernelIdeal.main_arg28)) (m ((c.tc : Thread Cert.NetKernelIdeal.nD Cert.NetKernelIdeal.τ).loc Cert.NetKernelIdeal.main_arg29)) (m ((c.tc : Thread Cert.NetKernelIdeal.nD Cert.NetKernelIdeal.τ).loc Cert.NetKernelIdeal.main_arg30)) (m ((c.tc : Thread Cert.NetKernelIdeal.nD Cert.NetKernelIdeal.τ).loc Cert.NetKernelIdeal.main_arg31)) (m ((c.tc : Thread Cert.NetKernelIdeal.nD Cert.NetKernelIdeal.τ).loc Cert.NetKernelIdeal.main_arg32)) (m ((c.tc : Thread Cert.NetKernelIdeal.nD Cert.NetKernelIdeal.τ).loc Cert.NetKernelIdeal.main_arg33))).2.2.2.2 = (fun _ => 1#1)

def Pre_NetReferenceIdeal (m : (ℓ : Loc Cert.NetReferenceIdeal.nD Cert.NetReferenceIdeal.τ Cert.NetReferenceIdeal.sig) → Buf (Elt Ideal) ℓ) : Prop :=
  True

def Pre_NetReferenceIdeal_both_separated [hPre_both_separated : Cert.Pre_both_separated.Facts] (m : (ℓ : Loc Cert.NetReferenceIdeal.nD Cert.NetReferenceIdeal.τ Cert.NetReferenceIdeal.sig) → Buf (Elt Ideal) ℓ) : Prop :=
  ∀ c : Dev Cert.NetReferenceIdeal.nD,
    (Cert.Pre_both_separated.fn (F := Ideal) (m ((c.tc : Thread Cert.NetReferenceIdeal.nD Cert.NetReferenceIdeal.τ).loc Cert.NetReferenceIdeal.main_arg0)) (m ((c.tc : Thread Cert.NetReferenceIdeal.nD Cert.NetReferenceIdeal.τ).loc Cert.NetReferenceIdeal.main_arg1)) (m ((c.tc : Thread Cert.NetReferenceIdeal.nD Cert.NetReferenceIdeal.τ).loc Cert.NetReferenceIdeal.main_arg2)) (m ((c.tc : Thread Cert.NetReferenceIdeal.nD Cert.NetReferenceIdeal.τ).loc Cert.NetReferenceIdeal.main_arg3)) (m ((c.tc : Thread Cert.NetReferenceIdeal.nD Cert.NetReferenceIdeal.τ).loc Cert.NetReferenceIdeal.main_arg4)) (m ((c.tc : Thread Cert.NetReferenceIdeal.nD Cert.NetReferenceIdeal.τ).loc Cert.NetReferenceIdeal.main_arg5)) (m ((c.tc : Thread Cert.NetReferenceIdeal.nD Cert.NetReferenceIdeal.τ).loc Cert.NetReferenceIdeal.main_arg6)) (m ((c.tc : Thread Cert.NetReferenceIdeal.nD Cert.NetReferenceIdeal.τ).loc Cert.NetReferenceIdeal.main_arg7)) (m ((c.tc : Thread Cert.NetReferenceIdeal.nD Cert.NetReferenceIdeal.τ).loc Cert.NetReferenceIdeal.main_arg8)) (m ((c.tc : Thread Cert.NetReferenceIdeal.nD Cert.NetReferenceIdeal.τ).loc Cert.NetReferenceIdeal.main_arg9)) (m ((c.tc : Thread Cert.NetReferenceIdeal.nD Cert.NetReferenceIdeal.τ).loc Cert.NetReferenceIdeal.main_arg10)) (m ((c.tc : Thread Cert.NetReferenceIdeal.nD Cert.NetReferenceIdeal.τ).loc Cert.NetReferenceIdeal.main_arg11)) (m ((c.tc : Thread Cert.NetReferenceIdeal.nD Cert.NetReferenceIdeal.τ).loc Cert.NetReferenceIdeal.main_arg12)) (m ((c.tc : Thread Cert.NetReferenceIdeal.nD Cert.NetReferenceIdeal.τ).loc Cert.NetReferenceIdeal.main_arg13)) (m ((c.tc : Thread Cert.NetReferenceIdeal.nD Cert.NetReferenceIdeal.τ).loc Cert.NetReferenceIdeal.main_arg14)) (m ((c.tc : Thread Cert.NetReferenceIdeal.nD Cert.NetReferenceIdeal.τ).loc Cert.NetReferenceIdeal.main_arg15)) (m ((c.tc : Thread Cert.NetReferenceIdeal.nD Cert.NetReferenceIdeal.τ).loc Cert.NetReferenceIdeal.main_arg16)) (m ((c.tc : Thread Cert.NetReferenceIdeal.nD Cert.NetReferenceIdeal.τ).loc Cert.NetReferenceIdeal.main_arg17)) (m ((c.tc : Thread Cert.NetReferenceIdeal.nD Cert.NetReferenceIdeal.τ).loc Cert.NetReferenceIdeal.main_arg18)) (m ((c.tc : Thread Cert.NetReferenceIdeal.nD Cert.NetReferenceIdeal.τ).loc Cert.NetReferenceIdeal.main_arg19)) (m ((c.tc : Thread Cert.NetReferenceIdeal.nD Cert.NetReferenceIdeal.τ).loc Cert.NetReferenceIdeal.main_arg20)) (m ((c.tc : Thread Cert.NetReferenceIdeal.nD Cert.NetReferenceIdeal.τ).loc Cert.NetReferenceIdeal.main_arg21)) (m ((c.tc : Thread Cert.NetReferenceIdeal.nD Cert.NetReferenceIdeal.τ).loc Cert.NetReferenceIdeal.main_arg22)) (m ((c.tc : Thread Cert.NetReferenceIdeal.nD Cert.NetReferenceIdeal.τ).loc Cert.NetReferenceIdeal.main_arg23)) (m ((c.tc : Thread Cert.NetReferenceIdeal.nD Cert.NetReferenceIdeal.τ).loc Cert.NetReferenceIdeal.main_arg24)) (m ((c.tc : Thread Cert.NetReferenceIdeal.nD Cert.NetReferenceIdeal.τ).loc Cert.NetReferenceIdeal.main_arg25)) (m ((c.tc : Thread Cert.NetReferenceIdeal.nD Cert.NetReferenceIdeal.τ).loc Cert.NetReferenceIdeal.main_arg26)) (m ((c.tc : Thread Cert.NetReferenceIdeal.nD Cert.NetReferenceIdeal.τ).loc Cert.NetReferenceIdeal.main_arg27)) (m ((c.tc : Thread Cert.NetReferenceIdeal.nD Cert.NetReferenceIdeal.τ).loc Cert.NetReferenceIdeal.main_arg28)) (m ((c.tc : Thread Cert.NetReferenceIdeal.nD Cert.NetReferenceIdeal.τ).loc Cert.NetReferenceIdeal.main_arg29)) (m ((c.tc : Thread Cert.NetReferenceIdeal.nD Cert.NetReferenceIdeal.τ).loc Cert.NetReferenceIdeal.main_arg30)) (m ((c.tc : Thread Cert.NetReferenceIdeal.nD Cert.NetReferenceIdeal.τ).loc Cert.NetReferenceIdeal.main_arg31)) (m ((c.tc : Thread Cert.NetReferenceIdeal.nD Cert.NetReferenceIdeal.τ).loc Cert.NetReferenceIdeal.main_arg32)) (m ((c.tc : Thread Cert.NetReferenceIdeal.nD Cert.NetReferenceIdeal.τ).loc Cert.NetReferenceIdeal.main_arg33))).1 = (fun _ => 1#1)
    ∧ (Cert.Pre_both_separated.fn (F := Ideal) (m ((c.tc : Thread Cert.NetReferenceIdeal.nD Cert.NetReferenceIdeal.τ).loc Cert.NetReferenceIdeal.main_arg0)) (m ((c.tc : Thread Cert.NetReferenceIdeal.nD Cert.NetReferenceIdeal.τ).loc Cert.NetReferenceIdeal.main_arg1)) (m ((c.tc : Thread Cert.NetReferenceIdeal.nD Cert.NetReferenceIdeal.τ).loc Cert.NetReferenceIdeal.main_arg2)) (m ((c.tc : Thread Cert.NetReferenceIdeal.nD Cert.NetReferenceIdeal.τ).loc Cert.NetReferenceIdeal.main_arg3)) (m ((c.tc : Thread Cert.NetReferenceIdeal.nD Cert.NetReferenceIdeal.τ).loc Cert.NetReferenceIdeal.main_arg4)) (m ((c.tc : Thread Cert.NetReferenceIdeal.nD Cert.NetReferenceIdeal.τ).loc Cert.NetReferenceIdeal.main_arg5)) (m ((c.tc : Thread Cert.NetReferenceIdeal.nD Cert.NetReferenceIdeal.τ).loc Cert.NetReferenceIdeal.main_arg6)) (m ((c.tc : Thread Cert.NetReferenceIdeal.nD Cert.NetReferenceIdeal.τ).loc Cert.NetReferenceIdeal.main_arg7)) (m ((c.tc : Thread Cert.NetReferenceIdeal.nD Cert.NetReferenceIdeal.τ).loc Cert.NetReferenceIdeal.main_arg8)) (m ((c.tc : Thread Cert.NetReferenceIdeal.nD Cert.NetReferenceIdeal.τ).loc Cert.NetReferenceIdeal.main_arg9)) (m ((c.tc : Thread Cert.NetReferenceIdeal.nD Cert.NetReferenceIdeal.τ).loc Cert.NetReferenceIdeal.main_arg10)) (m ((c.tc : Thread Cert.NetReferenceIdeal.nD Cert.NetReferenceIdeal.τ).loc Cert.NetReferenceIdeal.main_arg11)) (m ((c.tc : Thread Cert.NetReferenceIdeal.nD Cert.NetReferenceIdeal.τ).loc Cert.NetReferenceIdeal.main_arg12)) (m ((c.tc : Thread Cert.NetReferenceIdeal.nD Cert.NetReferenceIdeal.τ).loc Cert.NetReferenceIdeal.main_arg13)) (m ((c.tc : Thread Cert.NetReferenceIdeal.nD Cert.NetReferenceIdeal.τ).loc Cert.NetReferenceIdeal.main_arg14)) (m ((c.tc : Thread Cert.NetReferenceIdeal.nD Cert.NetReferenceIdeal.τ).loc Cert.NetReferenceIdeal.main_arg15)) (m ((c.tc : Thread Cert.NetReferenceIdeal.nD Cert.NetReferenceIdeal.τ).loc Cert.NetReferenceIdeal.main_arg16)) (m ((c.tc : Thread Cert.NetReferenceIdeal.nD Cert.NetReferenceIdeal.τ).loc Cert.NetReferenceIdeal.main_arg17)) (m ((c.tc : Thread Cert.NetReferenceIdeal.nD Cert.NetReferenceIdeal.τ).loc Cert.NetReferenceIdeal.main_arg18)) (m ((c.tc : Thread Cert.NetReferenceIdeal.nD Cert.NetReferenceIdeal.τ).loc Cert.NetReferenceIdeal.main_arg19)) (m ((c.tc : Thread Cert.NetReferenceIdeal.nD Cert.NetReferenceIdeal.τ).loc Cert.NetReferenceIdeal.main_arg20)) (m ((c.tc : Thread Cert.NetReferenceIdeal.nD Cert.NetReferenceIdeal.τ).loc Cert.NetReferenceIdeal.main_arg21)) (m ((c.tc : Thread Cert.NetReferenceIdeal.nD Cert.NetReferenceIdeal.τ).loc Cert.NetReferenceIdeal.main_arg22)) (m ((c.tc : Thread Cert.NetReferenceIdeal.nD Cert.NetReferenceIdeal.τ).loc Cert.NetReferenceIdeal.main_arg23)) (m ((c.tc : Thread Cert.NetReferenceIdeal.nD Cert.NetReferenceIdeal.τ).loc Cert.NetReferenceIdeal.main_arg24)) (m ((c.tc : Thread Cert.NetReferenceIdeal.nD Cert.NetReferenceIdeal.τ).loc Cert.NetReferenceIdeal.main_arg25)) (m ((c.tc : Thread Cert.NetReferenceIdeal.nD Cert.NetReferenceIdeal.τ).loc Cert.NetReferenceIdeal.main_arg26)) (m ((c.tc : Thread Cert.NetReferenceIdeal.nD Cert.NetReferenceIdeal.τ).loc Cert.NetReferenceIdeal.main_arg27)) (m ((c.tc : Thread Cert.NetReferenceIdeal.nD Cert.NetReferenceIdeal.τ).loc Cert.NetReferenceIdeal.main_arg28)) (m ((c.tc : Thread Cert.NetReferenceIdeal.nD Cert.NetReferenceIdeal.τ).loc Cert.NetReferenceIdeal.main_arg29)) (m ((c.tc : Thread Cert.NetReferenceIdeal.nD Cert.NetReferenceIdeal.τ).loc Cert.NetReferenceIdeal.main_arg30)) (m ((c.tc : Thread Cert.NetReferenceIdeal.nD Cert.NetReferenceIdeal.τ).loc Cert.NetReferenceIdeal.main_arg31)) (m ((c.tc : Thread Cert.NetReferenceIdeal.nD Cert.NetReferenceIdeal.τ).loc Cert.NetReferenceIdeal.main_arg32)) (m ((c.tc : Thread Cert.NetReferenceIdeal.nD Cert.NetReferenceIdeal.τ).loc Cert.NetReferenceIdeal.main_arg33))).2.1 = (fun _ => 1#1)
    ∧ (Cert.Pre_both_separated.fn (F := Ideal) (m ((c.tc : Thread Cert.NetReferenceIdeal.nD Cert.NetReferenceIdeal.τ).loc Cert.NetReferenceIdeal.main_arg0)) (m ((c.tc : Thread Cert.NetReferenceIdeal.nD Cert.NetReferenceIdeal.τ).loc Cert.NetReferenceIdeal.main_arg1)) (m ((c.tc : Thread Cert.NetReferenceIdeal.nD Cert.NetReferenceIdeal.τ).loc Cert.NetReferenceIdeal.main_arg2)) (m ((c.tc : Thread Cert.NetReferenceIdeal.nD Cert.NetReferenceIdeal.τ).loc Cert.NetReferenceIdeal.main_arg3)) (m ((c.tc : Thread Cert.NetReferenceIdeal.nD Cert.NetReferenceIdeal.τ).loc Cert.NetReferenceIdeal.main_arg4)) (m ((c.tc : Thread Cert.NetReferenceIdeal.nD Cert.NetReferenceIdeal.τ).loc Cert.NetReferenceIdeal.main_arg5)) (m ((c.tc : Thread Cert.NetReferenceIdeal.nD Cert.NetReferenceIdeal.τ).loc Cert.NetReferenceIdeal.main_arg6)) (m ((c.tc : Thread Cert.NetReferenceIdeal.nD Cert.NetReferenceIdeal.τ).loc Cert.NetReferenceIdeal.main_arg7)) (m ((c.tc : Thread Cert.NetReferenceIdeal.nD Cert.NetReferenceIdeal.τ).loc Cert.NetReferenceIdeal.main_arg8)) (m ((c.tc : Thread Cert.NetReferenceIdeal.nD Cert.NetReferenceIdeal.τ).loc Cert.NetReferenceIdeal.main_arg9)) (m ((c.tc : Thread Cert.NetReferenceIdeal.nD Cert.NetReferenceIdeal.τ).loc Cert.NetReferenceIdeal.main_arg10)) (m ((c.tc : Thread Cert.NetReferenceIdeal.nD Cert.NetReferenceIdeal.τ).loc Cert.NetReferenceIdeal.main_arg11)) (m ((c.tc : Thread Cert.NetReferenceIdeal.nD Cert.NetReferenceIdeal.τ).loc Cert.NetReferenceIdeal.main_arg12)) (m ((c.tc : Thread Cert.NetReferenceIdeal.nD Cert.NetReferenceIdeal.τ).loc Cert.NetReferenceIdeal.main_arg13)) (m ((c.tc : Thread Cert.NetReferenceIdeal.nD Cert.NetReferenceIdeal.τ).loc Cert.NetReferenceIdeal.main_arg14)) (m ((c.tc : Thread Cert.NetReferenceIdeal.nD Cert.NetReferenceIdeal.τ).loc Cert.NetReferenceIdeal.main_arg15)) (m ((c.tc : Thread Cert.NetReferenceIdeal.nD Cert.NetReferenceIdeal.τ).loc Cert.NetReferenceIdeal.main_arg16)) (m ((c.tc : Thread Cert.NetReferenceIdeal.nD Cert.NetReferenceIdeal.τ).loc Cert.NetReferenceIdeal.main_arg17)) (m ((c.tc : Thread Cert.NetReferenceIdeal.nD Cert.NetReferenceIdeal.τ).loc Cert.NetReferenceIdeal.main_arg18)) (m ((c.tc : Thread Cert.NetReferenceIdeal.nD Cert.NetReferenceIdeal.τ).loc Cert.NetReferenceIdeal.main_arg19)) (m ((c.tc : Thread Cert.NetReferenceIdeal.nD Cert.NetReferenceIdeal.τ).loc Cert.NetReferenceIdeal.main_arg20)) (m ((c.tc : Thread Cert.NetReferenceIdeal.nD Cert.NetReferenceIdeal.τ).loc Cert.NetReferenceIdeal.main_arg21)) (m ((c.tc : Thread Cert.NetReferenceIdeal.nD Cert.NetReferenceIdeal.τ).loc Cert.NetReferenceIdeal.main_arg22)) (m ((c.tc : Thread Cert.NetReferenceIdeal.nD Cert.NetReferenceIdeal.τ).loc Cert.NetReferenceIdeal.main_arg23)) (m ((c.tc : Thread Cert.NetReferenceIdeal.nD Cert.NetReferenceIdeal.τ).loc Cert.NetReferenceIdeal.main_arg24)) (m ((c.tc : Thread Cert.NetReferenceIdeal.nD Cert.NetReferenceIdeal.τ).loc Cert.NetReferenceIdeal.main_arg25)) (m ((c.tc : Thread Cert.NetReferenceIdeal.nD Cert.NetReferenceIdeal.τ).loc Cert.NetReferenceIdeal.main_arg26)) (m ((c.tc : Thread Cert.NetReferenceIdeal.nD Cert.NetReferenceIdeal.τ).loc Cert.NetReferenceIdeal.main_arg27)) (m ((c.tc : Thread Cert.NetReferenceIdeal.nD Cert.NetReferenceIdeal.τ).loc Cert.NetReferenceIdeal.main_arg28)) (m ((c.tc : Thread Cert.NetReferenceIdeal.nD Cert.NetReferenceIdeal.τ).loc Cert.NetReferenceIdeal.main_arg29)) (m ((c.tc : Thread Cert.NetReferenceIdeal.nD Cert.NetReferenceIdeal.τ).loc Cert.NetReferenceIdeal.main_arg30)) (m ((c.tc : Thread Cert.NetReferenceIdeal.nD Cert.NetReferenceIdeal.τ).loc Cert.NetReferenceIdeal.main_arg31)) (m ((c.tc : Thread Cert.NetReferenceIdeal.nD Cert.NetReferenceIdeal.τ).loc Cert.NetReferenceIdeal.main_arg32)) (m ((c.tc : Thread Cert.NetReferenceIdeal.nD Cert.NetReferenceIdeal.τ).loc Cert.NetReferenceIdeal.main_arg33))).2.2.1 = (fun _ => 1#1)
    ∧ (Cert.Pre_both_separated.fn (F := Ideal) (m ((c.tc : Thread Cert.NetReferenceIdeal.nD Cert.NetReferenceIdeal.τ).loc Cert.NetReferenceIdeal.main_arg0)) (m ((c.tc : Thread Cert.NetReferenceIdeal.nD Cert.NetReferenceIdeal.τ).loc Cert.NetReferenceIdeal.main_arg1)) (m ((c.tc : Thread Cert.NetReferenceIdeal.nD Cert.NetReferenceIdeal.τ).loc Cert.NetReferenceIdeal.main_arg2)) (m ((c.tc : Thread Cert.NetReferenceIdeal.nD Cert.NetReferenceIdeal.τ).loc Cert.NetReferenceIdeal.main_arg3)) (m ((c.tc : Thread Cert.NetReferenceIdeal.nD Cert.NetReferenceIdeal.τ).loc Cert.NetReferenceIdeal.main_arg4)) (m ((c.tc : Thread Cert.NetReferenceIdeal.nD Cert.NetReferenceIdeal.τ).loc Cert.NetReferenceIdeal.main_arg5)) (m ((c.tc : Thread Cert.NetReferenceIdeal.nD Cert.NetReferenceIdeal.τ).loc Cert.NetReferenceIdeal.main_arg6)) (m ((c.tc : Thread Cert.NetReferenceIdeal.nD Cert.NetReferenceIdeal.τ).loc Cert.NetReferenceIdeal.main_arg7)) (m ((c.tc : Thread Cert.NetReferenceIdeal.nD Cert.NetReferenceIdeal.τ).loc Cert.NetReferenceIdeal.main_arg8)) (m ((c.tc : Thread Cert.NetReferenceIdeal.nD Cert.NetReferenceIdeal.τ).loc Cert.NetReferenceIdeal.main_arg9)) (m ((c.tc : Thread Cert.NetReferenceIdeal.nD Cert.NetReferenceIdeal.τ).loc Cert.NetReferenceIdeal.main_arg10)) (m ((c.tc : Thread Cert.NetReferenceIdeal.nD Cert.NetReferenceIdeal.τ).loc Cert.NetReferenceIdeal.main_arg11)) (m ((c.tc : Thread Cert.NetReferenceIdeal.nD Cert.NetReferenceIdeal.τ).loc Cert.NetReferenceIdeal.main_arg12)) (m ((c.tc : Thread Cert.NetReferenceIdeal.nD Cert.NetReferenceIdeal.τ).loc Cert.NetReferenceIdeal.main_arg13)) (m ((c.tc : Thread Cert.NetReferenceIdeal.nD Cert.NetReferenceIdeal.τ).loc Cert.NetReferenceIdeal.main_arg14)) (m ((c.tc : Thread Cert.NetReferenceIdeal.nD Cert.NetReferenceIdeal.τ).loc Cert.NetReferenceIdeal.main_arg15)) (m ((c.tc : Thread Cert.NetReferenceIdeal.nD Cert.NetReferenceIdeal.τ).loc Cert.NetReferenceIdeal.main_arg16)) (m ((c.tc : Thread Cert.NetReferenceIdeal.nD Cert.NetReferenceIdeal.τ).loc Cert.NetReferenceIdeal.main_arg17)) (m ((c.tc : Thread Cert.NetReferenceIdeal.nD Cert.NetReferenceIdeal.τ).loc Cert.NetReferenceIdeal.main_arg18)) (m ((c.tc : Thread Cert.NetReferenceIdeal.nD Cert.NetReferenceIdeal.τ).loc Cert.NetReferenceIdeal.main_arg19)) (m ((c.tc : Thread Cert.NetReferenceIdeal.nD Cert.NetReferenceIdeal.τ).loc Cert.NetReferenceIdeal.main_arg20)) (m ((c.tc : Thread Cert.NetReferenceIdeal.nD Cert.NetReferenceIdeal.τ).loc Cert.NetReferenceIdeal.main_arg21)) (m ((c.tc : Thread Cert.NetReferenceIdeal.nD Cert.NetReferenceIdeal.τ).loc Cert.NetReferenceIdeal.main_arg22)) (m ((c.tc : Thread Cert.NetReferenceIdeal.nD Cert.NetReferenceIdeal.τ).loc Cert.NetReferenceIdeal.main_arg23)) (m ((c.tc : Thread Cert.NetReferenceIdeal.nD Cert.NetReferenceIdeal.τ).loc Cert.NetReferenceIdeal.main_arg24)) (m ((c.tc : Thread Cert.NetReferenceIdeal.nD Cert.NetReferenceIdeal.τ).loc Cert.NetReferenceIdeal.main_arg25)) (m ((c.tc : Thread Cert.NetReferenceIdeal.nD Cert.NetReferenceIdeal.τ).loc Cert.NetReferenceIdeal.main_arg26)) (m ((c.tc : Thread Cert.NetReferenceIdeal.nD Cert.NetReferenceIdeal.τ).loc Cert.NetReferenceIdeal.main_arg27)) (m ((c.tc : Thread Cert.NetReferenceIdeal.nD Cert.NetReferenceIdeal.τ).loc Cert.NetReferenceIdeal.main_arg28)) (m ((c.tc : Thread Cert.NetReferenceIdeal.nD Cert.NetReferenceIdeal.τ).loc Cert.NetReferenceIdeal.main_arg29)) (m ((c.tc : Thread Cert.NetReferenceIdeal.nD Cert.NetReferenceIdeal.τ).loc Cert.NetReferenceIdeal.main_arg30)) (m ((c.tc : Thread Cert.NetReferenceIdeal.nD Cert.NetReferenceIdeal.τ).loc Cert.NetReferenceIdeal.main_arg31)) (m ((c.tc : Thread Cert.NetReferenceIdeal.nD Cert.NetReferenceIdeal.τ).loc Cert.NetReferenceIdeal.main_arg32)) (m ((c.tc : Thread Cert.NetReferenceIdeal.nD Cert.NetReferenceIdeal.τ).loc Cert.NetReferenceIdeal.main_arg33))).2.2.2.1 = (fun _ => 1#1)
    ∧ (Cert.Pre_both_separated.fn (F := Ideal) (m ((c.tc : Thread Cert.NetReferenceIdeal.nD Cert.NetReferenceIdeal.τ).loc Cert.NetReferenceIdeal.main_arg0)) (m ((c.tc : Thread Cert.NetReferenceIdeal.nD Cert.NetReferenceIdeal.τ).loc Cert.NetReferenceIdeal.main_arg1)) (m ((c.tc : Thread Cert.NetReferenceIdeal.nD Cert.NetReferenceIdeal.τ).loc Cert.NetReferenceIdeal.main_arg2)) (m ((c.tc : Thread Cert.NetReferenceIdeal.nD Cert.NetReferenceIdeal.τ).loc Cert.NetReferenceIdeal.main_arg3)) (m ((c.tc : Thread Cert.NetReferenceIdeal.nD Cert.NetReferenceIdeal.τ).loc Cert.NetReferenceIdeal.main_arg4)) (m ((c.tc : Thread Cert.NetReferenceIdeal.nD Cert.NetReferenceIdeal.τ).loc Cert.NetReferenceIdeal.main_arg5)) (m ((c.tc : Thread Cert.NetReferenceIdeal.nD Cert.NetReferenceIdeal.τ).loc Cert.NetReferenceIdeal.main_arg6)) (m ((c.tc : Thread Cert.NetReferenceIdeal.nD Cert.NetReferenceIdeal.τ).loc Cert.NetReferenceIdeal.main_arg7)) (m ((c.tc : Thread Cert.NetReferenceIdeal.nD Cert.NetReferenceIdeal.τ).loc Cert.NetReferenceIdeal.main_arg8)) (m ((c.tc : Thread Cert.NetReferenceIdeal.nD Cert.NetReferenceIdeal.τ).loc Cert.NetReferenceIdeal.main_arg9)) (m ((c.tc : Thread Cert.NetReferenceIdeal.nD Cert.NetReferenceIdeal.τ).loc Cert.NetReferenceIdeal.main_arg10)) (m ((c.tc : Thread Cert.NetReferenceIdeal.nD Cert.NetReferenceIdeal.τ).loc Cert.NetReferenceIdeal.main_arg11)) (m ((c.tc : Thread Cert.NetReferenceIdeal.nD Cert.NetReferenceIdeal.τ).loc Cert.NetReferenceIdeal.main_arg12)) (m ((c.tc : Thread Cert.NetReferenceIdeal.nD Cert.NetReferenceIdeal.τ).loc Cert.NetReferenceIdeal.main_arg13)) (m ((c.tc : Thread Cert.NetReferenceIdeal.nD Cert.NetReferenceIdeal.τ).loc Cert.NetReferenceIdeal.main_arg14)) (m ((c.tc : Thread Cert.NetReferenceIdeal.nD Cert.NetReferenceIdeal.τ).loc Cert.NetReferenceIdeal.main_arg15)) (m ((c.tc : Thread Cert.NetReferenceIdeal.nD Cert.NetReferenceIdeal.τ).loc Cert.NetReferenceIdeal.main_arg16)) (m ((c.tc : Thread Cert.NetReferenceIdeal.nD Cert.NetReferenceIdeal.τ).loc Cert.NetReferenceIdeal.main_arg17)) (m ((c.tc : Thread Cert.NetReferenceIdeal.nD Cert.NetReferenceIdeal.τ).loc Cert.NetReferenceIdeal.main_arg18)) (m ((c.tc : Thread Cert.NetReferenceIdeal.nD Cert.NetReferenceIdeal.τ).loc Cert.NetReferenceIdeal.main_arg19)) (m ((c.tc : Thread Cert.NetReferenceIdeal.nD Cert.NetReferenceIdeal.τ).loc Cert.NetReferenceIdeal.main_arg20)) (m ((c.tc : Thread Cert.NetReferenceIdeal.nD Cert.NetReferenceIdeal.τ).loc Cert.NetReferenceIdeal.main_arg21)) (m ((c.tc : Thread Cert.NetReferenceIdeal.nD Cert.NetReferenceIdeal.τ).loc Cert.NetReferenceIdeal.main_arg22)) (m ((c.tc : Thread Cert.NetReferenceIdeal.nD Cert.NetReferenceIdeal.τ).loc Cert.NetReferenceIdeal.main_arg23)) (m ((c.tc : Thread Cert.NetReferenceIdeal.nD Cert.NetReferenceIdeal.τ).loc Cert.NetReferenceIdeal.main_arg24)) (m ((c.tc : Thread Cert.NetReferenceIdeal.nD Cert.NetReferenceIdeal.τ).loc Cert.NetReferenceIdeal.main_arg25)) (m ((c.tc : Thread Cert.NetReferenceIdeal.nD Cert.NetReferenceIdeal.τ).loc Cert.NetReferenceIdeal.main_arg26)) (m ((c.tc : Thread Cert.NetReferenceIdeal.nD Cert.NetReferenceIdeal.τ).loc Cert.NetReferenceIdeal.main_arg27)) (m ((c.tc : Thread Cert.NetReferenceIdeal.nD Cert.NetReferenceIdeal.τ).loc Cert.NetReferenceIdeal.main_arg28)) (m ((c.tc : Thread Cert.NetReferenceIdeal.nD Cert.NetReferenceIdeal.τ).loc Cert.NetReferenceIdeal.main_arg29)) (m ((c.tc : Thread Cert.NetReferenceIdeal.nD Cert.NetReferenceIdeal.τ).loc Cert.NetReferenceIdeal.main_arg30)) (m ((c.tc : Thread Cert.NetReferenceIdeal.nD Cert.NetReferenceIdeal.τ).loc Cert.NetReferenceIdeal.main_arg31)) (m ((c.tc : Thread Cert.NetReferenceIdeal.nD Cert.NetReferenceIdeal.τ).loc Cert.NetReferenceIdeal.main_arg32)) (m ((c.tc : Thread Cert.NetReferenceIdeal.nD Cert.NetReferenceIdeal.τ).loc Cert.NetReferenceIdeal.main_arg33))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2)
      ∧ r.2.mem ((c.tc : Thread Cert.HeadKernel.nD Cert.HeadKernel.τ).loc Cert.HeadKernel.main_arg3) = m ((c.tc : Thread Cert.HeadKernel.nD Cert.HeadKernel.τ).loc Cert.HeadKernel.main_arg3)
      ∧ r.2.mem ((c.tc : Thread Cert.HeadKernel.nD Cert.HeadKernel.τ).loc Cert.HeadKernel.main_arg4) = m ((c.tc : Thread Cert.HeadKernel.nD Cert.HeadKernel.τ).loc Cert.HeadKernel.main_arg4)
      ∧ r.2.mem ((c.tc : Thread Cert.HeadKernel.nD Cert.HeadKernel.τ).loc Cert.HeadKernel.main_arg5) = m ((c.tc : Thread Cert.HeadKernel.nD Cert.HeadKernel.τ).loc Cert.HeadKernel.main_arg5)
      ∧ r.2.mem ((c.tc : Thread Cert.HeadKernel.nD Cert.HeadKernel.τ).loc Cert.HeadKernel.main_arg6) = m ((c.tc : Thread Cert.HeadKernel.nD Cert.HeadKernel.τ).loc Cert.HeadKernel.main_arg6)
      ∧ r.2.mem ((c.tc : Thread Cert.HeadKernel.nD Cert.HeadKernel.τ).loc Cert.HeadKernel.main_arg7) = m ((c.tc : Thread Cert.HeadKernel.nD Cert.HeadKernel.τ).loc Cert.HeadKernel.main_arg7)
      ∧ r.2.mem ((c.tc : Thread Cert.HeadKernel.nD Cert.HeadKernel.τ).loc Cert.HeadKernel.main_arg8) = m ((c.tc : Thread Cert.HeadKernel.nD Cert.HeadKernel.τ).loc Cert.HeadKernel.main_arg8)
      ∧ r.2.mem ((c.tc : Thread Cert.HeadKernel.nD Cert.HeadKernel.τ).loc Cert.HeadKernel.main_arg9) = m ((c.tc : Thread Cert.HeadKernel.nD Cert.HeadKernel.τ).loc Cert.HeadKernel.main_arg9)
      ∧ r.2.mem ((c.tc : Thread Cert.HeadKernel.nD Cert.HeadKernel.τ).loc Cert.HeadKernel.main_arg10) = m ((c.tc : Thread Cert.HeadKernel.nD Cert.HeadKernel.τ).loc Cert.HeadKernel.main_arg10))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4)
      ∧ r.2.mem ((c.tc : Thread Cert.HeadKernelIdeal.nD Cert.HeadKernelIdeal.τ).loc Cert.HeadKernelIdeal.main_arg5) = m ((c.tc : Thread Cert.HeadKernelIdeal.nD Cert.HeadKernelIdeal.τ).loc Cert.HeadKernelIdeal.main_arg5)
      ∧ r.2.mem ((c.tc : Thread Cert.HeadKernelIdeal.nD Cert.HeadKernelIdeal.τ).loc Cert.HeadKernelIdeal.main_arg6) = m ((c.tc : Thread Cert.HeadKernelIdeal.nD Cert.HeadKernelIdeal.τ).loc Cert.HeadKernelIdeal.main_arg6)
      ∧ r.2.mem ((c.tc : Thread Cert.HeadKernelIdeal.nD Cert.HeadKernelIdeal.τ).loc Cert.HeadKernelIdeal.main_arg7) = m ((c.tc : Thread Cert.HeadKernelIdeal.nD Cert.HeadKernelIdeal.τ).loc Cert.HeadKernelIdeal.main_arg7)
      ∧ r.2.mem ((c.tc : Thread Cert.HeadKernelIdeal.nD Cert.HeadKernelIdeal.τ).loc Cert.HeadKernelIdeal.main_arg8) = m ((c.tc : Thread Cert.HeadKernelIdeal.nD Cert.HeadKernelIdeal.τ).loc Cert.HeadKernelIdeal.main_arg8)
      ∧ r.2.mem ((c.tc : Thread Cert.HeadKernelIdeal.nD Cert.HeadKernelIdeal.τ).loc Cert.HeadKernelIdeal.main_arg9) = m ((c.tc : Thread Cert.HeadKernelIdeal.nD Cert.HeadKernelIdeal.τ).loc Cert.HeadKernelIdeal.main_arg9)
      ∧ r.2.mem ((c.tc : Thread Cert.HeadKernelIdeal.nD Cert.HeadKernelIdeal.τ).loc Cert.HeadKernelIdeal.main_arg10) = m ((c.tc : Thread Cert.HeadKernelIdeal.nD Cert.HeadKernelIdeal.τ).loc Cert.HeadKernelIdeal.main_arg10))
      ∧ r.2.sem = fun _ => 0)

def quiescent_HeadKernelIdeal_pre_head_regular [hHeadKernelIdeal : Cert.HeadKernelIdeal.Facts] [hPre_head_regular : Cert.Pre_head_regular.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal_head_regular m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4)
      ∧ r.2.mem ((c.tc : Thread Cert.HeadKernelIdeal.nD Cert.HeadKernelIdeal.τ).loc Cert.HeadKernelIdeal.main_arg5) = m ((c.tc : Thread Cert.HeadKernelIdeal.nD Cert.HeadKernelIdeal.τ).loc Cert.HeadKernelIdeal.main_arg5)
      ∧ r.2.mem ((c.tc : Thread Cert.HeadKernelIdeal.nD Cert.HeadKernelIdeal.τ).loc Cert.HeadKernelIdeal.main_arg6) = m ((c.tc : Thread Cert.HeadKernelIdeal.nD Cert.HeadKernelIdeal.τ).loc Cert.HeadKernelIdeal.main_arg6)
      ∧ r.2.mem ((c.tc : Thread Cert.HeadKernelIdeal.nD Cert.HeadKernelIdeal.τ).loc Cert.HeadKernelIdeal.main_arg7) = m ((c.tc : Thread Cert.HeadKernelIdeal.nD Cert.HeadKernelIdeal.τ).loc Cert.HeadKernelIdeal.main_arg7)
      ∧ r.2.mem ((c.tc : Thread Cert.HeadKernelIdeal.nD Cert.HeadKernelIdeal.τ).loc Cert.HeadKernelIdeal.main_arg8) = m ((c.tc : Thread Cert.HeadKernelIdeal.nD Cert.HeadKernelIdeal.τ).loc Cert.HeadKernelIdeal.main_arg8)
      ∧ r.2.mem ((c.tc : Thread Cert.HeadKernelIdeal.nD Cert.HeadKernelIdeal.τ).loc Cert.HeadKernelIdeal.main_arg9) = m ((c.tc : Thread Cert.HeadKernelIdeal.nD Cert.HeadKernelIdeal.τ).loc Cert.HeadKernelIdeal.main_arg9)
      ∧ r.2.mem ((c.tc : Thread Cert.HeadKernelIdeal.nD Cert.HeadKernelIdeal.τ).loc Cert.HeadKernelIdeal.main_arg10) = m ((c.tc : Thread Cert.HeadKernelIdeal.nD Cert.HeadKernelIdeal.τ).loc Cert.HeadKernelIdeal.main_arg10))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10))
      ∧ r.2.sem = fun _ => 0)

def quiescent_HeadReferenceIdeal_pre_head_regular [hHeadReferenceIdeal : Cert.HeadReferenceIdeal.Facts] [hPre_head_regular : Cert.Pre_head_regular.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_head_regular m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4)
      ∧ r.2.mem ((c.tc : Thread Cert.FirstKernel.nD Cert.FirstKernel.τ).loc Cert.FirstKernel.main_arg5) = m ((c.tc : Thread Cert.FirstKernel.nD Cert.FirstKernel.τ).loc Cert.FirstKernel.main_arg5)
      ∧ r.2.mem ((c.tc : Thread Cert.FirstKernel.nD Cert.FirstKernel.τ).loc Cert.FirstKernel.main_arg6) = m ((c.tc : Thread Cert.FirstKernel.nD Cert.FirstKernel.τ).loc Cert.FirstKernel.main_arg6))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6))
      ∧ r.2.sem = fun _ => 0)

def quiescent_FirstKernelIdeal_pre_first_separated [hFirstKernelIdeal : Cert.FirstKernelIdeal.Facts] [hPre_first_separated : Cert.Pre_first_separated.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal_first_separated m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_FirstReferenceIdeal_pre_first_separated [hFirstReferenceIdeal : Cert.FirstReferenceIdeal.Facts] [hPre_first_separated : Cert.Pre_first_separated.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_first_separated m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_SumsKernel [hSumsKernel : Cert.SumsKernel.Facts] : Prop :=
  ∀ (m : (ℓ : Loc Cert.SumsKernel.nD Cert.SumsKernel.τ Cert.SumsKernel.sig) → Buf (Elt Bits) ℓ) (g : Dev Cert.SumsKernel.nD → PrngReg), Pre_SumsKernel m →
    θ_run (Cert.SumsKernel.defs (F := Bits)) (onTc (τ := Cert.SumsKernel.τ) (Cert.SumsKernel.main (F := Bits))) ⟨m, fun _ => 0, g⟩ (fun r => (∀ c : Dev Cert.SumsKernel.nD,
      r.2.mem ((c.tc : Thread Cert.SumsKernel.nD Cert.SumsKernel.τ).loc Cert.SumsKernel.main_arg0) = m ((c.tc : Thread Cert.SumsKernel.nD Cert.SumsKernel.τ).loc Cert.SumsKernel.main_arg0)
      ∧ r.2.mem ((c.tc : Thread Cert.SumsKernel.nD Cert.SumsKernel.τ).loc Cert.SumsKernel.main_arg1) = m ((c.tc : Thread Cert.SumsKernel.nD Cert.SumsKernel.τ).loc Cert.SumsKernel.main_arg1)
      ∧ r.2.mem ((c.tc : Thread Cert.SumsKernel.nD Cert.SumsKernel.τ).loc Cert.SumsKernel.main_arg2) = m ((c.tc : Thread Cert.SumsKernel.nD Cert.SumsKernel.τ).loc Cert.SumsKernel.main_arg2))
      ∧ r.2.sem = fun _ => 0)

def quiescent_SumsKernelIdeal [hSumsKernelIdeal : Cert.SumsKernelIdeal.Facts] : Prop :=
  ∀ (m : (ℓ : Loc Cert.SumsKernelIdeal.nD Cert.SumsKernelIdeal.τ Cert.SumsKernelIdeal.sig) → Buf (Elt Ideal) ℓ) (g : Dev Cert.SumsKernelIdeal.nD → PrngReg), Pre_SumsKernelIdeal m →
    θ_run (Cert.SumsKernelIdeal.defs (F := Ideal)) (onTc (τ := Cert.SumsKernelIdeal.τ) (Cert.SumsKernelIdeal.main (F := Ideal))) ⟨m, fun _ => 0, g⟩ (fun r => (∀ c : Dev Cert.SumsKernelIdeal.nD,
      r.2.mem ((c.tc : Thread Cert.SumsKernelIdeal.nD Cert.SumsKernelIdeal.τ).loc Cert.SumsKernelIdeal.main_arg0) = m ((c.tc : Thread Cert.SumsKernelIdeal.nD Cert.SumsKernelIdeal.τ).loc Cert.SumsKernelIdeal.main_arg0)
      ∧ r.2.mem ((c.tc : Thread Cert.SumsKernelIdeal.nD Cert.SumsKernelIdeal.τ).loc Cert.SumsKernelIdeal.main_arg1) = m ((c.tc : Thread Cert.SumsKernelIdeal.nD Cert.SumsKernelIdeal.τ).loc Cert.SumsKernelIdeal.main_arg1)
      ∧ r.2.mem ((c.tc : Thread Cert.SumsKernelIdeal.nD Cert.SumsKernelIdeal.τ).loc Cert.SumsKernelIdeal.main_arg2) = m ((c.tc : Thread Cert.SumsKernelIdeal.nD Cert.SumsKernelIdeal.τ).loc Cert.SumsKernelIdeal.main_arg2))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0)
      ∧ r.2.mem ((c.tc : Thread Cert.SumsReferenceIdeal.nD Cert.SumsReferenceIdeal.τ).loc Cert.SumsReferenceIdeal.main_arg1) = m ((c.tc : Thread Cert.SumsReferenceIdeal.nD Cert.SumsReferenceIdeal.τ).loc Cert.SumsReferenceIdeal.main_arg1)
      ∧ r.2.mem ((c.tc : Thread Cert.SumsReferenceIdeal.nD Cert.SumsReferenceIdeal.τ).loc Cert.SumsReferenceIdeal.main_arg2) = m ((c.tc : Thread Cert.SumsReferenceIdeal.nD Cert.SumsReferenceIdeal.τ).loc Cert.SumsReferenceIdeal.main_arg2))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ r.2.sem = fun _ => 0)

def quiescent_TailKernelIdeal_pre_tail_finite [hTailKernelIdeal : Cert.TailKernelIdeal.Facts] [hPre_tail_finite : Cert.Pre_tail_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal_tail_finite m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_TailReferenceIdeal_pre_tail_finite [hTailReferenceIdeal : Cert.TailReferenceIdeal.Facts] [hPre_tail_finite : Cert.Pre_tail_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_tail_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_NetKernel [hNetKernel : Cert.NetKernel.Facts] : Prop :=
  ∀ (m : (ℓ : Loc Cert.NetKernel.nD Cert.NetKernel.τ Cert.NetKernel.sig) → Buf (Elt Bits) ℓ) (g : Dev Cert.NetKernel.nD → PrngReg), Pre_NetKernel m →
    θ_run (Cert.NetKernel.defs (F := Bits)) (onTc (τ := Cert.NetKernel.τ) (Cert.NetKernel.main (F := Bits))) ⟨m, fun _ => 0, g⟩ (fun r => (∀ c : Dev Cert.NetKernel.nD,
      r.2.mem ((c.tc : Thread Cert.NetKernel.nD Cert.NetKernel.τ).loc Cert.NetKernel.main_arg0) = m ((c.tc : Thread Cert.NetKernel.nD Cert.NetKernel.τ).loc Cert.NetKernel.main_arg0)
      ∧ r.2.mem ((c.tc : Thread Cert.NetKernel.nD Cert.NetKernel.τ).loc Cert.NetKernel.main_arg1) = m ((c.tc : Thread Cert.NetKernel.nD Cert.NetKernel.τ).loc Cert.NetKernel.main_arg1)
      ∧ r.2.mem ((c.tc : Thread Cert.NetKernel.nD Cert.NetKernel.τ).loc Cert.NetKernel.main_arg2) = m ((c.tc : Thread Cert.NetKernel.nD Cert.NetKernel.τ).loc Cert.NetKernel.main_arg2)
      ∧ r.2.mem ((c.tc : Thread Cert.NetKernel.nD Cert.NetKernel.τ).loc Cert.NetKernel.main_arg3) = m ((c.tc : Thread Cert.NetKernel.nD Cert.NetKernel.τ).loc Cert.NetKernel.main_arg3)
      ∧ r.2.mem ((c.tc : Thread Cert.NetKernel.nD Cert.NetKernel.τ).loc Cert.NetKernel.main_arg4) = m ((c.tc : Thread Cert.NetKernel.nD Cert.NetKernel.τ).loc Cert.NetKernel.main_arg4)
      ∧ r.2.mem ((c.tc : Thread Cert.NetKernel.nD Cert.NetKernel.τ).loc Cert.NetKernel.main_arg5) = m ((c.tc : Thread Cert.NetKernel.nD Cert.NetKernel.τ).loc Cert.NetKernel.main_arg5)
      ∧ r.2.mem ((c.tc : Thread Cert.NetKernel.nD Cert.NetKernel.τ).loc Cert.NetKernel.main_arg6) = m ((c.tc : Thread Cert.NetKernel.nD Cert.NetKernel.τ).loc Cert.NetKernel.main_arg6)
      ∧ r.2.mem ((c.tc : Thread Cert.NetKernel.nD Cert.NetKernel.τ).loc Cert.NetKernel.main_arg7) = m ((c.tc : Thread Cert.NetKernel.nD Cert.NetKernel.τ).loc Cert.NetKernel.main_arg7)
      ∧ r.2.mem ((c.tc : Thread Cert.NetKernel.nD Cert.NetKernel.τ).loc Cert.NetKernel.main_arg8) = m ((c.tc : Thread Cert.NetKernel.nD Cert.NetKernel.τ).loc Cert.NetKernel.main_arg8)
      ∧ r.2.mem ((c.tc : Thread Cert.NetKernel.nD Cert.NetKernel.τ).loc Cert.NetKernel.main_arg9) = m ((c.tc : Thread Cert.NetKernel.nD Cert.NetKernel.τ).loc Cert.NetKernel.main_arg9)
      ∧ r.2.mem ((c.tc : Thread Cert.NetKernel.nD Cert.NetKernel.τ).loc Cert.NetKernel.main_arg10) = m ((c.tc : Thread Cert.NetKernel.nD Cert.NetKernel.τ).loc Cert.NetKernel.main_arg10)
      ∧ r.2.mem ((c.tc : Thread Cert.NetKernel.nD Cert.NetKernel.τ).loc Cert.NetKernel.main_arg11) = m ((c.tc : Thread Cert.NetKernel.nD Cert.NetKernel.τ).loc Cert.NetKernel.main_arg11)
      ∧ r.2.mem ((c.tc : Thread Cert.NetKernel.nD Cert.NetKernel.τ).loc Cert.NetKernel.main_arg12) = m ((c.tc : Thread Cert.NetKernel.nD Cert.NetKernel.τ).loc Cert.NetKernel.main_arg12)
      ∧ r.2.mem ((c.tc : Thread Cert.NetKernel.nD Cert.NetKernel.τ).loc Cert.NetKernel.main_arg13) = m ((c.tc : Thread Cert.NetKernel.nD Cert.NetKernel.τ).loc Cert.NetKernel.main_arg13)
      ∧ r.2.mem ((c.tc : Thread Cert.NetKernel.nD Cert.NetKernel.τ).loc Cert.NetKernel.main_arg14) = m ((c.tc : Thread Cert.NetKernel.nD Cert.NetKernel.τ).loc Cert.NetKernel.main_arg14)
      ∧ r.2.mem ((c.tc : Thread Cert.NetKernel.nD Cert.NetKernel.τ).loc Cert.NetKernel.main_arg15) = m ((c.tc : Thread Cert.NetKernel.nD Cert.NetKernel.τ).loc Cert.NetKernel.main_arg15)
      ∧ r.2.mem ((c.tc : Thread Cert.NetKernel.nD Cert.NetKernel.τ).loc Cert.NetKernel.main_arg16) = m ((c.tc : Thread Cert.NetKernel.nD Cert.NetKernel.τ).loc Cert.NetKernel.main_arg16)
      ∧ r.2.mem ((c.tc : Thread Cert.NetKernel.nD Cert.NetKernel.τ).loc Cert.NetKernel.main_arg17) = m ((c.tc : Thread Cert.NetKernel.nD Cert.NetKernel.τ).loc Cert.NetKernel.main_arg17)
      ∧ r.2.mem ((c.tc : Thread Cert.NetKernel.nD Cert.NetKernel.τ).loc Cert.NetKernel.main_arg18) = m ((c.tc : Thread Cert.NetKernel.nD Cert.NetKernel.τ).loc Cert.NetKernel.main_arg18)
      ∧ r.2.mem ((c.tc : Thread Cert.NetKernel.nD Cert.NetKernel.τ).loc Cert.NetKernel.main_arg19) = m ((c.tc : Thread Cert.NetKernel.nD Cert.NetKernel.τ).loc Cert.NetKernel.main_arg19)
      ∧ r.2.mem ((c.tc : Thread Cert.NetKernel.nD Cert.NetKernel.τ).loc Cert.NetKernel.main_arg20) = m ((c.tc : Thread Cert.NetKernel.nD Cert.NetKernel.τ).loc Cert.NetKernel.main_arg20)
      ∧ r.2.mem ((c.tc : Thread Cert.NetKernel.nD Cert.NetKernel.τ).loc Cert.NetKernel.main_arg21) = m ((c.tc : Thread Cert.NetKernel.nD Cert.NetKernel.τ).loc Cert.NetKernel.main_arg21)
      ∧ r.2.mem ((c.tc : Thread Cert.NetKernel.nD Cert.NetKernel.τ).loc Cert.NetKernel.main_arg22) = m ((c.tc : Thread Cert.NetKernel.nD Cert.NetKernel.τ).loc Cert.NetKernel.main_arg22)
      ∧ r.2.mem ((c.tc : Thread Cert.NetKernel.nD Cert.NetKernel.τ).loc Cert.NetKernel.main_arg23) = m ((c.tc : Thread Cert.NetKernel.nD Cert.NetKernel.τ).loc Cert.NetKernel.main_arg23)
      ∧ r.2.mem ((c.tc : Thread Cert.NetKernel.nD Cert.NetKernel.τ).loc Cert.NetKernel.main_arg24) = m ((c.tc : Thread Cert.NetKernel.nD Cert.NetKernel.τ).loc Cert.NetKernel.main_arg24)
      ∧ r.2.mem ((c.tc : Thread Cert.NetKernel.nD Cert.NetKernel.τ).loc Cert.NetKernel.main_arg25) = m ((c.tc : Thread Cert.NetKernel.nD Cert.NetKernel.τ).loc Cert.NetKernel.main_arg25)
      ∧ r.2.mem ((c.tc : Thread Cert.NetKernel.nD Cert.NetKernel.τ).loc Cert.NetKernel.main_arg26) = m ((c.tc : Thread Cert.NetKernel.nD Cert.NetKernel.τ).loc Cert.NetKernel.main_arg26)
      ∧ r.2.mem ((c.tc : Thread Cert.NetKernel.nD Cert.NetKernel.τ).loc Cert.NetKernel.main_arg27) = m ((c.tc : Thread Cert.NetKernel.nD Cert.NetKernel.τ).loc Cert.NetKernel.main_arg27)
      ∧ r.2.mem ((c.tc : Thread Cert.NetKernel.nD Cert.NetKernel.τ).loc Cert.NetKernel.main_arg28) = m ((c.tc : Thread Cert.NetKernel.nD Cert.NetKernel.τ).loc Cert.NetKernel.main_arg28)
      ∧ r.2.mem ((c.tc : Thread Cert.NetKernel.nD Cert.NetKernel.τ).loc Cert.NetKernel.main_arg29) = m ((c.tc : Thread Cert.NetKernel.nD Cert.NetKernel.τ).loc Cert.NetKernel.main_arg29)
      ∧ r.2.mem ((c.tc : Thread Cert.NetKernel.nD Cert.NetKernel.τ).loc Cert.NetKernel.main_arg30) = m ((c.tc : Thread Cert.NetKernel.nD Cert.NetKernel.τ).loc Cert.NetKernel.main_arg30)
      ∧ r.2.mem ((c.tc : Thread Cert.NetKernel.nD Cert.NetKernel.τ).loc Cert.NetKernel.main_arg31) = m ((c.tc : Thread Cert.NetKernel.nD Cert.NetKernel.τ).loc Cert.NetKernel.main_arg31)
      ∧ r.2.mem ((c.tc : Thread Cert.NetKernel.nD Cert.NetKernel.τ).loc Cert.NetKernel.main_arg32) = m ((c.tc : Thread Cert.NetKernel.nD Cert.NetKernel.τ).loc Cert.NetKernel.main_arg32)
      ∧ r.2.mem ((c.tc : Thread Cert.NetKernel.nD Cert.NetKernel.τ).loc Cert.NetKernel.main_arg33) = m ((c.tc : Thread Cert.NetKernel.nD Cert.NetKernel.τ).loc Cert.NetKernel.main_arg33))
      ∧ r.2.sem = fun _ => 0)

def quiescent_NetKernelIdeal [hNetKernelIdeal : Cert.NetKernelIdeal.Facts] : Prop :=
  ∀ (m : (ℓ : Loc Cert.NetKernelIdeal.nD Cert.NetKernelIdeal.τ Cert.NetKernelIdeal.sig) → Buf (Elt Ideal) ℓ) (g : Dev Cert.NetKernelIdeal.nD → PrngReg), Pre_NetKernelIdeal m →
    θ_run (Cert.NetKernelIdeal.defs (F := Ideal)) (onTc (τ := Cert.NetKernelIdeal.τ) (Cert.NetKernelIdeal.main (F := Ideal))) ⟨m, fun _ => 0, g⟩ (fun r => (∀ c : Dev Cert.NetKernelIdeal.nD,
      r.2.mem ((c.tc : Thread Cert.NetKernelIdeal.nD Cert.NetKernelIdeal.τ).loc Cert.NetKernelIdeal.main_arg0) = m ((c.tc : Thread Cert.NetKernelIdeal.nD Cert.NetKernelIdeal.τ).loc Cert.NetKernelIdeal.main_arg0)
      ∧ r.2.mem ((c.tc : Thread Cert.NetKernelIdeal.nD Cert.NetKernelIdeal.τ).loc Cert.NetKernelIdeal.main_arg1) = m ((c.tc : Thread Cert.NetKernelIdeal.nD Cert.NetKernelIdeal.τ).loc Cert.NetKernelIdeal.main_arg1)
      ∧ r.2.mem ((c.tc : Thread Cert.NetKernelIdeal.nD Cert.NetKernelIdeal.τ).loc Cert.NetKernelIdeal.main_arg2) = m ((c.tc : Thread Cert.NetKernelIdeal.nD Cert.NetKernelIdeal.τ).loc Cert.NetKernelIdeal.main_arg2)
      ∧ r.2.mem ((c.tc : Thread Cert.NetKernelIdeal.nD Cert.NetKernelIdeal.τ).loc Cert.NetKernelIdeal.main_arg3) = m ((c.tc : Thread Cert.NetKernelIdeal.nD Cert.NetKernelIdeal.τ).loc Cert.NetKernelIdeal.main_arg3)
      ∧ r.2.mem ((c.tc : Thread Cert.NetKernelIdeal.nD Cert.NetKernelIdeal.τ).loc Cert.NetKernelIdeal.main_arg4) = m ((c.tc : Thread Cert.NetKernelIdeal.nD Cert.NetKernelIdeal.τ).loc Cert.NetKernelIdeal.main_arg4)
      ∧ r.2.mem ((c.tc : Thread Cert.NetKernelIdeal.nD Cert.NetKernelIdeal.τ).loc Cert.NetKernelIdeal.main_arg5) = m ((c.tc : Thread Cert.NetKernelIdeal.nD Cert.NetKernelIdeal.τ).loc Cert.NetKernelIdeal.main_arg5)
      ∧ r.2.mem ((c.tc : Thread Cert.NetKernelIdeal.nD Cert.NetKernelIdeal.τ).loc Cert.NetKernelIdeal.main_arg6) = m ((c.tc : Thread Cert.NetKernelIdeal.nD Cert.NetKernelIdeal.τ).loc Cert.NetKernelIdeal.main_arg6)
      ∧ r.2.mem ((c.tc : Thread Cert.NetKernelIdeal.nD Cert.NetKernelIdeal.τ).loc Cert.NetKernelIdeal.main_arg7) = m ((c.tc : Thread Cert.NetKernelIdeal.nD Cert.NetKernelIdeal.τ).loc Cert.NetKernelIdeal.main_arg7)
      ∧ r.2.mem ((c.tc : Thread Cert.NetKernelIdeal.nD Cert.NetKernelIdeal.τ).loc Cert.NetKernelIdeal.main_arg8) = m ((c.tc : Thread Cert.NetKernelIdeal.nD Cert.NetKernelIdeal.τ).loc Cert.NetKernelIdeal.main_arg8)
      ∧ r.2.mem ((c.tc : Thread Cert.NetKernelIdeal.nD Cert.NetKernelIdeal.τ).loc Cert.NetKernelIdeal.main_arg9) = m ((c.tc : Thread Cert.NetKernelIdeal.nD Cert.NetKernelIdeal.τ).loc Cert.NetKernelIdeal.main_arg9)
      ∧ r.2.mem ((c.tc : Thread Cert.NetKernelIdeal.nD Cert.NetKernelIdeal.τ).loc Cert.NetKernelIdeal.main_arg10) = m ((c.tc : Thread Cert.NetKernelIdeal.nD Cert.NetKernelIdeal.τ).loc Cert.NetKernelIdeal.main_arg10)
      ∧ r.2.mem ((c.tc : Thread Cert.NetKernelIdeal.nD Cert.NetKernelIdeal.τ).loc Cert.NetKernelIdeal.main_arg11) = m ((c.tc : Thread Cert.NetKernelIdeal.nD Cert.NetKernelIdeal.τ).loc Cert.NetKernelIdeal.main_arg11)
      ∧ r.2.mem ((c.tc : Thread Cert.NetKernelIdeal.nD Cert.NetKernelIdeal.τ).loc Cert.NetKernelIdeal.main_arg12) = m ((c.tc : Thread Cert.NetKernelIdeal.nD Cert.NetKernelIdeal.τ).loc Cert.NetKernelIdeal.main_arg12)
      ∧ r.2.mem ((c.tc : Thread Cert.NetKernelIdeal.nD Cert.NetKernelIdeal.τ).loc Cert.NetKernelIdeal.main_arg13) = m ((c.tc : Thread Cert.NetKernelIdeal.nD Cert.NetKernelIdeal.τ).loc Cert.NetKernelIdeal.main_arg13)
      ∧ r.2.mem ((c.tc : Thread Cert.NetKernelIdeal.nD Cert.NetKernelIdeal.τ).loc Cert.NetKernelIdeal.main_arg14) = m ((c.tc : Thread Cert.NetKernelIdeal.nD Cert.NetKernelIdeal.τ).loc Cert.NetKernelIdeal.main_arg14)
      ∧ r.2.mem ((c.tc : Thread Cert.NetKernelIdeal.nD Cert.NetKernelIdeal.τ).loc Cert.NetKernelIdeal.main_arg15) = m ((c.tc : Thread Cert.NetKernelIdeal.nD Cert.NetKernelIdeal.τ).loc Cert.NetKernelIdeal.main_arg15)
      ∧ r.2.mem ((c.tc : Thread Cert.NetKernelIdeal.nD Cert.NetKernelIdeal.τ).loc Cert.NetKernelIdeal.main_arg16) = m ((c.tc : Thread Cert.NetKernelIdeal.nD Cert.NetKernelIdeal.τ).loc Cert.NetKernelIdeal.main_arg16)
      ∧ r.2.mem ((c.tc : Thread Cert.NetKernelIdeal.nD Cert.NetKernelIdeal.τ).loc Cert.NetKernelIdeal.main_arg17) = m ((c.tc : Thread Cert.NetKernelIdeal.nD Cert.NetKernelIdeal.τ).loc Cert.NetKernelIdeal.main_arg17)
      ∧ r.2.mem ((c.tc : Thread Cert.NetKernelIdeal.nD Cert.NetKernelIdeal.τ).loc Cert.NetKernelIdeal.main_arg18) = m ((c.tc : Thread Cert.NetKernelIdeal.nD Cert.NetKernelIdeal.τ).loc Cert.NetKernelIdeal.main_arg18)
      ∧ r.2.mem ((c.tc : Thread Cert.NetKernelIdeal.nD Cert.NetKernelIdeal.τ).loc Cert.NetKernelIdeal.main_arg19) = m ((c.tc : Thread Cert.NetKernelIdeal.nD Cert.NetKernelIdeal.τ).loc Cert.NetKernelIdeal.main_arg19)
      ∧ r.2.mem ((c.tc : Thread Cert.NetKernelIdeal.nD Cert.NetKernelIdeal.τ).loc Cert.NetKernelIdeal.main_arg20) = m ((c.tc : Thread Cert.NetKernelIdeal.nD Cert.NetKernelIdeal.τ).loc Cert.NetKernelIdeal.main_arg20)
      ∧ r.2.mem ((c.tc : Thread Cert.NetKernelIdeal.nD Cert.NetKernelIdeal.τ).loc Cert.NetKernelIdeal.main_arg21) = m ((c.tc : Thread Cert.NetKernelIdeal.nD Cert.NetKernelIdeal.τ).loc Cert.NetKernelIdeal.main_arg21)
      ∧ r.2.mem ((c.tc : Thread Cert.NetKernelIdeal.nD Cert.NetKernelIdeal.τ).loc Cert.NetKernelIdeal.main_arg22) = m ((c.tc : Thread Cert.NetKernelIdeal.nD Cert.NetKernelIdeal.τ).loc Cert.NetKernelIdeal.main_arg22)
      ∧ r.2.mem ((c.tc : Thread Cert.NetKernelIdeal.nD Cert.NetKernelIdeal.τ).loc Cert.NetKernelIdeal.main_arg23) = m ((c.tc : Thread Cert.NetKernelIdeal.nD Cert.NetKernelIdeal.τ).loc Cert.NetKernelIdeal.main_arg23)
      ∧ r.2.mem ((c.tc : Thread Cert.NetKernelIdeal.nD Cert.NetKernelIdeal.τ).loc Cert.NetKernelIdeal.main_arg24) = m ((c.tc : Thread Cert.NetKernelIdeal.nD Cert.NetKernelIdeal.τ).loc Cert.NetKernelIdeal.main_arg24)
      ∧ r.2.mem ((c.tc : Thread Cert.NetKernelIdeal.nD Cert.NetKernelIdeal.τ).loc Cert.NetKernelIdeal.main_arg25) = m ((c.tc : Thread Cert.NetKernelIdeal.nD Cert.NetKernelIdeal.τ).loc Cert.NetKernelIdeal.main_arg25)
      ∧ r.2.mem ((c.tc : Thread Cert.NetKernelIdeal.nD Cert.NetKernelIdeal.τ).loc Cert.NetKernelIdeal.main_arg26) = m ((c.tc : Thread Cert.NetKernelIdeal.nD Cert.NetKernelIdeal.τ).loc Cert.NetKernelIdeal.main_arg26)
      ∧ r.2.mem ((c.tc : Thread Cert.NetKernelIdeal.nD Cert.NetKernelIdeal.τ).loc Cert.NetKernelIdeal.main_arg27) = m ((c.tc : Thread Cert.NetKernelIdeal.nD Cert.NetKernelIdeal.τ).loc Cert.NetKernelIdeal.main_arg27)
      ∧ r.2.mem ((c.tc : Thread Cert.NetKernelIdeal.nD Cert.NetKernelIdeal.τ).loc Cert.NetKernelIdeal.main_arg28) = m ((c.tc : Thread Cert.NetKernelIdeal.nD Cert.NetKernelIdeal.τ).loc Cert.NetKernelIdeal.main_arg28)
      ∧ r.2.mem ((c.tc : Thread Cert.NetKernelIdeal.nD Cert.NetKernelIdeal.τ).loc Cert.NetKernelIdeal.main_arg29) = m ((c.tc : Thread Cert.NetKernelIdeal.nD Cert.NetKernelIdeal.τ).loc Cert.NetKernelIdeal.main_arg29)
      ∧ r.2.mem ((c.tc : Thread Cert.NetKernelIdeal.nD Cert.NetKernelIdeal.τ).loc Cert.NetKernelIdeal.main_arg30) = m ((c.tc : Thread Cert.NetKernelIdeal.nD Cert.NetKernelIdeal.τ).loc Cert.NetKernelIdeal.main_arg30)
      ∧ r.2.mem ((c.tc : Thread Cert.NetKernelIdeal.nD Cert.NetKernelIdeal.τ).loc Cert.NetKernelIdeal.main_arg31) = m ((c.tc : Thread Cert.NetKernelIdeal.nD Cert.NetKernelIdeal.τ).loc Cert.NetKernelIdeal.main_arg31)
      ∧ r.2.mem ((c.tc : Thread Cert.NetKernelIdeal.nD Cert.NetKernelIdeal.τ).loc Cert.NetKernelIdeal.main_arg32) = m ((c.tc : Thread Cert.NetKernelIdeal.nD Cert.NetKernelIdeal.τ).loc Cert.NetKernelIdeal.main_arg32)
      ∧ r.2.mem ((c.tc : Thread Cert.NetKernelIdeal.nD Cert.NetKernelIdeal.τ).loc Cert.NetKernelIdeal.main_arg33) = m ((c.tc : Thread Cert.NetKernelIdeal.nD Cert.NetKernelIdeal.τ).loc Cert.NetKernelIdeal.main_arg33))
      ∧ r.2.sem = fun _ => 0)

def quiescent_NetKernelIdeal_pre_both_separated [hNetKernelIdeal : Cert.NetKernelIdeal.Facts] [hPre_both_separated : Cert.Pre_both_separated.Facts] : Prop :=
  ∀ (m : (ℓ : Loc Cert.NetKernelIdeal.nD Cert.NetKernelIdeal.τ Cert.NetKernelIdeal.sig) → Buf (Elt Ideal) ℓ) (g : Dev Cert.NetKernelIdeal.nD → PrngReg), Pre_NetKernelIdeal_both_separated m →
    θ_run (Cert.NetKernelIdeal.defs (F := Ideal)) (onTc (τ := Cert.NetKernelIdeal.τ) (Cert.NetKernelIdeal.main (F := Ideal))) ⟨m, fun _ => 0, g⟩ (fun r => (∀ c : Dev Cert.NetKernelIdeal.nD,
      r.2.mem ((c.tc : Thread Cert.NetKernelIdeal.nD Cert.NetKernelIdeal.τ).loc Cert.NetKernelIdeal.main_arg0) = m ((c.tc : Thread Cert.NetKernelIdeal.nD Cert.NetKernelIdeal.τ).loc Cert.NetKernelIdeal.main_arg0)
      ∧ r.2.mem ((c.tc : Thread Cert.NetKernelIdeal.nD Cert.NetKernelIdeal.τ).loc Cert.NetKernelIdeal.main_arg1) = m ((c.tc : Thread Cert.NetKernelIdeal.nD Cert.NetKernelIdeal.τ).loc Cert.NetKernelIdeal.main_arg1)
      ∧ r.2.mem ((c.tc : Thread Cert.NetKernelIdeal.nD Cert.NetKernelIdeal.τ).loc Cert.NetKernelIdeal.main_arg2) = m ((c.tc : Thread Cert.NetKernelIdeal.nD Cert.NetKernelIdeal.τ).loc Cert.NetKernelIdeal.main_arg2)
      ∧ r.2.mem ((c.tc : Thread Cert.NetKernelIdeal.nD Cert.NetKernelIdeal.τ).loc Cert.NetKernelIdeal.main_arg3) = m ((c.tc : Thread Cert.NetKernelIdeal.nD Cert.NetKernelIdeal.τ).loc Cert.NetKernelIdeal.main_arg3)
      ∧ r.2.mem ((c.tc : Thread Cert.NetKernelIdeal.nD Cert.NetKernelIdeal.τ).loc Cert.NetKernelIdeal.main_arg4) = m ((c.tc : Thread Cert.NetKernelIdeal.nD Cert.NetKernelIdeal.τ).loc Cert.NetKernelIdeal.main_arg4)
      ∧ r.2.mem ((c.tc : Thread Cert.NetKernelIdeal.nD Cert.NetKernelIdeal.τ).loc Cert.NetKernelIdeal.main_arg5) = m ((c.tc : Thread Cert.NetKernelIdeal.nD Cert.NetKernelIdeal.τ).loc Cert.NetKernelIdeal.main_arg5)
      ∧ r.2.mem ((c.tc : Thread Cert.NetKernelIdeal.nD Cert.NetKernelIdeal.τ).loc Cert.NetKernelIdeal.main_arg6) = m ((c.tc : Thread Cert.NetKernelIdeal.nD Cert.NetKernelIdeal.τ).loc Cert.NetKernelIdeal.main_arg6)
      ∧ r.2.mem ((c.tc : Thread Cert.NetKernelIdeal.nD Cert.NetKernelIdeal.τ).loc Cert.NetKernelIdeal.main_arg7) = m ((c.tc : Thread Cert.NetKernelIdeal.nD Cert.NetKernelIdeal.τ).loc Cert.NetKernelIdeal.main_arg7)
      ∧ r.2.mem ((c.tc : Thread Cert.NetKernelIdeal.nD Cert.NetKernelIdeal.τ).loc Cert.NetKernelIdeal.main_arg8) = m ((c.tc : Thread Cert.NetKernelIdeal.nD Cert.NetKernelIdeal.τ).loc Cert.NetKernelIdeal.main_arg8)
      ∧ r.2.mem ((c.tc : Thread Cert.NetKernelIdeal.nD Cert.NetKernelIdeal.τ).loc Cert.NetKernelIdeal.main_arg9) = m ((c.tc : Thread Cert.NetKernelIdeal.nD Cert.NetKernelIdeal.τ).loc Cert.NetKernelIdeal.main_arg9)
      ∧ r.2.mem ((c.tc : Thread Cert.NetKernelIdeal.nD Cert.NetKernelIdeal.τ).loc Cert.NetKernelIdeal.main_arg10) = m ((c.tc : Thread Cert.NetKernelIdeal.nD Cert.NetKernelIdeal.τ).loc Cert.NetKernelIdeal.main_arg10)
      ∧ r.2.mem ((c.tc : Thread Cert.NetKernelIdeal.nD Cert.NetKernelIdeal.τ).loc Cert.NetKernelIdeal.main_arg11) = m ((c.tc : Thread Cert.NetKernelIdeal.nD Cert.NetKernelIdeal.τ).loc Cert.NetKernelIdeal.main_arg11)
      ∧ r.2.mem ((c.tc : Thread Cert.NetKernelIdeal.nD Cert.NetKernelIdeal.τ).loc Cert.NetKernelIdeal.main_arg12) = m ((c.tc : Thread Cert.NetKernelIdeal.nD Cert.NetKernelIdeal.τ).loc Cert.NetKernelIdeal.main_arg12)
      ∧ r.2.mem ((c.tc : Thread Cert.NetKernelIdeal.nD Cert.NetKernelIdeal.τ).loc Cert.NetKernelIdeal.main_arg13) = m ((c.tc : Thread Cert.NetKernelIdeal.nD Cert.NetKernelIdeal.τ).loc Cert.NetKernelIdeal.main_arg13)
      ∧ r.2.mem ((c.tc : Thread Cert.NetKernelIdeal.nD Cert.NetKernelIdeal.τ).loc Cert.NetKernelIdeal.main_arg14) = m ((c.tc : Thread Cert.NetKernelIdeal.nD Cert.NetKernelIdeal.τ).loc Cert.NetKernelIdeal.main_arg14)
      ∧ r.2.mem ((c.tc : Thread Cert.NetKernelIdeal.nD Cert.NetKernelIdeal.τ).loc Cert.NetKernelIdeal.main_arg15) = m ((c.tc : Thread Cert.NetKernelIdeal.nD Cert.NetKernelIdeal.τ).loc Cert.NetKernelIdeal.main_arg15)
      ∧ r.2.mem ((c.tc : Thread Cert.NetKernelIdeal.nD Cert.NetKernelIdeal.τ).loc Cert.NetKernelIdeal.main_arg16) = m ((c.tc : Thread Cert.NetKernelIdeal.nD Cert.NetKernelIdeal.τ).loc Cert.NetKernelIdeal.main_arg16)
      ∧ r.2.mem ((c.tc : Thread Cert.NetKernelIdeal.nD Cert.NetKernelIdeal.τ).loc Cert.NetKernelIdeal.main_arg17) = m ((c.tc : Thread Cert.NetKernelIdeal.nD Cert.NetKernelIdeal.τ).loc Cert.NetKernelIdeal.main_arg17)
      ∧ r.2.mem ((c.tc : Thread Cert.NetKernelIdeal.nD Cert.NetKernelIdeal.τ).loc Cert.NetKernelIdeal.main_arg18) = m ((c.tc : Thread Cert.NetKernelIdeal.nD Cert.NetKernelIdeal.τ).loc Cert.NetKernelIdeal.main_arg18)
      ∧ r.2.mem ((c.tc : Thread Cert.NetKernelIdeal.nD Cert.NetKernelIdeal.τ).loc Cert.NetKernelIdeal.main_arg19) = m ((c.tc : Thread Cert.NetKernelIdeal.nD Cert.NetKernelIdeal.τ).loc Cert.NetKernelIdeal.main_arg19)
      ∧ r.2.mem ((c.tc : Thread Cert.NetKernelIdeal.nD Cert.NetKernelIdeal.τ).loc Cert.NetKernelIdeal.main_arg20) = m ((c.tc : Thread Cert.NetKernelIdeal.nD Cert.NetKernelIdeal.τ).loc Cert.NetKernelIdeal.main_arg20)
      ∧ r.2.mem ((c.tc : Thread Cert.NetKernelIdeal.nD Cert.NetKernelIdeal.τ).loc Cert.NetKernelIdeal.main_arg21) = m ((c.tc : Thread Cert.NetKernelIdeal.nD Cert.NetKernelIdeal.τ).loc Cert.NetKernelIdeal.main_arg21)
      ∧ r.2.mem ((c.tc : Thread Cert.NetKernelIdeal.nD Cert.NetKernelIdeal.τ).loc Cert.NetKernelIdeal.main_arg22) = m ((c.tc : Thread Cert.NetKernelIdeal.nD Cert.NetKernelIdeal.τ).loc Cert.NetKernelIdeal.main_arg22)
      ∧ r.2.mem ((c.tc : Thread Cert.NetKernelIdeal.nD Cert.NetKernelIdeal.τ).loc Cert.NetKernelIdeal.main_arg23) = m ((c.tc : Thread Cert.NetKernelIdeal.nD Cert.NetKernelIdeal.τ).loc Cert.NetKernelIdeal.main_arg23)
      ∧ r.2.mem ((c.tc : Thread Cert.NetKernelIdeal.nD Cert.NetKernelIdeal.τ).loc Cert.NetKernelIdeal.main_arg24) = m ((c.tc : Thread Cert.NetKernelIdeal.nD Cert.NetKernelIdeal.τ).loc Cert.NetKernelIdeal.main_arg24)
      ∧ r.2.mem ((c.tc : Thread Cert.NetKernelIdeal.nD Cert.NetKernelIdeal.τ).loc Cert.NetKernelIdeal.main_arg25) = m ((c.tc : Thread Cert.NetKernelIdeal.nD Cert.NetKernelIdeal.τ).loc Cert.NetKernelIdeal.main_arg25)
      ∧ r.2.mem ((c.tc : Thread Cert.NetKernelIdeal.nD Cert.NetKernelIdeal.τ).loc Cert.NetKernelIdeal.main_arg26) = m ((c.tc : Thread Cert.NetKernelIdeal.nD Cert.NetKernelIdeal.τ).loc Cert.NetKernelIdeal.main_arg26)
      ∧ r.2.mem ((c.tc : Thread Cert.NetKernelIdeal.nD Cert.NetKernelIdeal.τ).loc Cert.NetKernelIdeal.main_arg27) = m ((c.tc : Thread Cert.NetKernelIdeal.nD Cert.NetKernelIdeal.τ).loc Cert.NetKernelIdeal.main_arg27)
      ∧ r.2.mem ((c.tc : Thread Cert.NetKernelIdeal.nD Cert.NetKernelIdeal.τ).loc Cert.NetKernelIdeal.main_arg28) = m ((c.tc : Thread Cert.NetKernelIdeal.nD Cert.NetKernelIdeal.τ).loc Cert.NetKernelIdeal.main_arg28)
      ∧ r.2.mem ((c.tc : Thread Cert.NetKernelIdeal.nD Cert.NetKernelIdeal.τ).loc Cert.NetKernelIdeal.main_arg29) = m ((c.tc : Thread Cert.NetKernelIdeal.nD Cert.NetKernelIdeal.τ).loc Cert.NetKernelIdeal.main_arg29)
      ∧ r.2.mem ((c.tc : Thread Cert.NetKernelIdeal.nD Cert.NetKernelIdeal.τ).loc Cert.NetKernelIdeal.main_arg30) = m ((c.tc : Thread Cert.NetKernelIdeal.nD Cert.NetKernelIdeal.τ).loc Cert.NetKernelIdeal.main_arg30)
      ∧ r.2.mem ((c.tc : Thread Cert.NetKernelIdeal.nD Cert.NetKernelIdeal.τ).loc Cert.NetKernelIdeal.main_arg31) = m ((c.tc : Thread Cert.NetKernelIdeal.nD Cert.NetKernelIdeal.τ).loc Cert.NetKernelIdeal.main_arg31)
      ∧ r.2.mem ((c.tc : Thread Cert.NetKernelIdeal.nD Cert.NetKernelIdeal.τ).loc Cert.NetKernelIdeal.main_arg32) = m ((c.tc : Thread Cert.NetKernelIdeal.nD Cert.NetKernelIdeal.τ).loc Cert.NetKernelIdeal.main_arg32)
      ∧ r.2.mem ((c.tc : Thread Cert.NetKernelIdeal.nD Cert.NetKernelIdeal.τ).loc Cert.NetKernelIdeal.main_arg33) = m ((c.tc : Thread Cert.NetKernelIdeal.nD Cert.NetKernelIdeal.τ).loc Cert.NetKernelIdeal.main_arg33))
      ∧ r.2.sem = fun _ => 0)

def quiescent_NetReferenceIdeal [hNetReferenceIdeal : Cert.NetReferenceIdeal.Facts] : Prop :=
  ∀ (m : (ℓ : Loc Cert.NetReferenceIdeal.nD Cert.NetReferenceIdeal.τ Cert.NetReferenceIdeal.sig) → Buf (Elt Ideal) ℓ) (g : Dev Cert.NetReferenceIdeal.nD → PrngReg), Pre_NetReferenceIdeal m →
    θ_run (Cert.NetReferenceIdeal.defs (F := Ideal)) (onTc (τ := Cert.NetReferenceIdeal.τ) (Cert.NetReferenceIdeal.main (F := Ideal))) ⟨m, fun _ => 0, g⟩ (fun r => (∀ c : Dev Cert.NetReferenceIdeal.nD,
      r.2.mem ((c.tc : Thread Cert.NetReferenceIdeal.nD Cert.NetReferenceIdeal.τ).loc Cert.NetReferenceIdeal.main_arg0) = m ((c.tc : Thread Cert.NetReferenceIdeal.nD Cert.NetReferenceIdeal.τ).loc Cert.NetReferenceIdeal.main_arg0)
      ∧ r.2.mem ((c.tc : Thread Cert.NetReferenceIdeal.nD Cert.NetReferenceIdeal.τ).loc Cert.NetReferenceIdeal.main_arg1) = m ((c.tc : Thread Cert.NetReferenceIdeal.nD Cert.NetReferenceIdeal.τ).loc Cert.NetReferenceIdeal.main_arg1)
      ∧ r.2.mem ((c.tc : Thread Cert.NetReferenceIdeal.nD Cert.NetReferenceIdeal.τ).loc Cert.NetReferenceIdeal.main_arg2) = m ((c.tc : Thread Cert.NetReferenceIdeal.nD Cert.NetReferenceIdeal.τ).loc Cert.NetReferenceIdeal.main_arg2)
      ∧ r.2.mem ((c.tc : Thread Cert.NetReferenceIdeal.nD Cert.NetReferenceIdeal.τ).loc Cert.NetReferenceIdeal.main_arg3) = m ((c.tc : Thread Cert.NetReferenceIdeal.nD Cert.NetReferenceIdeal.τ).loc Cert.NetReferenceIdeal.main_arg3)
      ∧ r.2.mem ((c.tc : Thread Cert.NetReferenceIdeal.nD Cert.NetReferenceIdeal.τ).loc Cert.NetReferenceIdeal.main_arg4) = m ((c.tc : Thread Cert.NetReferenceIdeal.nD Cert.NetReferenceIdeal.τ).loc Cert.NetReferenceIdeal.main_arg4)
      ∧ r.2.mem ((c.tc : Thread Cert.NetReferenceIdeal.nD Cert.NetReferenceIdeal.τ).loc Cert.NetReferenceIdeal.main_arg5) = m ((c.tc : Thread Cert.NetReferenceIdeal.nD Cert.NetReferenceIdeal.τ).loc Cert.NetReferenceIdeal.main_arg5)
      ∧ r.2.mem ((c.tc : Thread Cert.NetReferenceIdeal.nD Cert.NetReferenceIdeal.τ).loc Cert.NetReferenceIdeal.main_arg6) = m ((c.tc : Thread Cert.NetReferenceIdeal.nD Cert.NetReferenceIdeal.τ).loc Cert.NetReferenceIdeal.main_arg6)
      ∧ r.2.mem ((c.tc : Thread Cert.NetReferenceIdeal.nD Cert.NetReferenceIdeal.τ).loc Cert.NetReferenceIdeal.main_arg7) = m ((c.tc : Thread Cert.NetReferenceIdeal.nD Cert.NetReferenceIdeal.τ).loc Cert.NetReferenceIdeal.main_arg7)
      ∧ r.2.mem ((c.tc : Thread Cert.NetReferenceIdeal.nD Cert.NetReferenceIdeal.τ).loc Cert.NetReferenceIdeal.main_arg8) = m ((c.tc : Thread Cert.NetReferenceIdeal.nD Cert.NetReferenceIdeal.τ).loc Cert.NetReferenceIdeal.main_arg8)
      ∧ r.2.mem ((c.tc : Thread Cert.NetReferenceIdeal.nD Cert.NetReferenceIdeal.τ).loc Cert.NetReferenceIdeal.main_arg9) = m ((c.tc : Thread Cert.NetReferenceIdeal.nD Cert.NetReferenceIdeal.τ).loc Cert.NetReferenceIdeal.main_arg9)
      ∧ r.2.mem ((c.tc : Thread Cert.NetReferenceIdeal.nD Cert.NetReferenceIdeal.τ).loc Cert.NetReferenceIdeal.main_arg10) = m ((c.tc : Thread Cert.NetReferenceIdeal.nD Cert.NetReferenceIdeal.τ).loc Cert.NetReferenceIdeal.main_arg10)
      ∧ r.2.mem ((c.tc : Thread Cert.NetReferenceIdeal.nD Cert.NetReferenceIdeal.τ).loc Cert.NetReferenceIdeal.main_arg11) = m ((c.tc : Thread Cert.NetReferenceIdeal.nD Cert.NetReferenceIdeal.τ).loc Cert.NetReferenceIdeal.main_arg11)
      ∧ r.2.mem ((c.tc : Thread Cert.NetReferenceIdeal.nD Cert.NetReferenceIdeal.τ).loc Cert.NetReferenceIdeal.main_arg12) = m ((c.tc : Thread Cert.NetReferenceIdeal.nD Cert.NetReferenceIdeal.τ).loc Cert.NetReferenceIdeal.main_arg12)
      ∧ r.2.mem ((c.tc : Thread Cert.NetReferenceIdeal.nD Cert.NetReferenceIdeal.τ).loc Cert.NetReferenceIdeal.main_arg13) = m ((c.tc : Thread Cert.NetReferenceIdeal.nD Cert.NetReferenceIdeal.τ).loc Cert.NetReferenceIdeal.main_arg13)
      ∧ r.2.mem ((c.tc : Thread Cert.NetReferenceIdeal.nD Cert.NetReferenceIdeal.τ).loc Cert.NetReferenceIdeal.main_arg14) = m ((c.tc : Thread Cert.NetReferenceIdeal.nD Cert.NetReferenceIdeal.τ).loc Cert.NetReferenceIdeal.main_arg14)
      ∧ r.2.mem ((c.tc : Thread Cert.NetReferenceIdeal.nD Cert.NetReferenceIdeal.τ).loc Cert.NetReferenceIdeal.main_arg15) = m ((c.tc : Thread Cert.NetReferenceIdeal.nD Cert.NetReferenceIdeal.τ).loc Cert.NetReferenceIdeal.main_arg15)
      ∧ r.2.mem ((c.tc : Thread Cert.NetReferenceIdeal.nD Cert.NetReferenceIdeal.τ).loc Cert.NetReferenceIdeal.main_arg16) = m ((c.tc : Thread Cert.NetReferenceIdeal.nD Cert.NetReferenceIdeal.τ).loc Cert.NetReferenceIdeal.main_arg16)
      ∧ r.2.mem ((c.tc : Thread Cert.NetReferenceIdeal.nD Cert.NetReferenceIdeal.τ).loc Cert.NetReferenceIdeal.main_arg17) = m ((c.tc : Thread Cert.NetReferenceIdeal.nD Cert.NetReferenceIdeal.τ).loc Cert.NetReferenceIdeal.main_arg17)
      ∧ r.2.mem ((c.tc : Thread Cert.NetReferenceIdeal.nD Cert.NetReferenceIdeal.τ).loc Cert.NetReferenceIdeal.main_arg18) = m ((c.tc : Thread Cert.NetReferenceIdeal.nD Cert.NetReferenceIdeal.τ).loc Cert.NetReferenceIdeal.main_arg18)
      ∧ r.2.mem ((c.tc : Thread Cert.NetReferenceIdeal.nD Cert.NetReferenceIdeal.τ).loc Cert.NetReferenceIdeal.main_arg19) = m ((c.tc : Thread Cert.NetReferenceIdeal.nD Cert.NetReferenceIdeal.τ).loc Cert.NetReferenceIdeal.main_arg19)
      ∧ r.2.mem ((c.tc : Thread Cert.NetReferenceIdeal.nD Cert.NetReferenceIdeal.τ).loc Cert.NetReferenceIdeal.main_arg20) = m ((c.tc : Thread Cert.NetReferenceIdeal.nD Cert.NetReferenceIdeal.τ).loc Cert.NetReferenceIdeal.main_arg20)
      ∧ r.2.mem ((c.tc : Thread Cert.NetReferenceIdeal.nD Cert.NetReferenceIdeal.τ).loc Cert.NetReferenceIdeal.main_arg21) = m ((c.tc : Thread Cert.NetReferenceIdeal.nD Cert.NetReferenceIdeal.τ).loc Cert.NetReferenceIdeal.main_arg21)
      ∧ r.2.mem ((c.tc : Thread Cert.NetReferenceIdeal.nD Cert.NetReferenceIdeal.τ).loc Cert.NetReferenceIdeal.main_arg22) = m ((c.tc : Thread Cert.NetReferenceIdeal.nD Cert.NetReferenceIdeal.τ).loc Cert.NetReferenceIdeal.main_arg22)
      ∧ r.2.mem ((c.tc : Thread Cert.NetReferenceIdeal.nD Cert.NetReferenceIdeal.τ).loc Cert.NetReferenceIdeal.main_arg23) = m ((c.tc : Thread Cert.NetReferenceIdeal.nD Cert.NetReferenceIdeal.τ).loc Cert.NetReferenceIdeal.main_arg23)
      ∧ r.2.mem ((c.tc : Thread Cert.NetReferenceIdeal.nD Cert.NetReferenceIdeal.τ).loc Cert.NetReferenceIdeal.main_arg24) = m ((c.tc : Thread Cert.NetReferenceIdeal.nD Cert.NetReferenceIdeal.τ).loc Cert.NetReferenceIdeal.main_arg24)
      ∧ r.2.mem ((c.tc : Thread Cert.NetReferenceIdeal.nD Cert.NetReferenceIdeal.τ).loc Cert.NetReferenceIdeal.main_arg25) = m ((c.tc : Thread Cert.NetReferenceIdeal.nD Cert.NetReferenceIdeal.τ).loc Cert.NetReferenceIdeal.main_arg25)
      ∧ r.2.mem ((c.tc : Thread Cert.NetReferenceIdeal.nD Cert.NetReferenceIdeal.τ).loc Cert.NetReferenceIdeal.main_arg26) = m ((c.tc : Thread Cert.NetReferenceIdeal.nD Cert.NetReferenceIdeal.τ).loc Cert.NetReferenceIdeal.main_arg26)
      ∧ r.2.mem ((c.tc : Thread Cert.NetReferenceIdeal.nD Cert.NetReferenceIdeal.τ).loc Cert.NetReferenceIdeal.main_arg27) = m ((c.tc : Thread Cert.NetReferenceIdeal.nD Cert.NetReferenceIdeal.τ).loc Cert.NetReferenceIdeal.main_arg27)
      ∧ r.2.mem ((c.tc : Thread Cert.NetReferenceIdeal.nD Cert.NetReferenceIdeal.τ).loc Cert.NetReferenceIdeal.main_arg28) = m ((c.tc : Thread Cert.NetReferenceIdeal.nD Cert.NetReferenceIdeal.τ).loc Cert.NetReferenceIdeal.main_arg28)
      ∧ r.2.mem ((c.tc : Thread Cert.NetReferenceIdeal.nD Cert.NetReferenceIdeal.τ).loc Cert.NetReferenceIdeal.main_arg29) = m ((c.tc : Thread Cert.NetReferenceIdeal.nD Cert.NetReferenceIdeal.τ).loc Cert.NetReferenceIdeal.main_arg29)
      ∧ r.2.mem ((c.tc : Thread Cert.NetReferenceIdeal.nD Cert.NetReferenceIdeal.τ).loc Cert.NetReferenceIdeal.main_arg30) = m ((c.tc : Thread Cert.NetReferenceIdeal.nD Cert.NetReferenceIdeal.τ).loc Cert.NetReferenceIdeal.main_arg30)
      ∧ r.2.mem ((c.tc : Thread Cert.NetReferenceIdeal.nD Cert.NetReferenceIdeal.τ).loc Cert.NetReferenceIdeal.main_arg31) = m ((c.tc : Thread Cert.NetReferenceIdeal.nD Cert.NetReferenceIdeal.τ).loc Cert.NetReferenceIdeal.main_arg31)
      ∧ r.2.mem ((c.tc : Thread Cert.NetReferenceIdeal.nD Cert.NetReferenceIdeal.τ).loc Cert.NetReferenceIdeal.main_arg32) = m ((c.tc : Thread Cert.NetReferenceIdeal.nD Cert.NetReferenceIdeal.τ).loc Cert.NetReferenceIdeal.main_arg32)
      ∧ r.2.mem ((c.tc : Thread Cert.NetReferenceIdeal.nD Cert.NetReferenceIdeal.τ).loc Cert.NetReferenceIdeal.main_arg33) = m ((c.tc : Thread Cert.NetReferenceIdeal.nD Cert.NetReferenceIdeal.τ).loc Cert.NetReferenceIdeal.main_arg33))
      ∧ r.2.sem = fun _ => 0)

def quiescent_NetReferenceIdeal_pre_both_separated [hNetReferenceIdeal : Cert.NetReferenceIdeal.Facts] [hPre_both_separated : Cert.Pre_both_separated.Facts] : Prop :=
  ∀ (m : (ℓ : Loc Cert.NetReferenceIdeal.nD Cert.NetReferenceIdeal.τ Cert.NetReferenceIdeal.sig) → Buf (Elt Ideal) ℓ) (g : Dev Cert.NetReferenceIdeal.nD → PrngReg), Pre_NetReferenceIdeal_both_separated m →
    θ_run (Cert.NetReferenceIdeal.defs (F := Ideal)) (onTc (τ := Cert.NetReferenceIdeal.τ) (Cert.NetReferenceIdeal.main (F := Ideal))) ⟨m, fun _ => 0, g⟩ (fun r => (∀ c : Dev Cert.NetReferenceIdeal.nD,
      r.2.mem ((c.tc : Thread Cert.NetReferenceIdeal.nD Cert.NetReferenceIdeal.τ).loc Cert.NetReferenceIdeal.main_arg0) = m ((c.tc : Thread Cert.NetReferenceIdeal.nD Cert.NetReferenceIdeal.τ).loc Cert.NetReferenceIdeal.main_arg0)
      ∧ r.2.mem ((c.tc : Thread Cert.NetReferenceIdeal.nD Cert.NetReferenceIdeal.τ).loc Cert.NetReferenceIdeal.main_arg1) = m ((c.tc : Thread Cert.NetReferenceIdeal.nD Cert.NetReferenceIdeal.τ).loc Cert.NetReferenceIdeal.main_arg1)
      ∧ r.2.mem ((c.tc : Thread Cert.NetReferenceIdeal.nD Cert.NetReferenceIdeal.τ).loc Cert.NetReferenceIdeal.main_arg2) = m ((c.tc : Thread Cert.NetReferenceIdeal.nD Cert.NetReferenceIdeal.τ).loc Cert.NetReferenceIdeal.main_arg2)
      ∧ r.2.mem ((c.tc : Thread Cert.NetReferenceIdeal.nD Cert.NetReferenceIdeal.τ).loc Cert.NetReferenceIdeal.main_arg3) = m ((c.tc : Thread Cert.NetReferenceIdeal.nD Cert.NetReferenceIdeal.τ).loc Cert.NetReferenceIdeal.main_arg3)
      ∧ r.2.mem ((c.tc : Thread Cert.NetReferenceIdeal.nD Cert.NetReferenceIdeal.τ).loc Cert.NetReferenceIdeal.main_arg4) = m ((c.tc : Thread Cert.NetReferenceIdeal.nD Cert.NetReferenceIdeal.τ).loc Cert.NetReferenceIdeal.main_arg4)
      ∧ r.2.mem ((c.tc : Thread Cert.NetReferenceIdeal.nD Cert.NetReferenceIdeal.τ).loc Cert.NetReferenceIdeal.main_arg5) = m ((c.tc : Thread Cert.NetReferenceIdeal.nD Cert.NetReferenceIdeal.τ).loc Cert.NetReferenceIdeal.main_arg5)
      ∧ r.2.mem ((c.tc : Thread Cert.NetReferenceIdeal.nD Cert.NetReferenceIdeal.τ).loc Cert.NetReferenceIdeal.main_arg6) = m ((c.tc : Thread Cert.NetReferenceIdeal.nD Cert.NetReferenceIdeal.τ).loc Cert.NetReferenceIdeal.main_arg6)
      ∧ r.2.mem ((c.tc : Thread Cert.NetReferenceIdeal.nD Cert.NetReferenceIdeal.τ).loc Cert.NetReferenceIdeal.main_arg7) = m ((c.tc : Thread Cert.NetReferenceIdeal.nD Cert.NetReferenceIdeal.τ).loc Cert.NetReferenceIdeal.main_arg7)
      ∧ r.2.mem ((c.tc : Thread Cert.NetReferenceIdeal.nD Cert.NetReferenceIdeal.τ).loc Cert.NetReferenceIdeal.main_arg8) = m ((c.tc : Thread Cert.NetReferenceIdeal.nD Cert.NetReferenceIdeal.τ).loc Cert.NetReferenceIdeal.main_arg8)
      ∧ r.2.mem ((c.tc : Thread Cert.NetReferenceIdeal.nD Cert.NetReferenceIdeal.τ).loc Cert.NetReferenceIdeal.main_arg9) = m ((c.tc : Thread Cert.NetReferenceIdeal.nD Cert.NetReferenceIdeal.τ).loc Cert.NetReferenceIdeal.main_arg9)
      ∧ r.2.mem ((c.tc : Thread Cert.NetReferenceIdeal.nD Cert.NetReferenceIdeal.τ).loc Cert.NetReferenceIdeal.main_arg10) = m ((c.tc : Thread Cert.NetReferenceIdeal.nD Cert.NetReferenceIdeal.τ).loc Cert.NetReferenceIdeal.main_arg10)
      ∧ r.2.mem ((c.tc : Thread Cert.NetReferenceIdeal.nD Cert.NetReferenceIdeal.τ).loc Cert.NetReferenceIdeal.main_arg11) = m ((c.tc : Thread Cert.NetReferenceIdeal.nD Cert.NetReferenceIdeal.τ).loc Cert.NetReferenceIdeal.main_arg11)
      ∧ r.2.mem ((c.tc : Thread Cert.NetReferenceIdeal.nD Cert.NetReferenceIdeal.τ).loc Cert.NetReferenceIdeal.main_arg12) = m ((c.tc : Thread Cert.NetReferenceIdeal.nD Cert.NetReferenceIdeal.τ).loc Cert.NetReferenceIdeal.main_arg12)
      ∧ r.2.mem ((c.tc : Thread Cert.NetReferenceIdeal.nD Cert.NetReferenceIdeal.τ).loc Cert.NetReferenceIdeal.main_arg13) = m ((c.tc : Thread Cert.NetReferenceIdeal.nD Cert.NetReferenceIdeal.τ).loc Cert.NetReferenceIdeal.main_arg13)
      ∧ r.2.mem ((c.tc : Thread Cert.NetReferenceIdeal.nD Cert.NetReferenceIdeal.τ).loc Cert.NetReferenceIdeal.main_arg14) = m ((c.tc : Thread Cert.NetReferenceIdeal.nD Cert.NetReferenceIdeal.τ).loc Cert.NetReferenceIdeal.main_arg14)
      ∧ r.2.mem ((c.tc : Thread Cert.NetReferenceIdeal.nD Cert.NetReferenceIdeal.τ).loc Cert.NetReferenceIdeal.main_arg15) = m ((c.tc : Thread Cert.NetReferenceIdeal.nD Cert.NetReferenceIdeal.τ).loc Cert.NetReferenceIdeal.main_arg15)
      ∧ r.2.mem ((c.tc : Thread Cert.NetReferenceIdeal.nD Cert.NetReferenceIdeal.τ).loc Cert.NetReferenceIdeal.main_arg16) = m ((c.tc : Thread Cert.NetReferenceIdeal.nD Cert.NetReferenceIdeal.τ).loc Cert.NetReferenceIdeal.main_arg16)
      ∧ r.2.mem ((c.tc : Thread Cert.NetReferenceIdeal.nD Cert.NetReferenceIdeal.τ).loc Cert.NetReferenceIdeal.main_arg17) = m ((c.tc : Thread Cert.NetReferenceIdeal.nD Cert.NetReferenceIdeal.τ).loc Cert.NetReferenceIdeal.main_arg17)
      ∧ r.2.mem ((c.tc : Thread Cert.NetReferenceIdeal.nD Cert.NetReferenceIdeal.τ).loc Cert.NetReferenceIdeal.main_arg18) = m ((c.tc : Thread Cert.NetReferenceIdeal.nD Cert.NetReferenceIdeal.τ).loc Cert.NetReferenceIdeal.main_arg18)
      ∧ r.2.mem ((c.tc : Thread Cert.NetReferenceIdeal.nD Cert.NetReferenceIdeal.τ).loc Cert.NetReferenceIdeal.main_arg19) = m ((c.tc : Thread Cert.NetReferenceIdeal.nD Cert.NetReferenceIdeal.τ).loc Cert.NetReferenceIdeal.main_arg19)
      ∧ r.2.mem ((c.tc : Thread Cert.NetReferenceIdeal.nD Cert.NetReferenceIdeal.τ).loc Cert.NetReferenceIdeal.main_arg20) = m ((c.tc : Thread Cert.NetReferenceIdeal.nD Cert.NetReferenceIdeal.τ).loc Cert.NetReferenceIdeal.main_arg20)
      ∧ r.2.mem ((c.tc : Thread Cert.NetReferenceIdeal.nD Cert.NetReferenceIdeal.τ).loc Cert.NetReferenceIdeal.main_arg21) = m ((c.tc : Thread Cert.NetReferenceIdeal.nD Cert.NetReferenceIdeal.τ).loc Cert.NetReferenceIdeal.main_arg21)
      ∧ r.2.mem ((c.tc : Thread Cert.NetReferenceIdeal.nD Cert.NetReferenceIdeal.τ).loc Cert.NetReferenceIdeal.main_arg22) = m ((c.tc : Thread Cert.NetReferenceIdeal.nD Cert.NetReferenceIdeal.τ).loc Cert.NetReferenceIdeal.main_arg22)
      ∧ r.2.mem ((c.tc : Thread Cert.NetReferenceIdeal.nD Cert.NetReferenceIdeal.τ).loc Cert.NetReferenceIdeal.main_arg23) = m ((c.tc : Thread Cert.NetReferenceIdeal.nD Cert.NetReferenceIdeal.τ).loc Cert.NetReferenceIdeal.main_arg23)
      ∧ r.2.mem ((c.tc : Thread Cert.NetReferenceIdeal.nD Cert.NetReferenceIdeal.τ).loc Cert.NetReferenceIdeal.main_arg24) = m ((c.tc : Thread Cert.NetReferenceIdeal.nD Cert.NetReferenceIdeal.τ).loc Cert.NetReferenceIdeal.main_arg24)
      ∧ r.2.mem ((c.tc : Thread Cert.NetReferenceIdeal.nD Cert.NetReferenceIdeal.τ).loc Cert.NetReferenceIdeal.main_arg25) = m ((c.tc : Thread Cert.NetReferenceIdeal.nD Cert.NetReferenceIdeal.τ).loc Cert.NetReferenceIdeal.main_arg25)
      ∧ r.2.mem ((c.tc : Thread Cert.NetReferenceIdeal.nD Cert.NetReferenceIdeal.τ).loc Cert.NetReferenceIdeal.main_arg26) = m ((c.tc : Thread Cert.NetReferenceIdeal.nD Cert.NetReferenceIdeal.τ).loc Cert.NetReferenceIdeal.main_arg26)
      ∧ r.2.mem ((c.tc : Thread Cert.NetReferenceIdeal.nD Cert.NetReferenceIdeal.τ).loc Cert.NetReferenceIdeal.main_arg27) = m ((c.tc : Thread Cert.NetReferenceIdeal.nD Cert.NetReferenceIdeal.τ).loc Cert.NetReferenceIdeal.main_arg27)
      ∧ r.2.mem ((c.tc : Thread Cert.NetReferenceIdeal.nD Cert.NetReferenceIdeal.τ).loc Cert.NetReferenceIdeal.main_arg28) = m ((c.tc : Thread Cert.NetReferenceIdeal.nD Cert.NetReferenceIdeal.τ).loc Cert.NetReferenceIdeal.main_arg28)
      ∧ r.2.mem ((c.tc : Thread Cert.NetReferenceIdeal.nD Cert.NetReferenceIdeal.τ).loc Cert.NetReferenceIdeal.main_arg29) = m ((c.tc : Thread Cert.NetReferenceIdeal.nD Cert.NetReferenceIdeal.τ).loc Cert.NetReferenceIdeal.main_arg29)
      ∧ r.2.mem ((c.tc : Thread Cert.NetReferenceIdeal.nD Cert.NetReferenceIdeal.τ).loc Cert.NetReferenceIdeal.main_arg30) = m ((c.tc : Thread Cert.NetReferenceIdeal.nD Cert.NetReferenceIdeal.τ).loc Cert.NetReferenceIdeal.main_arg30)
      ∧ r.2.mem ((c.tc : Thread Cert.NetReferenceIdeal.nD Cert.NetReferenceIdeal.τ).loc Cert.NetReferenceIdeal.main_arg31) = m ((c.tc : Thread Cert.NetReferenceIdeal.nD Cert.NetReferenceIdeal.τ).loc Cert.NetReferenceIdeal.main_arg31)
      ∧ r.2.mem ((c.tc : Thread Cert.NetReferenceIdeal.nD Cert.NetReferenceIdeal.τ).loc Cert.NetReferenceIdeal.main_arg32) = m ((c.tc : Thread Cert.NetReferenceIdeal.nD Cert.NetReferenceIdeal.τ).loc Cert.NetReferenceIdeal.main_arg32)
      ∧ r.2.mem ((c.tc : Thread Cert.NetReferenceIdeal.nD Cert.NetReferenceIdeal.τ).loc Cert.NetReferenceIdeal.main_arg33) = m ((c.tc : Thread Cert.NetReferenceIdeal.nD Cert.NetReferenceIdeal.τ).loc Cert.NetReferenceIdeal.main_arg33))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_HeadKernel_HeadKernelIdeal : Prop :=
  True

def algebraic_HeadKernelIdeal_HeadReferenceIdeal_pre_head_regular [hHeadKernelIdeal : Cert.HeadKernelIdeal.Facts] [hHeadReferenceIdeal : Cert.HeadReferenceIdeal.Facts] [hPre_head_regular : Cert.Pre_head_regular.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal_head_regular m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)
      ∧ m' ((c.tc : Thread Cert.HeadReferenceIdeal.nD Cert.HeadReferenceIdeal.τ).loc Cert.HeadReferenceIdeal.main_arg3) = m ((c.tc : Thread Cert.HeadKernelIdeal.nD Cert.HeadKernelIdeal.τ).loc Cert.HeadKernelIdeal.main_arg3)
      ∧ m' ((c.tc : Thread Cert.HeadReferenceIdeal.nD Cert.HeadReferenceIdeal.τ).loc Cert.HeadReferenceIdeal.main_arg4) = m ((c.tc : Thread Cert.HeadKernelIdeal.nD Cert.HeadKernelIdeal.τ).loc Cert.HeadKernelIdeal.main_arg4)
      ∧ m' ((c.tc : Thread Cert.HeadReferenceIdeal.nD Cert.HeadReferenceIdeal.τ).loc Cert.HeadReferenceIdeal.main_arg5) = m ((c.tc : Thread Cert.HeadKernelIdeal.nD Cert.HeadKernelIdeal.τ).loc Cert.HeadKernelIdeal.main_arg5)
      ∧ m' ((c.tc : Thread Cert.HeadReferenceIdeal.nD Cert.HeadReferenceIdeal.τ).loc Cert.HeadReferenceIdeal.main_arg6) = m ((c.tc : Thread Cert.HeadKernelIdeal.nD Cert.HeadKernelIdeal.τ).loc Cert.HeadKernelIdeal.main_arg6)
      ∧ m' ((c.tc : Thread Cert.HeadReferenceIdeal.nD Cert.HeadReferenceIdeal.τ).loc Cert.HeadReferenceIdeal.main_arg7) = m ((c.tc : Thread Cert.HeadKernelIdeal.nD Cert.HeadKernelIdeal.τ).loc Cert.HeadKernelIdeal.main_arg7)
      ∧ m' ((c.tc : Thread Cert.HeadReferenceIdeal.nD Cert.HeadReferenceIdeal.τ).loc Cert.HeadReferenceIdeal.main_arg8) = m ((c.tc : Thread Cert.HeadKernelIdeal.nD Cert.HeadKernelIdeal.τ).loc Cert.HeadKernelIdeal.main_arg8)
      ∧ m' ((c.tc : Thread Cert.HeadReferenceIdeal.nD Cert.HeadReferenceIdeal.τ).loc Cert.HeadReferenceIdeal.main_arg9) = m ((c.tc : Thread Cert.HeadKernelIdeal.nD Cert.HeadKernelIdeal.τ).loc Cert.HeadKernelIdeal.main_arg9)
      ∧ m' ((c.tc : Thread Cert.HeadReferenceIdeal.nD Cert.HeadReferenceIdeal.τ).loc Cert.HeadReferenceIdeal.main_arg10) = m ((c.tc : Thread Cert.HeadKernelIdeal.nD Cert.HeadKernelIdeal.τ).loc Cert.HeadKernelIdeal.main_arg10)) →
    ∃ (v0 : (c : Dev Cert.HeadKernelIdeal.nD) → Buf (Elt Ideal) ((c.tc : Thread Cert.HeadKernelIdeal.nD Cert.HeadKernelIdeal.τ).loc Cert.HeadKernelIdeal.main_v11)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v11) = v0 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
          ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
          ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4)
          ∧ r.2.mem ((c.tc : Thread Cert.HeadKernelIdeal.nD Cert.HeadKernelIdeal.τ).loc Cert.HeadKernelIdeal.main_arg5) = m ((c.tc : Thread Cert.HeadKernelIdeal.nD Cert.HeadKernelIdeal.τ).loc Cert.HeadKernelIdeal.main_arg5)
          ∧ r.2.mem ((c.tc : Thread Cert.HeadKernelIdeal.nD Cert.HeadKernelIdeal.τ).loc Cert.HeadKernelIdeal.main_arg6) = m ((c.tc : Thread Cert.HeadKernelIdeal.nD Cert.HeadKernelIdeal.τ).loc Cert.HeadKernelIdeal.main_arg6)
          ∧ r.2.mem ((c.tc : Thread Cert.HeadKernelIdeal.nD Cert.HeadKernelIdeal.τ).loc Cert.HeadKernelIdeal.main_arg7) = m ((c.tc : Thread Cert.HeadKernelIdeal.nD Cert.HeadKernelIdeal.τ).loc Cert.HeadKernelIdeal.main_arg7)
          ∧ r.2.mem ((c.tc : Thread Cert.HeadKernelIdeal.nD Cert.HeadKernelIdeal.τ).loc Cert.HeadKernelIdeal.main_arg8) = m ((c.tc : Thread Cert.HeadKernelIdeal.nD Cert.HeadKernelIdeal.τ).loc Cert.HeadKernelIdeal.main_arg8)
          ∧ r.2.mem ((c.tc : Thread Cert.HeadKernelIdeal.nD Cert.HeadKernelIdeal.τ).loc Cert.HeadKernelIdeal.main_arg9) = m ((c.tc : Thread Cert.HeadKernelIdeal.nD Cert.HeadKernelIdeal.τ).loc Cert.HeadKernelIdeal.main_arg9)
          ∧ r.2.mem ((c.tc : Thread Cert.HeadKernelIdeal.nD Cert.HeadKernelIdeal.τ).loc Cert.HeadKernelIdeal.main_arg10) = m ((c.tc : Thread Cert.HeadKernelIdeal.nD Cert.HeadKernelIdeal.τ).loc Cert.HeadKernelIdeal.main_arg10))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v57) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6)
          ∧ r.2.mem ((c.tc : Thread Cert.HeadReferenceIdeal.nD Cert.HeadReferenceIdeal.τ).loc Cert.HeadReferenceIdeal.main_arg7) = m' ((c.tc : Thread Cert.HeadReferenceIdeal.nD Cert.HeadReferenceIdeal.τ).loc Cert.HeadReferenceIdeal.main_arg7)
          ∧ r.2.mem ((c.tc : Thread Cert.HeadReferenceIdeal.nD Cert.HeadReferenceIdeal.τ).loc Cert.HeadReferenceIdeal.main_arg8) = m' ((c.tc : Thread Cert.HeadReferenceIdeal.nD Cert.HeadReferenceIdeal.τ).loc Cert.HeadReferenceIdeal.main_arg8)
          ∧ r.2.mem ((c.tc : Thread Cert.HeadReferenceIdeal.nD Cert.HeadReferenceIdeal.τ).loc Cert.HeadReferenceIdeal.main_arg9) = m' ((c.tc : Thread Cert.HeadReferenceIdeal.nD Cert.HeadReferenceIdeal.τ).loc Cert.HeadReferenceIdeal.main_arg9)
          ∧ r.2.mem ((c.tc : Thread Cert.HeadReferenceIdeal.nD Cert.HeadReferenceIdeal.τ).loc Cert.HeadReferenceIdeal.main_arg10) = m' ((c.tc : Thread Cert.HeadReferenceIdeal.nD Cert.HeadReferenceIdeal.τ).loc Cert.HeadReferenceIdeal.main_arg10))

def preserves_FirstKernel_FirstKernelIdeal : Prop :=
  IdealRules.named_const.Statement Cert.FirstKernelIdeal.κ "neg" .f32 0xFF61B1E6#32 ⊥

def algebraic_FirstKernelIdeal_FirstReferenceIdeal_pre_first_separated [hFirstKernelIdeal : Cert.FirstKernelIdeal.Facts] [hFirstReferenceIdeal : Cert.FirstReferenceIdeal.Facts] [hPre_first_separated : Cert.Pre_first_separated.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal_first_separated m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)) →
    ∃ (v0 : (c : Dev Cert.FirstKernelIdeal.nD) → Buf (Elt Ideal) ((c.tc : Thread Cert.FirstKernelIdeal.nD Cert.FirstKernelIdeal.τ).loc Cert.FirstKernelIdeal.main_v0)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v0) = v0 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
          ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
          ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v191) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_SumsKernel_SumsKernelIdeal : Prop :=
  True

def algebraic_SumsKernelIdeal_SumsReferenceIdeal [hSumsKernelIdeal : Cert.SumsKernelIdeal.Facts] [hSumsReferenceIdeal : Cert.SumsReferenceIdeal.Facts] : Prop :=
  ∀ (m : (ℓ : Loc Cert.SumsKernelIdeal.nD Cert.SumsKernelIdeal.τ Cert.SumsKernelIdeal.sig) → Buf (Elt Ideal) ℓ) (g : Dev Cert.SumsKernelIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsKernelIdeal m →
    (∀ c : Dev Cert.SumsKernelIdeal.nD,
      m' ((c.tc : Thread Cert.SumsReferenceIdeal.nD Cert.SumsReferenceIdeal.τ).loc Cert.SumsReferenceIdeal.main_arg0) = m ((c.tc : Thread Cert.SumsKernelIdeal.nD Cert.SumsKernelIdeal.τ).loc Cert.SumsKernelIdeal.main_arg0)
      ∧ m' ((c.tc : Thread Cert.SumsReferenceIdeal.nD Cert.SumsReferenceIdeal.τ).loc Cert.SumsReferenceIdeal.main_arg1) = m ((c.tc : Thread Cert.SumsKernelIdeal.nD Cert.SumsKernelIdeal.τ).loc Cert.SumsKernelIdeal.main_arg1)
      ∧ m' ((c.tc : Thread Cert.SumsReferenceIdeal.nD Cert.SumsReferenceIdeal.τ).loc Cert.SumsReferenceIdeal.main_arg2) = m ((c.tc : Thread Cert.SumsKernelIdeal.nD Cert.SumsKernelIdeal.τ).loc Cert.SumsKernelIdeal.main_arg2)) →
    ∃ (v0 : (c : Dev Cert.SumsKernelIdeal.nD) → Buf (Elt Ideal) ((c.tc : Thread Cert.SumsKernelIdeal.nD Cert.SumsKernelIdeal.τ).loc Cert.SumsKernelIdeal.main_v0)),
      θ_run (Cert.SumsKernelIdeal.defs (F := Ideal)) (onTc (τ := Cert.SumsKernelIdeal.τ) (Cert.SumsKernelIdeal.main (F := Ideal))) ⟨m, fun _ => 0, g⟩ (fun r => ∀ c : Dev Cert.SumsKernelIdeal.nD,
          r.2.mem ((c.tc : Thread Cert.SumsKernelIdeal.nD Cert.SumsKernelIdeal.τ).loc Cert.SumsKernelIdeal.main_v0) = v0 c
          ∧ r.2.mem ((c.tc : Thread Cert.SumsKernelIdeal.nD Cert.SumsKernelIdeal.τ).loc Cert.SumsKernelIdeal.main_arg0) = m ((c.tc : Thread Cert.SumsKernelIdeal.nD Cert.SumsKernelIdeal.τ).loc Cert.SumsKernelIdeal.main_arg0)
          ∧ r.2.mem ((c.tc : Thread Cert.SumsKernelIdeal.nD Cert.SumsKernelIdeal.τ).loc Cert.SumsKernelIdeal.main_arg1) = m ((c.tc : Thread Cert.SumsKernelIdeal.nD Cert.SumsKernelIdeal.τ).loc Cert.SumsKernelIdeal.main_arg1)
          ∧ r.2.mem ((c.tc : Thread Cert.SumsKernelIdeal.nD Cert.SumsKernelIdeal.τ).loc Cert.SumsKernelIdeal.main_arg2) = m ((c.tc : Thread Cert.SumsKernelIdeal.nD Cert.SumsKernelIdeal.τ).loc Cert.SumsKernelIdeal.main_arg2))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v8) = v0 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0)
          ∧ r.2.mem ((c.tc : Thread Cert.SumsReferenceIdeal.nD Cert.SumsReferenceIdeal.τ).loc Cert.SumsReferenceIdeal.main_arg1) = m' ((c.tc : Thread Cert.SumsReferenceIdeal.nD Cert.SumsReferenceIdeal.τ).loc Cert.SumsReferenceIdeal.main_arg1)
          ∧ r.2.mem ((c.tc : Thread Cert.SumsReferenceIdeal.nD Cert.SumsReferenceIdeal.τ).loc Cert.SumsReferenceIdeal.main_arg2) = m' ((c.tc : Thread Cert.SumsReferenceIdeal.nD Cert.SumsReferenceIdeal.τ).loc Cert.SumsReferenceIdeal.main_arg2))

def preserves_TailKernel_TailKernelIdeal : Prop :=
  True

def algebraic_TailKernelIdeal_TailReferenceIdeal_pre_tail_finite [hTailKernelIdeal : Cert.TailKernelIdeal.Facts] [hTailReferenceIdeal : Cert.TailReferenceIdeal.Facts] [hPre_tail_finite : Cert.Pre_tail_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal_tail_finite m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)) →
    ∃ (v0 : (c : Dev Cert.TailKernelIdeal.nD) → Buf (Elt Ideal) ((c.tc : Thread Cert.TailKernelIdeal.nD Cert.TailKernelIdeal.τ).loc Cert.TailKernelIdeal.main_v13)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v13) = v0 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v48) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9))

def preserves_NetKernel_NetKernelIdeal : Prop :=
  IdealRules.named_const.Statement Cert.NetKernelIdeal.κ "neg" .f32 0xFF61B1E6#32 ⊥

def algebraic_NetKernelIdeal_NetReferenceIdeal_pre_both_separated [hNetKernelIdeal : Cert.NetKernelIdeal.Facts] [hNetReferenceIdeal : Cert.NetReferenceIdeal.Facts] [hPre_both_separated : Cert.Pre_both_separated.Facts] : Prop :=
  ∀ (m : (ℓ : Loc Cert.NetKernelIdeal.nD Cert.NetKernelIdeal.τ Cert.NetKernelIdeal.sig) → Buf (Elt Ideal) ℓ) (g : Dev Cert.NetKernelIdeal.nD → PrngReg)
    (m' : (ℓ : Loc Cert.NetReferenceIdeal.nD Cert.NetReferenceIdeal.τ Cert.NetReferenceIdeal.sig) → Buf (Elt Ideal) ℓ) (g' : Dev Cert.NetReferenceIdeal.nD → PrngReg), Pre_NetKernelIdeal_both_separated m →
    (∀ c : Dev Cert.NetKernelIdeal.nD,
      m' ((c.tc : Thread Cert.NetReferenceIdeal.nD Cert.NetReferenceIdeal.τ).loc Cert.NetReferenceIdeal.main_arg0) = m ((c.tc : Thread Cert.NetKernelIdeal.nD Cert.NetKernelIdeal.τ).loc Cert.NetKernelIdeal.main_arg0)
      ∧ m' ((c.tc : Thread Cert.NetReferenceIdeal.nD Cert.NetReferenceIdeal.τ).loc Cert.NetReferenceIdeal.main_arg1) = m ((c.tc : Thread Cert.NetKernelIdeal.nD Cert.NetKernelIdeal.τ).loc Cert.NetKernelIdeal.main_arg1)
      ∧ m' ((c.tc : Thread Cert.NetReferenceIdeal.nD Cert.NetReferenceIdeal.τ).loc Cert.NetReferenceIdeal.main_arg2) = m ((c.tc : Thread Cert.NetKernelIdeal.nD Cert.NetKernelIdeal.τ).loc Cert.NetKernelIdeal.main_arg2)
      ∧ m' ((c.tc : Thread Cert.NetReferenceIdeal.nD Cert.NetReferenceIdeal.τ).loc Cert.NetReferenceIdeal.main_arg3) = m ((c.tc : Thread Cert.NetKernelIdeal.nD Cert.NetKernelIdeal.τ).loc Cert.NetKernelIdeal.main_arg3)
      ∧ m' ((c.tc : Thread Cert.NetReferenceIdeal.nD Cert.NetReferenceIdeal.τ).loc Cert.NetReferenceIdeal.main_arg4) = m ((c.tc : Thread Cert.NetKernelIdeal.nD Cert.NetKernelIdeal.τ).loc Cert.NetKernelIdeal.main_arg4)
      ∧ m' ((c.tc : Thread Cert.NetReferenceIdeal.nD Cert.NetReferenceIdeal.τ).loc Cert.NetReferenceIdeal.main_arg5) = m ((c.tc : Thread Cert.NetKernelIdeal.nD Cert.NetKernelIdeal.τ).loc Cert.NetKernelIdeal.main_arg5)
      ∧ m' ((c.tc : Thread Cert.NetReferenceIdeal.nD Cert.NetReferenceIdeal.τ).loc Cert.NetReferenceIdeal.main_arg6) = m ((c.tc : Thread Cert.NetKernelIdeal.nD Cert.NetKernelIdeal.τ).loc Cert.NetKernelIdeal.main_arg6)
      ∧ m' ((c.tc : Thread Cert.NetReferenceIdeal.nD Cert.NetReferenceIdeal.τ).loc Cert.NetReferenceIdeal.main_arg7) = m ((c.tc : Thread Cert.NetKernelIdeal.nD Cert.NetKernelIdeal.τ).loc Cert.NetKernelIdeal.main_arg7)
      ∧ m' ((c.tc : Thread Cert.NetReferenceIdeal.nD Cert.NetReferenceIdeal.τ).loc Cert.NetReferenceIdeal.main_arg8) = m ((c.tc : Thread Cert.NetKernelIdeal.nD Cert.NetKernelIdeal.τ).loc Cert.NetKernelIdeal.main_arg8)
      ∧ m' ((c.tc : Thread Cert.NetReferenceIdeal.nD Cert.NetReferenceIdeal.τ).loc Cert.NetReferenceIdeal.main_arg9) = m ((c.tc : Thread Cert.NetKernelIdeal.nD Cert.NetKernelIdeal.τ).loc Cert.NetKernelIdeal.main_arg9)
      ∧ m' ((c.tc : Thread Cert.NetReferenceIdeal.nD Cert.NetReferenceIdeal.τ).loc Cert.NetReferenceIdeal.main_arg10) = m ((c.tc : Thread Cert.NetKernelIdeal.nD Cert.NetKernelIdeal.τ).loc Cert.NetKernelIdeal.main_arg10)
      ∧ m' ((c.tc : Thread Cert.NetReferenceIdeal.nD Cert.NetReferenceIdeal.τ).loc Cert.NetReferenceIdeal.main_arg11) = m ((c.tc : Thread Cert.NetKernelIdeal.nD Cert.NetKernelIdeal.τ).loc Cert.NetKernelIdeal.main_arg11)
      ∧ m' ((c.tc : Thread Cert.NetReferenceIdeal.nD Cert.NetReferenceIdeal.τ).loc Cert.NetReferenceIdeal.main_arg12) = m ((c.tc : Thread Cert.NetKernelIdeal.nD Cert.NetKernelIdeal.τ).loc Cert.NetKernelIdeal.main_arg12)
      ∧ m' ((c.tc : Thread Cert.NetReferenceIdeal.nD Cert.NetReferenceIdeal.τ).loc Cert.NetReferenceIdeal.main_arg13) = m ((c.tc : Thread Cert.NetKernelIdeal.nD Cert.NetKernelIdeal.τ).loc Cert.NetKernelIdeal.main_arg13)
      ∧ m' ((c.tc : Thread Cert.NetReferenceIdeal.nD Cert.NetReferenceIdeal.τ).loc Cert.NetReferenceIdeal.main_arg14) = m ((c.tc : Thread Cert.NetKernelIdeal.nD Cert.NetKernelIdeal.τ).loc Cert.NetKernelIdeal.main_arg14)
      ∧ m' ((c.tc : Thread Cert.NetReferenceIdeal.nD Cert.NetReferenceIdeal.τ).loc Cert.NetReferenceIdeal.main_arg15) = m ((c.tc : Thread Cert.NetKernelIdeal.nD Cert.NetKernelIdeal.τ).loc Cert.NetKernelIdeal.main_arg15)
      ∧ m' ((c.tc : Thread Cert.NetReferenceIdeal.nD Cert.NetReferenceIdeal.τ).loc Cert.NetReferenceIdeal.main_arg16) = m ((c.tc : Thread Cert.NetKernelIdeal.nD Cert.NetKernelIdeal.τ).loc Cert.NetKernelIdeal.main_arg16)
      ∧ m' ((c.tc : Thread Cert.NetReferenceIdeal.nD Cert.NetReferenceIdeal.τ).loc Cert.NetReferenceIdeal.main_arg17) = m ((c.tc : Thread Cert.NetKernelIdeal.nD Cert.NetKernelIdeal.τ).loc Cert.NetKernelIdeal.main_arg17)
      ∧ m' ((c.tc : Thread Cert.NetReferenceIdeal.nD Cert.NetReferenceIdeal.τ).loc Cert.NetReferenceIdeal.main_arg18) = m ((c.tc : Thread Cert.NetKernelIdeal.nD Cert.NetKernelIdeal.τ).loc Cert.NetKernelIdeal.main_arg18)
      ∧ m' ((c.tc : Thread Cert.NetReferenceIdeal.nD Cert.NetReferenceIdeal.τ).loc Cert.NetReferenceIdeal.main_arg19) = m ((c.tc : Thread Cert.NetKernelIdeal.nD Cert.NetKernelIdeal.τ).loc Cert.NetKernelIdeal.main_arg19)
      ∧ m' ((c.tc : Thread Cert.NetReferenceIdeal.nD Cert.NetReferenceIdeal.τ).loc Cert.NetReferenceIdeal.main_arg20) = m ((c.tc : Thread Cert.NetKernelIdeal.nD Cert.NetKernelIdeal.τ).loc Cert.NetKernelIdeal.main_arg20)
      ∧ m' ((c.tc : Thread Cert.NetReferenceIdeal.nD Cert.NetReferenceIdeal.τ).loc Cert.NetReferenceIdeal.main_arg21) = m ((c.tc : Thread Cert.NetKernelIdeal.nD Cert.NetKernelIdeal.τ).loc Cert.NetKernelIdeal.main_arg21)
      ∧ m' ((c.tc : Thread Cert.NetReferenceIdeal.nD Cert.NetReferenceIdeal.τ).loc Cert.NetReferenceIdeal.main_arg22) = m ((c.tc : Thread Cert.NetKernelIdeal.nD Cert.NetKernelIdeal.τ).loc Cert.NetKernelIdeal.main_arg22)
      ∧ m' ((c.tc : Thread Cert.NetReferenceIdeal.nD Cert.NetReferenceIdeal.τ).loc Cert.NetReferenceIdeal.main_arg23) = m ((c.tc : Thread Cert.NetKernelIdeal.nD Cert.NetKernelIdeal.τ).loc Cert.NetKernelIdeal.main_arg23)
      ∧ m' ((c.tc : Thread Cert.NetReferenceIdeal.nD Cert.NetReferenceIdeal.τ).loc Cert.NetReferenceIdeal.main_arg24) = m ((c.tc : Thread Cert.NetKernelIdeal.nD Cert.NetKernelIdeal.τ).loc Cert.NetKernelIdeal.main_arg24)
      ∧ m' ((c.tc : Thread Cert.NetReferenceIdeal.nD Cert.NetReferenceIdeal.τ).loc Cert.NetReferenceIdeal.main_arg25) = m ((c.tc : Thread Cert.NetKernelIdeal.nD Cert.NetKernelIdeal.τ).loc Cert.NetKernelIdeal.main_arg25)
      ∧ m' ((c.tc : Thread Cert.NetReferenceIdeal.nD Cert.NetReferenceIdeal.τ).loc Cert.NetReferenceIdeal.main_arg26) = m ((c.tc : Thread Cert.NetKernelIdeal.nD Cert.NetKernelIdeal.τ).loc Cert.NetKernelIdeal.main_arg26)
      ∧ m' ((c.tc : Thread Cert.NetReferenceIdeal.nD Cert.NetReferenceIdeal.τ).loc Cert.NetReferenceIdeal.main_arg27) = m ((c.tc : Thread Cert.NetKernelIdeal.nD Cert.NetKernelIdeal.τ).loc Cert.NetKernelIdeal.main_arg27)
      ∧ m' ((c.tc : Thread Cert.NetReferenceIdeal.nD Cert.NetReferenceIdeal.τ).loc Cert.NetReferenceIdeal.main_arg28) = m ((c.tc : Thread Cert.NetKernelIdeal.nD Cert.NetKernelIdeal.τ).loc Cert.NetKernelIdeal.main_arg28)
      ∧ m' ((c.tc : Thread Cert.NetReferenceIdeal.nD Cert.NetReferenceIdeal.τ).loc Cert.NetReferenceIdeal.main_arg29) = m ((c.tc : Thread Cert.NetKernelIdeal.nD Cert.NetKernelIdeal.τ).loc Cert.NetKernelIdeal.main_arg29)
      ∧ m' ((c.tc : Thread Cert.NetReferenceIdeal.nD Cert.NetReferenceIdeal.τ).loc Cert.NetReferenceIdeal.main_arg30) = m ((c.tc : Thread Cert.NetKernelIdeal.nD Cert.NetKernelIdeal.τ).loc Cert.NetKernelIdeal.main_arg30)
      ∧ m' ((c.tc : Thread Cert.NetReferenceIdeal.nD Cert.NetReferenceIdeal.τ).loc Cert.NetReferenceIdeal.main_arg31) = m ((c.tc : Thread Cert.NetKernelIdeal.nD Cert.NetKernelIdeal.τ).loc Cert.NetKernelIdeal.main_arg31)
      ∧ m' ((c.tc : Thread Cert.NetReferenceIdeal.nD Cert.NetReferenceIdeal.τ).loc Cert.NetReferenceIdeal.main_arg32) = m ((c.tc : Thread Cert.NetKernelIdeal.nD Cert.NetKernelIdeal.τ).loc Cert.NetKernelIdeal.main_arg32)
      ∧ m' ((c.tc : Thread Cert.NetReferenceIdeal.nD Cert.NetReferenceIdeal.τ).loc Cert.NetReferenceIdeal.main_arg33) = m ((c.tc : Thread Cert.NetKernelIdeal.nD Cert.NetKernelIdeal.τ).loc Cert.NetKernelIdeal.main_arg33)) →
    ∃ (v0 : (c : Dev Cert.NetKernelIdeal.nD) → Buf (Elt Ideal) ((c.tc : Thread Cert.NetKernelIdeal.nD Cert.NetKernelIdeal.τ).loc Cert.NetKernelIdeal.main_v45)),
      θ_run (Cert.NetKernelIdeal.defs (F := Ideal)) (onTc (τ := Cert.NetKernelIdeal.τ) (Cert.NetKernelIdeal.main (F := Ideal))) ⟨m, fun _ => 0, g⟩ (fun r => ∀ c : Dev Cert.NetKernelIdeal.nD,
          r.2.mem ((c.tc : Thread Cert.NetKernelIdeal.nD Cert.NetKernelIdeal.τ).loc Cert.NetKernelIdeal.main_v45) = v0 c
          ∧ r.2.mem ((c.tc : Thread Cert.NetKernelIdeal.nD Cert.NetKernelIdeal.τ).loc Cert.NetKernelIdeal.main_arg0) = m ((c.tc : Thread Cert.NetKernelIdeal.nD Cert.NetKernelIdeal.τ).loc Cert.NetKernelIdeal.main_arg0)
          ∧ r.2.mem ((c.tc : Thread Cert.NetKernelIdeal.nD Cert.NetKernelIdeal.τ).loc Cert.NetKernelIdeal.main_arg1) = m ((c.tc : Thread Cert.NetKernelIdeal.nD Cert.NetKernelIdeal.τ).loc Cert.NetKernelIdeal.main_arg1)
          ∧ r.2.mem ((c.tc : Thread Cert.NetKernelIdeal.nD Cert.NetKernelIdeal.τ).loc Cert.NetKernelIdeal.main_arg2) = m ((c.tc : Thread Cert.NetKernelIdeal.nD Cert.NetKernelIdeal.τ).loc Cert.NetKernelIdeal.main_arg2)
          ∧ r.2.mem ((c.tc : Thread Cert.NetKernelIdeal.nD Cert.NetKernelIdeal.τ).loc Cert.NetKernelIdeal.main_arg3) = m ((c.tc : Thread Cert.NetKernelIdeal.nD Cert.NetKernelIdeal.τ).loc Cert.NetKernelIdeal.main_arg3)
          ∧ r.2.mem ((c.tc : Thread Cert.NetKernelIdeal.nD Cert.NetKernelIdeal.τ).loc Cert.NetKernelIdeal.main_arg4) = m ((c.tc : Thread Cert.NetKernelIdeal.nD Cert.NetKernelIdeal.τ).loc Cert.NetKernelIdeal.main_arg4)
          ∧ r.2.mem ((c.tc : Thread Cert.NetKernelIdeal.nD Cert.NetKernelIdeal.τ).loc Cert.NetKernelIdeal.main_arg5) = m ((c.tc : Thread Cert.NetKernelIdeal.nD Cert.NetKernelIdeal.τ).loc Cert.NetKernelIdeal.main_arg5)
          ∧ r.2.mem ((c.tc : Thread Cert.NetKernelIdeal.nD Cert.NetKernelIdeal.τ).loc Cert.NetKernelIdeal.main_arg6) = m ((c.tc : Thread Cert.NetKernelIdeal.nD Cert.NetKernelIdeal.τ).loc Cert.NetKernelIdeal.main_arg6)
          ∧ r.2.mem ((c.tc : Thread Cert.NetKernelIdeal.nD Cert.NetKernelIdeal.τ).loc Cert.NetKernelIdeal.main_arg7) = m ((c.tc : Thread Cert.NetKernelIdeal.nD Cert.NetKernelIdeal.τ).loc Cert.NetKernelIdeal.main_arg7)
          ∧ r.2.mem ((c.tc : Thread Cert.NetKernelIdeal.nD Cert.NetKernelIdeal.τ).loc Cert.NetKernelIdeal.main_arg8) = m ((c.tc : Thread Cert.NetKernelIdeal.nD Cert.NetKernelIdeal.τ).loc Cert.NetKernelIdeal.main_arg8)
          ∧ r.2.mem ((c.tc : Thread Cert.NetKernelIdeal.nD Cert.NetKernelIdeal.τ).loc Cert.NetKernelIdeal.main_arg9) = m ((c.tc : Thread Cert.NetKernelIdeal.nD Cert.NetKernelIdeal.τ).loc Cert.NetKernelIdeal.main_arg9)
          ∧ r.2.mem ((c.tc : Thread Cert.NetKernelIdeal.nD Cert.NetKernelIdeal.τ).loc Cert.NetKernelIdeal.main_arg10) = m ((c.tc : Thread Cert.NetKernelIdeal.nD Cert.NetKernelIdeal.τ).loc Cert.NetKernelIdeal.main_arg10)
          ∧ r.2.mem ((c.tc : Thread Cert.NetKernelIdeal.nD Cert.NetKernelIdeal.τ).loc Cert.NetKernelIdeal.main_arg11) = m ((c.tc : Thread Cert.NetKernelIdeal.nD Cert.NetKernelIdeal.τ).loc Cert.NetKernelIdeal.main_arg11)
          ∧ r.2.mem ((c.tc : Thread Cert.NetKernelIdeal.nD Cert.NetKernelIdeal.τ).loc Cert.NetKernelIdeal.main_arg12) = m ((c.tc : Thread Cert.NetKernelIdeal.nD Cert.NetKernelIdeal.τ).loc Cert.NetKernelIdeal.main_arg12)
          ∧ r.2.mem ((c.tc : Thread Cert.NetKernelIdeal.nD Cert.NetKernelIdeal.τ).loc Cert.NetKernelIdeal.main_arg13) = m ((c.tc : Thread Cert.NetKernelIdeal.nD Cert.NetKernelIdeal.τ).loc Cert.NetKernelIdeal.main_arg13)
          ∧ r.2.mem ((c.tc : Thread Cert.NetKernelIdeal.nD Cert.NetKernelIdeal.τ).loc Cert.NetKernelIdeal.main_arg14) = m ((c.tc : Thread Cert.NetKernelIdeal.nD Cert.NetKernelIdeal.τ).loc Cert.NetKernelIdeal.main_arg14)
          ∧ r.2.mem ((c.tc : Thread Cert.NetKernelIdeal.nD Cert.NetKernelIdeal.τ).loc Cert.NetKernelIdeal.main_arg15) = m ((c.tc : Thread Cert.NetKernelIdeal.nD Cert.NetKernelIdeal.τ).loc Cert.NetKernelIdeal.main_arg15)
          ∧ r.2.mem ((c.tc : Thread Cert.NetKernelIdeal.nD Cert.NetKernelIdeal.τ).loc Cert.NetKernelIdeal.main_arg16) = m ((c.tc : Thread Cert.NetKernelIdeal.nD Cert.NetKernelIdeal.τ).loc Cert.NetKernelIdeal.main_arg16)
          ∧ r.2.mem ((c.tc : Thread Cert.NetKernelIdeal.nD Cert.NetKernelIdeal.τ).loc Cert.NetKernelIdeal.main_arg17) = m ((c.tc : Thread Cert.NetKernelIdeal.nD Cert.NetKernelIdeal.τ).loc Cert.NetKernelIdeal.main_arg17)
          ∧ r.2.mem ((c.tc : Thread Cert.NetKernelIdeal.nD Cert.NetKernelIdeal.τ).loc Cert.NetKernelIdeal.main_arg18) = m ((c.tc : Thread Cert.NetKernelIdeal.nD Cert.NetKernelIdeal.τ).loc Cert.NetKernelIdeal.main_arg18)
          ∧ r.2.mem ((c.tc : Thread Cert.NetKernelIdeal.nD Cert.NetKernelIdeal.τ).loc Cert.NetKernelIdeal.main_arg19) = m ((c.tc : Thread Cert.NetKernelIdeal.nD Cert.NetKernelIdeal.τ).loc Cert.NetKernelIdeal.main_arg19)
          ∧ r.2.mem ((c.tc : Thread Cert.NetKernelIdeal.nD Cert.NetKernelIdeal.τ).loc Cert.NetKernelIdeal.main_arg20) = m ((c.tc : Thread Cert.NetKernelIdeal.nD Cert.NetKernelIdeal.τ).loc Cert.NetKernelIdeal.main_arg20)
          ∧ r.2.mem ((c.tc : Thread Cert.NetKernelIdeal.nD Cert.NetKernelIdeal.τ).loc Cert.NetKernelIdeal.main_arg21) = m ((c.tc : Thread Cert.NetKernelIdeal.nD Cert.NetKernelIdeal.τ).loc Cert.NetKernelIdeal.main_arg21)
          ∧ r.2.mem ((c.tc : Thread Cert.NetKernelIdeal.nD Cert.NetKernelIdeal.τ).loc Cert.NetKernelIdeal.main_arg22) = m ((c.tc : Thread Cert.NetKernelIdeal.nD Cert.NetKernelIdeal.τ).loc Cert.NetKernelIdeal.main_arg22)
          ∧ r.2.mem ((c.tc : Thread Cert.NetKernelIdeal.nD Cert.NetKernelIdeal.τ).loc Cert.NetKernelIdeal.main_arg23) = m ((c.tc : Thread Cert.NetKernelIdeal.nD Cert.NetKernelIdeal.τ).loc Cert.NetKernelIdeal.main_arg23)
          ∧ r.2.mem ((c.tc : Thread Cert.NetKernelIdeal.nD Cert.NetKernelIdeal.τ).loc Cert.NetKernelIdeal.main_arg24) = m ((c.tc : Thread Cert.NetKernelIdeal.nD Cert.NetKernelIdeal.τ).loc Cert.NetKernelIdeal.main_arg24)
          ∧ r.2.mem ((c.tc : Thread Cert.NetKernelIdeal.nD Cert.NetKernelIdeal.τ).loc Cert.NetKernelIdeal.main_arg25) = m ((c.tc : Thread Cert.NetKernelIdeal.nD Cert.NetKernelIdeal.τ).loc Cert.NetKernelIdeal.main_arg25)
          ∧ r.2.mem ((c.tc : Thread Cert.NetKernelIdeal.nD Cert.NetKernelIdeal.τ).loc Cert.NetKernelIdeal.main_arg26) = m ((c.tc : Thread Cert.NetKernelIdeal.nD Cert.NetKernelIdeal.τ).loc Cert.NetKernelIdeal.main_arg26)
          ∧ r.2.mem ((c.tc : Thread Cert.NetKernelIdeal.nD Cert.NetKernelIdeal.τ).loc Cert.NetKernelIdeal.main_arg27) = m ((c.tc : Thread Cert.NetKernelIdeal.nD Cert.NetKernelIdeal.τ).loc Cert.NetKernelIdeal.main_arg27)
          ∧ r.2.mem ((c.tc : Thread Cert.NetKernelIdeal.nD Cert.NetKernelIdeal.τ).loc Cert.NetKernelIdeal.main_arg28) = m ((c.tc : Thread Cert.NetKernelIdeal.nD Cert.NetKernelIdeal.τ).loc Cert.NetKernelIdeal.main_arg28)
          ∧ r.2.mem ((c.tc : Thread Cert.NetKernelIdeal.nD Cert.NetKernelIdeal.τ).loc Cert.NetKernelIdeal.main_arg29) = m ((c.tc : Thread Cert.NetKernelIdeal.nD Cert.NetKernelIdeal.τ).loc Cert.NetKernelIdeal.main_arg29)
          ∧ r.2.mem ((c.tc : Thread Cert.NetKernelIdeal.nD Cert.NetKernelIdeal.τ).loc Cert.NetKernelIdeal.main_arg30) = m ((c.tc : Thread Cert.NetKernelIdeal.nD Cert.NetKernelIdeal.τ).loc Cert.NetKernelIdeal.main_arg30)
          ∧ r.2.mem ((c.tc : Thread Cert.NetKernelIdeal.nD Cert.NetKernelIdeal.τ).loc Cert.NetKernelIdeal.main_arg31) = m ((c.tc : Thread Cert.NetKernelIdeal.nD Cert.NetKernelIdeal.τ).loc Cert.NetKernelIdeal.main_arg31)
          ∧ r.2.mem ((c.tc : Thread Cert.NetKernelIdeal.nD Cert.NetKernelIdeal.τ).loc Cert.NetKernelIdeal.main_arg32) = m ((c.tc : Thread Cert.NetKernelIdeal.nD Cert.NetKernelIdeal.τ).loc Cert.NetKernelIdeal.main_arg32)
          ∧ r.2.mem ((c.tc : Thread Cert.NetKernelIdeal.nD Cert.NetKernelIdeal.τ).loc Cert.NetKernelIdeal.main_arg33) = m ((c.tc : Thread Cert.NetKernelIdeal.nD Cert.NetKernelIdeal.τ).loc Cert.NetKernelIdeal.main_arg33))
      ∧ θ_run (Cert.NetReferenceIdeal.defs (F := Ideal)) (onTc (τ := Cert.NetReferenceIdeal.τ) (Cert.NetReferenceIdeal.main (F := Ideal))) ⟨m', fun _ => 0, g'⟩ (fun r => ∀ c : Dev Cert.NetReferenceIdeal.nD,
          r.2.mem ((c.tc : Thread Cert.NetReferenceIdeal.nD Cert.NetReferenceIdeal.τ).loc Cert.NetReferenceIdeal.main_v394) = v0 c
          ∧ r.2.mem ((c.tc : Thread Cert.NetReferenceIdeal.nD Cert.NetReferenceIdeal.τ).loc Cert.NetReferenceIdeal.main_arg0) = m' ((c.tc : Thread Cert.NetReferenceIdeal.nD Cert.NetReferenceIdeal.τ).loc Cert.NetReferenceIdeal.main_arg0)
          ∧ r.2.mem ((c.tc : Thread Cert.NetReferenceIdeal.nD Cert.NetReferenceIdeal.τ).loc Cert.NetReferenceIdeal.main_arg1) = m' ((c.tc : Thread Cert.NetReferenceIdeal.nD Cert.NetReferenceIdeal.τ).loc Cert.NetReferenceIdeal.main_arg1)
          ∧ r.2.mem ((c.tc : Thread Cert.NetReferenceIdeal.nD Cert.NetReferenceIdeal.τ).loc Cert.NetReferenceIdeal.main_arg2) = m' ((c.tc : Thread Cert.NetReferenceIdeal.nD Cert.NetReferenceIdeal.τ).loc Cert.NetReferenceIdeal.main_arg2)
          ∧ r.2.mem ((c.tc : Thread Cert.NetReferenceIdeal.nD Cert.NetReferenceIdeal.τ).loc Cert.NetReferenceIdeal.main_arg3) = m' ((c.tc : Thread Cert.NetReferenceIdeal.nD Cert.NetReferenceIdeal.τ).loc Cert.NetReferenceIdeal.main_arg3)
          ∧ r.2.mem ((c.tc : Thread Cert.NetReferenceIdeal.nD Cert.NetReferenceIdeal.τ).loc Cert.NetReferenceIdeal.main_arg4) = m' ((c.tc : Thread Cert.NetReferenceIdeal.nD Cert.NetReferenceIdeal.τ).loc Cert.NetReferenceIdeal.main_arg4)
          ∧ r.2.mem ((c.tc : Thread Cert.NetReferenceIdeal.nD Cert.NetReferenceIdeal.τ).loc Cert.NetReferenceIdeal.main_arg5) = m' ((c.tc : Thread Cert.NetReferenceIdeal.nD Cert.NetReferenceIdeal.τ).loc Cert.NetReferenceIdeal.main_arg5)
          ∧ r.2.mem ((c.tc : Thread Cert.NetReferenceIdeal.nD Cert.NetReferenceIdeal.τ).loc Cert.NetReferenceIdeal.main_arg6) = m' ((c.tc : Thread Cert.NetReferenceIdeal.nD Cert.NetReferenceIdeal.τ).loc Cert.NetReferenceIdeal.main_arg6)
          ∧ r.2.mem ((c.tc : Thread Cert.NetReferenceIdeal.nD Cert.NetReferenceIdeal.τ).loc Cert.NetReferenceIdeal.main_arg7) = m' ((c.tc : Thread Cert.NetReferenceIdeal.nD Cert.NetReferenceIdeal.τ).loc Cert.NetReferenceIdeal.main_arg7)
          ∧ r.2.mem ((c.tc : Thread Cert.NetReferenceIdeal.nD Cert.NetReferenceIdeal.τ).loc Cert.NetReferenceIdeal.main_arg8) = m' ((c.tc : Thread Cert.NetReferenceIdeal.nD Cert.NetReferenceIdeal.τ).loc Cert.NetReferenceIdeal.main_arg8)
          ∧ r.2.mem ((c.tc : Thread Cert.NetReferenceIdeal.nD Cert.NetReferenceIdeal.τ).loc Cert.NetReferenceIdeal.main_arg9) = m' ((c.tc : Thread Cert.NetReferenceIdeal.nD Cert.NetReferenceIdeal.τ).loc Cert.NetReferenceIdeal.main_arg9)
          ∧ r.2.mem ((c.tc : Thread Cert.NetReferenceIdeal.nD Cert.NetReferenceIdeal.τ).loc Cert.NetReferenceIdeal.main_arg10) = m' ((c.tc : Thread Cert.NetReferenceIdeal.nD Cert.NetReferenceIdeal.τ).loc Cert.NetReferenceIdeal.main_arg10)
          ∧ r.2.mem ((c.tc : Thread Cert.NetReferenceIdeal.nD Cert.NetReferenceIdeal.τ).loc Cert.NetReferenceIdeal.main_arg11) = m' ((c.tc : Thread Cert.NetReferenceIdeal.nD Cert.NetReferenceIdeal.τ).loc Cert.NetReferenceIdeal.main_arg11)
          ∧ r.2.mem ((c.tc : Thread Cert.NetReferenceIdeal.nD Cert.NetReferenceIdeal.τ).loc Cert.NetReferenceIdeal.main_arg12) = m' ((c.tc : Thread Cert.NetReferenceIdeal.nD Cert.NetReferenceIdeal.τ).loc Cert.NetReferenceIdeal.main_arg12)
          ∧ r.2.mem ((c.tc : Thread Cert.NetReferenceIdeal.nD Cert.NetReferenceIdeal.τ).loc Cert.NetReferenceIdeal.main_arg13) = m' ((c.tc : Thread Cert.NetReferenceIdeal.nD Cert.NetReferenceIdeal.τ).loc Cert.NetReferenceIdeal.main_arg13)
          ∧ r.2.mem ((c.tc : Thread Cert.NetReferenceIdeal.nD Cert.NetReferenceIdeal.τ).loc Cert.NetReferenceIdeal.main_arg14) = m' ((c.tc : Thread Cert.NetReferenceIdeal.nD Cert.NetReferenceIdeal.τ).loc Cert.NetReferenceIdeal.main_arg14)
          ∧ r.2.mem ((c.tc : Thread Cert.NetReferenceIdeal.nD Cert.NetReferenceIdeal.τ).loc Cert.NetReferenceIdeal.main_arg15) = m' ((c.tc : Thread Cert.NetReferenceIdeal.nD Cert.NetReferenceIdeal.τ).loc Cert.NetReferenceIdeal.main_arg15)
          ∧ r.2.mem ((c.tc : Thread Cert.NetReferenceIdeal.nD Cert.NetReferenceIdeal.τ).loc Cert.NetReferenceIdeal.main_arg16) = m' ((c.tc : Thread Cert.NetReferenceIdeal.nD Cert.NetReferenceIdeal.τ).loc Cert.NetReferenceIdeal.main_arg16)
          ∧ r.2.mem ((c.tc : Thread Cert.NetReferenceIdeal.nD Cert.NetReferenceIdeal.τ).loc Cert.NetReferenceIdeal.main_arg17) = m' ((c.tc : Thread Cert.NetReferenceIdeal.nD Cert.NetReferenceIdeal.τ).loc Cert.NetReferenceIdeal.main_arg17)
          ∧ r.2.mem ((c.tc : Thread Cert.NetReferenceIdeal.nD Cert.NetReferenceIdeal.τ).loc Cert.NetReferenceIdeal.main_arg18) = m' ((c.tc : Thread Cert.NetReferenceIdeal.nD Cert.NetReferenceIdeal.τ).loc Cert.NetReferenceIdeal.main_arg18)
          ∧ r.2.mem ((c.tc : Thread Cert.NetReferenceIdeal.nD Cert.NetReferenceIdeal.τ).loc Cert.NetReferenceIdeal.main_arg19) = m' ((c.tc : Thread Cert.NetReferenceIdeal.nD Cert.NetReferenceIdeal.τ).loc Cert.NetReferenceIdeal.main_arg19)
          ∧ r.2.mem ((c.tc : Thread Cert.NetReferenceIdeal.nD Cert.NetReferenceIdeal.τ).loc Cert.NetReferenceIdeal.main_arg20) = m' ((c.tc : Thread Cert.NetReferenceIdeal.nD Cert.NetReferenceIdeal.τ).loc Cert.NetReferenceIdeal.main_arg20)
          ∧ r.2.mem ((c.tc : Thread Cert.NetReferenceIdeal.nD Cert.NetReferenceIdeal.τ).loc Cert.NetReferenceIdeal.main_arg21) = m' ((c.tc : Thread Cert.NetReferenceIdeal.nD Cert.NetReferenceIdeal.τ).loc Cert.NetReferenceIdeal.main_arg21)
          ∧ r.2.mem ((c.tc : Thread Cert.NetReferenceIdeal.nD Cert.NetReferenceIdeal.τ).loc Cert.NetReferenceIdeal.main_arg22) = m' ((c.tc : Thread Cert.NetReferenceIdeal.nD Cert.NetReferenceIdeal.τ).loc Cert.NetReferenceIdeal.main_arg22)
          ∧ r.2.mem ((c.tc : Thread Cert.NetReferenceIdeal.nD Cert.NetReferenceIdeal.τ).loc Cert.NetReferenceIdeal.main_arg23) = m' ((c.tc : Thread Cert.NetReferenceIdeal.nD Cert.NetReferenceIdeal.τ).loc Cert.NetReferenceIdeal.main_arg23)
          ∧ r.2.mem ((c.tc : Thread Cert.NetReferenceIdeal.nD Cert.NetReferenceIdeal.τ).loc Cert.NetReferenceIdeal.main_arg24) = m' ((c.tc : Thread Cert.NetReferenceIdeal.nD Cert.NetReferenceIdeal.τ).loc Cert.NetReferenceIdeal.main_arg24)
          ∧ r.2.mem ((c.tc : Thread Cert.NetReferenceIdeal.nD Cert.NetReferenceIdeal.τ).loc Cert.NetReferenceIdeal.main_arg25) = m' ((c.tc : Thread Cert.NetReferenceIdeal.nD Cert.NetReferenceIdeal.τ).loc Cert.NetReferenceIdeal.main_arg25)
          ∧ r.2.mem ((c.tc : Thread Cert.NetReferenceIdeal.nD Cert.NetReferenceIdeal.τ).loc Cert.NetReferenceIdeal.main_arg26) = m' ((c.tc : Thread Cert.NetReferenceIdeal.nD Cert.NetReferenceIdeal.τ).loc Cert.NetReferenceIdeal.main_arg26)
          ∧ r.2.mem ((c.tc : Thread Cert.NetReferenceIdeal.nD Cert.NetReferenceIdeal.τ).loc Cert.NetReferenceIdeal.main_arg27) = m' ((c.tc : Thread Cert.NetReferenceIdeal.nD Cert.NetReferenceIdeal.τ).loc Cert.NetReferenceIdeal.main_arg27)
          ∧ r.2.mem ((c.tc : Thread Cert.NetReferenceIdeal.nD Cert.NetReferenceIdeal.τ).loc Cert.NetReferenceIdeal.main_arg28) = m' ((c.tc : Thread Cert.NetReferenceIdeal.nD Cert.NetReferenceIdeal.τ).loc Cert.NetReferenceIdeal.main_arg28)
          ∧ r.2.mem ((c.tc : Thread Cert.NetReferenceIdeal.nD Cert.NetReferenceIdeal.τ).loc Cert.NetReferenceIdeal.main_arg29) = m' ((c.tc : Thread Cert.NetReferenceIdeal.nD Cert.NetReferenceIdeal.τ).loc Cert.NetReferenceIdeal.main_arg29)
          ∧ r.2.mem ((c.tc : Thread Cert.NetReferenceIdeal.nD Cert.NetReferenceIdeal.τ).loc Cert.NetReferenceIdeal.main_arg30) = m' ((c.tc : Thread Cert.NetReferenceIdeal.nD Cert.NetReferenceIdeal.τ).loc Cert.NetReferenceIdeal.main_arg30)
          ∧ r.2.mem ((c.tc : Thread Cert.NetReferenceIdeal.nD Cert.NetReferenceIdeal.τ).loc Cert.NetReferenceIdeal.main_arg31) = m' ((c.tc : Thread Cert.NetReferenceIdeal.nD Cert.NetReferenceIdeal.τ).loc Cert.NetReferenceIdeal.main_arg31)
          ∧ r.2.mem ((c.tc : Thread Cert.NetReferenceIdeal.nD Cert.NetReferenceIdeal.τ).loc Cert.NetReferenceIdeal.main_arg32) = m' ((c.tc : Thread Cert.NetReferenceIdeal.nD Cert.NetReferenceIdeal.τ).loc Cert.NetReferenceIdeal.main_arg32)
          ∧ r.2.mem ((c.tc : Thread Cert.NetReferenceIdeal.nD Cert.NetReferenceIdeal.τ).loc Cert.NetReferenceIdeal.main_arg33) = m' ((c.tc : Thread Cert.NetReferenceIdeal.nD Cert.NetReferenceIdeal.τ).loc Cert.NetReferenceIdeal.main_arg33))

def Claim : Prop :=
  ∃ (hKernel : Cert.Kernel.Facts) (hKernelIdeal : Cert.KernelIdeal.Facts) (hReferenceIdeal : Cert.ReferenceIdeal.Facts) (hHeadKernel : Cert.HeadKernel.Facts) (hHeadKernelIdeal : Cert.HeadKernelIdeal.Facts) (hHeadReferenceIdeal : Cert.HeadReferenceIdeal.Facts) (hFirstKernel : Cert.FirstKernel.Facts) (hFirstKernelIdeal : Cert.FirstKernelIdeal.Facts) (hFirstReferenceIdeal : Cert.FirstReferenceIdeal.Facts) (hSumsKernel : Cert.SumsKernel.Facts) (hSumsKernelIdeal : Cert.SumsKernelIdeal.Facts) (hSumsReferenceIdeal : Cert.SumsReferenceIdeal.Facts) (hTailKernel : Cert.TailKernel.Facts) (hTailKernelIdeal : Cert.TailKernelIdeal.Facts) (hTailReferenceIdeal : Cert.TailReferenceIdeal.Facts) (hNetKernel : Cert.NetKernel.Facts) (hNetKernelIdeal : Cert.NetKernelIdeal.Facts) (hNetReferenceIdeal : Cert.NetReferenceIdeal.Facts) (hPre_separated : Cert.Pre_separated.Facts) (hPre_head_regular : Cert.Pre_head_regular.Facts) (hPre_first_separated : Cert.Pre_first_separated.Facts) (hPre_tail_finite : Cert.Pre_tail_finite.Facts) (hPre_both_separated : Cert.Pre_both_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_HeadKernel (hHeadKernel := hHeadKernel)
    ∧ quiescent_HeadKernelIdeal (hHeadKernelIdeal := hHeadKernelIdeal)
    ∧ quiescent_HeadKernelIdeal_pre_head_regular (hHeadKernelIdeal := hHeadKernelIdeal) (hPre_head_regular := hPre_head_regular)
    ∧ quiescent_HeadReferenceIdeal (hHeadReferenceIdeal := hHeadReferenceIdeal)
    ∧ quiescent_HeadReferenceIdeal_pre_head_regular (hHeadReferenceIdeal := hHeadReferenceIdeal) (hPre_head_regular := hPre_head_regular)
    ∧ quiescent_FirstKernel (hFirstKernel := hFirstKernel)
    ∧ quiescent_FirstKernelIdeal (hFirstKernelIdeal := hFirstKernelIdeal)
    ∧ quiescent_FirstKernelIdeal_pre_first_separated (hFirstKernelIdeal := hFirstKernelIdeal) (hPre_first_separated := hPre_first_separated)
    ∧ quiescent_FirstReferenceIdeal (hFirstReferenceIdeal := hFirstReferenceIdeal)
    ∧ quiescent_FirstReferenceIdeal_pre_first_separated (hFirstReferenceIdeal := hFirstReferenceIdeal) (hPre_first_separated := hPre_first_separated)
    ∧ quiescent_SumsKernel (hSumsKernel := hSumsKernel)
    ∧ quiescent_SumsKernelIdeal (hSumsKernelIdeal := hSumsKernelIdeal)
    ∧ quiescent_SumsReferenceIdeal (hSumsReferenceIdeal := hSumsReferenceIdeal)
    ∧ quiescent_TailKernel (hTailKernel := hTailKernel)
    ∧ quiescent_TailKernelIdeal (hTailKernelIdeal := hTailKernelIdeal)
    ∧ quiescent_TailKernelIdeal_pre_tail_finite (hTailKernelIdeal := hTailKernelIdeal) (hPre_tail_finite := hPre_tail_finite)
    ∧ quiescent_TailReferenceIdeal (hTailReferenceIdeal := hTailReferenceIdeal)
    ∧ quiescent_TailReferenceIdeal_pre_tail_finite (hTailReferenceIdeal := hTailReferenceIdeal) (hPre_tail_finite := hPre_tail_finite)
    ∧ quiescent_NetKernel (hNetKernel := hNetKernel)
    ∧ quiescent_NetKernelIdeal (hNetKernelIdeal := hNetKernelIdeal)
    ∧ quiescent_NetKernelIdeal_pre_both_separated (hNetKernelIdeal := hNetKernelIdeal) (hPre_both_separated := hPre_both_separated)
    ∧ quiescent_NetReferenceIdeal (hNetReferenceIdeal := hNetReferenceIdeal)
    ∧ quiescent_NetReferenceIdeal_pre_both_separated (hNetReferenceIdeal := hNetReferenceIdeal) (hPre_both_separated := hPre_both_separated)
    ∧ preserves_Kernel_KernelIdeal
    ∧ algebraic_KernelIdeal_ReferenceIdeal_pre_separated (hKernelIdeal := hKernelIdeal) (hReferenceIdeal := hReferenceIdeal) (hPre_separated := hPre_separated)
    ∧ preserves_HeadKernel_HeadKernelIdeal
    ∧ algebraic_HeadKernelIdeal_HeadReferenceIdeal_pre_head_regular (hHeadKernelIdeal := hHeadKernelIdeal) (hHeadReferenceIdeal := hHeadReferenceIdeal) (hPre_head_regular := hPre_head_regular)
    ∧ preserves_FirstKernel_FirstKernelIdeal
    ∧ algebraic_FirstKernelIdeal_FirstReferenceIdeal_pre_first_separated (hFirstKernelIdeal := hFirstKernelIdeal) (hFirstReferenceIdeal := hFirstReferenceIdeal) (hPre_first_separated := hPre_first_separated)
    ∧ preserves_SumsKernel_SumsKernelIdeal
    ∧ algebraic_SumsKernelIdeal_SumsReferenceIdeal (hSumsKernelIdeal := hSumsKernelIdeal) (hSumsReferenceIdeal := hSumsReferenceIdeal)
    ∧ preserves_TailKernel_TailKernelIdeal
    ∧ algebraic_TailKernelIdeal_TailReferenceIdeal_pre_tail_finite (hTailKernelIdeal := hTailKernelIdeal) (hTailReferenceIdeal := hTailReferenceIdeal) (hPre_tail_finite := hPre_tail_finite)
    ∧ preserves_NetKernel_NetKernelIdeal
    ∧ algebraic_NetKernelIdeal_NetReferenceIdeal_pre_both_separated (hNetKernelIdeal := hNetKernelIdeal) (hNetReferenceIdeal := hNetReferenceIdeal) (hPre_both_separated := hPre_both_separated)
-- ==== Pre_both_separated.lean ====
abbrev S256x8x128 : Shape := ⟨3, ![256, 8, 128]⟩
abbrev S256x32x128 : Shape := ⟨3, ![256, 32, 128]⟩
abbrev S32 : Shape := ⟨1, ![32]⟩
abbrev S32x64 : Shape := ⟨2, ![32, 64]⟩
abbrev S32x32 : Shape := ⟨2, ![32, 32]⟩
abbrev S64x64 : Shape := ⟨2, ![64, 64]⟩
abbrev S64 : Shape := ⟨1, ![64]⟩
abbrev S64x32 : Shape := ⟨2, ![64, 32]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S8x32 : Shape := ⟨2, ![8, 32]⟩
abbrev S8x64 : Shape := ⟨2, ![8, 64]⟩
abbrev S_ : Shape := ⟨0, ![]⟩
abbrev S256x128 : Shape := ⟨2, ![256, 128]⟩
abbrev S256x1x128 : Shape := ⟨3, ![256, 1, 128]⟩
abbrev S256x128x1 : Shape := ⟨3, ![256, 128, 1]⟩
abbrev S256x128x8 : Shape := ⟨3, ![256, 128, 8]⟩
abbrev S1x32 : Shape := ⟨2, ![1, 32]⟩
abbrev S1x32x1 : Shape := ⟨3, ![1, 32, 1]⟩
abbrev S256x128x128 : Shape := ⟨3, ![256, 128, 128]⟩
abbrev S256x128x7 : Shape := ⟨3, ![256, 128, 7]⟩
abbrev S256x128x32 : Shape := ⟨3, ![256, 128, 32]⟩
abbrev S256 : Shape := ⟨1, ![256]⟩
abbrev S256x1x1 : Shape := ⟨3, ![256, 1, 1]⟩
abbrev S256x128x7x1 : Shape := ⟨4, ![256, 128, 7, 1]⟩
abbrev S256x128x7x2 : Shape := ⟨4, ![256, 128, 7, 2]⟩
abbrev S256x128x7x32 : Shape := ⟨4, ![256, 128, 7, 32]⟩
abbrev S256x32x128x7 : Shape := ⟨4, ![256, 32, 128, 7]⟩
abbrev S256x32x128x1 : Shape := ⟨4, ![256, 32, 128, 1]⟩
abbrev S256x64x128x7 : Shape := ⟨4, ![256, 64, 128, 7]⟩
abbrev S1x32x1x1 : Shape := ⟨4, ![1, 32, 1, 1]⟩
abbrev S1x64 : Shape := ⟨2, ![1, 64]⟩
abbrev S256x128x9 : Shape := ⟨3, ![256, 128, 9]⟩

class Facts : Prop where
  reducesTo_S256x32x128_S256x128_d1 : S256x32x128.ReducesTo [1] S256x128
  h_S_ : 0 < S_.numel
  bcast_S256x128_S256x1x128_0_2 : S256x128.BroadcastsInDim S256x1x128 (![0, 2] : Fin 2 → Fin S256x1x128.rank)
  bcast_S_S256x1x128 : S_.BroadcastsInDim S256x1x128 (![] : Fin 0 → Fin S256x1x128.rank)
  transposes_S256x1x128_S256x128x1_0_2_1 : S256x1x128.Transposes [0, 2, 1] S256x128x1
  bcast_S_S256x128x1 : S_.BroadcastsInDim S256x128x1 (![] : Fin 0 → Fin S256x128x1.rank)
  bcast_S256x128x1_S256x128x8_0_1_2 : S256x128x1.BroadcastsInDim S256x128x8 (![0, 1, 2] : Fin 3 → Fin S256x128x8.rank)
  bcast_S256x1x128_S256x8x128_0_1_2 : S256x1x128.BroadcastsInDim S256x8x128 (![0, 1, 2] : Fin 3 → Fin S256x8x128.rank)
  bcast_S256x1x128_S256x32x128_0_1_2 : S256x1x128.BroadcastsInDim S256x32x128 (![0, 1, 2] : Fin 3 → Fin S256x32x128.rank)
  slices_S8x32_S1x32_0_0 : S8x32.Slices ![0, 0] S1x32
  shapeCasts_S1x32_S32 : S1x32.ShapeCasts S32
  slices_S8x32_S1x32_1_0 : S8x32.Slices ![1, 0] S1x32
  bcast_S_S32 : S_.BroadcastsInDim S32 (![] : Fin 0 → Fin S32.rank)
  shapeCasts_S32_S1x32x1 : S32.ShapeCasts S1x32x1
  bcast_S1x32x1_S256x32x128_0_1_2 : S1x32x1.BroadcastsInDim S256x32x128 (![0, 1, 2] : Fin 3 → Fin S256x32x128.rank)
  bcast_S_S1x32x1 : S_.BroadcastsInDim S1x32x1 (![] : Fin 0 → Fin S1x32x1.rank)
  bcast_S_S256x128x128 : S_.BroadcastsInDim S256x128x128 (![] : Fin 0 → Fin S256x128x128.rank)
  reducesTo_S256x8x128_S256x128_d1 : S256x8x128.ReducesTo [1] S256x128
  bcast_S256x1x128_S256x128x128_0_1_2 : S256x1x128.BroadcastsInDim S256x128x128 (![0, 1, 2] : Fin 3 → Fin S256x128x128.rank)
  bcast_S256x128x1_S256x128x128_0_1_2 : S256x128x1.BroadcastsInDim S256x128x128 (![0, 1, 2] : Fin 3 → Fin S256x128x128.rank)
  sliceFits_S256x128x128_S256x128x8 : S256x128x128.Slices (fun _ => 0) S256x128x8
  slices_S256x128x8_S256x128x7_0_0_1 : S256x128x8.Slices ![0, 0, 1] S256x128x7
  transposes_S256x32x128_S256x128x32_0_2_1 : S256x32x128.Transposes [0, 2, 1] S256x128x32
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S_S256x128x7 : S_.BroadcastsInDim S256x128x7 (![] : Fin 0 → Fin S256x128x7.rank)
  bcast_S256x1x1_S256x128x7_0_1_2 : S256x1x1.BroadcastsInDim S256x128x7 (![0, 1, 2] : Fin 3 → Fin S256x128x7.rank)
  bcast_S256x128x7_S256x128x7x1_0_1_2 : S256x128x7.BroadcastsInDim S256x128x7x1 (![0, 1, 2] : Fin 3 → Fin S256x128x7x1.rank)
  concatenates_S256x128x7x1_S256x128x7x1_S256x128x7x2_d3 : Shape.Concatenates [S256x128x7x1, S256x128x7x1] S256x128x7x2 3
  transposes_S256x128x7x32_S256x32x128x7_0_3_1_2 : S256x128x7x32.Transposes [0, 3, 1, 2] S256x32x128x7
  bcast_S256x32x128_S256x32x128x1_0_1_2 : S256x32x128.BroadcastsInDim S256x32x128x1 (![0, 1, 2] : Fin 3 → Fin S256x32x128x1.rank)
  bcast_S256x32x128x1_S256x32x128x7_0_1_2_3 : S256x32x128x1.BroadcastsInDim S256x32x128x7 (![0, 1, 2, 3] : Fin 4 → Fin S256x32x128x7.rank)
  concatenates_S256x32x128x7_S256x32x128x7_S256x64x128x7_d1 : Shape.Concatenates [S256x32x128x7, S256x32x128x7] S256x64x128x7 1
  slices_S8x32_S1x32_2_0 : S8x32.Slices ![2, 0] S1x32
  slices_S8x32_S1x32_3_0 : S8x32.Slices ![3, 0] S1x32
  shapeCasts_S32_S1x32x1x1 : S32.ShapeCasts S1x32x1x1
  bcast_S1x32x1x1_S256x32x128x7_0_1_2_3 : S1x32x1x1.BroadcastsInDim S256x32x128x7 (![0, 1, 2, 3] : Fin 4 → Fin S256x32x128x7.rank)
  bcast_S_S1x32x1x1 : S_.BroadcastsInDim S1x32x1x1 (![] : Fin 0 → Fin S1x32x1x1.rank)
  bcast_S_S256x32x128x7 : S_.BroadcastsInDim S256x32x128x7 (![] : Fin 0 → Fin S256x32x128x7.rank)
  slices_S8x32_S1x32_4_0 : S8x32.Slices ![4, 0] S1x32
  slices_S8x32_S1x32_5_0 : S8x32.Slices ![5, 0] S1x32
  slices_S8x32_S1x32_6_0 : S8x32.Slices ![6, 0] S1x32
  slices_S8x32_S1x32_7_0 : S8x32.Slices ![7, 0] S1x32
  reducesTo_S256x32x128x7_S256x32x128_d3 : S256x32x128x7.ReducesTo [3] S256x32x128
  bcast_S_S256x32x128 : S_.BroadcastsInDim S256x32x128 (![] : Fin 0 → Fin S256x32x128.rank)
  bcast_S_S256x8x128 : S_.BroadcastsInDim S256x8x128 (![] : Fin 0 → Fin S256x8x128.rank)
  reducesTo_S256x8x128_S_d0_1_2 : S256x8x128.ReducesTo [0, 1, 2] S_
  reducesTo_S256x32x128_S_d0_1_2 : S256x32x128.ReducesTo [0, 1, 2] S_
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S8x32 : S_.BroadcastsInDim S8x32 (![] : Fin 0 → Fin S8x32.rank)
  reducesTo_S8x32_S_d0_1 : S8x32.ReducesTo [0, 1] S_
  bcast_S_S8x64 : S_.BroadcastsInDim S8x64 (![] : Fin 0 → Fin S8x64.rank)
  reducesTo_S8x64_S_d0_1 : S8x64.ReducesTo [0, 1] S_
  slices_S8x64_S1x64_0_0 : S8x64.Slices ![0, 0] S1x64
  shapeCasts_S1x64_S64 : S1x64.ShapeCasts S64
  slices_S8x64_S1x64_1_0 : S8x64.Slices ![1, 0] S1x64
  slices_S8x64_S1x64_2_0 : S8x64.Slices ![2, 0] S1x64
  slices_S8x64_S1x64_3_0 : S8x64.Slices ![3, 0] S1x64
  slices_S8x64_S1x64_4_0 : S8x64.Slices ![4, 0] S1x64
  slices_S8x64_S1x64_5_0 : S8x64.Slices ![5, 0] S1x64
  slices_S8x64_S1x64_6_0 : S8x64.Slices ![6, 0] S1x64
  slices_S8x64_S1x64_7_0 : S8x64.Slices ![7, 0] S1x64
  sliceFits_S256x128x128_S256x128x9 : S256x128x128.Slices (fun _ => 0) S256x128x9
  slices_S256x128x9_S256x128x8_0_0_0 : S256x128x9.Slices ![0, 0, 0] S256x128x8
  slices_S256x128x9_S256x128x8_0_0_1 : S256x128x9.Slices ![0, 0, 1] S256x128x8
  dot_S256x8x128_S256x8x128_S256x128x128_1_1_2_2_0_0_wf : DotDims.WF S256x8x128 S256x8x128 S256x128x128 [1] [1] [2] [2] [0] [0]
  gather_S256x128x32_S256x128x7x2_S256x128x7x32_3_01_n_n_01_3_1132_wf : GatherDims.WF S256x128x32 S256x128x7x2 S256x128x7x32 [3] [0, 1] [] [0, 1] [] 3 ![1, 1, 32]
  dot_S256x64x128x7_S32x64_S256x128x7x32_1_1_023_0_n_n_wf : DotDims.WF S256x64x128x7 S32x64 S256x128x7x32 [1] [1] [0, 2, 3] [0] [] []
  dot_S256x32x128x7_S32x32_S256x128x7x32_1_1_023_0_n_n_wf : DotDims.WF S256x32x128x7 S32x32 S256x128x7x32 [1] [1] [0, 2, 3] [0] [] []
  dot_S256x32x128_S256x32x128_S256x128x128_1_1_2_2_0_0_wf : DotDims.WF S256x32x128 S256x32x128 S256x128x128 [1] [1] [2] [2] [0] [0]

variable [Facts]

def dot_S256x8x128_S256x8x128_S256x128x128_1_1_2_2_0_0 : DotDims S256x8x128 S256x8x128 S256x128x128 where
  lhsContracting := [1]
  rhsContracting := [1]
  lhsNonContracting := [2]
  rhsNonContracting := [2]
  lhsBatch := [0]
  rhsBatch := [0]
  wf := dot_S256x8x128_S256x8x128_S256x128x128_1_1_2_2_0_0_wf
def gather_S256x128x32_S256x128x7x2_S256x128x7x32_3_01_n_n_01_3_1132 : GatherDims S256x128x32 S256x128x7x2 S256x128x7x32 where
  offsetDims := [3]
  collapsedSliceDims := [0, 1]
  operandBatchingDims := []
  startIndicesBatchingDims := []
  startIndexMap := [0, 1]
  indexVectorDim := 3
  sliceSizes := ![1, 1, 32]
  wf := gather_S256x128x32_S256x128x7x2_S256x128x7x32_3_01_n_n_01_3_1132_wf
def dot_S256x64x128x7_S32x64_S256x128x7x32_1_1_023_0_n_n : DotDims S256x64x128x7 S32x64 S256x128x7x32 where
  lhsContracting := [1]
  rhsContracting := [1]
  lhsNonContracting := [0, 2, 3]
  rhsNonContracting := [0]
  lhsBatch := []
  rhsBatch := []
  wf := dot_S256x64x128x7_S32x64_S256x128x7x32_1_1_023_0_n_n_wf
def dot_S256x32x128x7_S32x32_S256x128x7x32_1_1_023_0_n_n : DotDims S256x32x128x7 S32x32 S256x128x7x32 where
  lhsContracting := [1]
  rhsContracting := [1]
  lhsNonContracting := [0, 2, 3]
  rhsNonContracting := [0]
  lhsBatch := []
  rhsBatch := []
  wf := dot_S256x32x128x7_S32x32_S256x128x7x32_1_1_023_0_n_n_wf
def dot_S256x32x128_S256x32x128_S256x128x128_1_1_2_2_0_0 : DotDims S256x32x128 S256x32x128 S256x128x128 where
  lhsContracting := [1]
  rhsContracting := [1]
  lhsNonContracting := [2]
  rhsNonContracting := [2]
  lhsBatch := [0]
  rhsBatch := [0]
  wf := dot_S256x32x128_S256x32x128_S256x128x128_1_1_2_2_0_0_wf
def fn_part26 {F : FTy → Type} [FloatOps F] (main_v9 : IVec S256x128x8 1) (main_v184 : FVec F S256x32x128 .f32) (main_v328 : IVec S_ 1) (main_v391 : IVec S_ 1) (main_v454 : IVec S_ 1) (main_v479 : IVec S256x128x8 1) (main_v484 : FVec F S256x1x128 .f32) : IVec S_ 1 × IVec S_ 1 × IVec S_ 1 × IVec S256x128x8 1 × IVec S256x128x8 1 :=
  let main_v485 : FVec F S256x32x128 .f32 := broadcastInDim S256x32x128 ![0, 1, 2] bcast_S256x1x128_S256x32x128_0_1_2 main_v484
  let main_v486 : FVec F S256x32x128 .f32 := addf main_v184 main_v485
  let main_v487 : FVec F S256x128x128 .f32 := (fun l r => Host.dotGeneral dot_S256x32x128_S256x32x128_S256x128x128_1_1_2_2_0_0 none l r) main_v486 main_v486
  let main_cst_135 : FVec F S_ .f32 := constant S_ .f32 0xC0000000#32
  let main_v488 : FVec F S256x128x128 .f32 := broadcastInDim S256x128x128 ![] bcast_S_S256x128x128 main_cst_135
  let main_v489 : FVec F S256x128x128 .f32 := mulf main_v488 main_v487
  let main_v490 : FVec F S256x32x128 .f32 := mulf main_v486 main_v486
  let main_cst_136 : FVec F S_ .f32 := constant S_ .f32 0x00000000#32
  let main_v491 : FVec F S256x128 .f32 := (fun x v => Host.reduceAdd x v reducesTo_S256x32x128_S256x128_d1 h_S_) main_v490 main_cst_136
  let main_v492 : FVec F S256x1x128 .f32 := broadcastInDim S256x1x128 ![0, 2] bcast_S256x128_S256x1x128_0_2 main_v491
  let main_v493 : FVec F S256x1x128 .f32 := Host.negf main_v492
  let main_v494 : FVec F S256x128x128 .f32 := broadcastInDim S256x128x128 ![0, 1, 2] bcast_S256x1x128_S256x128x128_0_1_2 main_v493
  let main_v495 : FVec F S256x128x128 .f32 := subf main_v494 main_v489
  let main_v496 : FVec F S256x128x1 .f32 := (transpose S256x128x1 [0, 2, 1] · transposes_S256x1x128_S256x128x1_0_2_1) main_v492
  let main_v497 : FVec F S256x128x128 .f32 := broadcastInDim S256x128x128 ![0, 1, 2] bcast_S256x128x1_S256x128x128_0_1_2 main_v496
  let main_v498 : FVec F S256x128x128 .f32 := subf main_v495 main_v497
  let main_values_137 : FVec F S256x128x9 .f32 := (fun x => (Host.topK S256x128x9 2 (FloatOps.cmpfTotal .gt) x sliceFits_S256x128x128_S256x128x9).1) main_v498
  let main_indices_138 : IVec S256x128x9 32 := (fun x => (Host.topK S256x128x9 2 (FloatOps.cmpfTotal .gt) x sliceFits_S256x128x128_S256x128x9).2) main_v498
  let main_v499 : FVec F S256x128x8 .f32 := (extractStridedSlice S256x128x8 ![0, 0, 0] · slices_S256x128x9_S256x128x8_0_0_0) main_values_137
  let main_v500 : FVec F S256x128x8 .f32 := (extractStridedSlice S256x128x8 ![0, 0, 1] · slices_S256x128x9_S256x128x8_0_0_1) main_values_137
  let main_v501 : IVec S256x128x8 1 := cmpf .ogt main_v499 main_v500
  let main_v502 : IVec S256x128x8 1 := ori main_v9 main_v501
  (main_v328, main_v391, main_v454, main_v479, main_v502)

def fn_part25 {F : FTy → Type} [FloatOps F] (main_v5 : FVec F S256x1x128 .f32) (main_v9 : IVec S256x128x8 1) (main_v184 : FVec F S256x32x128 .f32) (main_v328 : IVec S_ 1) (main_v391 : IVec S_ 1) (main_v454 : IVec S_ 1) (main_v463 : FVec F S256x8x128 .f32) (main_v464 : FVec F S256x128x128 .f32) (main_v465 : FVec F S256x128x128 .f32) : IVec S_ 1 × IVec S_ 1 × IVec S_ 1 × IVec S256x128x8 1 × IVec S256x128x8 1 :=
  let main_v466 : FVec F S256x128x128 .f32 := mulf main_v465 main_v464
  let main_v467 : FVec F S256x8x128 .f32 := mulf main_v463 main_v463
  let main_cst_130 : FVec F S_ .f32 := constant S_ .f32 0x00000000#32
  let main_v468 : FVec F S256x128 .f32 := (fun x v => Host.reduceAdd x v reducesTo_S256x8x128_S256x128_d1 h_S_) main_v467 main_cst_130
  let main_v469 : FVec F S256x1x128 .f32 := broadcastInDim S256x1x128 ![0, 2] bcast_S256x128_S256x1x128_0_2 main_v468
  let main_v470 : FVec F S256x1x128 .f32 := Host.negf main_v469
  let main_v471 : FVec F S256x128x128 .f32 := broadcastInDim S256x128x128 ![0, 1, 2] bcast_S256x1x128_S256x128x128_0_1_2 main_v470
  let main_v472 : FVec F S256x128x128 .f32 := subf main_v471 main_v466
  let main_v473 : FVec F S256x128x1 .f32 := (transpose S256x128x1 [0, 2, 1] · transposes_S256x1x128_S256x128x1_0_2_1) main_v469
  let main_v474 : FVec F S256x128x128 .f32 := broadcastInDim S256x128x128 ![0, 1, 2] bcast_S256x128x1_S256x128x128_0_1_2 main_v473
  let main_v475 : FVec F S256x128x128 .f32 := subf main_v472 main_v474
  let main_values_131 : FVec F S256x128x9 .f32 := (fun x => (Host.topK S256x128x9 2 (FloatOps.cmpfTotal .gt) x sliceFits_S256x128x128_S256x128x9).1) main_v475
  let main_indices_132 : IVec S256x128x9 32 := (fun x => (Host.topK S256x128x9 2 (FloatOps.cmpfTotal .gt) x sliceFits_S256x128x128_S256x128x9).2) main_v475
  let main_v476 : FVec F S256x128x8 .f32 := (extractStridedSlice S256x128x8 ![0, 0, 0] · slices_S256x128x9_S256x128x8_0_0_0) main_values_131
  let main_v477 : FVec F S256x128x8 .f32 := (extractStridedSlice S256x128x8 ![0, 0, 1] · slices_S256x128x9_S256x128x8_0_0_1) main_values_131
  let main_v478 : IVec S256x128x8 1 := cmpf .ogt main_v476 main_v477
  let main_v479 : IVec S256x128x8 1 := ori main_v9 main_v478
  let main_cst_133 : FVec F S_ .f32 := constant S_ .f32 0x00000000#32
  let main_v480 : FVec F S256x1x128 .f32 := broadcastInDim S256x1x128 ![] bcast_S_S256x1x128 main_cst_133
  let main_v481 : IVec S256x1x128 1 := cmpf .oeq main_v5 main_v480
  let main_v482 : FVec F S256x1x128 .f32 := uitofp .f32 main_v481
  let main_cst_134 : FVec F S_ .f32 := constant S_ .f32 0x4E6E6B28#32
  let main_v483 : FVec F S256x1x128 .f32 := broadcastInDim S256x1x128 ![] bcast_S_S256x1x128 main_cst_134
  let main_v484 : FVec F S256x1x128 .f32 := mulf main_v482 main_v483
  fn_part26 (F := F) main_v9 main_v184 main_v328 main_v391 main_v454 main_v479 main_v484

def fn_part24 {F : FTy → Type} [FloatOps F] (main_arg0 : FVec F S256x8x128 .f32) (main_v5 : FVec F S256x1x128 .f32) (main_v9 : IVec S256x128x8 1) (main_v184 : FVec F S256x32x128 .f32) (main_v328 : IVec S_ 1) (main_v391 : IVec S_ 1) (main_v406 : IVec S_ 1) (main_v421 : IVec S_ 1) (main_v436 : IVec S_ 1) (main_v446 : FVec F S64 .f32) (main_cst_124 : FVec F S_ .f32) : IVec S_ 1 × IVec S_ 1 × IVec S_ 1 × IVec S256x128x8 1 × IVec S256x128x8 1 :=
  let main_v447 : FVec F S64 .f32 := broadcastInDim S64 ![] bcast_S_S64 main_cst_124
  let main_v448 : FVec F S64 .f32 := addf main_v446 main_v447
  let main_cst_125 : FVec F S_ .f32 := constant S_ .f32 0x00000000#32
  let main_v449 : FVec F S64 .f32 := broadcastInDim S64 ![] bcast_S_S64 main_cst_125
  let main_v450 : IVec S64 1 := cmpf .ogt main_v448 main_v449
  let main_c_126 : IVec S_ 1 := constantI S_ 1 1#1
  let main_v451 : IVec S_ 1 := (fun x v => Host.reduce IntOp.andi x v reducesTo_S64_S_d0 h_S_) main_v450 main_c_126
  let main_v452 : IVec S_ 1 := andi main_v406 main_v421
  let main_v453 : IVec S_ 1 := andi main_v452 main_v436
  let main_v454 : IVec S_ 1 := andi main_v453 main_v451
  let main_v455 : FVec F S256x8x128 .f32 := broadcastInDim S256x8x128 ![0, 1, 2] bcast_S256x1x128_S256x8x128_0_1_2 main_v5
  let main_v456 : FVec F S256x8x128 .f32 := mulf main_arg0 main_v455
  let main_cst_127 : FVec F S_ .f32 := constant S_ .f32 0x00000000#32
  let main_v457 : FVec F S256x1x128 .f32 := broadcastInDim S256x1x128 ![] bcast_S_S256x1x128 main_cst_127
  let main_v458 : IVec S256x1x128 1 := cmpf .oeq main_v5 main_v457
  let main_v459 : FVec F S256x1x128 .f32 := uitofp .f32 main_v458
  let main_cst_128 : FVec F S_ .f32 := constant S_ .f32 0x4E6E6B28#32
  let main_v460 : FVec F S256x1x128 .f32 := broadcastInDim S256x1x128 ![] bcast_S_S256x1x128 main_cst_128
  let main_v461 : FVec F S256x1x128 .f32 := mulf main_v459 main_v460
  let main_v462 : FVec F S256x8x128 .f32 := broadcastInDim S256x8x128 ![0, 1, 2] bcast_S256x1x128_S256x8x128_0_1_2 main_v461
  let main_v463 : FVec F S256x8x128 .f32 := addf main_v456 main_v462
  let main_v464 : FVec F S256x128x128 .f32 := (fun l r => Host.dotGeneral dot_S256x8x128_S256x8x128_S256x128x128_1_1_2_2_0_0 none l r) main_v463 main_v463
  let main_cst_129 : FVec F S_ .f32 := constant S_ .f32 0xC0000000#32
  let main_v465 : FVec F S256x128x128 .f32 := broadcastInDim S256x128x128 ![] bcast_S_S256x128x128 main_cst_129
  fn_part25 (F := F) main_v5 main_v9 main_v184 main_v328 main_v391 main_v454 main_v463 main_v464 main_v465

def fn_part23 {F : FTy → Type} [FloatOps F] (main_arg0 : FVec F S256x8x128 .f32) (main_arg33 : FVec F S8x64 .f32) (main_v5 : FVec F S256x1x128 .f32) (main_v9 : IVec S256x128x8 1) (main_v184 : FVec F S256x32x128 .f32) (main_v328 : IVec S_ 1) (main_v391 : IVec S_ 1) (main_v406 : IVec S_ 1) (main_v421 : IVec S_ 1) (main_v425 : FVec F S64 .f32) (main_v427 : FVec F S64 .f32) (main_v428 : FVec F S64 .f32) : IVec S_ 1 × IVec S_ 1 × IVec S_ 1 × IVec S256x128x8 1 × IVec S256x128x8 1 :=
  let main_v429 : FVec F S64 .f32 := Host.divf main_v427 main_v428
  let main_v430 : FVec F S64 .f32 := mulf main_v425 main_v425
  let main_v431 : FVec F S64 .f32 := subf main_v429 main_v430
  let main_cst_119 : FVec F S_ .f32 := constant S_ .f32 0x3727C5AC#32
  let main_v432 : FVec F S64 .f32 := broadcastInDim S64 ![] bcast_S_S64 main_cst_119
  let main_v433 : FVec F S64 .f32 := addf main_v431 main_v432
  let main_cst_120 : FVec F S_ .f32 := constant S_ .f32 0x00000000#32
  let main_v434 : FVec F S64 .f32 := broadcastInDim S64 ![] bcast_S_S64 main_cst_120
  let main_v435 : IVec S64 1 := cmpf .ogt main_v433 main_v434
  let main_c_121 : IVec S_ 1 := constantI S_ 1 1#1
  let main_v436 : IVec S_ 1 := (fun x v => Host.reduce IntOp.andi x v reducesTo_S64_S_d0 h_S_) main_v435 main_c_121
  let main_v437 : FVec F S1x64 .f32 := (extractStridedSlice S1x64 ![6, 0] · slices_S8x64_S1x64_6_0) main_arg33
  let main_v438 : FVec F S64 .f32 := shapeCast S64 main_v437 shapeCasts_S1x64_S64
  let main_cst_122 : FVec F S_ .f32 := constant S_ .f32 0x48600000#32
  let main_v439 : FVec F S64 .f32 := broadcastInDim S64 ![] bcast_S_S64 main_cst_122
  let main_v440 : FVec F S64 .f32 := Host.divf main_v438 main_v439
  let main_v441 : FVec F S1x64 .f32 := (extractStridedSlice S1x64 ![7, 0] · slices_S8x64_S1x64_7_0) main_arg33
  let main_v442 : FVec F S64 .f32 := shapeCast S64 main_v441 shapeCasts_S1x64_S64
  let main_cst_123 : FVec F S_ .f32 := constant S_ .f32 0x48600000#32
  let main_v443 : FVec F S64 .f32 := broadcastInDim S64 ![] bcast_S_S64 main_cst_123
  let main_v444 : FVec F S64 .f32 := Host.divf main_v442 main_v443
  let main_v445 : FVec F S64 .f32 := mulf main_v440 main_v440
  let main_v446 : FVec F S64 .f32 := subf main_v444 main_v445
  let main_cst_124 : FVec F S_ .f32 := constant S_ .f32 0x3727C5AC#32
  fn_part24 (F := F) main_arg0 main_v5 main_v9 main_v184 main_v328 main_v391 main_v406 main_v421 main_v436 main_v446 main_cst_124

def fn_part22 {F : FTy → Type} [FloatOps F] (main_arg0 : FVec F S256x8x128 .f32) (main_arg33 : FVec F S8x64 .f32) (main_v5 : FVec F S256x1x128 .f32) (main_v9 : IVec S256x128x8 1) (main_v184 : FVec F S256x32x128 .f32) (main_v328 : IVec S_ 1) (main_v391 : IVec S_ 1) (main_v406 : IVec S_ 1) (main_v410 : FVec F S64 .f32) : IVec S_ 1 × IVec S_ 1 × IVec S_ 1 × IVec S256x128x8 1 × IVec S256x128x8 1 :=
  let main_v411 : FVec F S1x64 .f32 := (extractStridedSlice S1x64 ![3, 0] · slices_S8x64_S1x64_3_0) main_arg33
  let main_v412 : FVec F S64 .f32 := shapeCast S64 main_v411 shapeCasts_S1x64_S64
  let main_cst_113 : FVec F S_ .f32 := constant S_ .f32 0x48600000#32
  let main_v413 : FVec F S64 .f32 := broadcastInDim S64 ![] bcast_S_S64 main_cst_113
  let main_v414 : FVec F S64 .f32 := Host.divf main_v412 main_v413
  let main_v415 : FVec F S64 .f32 := mulf main_v410 main_v410
  let main_v416 : FVec F S64 .f32 := subf main_v414 main_v415
  let main_cst_114 : FVec F S_ .f32 := constant S_ .f32 0x3727C5AC#32
  let main_v417 : FVec F S64 .f32 := broadcastInDim S64 ![] bcast_S_S64 main_cst_114
  let main_v418 : FVec F S64 .f32 := addf main_v416 main_v417
  let main_cst_115 : FVec F S_ .f32 := constant S_ .f32 0x00000000#32
  let main_v419 : FVec F S64 .f32 := broadcastInDim S64 ![] bcast_S_S64 main_cst_115
  let main_v420 : IVec S64 1 := cmpf .ogt main_v418 main_v419
  let main_c_116 : IVec S_ 1 := constantI S_ 1 1#1
  let main_v421 : IVec S_ 1 := (fun x v => Host.reduce IntOp.andi x v reducesTo_S64_S_d0 h_S_) main_v420 main_c_116
  let main_v422 : FVec F S1x64 .f32 := (extractStridedSlice S1x64 ![4, 0] · slices_S8x64_S1x64_4_0) main_arg33
  let main_v423 : FVec F S64 .f32 := shapeCast S64 main_v422 shapeCasts_S1x64_S64
  let main_cst_117 : FVec F S_ .f32 := constant S_ .f32 0x48600000#32
  let main_v424 : FVec F S64 .f32 := broadcastInDim S64 ![] bcast_S_S64 main_cst_117
  let main_v425 : FVec F S64 .f32 := Host.divf main_v423 main_v424
  let main_v426 : FVec F S1x64 .f32 := (extractStridedSlice S1x64 ![5, 0] · slices_S8x64_S1x64_5_0) main_arg33
  let main_v427 : FVec F S64 .f32 := shapeCast S64 main_v426 shapeCasts_S1x64_S64
  let main_cst_118 : FVec F S_ .f32 := constant S_ .f32 0x48600000#32
  let main_v428 : FVec F S64 .f32 := broadcastInDim S64 ![] bcast_S_S64 main_cst_118
  fn_part23 (F := F) main_arg0 main_arg33 main_v5 main_v9 main_v184 main_v328 main_v391 main_v406 main_v421 main_v425 main_v427 main_v428

def fn_part21 {F : FTy → Type} [FloatOps F] (main_arg0 : FVec F S256x8x128 .f32) (main_arg33 : FVec F S8x64 .f32) (main_v5 : FVec F S256x1x128 .f32) (main_v9 : IVec S256x128x8 1) (main_v184 : FVec F S256x32x128 .f32) (main_v328 : IVec S_ 1) (main_v391 : IVec S_ 1) (main_v392 : FVec F S1x64 .f32) : IVec S_ 1 × IVec S_ 1 × IVec S_ 1 × IVec S256x128x8 1 × IVec S256x128x8 1 :=
  let main_v393 : FVec F S64 .f32 := shapeCast S64 main_v392 shapeCasts_S1x64_S64
  let main_cst_107 : FVec F S_ .f32 := constant S_ .f32 0x47000000#32
  let main_v394 : FVec F S64 .f32 := broadcastInDim S64 ![] bcast_S_S64 main_cst_107
  let main_v395 : FVec F S64 .f32 := Host.divf main_v393 main_v394
  let main_v396 : FVec F S1x64 .f32 := (extractStridedSlice S1x64 ![1, 0] · slices_S8x64_S1x64_1_0) main_arg33
  let main_v397 : FVec F S64 .f32 := shapeCast S64 main_v396 shapeCasts_S1x64_S64
  let main_cst_108 : FVec F S_ .f32 := constant S_ .f32 0x47000000#32
  let main_v398 : FVec F S64 .f32 := broadcastInDim S64 ![] bcast_S_S64 main_cst_108
  let main_v399 : FVec F S64 .f32 := Host.divf main_v397 main_v398
  let main_v400 : FVec F S64 .f32 := mulf main_v395 main_v395
  let main_v401 : FVec F S64 .f32 := subf main_v399 main_v400
  let main_cst_109 : FVec F S_ .f32 := constant S_ .f32 0x3727C5AC#32
  let main_v402 : FVec F S64 .f32 := broadcastInDim S64 ![] bcast_S_S64 main_cst_109
  let main_v403 : FVec F S64 .f32 := addf main_v401 main_v402
  let main_cst_110 : FVec F S_ .f32 := constant S_ .f32 0x00000000#32
  let main_v404 : FVec F S64 .f32 := broadcastInDim S64 ![] bcast_S_S64 main_cst_110
  let main_v405 : IVec S64 1 := cmpf .ogt main_v403 main_v404
  let main_c_111 : IVec S_ 1 := constantI S_ 1 1#1
  let main_v406 : IVec S_ 1 := (fun x v => Host.reduce IntOp.andi x v reducesTo_S64_S_d0 h_S_) main_v405 main_c_111
  let main_v407 : FVec F S1x64 .f32 := (extractStridedSlice S1x64 ![2, 0] · slices_S8x64_S1x64_2_0) main_arg33
  let main_v408 : FVec F S64 .f32 := shapeCast S64 main_v407 shapeCasts_S1x64_S64
  let main_cst_112 : FVec F S_ .f32 := constant S_ .f32 0x48600000#32
  let main_v409 : FVec F S64 .f32 := broadcastInDim S64 ![] bcast_S_S64 main_cst_112
  let main_v410 : FVec F S64 .f32 := Host.divf main_v408 main_v409
  fn_part22 (F := F) main_arg0 main_arg33 main_v5 main_v9 main_v184 main_v328 main_v391 main_v406 main_v410

def fn_part20 {F : FTy → Type} [FloatOps F] (main_arg0 : FVec F S256x8x128 .f32) (main_arg32 : FVec F S8x32 .f32) (main_arg33 : FVec F S8x64 .f32) (main_v5 : FVec F S256x1x128 .f32) (main_v9 : IVec S256x128x8 1) (main_v184 : FVec F S256x32x128 .f32) (main_v328 : IVec S_ 1) (main_v343 : IVec S_ 1) (main_v358 : IVec S_ 1) (main_v373 : IVec S_ 1) : IVec S_ 1 × IVec S_ 1 × IVec S_ 1 × IVec S256x128x8 1 × IVec S256x128x8 1 :=
  let main_v374 : FVec F S1x32 .f32 := (extractStridedSlice S1x32 ![6, 0] · slices_S8x32_S1x32_6_0) main_arg32
  let main_v375 : FVec F S32 .f32 := shapeCast S32 main_v374 shapeCasts_S1x32_S32
  let main_cst_102 : FVec F S_ .f32 := constant S_ .f32 0x48600000#32
  let main_v376 : FVec F S32 .f32 := broadcastInDim S32 ![] bcast_S_S32 main_cst_102
  let main_v377 : FVec F S32 .f32 := Host.divf main_v375 main_v376
  let main_v378 : FVec F S1x32 .f32 := (extractStridedSlice S1x32 ![7, 0] · slices_S8x32_S1x32_7_0) main_arg32
  let main_v379 : FVec F S32 .f32 := shapeCast S32 main_v378 shapeCasts_S1x32_S32
  let main_cst_103 : FVec F S_ .f32 := constant S_ .f32 0x48600000#32
  let main_v380 : FVec F S32 .f32 := broadcastInDim S32 ![] bcast_S_S32 main_cst_103
  let main_v381 : FVec F S32 .f32 := Host.divf main_v379 main_v380
  let main_v382 : FVec F S32 .f32 := mulf main_v377 main_v377
  let main_v383 : FVec F S32 .f32 := subf main_v381 main_v382
  let main_cst_104 : FVec F S_ .f32 := constant S_ .f32 0x3727C5AC#32
  let main_v384 : FVec F S32 .f32 := broadcastInDim S32 ![] bcast_S_S32 main_cst_104
  let main_v385 : FVec F S32 .f32 := addf main_v383 main_v384
  let main_cst_105 : FVec F S_ .f32 := constant S_ .f32 0x00000000#32
  let main_v386 : FVec F S32 .f32 := broadcastInDim S32 ![] bcast_S_S32 main_cst_105
  let main_v387 : IVec S32 1 := cmpf .ogt main_v385 main_v386
  let main_c_106 : IVec S_ 1 := constantI S_ 1 1#1
  let main_v388 : IVec S_ 1 := (fun x v => Host.reduce IntOp.andi x v reducesTo_S32_S_d0 h_S_) main_v387 main_c_106
  let main_v389 : IVec S_ 1 := andi main_v343 main_v358
  let main_v390 : IVec S_ 1 := andi main_v389 main_v373
  let main_v391 : IVec S_ 1 := andi main_v390 main_v388
  let main_v392 : FVec F S1x64 .f32 := (extractStridedSlice S1x64 ![0, 0] · slices_S8x64_S1x64_0_0) main_arg33
  fn_part21 (F := F) main_arg0 main_arg33 main_v5 main_v9 main_v184 main_v328 main_v391 main_v392

def fn_part19 {F : FTy → Type} [FloatOps F] (main_arg0 : FVec F S256x8x128 .f32) (main_arg32 : FVec F S8x32 .f32) (main_arg33 : FVec F S8x64 .f32) (main_v5 : FVec F S256x1x128 .f32) (main_v9 : IVec S256x128x8 1) (main_v184 : FVec F S256x32x128 .f32) (main_v328 : IVec S_ 1) (main_v343 : IVec S_ 1) (main_v355 : FVec F S32 .f32) (main_cst_95 : FVec F S_ .f32) : IVec S_ 1 × IVec S_ 1 × IVec S_ 1 × IVec S256x128x8 1 × IVec S256x128x8 1 :=
  let main_v356 : FVec F S32 .f32 := broadcastInDim S32 ![] bcast_S_S32 main_cst_95
  let main_v357 : IVec S32 1 := cmpf .ogt main_v355 main_v356
  let main_c_96 : IVec S_ 1 := constantI S_ 1 1#1
  let main_v358 : IVec S_ 1 := (fun x v => Host.reduce IntOp.andi x v reducesTo_S32_S_d0 h_S_) main_v357 main_c_96
  let main_v359 : FVec F S1x32 .f32 := (extractStridedSlice S1x32 ![4, 0] · slices_S8x32_S1x32_4_0) main_arg32
  let main_v360 : FVec F S32 .f32 := shapeCast S32 main_v359 shapeCasts_S1x32_S32
  let main_cst_97 : FVec F S_ .f32 := constant S_ .f32 0x48600000#32
  let main_v361 : FVec F S32 .f32 := broadcastInDim S32 ![] bcast_S_S32 main_cst_97
  let main_v362 : FVec F S32 .f32 := Host.divf main_v360 main_v361
  let main_v363 : FVec F S1x32 .f32 := (extractStridedSlice S1x32 ![5, 0] · slices_S8x32_S1x32_5_0) main_arg32
  let main_v364 : FVec F S32 .f32 := shapeCast S32 main_v363 shapeCasts_S1x32_S32
  let main_cst_98 : FVec F S_ .f32 := constant S_ .f32 0x48600000#32
  let main_v365 : FVec F S32 .f32 := broadcastInDim S32 ![] bcast_S_S32 main_cst_98
  let main_v366 : FVec F S32 .f32 := Host.divf main_v364 main_v365
  let main_v367 : FVec F S32 .f32 := mulf main_v362 main_v362
  let main_v368 : FVec F S32 .f32 := subf main_v366 main_v367
  let main_cst_99 : FVec F S_ .f32 := constant S_ .f32 0x3727C5AC#32
  let main_v369 : FVec F S32 .f32 := broadcastInDim S32 ![] bcast_S_S32 main_cst_99
  let main_v370 : FVec F S32 .f32 := addf main_v368 main_v369
  let main_cst_100 : FVec F S_ .f32 := constant S_ .f32 0x00000000#32
  let main_v371 : FVec F S32 .f32 := broadcastInDim S32 ![] bcast_S_S32 main_cst_100
  let main_v372 : IVec S32 1 := cmpf .ogt main_v370 main_v371
  let main_c_101 : IVec S_ 1 := constantI S_ 1 1#1
  let main_v373 : IVec S_ 1 := (fun x v => Host.reduce IntOp.andi x v reducesTo_S32_S_d0 h_S_) main_v372 main_c_101
  fn_part20 (F := F) main_arg0 main_arg32 main_arg33 main_v5 main_v9 main_v184 main_v328 main_v343 main_v358 main_v373

def fn_part18 {F : FTy → Type} [FloatOps F] (main_arg0 : FVec F S256x8x128 .f32) (main_arg32 : FVec F S8x32 .f32) (main_arg33 : FVec F S8x64 .f32) (main_v5 : FVec F S256x1x128 .f32) (main_v9 : IVec S256x128x8 1) (main_v184 : FVec F S256x32x128 .f32) (main_v328 : IVec S_ 1) (main_v338 : FVec F S32 .f32) : IVec S_ 1 × IVec S_ 1 × IVec S_ 1 × IVec S256x128x8 1 × IVec S256x128x8 1 :=
  let main_cst_89 : FVec F S_ .f32 := constant S_ .f32 0x3727C5AC#32
  let main_v339 : FVec F S32 .f32 := broadcastInDim S32 ![] bcast_S_S32 main_cst_89
  let main_v340 : FVec F S32 .f32 := addf main_v338 main_v339
  let main_cst_90 : FVec F S_ .f32 := constant S_ .f32 0x00000000#32
  let main_v341 : FVec F S32 .f32 := broadcastInDim S32 ![] bcast_S_S32 main_cst_90
  let main_v342 : IVec S32 1 := cmpf .ogt main_v340 main_v341
  let main_c_91 : IVec S_ 1 := constantI S_ 1 1#1
  let main_v343 : IVec S_ 1 := (fun x v => Host.reduce IntOp.andi x v reducesTo_S32_S_d0 h_S_) main_v342 main_c_91
  let main_v344 : FVec F S1x32 .f32 := (extractStridedSlice S1x32 ![2, 0] · slices_S8x32_S1x32_2_0) main_arg32
  let main_v345 : FVec F S32 .f32 := shapeCast S32 main_v344 shapeCasts_S1x32_S32
  let main_cst_92 : FVec F S_ .f32 := constant S_ .f32 0x48600000#32
  let main_v346 : FVec F S32 .f32 := broadcastInDim S32 ![] bcast_S_S32 main_cst_92
  let main_v347 : FVec F S32 .f32 := Host.divf main_v345 main_v346
  let main_v348 : FVec F S1x32 .f32 := (extractStridedSlice S1x32 ![3, 0] · slices_S8x32_S1x32_3_0) main_arg32
  let main_v349 : FVec F S32 .f32 := shapeCast S32 main_v348 shapeCasts_S1x32_S32
  let main_cst_93 : FVec F S_ .f32 := constant S_ .f32 0x48600000#32
  let main_v350 : FVec F S32 .f32 := broadcastInDim S32 ![] bcast_S_S32 main_cst_93
  let main_v351 : FVec F S32 .f32 := Host.divf main_v349 main_v350
  let main_v352 : FVec F S32 .f32 := mulf main_v347 main_v347
  let main_v353 : FVec F S32 .f32 := subf main_v351 main_v352
  let main_cst_94 : FVec F S_ .f32 := constant S_ .f32 0x3727C5AC#32
  let main_v354 : FVec F S32 .f32 := broadcastInDim S32 ![] bcast_S_S32 main_cst_94
  let main_v355 : FVec F S32 .f32 := addf main_v353 main_v354
  let main_cst_95 : FVec F S_ .f32 := constant S_ .f32 0x00000000#32
  fn_part19 (F := F) main_arg0 main_arg32 main_arg33 main_v5 main_v9 main_v184 main_v328 main_v343 main_v355 main_cst_95

def fn_part17 {F : FTy → Type} [FloatOps F] (main_arg0 : FVec F S256x8x128 .f32) (main_arg32 : FVec F S8x32 .f32) (main_arg33 : FVec F S8x64 .f32) (main_v5 : FVec F S256x1x128 .f32) (main_v9 : IVec S256x128x8 1) (main_v184 : FVec F S256x32x128 .f32) (main_v318 : IVec S_ 1) (main_v319 : FVec F S8x32 .f32) (main_cst_83 : FVec F S_ .f32) : IVec S_ 1 × IVec S_ 1 × IVec S_ 1 × IVec S256x128x8 1 × IVec S256x128x8 1 :=
  let main_v320 : FVec F S8x32 .f32 := broadcastInDim S8x32 ![] bcast_S_S8x32 main_cst_83
  let main_v321 : IVec S8x32 1 := cmpf .olt main_v319 main_v320
  let main_c_84 : IVec S_ 1 := constantI S_ 1 1#1
  let main_v322 : IVec S_ 1 := (fun x v => Host.reduce IntOp.andi x v reducesTo_S8x32_S_d0_1 h_S_) main_v321 main_c_84
  let main_v323 : IVec S_ 1 := andi main_v318 main_v322
  let main_v324 : FVec F S8x64 .f32 := Host.absf main_arg33
  let main_cst_85 : FVec F S_ .f32 := constant S_ .f32 0x7F800000#32
  let main_v325 : FVec F S8x64 .f32 := broadcastInDim S8x64 ![] bcast_S_S8x64 main_cst_85
  let main_v326 : IVec S8x64 1 := cmpf .olt main_v324 main_v325
  let main_c_86 : IVec S_ 1 := constantI S_ 1 1#1
  let main_v327 : IVec S_ 1 := (fun x v => Host.reduce IntOp.andi x v reducesTo_S8x64_S_d0_1 h_S_) main_v326 main_c_86
  let main_v328 : IVec S_ 1 := andi main_v323 main_v327
  let main_v329 : FVec F S1x32 .f32 := (extractStridedSlice S1x32 ![0, 0] · slices_S8x32_S1x32_0_0) main_arg32
  let main_v330 : FVec F S32 .f32 := shapeCast S32 main_v329 shapeCasts_S1x32_S32
  let main_cst_87 : FVec F S_ .f32 := constant S_ .f32 0x47000000#32
  let main_v331 : FVec F S32 .f32 := broadcastInDim S32 ![] bcast_S_S32 main_cst_87
  let main_v332 : FVec F S32 .f32 := Host.divf main_v330 main_v331
  let main_v333 : FVec F S1x32 .f32 := (extractStridedSlice S1x32 ![1, 0] · slices_S8x32_S1x32_1_0) main_arg32
  let main_v334 : FVec F S32 .f32 := shapeCast S32 main_v333 shapeCasts_S1x32_S32
  let main_cst_88 : FVec F S_ .f32 := constant S_ .f32 0x47000000#32
  let main_v335 : FVec F S32 .f32 := broadcastInDim S32 ![] bcast_S_S32 main_cst_88
  let main_v336 : FVec F S32 .f32 := Host.divf main_v334 main_v335
  let main_v337 : FVec F S32 .f32 := mulf main_v332 main_v332
  let main_v338 : FVec F S32 .f32 := subf main_v336 main_v337
  fn_part18 (F := F) main_arg0 main_arg32 main_arg33 main_v5 main_v9 main_v184 main_v328 main_v338

def fn_part16 {F : FTy → Type} [FloatOps F] (main_arg0 : FVec F S256x8x128 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v298 : IVec S_ 1) (main_v302 : IVec S_ 1) : IVec S_ 1 × IVec S_ 1 × IVec S_ 1 × IVec S256x128x8 1 × IVec S256x128x8 1 :=
  let main_v303 : IVec S_ 1 := andi main_v298 main_v302
  let main_v304 : FVec F S64 .f32 := Host.absf main_arg24
  let main_cst_77 : FVec F S_ .f32 := constant S_ .f32 0x7F800000#32
  let main_v305 : FVec F S64 .f32 := broadcastInDim S64 ![] bcast_S_S64 main_cst_77
  let main_v306 : IVec S64 1 := cmpf .olt main_v304 main_v305
  let main_c_78 : IVec S_ 1 := constantI S_ 1 1#1
  let main_v307 : IVec S_ 1 := (fun x v => Host.reduce IntOp.andi x v reducesTo_S64_S_d0 h_S_) main_v306 main_c_78
  let main_v308 : IVec S_ 1 := andi main_v303 main_v307
  let main_v309 : FVec F S128x96 .f32 := Host.absf main_arg25
  let main_cst_79 : FVec F S_ .f32 := constant S_ .f32 0x7F800000#32
  let main_v310 : FVec F S128x96 .f32 := broadcastInDim S128x96 ![] bcast_S_S128x96 main_cst_79
  let main_v311 : IVec S128x96 1 := cmpf .olt main_v309 main_v310
  let main_c_80 : IVec S_ 1 := constantI S_ 1 1#1
  let main_v312 : IVec S_ 1 := (fun x v => Host.reduce IntOp.andi x v reducesTo_S128x96_S_d0_1 h_S_) main_v311 main_c_80
  let main_v313 : IVec S_ 1 := andi main_v308 main_v312
  let main_v314 : FVec F S128 .f32 := Host.absf main_arg26
  let main_cst_81 : FVec F S_ .f32 := constant S_ .f32 0x7F800000#32
  let main_v315 : FVec F S128 .f32 := broadcastInDim S128 ![] bcast_S_S128 main_cst_81
  let main_v316 : IVec S128 1 := cmpf .olt main_v314 main_v315
  let main_c_82 : IVec S_ 1 := constantI S_ 1 1#1
  let main_v317 : IVec S_ 1 := (fun x v => Host.reduce IntOp.andi x v reducesTo_S128_S_d0 h_S_) main_v316 main_c_82
  let main_v318 : IVec S_ 1 := andi main_v313 main_v317
  let main_v319 : FVec F S8x32 .f32 := Host.absf main_arg32
  let main_cst_83 : FVec F S_ .f32 := constant S_ .f32 0x7F800000#32
  fn_part17 (F := F) main_arg0 main_arg32 main_arg33 main_v5 main_v9 main_v184 main_v318 main_v319 main_cst_83

def fn_part15 {F : FTy → Type} [FloatOps F] (main_arg0 : FVec F S256x8x128 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v283 : IVec S_ 1) (main_v284 : FVec F S64 .f32) (main_v285 : FVec F S64 .f32) : IVec S_ 1 × IVec S_ 1 × IVec S_ 1 × IVec S256x128x8 1 × IVec S256x128x8 1 :=
  let main_v286 : IVec S64 1 := cmpf .olt main_v284 main_v285
  let main_c_70 : IVec S_ 1 := constantI S_ 1 1#1
  let main_v287 : IVec S_ 1 := (fun x v => Host.reduce IntOp.andi x v reducesTo_S64_S_d0 h_S_) main_v286 main_c_70
  let main_v288 : IVec S_ 1 := andi main_v283 main_v287
  let main_v289 : FVec F S64 .f32 := Host.absf main_arg21
  let main_cst_71 : FVec F S_ .f32 := constant S_ .f32 0x7F800000#32
  let main_v290 : FVec F S64 .f32 := broadcastInDim S64 ![] bcast_S_S64 main_cst_71
  let main_v291 : IVec S64 1 := cmpf .olt main_v289 main_v290
  let main_c_72 : IVec S_ 1 := constantI S_ 1 1#1
  let main_v292 : IVec S_ 1 := (fun x v => Host.reduce IntOp.andi x v reducesTo_S64_S_d0 h_S_) main_v291 main_c_72
  let main_v293 : IVec S_ 1 := andi main_v288 main_v292
  let main_v294 : FVec F S64x32 .f32 := Host.absf main_arg22
  let main_cst_73 : FVec F S_ .f32 := constant S_ .f32 0x7F800000#32
  let main_v295 : FVec F S64x32 .f32 := broadcastInDim S64x32 ![] bcast_S_S64x32 main_cst_73
  let main_v296 : IVec S64x32 1 := cmpf .olt main_v294 main_v295
  let main_c_74 : IVec S_ 1 := constantI S_ 1 1#1
  let main_v297 : IVec S_ 1 := (fun x v => Host.reduce IntOp.andi x v reducesTo_S64x32_S_d0_1 h_S_) main_v296 main_c_74
  let main_v298 : IVec S_ 1 := andi main_v293 main_v297
  let main_v299 : FVec F S64 .f32 := Host.absf main_arg23
  let main_cst_75 : FVec F S_ .f32 := constant S_ .f32 0x7F800000#32
  let main_v300 : FVec F S64 .f32 := broadcastInDim S64 ![] bcast_S_S64 main_cst_75
  let main_v301 : IVec S64 1 := cmpf .olt main_v299 main_v300
  let main_c_76 : IVec S_ 1 := constantI S_ 1 1#1
  let main_v302 : IVec S_ 1 := (fun x v => Host.reduce IntOp.andi x v reducesTo_S64_S_d0 h_S_) main_v301 main_c_76
  fn_part16 (F := F) main_arg0 main_arg24 main_arg25 main_arg26 main_arg32 main_arg33 main_v5 main_v9 main_v184 main_v298 main_v302

def fn_part14 {F : FTy → Type} [FloatOps F] (main_arg0 : FVec F S256x8x128 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v268 : IVec S_ 1) : IVec S_ 1 × IVec S_ 1 × IVec S_ 1 × IVec S256x128x8 1 × IVec S256x128x8 1 :=
  let main_v269 : FVec F S64 .f32 := Host.absf main_arg17
  let main_cst_63 : FVec F S_ .f32 := constant S_ .f32 0x7F800000#32
  let main_v270 : FVec F S64 .f32 := broadcastInDim S64 ![] bcast_S_S64 main_cst_63
  let main_v271 : IVec S64 1 := cmpf .olt main_v269 main_v270
  let main_c_64 : IVec S_ 1 := constantI S_ 1 1#1
  let main_v272 : IVec S_ 1 := (fun x v => Host.reduce IntOp.andi x v reducesTo_S64_S_d0 h_S_) main_v271 main_c_64
  let main_v273 : IVec S_ 1 := andi main_v268 main_v272
  let main_v274 : FVec F S64 .f32 := Host.absf main_arg18
  let main_cst_65 : FVec F S_ .f32 := constant S_ .f32 0x7F800000#32
  let main_v275 : FVec F S64 .f32 := broadcastInDim S64 ![] bcast_S_S64 main_cst_65
  let main_v276 : IVec S64 1 := cmpf .olt main_v274 main_v275
  let main_c_66 : IVec S_ 1 := constantI S_ 1 1#1
  let main_v277 : IVec S_ 1 := (fun x v => Host.reduce IntOp.andi x v reducesTo_S64_S_d0 h_S_) main_v276 main_c_66
  let main_v278 : IVec S_ 1 := andi main_v273 main_v277
  let main_v279 : FVec F S64 .f32 := Host.absf main_arg19
  let main_cst_67 : FVec F S_ .f32 := constant S_ .f32 0x7F800000#32
  let main_v280 : FVec F S64 .f32 := broadcastInDim S64 ![] bcast_S_S64 main_cst_67
  let main_v281 : IVec S64 1 := cmpf .olt main_v279 main_v280
  let main_c_68 : IVec S_ 1 := constantI S_ 1 1#1
  let main_v282 : IVec S_ 1 := (fun x v => Host.reduce IntOp.andi x v reducesTo_S64_S_d0 h_S_) main_v281 main_c_68
  let main_v283 : IVec S_ 1 := andi main_v278 main_v282
  let main_v284 : FVec F S64 .f32 := Host.absf main_arg20
  let main_cst_69 : FVec F S_ .f32 := constant S_ .f32 0x7F800000#32
  let main_v285 : FVec F S64 .f32 := broadcastInDim S64 ![] bcast_S_S64 main_cst_69
  fn_part15 (F := F) main_arg0 main_arg21 main_arg22 main_arg23 main_arg24 main_arg25 main_arg26 main_arg32 main_arg33 main_v5 main_v9 main_v184 main_v283 main_v284 main_v285

def fn_part13 {F : FTy → Type} [FloatOps F] (main_arg0 : FVec F S256x8x128 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v248 : IVec S_ 1) (main_v251 : IVec S64x64 1) : IVec S_ 1 × IVec S_ 1 × IVec S_ 1 × IVec S256x128x8 1 × IVec S256x128x8 1 :=
  let main_c_56 : IVec S_ 1 := constantI S_ 1 1#1
  let main_v252 : IVec S_ 1 := (fun x v => Host.reduce IntOp.andi x v reducesTo_S64x64_S_d0_1 h_S_) main_v251 main_c_56
  let main_v253 : IVec S_ 1 := andi main_v248 main_v252
  let main_v254 : FVec F S64x64 .f32 := Host.absf main_arg14
  let main_cst_57 : FVec F S_ .f32 := constant S_ .f32 0x7F800000#32
  let main_v255 : FVec F S64x64 .f32 := broadcastInDim S64x64 ![] bcast_S_S64x64 main_cst_57
  let main_v256 : IVec S64x64 1 := cmpf .olt main_v254 main_v255
  let main_c_58 : IVec S_ 1 := constantI S_ 1 1#1
  let main_v257 : IVec S_ 1 := (fun x v => Host.reduce IntOp.andi x v reducesTo_S64x64_S_d0_1 h_S_) main_v256 main_c_58
  let main_v258 : IVec S_ 1 := andi main_v253 main_v257
  let main_v259 : FVec F S64x64 .f32 := Host.absf main_arg15
  let main_cst_59 : FVec F S_ .f32 := constant S_ .f32 0x7F800000#32
  let main_v260 : FVec F S64x64 .f32 := broadcastInDim S64x64 ![] bcast_S_S64x64 main_cst_59
  let main_v261 : IVec S64x64 1 := cmpf .olt main_v259 main_v260
  let main_c_60 : IVec S_ 1 := constantI S_ 1 1#1
  let main_v262 : IVec S_ 1 := (fun x v => Host.reduce IntOp.andi x v reducesTo_S64x64_S_d0_1 h_S_) main_v261 main_c_60
  let main_v263 : IVec S_ 1 := andi main_v258 main_v262
  let main_v264 : FVec F S64 .f32 := Host.absf main_arg16
  let main_cst_61 : FVec F S_ .f32 := constant S_ .f32 0x7F800000#32
  let main_v265 : FVec F S64 .f32 := broadcastInDim S64 ![] bcast_S_S64 main_cst_61
  let main_v266 : IVec S64 1 := cmpf .olt main_v264 main_v265
  let main_c_62 : IVec S_ 1 := constantI S_ 1 1#1
  let main_v267 : IVec S_ 1 := (fun x v => Host.reduce IntOp.andi x v reducesTo_S64_S_d0 h_S_) main_v266 main_c_62
  let main_v268 : IVec S_ 1 := andi main_v263 main_v267
  fn_part14 (F := F) main_arg0 main_arg17 main_arg18 main_arg19 main_arg20 main_arg21 main_arg22 main_arg23 main_arg24 main_arg25 main_arg26 main_arg32 main_arg33 main_v5 main_v9 main_v184 main_v268

def fn_part12 {F : FTy → Type} [FloatOps F] (main_arg0 : FVec F S256x8x128 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v233 : IVec S_ 1) (main_v234 : FVec F S32 .f32) : IVec S_ 1 × IVec S_ 1 × IVec S_ 1 × IVec S256x128x8 1 × IVec S256x128x8 1 :=
  let main_cst_49 : FVec F S_ .f32 := constant S_ .f32 0x7F800000#32
  let main_v235 : FVec F S32 .f32 := broadcastInDim S32 ![] bcast_S_S32 main_cst_49
  let main_v236 : IVec S32 1 := cmpf .olt main_v234 main_v235
  let main_c_50 : IVec S_ 1 := constantI S_ 1 1#1
  let main_v237 : IVec S_ 1 := (fun x v => Host.reduce IntOp.andi x v reducesTo_S32_S_d0 h_S_) main_v236 main_c_50
  let main_v238 : IVec S_ 1 := andi main_v233 main_v237
  let main_v239 : FVec F S32 .f32 := Host.absf main_arg11
  let main_cst_51 : FVec F S_ .f32 := constant S_ .f32 0x7F800000#32
  let main_v240 : FVec F S32 .f32 := broadcastInDim S32 ![] bcast_S_S32 main_cst_51
  let main_v241 : IVec S32 1 := cmpf .olt main_v239 main_v240
  let main_c_52 : IVec S_ 1 := constantI S_ 1 1#1
  let main_v242 : IVec S_ 1 := (fun x v => Host.reduce IntOp.andi x v reducesTo_S32_S_d0 h_S_) main_v241 main_c_52
  let main_v243 : IVec S_ 1 := andi main_v238 main_v242
  let main_v244 : FVec F S32 .f32 := Host.absf main_arg12
  let main_cst_53 : FVec F S_ .f32 := constant S_ .f32 0x7F800000#32
  let main_v245 : FVec F S32 .f32 := broadcastInDim S32 ![] bcast_S_S32 main_cst_53
  let main_v246 : IVec S32 1 := cmpf .olt main_v244 main_v245
  let main_c_54 : IVec S_ 1 := constantI S_ 1 1#1
  let main_v247 : IVec S_ 1 := (fun x v => Host.reduce IntOp.andi x v reducesTo_S32_S_d0 h_S_) main_v246 main_c_54
  let main_v248 : IVec S_ 1 := andi main_v243 main_v247
  let main_v249 : FVec F S64x64 .f32 := Host.absf main_arg13
  let main_cst_55 : FVec F S_ .f32 := constant S_ .f32 0x7F800000#32
  let main_v250 : FVec F S64x64 .f32 := broadcastInDim S64x64 ![] bcast_S_S64x64 main_cst_55
  let main_v251 : IVec S64x64 1 := cmpf .olt main_v249 main_v250
  fn_part13 (F := F) main_arg0 main_arg14 main_arg15 main_arg16 main_arg17 main_arg18 main_arg19 main_arg20 main_arg21 main_arg22 main_arg23 main_arg24 main_arg25 main_arg26 main_arg32 main_arg33 main_v5 main_v9 main_v184 main_v248 main_v251

def fn_part11 {F : FTy → Type} [FloatOps F] (main_arg0 : FVec F S256x8x128 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v213 : IVec S_ 1) (main_v216 : IVec S32x32 1) (main_c_42 : IVec S_ 1) : IVec S_ 1 × IVec S_ 1 × IVec S_ 1 × IVec S256x128x8 1 × IVec S256x128x8 1 :=
  let main_v217 : IVec S_ 1 := (fun x v => Host.reduce IntOp.andi x v reducesTo_S32x32_S_d0_1 h_S_) main_v216 main_c_42
  let main_v218 : IVec S_ 1 := andi main_v213 main_v217
  let main_v219 : FVec F S32 .f32 := Host.absf main_arg7
  let main_cst_43 : FVec F S_ .f32 := constant S_ .f32 0x7F800000#32
  let main_v220 : FVec F S32 .f32 := broadcastInDim S32 ![] bcast_S_S32 main_cst_43
  let main_v221 : IVec S32 1 := cmpf .olt main_v219 main_v220
  let main_c_44 : IVec S_ 1 := constantI S_ 1 1#1
  let main_v222 : IVec S_ 1 := (fun x v => Host.reduce IntOp.andi x v reducesTo_S32_S_d0 h_S_) main_v221 main_c_44
  let main_v223 : IVec S_ 1 := andi main_v218 main_v222
  let main_v224 : FVec F S32 .f32 := Host.absf main_arg8
  let main_cst_45 : FVec F S_ .f32 := constant S_ .f32 0x7F800000#32
  let main_v225 : FVec F S32 .f32 := broadcastInDim S32 ![] bcast_S_S32 main_cst_45
  let main_v226 : IVec S32 1 := cmpf .olt main_v224 main_v225
  let main_c_46 : IVec S_ 1 := constantI S_ 1 1#1
  let main_v227 : IVec S_ 1 := (fun x v => Host.reduce IntOp.andi x v reducesTo_S32_S_d0 h_S_) main_v226 main_c_46
  let main_v228 : IVec S_ 1 := andi main_v223 main_v227
  let main_v229 : FVec F S32 .f32 := Host.absf main_arg9
  let main_cst_47 : FVec F S_ .f32 := constant S_ .f32 0x7F800000#32
  let main_v230 : FVec F S32 .f32 := broadcastInDim S32 ![] bcast_S_S32 main_cst_47
  let main_v231 : IVec S32 1 := cmpf .olt main_v229 main_v230
  let main_c_48 : IVec S_ 1 := constantI S_ 1 1#1
  let main_v232 : IVec S_ 1 := (fun x v => Host.reduce IntOp.andi x v reducesTo_S32_S_d0 h_S_) main_v231 main_c_48
  let main_v233 : IVec S_ 1 := andi main_v228 main_v232
  let main_v234 : FVec F S32 .f32 := Host.absf main_arg10
  fn_part12 (F := F) main_arg0 main_arg11 main_arg12 main_arg13 main_arg14 main_arg15 main_arg16 main_arg17 main_arg18 main_arg19 main_arg20 main_arg21 main_arg22 main_arg23 main_arg24 main_arg25 main_arg26 main_arg32 main_arg33 main_v5 main_v9 main_v184 main_v233 main_v234

def fn_part10 {F : FTy → Type} [FloatOps F] (main_arg0 : FVec F S256x8x128 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v184 : FVec F S256x32x128 .f32) (main_v198 : IVec S_ 1) (main_v199 : FVec F S32 .f32) (main_cst_35 : FVec F S_ .f32) : IVec S_ 1 × IVec S_ 1 × IVec S_ 1 × IVec S256x128x8 1 × IVec S256x128x8 1 :=
  let main_v200 : FVec F S32 .f32 := broadcastInDim S32 ![] bcast_S_S32 main_cst_35
  let main_v201 : IVec S32 1 := cmpf .olt main_v199 main_v200
  let main_c_36 : IVec S_ 1 := constantI S_ 1 1#1
  let main_v202 : IVec S_ 1 := (fun x v => Host.reduce IntOp.andi x v reducesTo_S32_S_d0 h_S_) main_v201 main_c_36
  let main_v203 : IVec S_ 1 := andi main_v198 main_v202
  let main_v204 : FVec F S32x64 .f32 := Host.absf main_arg4
  let main_cst_37 : FVec F S_ .f32 := constant S_ .f32 0x7F800000#32
  let main_v205 : FVec F S32x64 .f32 := broadcastInDim S32x64 ![] bcast_S_S32x64 main_cst_37
  let main_v206 : IVec S32x64 1 := cmpf .olt main_v204 main_v205
  let main_c_38 : IVec S_ 1 := constantI S_ 1 1#1
  let main_v207 : IVec S_ 1 := (fun x v => Host.reduce IntOp.andi x v reducesTo_S32x64_S_d0_1 h_S_) main_v206 main_c_38
  let main_v208 : IVec S_ 1 := andi main_v203 main_v207
  let main_v209 : FVec F S32x32 .f32 := Host.absf main_arg5
  let main_cst_39 : FVec F S_ .f32 := constant S_ .f32 0x7F800000#32
  let main_v210 : FVec F S32x32 .f32 := broadcastInDim S32x32 ![] bcast_S_S32x32 main_cst_39
  let main_v211 : IVec S32x32 1 := cmpf .olt main_v209 main_v210
  let main_c_40 : IVec S_ 1 := constantI S_ 1 1#1
  let main_v212 : IVec S_ 1 := (fun x v => Host.reduce IntOp.andi x v reducesTo_S32x32_S_d0_1 h_S_) main_v211 main_c_40
  let main_v213 : IVec S_ 1 := andi main_v208 main_v212
  let main_v214 : FVec F S32x32 .f32 := Host.absf main_arg6
  let main_cst_41 : FVec F S_ .f32 := constant S_ .f32 0x7F800000#32
  let main_v215 : FVec F S32x32 .f32 := broadcastInDim S32x32 ![] bcast_S_S32x32 main_cst_41
  let main_v216 : IVec S32x32 1 := cmpf .olt main_v214 main_v215
  let main_c_42 : IVec S_ 1 := constantI S_ 1 1#1
  fn_part11 (F := F) main_arg0 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v184 main_v213 main_v216 main_c_42

def fn_part9 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v182 : FVec F S256x32x128 .f32) : IVec S_ 1 × IVec S_ 1 × IVec S_ 1 × IVec S256x128x8 1 × IVec S256x128x8 1 :=
  let main_v183 : FVec F S256x32x128 .f32 := broadcastInDim S256x32x128 ![0, 1, 2] bcast_S256x1x128_S256x32x128_0_1_2 main_v15
  let main_v184 : FVec F S256x32x128 .f32 := mulf main_v182 main_v183
  let main_v185 : FVec F S256x8x128 .f32 := Host.absf main_arg0
  let main_cst_29 : FVec F S_ .f32 := constant S_ .f32 0x7F800000#32
  let main_v186 : FVec F S256x8x128 .f32 := broadcastInDim S256x8x128 ![] bcast_S_S256x8x128 main_cst_29
  let main_v187 : IVec S256x8x128 1 := cmpf .olt main_v185 main_v186
  let main_c_30 : IVec S_ 1 := constantI S_ 1 1#1
  let main_v188 : IVec S_ 1 := (fun x v => Host.reduce IntOp.andi x v reducesTo_S256x8x128_S_d0_1_2 h_S_) main_v187 main_c_30
  let main_v189 : FVec F S256x32x128 .f32 := Host.absf main_arg1
  let main_cst_31 : FVec F S_ .f32 := constant S_ .f32 0x7F800000#32
  let main_v190 : FVec F S256x32x128 .f32 := broadcastInDim S256x32x128 ![] bcast_S_S256x32x128 main_cst_31
  let main_v191 : IVec S256x32x128 1 := cmpf .olt main_v189 main_v190
  let main_c_32 : IVec S_ 1 := constantI S_ 1 1#1
  let main_v192 : IVec S_ 1 := (fun x v => Host.reduce IntOp.andi x v reducesTo_S256x32x128_S_d0_1_2 h_S_) main_v191 main_c_32
  let main_v193 : IVec S_ 1 := andi main_v188 main_v192
  let main_v194 : FVec F S32 .f32 := Host.absf main_arg2
  let main_cst_33 : FVec F S_ .f32 := constant S_ .f32 0x7F800000#32
  let main_v195 : FVec F S32 .f32 := broadcastInDim S32 ![] bcast_S_S32 main_cst_33
  let main_v196 : IVec S32 1 := cmpf .olt main_v194 main_v195
  let main_c_34 : IVec S_ 1 := constantI S_ 1 1#1
  let main_v197 : IVec S_ 1 := (fun x v => Host.reduce IntOp.andi x v reducesTo_S32_S_d0 h_S_) main_v196 main_c_34
  let main_v198 : IVec S_ 1 := andi main_v193 main_v197
  let main_v199 : FVec F S32 .f32 := Host.absf main_arg3
  let main_cst_35 : FVec F S_ .f32 := constant S_ .f32 0x7F800000#32
  fn_part10 (F := F) main_arg0 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v184 main_v198 main_v199 main_cst_35

def fn_part8 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v51 : FVec F S256x32x128 .f32) (main_v162 : FVec F S256x32x128x7 .f32) (main_v163 : FVec F S1x32x1x1 .f32) : IVec S_ 1 × IVec S_ 1 × IVec S_ 1 × IVec S256x128x8 1 × IVec S256x128x8 1 :=
  let main_cst_24 : FVec F S_ .f32 := constant S_ .f32 0x3727C5AC#32
  let main_v164 : FVec F S1x32x1x1 .f32 := broadcastInDim S1x32x1x1 ![] bcast_S_S1x32x1x1 main_cst_24
  let main_v165 : FVec F S1x32x1x1 .f32 := addf main_v163 main_v164
  let main_v166 : FVec F S1x32x1x1 .f32 := Host.sqrt main_v165
  let main_v167 : FVec F S256x32x128x7 .f32 := broadcastInDim S256x32x128x7 ![0, 1, 2, 3] bcast_S1x32x1x1_S256x32x128x7_0_1_2_3 main_v166
  let main_v168 : FVec F S256x32x128x7 .f32 := Host.divf main_v162 main_v167
  let main_v169 : FVec F S1x32x1x1 .f32 := shapeCast S1x32x1x1 main_arg11 shapeCasts_S32_S1x32x1x1
  let main_v170 : FVec F S256x32x128x7 .f32 := broadcastInDim S256x32x128x7 ![0, 1, 2, 3] bcast_S1x32x1x1_S256x32x128x7_0_1_2_3 main_v169
  let main_v171 : FVec F S256x32x128x7 .f32 := mulf main_v168 main_v170
  let main_v172 : FVec F S1x32x1x1 .f32 := shapeCast S1x32x1x1 main_arg12 shapeCasts_S32_S1x32x1x1
  let main_v173 : FVec F S256x32x128x7 .f32 := broadcastInDim S256x32x128x7 ![0, 1, 2, 3] bcast_S1x32x1x1_S256x32x128x7_0_1_2_3 main_v172
  let main_v174 : FVec F S256x32x128x7 .f32 := addf main_v171 main_v173
  let main_cst_25 : FVec F S_ .f32 := constant S_ .f32 0x00000000#32
  let main_v175 : FVec F S256x32x128x7 .f32 := broadcastInDim S256x32x128x7 ![] bcast_S_S256x32x128x7 main_cst_25
  let main_v176 : FVec F S256x32x128x7 .f32 := maximumf main_v174 main_v175
  let main_cst_26 : FVec F S_ .f32 := constant S_ .f32 0x00000000#32
  let main_v177 : FVec F S256x32x128 .f32 := (fun x v => Host.reduceAdd x v reducesTo_S256x32x128x7_S256x32x128_d3 h_S_) main_v176 main_cst_26
  let main_cst_27 : FVec F S_ .f32 := constant S_ .f32 0x40E00000#32
  let main_v178 : FVec F S256x32x128 .f32 := broadcastInDim S256x32x128 ![] bcast_S_S256x32x128 main_cst_27
  let main_v179 : FVec F S256x32x128 .f32 := Host.divf main_v177 main_v178
  let main_v180 : FVec F S256x32x128 .f32 := addf main_v51 main_v179
  let main_cst_28 : FVec F S_ .f32 := constant S_ .f32 0x00000000#32
  let main_v181 : FVec F S256x32x128 .f32 := broadcastInDim S256x32x128 ![] bcast_S_S256x32x128 main_cst_28
  let main_v182 : FVec F S256x32x128 .f32 := maximumf main_v180 main_v181
  fn_part9 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v182

def fn_part7 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v51 : FVec F S256x32x128 .f32) (main_v142 : FVec F S256x32x128x7 .f32) : IVec S_ 1 × IVec S_ 1 × IVec S_ 1 × IVec S256x128x8 1 × IVec S256x128x8 1 :=
  let main_v143 : FVec F S1x32x1x1 .f32 := shapeCast S1x32x1x1 main_arg10 shapeCasts_S32_S1x32x1x1
  let main_v144 : FVec F S256x32x128x7 .f32 := broadcastInDim S256x32x128x7 ![0, 1, 2, 3] bcast_S1x32x1x1_S256x32x128x7_0_1_2_3 main_v143
  let main_v145 : FVec F S256x32x128x7 .f32 := addf main_v142 main_v144
  let main_cst_21 : FVec F S_ .f32 := constant S_ .f32 0x00000000#32
  let main_v146 : FVec F S256x32x128x7 .f32 := broadcastInDim S256x32x128x7 ![] bcast_S_S256x32x128x7 main_cst_21
  let main_v147 : FVec F S256x32x128x7 .f32 := maximumf main_v145 main_v146
  let main_v148 : FVec F S256x128x7x32 .f32 := (fun l r => Host.dotGeneral dot_S256x32x128x7_S32x32_S256x128x7x32_1_1_023_0_n_n none l r) main_v147 main_arg6
  let main_v149 : FVec F S256x32x128x7 .f32 := (transpose S256x32x128x7 [0, 3, 1, 2] · transposes_S256x128x7x32_S256x32x128x7_0_3_1_2) main_v148
  let main_v150 : FVec F S1x32 .f32 := (extractStridedSlice S1x32 ![6, 0] · slices_S8x32_S1x32_6_0) main_arg32
  let main_v151 : FVec F S32 .f32 := shapeCast S32 main_v150 shapeCasts_S1x32_S32
  let main_v152 : FVec F S1x32 .f32 := (extractStridedSlice S1x32 ![7, 0] · slices_S8x32_S1x32_7_0) main_arg32
  let main_v153 : FVec F S32 .f32 := shapeCast S32 main_v152 shapeCasts_S1x32_S32
  let main_cst_22 : FVec F S_ .f32 := constant S_ .f32 0x48600000#32
  let main_v154 : FVec F S32 .f32 := broadcastInDim S32 ![] bcast_S_S32 main_cst_22
  let main_v155 : FVec F S32 .f32 := Host.divf main_v151 main_v154
  let main_cst_23 : FVec F S_ .f32 := constant S_ .f32 0x48600000#32
  let main_v156 : FVec F S32 .f32 := broadcastInDim S32 ![] bcast_S_S32 main_cst_23
  let main_v157 : FVec F S32 .f32 := Host.divf main_v153 main_v156
  let main_v158 : FVec F S32 .f32 := mulf main_v155 main_v155
  let main_v159 : FVec F S32 .f32 := subf main_v157 main_v158
  let main_v160 : FVec F S1x32x1x1 .f32 := shapeCast S1x32x1x1 main_v155 shapeCasts_S32_S1x32x1x1
  let main_v161 : FVec F S256x32x128x7 .f32 := broadcastInDim S256x32x128x7 ![0, 1, 2, 3] bcast_S1x32x1x1_S256x32x128x7_0_1_2_3 main_v160
  let main_v162 : FVec F S256x32x128x7 .f32 := subf main_v149 main_v161
  let main_v163 : FVec F S1x32x1x1 .f32 := shapeCast S1x32x1x1 main_v159 shapeCasts_S32_S1x32x1x1
  fn_part8 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v51 main_v162 main_v163

def fn_part6 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v51 : FVec F S256x32x128 .f32) (main_v120 : FVec F S256x32x128x7 .f32) (main_v121 : FVec F S1x32 .f32) : IVec S_ 1 × IVec S_ 1 × IVec S_ 1 × IVec S256x128x8 1 × IVec S256x128x8 1 :=
  let main_v122 : FVec F S32 .f32 := shapeCast S32 main_v121 shapeCasts_S1x32_S32
  let main_v123 : FVec F S1x32 .f32 := (extractStridedSlice S1x32 ![5, 0] · slices_S8x32_S1x32_5_0) main_arg32
  let main_v124 : FVec F S32 .f32 := shapeCast S32 main_v123 shapeCasts_S1x32_S32
  let main_cst_18 : FVec F S_ .f32 := constant S_ .f32 0x48600000#32
  let main_v125 : FVec F S32 .f32 := broadcastInDim S32 ![] bcast_S_S32 main_cst_18
  let main_v126 : FVec F S32 .f32 := Host.divf main_v122 main_v125
  let main_cst_19 : FVec F S_ .f32 := constant S_ .f32 0x48600000#32
  let main_v127 : FVec F S32 .f32 := broadcastInDim S32 ![] bcast_S_S32 main_cst_19
  let main_v128 : FVec F S32 .f32 := Host.divf main_v124 main_v127
  let main_v129 : FVec F S32 .f32 := mulf main_v126 main_v126
  let main_v130 : FVec F S32 .f32 := subf main_v128 main_v129
  let main_v131 : FVec F S1x32x1x1 .f32 := shapeCast S1x32x1x1 main_v126 shapeCasts_S32_S1x32x1x1
  let main_v132 : FVec F S256x32x128x7 .f32 := broadcastInDim S256x32x128x7 ![0, 1, 2, 3] bcast_S1x32x1x1_S256x32x128x7_0_1_2_3 main_v131
  let main_v133 : FVec F S256x32x128x7 .f32 := subf main_v120 main_v132
  let main_v134 : FVec F S1x32x1x1 .f32 := shapeCast S1x32x1x1 main_v130 shapeCasts_S32_S1x32x1x1
  let main_cst_20 : FVec F S_ .f32 := constant S_ .f32 0x3727C5AC#32
  let main_v135 : FVec F S1x32x1x1 .f32 := broadcastInDim S1x32x1x1 ![] bcast_S_S1x32x1x1 main_cst_20
  let main_v136 : FVec F S1x32x1x1 .f32 := addf main_v134 main_v135
  let main_v137 : FVec F S1x32x1x1 .f32 := Host.sqrt main_v136
  let main_v138 : FVec F S256x32x128x7 .f32 := broadcastInDim S256x32x128x7 ![0, 1, 2, 3] bcast_S1x32x1x1_S256x32x128x7_0_1_2_3 main_v137
  let main_v139 : FVec F S256x32x128x7 .f32 := Host.divf main_v133 main_v138
  let main_v140 : FVec F S1x32x1x1 .f32 := shapeCast S1x32x1x1 main_arg9 shapeCasts_S32_S1x32x1x1
  let main_v141 : FVec F S256x32x128x7 .f32 := broadcastInDim S256x32x128x7 ![0, 1, 2, 3] bcast_S1x32x1x1_S256x32x128x7_0_1_2_3 main_v140
  let main_v142 : FVec F S256x32x128x7 .f32 := mulf main_v139 main_v141
  fn_part7 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v51 main_v142

def fn_part5 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v51 : FVec F S256x32x128 .f32) (main_v91 : FVec F S256x32x128x7 .f32) (main_v97 : FVec F S32 .f32) (main_v99 : FVec F S32 .f32) : IVec S_ 1 × IVec S_ 1 × IVec S_ 1 × IVec S256x128x8 1 × IVec S256x128x8 1 :=
  let main_v100 : FVec F S32 .f32 := mulf main_v97 main_v97
  let main_v101 : FVec F S32 .f32 := subf main_v99 main_v100
  let main_v102 : FVec F S1x32x1x1 .f32 := shapeCast S1x32x1x1 main_v97 shapeCasts_S32_S1x32x1x1
  let main_v103 : FVec F S256x32x128x7 .f32 := broadcastInDim S256x32x128x7 ![0, 1, 2, 3] bcast_S1x32x1x1_S256x32x128x7_0_1_2_3 main_v102
  let main_v104 : FVec F S256x32x128x7 .f32 := subf main_v91 main_v103
  let main_v105 : FVec F S1x32x1x1 .f32 := shapeCast S1x32x1x1 main_v101 shapeCasts_S32_S1x32x1x1
  let main_cst_16 : FVec F S_ .f32 := constant S_ .f32 0x3727C5AC#32
  let main_v106 : FVec F S1x32x1x1 .f32 := broadcastInDim S1x32x1x1 ![] bcast_S_S1x32x1x1 main_cst_16
  let main_v107 : FVec F S1x32x1x1 .f32 := addf main_v105 main_v106
  let main_v108 : FVec F S1x32x1x1 .f32 := Host.sqrt main_v107
  let main_v109 : FVec F S256x32x128x7 .f32 := broadcastInDim S256x32x128x7 ![0, 1, 2, 3] bcast_S1x32x1x1_S256x32x128x7_0_1_2_3 main_v108
  let main_v110 : FVec F S256x32x128x7 .f32 := Host.divf main_v104 main_v109
  let main_v111 : FVec F S1x32x1x1 .f32 := shapeCast S1x32x1x1 main_arg7 shapeCasts_S32_S1x32x1x1
  let main_v112 : FVec F S256x32x128x7 .f32 := broadcastInDim S256x32x128x7 ![0, 1, 2, 3] bcast_S1x32x1x1_S256x32x128x7_0_1_2_3 main_v111
  let main_v113 : FVec F S256x32x128x7 .f32 := mulf main_v110 main_v112
  let main_v114 : FVec F S1x32x1x1 .f32 := shapeCast S1x32x1x1 main_arg8 shapeCasts_S32_S1x32x1x1
  let main_v115 : FVec F S256x32x128x7 .f32 := broadcastInDim S256x32x128x7 ![0, 1, 2, 3] bcast_S1x32x1x1_S256x32x128x7_0_1_2_3 main_v114
  let main_v116 : FVec F S256x32x128x7 .f32 := addf main_v113 main_v115
  let main_cst_17 : FVec F S_ .f32 := constant S_ .f32 0x00000000#32
  let main_v117 : FVec F S256x32x128x7 .f32 := broadcastInDim S256x32x128x7 ![] bcast_S_S256x32x128x7 main_cst_17
  let main_v118 : FVec F S256x32x128x7 .f32 := maximumf main_v116 main_v117
  let main_v119 : FVec F S256x128x7x32 .f32 := (fun l r => Host.dotGeneral dot_S256x32x128x7_S32x32_S256x128x7x32_1_1_023_0_n_n none l r) main_v118 main_arg5
  let main_v120 : FVec F S256x32x128x7 .f32 := (transpose S256x32x128x7 [0, 3, 1, 2] · transposes_S256x128x7x32_S256x32x128x7_0_3_1_2) main_v119
  let main_v121 : FVec F S1x32 .f32 := (extractStridedSlice S1x32 ![4, 0] · slices_S8x32_S1x32_4_0) main_arg32
  fn_part6 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v51 main_v120 main_v121

def fn_part4 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v51 : FVec F S256x32x128 .f32) (main_v66 : IVec S256x128x7 32) (main_v67 : FVec F S256x128x32 .f32) (main_v74 : IVec S256x1x1 32) (main_v76 : IVec S256x128x7 1) (main_v77 : IVec S256x128x7 32) : IVec S_ 1 × IVec S_ 1 × IVec S_ 1 × IVec S256x128x8 1 × IVec S256x128x8 1 :=
  let main_v78 : IVec S256x128x7 32 := addi main_v66 main_v77
  let main_v79 : IVec S256x128x7 32 := select main_v76 main_v78 main_v66
  let main_v80 : IVec S256x128x7 32 := broadcastInDim S256x128x7 ![0, 1, 2] bcast_S256x1x1_S256x128x7_0_1_2 main_v74
  let main_v81 : IVec S256x128x7x1 32 := broadcastInDim S256x128x7x1 ![0, 1, 2] bcast_S256x128x7_S256x128x7x1_0_1_2 main_v80
  let main_v82 : IVec S256x128x7x1 32 := broadcastInDim S256x128x7x1 ![0, 1, 2] bcast_S256x128x7_S256x128x7x1_0_1_2 main_v79
  let main_v83 : IVec S256x128x7x2 32 := (fun a b => concatenate S256x128x7x2 3 [⟨S256x128x7x1, a⟩, ⟨S256x128x7x1, b⟩] concatenates_S256x128x7x1_S256x128x7x1_S256x128x7x2_d3) main_v81 main_v82
  let main_v84 : FVec F S256x128x7x32 .f32 := (fun x i => Host.gather gather_S256x128x32_S256x128x7x2_S256x128x7x32_3_01_n_n_01_3_1132 x i) main_v67 main_v83
  let main_v85 : FVec F S256x32x128x7 .f32 := (transpose S256x32x128x7 [0, 3, 1, 2] · transposes_S256x128x7x32_S256x32x128x7_0_3_1_2) main_v84
  let main_v86 : FVec F S256x32x128x1 .f32 := broadcastInDim S256x32x128x1 ![0, 1, 2] bcast_S256x32x128_S256x32x128x1_0_1_2 main_v51
  let main_v87 : FVec F S256x32x128x7 .f32 := broadcastInDim S256x32x128x7 ![0, 1, 2, 3] bcast_S256x32x128x1_S256x32x128x7_0_1_2_3 main_v86
  let main_v88 : FVec F S256x32x128x7 .f32 := subf main_v85 main_v87
  let main_v89 : FVec F S256x64x128x7 .f32 := (fun a b => concatenate S256x64x128x7 1 [⟨S256x32x128x7, a⟩, ⟨S256x32x128x7, b⟩] concatenates_S256x32x128x7_S256x32x128x7_S256x64x128x7_d1) main_v87 main_v88
  let main_v90 : FVec F S256x128x7x32 .f32 := (fun l r => Host.dotGeneral dot_S256x64x128x7_S32x64_S256x128x7x32_1_1_023_0_n_n none l r) main_v89 main_arg4
  let main_v91 : FVec F S256x32x128x7 .f32 := (transpose S256x32x128x7 [0, 3, 1, 2] · transposes_S256x128x7x32_S256x32x128x7_0_3_1_2) main_v90
  let main_v92 : FVec F S1x32 .f32 := (extractStridedSlice S1x32 ![2, 0] · slices_S8x32_S1x32_2_0) main_arg32
  let main_v93 : FVec F S32 .f32 := shapeCast S32 main_v92 shapeCasts_S1x32_S32
  let main_v94 : FVec F S1x32 .f32 := (extractStridedSlice S1x32 ![3, 0] · slices_S8x32_S1x32_3_0) main_arg32
  let main_v95 : FVec F S32 .f32 := shapeCast S32 main_v94 shapeCasts_S1x32_S32
  let main_cst_14 : FVec F S_ .f32 := constant S_ .f32 0x48600000#32
  let main_v96 : FVec F S32 .f32 := broadcastInDim S32 ![] bcast_S_S32 main_cst_14
  let main_v97 : FVec F S32 .f32 := Host.divf main_v93 main_v96
  let main_cst_15 : FVec F S_ .f32 := constant S_ .f32 0x48600000#32
  let main_v98 : FVec F S32 .f32 := broadcastInDim S32 ![] bcast_S_S32 main_cst_15
  let main_v99 : FVec F S32 .f32 := Host.divf main_v95 main_v98
  fn_part5 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v51 main_v91 main_v97 main_v99

def fn_part3 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v51 : FVec F S256x32x128 .f32) (main_v56 : FVec F S256x128x128 .f32) (main_v59 : FVec F S256x1x128 .f32) : IVec S_ 1 × IVec S_ 1 × IVec S_ 1 × IVec S256x128x8 1 × IVec S256x128x8 1 :=
  let main_v60 : FVec F S256x1x128 .f32 := Host.negf main_v59
  let main_v61 : FVec F S256x128x128 .f32 := broadcastInDim S256x128x128 ![0, 1, 2] bcast_S256x1x128_S256x128x128_0_1_2 main_v60
  let main_v62 : FVec F S256x128x128 .f32 := subf main_v61 main_v56
  let main_v63 : FVec F S256x128x1 .f32 := (transpose S256x128x1 [0, 2, 1] · transposes_S256x1x128_S256x128x1_0_2_1) main_v59
  let main_v64 : FVec F S256x128x128 .f32 := broadcastInDim S256x128x128 ![0, 1, 2] bcast_S256x128x1_S256x128x128_0_1_2 main_v63
  let main_v65 : FVec F S256x128x128 .f32 := subf main_v62 main_v64
  let main_values : FVec F S256x128x8 .f32 := (fun x => (Host.topK S256x128x8 2 (FloatOps.cmpfTotal .gt) x sliceFits_S256x128x128_S256x128x8).1) main_v65
  let main_indices : IVec S256x128x8 32 := (fun x => (Host.topK S256x128x8 2 (FloatOps.cmpfTotal .gt) x sliceFits_S256x128x128_S256x128x8).2) main_v65
  let main_v66 : IVec S256x128x7 32 := (extractStridedSlice S256x128x7 ![0, 0, 1] · slices_S256x128x8_S256x128x7_0_0_1) main_indices
  let main_v67 : FVec F S256x128x32 .f32 := (transpose S256x128x32 [0, 2, 1] · transposes_S256x32x128_S256x128x32_0_2_1) main_v51
  let main_v68 : IVec S256 32 := iotaInDim S256 32 0
  let main_v69 : IVec S256x1x1 32 := broadcastInDim S256x1x1 ![0] bcast_S256_S256x1x1_0 main_v68
  let main_c : IVec S_ 32 := constantI S_ 32 0#32
  let main_v70 : IVec S256x1x1 32 := broadcastInDim S256x1x1 ![] bcast_S_S256x1x1 main_c
  let main_v71 : IVec S256x1x1 1 := cmpi .slt main_v69 main_v70
  let main_c_11 : IVec S_ 32 := constantI S_ 32 256#32
  let main_v72 : IVec S256x1x1 32 := broadcastInDim S256x1x1 ![] bcast_S_S256x1x1 main_c_11
  let main_v73 : IVec S256x1x1 32 := addi main_v69 main_v72
  let main_v74 : IVec S256x1x1 32 := select main_v71 main_v73 main_v69
  let main_c_12 : IVec S_ 32 := constantI S_ 32 0#32
  let main_v75 : IVec S256x128x7 32 := broadcastInDim S256x128x7 ![] bcast_S_S256x128x7 main_c_12
  let main_v76 : IVec S256x128x7 1 := cmpi .slt main_v66 main_v75
  let main_c_13 : IVec S_ 32 := constantI S_ 32 128#32
  let main_v77 : IVec S256x128x7 32 := broadcastInDim S256x128x7 ![] bcast_S_S256x128x7 main_c_13
  fn_part4 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v51 main_v66 main_v67 main_v74 main_v76 main_v77

def fn_part2 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v17 : FVec F S256x8x128 .f32) (main_v24 : FVec F S256x1x128 .f32) (main_v37 : FVec F S256x32x128 .f32) (main_v38 : FVec F S1x32x1 .f32) : IVec S_ 1 × IVec S_ 1 × IVec S_ 1 × IVec S256x128x8 1 × IVec S256x128x8 1 :=
  let main_cst_8 : FVec F S_ .f32 := constant S_ .f32 0x3727C5AC#32
  let main_v39 : FVec F S1x32x1 .f32 := broadcastInDim S1x32x1 ![] bcast_S_S1x32x1 main_cst_8
  let main_v40 : FVec F S1x32x1 .f32 := addf main_v38 main_v39
  let main_v41 : FVec F S1x32x1 .f32 := Host.sqrt main_v40
  let main_v42 : FVec F S256x32x128 .f32 := broadcastInDim S256x32x128 ![0, 1, 2] bcast_S1x32x1_S256x32x128_0_1_2 main_v41
  let main_v43 : FVec F S256x32x128 .f32 := Host.divf main_v37 main_v42
  let main_v44 : FVec F S1x32x1 .f32 := shapeCast S1x32x1 main_arg2 shapeCasts_S32_S1x32x1
  let main_v45 : FVec F S256x32x128 .f32 := broadcastInDim S256x32x128 ![0, 1, 2] bcast_S1x32x1_S256x32x128_0_1_2 main_v44
  let main_v46 : FVec F S256x32x128 .f32 := mulf main_v43 main_v45
  let main_v47 : FVec F S1x32x1 .f32 := shapeCast S1x32x1 main_arg3 shapeCasts_S32_S1x32x1
  let main_v48 : FVec F S256x32x128 .f32 := broadcastInDim S256x32x128 ![0, 1, 2] bcast_S1x32x1_S256x32x128_0_1_2 main_v47
  let main_v49 : FVec F S256x32x128 .f32 := addf main_v46 main_v48
  let main_v50 : FVec F S256x32x128 .f32 := broadcastInDim S256x32x128 ![0, 1, 2] bcast_S256x1x128_S256x32x128_0_1_2 main_v15
  let main_v51 : FVec F S256x32x128 .f32 := mulf main_v49 main_v50
  let main_v52 : FVec F S256x8x128 .f32 := broadcastInDim S256x8x128 ![0, 1, 2] bcast_S256x1x128_S256x8x128_0_1_2 main_v24
  let main_v53 : FVec F S256x8x128 .f32 := addf main_v17 main_v52
  let main_v54 : FVec F S256x128x128 .f32 := (fun l r => Host.dotGeneral dot_S256x8x128_S256x8x128_S256x128x128_1_1_2_2_0_0 none l r) main_v53 main_v53
  let main_cst_9 : FVec F S_ .f32 := constant S_ .f32 0xC0000000#32
  let main_v55 : FVec F S256x128x128 .f32 := broadcastInDim S256x128x128 ![] bcast_S_S256x128x128 main_cst_9
  let main_v56 : FVec F S256x128x128 .f32 := mulf main_v55 main_v54
  let main_v57 : FVec F S256x8x128 .f32 := mulf main_v53 main_v53
  let main_cst_10 : FVec F S_ .f32 := constant S_ .f32 0x00000000#32
  let main_v58 : FVec F S256x128 .f32 := (fun x v => Host.reduceAdd x v reducesTo_S256x8x128_S256x128_d1 h_S_) main_v57 main_cst_10
  let main_v59 : FVec F S256x1x128 .f32 := broadcastInDim S256x1x128 ![0, 2] bcast_S256x128_S256x1x128_0_2 main_v58
  fn_part3 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v51 main_v56 main_v59

def fn_part1 {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg32 : FVec F S8x32 .f32) (main_arg33 : FVec F S8x64 .f32) (main_v5 : FVec F S256x1x128 .f32) (main_v9 : IVec S256x128x8 1) (main_v15 : FVec F S256x1x128 .f32) (main_v17 : FVec F S256x8x128 .f32) (main_v18 : FVec F S256x32x128 .f32) : IVec S_ 1 × IVec S_ 1 × IVec S_ 1 × IVec S256x128x8 1 × IVec S256x128x8 1 :=
  let main_v19 : FVec F S256x32x128 .f32 := mulf main_arg1 main_v18
  let main_cst_4 : FVec F S_ .f32 := constant S_ .f32 0x00000000#32
  let main_v20 : FVec F S256x1x128 .f32 := broadcastInDim S256x1x128 ![] bcast_S_S256x1x128 main_cst_4
  let main_v21 : IVec S256x1x128 1 := cmpf .oeq main_v15 main_v20
  let main_v22 : FVec F S256x1x128 .f32 := uitofp .f32 main_v21
  let main_cst_5 : FVec F S_ .f32 := constant S_ .f32 0x4E6E6B28#32
  let main_v23 : FVec F S256x1x128 .f32 := broadcastInDim S256x1x128 ![] bcast_S_S256x1x128 main_cst_5
  let main_v24 : FVec F S256x1x128 .f32 := mulf main_v22 main_v23
  let main_v25 : FVec F S1x32 .f32 := (extractStridedSlice S1x32 ![0, 0] · slices_S8x32_S1x32_0_0) main_arg32
  let main_v26 : FVec F S32 .f32 := shapeCast S32 main_v25 shapeCasts_S1x32_S32
  let main_v27 : FVec F S1x32 .f32 := (extractStridedSlice S1x32 ![1, 0] · slices_S8x32_S1x32_1_0) main_arg32
  let main_v28 : FVec F S32 .f32 := shapeCast S32 main_v27 shapeCasts_S1x32_S32
  let main_cst_6 : FVec F S_ .f32 := constant S_ .f32 0x47000000#32
  let main_v29 : FVec F S32 .f32 := broadcastInDim S32 ![] bcast_S_S32 main_cst_6
  let main_v30 : FVec F S32 .f32 := Host.divf main_v26 main_v29
  let main_cst_7 : FVec F S_ .f32 := constant S_ .f32 0x47000000#32
  let main_v31 : FVec F S32 .f32 := broadcastInDim S32 ![] bcast_S_S32 main_cst_7
  let main_v32 : FVec F S32 .f32 := Host.divf main_v28 main_v31
  let main_v33 : FVec F S32 .f32 := mulf main_v30 main_v30
  let main_v34 : FVec F S32 .f32 := subf main_v32 main_v33
  let main_v35 : FVec F S1x32x1 .f32 := shapeCast S1x32x1 main_v30 shapeCasts_S32_S1x32x1
  let main_v36 : FVec F S256x32x128 .f32 := broadcastInDim S256x32x128 ![0, 1, 2] bcast_S1x32x1_S256x32x128_0_1_2 main_v35
  let main_v37 : FVec F S256x32x128 .f32 := subf main_v19 main_v36
  let main_v38 : FVec F S1x32x1 .f32 := shapeCast S1x32x1 main_v34 shapeCasts_S32_S1x32x1
  fn_part2 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v17 main_v24 main_v37 main_v38

def fn {F : FTy → Type} [FloatOps F] (main_arg0 : FVec F S256x8x128 .f32) (main_arg1 : FVec F S256x32x128 .f32) (main_arg2 : FVec F S32 .f32) (main_arg3 : FVec F S32 .f32) (main_arg4 : FVec F S32x64 .f32) (main_arg5 : FVec F S32x32 .f32) (main_arg6 : FVec F S32x32 .f32) (main_arg7 : FVec F S32 .f32) (main_arg8 : FVec F S32 .f32) (main_arg9 : FVec F S32 .f32) (main_arg10 : FVec F S32 .f32) (main_arg11 : FVec F S32 .f32) (main_arg12 : FVec F S32 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x32 .f32) (main_arg23 : FVec F S64 .f32) (main_arg24 : FVec F S64 .f32) (main_arg25 : FVec F S128x96 .f32) (main_arg26 : FVec F S128 .f32) (main_arg27 : FVec F S128 .f32) (main_arg28 : FVec F S128x128 .f32) (main_arg29 : FVec F S128 .f32) (main_arg30 : FVec F S10x128 .f32) (main_arg31 : FVec F S10 .f32) (main_arg32 : FVec F S8x32 .f32) (main_arg33 : FVec F S8x64 .f32) : IVec S_ 1 × IVec S_ 1 × IVec S_ 1 × IVec S256x128x8 1 × IVec S256x128x8 1 :=
  let main_v0 : FVec F S256x32x128 .f32 := Host.absf main_arg1
  let main_cst : FVec F S_ .f32 := constant S_ .f32 0x00000000#32
  let main_v1 : FVec F S256x128 .f32 := (fun x v => Host.reduceAdd x v reducesTo_S256x32x128_S256x128_d1 h_S_) main_v0 main_cst
  let main_v2 : FVec F S256x1x128 .f32 := broadcastInDim S256x1x128 ![0, 2] bcast_S256x128_S256x1x128_0_2 main_v1
  let main_cst_0 : FVec F S_ .f32 := constant S_ .f32 0x00000000#32
  let main_v3 : FVec F S256x1x128 .f32 := broadcastInDim S256x1x128 ![] bcast_S_S256x1x128 main_cst_0
  let main_v4 : IVec S256x1x128 1 := cmpf .une main_v2 main_v3
  let main_v5 : FVec F S256x1x128 .f32 := uitofp .f32 main_v4
  let main_v6 : FVec F S256x128x1 .f32 := (transpose S256x128x1 [0, 2, 1] · transposes_S256x1x128_S256x128x1_0_2_1) main_v5
  let main_cst_1 : FVec F S_ .f32 := constant S_ .f32 0x00000000#32
  let main_v7 : FVec F S256x128x1 .f32 := broadcastInDim S256x128x1 ![] bcast_S_S256x128x1 main_cst_1
  let main_v8 : IVec S256x128x1 1 := cmpf .oeq main_v6 main_v7
  let main_v9 : IVec S256x128x8 1 := broadcastInDim S256x128x8 ![0, 1, 2] bcast_S256x128x1_S256x128x8_0_1_2 main_v8
  let main_v10 : FVec F S256x32x128 .f32 := Host.absf main_arg1
  let main_cst_2 : FVec F S_ .f32 := constant S_ .f32 0x00000000#32
  let main_v11 : FVec F S256x128 .f32 := (fun x v => Host.reduceAdd x v reducesTo_S256x32x128_S256x128_d1 h_S_) main_v10 main_cst_2
  let main_v12 : FVec F S256x1x128 .f32 := broadcastInDim S256x1x128 ![0, 2] bcast_S256x128_S256x1x128_0_2 main_v11
  let main_cst_3 : FVec F S_ .f32 := constant S_ .f32 0x00000000#32
  let main_v13 : FVec F S256x1x128 .f32 := broadcastInDim S256x1x128 ![] bcast_S_S256x1x128 main_cst_3
  let main_v14 : IVec S256x1x128 1 := cmpf .une main_v12 main_v13
  let main_v15 : FVec F S256x1x128 .f32 := uitofp .f32 main_v14
  let main_v16 : FVec F S256x8x128 .f32 := broadcastInDim S256x8x128 ![0, 1, 2] bcast_S256x1x128_S256x8x128_0_1_2 main_v15
  let main_v17 : FVec F S256x8x128 .f32 := mulf main_arg0 main_v16
  let main_v18 : FVec F S256x32x128 .f32 := broadcastInDim S256x32x128 ![0, 1, 2] bcast_S256x1x128_S256x32x128_0_1_2 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg32 main_arg33 main_v5 main_v9 main_v15 main_v17 main_v18
-- ==== Pre_first_separated.lean ====
abbrev S256x8x128 : Shape := ⟨3, ![256, 8, 128]⟩
abbrev S256x32x128 : Shape := ⟨3, ![256, 32, 128]⟩
abbrev S1x32 : Shape := ⟨2, ![1, 32]⟩
abbrev S96x64 : Shape := ⟨2, ![96, 64]⟩
abbrev S6x32 : Shape := ⟨2, ![6, 32]⟩
abbrev S8x32 : Shape := ⟨2, ![8, 32]⟩
abbrev S_ : Shape := ⟨0, ![]⟩
abbrev S256x128 : Shape := ⟨2, ![256, 128]⟩
abbrev S256x1x128 : Shape := ⟨3, ![256, 1, 128]⟩
abbrev S256x128x128 : Shape := ⟨3, ![256, 128, 128]⟩
abbrev S256x128x1 : Shape := ⟨3, ![256, 128, 1]⟩
abbrev S256x128x9 : Shape := ⟨3, ![256, 128, 9]⟩
abbrev S256x128x8 : Shape := ⟨3, ![256, 128, 8]⟩
abbrev S32 : Shape := ⟨1, ![32]⟩

class Facts : Prop where
  reducesTo_S256x32x128_S256x128_d1 : S256x32x128.ReducesTo [1] S256x128
  h_S_ : 0 < S_.numel
  bcast_S256x128_S256x1x128_0_2 : S256x128.BroadcastsInDim S256x1x128 (![0, 2] : Fin 2 → Fin S256x1x128.rank)
  bcast_S_S256x1x128 : S_.BroadcastsInDim S256x1x128 (![] : Fin 0 → Fin S256x1x128.rank)
  bcast_S256x1x128_S256x8x128_0_1_2 : S256x1x128.BroadcastsInDim S256x8x128 (![0, 1, 2] : Fin 3 → Fin S256x8x128.rank)
  bcast_S_S256x128x128 : S_.BroadcastsInDim S256x128x128 (![] : Fin 0 → Fin S256x128x128.rank)
  reducesTo_S256x8x128_S256x128_d1 : S256x8x128.ReducesTo [1] S256x128
  bcast_S256x1x128_S256x128x128_0_1_2 : S256x1x128.BroadcastsInDim S256x128x128 (![0, 1, 2] : Fin 3 → Fin S256x128x128.rank)
  transposes_S256x1x128_S256x128x1_0_2_1 : S256x1x128.Transposes [0, 2, 1] S256x128x1
  bcast_S256x128x1_S256x128x128_0_1_2 : S256x128x1.BroadcastsInDim S256x128x128 (![0, 1, 2] : Fin 3 → Fin S256x128x128.rank)
  sliceFits_S256x128x128_S256x128x9 : S256x128x128.Slices (fun _ => 0) S256x128x9
  slices_S256x128x9_S256x128x8_0_0_0 : S256x128x9.Slices ![0, 0, 0] S256x128x8
  slices_S256x128x9_S256x128x8_0_0_1 : S256x128x9.Slices ![0, 0, 1] S256x128x8
  bcast_S_S256x128x1 : S_.BroadcastsInDim S256x128x1 (![] : Fin 0 → Fin S256x128x1.rank)
  bcast_S256x128x1_S256x128x8_0_1_2 : S256x128x1.BroadcastsInDim S256x128x8 (![0, 1, 2] : Fin 3 → Fin S256x128x8.rank)
  bcast_S_S256x8x128 : S_.BroadcastsInDim S256x8x128 (![] : Fin 0 → Fin S256x8x128.rank)
  bcast_S_S256x32x128 : S_.BroadcastsInDim S256x32x128 (![] : Fin 0 → Fin S256x32x128.rank)
  bcast_S_S1x32 : S_.BroadcastsInDim S1x32 (![] : Fin 0 → Fin S1x32.rank)
  bcast_S_S96x64 : S_.BroadcastsInDim S96x64 (![] : Fin 0 → Fin S96x64.rank)
  bcast_S_S6x32 : S_.BroadcastsInDim S6x32 (![] : Fin 0 → Fin S6x32.rank)
  bcast_S_S8x32 : S_.BroadcastsInDim S8x32 (![] : Fin 0 → Fin S8x32.rank)
  slices_S8x32_S1x32_0_0 : S8x32.Slices ![0, 0] S1x32
  shapeCasts_S1x32_S32 : S1x32.ShapeCasts S32
  bcast_S_S32 : S_.BroadcastsInDim S32 (![] : Fin 0 → Fin S32.rank)
  slices_S8x32_S1x32_1_0 : S8x32.Slices ![1, 0] S1x32
  slices_S8x32_S1x32_2_0 : S8x32.Slices ![2, 0] S1x32
  slices_S8x32_S1x32_3_0 : S8x32.Slices ![3, 0] S1x32
  slices_S8x32_S1x32_4_0 : S8x32.Slices ![4, 0] S1x32
  slices_S8x32_S1x32_5_0 : S8x32.Slices ![5, 0] S1x32
  slices_S8x32_S1x32_6_0 : S8x32.Slices ![6, 0] S1x32
  slices_S8x32_S1x32_7_0 : S8x32.Slices ![7, 0] S1x32
  dot_S256x8x128_S256x8x128_S256x128x128_1_1_2_2_0_0_wf : DotDims.WF S256x8x128 S256x8x128 S256x128x128 [1] [1] [2] [2] [0] [0]

variable [Facts]

def dot_S256x8x128_S256x8x128_S256x128x128_1_1_2_2_0_0 : DotDims S256x8x128 S256x8x128 S256x128x128 where
  lhsContracting := [1]
  rhsContracting := [1]
  lhsNonContracting := [2]
  rhsNonContracting := [2]
  lhsBatch := [0]
  rhsBatch := [0]
  wf := dot_S256x8x128_S256x8x128_S256x128x128_1_1_2_2_0_0_wf
def fn_part5 {F : FTy → Type} [FloatOps F] (main_arg6 : FVec F S8x32 .f32) (main_v29 : IVec S256x128x8 1) (main_v33 : IVec S256x128x8 1) (main_v36 : IVec S256x8x128 1) (main_v39 : IVec S256x32x128 1) (main_v42 : IVec S1x32 1) (main_v45 : IVec S1x32 1) (main_v48 : IVec S96x64 1) (main_v51 : IVec S6x32 1) (main_v54 : IVec S8x32 1) (main_v68 : IVec S32 1) (main_v82 : IVec S32 1) (main_v92 : FVec F S32 .f32) (main_cst_23 : FVec F S_ .f32) : IVec S256x8x128 1 × IVec S256x32x128 1 × IVec S1x32 1 × IVec S1x32 1 × IVec S96x64 1 × IVec S6x32 1 × IVec S8x32 1 × IVec S32 1 × IVec S32 1 × IVec S32 1 × IVec S32 1 × IVec S256x128x8 1 :=
  let main_v93 : FVec F S32 .f32 := broadcastInDim S32 ![] bcast_S_S32 main_cst_23
  let main_v94 : FVec F S32 .f32 := addf main_v92 main_v93
  let main_cst_24 : FVec F S_ .f32 := constant S_ .f32 0x00000000#32
  let main_v95 : FVec F S32 .f32 := broadcastInDim S32 ![] bcast_S_S32 main_cst_24
  let main_v96 : IVec S32 1 := cmpf .ogt main_v94 main_v95
  let main_v97 : FVec F S1x32 .f32 := (extractStridedSlice S1x32 ![6, 0] · slices_S8x32_S1x32_6_0) main_arg6
  let main_v98 : FVec F S32 .f32 := shapeCast S32 main_v97 shapeCasts_S1x32_S32
  let main_cst_25 : FVec F S_ .f32 := constant S_ .f32 0x48600000#32
  let main_v99 : FVec F S32 .f32 := broadcastInDim S32 ![] bcast_S_S32 main_cst_25
  let main_v100 : FVec F S32 .f32 := Host.divf main_v98 main_v99
  let main_v101 : FVec F S1x32 .f32 := (extractStridedSlice S1x32 ![7, 0] · slices_S8x32_S1x32_7_0) main_arg6
  let main_v102 : FVec F S32 .f32 := shapeCast S32 main_v101 shapeCasts_S1x32_S32
  let main_cst_26 : FVec F S_ .f32 := constant S_ .f32 0x48600000#32
  let main_v103 : FVec F S32 .f32 := broadcastInDim S32 ![] bcast_S_S32 main_cst_26
  let main_v104 : FVec F S32 .f32 := Host.divf main_v102 main_v103
  let main_v105 : FVec F S32 .f32 := mulf main_v100 main_v100
  let main_v106 : FVec F S32 .f32 := subf main_v104 main_v105
  let main_cst_27 : FVec F S_ .f32 := constant S_ .f32 0x3727C5AC#32
  let main_v107 : FVec F S32 .f32 := broadcastInDim S32 ![] bcast_S_S32 main_cst_27
  let main_v108 : FVec F S32 .f32 := addf main_v106 main_v107
  let main_cst_28 : FVec F S_ .f32 := constant S_ .f32 0x00000000#32
  let main_v109 : FVec F S32 .f32 := broadcastInDim S32 ![] bcast_S_S32 main_cst_28
  let main_v110 : IVec S32 1 := cmpf .ogt main_v108 main_v109
  let main_v111 : IVec S256x128x8 1 := ori main_v33 main_v29
  (main_v36, main_v39, main_v42, main_v45, main_v48, main_v51, main_v54, main_v68, main_v82, main_v96, main_v110, main_v111)

def fn_part4 {F : FTy → Type} [FloatOps F] (main_arg6 : FVec F S8x32 .f32) (main_v29 : IVec S256x128x8 1) (main_v33 : IVec S256x128x8 1) (main_v36 : IVec S256x8x128 1) (main_v39 : IVec S256x32x128 1) (main_v42 : IVec S1x32 1) (main_v45 : IVec S1x32 1) (main_v48 : IVec S96x64 1) (main_v51 : IVec S6x32 1) (main_v54 : IVec S8x32 1) (main_v68 : IVec S32 1) (main_v72 : FVec F S32 .f32) (main_v74 : FVec F S32 .f32) : IVec S256x8x128 1 × IVec S256x32x128 1 × IVec S1x32 1 × IVec S1x32 1 × IVec S96x64 1 × IVec S6x32 1 × IVec S8x32 1 × IVec S32 1 × IVec S32 1 × IVec S32 1 × IVec S32 1 × IVec S256x128x8 1 :=
  let main_cst_18 : FVec F S_ .f32 := constant S_ .f32 0x48600000#32
  let main_v75 : FVec F S32 .f32 := broadcastInDim S32 ![] bcast_S_S32 main_cst_18
  let main_v76 : FVec F S32 .f32 := Host.divf main_v74 main_v75
  let main_v77 : FVec F S32 .f32 := mulf main_v72 main_v72
  let main_v78 : FVec F S32 .f32 := subf main_v76 main_v77
  let main_cst_19 : FVec F S_ .f32 := constant S_ .f32 0x3727C5AC#32
  let main_v79 : FVec F S32 .f32 := broadcastInDim S32 ![] bcast_S_S32 main_cst_19
  let main_v80 : FVec F S32 .f32 := addf main_v78 main_v79
  let main_cst_20 : FVec F S_ .f32 := constant S_ .f32 0x00000000#32
  let main_v81 : FVec F S32 .f32 := broadcastInDim S32 ![] bcast_S_S32 main_cst_20
  let main_v82 : IVec S32 1 := cmpf .ogt main_v80 main_v81
  let main_v83 : FVec F S1x32 .f32 := (extractStridedSlice S1x32 ![4, 0] · slices_S8x32_S1x32_4_0) main_arg6
  let main_v84 : FVec F S32 .f32 := shapeCast S32 main_v83 shapeCasts_S1x32_S32
  let main_cst_21 : FVec F S_ .f32 := constant S_ .f32 0x48600000#32
  let main_v85 : FVec F S32 .f32 := broadcastInDim S32 ![] bcast_S_S32 main_cst_21
  let main_v86 : FVec F S32 .f32 := Host.divf main_v84 main_v85
  let main_v87 : FVec F S1x32 .f32 := (extractStridedSlice S1x32 ![5, 0] · slices_S8x32_S1x32_5_0) main_arg6
  let main_v88 : FVec F S32 .f32 := shapeCast S32 main_v87 shapeCasts_S1x32_S32
  let main_cst_22 : FVec F S_ .f32 := constant S_ .f32 0x48600000#32
  let main_v89 : FVec F S32 .f32 := broadcastInDim S32 ![] bcast_S_S32 main_cst_22
  let main_v90 : FVec F S32 .f32 := Host.divf main_v88 main_v89
  let main_v91 : FVec F S32 .f32 := mulf main_v86 main_v86
  let main_v92 : FVec F S32 .f32 := subf main_v90 main_v91
  let main_cst_23 : FVec F S_ .f32 := constant S_ .f32 0x3727C5AC#32
  fn_part5 (F := F) main_arg6 main_v29 main_v33 main_v36 main_v39 main_v42 main_v45 main_v48 main_v51 main_v54 main_v68 main_v82 main_v92 main_cst_23

def fn_part3 {F : FTy → Type} [FloatOps F] (main_arg6 : FVec F S8x32 .f32) (main_v29 : IVec S256x128x8 1) (main_v33 : IVec S256x128x8 1) (main_v36 : IVec S256x8x128 1) (main_v39 : IVec S256x32x128 1) (main_v42 : IVec S1x32 1) (main_v45 : IVec S1x32 1) (main_v48 : IVec S96x64 1) (main_v51 : IVec S6x32 1) (main_v54 : IVec S8x32 1) (main_v55 : FVec F S1x32 .f32) : IVec S256x8x128 1 × IVec S256x32x128 1 × IVec S1x32 1 × IVec S1x32 1 × IVec S96x64 1 × IVec S6x32 1 × IVec S8x32 1 × IVec S32 1 × IVec S32 1 × IVec S32 1 × IVec S32 1 × IVec S256x128x8 1 :=
  let main_v56 : FVec F S32 .f32 := shapeCast S32 main_v55 shapeCasts_S1x32_S32
  let main_cst_13 : FVec F S_ .f32 := constant S_ .f32 0x47000000#32
  let main_v57 : FVec F S32 .f32 := broadcastInDim S32 ![] bcast_S_S32 main_cst_13
  let main_v58 : FVec F S32 .f32 := Host.divf main_v56 main_v57
  let main_v59 : FVec F S1x32 .f32 := (extractStridedSlice S1x32 ![1, 0] · slices_S8x32_S1x32_1_0) main_arg6
  let main_v60 : FVec F S32 .f32 := shapeCast S32 main_v59 shapeCasts_S1x32_S32
  let main_cst_14 : FVec F S_ .f32 := constant S_ .f32 0x47000000#32
  let main_v61 : FVec F S32 .f32 := broadcastInDim S32 ![] bcast_S_S32 main_cst_14
  let main_v62 : FVec F S32 .f32 := Host.divf main_v60 main_v61
  let main_v63 : FVec F S32 .f32 := mulf main_v58 main_v58
  let main_v64 : FVec F S32 .f32 := subf main_v62 main_v63
  let main_cst_15 : FVec F S_ .f32 := constant S_ .f32 0x3727C5AC#32
  let main_v65 : FVec F S32 .f32 := broadcastInDim S32 ![] bcast_S_S32 main_cst_15
  let main_v66 : FVec F S32 .f32 := addf main_v64 main_v65
  let main_cst_16 : FVec F S_ .f32 := constant S_ .f32 0x00000000#32
  let main_v67 : FVec F S32 .f32 := broadcastInDim S32 ![] bcast_S_S32 main_cst_16
  let main_v68 : IVec S32 1 := cmpf .ogt main_v66 main_v67
  let main_v69 : FVec F S1x32 .f32 := (extractStridedSlice S1x32 ![2, 0] · slices_S8x32_S1x32_2_0) main_arg6
  let main_v70 : FVec F S32 .f32 := shapeCast S32 main_v69 shapeCasts_S1x32_S32
  let main_cst_17 : FVec F S_ .f32 := constant S_ .f32 0x48600000#32
  let main_v71 : FVec F S32 .f32 := broadcastInDim S32 ![] bcast_S_S32 main_cst_17
  let main_v72 : FVec F S32 .f32 := Host.divf main_v70 main_v71
  let main_v73 : FVec F S1x32 .f32 := (extractStridedSlice S1x32 ![3, 0] · slices_S8x32_S1x32_3_0) main_arg6
  let main_v74 : FVec F S32 .f32 := shapeCast S32 main_v73 shapeCasts_S1x32_S32
  fn_part4 (F := F) main_arg6 main_v29 main_v33 main_v36 main_v39 main_v42 main_v45 main_v48 main_v51 main_v54 main_v68 main_v72 main_v74

def fn_part2 {F : FTy → Type} [FloatOps F] (main_arg2 : FVec F S1x32 .f32) (main_arg3 : FVec F S1x32 .f32) (main_arg4 : FVec F S96x64 .f32) (main_arg5 : FVec F S6x32 .f32) (main_arg6 : FVec F S8x32 .f32) (main_v29 : IVec S256x128x8 1) (main_v33 : IVec S256x128x8 1) (main_v36 : IVec S256x8x128 1) (main_v37 : FVec F S256x32x128 .f32) : IVec S256x8x128 1 × IVec S256x32x128 1 × IVec S1x32 1 × IVec S1x32 1 × IVec S96x64 1 × IVec S6x32 1 × IVec S8x32 1 × IVec S32 1 × IVec S32 1 × IVec S32 1 × IVec S32 1 × IVec S256x128x8 1 :=
  let main_cst_7 : FVec F S_ .f32 := constant S_ .f32 0x7F800000#32
  let main_v38 : FVec F S256x32x128 .f32 := broadcastInDim S256x32x128 ![] bcast_S_S256x32x128 main_cst_7
  let main_v39 : IVec S256x32x128 1 := cmpf .olt main_v37 main_v38
  let main_v40 : FVec F S1x32 .f32 := Host.absf main_arg2
  let main_cst_8 : FVec F S_ .f32 := constant S_ .f32 0x7F800000#32
  let main_v41 : FVec F S1x32 .f32 := broadcastInDim S1x32 ![] bcast_S_S1x32 main_cst_8
  let main_v42 : IVec S1x32 1 := cmpf .olt main_v40 main_v41
  let main_v43 : FVec F S1x32 .f32 := Host.absf main_arg3
  let main_cst_9 : FVec F S_ .f32 := constant S_ .f32 0x7F800000#32
  let main_v44 : FVec F S1x32 .f32 := broadcastInDim S1x32 ![] bcast_S_S1x32 main_cst_9
  let main_v45 : IVec S1x32 1 := cmpf .olt main_v43 main_v44
  let main_v46 : FVec F S96x64 .f32 := Host.absf main_arg4
  let main_cst_10 : FVec F S_ .f32 := constant S_ .f32 0x7F800000#32
  let main_v47 : FVec F S96x64 .f32 := broadcastInDim S96x64 ![] bcast_S_S96x64 main_cst_10
  let main_v48 : IVec S96x64 1 := cmpf .olt main_v46 main_v47
  let main_v49 : FVec F S6x32 .f32 := Host.absf main_arg5
  let main_cst_11 : FVec F S_ .f32 := constant S_ .f32 0x7F800000#32
  let main_v50 : FVec F S6x32 .f32 := broadcastInDim S6x32 ![] bcast_S_S6x32 main_cst_11
  let main_v51 : IVec S6x32 1 := cmpf .olt main_v49 main_v50
  let main_v52 : FVec F S8x32 .f32 := Host.absf main_arg6
  let main_cst_12 : FVec F S_ .f32 := constant S_ .f32 0x7F800000#32
  let main_v53 : FVec F S8x32 .f32 := broadcastInDim S8x32 ![] bcast_S_S8x32 main_cst_12
  let main_v54 : IVec S8x32 1 := cmpf .olt main_v52 main_v53
  let main_v55 : FVec F S1x32 .f32 := (extractStridedSlice S1x32 ![0, 0] · slices_S8x32_S1x32_0_0) main_arg6
  fn_part3 (F := F) main_arg6 main_v29 main_v33 main_v36 main_v39 main_v42 main_v45 main_v48 main_v51 main_v54 main_v55

def fn_part1 {F : FTy → Type} [FloatOps F] (main_arg0 : FVec F S256x8x128 .f32) (main_arg1 : FVec F S256x32x128 .f32) (main_arg2 : FVec F S1x32 .f32) (main_arg3 : FVec F S1x32 .f32) (main_arg4 : FVec F S96x64 .f32) (main_arg5 : FVec F S6x32 .f32) (main_arg6 : FVec F S8x32 .f32) (main_v5 : FVec F S256x1x128 .f32) (main_v17 : FVec F S256x128x128 .f32) (main_v18 : FVec F S256x8x128 .f32) : IVec S256x8x128 1 × IVec S256x32x128 1 × IVec S1x32 1 × IVec S1x32 1 × IVec S96x64 1 × IVec S6x32 1 × IVec S8x32 1 × IVec S32 1 × IVec S32 1 × IVec S32 1 × IVec S32 1 × IVec S256x128x8 1 :=
  let main_cst_4 : FVec F S_ .f32 := constant S_ .f32 0x00000000#32
  let main_v19 : FVec F S256x128 .f32 := (fun x v => Host.reduceAdd x v reducesTo_S256x8x128_S256x128_d1 h_S_) main_v18 main_cst_4
  let main_v20 : FVec F S256x1x128 .f32 := broadcastInDim S256x1x128 ![0, 2] bcast_S256x128_S256x1x128_0_2 main_v19
  let main_v21 : FVec F S256x1x128 .f32 := Host.negf main_v20
  let main_v22 : FVec F S256x128x128 .f32 := broadcastInDim S256x128x128 ![0, 1, 2] bcast_S256x1x128_S256x128x128_0_1_2 main_v21
  let main_v23 : FVec F S256x128x128 .f32 := subf main_v22 main_v17
  let main_v24 : FVec F S256x128x1 .f32 := (transpose S256x128x1 [0, 2, 1] · transposes_S256x1x128_S256x128x1_0_2_1) main_v20
  let main_v25 : FVec F S256x128x128 .f32 := broadcastInDim S256x128x128 ![0, 1, 2] bcast_S256x128x1_S256x128x128_0_1_2 main_v24
  let main_v26 : FVec F S256x128x128 .f32 := subf main_v23 main_v25
  let main_values : FVec F S256x128x9 .f32 := (fun x => (Host.topK S256x128x9 2 (FloatOps.cmpfTotal .gt) x sliceFits_S256x128x128_S256x128x9).1) main_v26
  let main_indices : IVec S256x128x9 32 := (fun x => (Host.topK S256x128x9 2 (FloatOps.cmpfTotal .gt) x sliceFits_S256x128x128_S256x128x9).2) main_v26
  let main_v27 : FVec F S256x128x8 .f32 := (extractStridedSlice S256x128x8 ![0, 0, 0] · slices_S256x128x9_S256x128x8_0_0_0) main_values
  let main_v28 : FVec F S256x128x8 .f32 := (extractStridedSlice S256x128x8 ![0, 0, 1] · slices_S256x128x9_S256x128x8_0_0_1) main_values
  let main_v29 : IVec S256x128x8 1 := cmpf .ogt main_v27 main_v28
  let main_v30 : FVec F S256x128x1 .f32 := (transpose S256x128x1 [0, 2, 1] · transposes_S256x1x128_S256x128x1_0_2_1) main_v5
  let main_cst_5 : FVec F S_ .f32 := constant S_ .f32 0x00000000#32
  let main_v31 : FVec F S256x128x1 .f32 := broadcastInDim S256x128x1 ![] bcast_S_S256x128x1 main_cst_5
  let main_v32 : IVec S256x128x1 1 := cmpf .oeq main_v30 main_v31
  let main_v33 : IVec S256x128x8 1 := broadcastInDim S256x128x8 ![0, 1, 2] bcast_S256x128x1_S256x128x8_0_1_2 main_v32
  let main_v34 : FVec F S256x8x128 .f32 := Host.absf main_arg0
  let main_cst_6 : FVec F S_ .f32 := constant S_ .f32 0x7F800000#32
  let main_v35 : FVec F S256x8x128 .f32 := broadcastInDim S256x8x128 ![] bcast_S_S256x8x128 main_cst_6
  let main_v36 : IVec S256x8x128 1 := cmpf .olt main_v34 main_v35
  let main_v37 : FVec F S256x32x128 .f32 := Host.absf main_arg1
  fn_part2 (F := F) main_arg2 main_arg3 main_arg4 main_arg5 main_arg6 main_v29 main_v33 main_v36 main_v37

def fn {F : FTy → Type} [FloatOps F] (main_arg0 : FVec F S256x8x128 .f32) (main_arg1 : FVec F S256x32x128 .f32) (main_arg2 : FVec F S1x32 .f32) (main_arg3 : FVec F S1x32 .f32) (main_arg4 : FVec F S96x64 .f32) (main_arg5 : FVec F S6x32 .f32) (main_arg6 : FVec F S8x32 .f32) : IVec S256x8x128 1 × IVec S256x32x128 1 × IVec S1x32 1 × IVec S1x32 1 × IVec S96x64 1 × IVec S6x32 1 × IVec S8x32 1 × IVec S32 1 × IVec S32 1 × IVec S32 1 × IVec S32 1 × IVec S256x128x8 1 :=
  let main_v0 : FVec F S256x32x128 .f32 := Host.absf main_arg1
  let main_cst : FVec F S_ .f32 := constant S_ .f32 0x00000000#32
  let main_v1 : FVec F S256x128 .f32 := (fun x v => Host.reduceAdd x v reducesTo_S256x32x128_S256x128_d1 h_S_) main_v0 main_cst
  let main_v2 : FVec F S256x1x128 .f32 := broadcastInDim S256x1x128 ![0, 2] bcast_S256x128_S256x1x128_0_2 main_v1
  let main_cst_0 : FVec F S_ .f32 := constant S_ .f32 0x00000000#32
  let main_v3 : FVec F S256x1x128 .f32 := broadcastInDim S256x1x128 ![] bcast_S_S256x1x128 main_cst_0
  let main_v4 : IVec S256x1x128 1 := cmpf .une main_v2 main_v3
  let main_v5 : FVec F S256x1x128 .f32 := uitofp .f32 main_v4
  let main_v6 : FVec F S256x8x128 .f32 := broadcastInDim S256x8x128 ![0, 1, 2] bcast_S256x1x128_S256x8x128_0_1_2 main_v5
  let main_v7 : FVec F S256x8x128 .f32 := mulf main_arg0 main_v6
  let main_cst_1 : FVec F S_ .f32 := constant S_ .f32 0x00000000#32
  let main_v8 : FVec F S256x1x128 .f32 := broadcastInDim S256x1x128 ![] bcast_S_S256x1x128 main_cst_1
  let main_v9 : IVec S256x1x128 1 := cmpf .oeq main_v5 main_v8
  let main_v10 : FVec F S256x1x128 .f32 := uitofp .f32 main_v9
  let main_cst_2 : FVec F S_ .f32 := constant S_ .f32 0x4E6E6B28#32
  let main_v11 : FVec F S256x1x128 .f32 := broadcastInDim S256x1x128 ![] bcast_S_S256x1x128 main_cst_2
  let main_v12 : FVec F S256x1x128 .f32 := mulf main_v10 main_v11
  let main_v13 : FVec F S256x8x128 .f32 := broadcastInDim S256x8x128 ![0, 1, 2] bcast_S256x1x128_S256x8x128_0_1_2 main_v12
  let main_v14 : FVec F S256x8x128 .f32 := addf main_v7 main_v13
  let main_v15 : FVec F S256x128x128 .f32 := (fun l r => Host.dotGeneral dot_S256x8x128_S256x8x128_S256x128x128_1_1_2_2_0_0 none l r) main_v14 main_v14
  let main_cst_3 : FVec F S_ .f32 := constant S_ .f32 0xC0000000#32
  let main_v16 : FVec F S256x128x128 .f32 := broadcastInDim S256x128x128 ![] bcast_S_S256x128x128 main_cst_3
  let main_v17 : FVec F S256x128x128 .f32 := mulf main_v16 main_v15
  let main_v18 : FVec F S256x8x128 .f32 := mulf main_v14 main_v14
  fn_part1 (F := F) main_arg0 main_arg1 main_arg2 main_arg3 main_arg4 main_arg5 main_arg6 main_v5 main_v17 main_v18
-- ==== Pre_head_regular.lean ====
abbrev S256x32x128 : Shape := ⟨3, ![256, 32, 128]⟩
abbrev S256x64x128 : Shape := ⟨3, ![256, 64, 128]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S2x128 : Shape := ⟨2, ![2, 128]⟩
abbrev S1x128 : Shape := ⟨2, ![1, 128]⟩
abbrev S_ : Shape := ⟨0, ![]⟩

class Facts : Prop where
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  bcast_S_S256x32x128 : S_.BroadcastsInDim S256x32x128 (![] : Fin 0 → Fin S256x32x128.rank)
  bcast_S_S256x64x128 : S_.BroadcastsInDim S256x64x128 (![] : Fin 0 → Fin S256x64x128.rank)
  bcast_S_S128x96 : S_.BroadcastsInDim S128x96 (![] : Fin 0 → Fin S128x96.rank)
  bcast_S_S2x128 : S_.BroadcastsInDim S2x128 (![] : Fin 0 → Fin S2x128.rank)

variable [Facts]

def fn_part1 {F : FTy → Type} [FloatOps F] (main_arg4 : FVec F S128 .f32) (main_arg5 : FVec F S128 .f32) (main_arg10 : FVec F S2x128 .f32) (main_v11 : FVec F S128 .f32) (main_v14 : IVec S256x32x128 1) (main_v17 : IVec S256x64x128 1) (main_v18 : FVec F S128x96 .f32) : IVec S256x32x128 1 × IVec S256x64x128 1 × IVec S128x96 1 × IVec S128 1 × IVec S128 1 × IVec S2x128 1 × IVec S128 1 :=
  let main_cst_4 : FVec F S_ .f32 := constant S_ .f32 0x7F800000#32
  let main_v19 : FVec F S128x96 .f32 := broadcastInDim S128x96 ![] bcast_S_S128x96 main_cst_4
  let main_v20 : IVec S128x96 1 := cmpf .olt main_v18 main_v19
  let main_v21 : FVec F S128 .f32 := Host.absf main_arg4
  let main_cst_5 : FVec F S_ .f32 := constant S_ .f32 0x7F800000#32
  let main_v22 : FVec F S128 .f32 := broadcastInDim S128 ![] bcast_S_S128 main_cst_5
  let main_v23 : IVec S128 1 := cmpf .olt main_v21 main_v22
  let main_v24 : FVec F S128 .f32 := Host.absf main_arg5
  let main_cst_6 : FVec F S_ .f32 := constant S_ .f32 0x7F800000#32
  let main_v25 : FVec F S128 .f32 := broadcastInDim S128 ![] bcast_S_S128 main_cst_6
  let main_v26 : IVec S128 1 := cmpf .olt main_v24 main_v25
  let main_v27 : FVec F S2x128 .f32 := Host.absf main_arg10
  let main_cst_7 : FVec F S_ .f32 := constant S_ .f32 0x7F800000#32
  let main_v28 : FVec F S2x128 .f32 := broadcastInDim S2x128 ![] bcast_S_S2x128 main_cst_7
  let main_v29 : IVec S2x128 1 := cmpf .olt main_v27 main_v28
  let main_cst_8 : FVec F S_ .f32 := constant S_ .f32 0x00000000#32
  let main_v30 : FVec F S128 .f32 := broadcastInDim S128 ![] bcast_S_S128 main_cst_8
  let main_v31 : IVec S128 1 := cmpf .ogt main_v11 main_v30
  (main_v14, main_v17, main_v20, main_v23, main_v26, main_v29, main_v31)

def fn {F : FTy → Type} [FloatOps F] (main_arg0 : FVec F S256x32x128 .f32) (main_arg1 : FVec F S256x64x128 .f32) (main_arg2 : FVec F S256x32x128 .f32) (main_arg3 : FVec F S128x96 .f32) (main_arg4 : FVec F S128 .f32) (main_arg5 : FVec F S128 .f32) (main_arg6 : FVec F S128x128 .f32) (main_arg7 : FVec F S128 .f32) (main_arg8 : FVec F S10x128 .f32) (main_arg9 : FVec F S10 .f32) (main_arg10 : FVec F S2x128 .f32) : IVec S256x32x128 1 × IVec S256x64x128 1 × IVec S128x96 1 × IVec S128 1 × IVec S128 1 × IVec S2x128 1 × IVec S128 1 :=
  let main_v0 : FVec F S1x128 .f32 := (extractStridedSlice S1x128 ![0, 0] · slices_S2x128_S1x128_0_0) main_arg10
  let main_v1 : FVec F S128 .f32 := shapeCast S128 main_v0 shapeCasts_S1x128_S128
  let main_cst : FVec F S_ .f32 := constant S_ .f32 0x47000000#32
  let main_v2 : FVec F S128 .f32 := broadcastInDim S128 ![] bcast_S_S128 main_cst
  let main_v3 : FVec F S128 .f32 := Host.divf main_v1 main_v2
  let main_v4 : FVec F S1x128 .f32 := (extractStridedSlice S1x128 ![1, 0] · slices_S2x128_S1x128_1_0) main_arg10
  let main_v5 : FVec F S128 .f32 := shapeCast S128 main_v4 shapeCasts_S1x128_S128
  let main_cst_0 : FVec F S_ .f32 := constant S_ .f32 0x47000000#32
  let main_v6 : FVec F S128 .f32 := broadcastInDim S128 ![] bcast_S_S128 main_cst_0
  let main_v7 : FVec F S128 .f32 := Host.divf main_v5 main_v6
  let main_v8 : FVec F S128 .f32 := mulf main_v3 main_v3
  let main_v9 : FVec F S128 .f32 := subf main_v7 main_v8
  let main_cst_1 : FVec F S_ .f32 := constant S_ .f32 0x3727C5AC#32
  let main_v10 : FVec F S128 .f32 := broadcastInDim S128 ![] bcast_S_S128 main_cst_1
  let main_v11 : FVec F S128 .f32 := addf main_v9 main_v10
  let main_v12 : FVec F S256x32x128 .f32 := Host.absf main_arg0
  let main_cst_2 : FVec F S_ .f32 := constant S_ .f32 0x7F800000#32
  let main_v13 : FVec F S256x32x128 .f32 := broadcastInDim S256x32x128 ![] bcast_S_S256x32x128 main_cst_2
  let main_v14 : IVec S256x32x128 1 := cmpf .olt main_v12 main_v13
  let main_v15 : FVec F S256x64x128 .f32 := Host.absf main_arg1
  let main_cst_3 : FVec F S_ .f32 := constant S_ .f32 0x7F800000#32
  let main_v16 : FVec F S256x64x128 .f32 := broadcastInDim S256x64x128 ![] bcast_S_S256x64x128 main_cst_3
  let main_v17 : IVec S256x64x128 1 := cmpf .olt main_v15 main_v16
  let main_v18 : FVec F S128x96 .f32 := Host.absf main_arg3
  fn_part1 (F := F) main_arg4 main_arg5 main_arg10 main_v11 main_v14 main_v17 main_v18
-- ==== Pre_separated.lean ====
abbrev S256x32x128 : Shape := ⟨3, ![256, 32, 128]⟩
abbrev S64x32 : Shape := ⟨2, ![64, 32]⟩
abbrev S192x64 : Shape := ⟨2, ![192, 64]⟩
abbrev S8x64 : Shape := ⟨2, ![8, 64]⟩
abbrev S_ : Shape := ⟨0, ![]⟩
abbrev S256x128 : Shape := ⟨2, ![256, 128]⟩
abbrev S256x1x128 : Shape := ⟨3, ![256, 1, 128]⟩
abbrev S256x128x128 : Shape := ⟨3, ![256, 128, 128]⟩
abbrev S256x128x1 : Shape := ⟨3, ![256, 128, 1]⟩
abbrev S256x128x9 : Shape := ⟨3, ![256, 128, 9]⟩
abbrev S256x128x8 : Shape := ⟨3, ![256, 128, 8]⟩
abbrev S1x64 : Shape := ⟨2, ![1, 64]⟩
abbrev S64 : Shape := ⟨1, ![64]⟩

class Facts : Prop where
  reducesTo_S256x32x128_S256x128_d1 : S256x32x128.ReducesTo [1] S256x128
  h_S_ : 0 < S_.numel
  bcast_S256x128_S256x1x128_0_2 : S256x128.BroadcastsInDim S256x1x128 (![0, 2] : Fin 2 → Fin S256x1x128.rank)
  bcast_S_S256x1x128 : S_.BroadcastsInDim S256x1x128 (![] : Fin 0 → Fin S256x1x128.rank)
  bcast_S256x1x128_S256x32x128_0_1_2 : S256x1x128.BroadcastsInDim S256x32x128 (![0, 1, 2] : Fin 3 → Fin S256x32x128.rank)
  bcast_S_S256x128x128 : S_.BroadcastsInDim S256x128x128 (![] : Fin 0 → Fin S256x128x128.rank)
  bcast_S256x1x128_S256x128x128_0_1_2 : S256x1x128.BroadcastsInDim S256x128x128 (![0, 1, 2] : Fin 3 → Fin S256x128x128.rank)
  transposes_S256x1x128_S256x128x1_0_2_1 : S256x1x128.Transposes [0, 2, 1] S256x128x1
  bcast_S256x128x1_S256x128x128_0_1_2 : S256x128x1.BroadcastsInDim S256x128x128 (![0, 1, 2] : Fin 3 → Fin S256x128x128.rank)
  sliceFits_S256x128x128_S256x128x9 : S256x128x128.Slices (fun _ => 0) S256x128x9
  slices_S256x128x9_S256x128x8_0_0_0 : S256x128x9.Slices ![0, 0, 0] S256x128x8
  slices_S256x128x9_S256x128x8_0_0_1 : S256x128x9.Slices ![0, 0, 1] S256x128x8
  bcast_S_S256x128x1 : S_.BroadcastsInDim S256x128x1 (![] : Fin 0 → Fin S256x128x1.rank)
  bcast_S256x128x1_S256x128x8_0_1_2 : S256x128x1.BroadcastsInDim S256x128x8 (![0, 1, 2] : Fin 3 → Fin S256x128x8.rank)
  bcast_S_S256x32x128 : S_.BroadcastsInDim S256x32x128 (![] : Fin 0 → Fin S256x32x128.rank)
  bcast_S_S64x32 : S_.BroadcastsInDim S64x32 (![] : Fin 0 → Fin S64x32.rank)
  bcast_S_S192x64 : S_.BroadcastsInDim S192x64 (![] : Fin 0 → Fin S192x64.rank)
  bcast_S_S8x64 : S_.BroadcastsInDim S8x64 (![] : Fin 0 → Fin S8x64.rank)
  slices_S8x64_S1x64_0_0 : S8x64.Slices ![0, 0] S1x64
  shapeCasts_S1x64_S64 : S1x64.ShapeCasts S64
  bcast_S_S64 : S_.BroadcastsInDim S64 (![] : Fin 0 → Fin S64.rank)
  slices_S8x64_S1x64_1_0 : S8x64.Slices ![1, 0] S1x64
  slices_S8x64_S1x64_2_0 : S8x64.Slices ![2, 0] S1x64
  slices_S8x64_S1x64_3_0 : S8x64.Slices ![3, 0] S1x64
  slices_S8x64_S1x64_4_0 : S8x64.Slices ![4, 0] S1x64
  slices_S8x64_S1x64_5_0 : S8x64.Slices ![5, 0] S1x64
  slices_S8x64_S1x64_6_0 : S8x64.Slices ![6, 0] S1x64
  slices_S8x64_S1x64_7_0 : S8x64.Slices ![7, 0] S1x64
  dot_S256x32x128_S256x32x128_S256x128x128_1_1_2_2_0_0_wf : DotDims.WF S256x32x128 S256x32x128 S256x128x128 [1] [1] [2] [2] [0] [0]

variable [Facts]

def dot_S256x32x128_S256x32x128_S256x128x128_1_1_2_2_0_0 : DotDims S256x32x128 S256x32x128 S256x128x128 where
  lhsContracting := [1]
  rhsContracting := [1]
  lhsNonContracting := [2]
  rhsNonContracting := [2]
  lhsBatch := [0]
  rhsBatch := [0]
  wf := dot_S256x32x128_S256x32x128_S256x128x128_1_1_2_2_0_0_wf
def fn_part5 {F : FTy → Type} [FloatOps F] (main_arg5 : FVec F S8x64 .f32) (main_v27 : IVec S256x128x8 1) (main_v31 : IVec S256x128x8 1) (main_v34 : IVec S256x32x128 1) (main_v37 : IVec S64x32 1) (main_v40 : IVec S192x64 1) (main_v43 : IVec S8x64 1) (main_v46 : IVec S8x64 1) (main_v60 : IVec S64 1) (main_v74 : IVec S64 1) (main_v88 : IVec S64 1) (main_v92 : FVec F S64 .f32) : IVec S256x32x128 1 × IVec S64x32 1 × IVec S192x64 1 × IVec S8x64 1 × IVec S8x64 1 × IVec S64 1 × IVec S64 1 × IVec S64 1 × IVec S64 1 × IVec S256x128x8 1 :=
  let main_v93 : FVec F S1x64 .f32 := (extractStridedSlice S1x64 ![7, 0] · slices_S8x64_S1x64_7_0) main_arg5
  let main_v94 : FVec F S64 .f32 := shapeCast S64 main_v93 shapeCasts_S1x64_S64
  let main_cst_24 : FVec F S_ .f32 := constant S_ .f32 0x48600000#32
  let main_v95 : FVec F S64 .f32 := broadcastInDim S64 ![] bcast_S_S64 main_cst_24
  let main_v96 : FVec F S64 .f32 := Host.divf main_v94 main_v95
  let main_v97 : FVec F S64 .f32 := mulf main_v92 main_v92
  let main_v98 : FVec F S64 .f32 := subf main_v96 main_v97
  let main_cst_25 : FVec F S_ .f32 := constant S_ .f32 0x3727C5AC#32
  let main_v99 : FVec F S64 .f32 := broadcastInDim S64 ![] bcast_S_S64 main_cst_25
  let main_v100 : FVec F S64 .f32 := addf main_v98 main_v99
  let main_cst_26 : FVec F S_ .f32 := constant S_ .f32 0x00000000#32
  let main_v101 : FVec F S64 .f32 := broadcastInDim S64 ![] bcast_S_S64 main_cst_26
  let main_v102 : IVec S64 1 := cmpf .ogt main_v100 main_v101
  let main_v103 : IVec S256x128x8 1 := ori main_v31 main_v27
  (main_v34, main_v37, main_v40, main_v43, main_v46, main_v60, main_v74, main_v88, main_v102, main_v103)

def fn_part4 {F : FTy → Type} [FloatOps F] (main_arg5 : FVec F S8x64 .f32) (main_v27 : IVec S256x128x8 1) (main_v31 : IVec S256x128x8 1) (main_v34 : IVec S256x32x128 1) (main_v37 : IVec S64x32 1) (main_v40 : IVec S192x64 1) (main_v43 : IVec S8x64 1) (main_v46 : IVec S8x64 1) (main_v60 : IVec S64 1) (main_v72 : FVec F S64 .f32) (main_v73 : FVec F S64 .f32) : IVec S256x32x128 1 × IVec S64x32 1 × IVec S192x64 1 × IVec S8x64 1 × IVec S8x64 1 × IVec S64 1 × IVec S64 1 × IVec S64 1 × IVec S64 1 × IVec S256x128x8 1 :=
  let main_v74 : IVec S64 1 := cmpf .ogt main_v72 main_v73
  let main_v75 : FVec F S1x64 .f32 := (extractStridedSlice S1x64 ![4, 0] · slices_S8x64_S1x64_4_0) main_arg5
  let main_v76 : FVec F S64 .f32 := shapeCast S64 main_v75 shapeCasts_S1x64_S64
  let main_cst_19 : FVec F S_ .f32 := constant S_ .f32 0x48600000#32
  let main_v77 : FVec F S64 .f32 := broadcastInDim S64 ![] bcast_S_S64 main_cst_19
  let main_v78 : FVec F S64 .f32 := Host.divf main_v76 main_v77
  let main_v79 : FVec F S1x64 .f32 := (extractStridedSlice S1x64 ![5, 0] · slices_S8x64_S1x64_5_0) main_arg5
  let main_v80 : FVec F S64 .f32 := shapeCast S64 main_v79 shapeCasts_S1x64_S64
  let main_cst_20 : FVec F S_ .f32 := constant S_ .f32 0x48600000#32
  let main_v81 : FVec F S64 .f32 := broadcastInDim S64 ![] bcast_S_S64 main_cst_20
  let main_v82 : FVec F S64 .f32 := Host.divf main_v80 main_v81
  let main_v83 : FVec F S64 .f32 := mulf main_v78 main_v78
  let main_v84 : FVec F S64 .f32 := subf main_v82 main_v83
  let main_cst_21 : FVec F S_ .f32 := constant S_ .f32 0x3727C5AC#32
  let main_v85 : FVec F S64 .f32 := broadcastInDim S64 ![] bcast_S_S64 main_cst_21
  let main_v86 : FVec F S64 .f32 := addf main_v84 main_v85
  let main_cst_22 : FVec F S_ .f32 := constant S_ .f32 0x00000000#32
  let main_v87 : FVec F S64 .f32 := broadcastInDim S64 ![] bcast_S_S64 main_cst_22
  let main_v88 : IVec S64 1 := cmpf .ogt main_v86 main_v87
  let main_v89 : FVec F S1x64 .f32 := (extractStridedSlice S1x64 ![6, 0] · slices_S8x64_S1x64_6_0) main_arg5
  let main_v90 : FVec F S64 .f32 := shapeCast S64 main_v89 shapeCasts_S1x64_S64
  let main_cst_23 : FVec F S_ .f32 := constant S_ .f32 0x48600000#32
  let main_v91 : FVec F S64 .f32 := broadcastInDim S64 ![] bcast_S_S64 main_cst_23
  let main_v92 : FVec F S64 .f32 := Host.divf main_v90 main_v91
  fn_part5 (F := F) main_arg5 main_v27 main_v31 main_v34 main_v37 main_v40 main_v43 main_v46 main_v60 main_v74 main_v88 main_v92

def fn_part3 {F : FTy → Type} [FloatOps F] (main_arg5 : FVec F S8x64 .f32) (main_v27 : IVec S256x128x8 1) (main_v31 : IVec S256x128x8 1) (main_v34 : IVec S256x32x128 1) (main_v37 : IVec S64x32 1) (main_v40 : IVec S192x64 1) (main_v43 : IVec S8x64 1) (main_v46 : IVec S8x64 1) (main_v54 : FVec F S64 .f32) (main_v55 : FVec F S64 .f32) : IVec S256x32x128 1 × IVec S64x32 1 × IVec S192x64 1 × IVec S8x64 1 × IVec S8x64 1 × IVec S64 1 × IVec S64 1 × IVec S64 1 × IVec S64 1 × IVec S256x128x8 1 :=
  let main_v56 : FVec F S64 .f32 := subf main_v54 main_v55
  let main_cst_13 : FVec F S_ .f32 := constant S_ .f32 0x3727C5AC#32
  let main_v57 : FVec F S64 .f32 := broadcastInDim S64 ![] bcast_S_S64 main_cst_13
  let main_v58 : FVec F S64 .f32 := addf main_v56 main_v57
  let main_cst_14 : FVec F S_ .f32 := constant S_ .f32 0x00000000#32
  let main_v59 : FVec F S64 .f32 := broadcastInDim S64 ![] bcast_S_S64 main_cst_14
  let main_v60 : IVec S64 1 := cmpf .ogt main_v58 main_v59
  let main_v61 : FVec F S1x64 .f32 := (extractStridedSlice S1x64 ![2, 0] · slices_S8x64_S1x64_2_0) main_arg5
  let main_v62 : FVec F S64 .f32 := shapeCast S64 main_v61 shapeCasts_S1x64_S64
  let main_cst_15 : FVec F S_ .f32 := constant S_ .f32 0x48600000#32
  let main_v63 : FVec F S64 .f32 := broadcastInDim S64 ![] bcast_S_S64 main_cst_15
  let main_v64 : FVec F S64 .f32 := Host.divf main_v62 main_v63
  let main_v65 : FVec F S1x64 .f32 := (extractStridedSlice S1x64 ![3, 0] · slices_S8x64_S1x64_3_0) main_arg5
  let main_v66 : FVec F S64 .f32 := shapeCast S64 main_v65 shapeCasts_S1x64_S64
  let main_cst_16 : FVec F S_ .f32 := constant S_ .f32 0x48600000#32
  let main_v67 : FVec F S64 .f32 := broadcastInDim S64 ![] bcast_S_S64 main_cst_16
  let main_v68 : FVec F S64 .f32 := Host.divf main_v66 main_v67
  let main_v69 : FVec F S64 .f32 := mulf main_v64 main_v64
  let main_v70 : FVec F S64 .f32 := subf main_v68 main_v69
  let main_cst_17 : FVec F S_ .f32 := constant S_ .f32 0x3727C5AC#32
  let main_v71 : FVec F S64 .f32 := broadcastInDim S64 ![] bcast_S_S64 main_cst_17
  let main_v72 : FVec F S64 .f32 := addf main_v70 main_v71
  let main_cst_18 : FVec F S_ .f32 := constant S_ .f32 0x00000000#32
  let main_v73 : FVec F S64 .f32 := broadcastInDim S64 ![] bcast_S_S64 main_cst_18
  fn_part4 (F := F) main_arg5 main_v27 main_v31 main_v34 main_v37 main_v40 main_v43 main_v46 main_v60 main_v72 main_v73

def fn_part2 {F : FTy → Type} [FloatOps F] (main_arg3 : FVec F S192x64 .f32) (main_arg4 : FVec F S8x64 .f32) (main_arg5 : FVec F S8x64 .f32) (main_v27 : IVec S256x128x8 1) (main_v31 : IVec S256x128x8 1) (main_v34 : IVec S256x32x128 1) (main_v35 : FVec F S64x32 .f32) (main_v36 : FVec F S64x32 .f32) : IVec S256x32x128 1 × IVec S64x32 1 × IVec S192x64 1 × IVec S8x64 1 × IVec S8x64 1 × IVec S64 1 × IVec S64 1 × IVec S64 1 × IVec S64 1 × IVec S256x128x8 1 :=
  let main_v37 : IVec S64x32 1 := cmpf .olt main_v35 main_v36
  let main_v38 : FVec F S192x64 .f32 := Host.absf main_arg3
  let main_cst_8 : FVec F S_ .f32 := constant S_ .f32 0x7F800000#32
  let main_v39 : FVec F S192x64 .f32 := broadcastInDim S192x64 ![] bcast_S_S192x64 main_cst_8
  let main_v40 : IVec S192x64 1 := cmpf .olt main_v38 main_v39
  let main_v41 : FVec F S8x64 .f32 := Host.absf main_arg4
  let main_cst_9 : FVec F S_ .f32 := constant S_ .f32 0x7F800000#32
  let main_v42 : FVec F S8x64 .f32 := broadcastInDim S8x64 ![] bcast_S_S8x64 main_cst_9
  let main_v43 : IVec S8x64 1 := cmpf .olt main_v41 main_v42
  let main_v44 : FVec F S8x64 .f32 := Host.absf main_arg5
  let main_cst_10 : FVec F S_ .f32 := constant S_ .f32 0x7F800000#32
  let main_v45 : FVec F S8x64 .f32 := broadcastInDim S8x64 ![] bcast_S_S8x64 main_cst_10
  let main_v46 : IVec S8x64 1 := cmpf .olt main_v44 main_v45
  let main_v47 : FVec F S1x64 .f32 := (extractStridedSlice S1x64 ![0, 0] · slices_S8x64_S1x64_0_0) main_arg5
  let main_v48 : FVec F S64 .f32 := shapeCast S64 main_v47 shapeCasts_S1x64_S64
  let main_cst_11 : FVec F S_ .f32 := constant S_ .f32 0x47000000#32
  let main_v49 : FVec F S64 .f32 := broadcastInDim S64 ![] bcast_S_S64 main_cst_11
  let main_v50 : FVec F S64 .f32 := Host.divf main_v48 main_v49
  let main_v51 : FVec F S1x64 .f32 := (extractStridedSlice S1x64 ![1, 0] · slices_S8x64_S1x64_1_0) main_arg5
  let main_v52 : FVec F S64 .f32 := shapeCast S64 main_v51 shapeCasts_S1x64_S64
  let main_cst_12 : FVec F S_ .f32 := constant S_ .f32 0x47000000#32
  let main_v53 : FVec F S64 .f32 := broadcastInDim S64 ![] bcast_S_S64 main_cst_12
  let main_v54 : FVec F S64 .f32 := Host.divf main_v52 main_v53
  let main_v55 : FVec F S64 .f32 := mulf main_v50 main_v50
  fn_part3 (F := F) main_arg5 main_v27 main_v31 main_v34 main_v37 main_v40 main_v43 main_v46 main_v54 main_v55

def fn_part1 {F : FTy → Type} [FloatOps F] (main_arg0 : FVec F S256x32x128 .f32) (main_arg2 : FVec F S64x32 .f32) (main_arg3 : FVec F S192x64 .f32) (main_arg4 : FVec F S8x64 .f32) (main_arg5 : FVec F S8x64 .f32) (main_v5 : FVec F S256x1x128 .f32) (main_v15 : FVec F S256x128x128 .f32) (main_v17 : FVec F S256x128 .f32) : IVec S256x32x128 1 × IVec S64x32 1 × IVec S192x64 1 × IVec S8x64 1 × IVec S8x64 1 × IVec S64 1 × IVec S64 1 × IVec S64 1 × IVec S64 1 × IVec S256x128x8 1 :=
  let main_v18 : FVec F S256x1x128 .f32 := broadcastInDim S256x1x128 ![0, 2] bcast_S256x128_S256x1x128_0_2 main_v17
  let main_v19 : FVec F S256x1x128 .f32 := Host.negf main_v18
  let main_v20 : FVec F S256x128x128 .f32 := broadcastInDim S256x128x128 ![0, 1, 2] bcast_S256x1x128_S256x128x128_0_1_2 main_v19
  let main_v21 : FVec F S256x128x128 .f32 := subf main_v20 main_v15
  let main_v22 : FVec F S256x128x1 .f32 := (transpose S256x128x1 [0, 2, 1] · transposes_S256x1x128_S256x128x1_0_2_1) main_v18
  let main_v23 : FVec F S256x128x128 .f32 := broadcastInDim S256x128x128 ![0, 1, 2] bcast_S256x128x1_S256x128x128_0_1_2 main_v22
  let main_v24 : FVec F S256x128x128 .f32 := subf main_v21 main_v23
  let main_values : FVec F S256x128x9 .f32 := (fun x => (Host.topK S256x128x9 2 (FloatOps.cmpfTotal .gt) x sliceFits_S256x128x128_S256x128x9).1) main_v24
  let main_indices : IVec S256x128x9 32 := (fun x => (Host.topK S256x128x9 2 (FloatOps.cmpfTotal .gt) x sliceFits_S256x128x128_S256x128x9).2) main_v24
  let main_v25 : FVec F S256x128x8 .f32 := (extractStridedSlice S256x128x8 ![0, 0, 0] · slices_S256x128x9_S256x128x8_0_0_0) main_values
  let main_v26 : FVec F S256x128x8 .f32 := (extractStridedSlice S256x128x8 ![0, 0, 1] · slices_S256x128x9_S256x128x8_0_0_1) main_values
  let main_v27 : IVec S256x128x8 1 := cmpf .ogt main_v25 main_v26
  let main_v28 : FVec F S256x128x1 .f32 := (transpose S256x128x1 [0, 2, 1] · transposes_S256x1x128_S256x128x1_0_2_1) main_v5
  let main_cst_5 : FVec F S_ .f32 := constant S_ .f32 0x00000000#32
  let main_v29 : FVec F S256x128x1 .f32 := broadcastInDim S256x128x1 ![] bcast_S_S256x128x1 main_cst_5
  let main_v30 : IVec S256x128x1 1 := cmpf .oeq main_v28 main_v29
  let main_v31 : IVec S256x128x8 1 := broadcastInDim S256x128x8 ![0, 1, 2] bcast_S256x128x1_S256x128x8_0_1_2 main_v30
  let main_v32 : FVec F S256x32x128 .f32 := Host.absf main_arg0
  let main_cst_6 : FVec F S_ .f32 := constant S_ .f32 0x7F800000#32
  let main_v33 : FVec F S256x32x128 .f32 := broadcastInDim S256x32x128 ![] bcast_S_S256x32x128 main_cst_6
  let main_v34 : IVec S256x32x128 1 := cmpf .olt main_v32 main_v33
  let main_v35 : FVec F S64x32 .f32 := Host.absf main_arg2
  let main_cst_7 : FVec F S_ .f32 := constant S_ .f32 0x7F800000#32
  let main_v36 : FVec F S64x32 .f32 := broadcastInDim S64x32 ![] bcast_S_S64x32 main_cst_7
  fn_part2 (F := F) main_arg3 main_arg4 main_arg5 main_v27 main_v31 main_v34 main_v35 main_v36

def fn {F : FTy → Type} [FloatOps F] (main_arg0 : FVec F S256x32x128 .f32) (main_arg1 : FVec F S256x32x128 .f32) (main_arg2 : FVec F S64x32 .f32) (main_arg3 : FVec F S192x64 .f32) (main_arg4 : FVec F S8x64 .f32) (main_arg5 : FVec F S8x64 .f32) : IVec S256x32x128 1 × IVec S64x32 1 × IVec S192x64 1 × IVec S8x64 1 × IVec S8x64 1 × IVec S64 1 × IVec S64 1 × IVec S64 1 × IVec S64 1 × IVec S256x128x8 1 :=
  let main_v0 : FVec F S256x32x128 .f32 := Host.absf main_arg1
  let main_cst : FVec F S_ .f32 := constant S_ .f32 0x00000000#32
  let main_v1 : FVec F S256x128 .f32 := (fun x v => Host.reduceAdd x v reducesTo_S256x32x128_S256x128_d1 h_S_) main_v0 main_cst
  let main_v2 : FVec F S256x1x128 .f32 := broadcastInDim S256x1x128 ![0, 2] bcast_S256x128_S256x1x128_0_2 main_v1
  let main_cst_0 : FVec F S_ .f32 := constant S_ .f32 0x00000000#32
  let main_v3 : FVec F S256x1x128 .f32 := broadcastInDim S256x1x128 ![] bcast_S_S256x1x128 main_cst_0
  let main_v4 : IVec S256x1x128 1 := cmpf .une main_v2 main_v3
  let main_v5 : FVec F S256x1x128 .f32 := uitofp .f32 main_v4
  let main_cst_1 : FVec F S_ .f32 := constant S_ .f32 0x00000000#32
  let main_v6 : FVec F S256x1x128 .f32 := broadcastInDim S256x1x128 ![] bcast_S_S256x1x128 main_cst_1
  let main_v7 : IVec S256x1x128 1 := cmpf .oeq main_v5 main_v6
  let main_v8 : FVec F S256x1x128 .f32 := uitofp .f32 main_v7
  let main_cst_2 : FVec F S_ .f32 := constant S_ .f32 0x4E6E6B28#32
  let main_v9 : FVec F S256x1x128 .f32 := broadcastInDim S256x1x128 ![] bcast_S_S256x1x128 main_cst_2
  let main_v10 : FVec F S256x1x128 .f32 := mulf main_v8 main_v9
  let main_v11 : FVec F S256x32x128 .f32 := broadcastInDim S256x32x128 ![0, 1, 2] bcast_S256x1x128_S256x32x128_0_1_2 main_v10
  let main_v12 : FVec F S256x32x128 .f32 := addf main_arg0 main_v11
  let main_v13 : FVec F S256x128x128 .f32 := (fun l r => Host.dotGeneral dot_S256x32x128_S256x32x128_S256x128x128_1_1_2_2_0_0 none l r) main_v12 main_v12
  let main_cst_3 : FVec F S_ .f32 := constant S_ .f32 0xC0000000#32
  let main_v14 : FVec F S256x128x128 .f32 := broadcastInDim S256x128x128 ![] bcast_S_S256x128x128 main_cst_3
  let main_v15 : FVec F S256x128x128 .f32 := mulf main_v14 main_v13
  let main_v16 : FVec F S256x32x128 .f32 := mulf main_v12 main_v12
  let main_cst_4 : FVec F S_ .f32 := constant S_ .f32 0x00000000#32
  let main_v17 : FVec F S256x128 .f32 := (fun x v => Host.reduceAdd x v reducesTo_S256x32x128_S256x128_d1 h_S_) main_v16 main_cst_4
  fn_part1 (F := F) main_arg0 main_arg2 main_arg3 main_arg4 main_arg5 main_v5 main_v15 main_v17
-- ==== Pre_tail_finite.lean ====
abbrev S256x32x128 : Shape := ⟨3, ![256, 32, 128]⟩
abbrev S256x64x128 : Shape := ⟨3, ![256, 64, 128]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S_ : Shape := ⟨0, ![]⟩

class Facts : Prop where
  bcast_S_S256x32x128 : S_.BroadcastsInDim S256x32x128 (![] : Fin 0 → Fin S256x32x128.rank)
  bcast_S_S256x64x128 : S_.BroadcastsInDim S256x64x128 (![] : Fin 0 → Fin S256x64x128.rank)
  bcast_S_S128x96 : S_.BroadcastsInDim S128x96 (![] : Fin 0 → Fin S128x96.rank)
  bcast_S_S128 : S_.BroadcastsInDim S128 (![] : Fin 0 → Fin S128.rank)

variable [Facts]

def fn {F : FTy → Type} [FloatOps F] (main_arg0 : FVec F S256x32x128 .f32) (main_arg1 : FVec F S256x64x128 .f32) (main_arg2 : FVec F S256x32x128 .f32) (main_arg3 : FVec F S128x96 .f32) (main_arg4 : FVec F S128 .f32) (main_arg5 : FVec F S128 .f32) (main_arg6 : FVec F S128x128 .f32) (main_arg7 : FVec F S128 .f32) (main_arg8 : FVec F S10x128 .f32) (main_arg9 : FVec F S10 .f32) : IVec S256x32x128 1 × IVec S256x64x128 1 × IVec S128x96 1 × IVec S128 1 :=
  let main_v0 : FVec F S256x32x128 .f32 := Host.absf main_arg0
  let main_cst : FVec F S_ .f32 := constant S_ .f32 0x7F800000#32
  let main_v1 : FVec F S256x32x128 .f32 := broadcastInDim S256x32x128 ![] bcast_S_S256x32x128 main_cst
  let main_v2 : IVec S256x32x128 1 := cmpf .olt main_v0 main_v1
  let main_v3 : FVec F S256x64x128 .f32 := Host.absf main_arg1
  let main_cst_0 : FVec F S_ .f32 := constant S_ .f32 0x7F800000#32
  let main_v4 : FVec F S256x64x128 .f32 := broadcastInDim S256x64x128 ![] bcast_S_S256x64x128 main_cst_0
  let main_v5 : IVec S256x64x128 1 := cmpf .olt main_v3 main_v4
  let main_v6 : FVec F S128x96 .f32 := Host.absf main_arg3
  let main_cst_1 : FVec F S_ .f32 := constant S_ .f32 0x7F800000#32
  let main_v7 : FVec F S128x96 .f32 := broadcastInDim S128x96 ![] bcast_S_S128x96 main_cst_1
  let main_v8 : IVec S128x96 1 := cmpf .olt main_v6 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  (main_v2, main_v5, main_v8, main_v11)
-- ==== Kernel.lean ====
abbrev S256x32x128 : Shape := ⟨3, ![256, 32, 128]⟩
abbrev S64x32 : Shape := ⟨2, ![64, 32]⟩
abbrev S192x64 : Shape := ⟨2, ![192, 64]⟩
abbrev S8x64 : Shape := ⟨2, ![8, 64]⟩
abbrev S256x64x128 : Shape := ⟨3, ![256, 64, 128]⟩
abbrev S8x32x128 : Shape := ⟨3, ![8, 32, 128]⟩
abbrev S8x64x128 : Shape := ⟨3, ![8, 64, 128]⟩
abbrev S8x128 : Shape := ⟨2, ![8, 128]⟩
abbrev S8x1x128 : Shape := ⟨3, ![8, 1, 128]⟩
abbrev S8x128x32 : Shape := ⟨3, ![8, 128, 32]⟩
abbrev S1024x32 : Shape := ⟨2, ![1024, 32]⟩
abbrev S128x128 : Shape := ⟨2, ![128, 128]⟩
abbrev S1x32x128 : Shape := ⟨3, ![1, 32, 128]⟩
abbrev S32x128 : Shape := ⟨2, ![32, 128]⟩
abbrev S128x32 : Shape := ⟨2, ![128, 32]⟩
abbrev S128 : Shape := ⟨1, ![128]⟩
abbrev S128x1 : Shape := ⟨2, ![128, 1]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S896x128 : Shape := ⟨2, ![896, 128]⟩
abbrev S64x64 : Shape := ⟨2, ![64, 64]⟩
abbrev S1x128x32 : Shape := ⟨3, ![1, 128, 32]⟩
abbrev S128x64 : Shape := ⟨2, ![128, 64]⟩
abbrev S896x64 : Shape := ⟨2, ![896, 64]⟩
abbrev S7168x64 : Shape := ⟨2, ![7168, 64]⟩
abbrev S1x64 : Shape := ⟨2, ![1, 64]⟩
abbrev S64 : Shape := ⟨1, ![64]⟩
abbrev S8x7x128x64 : Shape := ⟨4, ![8, 7, 128, 64]⟩
abbrev S8x128x64 : Shape := ⟨3, ![8, 128, 64]⟩
abbrev S1024x64 : Shape := ⟨2, ![1024, 64]⟩
abbrev S1x1x64 : Shape := ⟨3, ![1, 1, 64]⟩

abbrev nBuf : Space → Nat
  | .hbm => 7
  | .vmem => 10
  | .smem => 0
  | _ => 0

abbrev bufTy : (tb : Table) → Fin (tcTables nBuf tb) → BufTy
  | .hbm, ⟨0, _⟩ => ⟨S256x32x128, .f32⟩
  | .hbm, ⟨1, _⟩ => ⟨S256x32x128, .f32⟩
  | .hbm, ⟨2, _⟩ => ⟨S64x32, .f32⟩
  | .hbm, ⟨3, _⟩ => ⟨S192x64, .f32⟩
  | .hbm, ⟨4, _⟩ => ⟨S8x64, .f32⟩
  | .hbm, ⟨5, _⟩ => ⟨S8x64, .f32⟩
  | .hbm, ⟨6, _⟩ => ⟨S256x64x128, .f32⟩
  | .local _ .vmem, ⟨0, _⟩ => ⟨S8x32x128, .f32⟩
  | .local _ .vmem, ⟨1, _⟩ => ⟨S8x32x128, .f32⟩
  | .local _ .vmem, ⟨2, _⟩ => ⟨S8x32x128, .f32⟩
  | .local _ .vmem, ⟨3, _⟩ => ⟨S8x32x128, .f32⟩
  | .local _ .vmem, ⟨4, _⟩ => ⟨S64x32, .f32⟩
  | .local _ .vmem, ⟨5, _⟩ => ⟨S192x64, .f32⟩
  | .local _ .vmem, ⟨6, _⟩ => ⟨S8x64, .f32⟩
  | .local _ .vmem, ⟨7, _⟩ => ⟨S8x64, .f32⟩
  | .local _ .vmem, ⟨8, _⟩ => ⟨S8x64x128, .f32⟩
  | .local _ .vmem, ⟨9, _⟩ => ⟨S8x64x128, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S256x32x128 : Shape := ⟨3, ![256, 32, 128]⟩
abbrev S64x32 : Shape := ⟨2, ![64, 32]⟩
abbrev S192x64 : Shape := ⟨2, ![192, 64]⟩
abbrev S8x64 : Shape := ⟨2, ![8, 64]⟩
abbrev S_ : Shape := ⟨0, ![]⟩
abbrev S256x128 : Shape := ⟨2, ![256, 128]⟩
abbrev S256x1x128 : Shape := ⟨3, ![256, 1, 128]⟩
abbrev S256x128x128 : Shape := ⟨3, ![256, 128, 128]⟩
abbrev S256x128x1 : Shape := ⟨3, ![256, 128, 1]⟩
abbrev S256x128x8 : Shape := ⟨3, ![256, 128, 8]⟩
abbrev S256x128x7 : Shape := ⟨3, ![256, 128, 7]⟩
abbrev S256x128x32 : Shape := ⟨3, ![256, 128, 32]⟩
abbrev S256 : Shape := ⟨1, ![256]⟩
abbrev S256x1x1 : Shape := ⟨3, ![256, 1, 1]⟩
abbrev S256x128x7x1 : Shape := ⟨4, ![256, 128, 7, 1]⟩
abbrev S256x128x7x2 : Shape := ⟨4, ![256, 128, 7, 2]⟩
abbrev S256x128x7x32 : Shape := ⟨4, ![256, 128, 7, 32]⟩
abbrev S256x32x128x7 : Shape := ⟨4, ![256, 32, 128, 7]⟩
abbrev S256x32x128x1 : Shape := ⟨4, ![256, 32, 128, 1]⟩
abbrev S256x64x128x7 : Shape := ⟨4, ![256, 64, 128, 7]⟩
abbrev S64x64 : Shape := ⟨2, ![64, 64]⟩
abbrev S256x128x7x64 : Shape := ⟨4, ![256, 128, 7, 64]⟩
abbrev S1x64 : Shape := ⟨2, ![1, 64]⟩
abbrev S64 : Shape := ⟨1, ![64]⟩
abbrev S1x64x1x1 : Shape := ⟨4, ![1, 64, 1, 1]⟩
abbrev S256x64x128 : Shape := ⟨3, ![256, 64, 128]⟩
abbrev S256x128x64 : Shape := ⟨3, ![256, 128, 64]⟩
abbrev S1x64x1 : Shape := ⟨3, ![1, 64, 1]⟩

abbrev nBuf : Space → Nat
  | .hbm => 226
  | .vmem => 0
  | .smem => 0
  | _ => 0

abbrev hbmTy0_0 (i : Nat) : BufTy := match i % 128 with
  | 0 => ⟨S256x32x128, .f32⟩
  | 1 => ⟨S256x32x128, .f32⟩
  | 2 => ⟨S64x32, .f32⟩
  | 3 => ⟨S192x64, .f32⟩
  | 4 => ⟨S8x64, .f32⟩
  | 5 => ⟨S8x64, .f32⟩
  | 6 => ⟨S256x32x128, .f32⟩
  | 7 => ⟨S_, .f32⟩
  | 8 => ⟨S256x128, .f32⟩
  | 9 => ⟨S256x1x128, .f32⟩
  | 10 => ⟨S_, .f32⟩
  | 11 => ⟨S256x1x128, .f32⟩
  | 12 => ⟨S256x1x128, .i1⟩
  | 13 => ⟨S256x1x128, .f32⟩
  | 14 => ⟨S_, .f32⟩
  | 15 => ⟨S256x1x128, .f32⟩
  | 16 => ⟨S256x1x128, .i1⟩
  | 17 => ⟨S256x1x128, .f32⟩
  | 18 => ⟨S_, .f32⟩
  | 19 => ⟨S256x1x128, .f32⟩
  | 20 => ⟨S256x1x128, .f32⟩
  | 21 => ⟨S256x32x128, .f32⟩
  | 22 => ⟨S256x32x128, .f32⟩
  | 23 => ⟨S256x128x128, .f32⟩
  | 24 => ⟨S_, .f32⟩
  | 25 => ⟨S256x128x128, .f32⟩
  | 26 => ⟨S256x128x128, .f32⟩
  | 27 => ⟨S256x32x128, .f32⟩
  | 28 => ⟨S_, .f32⟩
  | 29 => ⟨S256x128, .f32⟩
  | 30 => ⟨S256x1x128, .f32⟩
  | 31 => ⟨S256x1x128, .f32⟩
  | 32 => ⟨S256x128x128, .f32⟩
  | 33 => ⟨S256x128x128, .f32⟩
  | 34 => ⟨S256x128x1, .f32⟩
  | 35 => ⟨S256x128x128, .f32⟩
  | 36 => ⟨S256x128x128, .f32⟩
  | 37 => ⟨S256x128x8, .f32⟩
  | 38 => ⟨S256x128x8, .i32⟩
  | 39 => ⟨S256x128x7, .i32⟩
  | 40 => ⟨S256x128x32, .f32⟩
  | 41 => ⟨S256, .i32⟩
  | 42 => ⟨S256x1x1, .i32⟩
  | 43 => ⟨S_, .i32⟩
  | 44 => ⟨S256x1x1, .i32⟩
  | 45 => ⟨S256x1x1, .i1⟩
  | 46 => ⟨S_, .i32⟩
  | 47 => ⟨S256x1x1, .i32⟩
  | 48 => ⟨S256x1x1, .i32⟩
  | 49 => ⟨S256x1x1, .i32⟩
  | 50 => ⟨S_, .i32⟩
  | 51 => ⟨S256x128x7, .i32⟩
  | 52 => ⟨S256x128x7, .i1⟩
  | 53 => ⟨S_, .i32⟩
  | 54 => ⟨S256x128x7, .i32⟩
  | 55 => ⟨S256x128x7, .i32⟩
  | 56 => ⟨S256x128x7, .i32⟩
  | 57 => ⟨S256x128x7, .i32⟩
  | 58 => ⟨S256x128x7x1, .i32⟩
  | 59 => ⟨S256x128x7x1, .i32⟩
  | 60 => ⟨S256x128x7x2, .i32⟩
  | 61 => ⟨S256x128x7x32, .f32⟩
  | 62 => ⟨S256x32x128x7, .f32⟩
  | 63 => ⟨S256x32x128x1, .f32⟩
  | 64 => ⟨S256x32x128x7, .f32⟩
  | 65 => ⟨S256x32x128x7, .f32⟩
  | 66 => ⟨S256x64x128x7, .f32⟩
  | 67 => ⟨S64x64, .f32⟩
  | 68 => ⟨S256x128x7x64, .f32⟩
  | 69 => ⟨S256x64x128x7, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S64, .f32⟩
  | 76 => ⟨S1x64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S64, .f32⟩
  | 85 => ⟨S64, .f32⟩
  | 86 => ⟨S1x64x1x1, .f32⟩
  | 87 => ⟨S256x64x128x7, .f32⟩
  | 88 => ⟨S256x64x128x7, .f32⟩
  | 89 => ⟨S1x64x1x1, .f32⟩
  | 90 => ⟨S_, .f32⟩
  | 91 => ⟨S1x64x1x1, .f32⟩
  | 92 => ⟨S1x64x1x1, .f32⟩
  | 93 => ⟨S1x64x1x1, .f32⟩
  | 94 => ⟨S256x64x128x7, .f32⟩
  | 95 => ⟨S256x64x128x7, .f32⟩
  | 96 => ⟨S1x64x1x1, .f32⟩
  | 97 => ⟨S256x64x128x7, .f32⟩
  | 98 => ⟨S256x64x128x7, .f32⟩
  | 99 => ⟨S1x64x1x1, .f32⟩
  | 100 => ⟨S256x64x128x7, .f32⟩
  | 101 => ⟨S256x64x128x7, .f32⟩
  | 102 => ⟨S_, .f32⟩
  | 103 => ⟨S256x64x128x7, .f32⟩
  | 104 => ⟨S256x64x128x7, .f32⟩
  | 105 => ⟨S64x64, .f32⟩
  | 106 => ⟨S256x128x7x64, .f32⟩
  | 107 => ⟨S256x64x128x7, .f32⟩
  | 108 => ⟨S1x64, .f32⟩
  | 109 => ⟨S64, .f32⟩
  | 110 => ⟨S1x64, .f32⟩
  | 111 => ⟨S64, .f32⟩
  | 112 => ⟨S1x64, .f32⟩
  | 113 => ⟨S64, .f32⟩
  | 114 => ⟨S1x64, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S64, .f32⟩
  | 124 => ⟨S1x64x1x1, .f32⟩
  | 125 => ⟨S256x64x128x7, .f32⟩
  | 126 => ⟨S256x64x128x7, .f32⟩
  | 127 => ⟨S1x64x1x1, .f32⟩
  | _ => ⟨S256x32x128, .f32⟩

abbrev hbmTy0_1 (i : Nat) : BufTy := match i % 128 with
  | 0 => ⟨S_, .f32⟩
  | 1 => ⟨S1x64x1x1, .f32⟩
  | 2 => ⟨S1x64x1x1, .f32⟩
  | 3 => ⟨S1x64x1x1, .f32⟩
  | 4 => ⟨S256x64x128x7, .f32⟩
  | 5 => ⟨S256x64x128x7, .f32⟩
  | 6 => ⟨S1x64x1x1, .f32⟩
  | 7 => ⟨S256x64x128x7, .f32⟩
  | 8 => ⟨S256x64x128x7, .f32⟩
  | 9 => ⟨S1x64x1x1, .f32⟩
  | 10 => ⟨S256x64x128x7, .f32⟩
  | 11 => ⟨S256x64x128x7, .f32⟩
  | 12 => ⟨S_, .f32⟩
  | 13 => ⟨S256x64x128x7, .f32⟩
  | 14 => ⟨S256x64x128x7, .f32⟩
  | 15 => ⟨S64x64, .f32⟩
  | 16 => ⟨S256x128x7x64, .f32⟩
  | 17 => ⟨S256x64x128x7, .f32⟩
  | 18 => ⟨S1x64, .f32⟩
  | 19 => ⟨S64, .f32⟩
  | 20 => ⟨S1x64, .f32⟩
  | 21 => ⟨S64, .f32⟩
  | 22 => ⟨S1x64, .f32⟩
  | 23 => ⟨S64, .f32⟩
  | 24 => ⟨S1x64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S64, .f32⟩
  | 34 => ⟨S1x64x1x1, .f32⟩
  | 35 => ⟨S256x64x128x7, .f32⟩
  | 36 => ⟨S256x64x128x7, .f32⟩
  | 37 => ⟨S1x64x1x1, .f32⟩
  | 38 => ⟨S_, .f32⟩
  | 39 => ⟨S1x64x1x1, .f32⟩
  | 40 => ⟨S1x64x1x1, .f32⟩
  | 41 => ⟨S1x64x1x1, .f32⟩
  | 42 => ⟨S256x64x128x7, .f32⟩
  | 43 => ⟨S256x64x128x7, .f32⟩
  | 44 => ⟨S1x64x1x1, .f32⟩
  | 45 => ⟨S256x64x128x7, .f32⟩
  | 46 => ⟨S256x64x128x7, .f32⟩
  | 47 => ⟨S1x64x1x1, .f32⟩
  | 48 => ⟨S256x64x128x7, .f32⟩
  | 49 => ⟨S256x64x128x7, .f32⟩
  | 50 => ⟨S_, .f32⟩
  | 51 => ⟨S256x64x128x7, .f32⟩
  | 52 => ⟨S256x64x128x7, .f32⟩
  | 53 => ⟨S_, .f32⟩
  | 54 => ⟨S256x64x128, .f32⟩
  | 55 => ⟨S_, .f32⟩
  | 56 => ⟨S256x64x128, .f32⟩
  | 57 => ⟨S256x64x128, .f32⟩
  | 58 => ⟨S256x128x64, .f32⟩
  | 59 => ⟨S256x64x128, .f32⟩
  | 60 => ⟨S1x64, .f32⟩
  | 61 => ⟨S64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S64, .f32⟩
  | 76 => ⟨S1x64x1, .f32⟩
  | 77 => ⟨S256x64x128, .f32⟩
  | 78 => ⟨S256x64x128, .f32⟩
  | 79 => ⟨S1x64x1, .f32⟩
  | 80 => ⟨S_, .f32⟩
  | 81 => ⟨S1x64x1, .f32⟩
  | 82 => ⟨S1x64x1, .f32⟩
  | 83 => ⟨S1x64x1, .f32⟩
  | 84 => ⟨S256x64x128, .f32⟩
  | 85 => ⟨S256x64x128, .f32⟩
  | 86 => ⟨S1x64x1, .f32⟩
  | 87 => ⟨S256x64x128, .f32⟩
  | 88 => ⟨S256x64x128, .f32⟩
  | 89 => ⟨S1x64x1, .f32⟩
  | 90 => ⟨S256x64x128, .f32⟩
  | 91 => ⟨S256x64x128, .f32⟩
  | 92 => ⟨S256x64x128, .f32⟩
  | 93 => ⟨S_, .f32⟩
  | 94 => ⟨S256x64x128, .f32⟩
  | 95 => ⟨S256x64x128, .f32⟩
  | 96 => ⟨S256x64x128, .f32⟩
  | 97 => ⟨S256x64x128, .f32⟩
  | _ => ⟨S256x32x128, .f32⟩

abbrev hbmTy (i : Nat) : BufTy := match i / 128 with
  | 0 => hbmTy0_0 i
  | 1 => hbmTy0_1 i
  | _ => ⟨S256x32x128, .f32⟩

abbrev bufTy : (tb : Table) → Fin (tcTables nBuf tb) → BufTy
  | .hbm, ⟨i, _⟩ => hbmTy i
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_values : Ref sig .tc := ⟨.hbm, 37, rfl⟩
abbrev main_indices : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_12 : Ref sig .tc := ⟨.hbm, 116, rfl⟩
abbrev main_v94 : Ref sig .tc := ⟨.hbm, 117, rfl⟩
abbrev main_v95 : Ref sig .tc := ⟨.hbm, 118, rfl⟩
abbrev main_cst_13 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_14 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_15 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_16 : Ref sig .tc := ⟨.hbm, 154, rfl⟩
abbrev main_v128 : Ref sig .tc := ⟨.hbm, 155, rfl⟩
abbrev main_v129 : Ref sig .tc := ⟨.hbm, 156, rfl⟩
abbrev main_cst_17 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_18 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_19 : Ref sig .tc := ⟨.hbm, 178, rfl⟩
abbrev main_v149 : Ref sig .tc := ⟨.hbm, 179, rfl⟩
abbrev main_v150 : Ref sig .tc := ⟨.hbm, 180, rfl⟩
abbrev main_cst_20 : Ref sig .tc := ⟨.hbm, 181, rfl⟩
abbrev main_v151 : Ref sig .tc := ⟨.hbm, 182, rfl⟩
abbrev main_cst_21 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_22 : Ref sig .tc := ⟨.hbm, 196, rfl⟩
abbrev main_v164 : Ref sig .tc := ⟨.hbm, 197, rfl⟩
abbrev main_v165 : Ref sig .tc := ⟨.hbm, 198, rfl⟩
abbrev main_cst_23 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_cst_24 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_cst_25 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩

abbrev nD : Nat := 1
abbrev τ : Topo := Topo.v7x

variable {F : FTy → Type} [FloatOps F]
-- ==== HeadKernel.lean ====
abbrev S256x32x128 : Shape := ⟨3, ![256, 32, 128]⟩
abbrev S256x64x128 : Shape := ⟨3, ![256, 64, 128]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S2x128 : Shape := ⟨2, ![2, 128]⟩
abbrev S_ : Shape := ⟨0, ![]⟩
abbrev S16x128 : Shape := ⟨2, ![16, 128]⟩
abbrev S1 : Shape := ⟨1, ![1]⟩
abbrev S1x128 : Shape := ⟨2, ![1, 128]⟩
abbrev S4x128 : Shape := ⟨2, ![4, 128]⟩
abbrev S256x16 : Shape := ⟨2, ![256, 16]⟩
abbrev S8x32x128 : Shape := ⟨3, ![8, 32, 128]⟩
abbrev S8x64x128 : Shape := ⟨3, ![8, 64, 128]⟩
abbrev S8x16 : Shape := ⟨2, ![8, 16]⟩
abbrev S8x128 : Shape := ⟨2, ![8, 128]⟩
abbrev S8x1x128 : Shape := ⟨3, ![8, 1, 128]⟩
abbrev S8x128x32 : Shape := ⟨3, ![8, 128, 32]⟩
abbrev S8x128x64 : Shape := ⟨3, ![8, 128, 64]⟩
abbrev S8x128x96 : Shape := ⟨3, ![8, 128, 96]⟩
abbrev S1024x96 : Shape := ⟨2, ![1024, 96]⟩
abbrev S1024x128 : Shape := ⟨2, ![1024, 128]⟩
abbrev S8x128x128 : Shape := ⟨3, ![8, 128, 128]⟩
abbrev S8x128x1 : Shape := ⟨3, ![8, 128, 1]⟩
abbrev S8x1 : Shape := ⟨2, ![8, 1]⟩
abbrev S1x16 : Shape := ⟨2, ![1, 16]⟩
abbrev S16 : Shape := ⟨1, ![16]⟩

abbrev nBuf : Space → Nat
  | .hbm => 27
  | .vmem => 13
  | .smem => 0
  | _ => 0

abbrev bufTy : (tb : Table) → Fin (tcTables nBuf tb) → BufTy
  | .hbm, ⟨0, _⟩ => ⟨S256x32x128, .f32⟩
  | .hbm, ⟨1, _⟩ => ⟨S256x64x128, .f32⟩
  | .hbm, ⟨2, _⟩ => ⟨S256x32x128, .f32⟩
  | .hbm, ⟨3, _⟩ => ⟨S128x96, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10x128, .f32⟩
  | .hbm, ⟨9, _⟩ => ⟨S10, .f32⟩
  | .hbm, ⟨10, _⟩ => ⟨S2x128, .f32⟩
  | .hbm, ⟨11, _⟩ => ⟨S_, .f32⟩
  | .hbm, ⟨12, _⟩ => ⟨S16x128, .f32⟩
  | .hbm, ⟨13, _⟩ => ⟨S_, .i32⟩
  | .hbm, ⟨14, _⟩ => ⟨S1, .i32⟩
  | .hbm, ⟨15, _⟩ => ⟨S16x128, .f32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S4x128, .f32⟩
  | .hbm, ⟨26, _⟩ => ⟨S256x16, .f32⟩
  | .local _ .vmem, ⟨0, _⟩ => ⟨S8x32x128, .f32⟩
  | .local _ .vmem, ⟨1, _⟩ => ⟨S8x32x128, .f32⟩
  | .local _ .vmem, ⟨2, _⟩ => ⟨S8x64x128, .f32⟩
  | .local _ .vmem, ⟨3, _⟩ => ⟨S8x64x128, .f32⟩
  | .local _ .vmem, ⟨4, _⟩ => ⟨S8x32x128, .f32⟩
  | .local _ .vmem, ⟨5, _⟩ => ⟨S8x32x128, .f32⟩
  | .local _ .vmem, ⟨6, _⟩ => ⟨S128x96, .f32⟩
  | .local _ .vmem, ⟨7, _⟩ => ⟨S4x128, .f32⟩
  | .local _ .vmem, ⟨8, _⟩ => ⟨S128x128, .f32⟩
  | .local _ .vmem, ⟨9, _⟩ => ⟨S16x128, .f32⟩
  | .local _ .vmem, ⟨10, _⟩ => ⟨S2x128, .f32⟩
  | .local _ .vmem, ⟨11, _⟩ => ⟨S8x16, .f32⟩
  | .local _ .vmem, ⟨12, _⟩ => ⟨S8x16, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HeadReferenceIdeal.lean ====
abbrev S256x32x128 : Shape := ⟨3, ![256, 32, 128]⟩
abbrev S256x64x128 : Shape := ⟨3, ![256, 64, 128]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S2x128 : Shape := ⟨2, ![2, 128]⟩
abbrev S_ : Shape := ⟨0, ![]⟩
abbrev S256x128 : Shape := ⟨2, ![256, 128]⟩
abbrev S256x1x128 : Shape := ⟨3, ![256, 1, 128]⟩
abbrev S256x1 : Shape := ⟨2, ![256, 1]⟩
abbrev S256x96x128 : Shape := ⟨3, ![256, 96, 128]⟩
abbrev S256x128x128 : Shape := ⟨3, ![256, 128, 128]⟩
abbrev S1x128 : Shape := ⟨2, ![1, 128]⟩
abbrev S1x128x1 : Shape := ⟨3, ![1, 128, 1]⟩
abbrev S128x10 : Shape := ⟨2, ![128, 10]⟩
abbrev S256x10 : Shape := ⟨2, ![256, 10]⟩
abbrev S1x10 : Shape := ⟨2, ![1, 10]⟩
abbrev S256x6 : Shape := ⟨2, ![256, 6]⟩
abbrev S256x16 : Shape := ⟨2, ![256, 16]⟩

abbrev nBuf : Space → Nat
  | .hbm => 80
  | .vmem => 0
  | .smem => 0
  | _ => 0

abbrev bufTy : (tb : Table) → Fin (tcTables nBuf tb) → BufTy
  | .hbm, ⟨0, _⟩ => ⟨S256x32x128, .f32⟩
  | .hbm, ⟨1, _⟩ => ⟨S256x64x128, .f32⟩
  | .hbm, ⟨2, _⟩ => ⟨S256x32x128, .f32⟩
  | .hbm, ⟨3, _⟩ => ⟨S128x96, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10x128, .f32⟩
  | .hbm, ⟨9, _⟩ => ⟨S10, .f32⟩
  | .hbm, ⟨10, _⟩ => ⟨S2x128, .f32⟩
  | .hbm, ⟨11, _⟩ => ⟨S256x32x128, .f32⟩
  | .hbm, ⟨12, _⟩ => ⟨S_, .f32⟩
  | .hbm, ⟨13, _⟩ => ⟨S256x128, .f32⟩
  | .hbm, ⟨14, _⟩ => ⟨S256x1x128, .f32⟩
  | .hbm, ⟨15, _⟩ => ⟨S_, .f32⟩
  | .hbm, ⟨16, _⟩ => ⟨S256x1x128, .f32⟩
  | .hbm, ⟨17, _⟩ => ⟨S256x1x128, .i1⟩
  | .hbm, ⟨18, _⟩ => ⟨S256x1x128, .f32⟩
  | .hbm, ⟨19, _⟩ => ⟨S_, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x96x128, .f32⟩
  | .hbm, ⟨25, _⟩ => ⟨S256x128x128, .f32⟩
  | .hbm, ⟨26, _⟩ => ⟨S256x128x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128x1, .f32⟩
  | .hbm, ⟨40, _⟩ => ⟨S256x128x128, .f32⟩
  | .hbm, ⟨41, _⟩ => ⟨S256x128x128, .f32⟩
  | .hbm, ⟨42, _⟩ => ⟨S1x128x1, .f32⟩
  | .hbm, ⟨43, _⟩ => ⟨S_, .f32⟩
  | .hbm, ⟨44, _⟩ => ⟨S1x128x1, .f32⟩
  | .hbm, ⟨45, _⟩ => ⟨S1x128x1, .f32⟩
  | .hbm, ⟨46, _⟩ => ⟨S1x128x1, .f32⟩
  | .hbm, ⟨47, _⟩ => ⟨S256x128x128, .f32⟩
  | .hbm, ⟨48, _⟩ => ⟨S256x128x128, .f32⟩
  | .hbm, ⟨49, _⟩ => ⟨S1x128x1, .f32⟩
  | .hbm, ⟨50, _⟩ => ⟨S256x128x128, .f32⟩
  | .hbm, ⟨51, _⟩ => ⟨S256x128x128, .f32⟩
  | .hbm, ⟨52, _⟩ => ⟨S1x128x1, .f32⟩
  | .hbm, ⟨53, _⟩ => ⟨S256x128x128, .f32⟩
  | .hbm, ⟨54, _⟩ => ⟨S256x128x128, .f32⟩
  | .hbm, ⟨55, _⟩ => ⟨S_, .f32⟩
  | .hbm, ⟨56, _⟩ => ⟨S256x128x128, .f32⟩
  | .hbm, ⟨57, _⟩ => ⟨S256x128x128, .f32⟩
  | .hbm, ⟨58, _⟩ => ⟨S256x128x128, .f32⟩
  | .hbm, ⟨59, _⟩ => ⟨S256x128x128, .f32⟩
  | .hbm, ⟨60, _⟩ => ⟨S_, .f32⟩
  | .hbm, ⟨61, _⟩ => ⟨S256x128, .f32⟩
  | .hbm, ⟨62, _⟩ => ⟨S256x128, .f32⟩
  | .hbm, ⟨63, _⟩ => ⟨S256x128, .f32⟩
  | .hbm, ⟨64, _⟩ => ⟨S128x128, .f32⟩
  | .hbm, ⟨65, _⟩ => ⟨S256x128, .f32⟩
  | .hbm, ⟨66, _⟩ => ⟨S1x128, .f32⟩
  | .hbm, ⟨67, _⟩ => ⟨S256x128, .f32⟩
  | .hbm, ⟨68, _⟩ => ⟨S256x128, .f32⟩
  | .hbm, ⟨69, _⟩ => ⟨S_, .f32⟩
  | .hbm, ⟨70, _⟩ => ⟨S256x128, .f32⟩
  | .hbm, ⟨71, _⟩ => ⟨S256x128, .f32⟩
  | .hbm, ⟨72, _⟩ => ⟨S128x10, .f32⟩
  | .hbm, ⟨73, _⟩ => ⟨S256x10, .f32⟩
  | .hbm, ⟨74, _⟩ => ⟨S1x10, .f32⟩
  | .hbm, ⟨75, _⟩ => ⟨S256x10, .f32⟩
  | .hbm, ⟨76, _⟩ => ⟨S256x10, .f32⟩
  | .hbm, ⟨77, _⟩ => ⟨S_, .f32⟩
  | .hbm, ⟨78, _⟩ => ⟨S256x6, .f32⟩
  | .hbm, ⟨79, _⟩ => ⟨S256x16, .f32⟩
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== FirstKernel.lean ====
abbrev S256x8x128 : Shape := ⟨3, ![256, 8, 128]⟩
abbrev S256x32x128 : Shape := ⟨3, ![256, 32, 128]⟩
abbrev S1x32 : Shape := ⟨2, ![1, 32]⟩
abbrev S96x64 : Shape := ⟨2, ![96, 64]⟩
abbrev S6x32 : Shape := ⟨2, ![6, 32]⟩
abbrev S8x32 : Shape := ⟨2, ![8, 32]⟩
abbrev S8x8x128 : Shape := ⟨3, ![8, 8, 128]⟩
abbrev S8x32x128 : Shape := ⟨3, ![8, 32, 128]⟩
abbrev S8x128 : Shape := ⟨2, ![8, 128]⟩
abbrev S8x1x128 : Shape := ⟨3, ![8, 1, 128]⟩
abbrev S128x128 : Shape := ⟨2, ![128, 128]⟩
abbrev S1x8x128 : Shape := ⟨3, ![1, 8, 128]⟩
abbrev S128x8 : Shape := ⟨2, ![128, 8]⟩
abbrev S128 : Shape := ⟨1, ![128]⟩
abbrev S128x1 : Shape := ⟨2, ![128, 1]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S896x128 : Shape := ⟨2, ![896, 128]⟩
abbrev S32 : Shape := ⟨1, ![32]⟩
abbrev S1x32x1 : Shape := ⟨3, ![1, 32, 1]⟩
abbrev S8x128x32 : Shape := ⟨3, ![8, 128, 32]⟩
abbrev S32x64 : Shape := ⟨2, ![32, 64]⟩
abbrev S32x32 : Shape := ⟨2, ![32, 32]⟩
abbrev S1x128x32 : Shape := ⟨3, ![1, 128, 32]⟩
abbrev S128x32 : Shape := ⟨2, ![128, 32]⟩
abbrev S896x32 : Shape := ⟨2, ![896, 32]⟩
abbrev S7168x32 : Shape := ⟨2, ![7168, 32]⟩
abbrev S8x7x128x32 : Shape := ⟨4, ![8, 7, 128, 32]⟩

abbrev nBuf : Space → Nat
  | .hbm => 8
  | .vmem => 11
  | .smem => 0
  | _ => 0

abbrev bufTy : (tb : Table) → Fin (tcTables nBuf tb) → BufTy
  | .hbm, ⟨0, _⟩ => ⟨S256x8x128, .f32⟩
  | .hbm, ⟨1, _⟩ => ⟨S256x32x128, .f32⟩
  | .hbm, ⟨2, _⟩ => ⟨S1x32, .f32⟩
  | .hbm, ⟨3, _⟩ => ⟨S1x32, .f32⟩
  | .hbm, ⟨4, _⟩ => ⟨S96x64, .f32⟩
  | .hbm, ⟨5, _⟩ => ⟨S6x32, .f32⟩
  | .hbm, ⟨6, _⟩ => ⟨S8x32, .f32⟩
  | .hbm, ⟨7, _⟩ => ⟨S256x32x128, .f32⟩
  | .local _ .vmem, ⟨0, _⟩ => ⟨S8x8x128, .f32⟩
  | .local _ .vmem, ⟨1, _⟩ => ⟨S8x8x128, .f32⟩
  | .local _ .vmem, ⟨2, _⟩ => ⟨S8x32x128, .f32⟩
  | .local _ .vmem, ⟨3, _⟩ => ⟨S8x32x128, .f32⟩
  | .local _ .vmem, ⟨4, _⟩ => ⟨S1x32, .f32⟩
  | .local _ .vmem, ⟨5, _⟩ => ⟨S1x32, .f32⟩
  | .local _ .vmem, ⟨6, _⟩ => ⟨S96x64, .f32⟩
  | .local _ .vmem, ⟨7, _⟩ => ⟨S6x32, .f32⟩
  | .local _ .vmem, ⟨8, _⟩ => ⟨S8x32, .f32⟩
  | .local _ .vmem, ⟨9, _⟩ => ⟨S8x32x128, .f32⟩
  | .local _ .vmem, ⟨10, _⟩ => ⟨S8x32x128, .f32⟩
  | _, _ => ⟨S256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FirstKernelIdeal.lean ====
variable {F : FTy → Type} [FloatOps F] [Named F]
def κ : String → Option EReal := fun
  | "neg" => some ⊥
  | _ => none
-- ==== FirstReferenceIdeal.lean ====
abbrev S256x8x128 : Shape := ⟨3, ![256, 8, 128]⟩
abbrev S256x32x128 : Shape := ⟨3, ![256, 32, 128]⟩
abbrev S1x32 : Shape := ⟨2, ![1, 32]⟩
abbrev S96x64 : Shape := ⟨2, ![96, 64]⟩
abbrev S6x32 : Shape := ⟨2, ![6, 32]⟩
abbrev S8x32 : Shape := ⟨2, ![8, 32]⟩
abbrev S_ : Shape := ⟨0, ![]⟩
abbrev S256x128 : Shape := ⟨2, ![256, 128]⟩
abbrev S256x1x128 : Shape := ⟨3, ![256, 1, 128]⟩
abbrev S32 : Shape := ⟨1, ![32]⟩
abbrev S1x32x1 : Shape := ⟨3, ![1, 32, 1]⟩
abbrev S256x128x128 : Shape := ⟨3, ![256, 128, 128]⟩
abbrev S256x128x1 : Shape := ⟨3, ![256, 128, 1]⟩
abbrev S256x128x8 : Shape := ⟨3, ![256, 128, 8]⟩
abbrev S256x128x7 : Shape := ⟨3, ![256, 128, 7]⟩
abbrev S256x128x32 : Shape := ⟨3, ![256, 128, 32]⟩
abbrev S256 : Shape := ⟨1, ![256]⟩
abbrev S256x1x1 : Shape := ⟨3, ![256, 1, 1]⟩
abbrev S256x128x7x1 : Shape := ⟨4, ![256, 128, 7, 1]⟩
abbrev S256x128x7x2 : Shape := ⟨4, ![256, 128, 7, 2]⟩
abbrev S256x128x7x32 : Shape := ⟨4, ![256, 128, 7, 32]⟩
abbrev S256x32x128x7 : Shape := ⟨4, ![256, 32, 128, 7]⟩
abbrev S256x32x128x1 : Shape := ⟨4, ![256, 32, 128, 1]⟩
abbrev S256x64x128x7 : Shape := ⟨4, ![256, 64, 128, 7]⟩
abbrev S32x64 : Shape := ⟨2, ![32, 64]⟩
abbrev S32x32 : Shape := ⟨2, ![32, 32]⟩
abbrev S1x32x1x1 : Shape := ⟨4, ![1, 32, 1, 1]⟩

abbrev nBuf : Space → Nat
  | .hbm => 229
  | .vmem => 0
  | .smem => 0
  | _ => 0

abbrev hbmTy0_0 (i : Nat) : BufTy := match i % 128 with
  | 0 => ⟨S256x8x128, .f32⟩
  | 1 => ⟨S256x32x128, .f32⟩
  | 2 => ⟨S1x32, .f32⟩
  | 3 => ⟨S1x32, .f32⟩
  | 4 => ⟨S96x64, .f32⟩
  | 5 => ⟨S6x32, .f32⟩
  | 6 => ⟨S8x32, .f32⟩
  | 7 => ⟨S256x32x128, .f32⟩
  | 8 => ⟨S_, .f32⟩
  | 9 => ⟨S256x128, .f32⟩
  | 10 => ⟨S256x1x128, .f32⟩
  | 11 => ⟨S_, .f32⟩
  | 12 => ⟨S256x1x128, .f32⟩
  | 13 => ⟨S256x1x128, .i1⟩
  | 14 => ⟨S256x1x128, .f32⟩
  | 15 => ⟨S256x8x128, .f32⟩
  | 16 => ⟨S256x8x128, .f32⟩
  | 17 => ⟨S256x32x128, .f32⟩
  | 18 => ⟨S256x32x128, .f32⟩
  | 19 => ⟨S_, .f32⟩
  | 20 => ⟨S256x1x128, .f32⟩
  | 21 => ⟨S256x1x128, .i1⟩
  | 22 => ⟨S256x1x128, .f32⟩
  | 23 => ⟨S_, .f32⟩
  | 24 => ⟨S256x1x128, .f32⟩
  | 25 => ⟨S256x1x128, .f32⟩
  | 26 => ⟨S1x32, .f32⟩
  | 27 => ⟨S32, .f32⟩
  | 28 => ⟨S1x32, .f32⟩
  | 29 => ⟨S32, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S32, .f32⟩
  | 40 => ⟨S1x32x1, .f32⟩
  | 41 => ⟨S256x32x128, .f32⟩
  | 42 => ⟨S256x32x128, .f32⟩
  | 43 => ⟨S1x32x1, .f32⟩
  | 44 => ⟨S_, .f32⟩
  | 45 => ⟨S1x32x1, .f32⟩
  | 46 => ⟨S1x32x1, .f32⟩
  | 47 => ⟨S1x32x1, .f32⟩
  | 48 => ⟨S256x32x128, .f32⟩
  | 49 => ⟨S256x32x128, .f32⟩
  | 50 => ⟨S1x32x1, .f32⟩
  | 51 => ⟨S256x32x128, .f32⟩
  | 52 => ⟨S256x32x128, .f32⟩
  | 53 => ⟨S1x32x1, .f32⟩
  | 54 => ⟨S256x32x128, .f32⟩
  | 55 => ⟨S256x32x128, .f32⟩
  | 56 => ⟨S256x32x128, .f32⟩
  | 57 => ⟨S256x32x128, .f32⟩
  | 58 => ⟨S256x8x128, .f32⟩
  | 59 => ⟨S256x8x128, .f32⟩
  | 60 => ⟨S256x128x128, .f32⟩
  | 61 => ⟨S_, .f32⟩
  | 62 => ⟨S256x128x128, .f32⟩
  | 63 => ⟨S256x128x128, .f32⟩
  | 64 => ⟨S256x8x128, .f32⟩
  | 65 => ⟨S_, .f32⟩
  | 66 => ⟨S256x128, .f32⟩
  | 67 => ⟨S256x1x128, .f32⟩
  | 68 => ⟨S256x1x128, .f32⟩
  | 69 => ⟨S256x128x128, .f32⟩
  | 70 => ⟨S256x128x128, .f32⟩
  | 71 => ⟨S256x128x1, .f32⟩
  | 72 => ⟨S256x128x128, .f32⟩
  | 73 => ⟨S256x128x128, .f32⟩
  | 74 => ⟨S256x128x8, .f32⟩
  | 75 => ⟨S256x128x8, .i32⟩
  | 76 => ⟨S256x128x7, .i32⟩
  | 77 => ⟨S256x128x32, .f32⟩
  | 78 => ⟨S256, .i32⟩
  | 79 => ⟨S256x1x1, .i32⟩
  | 80 => ⟨S_, .i32⟩
  | 81 => ⟨S256x1x1, .i32⟩
  | 82 => ⟨S256x1x1, .i1⟩
  | 83 => ⟨S_, .i32⟩
  | 84 => ⟨S256x1x1, .i32⟩
  | 85 => ⟨S256x1x1, .i32⟩
  | 86 => ⟨S256x1x1, .i32⟩
  | 87 => ⟨S_, .i32⟩
  | 88 => ⟨S256x128x7, .i32⟩
  | 89 => ⟨S256x128x7, .i1⟩
  | 90 => ⟨S_, .i32⟩
  | 91 => ⟨S256x128x7, .i32⟩
  | 92 => ⟨S256x128x7, .i32⟩
  | 93 => ⟨S256x128x7, .i32⟩
  | 94 => ⟨S256x128x7, .i32⟩
  | 95 => ⟨S256x128x7x1, .i32⟩
  | 96 => ⟨S256x128x7x1, .i32⟩
  | 97 => ⟨S256x128x7x2, .i32⟩
  | 98 => ⟨S256x128x7x32, .f32⟩
  | 99 => ⟨S256x32x128x7, .f32⟩
  | 100 => ⟨S256x32x128x1, .f32⟩
  | 101 => ⟨S256x32x128x7, .f32⟩
  | 102 => ⟨S256x32x128x7, .f32⟩
  | 103 => ⟨S256x64x128x7, .f32⟩
  | 104 => ⟨S32x64, .f32⟩
  | 105 => ⟨S32x32, .f32⟩
  | 106 => ⟨S32x32, .f32⟩
  | 107 => ⟨S256x128x7x32, .f32⟩
  | 108 => ⟨S256x32x128x7, .f32⟩
  | 109 => ⟨S1x32, .f32⟩
  | 110 => ⟨S32, .f32⟩
  | 111 => ⟨S1x32, .f32⟩
  | 112 => ⟨S32, .f32⟩
  | 113 => ⟨S1x32, .f32⟩
  | 114 => ⟨S32, .f32⟩
  | 115 => ⟨S1x32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S32, .f32⟩
  | 125 => ⟨S1x32x1x1, .f32⟩
  | 126 => ⟨S256x32x128x7, .f32⟩
  | 127 => ⟨S256x32x128x7, .f32⟩
  | _ => ⟨S256x8x128, .f32⟩

abbrev hbmTy0_1 (i : Nat) : BufTy := match i % 128 with
  | 0 => ⟨S1x32x1x1, .f32⟩
  | 1 => ⟨S_, .f32⟩
  | 2 => ⟨S1x32x1x1, .f32⟩
  | 3 => ⟨S1x32x1x1, .f32⟩
  | 4 => ⟨S1x32x1x1, .f32⟩
  | 5 => ⟨S256x32x128x7, .f32⟩
  | 6 => ⟨S256x32x128x7, .f32⟩
  | 7 => ⟨S1x32x1x1, .f32⟩
  | 8 => ⟨S256x32x128x7, .f32⟩
  | 9 => ⟨S256x32x128x7, .f32⟩
  | 10 => ⟨S1x32x1x1, .f32⟩
  | 11 => ⟨S256x32x128x7, .f32⟩
  | 12 => ⟨S256x32x128x7, .f32⟩
  | 13 => ⟨S_, .f32⟩
  | 14 => ⟨S256x32x128x7, .f32⟩
  | 15 => ⟨S256x32x128x7, .f32⟩
  | 16 => ⟨S256x128x7x32, .f32⟩
  | 17 => ⟨S256x32x128x7, .f32⟩
  | 18 => ⟨S1x32, .f32⟩
  | 19 => ⟨S32, .f32⟩
  | 20 => ⟨S1x32, .f32⟩
  | 21 => ⟨S32, .f32⟩
  | 22 => ⟨S1x32, .f32⟩
  | 23 => ⟨S32, .f32⟩
  | 24 => ⟨S1x32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S32, .f32⟩
  | 33 => ⟨S32, .f32⟩
  | 34 => ⟨S1x32x1x1, .f32⟩
  | 35 => ⟨S256x32x128x7, .f32⟩
  | 36 => ⟨S256x32x128x7, .f32⟩
  | 37 => ⟨S1x32x1x1, .f32⟩
  | 38 => ⟨S_, .f32⟩
  | 39 => ⟨S1x32x1x1, .f32⟩
  | 40 => ⟨S1x32x1x1, .f32⟩
  | 41 => ⟨S1x32x1x1, .f32⟩
  | 42 => ⟨S256x32x128x7, .f32⟩
  | 43 => ⟨S256x32x128x7, .f32⟩
  | 44 => ⟨S1x32x1x1, .f32⟩
  | 45 => ⟨S256x32x128x7, .f32⟩
  | 46 => ⟨S256x32x128x7, .f32⟩
  | 47 => ⟨S1x32x1x1, .f32⟩
  | 48 => ⟨S256x32x128x7, .f32⟩
  | 49 => ⟨S256x32x128x7, .f32⟩
  | 50 => ⟨S_, .f32⟩
  | 51 => ⟨S256x32x128x7, .f32⟩
  | 52 => ⟨S256x32x128x7, .f32⟩
  | 53 => ⟨S256x128x7x32, .f32⟩
  | 54 => ⟨S256x32x128x7, .f32⟩
  | 55 => ⟨S1x32, .f32⟩
  | 56 => ⟨S32, .f32⟩
  | 57 => ⟨S1x32, .f32⟩
  | 58 => ⟨S32, .f32⟩
  | 59 => ⟨S1x32, .f32⟩
  | 60 => ⟨S32, .f32⟩
  | 61 => ⟨S1x32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S32, .f32⟩
  | 71 => ⟨S1x32x1x1, .f32⟩
  | 72 => ⟨S256x32x128x7, .f32⟩
  | 73 => ⟨S256x32x128x7, .f32⟩
  | 74 => ⟨S1x32x1x1, .f32⟩
  | 75 => ⟨S_, .f32⟩
  | 76 => ⟨S1x32x1x1, .f32⟩
  | 77 => ⟨S1x32x1x1, .f32⟩
  | 78 => ⟨S1x32x1x1, .f32⟩
  | 79 => ⟨S256x32x128x7, .f32⟩
  | 80 => ⟨S256x32x128x7, .f32⟩
  | 81 => ⟨S1x32x1x1, .f32⟩
  | 82 => ⟨S256x32x128x7, .f32⟩
  | 83 => ⟨S256x32x128x7, .f32⟩
  | 84 => ⟨S1x32x1x1, .f32⟩
  | 85 => ⟨S256x32x128x7, .f32⟩
  | 86 => ⟨S256x32x128x7, .f32⟩
  | 87 => ⟨S_, .f32⟩
  | 88 => ⟨S256x32x128x7, .f32⟩
  | 89 => ⟨S256x32x128x7, .f32⟩
  | 90 => ⟨S_, .f32⟩
  | 91 => ⟨S256x32x128, .f32⟩
  | 92 => ⟨S_, .f32⟩
  | 93 => ⟨S256x32x128, .f32⟩
  | 94 => ⟨S256x32x128, .f32⟩
  | 95 => ⟨S256x32x128, .f32⟩
  | 96 => ⟨S_, .f32⟩
  | 97 => ⟨S256x32x128, .f32⟩
  | 98 => ⟨S256x32x128, .f32⟩
  | 99 => ⟨S256x32x128, .f32⟩
  | 100 => ⟨S256x32x128, .f32⟩
  | _ => ⟨S256x8x128, .f32⟩

abbrev hbmTy (i : Nat) : BufTy := match i / 128 with
  | 0 => hbmTy0_0 i
  | 1 => hbmTy0_1 i
  | _ => ⟨S256x8x128, .f32⟩

abbrev bufTy : (tb : Table) → Fin (tcTables nBuf tb) → BufTy
  | .hbm, ⟨i, _⟩ => hbmTy i
  | _, _ => ⟨S256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_values : Ref sig .tc := ⟨.hbm, 74, rfl⟩
abbrev main_indices : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c : Ref sig .tc := ⟨.hbm, 80, rfl⟩
abbrev main_v62 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_c_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_11 : Ref sig .tc := ⟨.hbm, 117, rfl⟩
abbrev main_v95 : Ref sig .tc := ⟨.hbm, 118, rfl⟩
abbrev main_v96 : Ref sig .tc := ⟨.hbm, 119, rfl⟩
abbrev main_cst_12 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_13 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_14 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_15 : Ref sig .tc := ⟨.hbm, 154, rfl⟩
abbrev main_v128 : Ref sig .tc := ⟨.hbm, 155, rfl⟩
abbrev main_v129 : Ref sig .tc := ⟨.hbm, 156, rfl⟩
abbrev main_cst_16 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_17 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_18 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_cst_19 : Ref sig .tc := ⟨.hbm, 191, rfl⟩
abbrev main_v161 : Ref sig .tc := ⟨.hbm, 192, rfl⟩
abbrev main_v162 : Ref sig .tc := ⟨.hbm, 193, rfl⟩
abbrev main_cst_20 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_cst_21 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_cst_22 : Ref sig .tc := ⟨.hbm, 215, rfl⟩
abbrev main_v182 : Ref sig .tc := ⟨.hbm, 216, rfl⟩
abbrev main_v183 : Ref sig .tc := ⟨.hbm, 217, rfl⟩
abbrev main_cst_23 : Ref sig .tc := ⟨.hbm, 218, rfl⟩
abbrev main_v184 : Ref sig .tc := ⟨.hbm, 219, rfl⟩
abbrev main_cst_24 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_cst_25 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩

abbrev nD : Nat := 1
abbrev τ : Topo := Topo.v7x

variable {F : FTy → Type} [FloatOps F]
-- ==== SumsKernel.lean ====
abbrev S256x32x128 : Shape := ⟨3, ![256, 32, 128]⟩
abbrev S256x64x128 : Shape := ⟨3, ![256, 64, 128]⟩
abbrev S128x96 : Shape := ⟨2, ![128, 96]⟩
abbrev S2x128 : Shape := ⟨2, ![2, 128]⟩
abbrev S8x32x128 : Shape := ⟨3, ![8, 32, 128]⟩
abbrev S8x64x128 : Shape := ⟨3, ![8, 64, 128]⟩
abbrev S8x128x32 : Shape := ⟨3, ![8, 128, 32]⟩
abbrev S8x128x64 : Shape := ⟨3, ![8, 128, 64]⟩
abbrev S8x128x96 : Shape := ⟨3, ![8, 128, 96]⟩
abbrev S1024x96 : Shape := ⟨2, ![1024, 96]⟩
abbrev S1024x128 : Shape := ⟨2, ![1024, 128]⟩
abbrev S1x1024 : Shape := ⟨2, ![1, 1024]⟩
abbrev S1x128 : Shape := ⟨2, ![1, 128]⟩
abbrev S128x128 : Shape := ⟨2, ![128, 128]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S256x32x128, .f32⟩
  | .hbm, ⟨1, _⟩ => ⟨S256x64x128, .f32⟩
  | .hbm, ⟨2, _⟩ => ⟨S128x96, .f32⟩
  | .hbm, ⟨3, _⟩ => ⟨S2x128, .f32⟩
  | .local _ .vmem, ⟨0, _⟩ => ⟨S8x32x128, .f32⟩
  | .local _ .vmem, ⟨1, _⟩ => ⟨S8x32x128, .f32⟩
  | .local _ .vmem, ⟨2, _⟩ => ⟨S8x64x128, .f32⟩
  | .local _ .vmem, ⟨3, _⟩ => ⟨S8x64x128, .f32⟩
  | .local _ .vmem, ⟨4, _⟩ => ⟨S128x96, .f32⟩
  | .local _ .vmem, ⟨5, _⟩ => ⟨S2x128, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SumsReferenceIdeal.lean ====
abbrev S256x32x128 : Shape := ⟨3, ![256, 32, 128]⟩
abbrev S256x64x128 : Shape := ⟨3, ![256, 64, 128]⟩
abbrev S128x96 : Shape := ⟨2, ![128, 96]⟩
abbrev S256x96x128 : Shape := ⟨3, ![256, 96, 128]⟩
abbrev S256x128x128 : Shape := ⟨3, ![256, 128, 128]⟩
abbrev S_ : Shape := ⟨0, ![]⟩
abbrev S128 : Shape := ⟨1, ![128]⟩
abbrev S1x128 : Shape := ⟨2, ![1, 128]⟩
abbrev S2x128 : Shape := ⟨2, ![2, 128]⟩

abbrev nBuf : Space → Nat
  | .hbm => 14
  | .vmem => 0
  | .smem => 0
  | _ => 0

abbrev bufTy : (tb : Table) → Fin (tcTables nBuf tb) → BufTy
  | .hbm, ⟨0, _⟩ => ⟨S256x32x128, .f32⟩
  | .hbm, ⟨1, _⟩ => ⟨S256x64x128, .f32⟩
  | .hbm, ⟨2, _⟩ => ⟨S128x96, .f32⟩
  | .hbm, ⟨3, _⟩ => ⟨S256x96x128, .f32⟩
  | .hbm, ⟨4, _⟩ => ⟨S256x128x128, .f32⟩
  | .hbm, ⟨5, _⟩ => ⟨S256x128x128, .f32⟩
  | .hbm, ⟨6, _⟩ => ⟨S_, .f32⟩
  | .hbm, ⟨7, _⟩ => ⟨S128, .f32⟩
  | .hbm, ⟨8, _⟩ => ⟨S256x128x128, .f32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S2x128, .f32⟩
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== TailKernel.lean ====
abbrev S256x32x128 : Shape := ⟨3, ![256, 32, 128]⟩
abbrev S256x64x128 : Shape := ⟨3, ![256, 64, 128]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S2x128 : Shape := ⟨2, ![2, 128]⟩
abbrev S8x32x128 : Shape := ⟨3, ![8, 32, 128]⟩
abbrev S8x64x128 : Shape := ⟨3, ![8, 64, 128]⟩
abbrev S8x128x32 : Shape := ⟨3, ![8, 128, 32]⟩
abbrev S8x128x64 : Shape := ⟨3, ![8, 128, 64]⟩
abbrev S8x128x96 : Shape := ⟨3, ![8, 128, 96]⟩
abbrev S1024x96 : Shape := ⟨2, ![1024, 96]⟩
abbrev S1024x128 : Shape := ⟨2, ![1024, 128]⟩
abbrev S1x1024 : Shape := ⟨2, ![1, 1024]⟩
abbrev S1x128 : Shape := ⟨2, ![1, 128]⟩
abbrev S_ : Shape := ⟨0, ![]⟩
abbrev S16x128 : Shape := ⟨2, ![16, 128]⟩
abbrev S1 : Shape := ⟨1, ![1]⟩
abbrev S4x128 : Shape := ⟨2, ![4, 128]⟩
abbrev S256x16 : Shape := ⟨2, ![256, 16]⟩
abbrev S8x16 : Shape := ⟨2, ![8, 16]⟩
abbrev S8x128 : Shape := ⟨2, ![8, 128]⟩
abbrev S8x1x128 : Shape := ⟨3, ![8, 1, 128]⟩
abbrev S8x128x128 : Shape := ⟨3, ![8, 128, 128]⟩
abbrev S8x128x1 : Shape := ⟨3, ![8, 128, 1]⟩
abbrev S8x1 : Shape := ⟨2, ![8, 1]⟩
abbrev S1x16 : Shape := ⟨2, ![1, 16]⟩
abbrev S16 : Shape := ⟨1, ![16]⟩
abbrev S256x10 : Shape := ⟨2, ![256, 10]⟩

abbrev nBuf : Space → Nat
  | .hbm => 28
  | .vmem => 19
  | .smem => 0
  | _ => 0

abbrev bufTy : (tb : Table) → Fin (tcTables nBuf tb) → BufTy
  | .hbm, ⟨0, _⟩ => ⟨S256x32x128, .f32⟩
  | .hbm, ⟨1, _⟩ => ⟨S256x64x128, .f32⟩
  | .hbm, ⟨2, _⟩ => ⟨S256x32x128, .f32⟩
  | .hbm, ⟨3, _⟩ => ⟨S128x96, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10x128, .f32⟩
  | .hbm, ⟨9, _⟩ => ⟨S10, .f32⟩
  | .hbm, ⟨10, _⟩ => ⟨S2x128, .f32⟩
  | .hbm, ⟨11, _⟩ => ⟨S_, .f32⟩
  | .hbm, ⟨12, _⟩ => ⟨S16x128, .f32⟩
  | .hbm, ⟨13, _⟩ => ⟨S_, .i32⟩
  | .hbm, ⟨14, _⟩ => ⟨S1, .i32⟩
  | .hbm, ⟨15, _⟩ => ⟨S16x128, .f32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S4x128, .f32⟩
  | .hbm, ⟨26, _⟩ => ⟨S256x16, .f32⟩
  | .hbm, ⟨27, _⟩ => ⟨S256x10, .f32⟩
  | .local _ .vmem, ⟨0, _⟩ => ⟨S8x32x128, .f32⟩
  | .local _ .vmem, ⟨1, _⟩ => ⟨S8x32x128, .f32⟩
  | .local _ .vmem, ⟨2, _⟩ => ⟨S8x64x128, .f32⟩
  | .local _ .vmem, ⟨3, _⟩ => ⟨S8x64x128, .f32⟩
  | .local _ .vmem, ⟨4, _⟩ => ⟨S128x96, .f32⟩
  | .local _ .vmem, ⟨5, _⟩ => ⟨S2x128, .f32⟩
  | .local _ .vmem, ⟨6, _⟩ => ⟨S8x32x128, .f32⟩
  | .local _ .vmem, ⟨7, _⟩ => ⟨S8x32x128, .f32⟩
  | .local _ .vmem, ⟨8, _⟩ => ⟨S8x64x128, .f32⟩
  | .local _ .vmem, ⟨9, _⟩ => ⟨S8x64x128, .f32⟩
  | .local _ .vmem, ⟨10, _⟩ => ⟨S8x32x128, .f32⟩
  | .local _ .vmem, ⟨11, _⟩ => ⟨S8x32x128, .f32⟩
  | .local _ .vmem, ⟨12, _⟩ => ⟨S128x96, .f32⟩
  | .local _ .vmem, ⟨13, _⟩ => ⟨S4x128, .f32⟩
  | .local _ .vmem, ⟨14, _⟩ => ⟨S128x128, .f32⟩
  | .local _ .vmem, ⟨15, _⟩ => ⟨S16x128, .f32⟩
  | .local _ .vmem, ⟨16, _⟩ => ⟨S2x128, .f32⟩
  | .local _ .vmem, ⟨17, _⟩ => ⟨S8x16, .f32⟩
  | .local _ .vmem, ⟨18, _⟩ => ⟨S8x16, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== TailReferenceIdeal.lean ====
abbrev S256x32x128 : Shape := ⟨3, ![256, 32, 128]⟩
abbrev S256x64x128 : Shape := ⟨3, ![256, 64, 128]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S_ : Shape := ⟨0, ![]⟩
abbrev S256x128 : Shape := ⟨2, ![256, 128]⟩
abbrev S256x1x128 : Shape := ⟨3, ![256, 1, 128]⟩
abbrev S256x1 : Shape := ⟨2, ![256, 1]⟩
abbrev S256x96x128 : Shape := ⟨3, ![256, 96, 128]⟩
abbrev S256x128x128 : Shape := ⟨3, ![256, 128, 128]⟩
abbrev S1x128x1 : Shape := ⟨3, ![1, 128, 1]⟩
abbrev S1x128 : Shape := ⟨2, ![1, 128]⟩
abbrev S128x10 : Shape := ⟨2, ![128, 10]⟩
abbrev S256x10 : Shape := ⟨2, ![256, 10]⟩
abbrev S1x10 : Shape := ⟨2, ![1, 10]⟩

abbrev nBuf : Space → Nat
  | .hbm => 92
  | .vmem => 0
  | .smem => 0
  | _ => 0

abbrev bufTy : (tb : Table) → Fin (tcTables nBuf tb) → BufTy
  | .hbm, ⟨0, _⟩ => ⟨S256x32x128, .f32⟩
  | .hbm, ⟨1, _⟩ => ⟨S256x64x128, .f32⟩
  | .hbm, ⟨2, _⟩ => ⟨S256x32x128, .f32⟩
  | .hbm, ⟨3, _⟩ => ⟨S128x96, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10x128, .f32⟩
  | .hbm, ⟨9, _⟩ => ⟨S10, .f32⟩
  | .hbm, ⟨10, _⟩ => ⟨S256x32x128, .f32⟩
  | .hbm, ⟨11, _⟩ => ⟨S_, .f32⟩
  | .hbm, ⟨12, _⟩ => ⟨S256x128, .f32⟩
  | .hbm, ⟨13, _⟩ => ⟨S256x1x128, .f32⟩
  | .hbm, ⟨14, _⟩ => ⟨S_, .f32⟩
  | .hbm, ⟨15, _⟩ => ⟨S256x1x128, .f32⟩
  | .hbm, ⟨16, _⟩ => ⟨S256x1x128, .i1⟩
  | .hbm, ⟨17, _⟩ => ⟨S256x1x128, .f32⟩
  | .hbm, ⟨18, _⟩ => ⟨S_, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x96x128, .f32⟩
  | .hbm, ⟨24, _⟩ => ⟨S256x128x128, .f32⟩
  | .hbm, ⟨25, _⟩ => ⟨S256x128x128, .f32⟩
  | .hbm, ⟨26, _⟩ => ⟨S_, .f32⟩
  | .hbm, ⟨27, _⟩ => ⟨S128, .f32⟩
  | .hbm, ⟨28, _⟩ => ⟨S1x128x1, .f32⟩
  | .hbm, ⟨29, _⟩ => ⟨S_, .f32⟩
  | .hbm, ⟨30, _⟩ => ⟨S1x128x1, .f32⟩
  | .hbm, ⟨31, _⟩ => ⟨S1x128x1, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128x1, .f32⟩
  | .hbm, ⟨36, _⟩ => ⟨S_, .f32⟩
  | .hbm, ⟨37, _⟩ => ⟨S1x128x1, .f32⟩
  | .hbm, ⟨38, _⟩ => ⟨S1x128x1, .f32⟩
  | .hbm, ⟨39, _⟩ => ⟨S256x128x128, .f32⟩
  | .hbm, ⟨40, _⟩ => ⟨S256x128x128, .f32⟩
  | .hbm, ⟨41, _⟩ => ⟨S256x128x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S1x128x1, .f32⟩
  | .hbm, ⟨48, _⟩ => ⟨S1x128x1, .f32⟩
  | .hbm, ⟨49, _⟩ => ⟨S1x128x1, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S1x128x1, .f32⟩
  | .hbm, ⟨55, _⟩ => ⟨S1x128x1, .f32⟩
  | .hbm, ⟨56, _⟩ => ⟨S256x128x128, .f32⟩
  | .hbm, ⟨57, _⟩ => ⟨S256x128x128, .f32⟩
  | .hbm, ⟨58, _⟩ => ⟨S_, .f32⟩
  | .hbm, ⟨59, _⟩ => ⟨S1x128x1, .f32⟩
  | .hbm, ⟨60, _⟩ => ⟨S1x128x1, .f32⟩
  | .hbm, ⟨61, _⟩ => ⟨S1x128x1, .f32⟩
  | .hbm, ⟨62, _⟩ => ⟨S256x128x128, .f32⟩
  | .hbm, ⟨63, _⟩ => ⟨S256x128x128, .f32⟩
  | .hbm, ⟨64, _⟩ => ⟨S1x128x1, .f32⟩
  | .hbm, ⟨65, _⟩ => ⟨S256x128x128, .f32⟩
  | .hbm, ⟨66, _⟩ => ⟨S256x128x128, .f32⟩
  | .hbm, ⟨67, _⟩ => ⟨S1x128x1, .f32⟩
  | .hbm, ⟨68, _⟩ => ⟨S256x128x128, .f32⟩
  | .hbm, ⟨69, _⟩ => ⟨S256x128x128, .f32⟩
  | .hbm, ⟨70, _⟩ => ⟨S_, .f32⟩
  | .hbm, ⟨71, _⟩ => ⟨S256x128x128, .f32⟩
  | .hbm, ⟨72, _⟩ => ⟨S256x128x128, .f32⟩
  | .hbm, ⟨73, _⟩ => ⟨S256x128x128, .f32⟩
  | .hbm, ⟨74, _⟩ => ⟨S256x128x128, .f32⟩
  | .hbm, ⟨75, _⟩ => ⟨S_, .f32⟩
  | .hbm, ⟨76, _⟩ => ⟨S256x128, .f32⟩
  | .hbm, ⟨77, _⟩ => ⟨S256x128, .f32⟩
  | .hbm, ⟨78, _⟩ => ⟨S256x128, .f32⟩
  | .hbm, ⟨79, _⟩ => ⟨S128x128, .f32⟩
  | .hbm, ⟨80, _⟩ => ⟨S256x128, .f32⟩
  | .hbm, ⟨81, _⟩ => ⟨S1x128, .f32⟩
  | .hbm, ⟨82, _⟩ => ⟨S256x128, .f32⟩
  | .hbm, ⟨83, _⟩ => ⟨S256x128, .f32⟩
  | .hbm, ⟨84, _⟩ => ⟨S_, .f32⟩
  | .hbm, ⟨85, _⟩ => ⟨S256x128, .f32⟩
  | .hbm, ⟨86, _⟩ => ⟨S256x128, .f32⟩
  | .hbm, ⟨87, _⟩ => ⟨S128x10, .f32⟩
  | .hbm, ⟨88, _⟩ => ⟨S256x10, .f32⟩
  | .hbm, ⟨89, _⟩ => ⟨S1x10, .f32⟩
  | .hbm, ⟨90, _⟩ => ⟨S256x10, .f32⟩
  | .hbm, ⟨91, _⟩ => ⟨S256x10, .f32⟩
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_5 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_6 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_8 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩

abbrev nD : Nat := 1
abbrev τ : Topo := Topo.v7x

variable {F : FTy → Type} [FloatOps F]
-- ==== NetKernel.lean ====
abbrev S256x8x128 : Shape := ⟨3, ![256, 8, 128]⟩
abbrev S256x32x128 : Shape := ⟨3, ![256, 32, 128]⟩
abbrev S32 : Shape := ⟨1, ![32]⟩
abbrev S32x64 : Shape := ⟨2, ![32, 64]⟩
abbrev S32x32 : Shape := ⟨2, ![32, 32]⟩
abbrev S64x64 : Shape := ⟨2, ![64, 64]⟩
abbrev S64 : Shape := ⟨1, ![64]⟩
abbrev S64x32 : Shape := ⟨2, ![64, 32]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S8x32 : Shape := ⟨2, ![8, 32]⟩
abbrev S8x64 : Shape := ⟨2, ![8, 64]⟩
abbrev S_ : Shape := ⟨0, ![]⟩
abbrev S96x64 : Shape := ⟨2, ![96, 64]⟩
abbrev S1 : Shape := ⟨1, ![1]⟩
abbrev S2 : Shape := ⟨1, ![2]⟩
abbrev S1x32 : Shape := ⟨2, ![1, 32]⟩
abbrev S6x32 : Shape := ⟨2, ![6, 32]⟩
abbrev S8x8x128 : Shape := ⟨3, ![8, 8, 128]⟩
abbrev S8x32x128 : Shape := ⟨3, ![8, 32, 128]⟩
abbrev S8x128 : Shape := ⟨2, ![8, 128]⟩
abbrev S8x1x128 : Shape := ⟨3, ![8, 1, 128]⟩
abbrev S1x8x128 : Shape := ⟨3, ![1, 8, 128]⟩
abbrev S128x8 : Shape := ⟨2, ![128, 8]⟩
abbrev S128x1 : Shape := ⟨2, ![128, 1]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S896x128 : Shape := ⟨2, ![896, 128]⟩
abbrev S1x32x1 : Shape := ⟨3, ![1, 32, 1]⟩
abbrev S8x128x32 : Shape := ⟨3, ![8, 128, 32]⟩
abbrev S1x128x32 : Shape := ⟨3, ![1, 128, 32]⟩
abbrev S128x32 : Shape := ⟨2, ![128, 32]⟩
abbrev S896x32 : Shape := ⟨2, ![896, 32]⟩
abbrev S7168x32 : Shape := ⟨2, ![7168, 32]⟩
abbrev S8x7x128x32 : Shape := ⟨4, ![8, 7, 128, 32]⟩
abbrev S192x64 : Shape := ⟨2, ![192, 64]⟩
abbrev S1x64 : Shape := ⟨2, ![1, 64]⟩
abbrev S256x64x128 : Shape := ⟨3, ![256, 64, 128]⟩
abbrev S8x64x128 : Shape := ⟨3, ![8, 64, 128]⟩
abbrev S1024x32 : Shape := ⟨2, ![1024, 32]⟩
abbrev S1x32x128 : Shape := ⟨3, ![1, 32, 128]⟩
abbrev S32x128 : Shape := ⟨2, ![32, 128]⟩
abbrev S128x64 : Shape := ⟨2, ![128, 64]⟩
abbrev S896x64 : Shape := ⟨2, ![896, 64]⟩
abbrev S7168x64 : Shape := ⟨2, ![7168, 64]⟩
abbrev S8x7x128x64 : Shape := ⟨4, ![8, 7, 128, 64]⟩
abbrev S8x128x64 : Shape := ⟨3, ![8, 128, 64]⟩
abbrev S1024x64 : Shape := ⟨2, ![1024, 64]⟩
abbrev S1x1x64 : Shape := ⟨3, ![1, 1, 64]⟩
abbrev S2x128 : Shape := ⟨2, ![2, 128]⟩
abbrev S8x128x96 : Shape := ⟨3, ![8, 128, 96]⟩
abbrev S1024x96 : Shape := ⟨2, ![1024, 96]⟩
abbrev S1x1024 : Shape := ⟨2, ![1, 1024]⟩
abbrev S16x128 : Shape := ⟨2, ![16, 128]⟩
abbrev S4x128 : Shape := ⟨2, ![4, 128]⟩
abbrev S256x16 : Shape := ⟨2, ![256, 16]⟩
abbrev S8x16 : Shape := ⟨2, ![8, 16]⟩
abbrev S8x128x128 : Shape := ⟨3, ![8, 128, 128]⟩
abbrev S8x128x1 : Shape := ⟨3, ![8, 128, 1]⟩
abbrev S8x1 : Shape := ⟨2, ![8, 1]⟩
abbrev S1x16 : Shape := ⟨2, ![1, 16]⟩
abbrev S16 : Shape := ⟨1, ![16]⟩
abbrev S256x10 : Shape := ⟨2, ![256, 10]⟩

abbrev nBuf : Space → Nat
  | .hbm => 90
  | .vmem => 40
  | .smem => 0
  | _ => 0

abbrev bufTy : (tb : Table) → Fin (tcTables nBuf tb) → BufTy
  | .hbm, ⟨0, _⟩ => ⟨S256x8x128, .f32⟩
  | .hbm, ⟨1, _⟩ => ⟨S256x32x128, .f32⟩
  | .hbm, ⟨2, _⟩ => ⟨S32, .f32⟩
  | .hbm, ⟨3, _⟩ => ⟨S32, .f32⟩
  | .hbm, ⟨4, _⟩ => ⟨S32x64, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64x32, .f32⟩
  | .hbm, ⟨23, _⟩ => ⟨S64, .f32⟩
  | .hbm, ⟨24, _⟩ => ⟨S64, .f32⟩
  | .hbm, ⟨25, _⟩ => ⟨S128x96, .f32⟩
  | .hbm, ⟨26, _⟩ => ⟨S128, .f32⟩
  | .hbm, ⟨27, _⟩ => ⟨S128, .f32⟩
  | .hbm, ⟨28, _⟩ => ⟨S128x128, .f32⟩
  | .hbm, ⟨29, _⟩ => ⟨S128, .f32⟩
  | .hbm, ⟨30, _⟩ => ⟨S10x128, .f32⟩
  | .hbm, ⟨31, _⟩ => ⟨S10, .f32⟩
  | .hbm, ⟨32, _⟩ => ⟨S8x32, .f32⟩
  | .hbm, ⟨33, _⟩ => ⟨S8x64, .f32⟩
  | .hbm, ⟨34, _⟩ => ⟨S_, .f32⟩
  | .hbm, ⟨35, _⟩ => ⟨S96x64, .f32⟩
  | .hbm, ⟨36, _⟩ => ⟨S_, .i32⟩
  | .hbm, ⟨37, _⟩ => ⟨S1, .i32⟩
  | .hbm, ⟨38, _⟩ => ⟨S96x64, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S96x64, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S96x64, .f32⟩
  | .hbm, ⟨51, _⟩ => ⟨S1x32, .f32⟩
  | .hbm, ⟨52, _⟩ => ⟨S1x32, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S1x32, .f32⟩
  | .hbm, ⟨57, _⟩ => ⟨S6x32, .f32⟩
  | .hbm, ⟨58, _⟩ => ⟨S1x32, .f32⟩
  | .hbm, ⟨59, _⟩ => ⟨S1x32, .f32⟩
  | .hbm, ⟨60, _⟩ => ⟨S256x32x128, .f32⟩
  | .hbm, ⟨61, _⟩ => ⟨S192x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S8x64, .f32⟩
  | .hbm, ⟨71, _⟩ => ⟨S256x64x128, .f32⟩
  | .hbm, ⟨72, _⟩ => ⟨S2x128, .f32⟩
  | .hbm, ⟨73, _⟩ => ⟨S_, .f32⟩
  | .hbm, ⟨74, _⟩ => ⟨S16x128, .f32⟩
  | .hbm, ⟨75, _⟩ => ⟨S_, .i32⟩
  | .hbm, ⟨76, _⟩ => ⟨S1, .i32⟩
  | .hbm, ⟨77, _⟩ => ⟨S16x128, .f32⟩
  | .hbm, ⟨78, _⟩ => ⟨S_, .f32⟩
  | .hbm, ⟨79, _⟩ => ⟨S128, .f32⟩
  | .hbm, ⟨80, _⟩ => ⟨S_, .i32⟩
  | .hbm, ⟨81, _⟩ => ⟨S1, .i32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S4x128, .f32⟩
  | .hbm, ⟨88, _⟩ => ⟨S256x16, .f32⟩
  | .hbm, ⟨89, _⟩ => ⟨S256x10, .f32⟩
  | .local _ .vmem, ⟨0, _⟩ => ⟨S8x8x128, .f32⟩
  | .local _ .vmem, ⟨1, _⟩ => ⟨S8x8x128, .f32⟩
  | .local _ .vmem, ⟨2, _⟩ => ⟨S8x32x128, .f32⟩
  | .local _ .vmem, ⟨3, _⟩ => ⟨S8x32x128, .f32⟩
  | .local _ .vmem, ⟨4, _⟩ => ⟨S1x32, .f32⟩
  | .local _ .vmem, ⟨5, _⟩ => ⟨S1x32, .f32⟩
  | .local _ .vmem, ⟨6, _⟩ => ⟨S96x64, .f32⟩
  | .local _ .vmem, ⟨7, _⟩ => ⟨S6x32, .f32⟩
  | .local _ .vmem, ⟨8, _⟩ => ⟨S8x32, .f32⟩
  | .local _ .vmem, ⟨9, _⟩ => ⟨S8x32x128, .f32⟩
  | .local _ .vmem, ⟨10, _⟩ => ⟨S8x32x128, .f32⟩
  | .local _ .vmem, ⟨11, _⟩ => ⟨S8x32x128, .f32⟩
  | .local _ .vmem, ⟨12, _⟩ => ⟨S8x32x128, .f32⟩
  | .local _ .vmem, ⟨13, _⟩ => ⟨S8x32x128, .f32⟩
  | .local _ .vmem, ⟨14, _⟩ => ⟨S8x32x128, .f32⟩
  | .local _ .vmem, ⟨15, _⟩ => ⟨S64x32, .f32⟩
  | .local _ .vmem, ⟨16, _⟩ => ⟨S192x64, .f32⟩
  | .local _ .vmem, ⟨17, _⟩ => ⟨S8x64, .f32⟩
  | .local _ .vmem, ⟨18, _⟩ => ⟨S8x64, .f32⟩
  | .local _ .vmem, ⟨19, _⟩ => ⟨S8x64x128, .f32⟩
  | .local _ .vmem, ⟨20, _⟩ => ⟨S8x64x128, .f32⟩
  | .local _ .vmem, ⟨21, _⟩ => ⟨S8x32x128, .f32⟩
  | .local _ .vmem, ⟨22, _⟩ => ⟨S8x32x128, .f32⟩
  | .local _ .vmem, ⟨23, _⟩ => ⟨S8x64x128, .f32⟩
  | .local _ .vmem, ⟨24, _⟩ => ⟨S8x64x128, .f32⟩
  | .local _ .vmem, ⟨25, _⟩ => ⟨S128x96, .f32⟩
  | .local _ .vmem, ⟨26, _⟩ => ⟨S2x128, .f32⟩
  | .local _ .vmem, ⟨27, _⟩ => ⟨S8x32x128, .f32⟩
  | .local _ .vmem, ⟨28, _⟩ => ⟨S8x32x128, .f32⟩
  | .local _ .vmem, ⟨29, _⟩ => ⟨S8x64x128, .f32⟩
  | .local _ .vmem, ⟨30, _⟩ => ⟨S8x64x128, .f32⟩
  | .local _ .vmem, ⟨31, _⟩ => ⟨S8x32x128, .f32⟩
  | .local _ .vmem, ⟨32, _⟩ => ⟨S8x32x128, .f32⟩
  | .local _ .vmem, ⟨33, _⟩ => ⟨S128x96, .f32⟩
  | .local _ .vmem, ⟨34, _⟩ => ⟨S4x128, .f32⟩
  | .local _ .vmem, ⟨35, _⟩ => ⟨S128x128, .f32⟩
  | .local _ .vmem, ⟨36, _⟩ => ⟨S16x128, .f32⟩
  | .local _ .vmem, ⟨37, _⟩ => ⟨S2x128, .f32⟩
  | .local _ .vmem, ⟨38, _⟩ => ⟨S8x16, .f32⟩
  | .local _ .vmem, ⟨39, _⟩ => ⟨S8x16, .f32⟩
  | _, _ => ⟨S256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_cst : Ref sig .tc := ⟨.hbm, 34, rfl⟩
abbrev main_v0 : Ref sig .tc := ⟨.hbm, 35, rfl⟩
abbrev main_c : Ref sig .tc := ⟨.hbm, 36, rfl⟩
abbrev main_v1 : Ref sig .tc := ⟨.hbm, 37, rfl⟩
abbrev main_v2 : Ref sig .tc := ⟨.hbm, 38, rfl⟩
abbrev main_c_0 : Ref sig .tc := ⟨.hbm, 39, rfl⟩
abbrev main_v3 : Ref sig .tc := ⟨.hbm, 40, rfl⟩
abbrev main_c_1 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_c_2 : Ref sig .tc := ⟨.hbm, 45, rfl⟩
abbrev main_v7 : Ref sig .tc := ⟨.hbm, 46, rfl⟩
abbrev main_c_3 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_c_5 : Ref sig .tc := ⟨.hbm, 75, rfl⟩
abbrev main_v34 : Ref sig .tc := ⟨.hbm, 76, rfl⟩
abbrev main_v35 : Ref sig .tc := ⟨.hbm, 77, rfl⟩
abbrev main_cst_6 : Ref sig .tc := ⟨.hbm, 78, rfl⟩
abbrev main_v36 : Ref sig .tc := ⟨.hbm, 79, rfl⟩
abbrev main_c_7 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x32x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x32x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x64x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x32x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8x16 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== NetKernelIdeal.lean ====
variable {F : FTy → Type} [FloatOps F] [Named F]
def κ : String → Option EReal := fun
  | "neg" => some ⊥
  | _ => none
-- ==== NetReferenceIdeal.lean ====
abbrev S256x8x128 : Shape := ⟨3, ![256, 8, 128]⟩
abbrev S256x32x128 : Shape := ⟨3, ![256, 32, 128]⟩
abbrev S32 : Shape := ⟨1, ![32]⟩
abbrev S32x64 : Shape := ⟨2, ![32, 64]⟩
abbrev S32x32 : Shape := ⟨2, ![32, 32]⟩
abbrev S64x64 : Shape := ⟨2, ![64, 64]⟩
abbrev S64 : Shape := ⟨1, ![64]⟩
abbrev S64x32 : Shape := ⟨2, ![64, 32]⟩
abbrev S128x96 : Shape := ⟨2, ![128, 96]⟩
abbrev S128 : Shape := ⟨1, ![128]⟩
abbrev S128x128 : Shape := ⟨2, ![128, 128]⟩
abbrev S10x128 : Shape := ⟨2, ![10, 128]⟩
abbrev S10 : Shape := ⟨1, ![10]⟩
abbrev S8x32 : Shape := ⟨2, ![8, 32]⟩
abbrev S8x64 : Shape := ⟨2, ![8, 64]⟩
abbrev S_ : Shape := ⟨0, ![]⟩
abbrev S256x128 : Shape := ⟨2, ![256, 128]⟩
abbrev S256x1x128 : Shape := ⟨3, ![256, 1, 128]⟩
abbrev S1x32 : Shape := ⟨2, ![1, 32]⟩
abbrev S1x32x1 : Shape := ⟨3, ![1, 32, 1]⟩
abbrev S256x128x128 : Shape := ⟨3, ![256, 128, 128]⟩
abbrev S256x128x1 : Shape := ⟨3, ![256, 128, 1]⟩
abbrev S256x128x8 : Shape := ⟨3, ![256, 128, 8]⟩
abbrev S256x128x7 : Shape := ⟨3, ![256, 128, 7]⟩
abbrev S256x128x32 : Shape := ⟨3, ![256, 128, 32]⟩
abbrev S256 : Shape := ⟨1, ![256]⟩
abbrev S256x1x1 : Shape := ⟨3, ![256, 1, 1]⟩
abbrev S256x128x7x1 : Shape := ⟨4, ![256, 128, 7, 1]⟩
abbrev S256x128x7x2 : Shape := ⟨4, ![256, 128, 7, 2]⟩
abbrev S256x128x7x32 : Shape := ⟨4, ![256, 128, 7, 32]⟩
abbrev S256x32x128x7 : Shape := ⟨4, ![256, 32, 128, 7]⟩
abbrev S256x32x128x1 : Shape := ⟨4, ![256, 32, 128, 1]⟩
abbrev S256x64x128x7 : Shape := ⟨4, ![256, 64, 128, 7]⟩
abbrev S1x32x1x1 : Shape := ⟨4, ![1, 32, 1, 1]⟩
abbrev S256x128x7x64 : Shape := ⟨4, ![256, 128, 7, 64]⟩
abbrev S1x64 : Shape := ⟨2, ![1, 64]⟩
abbrev S1x64x1x1 : Shape := ⟨4, ![1, 64, 1, 1]⟩
abbrev S256x64x128 : Shape := ⟨3, ![256, 64, 128]⟩
abbrev S256x128x64 : Shape := ⟨3, ![256, 128, 64]⟩
abbrev S1x64x1 : Shape := ⟨3, ![1, 64, 1]⟩
abbrev S256x1 : Shape := ⟨2, ![256, 1]⟩
abbrev S256x96x128 : Shape := ⟨3, ![256, 96, 128]⟩
abbrev S1x128x1 : Shape := ⟨3, ![1, 128, 1]⟩
abbrev S1x128 : Shape := ⟨2, ![1, 128]⟩
abbrev S128x10 : Shape := ⟨2, ![128, 10]⟩
abbrev S256x10 : Shape := ⟨2, ![256, 10]⟩
abbrev S1x10 : Shape := ⟨2, ![1, 10]⟩

abbrev nBuf : Space → Nat
  | .hbm => 522
  | .vmem => 0
  | .smem => 0
  | _ => 0

abbrev hbmTy0_0 (i : Nat) : BufTy := match i % 128 with
  | 0 => ⟨S256x8x128, .f32⟩
  | 1 => ⟨S256x32x128, .f32⟩
  | 2 => ⟨S32, .f32⟩
  | 3 => ⟨S32, .f32⟩
  | 4 => ⟨S32x64, .f32⟩
  | 5 => ⟨S32x32, .f32⟩
  | 6 => ⟨S32x32, .f32⟩
  | 7 => ⟨S32, .f32⟩
  | 8 => ⟨S32, .f32⟩
  | 9 => ⟨S32, .f32⟩
  | 10 => ⟨S32, .f32⟩
  | 11 => ⟨S32, .f32⟩
  | 12 => ⟨S32, .f32⟩
  | 13 => ⟨S64x64, .f32⟩
  | 14 => ⟨S64x64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S64x32, .f32⟩
  | 23 => ⟨S64, .f32⟩
  | 24 => ⟨S64, .f32⟩
  | 25 => ⟨S128x96, .f32⟩
  | 26 => ⟨S128, .f32⟩
  | 27 => ⟨S128, .f32⟩
  | 28 => ⟨S128x128, .f32⟩
  | 29 => ⟨S128, .f32⟩
  | 30 => ⟨S10x128, .f32⟩
  | 31 => ⟨S10, .f32⟩
  | 32 => ⟨S8x32, .f32⟩
  | 33 => ⟨S8x64, .f32⟩
  | 34 => ⟨S256x32x128, .f32⟩
  | 35 => ⟨S_, .f32⟩
  | 36 => ⟨S256x128, .f32⟩
  | 37 => ⟨S256x1x128, .f32⟩
  | 38 => ⟨S_, .f32⟩
  | 39 => ⟨S256x1x128, .f32⟩
  | 40 => ⟨S256x1x128, .i1⟩
  | 41 => ⟨S256x1x128, .f32⟩
  | 42 => ⟨S256x8x128, .f32⟩
  | 43 => ⟨S256x8x128, .f32⟩
  | 44 => ⟨S256x32x128, .f32⟩
  | 45 => ⟨S256x32x128, .f32⟩
  | 46 => ⟨S_, .f32⟩
  | 47 => ⟨S256x1x128, .f32⟩
  | 48 => ⟨S256x1x128, .i1⟩
  | 49 => ⟨S256x1x128, .f32⟩
  | 50 => ⟨S_, .f32⟩
  | 51 => ⟨S256x1x128, .f32⟩
  | 52 => ⟨S256x1x128, .f32⟩
  | 53 => ⟨S1x32, .f32⟩
  | 54 => ⟨S32, .f32⟩
  | 55 => ⟨S1x32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S32, .f32⟩
  | 65 => ⟨S1x32x1, .f32⟩
  | 66 => ⟨S256x32x128, .f32⟩
  | 67 => ⟨S256x32x128, .f32⟩
  | 68 => ⟨S1x32x1, .f32⟩
  | 69 => ⟨S_, .f32⟩
  | 70 => ⟨S1x32x1, .f32⟩
  | 71 => ⟨S1x32x1, .f32⟩
  | 72 => ⟨S1x32x1, .f32⟩
  | 73 => ⟨S256x32x128, .f32⟩
  | 74 => ⟨S256x32x128, .f32⟩
  | 75 => ⟨S1x32x1, .f32⟩
  | 76 => ⟨S256x32x128, .f32⟩
  | 77 => ⟨S256x32x128, .f32⟩
  | 78 => ⟨S1x32x1, .f32⟩
  | 79 => ⟨S256x32x128, .f32⟩
  | 80 => ⟨S256x32x128, .f32⟩
  | 81 => ⟨S256x32x128, .f32⟩
  | 82 => ⟨S256x32x128, .f32⟩
  | 83 => ⟨S256x8x128, .f32⟩
  | 84 => ⟨S256x8x128, .f32⟩
  | 85 => ⟨S256x128x128, .f32⟩
  | 86 => ⟨S_, .f32⟩
  | 87 => ⟨S256x128x128, .f32⟩
  | 88 => ⟨S256x128x128, .f32⟩
  | 89 => ⟨S256x8x128, .f32⟩
  | 90 => ⟨S_, .f32⟩
  | 91 => ⟨S256x128, .f32⟩
  | 92 => ⟨S256x1x128, .f32⟩
  | 93 => ⟨S256x1x128, .f32⟩
  | 94 => ⟨S256x128x128, .f32⟩
  | 95 => ⟨S256x128x128, .f32⟩
  | 96 => ⟨S256x128x1, .f32⟩
  | 97 => ⟨S256x128x128, .f32⟩
  | 98 => ⟨S256x128x128, .f32⟩
  | 99 => ⟨S256x128x8, .f32⟩
  | 100 => ⟨S256x128x8, .i32⟩
  | 101 => ⟨S256x128x7, .i32⟩
  | 102 => ⟨S256x128x32, .f32⟩
  | 103 => ⟨S256, .i32⟩
  | 104 => ⟨S256x1x1, .i32⟩
  | 105 => ⟨S_, .i32⟩
  | 106 => ⟨S256x1x1, .i32⟩
  | 107 => ⟨S256x1x1, .i1⟩
  | 108 => ⟨S_, .i32⟩
  | 109 => ⟨S256x1x1, .i32⟩
  | 110 => ⟨S256x1x1, .i32⟩
  | 111 => ⟨S256x1x1, .i32⟩
  | 112 => ⟨S_, .i32⟩
  | 113 => ⟨S256x128x7, .i32⟩
  | 114 => ⟨S256x128x7, .i1⟩
  | 115 => ⟨S_, .i32⟩
  | 116 => ⟨S256x128x7, .i32⟩
  | 117 => ⟨S256x128x7, .i32⟩
  | 118 => ⟨S256x128x7, .i32⟩
  | 119 => ⟨S256x128x7, .i32⟩
  | 120 => ⟨S256x128x7x1, .i32⟩
  | 121 => ⟨S256x128x7x1, .i32⟩
  | 122 => ⟨S256x128x7x2, .i32⟩
  | 123 => ⟨S256x128x7x32, .f32⟩
  | 124 => ⟨S256x32x128x7, .f32⟩
  | 125 => ⟨S256x32x128x1, .f32⟩
  | 126 => ⟨S256x32x128x7, .f32⟩
  | 127 => ⟨S256x32x128x7, .f32⟩
  | _ => ⟨S256x8x128, .f32⟩

abbrev hbmTy0_1 (i : Nat) : BufTy := match i % 128 with
  | 0 => ⟨S256x64x128x7, .f32⟩
  | 1 => ⟨S256x128x7x32, .f32⟩
  | 2 => ⟨S256x32x128x7, .f32⟩
  | 3 => ⟨S1x32, .f32⟩
  | 4 => ⟨S32, .f32⟩
  | 5 => ⟨S1x32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S32, .f32⟩
  | 15 => ⟨S1x32x1x1, .f32⟩
  | 16 => ⟨S256x32x128x7, .f32⟩
  | 17 => ⟨S256x32x128x7, .f32⟩
  | 18 => ⟨S1x32x1x1, .f32⟩
  | 19 => ⟨S_, .f32⟩
  | 20 => ⟨S1x32x1x1, .f32⟩
  | 21 => ⟨S1x32x1x1, .f32⟩
  | 22 => ⟨S1x32x1x1, .f32⟩
  | 23 => ⟨S256x32x128x7, .f32⟩
  | 24 => ⟨S256x32x128x7, .f32⟩
  | 25 => ⟨S1x32x1x1, .f32⟩
  | 26 => ⟨S256x32x128x7, .f32⟩
  | 27 => ⟨S256x32x128x7, .f32⟩
  | 28 => ⟨S1x32x1x1, .f32⟩
  | 29 => ⟨S256x32x128x7, .f32⟩
  | 30 => ⟨S256x32x128x7, .f32⟩
  | 31 => ⟨S_, .f32⟩
  | 32 => ⟨S256x32x128x7, .f32⟩
  | 33 => ⟨S256x32x128x7, .f32⟩
  | 34 => ⟨S256x128x7x32, .f32⟩
  | 35 => ⟨S256x32x128x7, .f32⟩
  | 36 => ⟨S1x32, .f32⟩
  | 37 => ⟨S32, .f32⟩
  | 38 => ⟨S1x32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S32, .f32⟩
  | 48 => ⟨S1x32x1x1, .f32⟩
  | 49 => ⟨S256x32x128x7, .f32⟩
  | 50 => ⟨S256x32x128x7, .f32⟩
  | 51 => ⟨S1x32x1x1, .f32⟩
  | 52 => ⟨S_, .f32⟩
  | 53 => ⟨S1x32x1x1, .f32⟩
  | 54 => ⟨S1x32x1x1, .f32⟩
  | 55 => ⟨S1x32x1x1, .f32⟩
  | 56 => ⟨S256x32x128x7, .f32⟩
  | 57 => ⟨S256x32x128x7, .f32⟩
  | 58 => ⟨S1x32x1x1, .f32⟩
  | 59 => ⟨S256x32x128x7, .f32⟩
  | 60 => ⟨S256x32x128x7, .f32⟩
  | 61 => ⟨S1x32x1x1, .f32⟩
  | 62 => ⟨S256x32x128x7, .f32⟩
  | 63 => ⟨S256x32x128x7, .f32⟩
  | 64 => ⟨S_, .f32⟩
  | 65 => ⟨S256x32x128x7, .f32⟩
  | 66 => ⟨S256x32x128x7, .f32⟩
  | 67 => ⟨S256x128x7x32, .f32⟩
  | 68 => ⟨S256x32x128x7, .f32⟩
  | 69 => ⟨S1x32, .f32⟩
  | 70 => ⟨S32, .f32⟩
  | 71 => ⟨S1x32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S32, .f32⟩
  | 81 => ⟨S1x32x1x1, .f32⟩
  | 82 => ⟨S256x32x128x7, .f32⟩
  | 83 => ⟨S256x32x128x7, .f32⟩
  | 84 => ⟨S1x32x1x1, .f32⟩
  | 85 => ⟨S_, .f32⟩
  | 86 => ⟨S1x32x1x1, .f32⟩
  | 87 => ⟨S1x32x1x1, .f32⟩
  | 88 => ⟨S1x32x1x1, .f32⟩
  | 89 => ⟨S256x32x128x7, .f32⟩
  | 90 => ⟨S256x32x128x7, .f32⟩
  | 91 => ⟨S1x32x1x1, .f32⟩
  | 92 => ⟨S256x32x128x7, .f32⟩
  | 93 => ⟨S256x32x128x7, .f32⟩
  | 94 => ⟨S1x32x1x1, .f32⟩
  | 95 => ⟨S256x32x128x7, .f32⟩
  | 96 => ⟨S256x32x128x7, .f32⟩
  | 97 => ⟨S_, .f32⟩
  | 98 => ⟨S256x32x128x7, .f32⟩
  | 99 => ⟨S256x32x128x7, .f32⟩
  | 100 => ⟨S_, .f32⟩
  | 101 => ⟨S256x32x128, .f32⟩
  | 102 => ⟨S_, .f32⟩
  | 103 => ⟨S256x32x128, .f32⟩
  | 104 => ⟨S256x32x128, .f32⟩
  | 105 => ⟨S256x32x128, .f32⟩
  | 106 => ⟨S_, .f32⟩
  | 107 => ⟨S256x32x128, .f32⟩
  | 108 => ⟨S256x32x128, .f32⟩
  | 109 => ⟨S256x32x128, .f32⟩
  | 110 => ⟨S256x32x128, .f32⟩
  | 111 => ⟨S256x32x128, .f32⟩
  | 112 => ⟨S_, .f32⟩
  | 113 => ⟨S256x128, .f32⟩
  | 114 => ⟨S256x1x128, .f32⟩
  | 115 => ⟨S_, .f32⟩
  | 116 => ⟨S256x1x128, .f32⟩
  | 117 => ⟨S256x1x128, .i1⟩
  | 118 => ⟨S256x1x128, .f32⟩
  | 119 => ⟨S_, .f32⟩
  | 120 => ⟨S256x1x128, .f32⟩
  | 121 => ⟨S256x1x128, .i1⟩
  | 122 => ⟨S256x1x128, .f32⟩
  | 123 => ⟨S_, .f32⟩
  | 124 => ⟨S256x1x128, .f32⟩
  | 125 => ⟨S256x1x128, .f32⟩
  | 126 => ⟨S256x32x128, .f32⟩
  | 127 => ⟨S256x32x128, .f32⟩
  | _ => ⟨S256x8x128, .f32⟩

abbrev hbmTy0_2 (i : Nat) : BufTy := match i % 128 with
  | 0 => ⟨S256x128x128, .f32⟩
  | 1 => ⟨S_, .f32⟩
  | 2 => ⟨S256x128x128, .f32⟩
  | 3 => ⟨S256x128x128, .f32⟩
  | 4 => ⟨S256x32x128, .f32⟩
  | 5 => ⟨S_, .f32⟩
  | 6 => ⟨S256x128, .f32⟩
  | 7 => ⟨S256x1x128, .f32⟩
  | 8 => ⟨S256x1x128, .f32⟩
  | 9 => ⟨S256x128x128, .f32⟩
  | 10 => ⟨S256x128x128, .f32⟩
  | 11 => ⟨S256x128x1, .f32⟩
  | 12 => ⟨S256x128x128, .f32⟩
  | 13 => ⟨S256x128x128, .f32⟩
  | 14 => ⟨S256x128x8, .f32⟩
  | 15 => ⟨S256x128x8, .i32⟩
  | 16 => ⟨S256x128x7, .i32⟩
  | 17 => ⟨S256x128x32, .f32⟩
  | 18 => ⟨S256, .i32⟩
  | 19 => ⟨S256x1x1, .i32⟩
  | 20 => ⟨S_, .i32⟩
  | 21 => ⟨S256x1x1, .i32⟩
  | 22 => ⟨S256x1x1, .i1⟩
  | 23 => ⟨S_, .i32⟩
  | 24 => ⟨S256x1x1, .i32⟩
  | 25 => ⟨S256x1x1, .i32⟩
  | 26 => ⟨S256x1x1, .i32⟩
  | 27 => ⟨S_, .i32⟩
  | 28 => ⟨S256x128x7, .i32⟩
  | 29 => ⟨S256x128x7, .i1⟩
  | 30 => ⟨S_, .i32⟩
  | 31 => ⟨S256x128x7, .i32⟩
  | 32 => ⟨S256x128x7, .i32⟩
  | 33 => ⟨S256x128x7, .i32⟩
  | 34 => ⟨S256x128x7, .i32⟩
  | 35 => ⟨S256x128x7x1, .i32⟩
  | 36 => ⟨S256x128x7x1, .i32⟩
  | 37 => ⟨S256x128x7x2, .i32⟩
  | 38 => ⟨S256x128x7x32, .f32⟩
  | 39 => ⟨S256x32x128x7, .f32⟩
  | 40 => ⟨S256x32x128x1, .f32⟩
  | 41 => ⟨S256x32x128x7, .f32⟩
  | 42 => ⟨S256x32x128x7, .f32⟩
  | 43 => ⟨S256x64x128x7, .f32⟩
  | 44 => ⟨S256x128x7x64, .f32⟩
  | 45 => ⟨S256x64x128x7, .f32⟩
  | 46 => ⟨S1x64, .f32⟩
  | 47 => ⟨S64, .f32⟩
  | 48 => ⟨S1x64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S64, .f32⟩
  | 57 => ⟨S64, .f32⟩
  | 58 => ⟨S1x64x1x1, .f32⟩
  | 59 => ⟨S256x64x128x7, .f32⟩
  | 60 => ⟨S256x64x128x7, .f32⟩
  | 61 => ⟨S1x64x1x1, .f32⟩
  | 62 => ⟨S_, .f32⟩
  | 63 => ⟨S1x64x1x1, .f32⟩
  | 64 => ⟨S1x64x1x1, .f32⟩
  | 65 => ⟨S1x64x1x1, .f32⟩
  | 66 => ⟨S256x64x128x7, .f32⟩
  | 67 => ⟨S256x64x128x7, .f32⟩
  | 68 => ⟨S1x64x1x1, .f32⟩
  | 69 => ⟨S256x64x128x7, .f32⟩
  | 70 => ⟨S256x64x128x7, .f32⟩
  | 71 => ⟨S1x64x1x1, .f32⟩
  | 72 => ⟨S256x64x128x7, .f32⟩
  | 73 => ⟨S256x64x128x7, .f32⟩
  | 74 => ⟨S_, .f32⟩
  | 75 => ⟨S256x64x128x7, .f32⟩
  | 76 => ⟨S256x64x128x7, .f32⟩
  | 77 => ⟨S256x128x7x64, .f32⟩
  | 78 => ⟨S256x64x128x7, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S64, .f32⟩
  | 86 => ⟨S_, .f32⟩
  | 87 => ⟨S64, .f32⟩
  | 88 => ⟨S64, .f32⟩
  | 89 => ⟨S64, .f32⟩
  | 90 => ⟨S64, .f32⟩
  | 91 => ⟨S1x64x1x1, .f32⟩
  | 92 => ⟨S256x64x128x7, .f32⟩
  | 93 => ⟨S256x64x128x7, .f32⟩
  | 94 => ⟨S1x64x1x1, .f32⟩
  | 95 => ⟨S_, .f32⟩
  | 96 => ⟨S1x64x1x1, .f32⟩
  | 97 => ⟨S1x64x1x1, .f32⟩
  | 98 => ⟨S1x64x1x1, .f32⟩
  | 99 => ⟨S256x64x128x7, .f32⟩
  | 100 => ⟨S256x64x128x7, .f32⟩
  | 101 => ⟨S1x64x1x1, .f32⟩
  | 102 => ⟨S256x64x128x7, .f32⟩
  | 103 => ⟨S256x64x128x7, .f32⟩
  | 104 => ⟨S1x64x1x1, .f32⟩
  | 105 => ⟨S256x64x128x7, .f32⟩
  | 106 => ⟨S256x64x128x7, .f32⟩
  | 107 => ⟨S_, .f32⟩
  | 108 => ⟨S256x64x128x7, .f32⟩
  | 109 => ⟨S256x64x128x7, .f32⟩
  | 110 => ⟨S256x128x7x64, .f32⟩
  | 111 => ⟨S256x64x128x7, .f32⟩
  | 112 => ⟨S1x64, .f32⟩
  | 113 => ⟨S64, .f32⟩
  | 114 => ⟨S1x64, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S64, .f32⟩
  | 124 => ⟨S1x64x1x1, .f32⟩
  | 125 => ⟨S256x64x128x7, .f32⟩
  | 126 => ⟨S256x64x128x7, .f32⟩
  | 127 => ⟨S1x64x1x1, .f32⟩
  | _ => ⟨S256x8x128, .f32⟩

abbrev hbmTy0_3 (i : Nat) : BufTy := match i % 128 with
  | 0 => ⟨S_, .f32⟩
  | 1 => ⟨S1x64x1x1, .f32⟩
  | 2 => ⟨S1x64x1x1, .f32⟩
  | 3 => ⟨S1x64x1x1, .f32⟩
  | 4 => ⟨S256x64x128x7, .f32⟩
  | 5 => ⟨S256x64x128x7, .f32⟩
  | 6 => ⟨S1x64x1x1, .f32⟩
  | 7 => ⟨S256x64x128x7, .f32⟩
  | 8 => ⟨S256x64x128x7, .f32⟩
  | 9 => ⟨S1x64x1x1, .f32⟩
  | 10 => ⟨S256x64x128x7, .f32⟩
  | 11 => ⟨S256x64x128x7, .f32⟩
  | 12 => ⟨S_, .f32⟩
  | 13 => ⟨S256x64x128x7, .f32⟩
  | 14 => ⟨S256x64x128x7, .f32⟩
  | 15 => ⟨S_, .f32⟩
  | 16 => ⟨S256x64x128, .f32⟩
  | 17 => ⟨S_, .f32⟩
  | 18 => ⟨S256x64x128, .f32⟩
  | 19 => ⟨S256x64x128, .f32⟩
  | 20 => ⟨S256x128x64, .f32⟩
  | 21 => ⟨S256x64x128, .f32⟩
  | 22 => ⟨S1x64, .f32⟩
  | 23 => ⟨S64, .f32⟩
  | 24 => ⟨S1x64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S64, .f32⟩
  | 34 => ⟨S1x64x1, .f32⟩
  | 35 => ⟨S256x64x128, .f32⟩
  | 36 => ⟨S256x64x128, .f32⟩
  | 37 => ⟨S1x64x1, .f32⟩
  | 38 => ⟨S_, .f32⟩
  | 39 => ⟨S1x64x1, .f32⟩
  | 40 => ⟨S1x64x1, .f32⟩
  | 41 => ⟨S1x64x1, .f32⟩
  | 42 => ⟨S256x64x128, .f32⟩
  | 43 => ⟨S256x64x128, .f32⟩
  | 44 => ⟨S1x64x1, .f32⟩
  | 45 => ⟨S256x64x128, .f32⟩
  | 46 => ⟨S256x64x128, .f32⟩
  | 47 => ⟨S1x64x1, .f32⟩
  | 48 => ⟨S256x64x128, .f32⟩
  | 49 => ⟨S256x64x128, .f32⟩
  | 50 => ⟨S256x64x128, .f32⟩
  | 51 => ⟨S_, .f32⟩
  | 52 => ⟨S256x64x128, .f32⟩
  | 53 => ⟨S256x64x128, .f32⟩
  | 54 => ⟨S256x64x128, .f32⟩
  | 55 => ⟨S256x64x128, .f32⟩
  | 56 => ⟨S256x32x128, .f32⟩
  | 57 => ⟨S_, .f32⟩
  | 58 => ⟨S256x128, .f32⟩
  | 59 => ⟨S256x1x128, .f32⟩
  | 60 => ⟨S_, .f32⟩
  | 61 => ⟨S256x1x128, .f32⟩
  | 62 => ⟨S256x1x128, .i1⟩
  | 63 => ⟨S256x1x128, .f32⟩
  | 64 => ⟨S_, .f32⟩
  | 65 => ⟨S256x1, .f32⟩
  | 66 => ⟨S_, .f32⟩
  | 67 => ⟨S256x1, .f32⟩
  | 68 => ⟨S256x1, .f32⟩
  | 69 => ⟨S256x96x128, .f32⟩
  | 70 => ⟨S256x128x128, .f32⟩
  | 71 => ⟨S256x128x128, .f32⟩
  | 72 => ⟨S_, .f32⟩
  | 73 => ⟨S128, .f32⟩
  | 74 => ⟨S1x128x1, .f32⟩
  | 75 => ⟨S_, .f32⟩
  | 76 => ⟨S1x128x1, .f32⟩
  | 77 => ⟨S1x128x1, .f32⟩
  | 78 => ⟨S_, .i32⟩
  | 79 => ⟨S_, .f32⟩
  | 80 => ⟨S128, .f32⟩
  | 81 => ⟨S1x128x1, .f32⟩
  | 82 => ⟨S_, .f32⟩
  | 83 => ⟨S1x128x1, .f32⟩
  | 84 => ⟨S1x128x1, .f32⟩
  | 85 => ⟨S256x128x128, .f32⟩
  | 86 => ⟨S256x128x128, .f32⟩
  | 87 => ⟨S256x128x128, .f32⟩
  | 88 => ⟨S_, .f32⟩
  | 89 => ⟨S_, .f32⟩
  | 90 => ⟨S_, .f32⟩
  | 91 => ⟨S_, .f32⟩
  | 92 => ⟨S128, .f32⟩
  | 93 => ⟨S1x128x1, .f32⟩
  | 94 => ⟨S1x128x1, .f32⟩
  | 95 => ⟨S1x128x1, .f32⟩
  | 96 => ⟨S_, .f32⟩
  | 97 => ⟨S_, .i1⟩
  | 98 => ⟨S_, .f32⟩
  | 99 => ⟨S_, .f32⟩
  | 100 => ⟨S1x128x1, .f32⟩
  | 101 => ⟨S1x128x1, .f32⟩
  | 102 => ⟨S256x128x128, .f32⟩
  | 103 => ⟨S256x128x128, .f32⟩
  | 104 => ⟨S_, .f32⟩
  | 105 => ⟨S1x128x1, .f32⟩
  | 106 => ⟨S1x128x1, .f32⟩
  | 107 => ⟨S1x128x1, .f32⟩
  | 108 => ⟨S256x128x128, .f32⟩
  | 109 => ⟨S256x128x128, .f32⟩
  | 110 => ⟨S1x128x1, .f32⟩
  | 111 => ⟨S256x128x128, .f32⟩
  | 112 => ⟨S256x128x128, .f32⟩
  | 113 => ⟨S1x128x1, .f32⟩
  | 114 => ⟨S256x128x128, .f32⟩
  | 115 => ⟨S256x128x128, .f32⟩
  | 116 => ⟨S_, .f32⟩
  | 117 => ⟨S256x128x128, .f32⟩
  | 118 => ⟨S256x128x128, .f32⟩
  | 119 => ⟨S256x128x128, .f32⟩
  | 120 => ⟨S256x128x128, .f32⟩
  | 121 => ⟨S_, .f32⟩
  | 122 => ⟨S256x128, .f32⟩
  | 123 => ⟨S256x128, .f32⟩
  | 124 => ⟨S256x128, .f32⟩
  | 125 => ⟨S128x128, .f32⟩
  | 126 => ⟨S256x128, .f32⟩
  | 127 => ⟨S1x128, .f32⟩
  | _ => ⟨S256x8x128, .f32⟩

abbrev hbmTy0_4 (i : Nat) : BufTy := match i % 128 with
  | 0 => ⟨S256x128, .f32⟩
  | 1 => ⟨S256x128, .f32⟩
  | 2 => ⟨S_, .f32⟩
  | 3 => ⟨S256x128, .f32⟩
  | 4 => ⟨S256x128, .f32⟩
  | 5 => ⟨S128x10, .f32⟩
  | 6 => ⟨S256x10, .f32⟩
  | 7 => ⟨S1x10, .f32⟩
  | 8 => ⟨S256x10, .f32⟩
  | 9 => ⟨S256x10, .f32⟩
  | _ => ⟨S256x8x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x8x128, .f32⟩

abbrev bufTy : (tb : Table) → Fin (tcTables nBuf tb) → BufTy
  | .hbm, ⟨i, _⟩ => hbmTy i
  | _, _ => ⟨S256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_cst_0 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst_1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_2 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_3 : Ref sig .tc := ⟨.hbm, 57, rfl⟩
abbrev main_v19 : Ref sig .tc := ⟨.hbm, 58, rfl⟩
abbrev main_v20 : Ref sig .tc := ⟨.hbm, 59, rfl⟩
abbrev main_cst_4 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_5 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_6 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_values : Ref sig .tc := ⟨.hbm, 99, rfl⟩
abbrev main_indices : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c : Ref sig .tc := ⟨.hbm, 105, rfl⟩
abbrev main_v60 : Ref sig .tc := ⟨.hbm, 106, rfl⟩
abbrev main_v61 : Ref sig .tc := ⟨.hbm, 107, rfl⟩
abbrev main_c_8 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_9 : Ref sig .tc := ⟨.hbm, 112, rfl⟩
abbrev main_v65 : Ref sig .tc := ⟨.hbm, 113, rfl⟩
abbrev main_v66 : Ref sig .tc := ⟨.hbm, 114, rfl⟩
abbrev main_c_10 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_11 : Ref sig .tc := ⟨.hbm, 135, rfl⟩
abbrev main_v86 : Ref sig .tc := ⟨.hbm, 136, rfl⟩
abbrev main_v87 : Ref sig .tc := ⟨.hbm, 137, rfl⟩
abbrev main_cst_12 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_13 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_14 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_15 : Ref sig .tc := ⟨.hbm, 168, rfl⟩
abbrev main_v115 : Ref sig .tc := ⟨.hbm, 169, rfl⟩
abbrev main_v116 : Ref sig .tc := ⟨.hbm, 170, rfl⟩
abbrev main_cst_16 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_17 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_18 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_19 : Ref sig .tc := ⟨.hbm, 201, rfl⟩
abbrev main_v144 : Ref sig .tc := ⟨.hbm, 202, rfl⟩
abbrev main_v145 : Ref sig .tc := ⟨.hbm, 203, rfl⟩
abbrev main_cst_20 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_21 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_22 : Ref sig .tc := ⟨.hbm, 225, rfl⟩
abbrev main_v165 : Ref sig .tc := ⟨.hbm, 226, rfl⟩
abbrev main_v166 : Ref sig .tc := ⟨.hbm, 227, rfl⟩
abbrev main_cst_23 : Ref sig .tc := ⟨.hbm, 228, rfl⟩
abbrev main_v167 : Ref sig .tc := ⟨.hbm, 229, rfl⟩
abbrev main_cst_24 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_25 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_cst_26 : Ref sig .tc := ⟨.hbm, 240, rfl⟩
abbrev main_v176 : Ref sig .tc := ⟨.hbm, 241, rfl⟩
abbrev main_v177 : Ref sig .tc := ⟨.hbm, 242, rfl⟩
abbrev main_cst_27 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_28 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_29 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_30 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_31 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_values_32 : Ref sig .tc := ⟨.hbm, 270, rfl⟩
abbrev main_indices_33 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_c_34 : Ref sig .tc := ⟨.hbm, 276, rfl⟩
abbrev main_v204 : Ref sig .tc := ⟨.hbm, 277, rfl⟩
abbrev main_v205 : Ref sig .tc := ⟨.hbm, 278, rfl⟩
abbrev main_c_35 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_c_36 : Ref sig .tc := ⟨.hbm, 283, rfl⟩
abbrev main_v209 : Ref sig .tc := ⟨.hbm, 284, rfl⟩
abbrev main_v210 : Ref sig .tc := ⟨.hbm, 285, rfl⟩
abbrev main_c_37 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_cst_38 : Ref sig .tc := ⟨.hbm, 306, rfl⟩
abbrev main_v230 : Ref sig .tc := ⟨.hbm, 307, rfl⟩
abbrev main_v231 : Ref sig .tc := ⟨.hbm, 308, rfl⟩
abbrev main_cst_39 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_cst_40 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_cst_41 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_cst_42 : Ref sig .tc := ⟨.hbm, 339, rfl⟩
abbrev main_v259 : Ref sig .tc := ⟨.hbm, 340, rfl⟩
abbrev main_v260 : Ref sig .tc := ⟨.hbm, 341, rfl⟩
abbrev main_cst_43 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_cst_44 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_cst_45 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_cst_46 : Ref sig .tc := ⟨.hbm, 372, rfl⟩
abbrev main_v288 : Ref sig .tc := ⟨.hbm, 373, rfl⟩
abbrev main_v289 : Ref sig .tc := ⟨.hbm, 374, rfl⟩
abbrev main_cst_47 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_cst_48 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_cst_49 : Ref sig .tc := ⟨.hbm, 396, rfl⟩
abbrev main_v309 : Ref sig .tc := ⟨.hbm, 397, rfl⟩
abbrev main_v310 : Ref sig .tc := ⟨.hbm, 398, rfl⟩
abbrev main_cst_50 : Ref sig .tc := ⟨.hbm, 399, rfl⟩
abbrev main_v311 : Ref sig .tc := ⟨.hbm, 400, rfl⟩
abbrev main_cst_51 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_cst_52 : Ref sig .tc := ⟨.hbm, 410, rfl⟩
abbrev main_v320 : Ref sig .tc := ⟨.hbm, 411, rfl⟩
abbrev main_v321 : Ref sig .tc := ⟨.hbm, 412, rfl⟩
abbrev main_cst_53 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_cst_54 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_cst_55 : Ref sig .tc := ⟨.hbm, 435, rfl⟩
abbrev main_v342 : Ref sig .tc := ⟨.hbm, 436, rfl⟩
abbrev main_v343 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_cst_56 : Ref sig .tc := ⟨.hbm, 441, rfl⟩
abbrev main_v347 : Ref sig .tc := ⟨.hbm, 442, rfl⟩
abbrev main_v348 : Ref sig .tc := ⟨.hbm, 443, rfl⟩
abbrev main_cst_57 : Ref sig .tc := ⟨.hbm, 444, rfl⟩
abbrev main_v349 : Ref sig .tc := ⟨.hbm, 445, rfl⟩
abbrev main_v350 : Ref sig .tc := ⟨.hbm, 446, rfl⟩
abbrev main_v351 : Ref sig .tc := ⟨.hbm, 447, rfl⟩
abbrev main_cst_58 : Ref sig .tc := ⟨.hbm, 448, rfl⟩
abbrev main_v352 : Ref sig .tc := ⟨.hbm, 449, rfl⟩
abbrev main_cst_59 : Ref sig .tc := ⟨.hbm, 450, rfl⟩
abbrev main_v353 : Ref sig .tc := ⟨.hbm, 451, rfl⟩
abbrev main_v354 : Ref sig .tc := ⟨.hbm, 452, rfl⟩
abbrev main_v355 : Ref sig .tc := ⟨.hbm, 453, rfl⟩
abbrev main_v356 : Ref sig .tc := ⟨.hbm, 454, rfl⟩
abbrev main_v357 : Ref sig .tc := ⟨.hbm, 455, rfl⟩
abbrev main_cst_60 : Ref sig .tc := ⟨.hbm, 456, rfl⟩
abbrev main_v358 : Ref sig .tc := ⟨.hbm, 457, rfl⟩
abbrev main_v359 : Ref sig .tc := ⟨.hbm, 458, rfl⟩
abbrev main_cst_61 : Ref sig .tc := ⟨.hbm, 459, rfl⟩
abbrev main_v360 : Ref sig .tc := ⟨.hbm, 460, rfl⟩
abbrev main_v361 : Ref sig .tc := ⟨.hbm, 461, rfl⟩
abbrev main_c_62 : Ref sig .tc := ⟨.hbm, 462, rfl⟩
abbrev main_call0_cst : Ref sig .tc := ⟨.hbm, 463, rfl⟩
abbrev main_call0_v0 : Ref sig .tc := ⟨.hbm, 464, rfl⟩
abbrev main_call0_v1 : Ref sig .tc := ⟨.hbm, 465, rfl⟩
abbrev main_call0_cst_0 : Ref sig .tc := ⟨.hbm, 466, rfl⟩
abbrev main_call0_v2 : Ref sig .tc := ⟨.hbm, 467, rfl⟩
abbrev main_call0_v3 : Ref sig .tc := ⟨.hbm, 468, rfl⟩
abbrev main_call0_v4 : Ref sig .tc := ⟨.hbm, 469, rfl⟩
abbrev main_call0_v5 : Ref sig .tc := ⟨.hbm, 470, rfl⟩
abbrev main_call0_v6 : Ref sig .tc := ⟨.hbm, 471, rfl⟩
abbrev main_call0_v7 : Ref sig .tc := ⟨.hbm, 472, rfl⟩
abbrev main_call0_cst_1 : Ref sig .tc := ⟨.hbm, 473, rfl⟩
abbrev main_call0_v8 : Ref sig .tc := ⟨.hbm, 474, rfl⟩
abbrev main_call0_cst_2 : Ref sig .tc := ⟨.hbm, 475, rfl⟩
abbrev main_call0_v9 : Ref sig .tc := ⟨.hbm, 476, rfl⟩
abbrev main_call0_v10 : Ref sig .tc := ⟨.hbm, 477, rfl⟩
abbrev main_call0_v11 : Ref sig .tc := ⟨.hbm, 478, rfl⟩
abbrev main_call0_v12 : Ref sig .tc := ⟨.hbm, 479, rfl⟩
abbrev main_call0_cst_3 : Ref sig .tc := ⟨.hbm, 480, rfl⟩
abbrev main_call0_v13 : Ref sig .tc := ⟨.hbm, 481, rfl⟩
abbrev main_call0_cst_4 : Ref sig .tc := ⟨.hbm, 482, rfl⟩
abbrev main_call0_call0_v0 : Ref sig .tc := ⟨.hbm, 483, rfl⟩
abbrev main_call0_call0_v1 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_cst_63 : Ref sig .tc := ⟨.hbm, 488, rfl⟩
abbrev main_v365 : Ref sig .tc := ⟨.hbm, 489, rfl⟩
abbrev main_v366 : Ref sig .tc := ⟨.hbm, 490, rfl⟩
abbrev main_v367 : Ref sig .tc := ⟨.hbm, 491, rfl⟩
abbrev main_v368 : Ref sig .tc := ⟨.hbm, 492, rfl⟩
abbrev main_v369 : Ref sig .tc := ⟨.hbm, 493, rfl⟩
abbrev main_v370 : Ref sig .tc := ⟨.hbm, 494, rfl⟩
abbrev main_v371 : Ref sig .tc := ⟨.hbm, 495, rfl⟩
abbrev main_v372 : Ref sig .tc := ⟨.hbm, 496, rfl⟩
abbrev main_v373 : Ref sig .tc := ⟨.hbm, 497, rfl⟩
abbrev main_v374 : Ref sig .tc := ⟨.hbm, 498, rfl⟩
abbrev main_v375 : Ref sig .tc := ⟨.hbm, 499, rfl⟩
abbrev main_cst_64 : Ref sig .tc := ⟨.hbm, 500, rfl⟩
abbrev main_v376 : Ref sig .tc := ⟨.hbm, 501, rfl⟩
abbrev main_v377 : Ref sig .tc := ⟨.hbm, 502, rfl⟩
abbrev main_v378 : Ref sig .tc := ⟨.hbm, 503, rfl⟩
abbrev main_v379 : Ref sig .tc := ⟨.hbm, 504, rfl⟩
abbrev main_cst_65 : Ref sig .tc := ⟨.hbm, 505, rfl⟩
abbrev main_v380 : Ref sig .tc := ⟨.hbm, 506, rfl⟩
abbrev main_v381 : Ref sig .tc := ⟨.hbm, 507, rfl⟩
abbrev main_v382 : Ref sig .tc := ⟨.hbm, 508, rfl⟩
abbrev main_v383 : Ref sig .tc := ⟨.hbm, 509, rfl⟩
abbrev main_v384 : Ref sig .tc := ⟨.hbm, 510, rfl⟩
abbrev main_v385 : Ref sig .tc := ⟨.hbm, 511, rfl⟩
abbrev main_v386 : Ref sig .tc := ⟨.hbm, 512, rfl⟩
abbrev main_v387 : Ref sig .tc := ⟨.hbm, 513, rfl⟩
abbrev main_cst_66 : Ref sig .tc := ⟨.hbm, 514, rfl⟩
abbrev main_v388 : Ref sig .tc := ⟨.hbm, 515, rfl⟩
abbrev main_v389 : Ref sig .tc := ⟨.hbm, 516, rfl⟩
abbrev main_v390 : Ref sig .tc := ⟨.hbm, 517, rfl⟩
abbrev main_v391 : Ref sig .tc := ⟨.hbm, 518, rfl⟩
abbrev main_v392 : Ref sig .tc := ⟨.hbm, 519, rfl⟩
abbrev main_v393 : Ref sig .tc := ⟨.hbm, 520, rfl⟩
abbrev main_v394 : Ref sig .tc := ⟨.hbm, 521, rfl⟩

abbrev nD : Nat := 1
abbrev τ : Topo := Topo.v7x

variable {F : FTy → Type} [FloatOps F]
-- ==== Proof.Net.lean ====
module

public import Idealize.ShloMosaic.Lib.Pointwise

@[expose] public section

/-! Facts about extended reals that are real numbers, the two ways of writing a batch norm, and the rounds of
"take the largest entry of a row away". -/

noncomputable section

namespace Cert.Net

open Idealize.ShloMosaic

/-- An extended real that is a real number. -/
def Fine (x : EReal) : Prop := ∃ r : ℝ, x = (r : EReal)

theorem Fine.coe (r : ℝ) : Fine (r : EReal) := ⟨r, rfl⟩

theorem Fine.zero : Fine 0 := ⟨0, rfl⟩

theorem Fine.one : Fine 1 := ⟨1, rfl⟩

theorem Fine.add {x y : EReal} : Fine x → Fine y → Fine (x + y) := by
  rintro ⟨a, rfl⟩ ⟨b, rfl⟩; exact ⟨a + b, (EReal.coe_add a b).symm⟩

theorem Fine.sub {x y : EReal} : Fine x → Fine y → Fine (x - y) := by
  rintro ⟨a, rfl⟩ ⟨b, rfl⟩; exact ⟨a - b, (EReal.coe_sub a b).symm⟩

theorem Fine.mul {x y : EReal} : Fine x → Fine y → Fine (x * y) := by
  rintro ⟨a, rfl⟩ ⟨b, rfl⟩; exact ⟨a * b, (EReal.coe_mul a b).symm⟩

theorem Fine.neg {x : EReal} : Fine x → Fine (-x) := by
  rintro ⟨a, rfl⟩; exact ⟨-a, (EReal.coe_neg a).symm⟩

theorem Fine.max {x y : EReal} (hx : Fine x) (hy : Fine y) : Fine (max x y) := by
  rcases max_choice x y with h | h <;> rw [h] <;> assumption

theorem Fine.sum {ι : Type*} (s : Finset ι) (f : ι → EReal) (h : ∀ i, Fine (f i)) : Fine (∑ i ∈ s, f i) := by
  classical
  induction s using Finset.induction with
  | empty => exact ⟨0, by simp⟩
  | insert a s ha ih => rw [Finset.sum_insert ha]; exact (h a).add ih

theorem Fine.ne_bot {x : EReal} : Fine x → x ≠ ⊥ := by rintro ⟨a, rfl⟩; exact EReal.coe_ne_bot a

theorem Fine.ne_top {x : EReal} : Fine x → x ≠ ⊤ := by rintro ⟨a, rfl⟩; exact EReal.coe_ne_top a

/-- An extended real of finite absolute value is a real number. -/
theorem fine_of_abs {x : EReal} (h : max x (-x) < ⊤) : Fine x := by
  induction x using EReal.rec with
  | bot => simp at h
  | top => simp at h
  | coe r => exact ⟨r, rfl⟩

theorem Fine.div {x : EReal} {c : ℝ} (hx : Fine x) (hc : c ≠ 0) : Fine (Ideal.div x (c : EReal)) := by
  rw [Ideal.div_coe hc]; exact hx.mul ⟨_, rfl⟩

/-- A sum of coerced reals is the coercion of the sum. -/
theorem coe_sum {ι : Type*} (s : Finset ι) (f : ι → ℝ) :
    ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The variance plus the small constant, of a sum `s` and a sum of squares `ss` over `cnt` entries. -/
def vare (cnt eps s ss : EReal) : EReal :=
  Ideal.div ss cnt - Ideal.div s cnt * Ideal.div s cnt + eps

/-- The kernel's factor of a batch norm. -/
def kscale (cnt eps s ss g : EReal) : EReal := g * Ideal.rsqrt (vare cnt eps s ss)

/-- A batch norm as one factor and one offset. -/
def kbn (cnt eps s ss g b x : EReal) : EReal :=
  x * kscale cnt eps s ss g + (b - Ideal.div s cnt * kscale cnt eps s ss g)

/-- A batch norm as written in the reference. -/
def rbn (cnt eps s ss g b x : EReal) : EReal :=
  Ideal.div (x - Ideal.div s cnt) (Ideal.sqrt (vare cnt eps s ss)) * g + b

/-- Over real entries and a positive `vare` the two ways of writing a batch norm agree and are real. -/
theorem bn_eq {cnt : ℝ} (hc : cnt ≠ 0) {eps s ss g b x : EReal} (he : Fine eps) (hs : Fine s) (hss : Fine ss)
    (hg : Fine g) (hb : Fine b) (hx : Fine x) (hv : 0 < vare cnt eps s ss) :
    kbn cnt eps s ss g b x = rbn cnt eps s ss g b x ∧ Fine (kbn cnt eps s ss g b x) := by
  have hve : Fine (vare cnt eps s ss) :=
    ((hss.div hc).sub ((hs.div hc).mul (hs.div hc))).add he
  obtain ⟨m, hm⟩ := hs.div hc
  obtain ⟨v, hv'⟩ := hve
  rw [hv'] at hv
  have hv0 : 0 < v := by exact_mod_cast hv
  have hq : Real.sqrt v ≠ 0 := (Real.sqrt_pos.mpr hv0).ne'
  obtain ⟨g, rfl⟩ := hg
  obtain ⟨b, rfl⟩ := hb
  obtain ⟨x, rfl⟩ := hx
  have hk : kscale cnt eps s ss g = ((g * (Real.sqrt v)⁻¹ : ℝ) : EReal) := by
    rw [kscale, hv', Ideal.rsqrt_coe, if_neg hv0.not_gt, if_neg hv0.ne', EReal.coe_mul]
  have h1 : kbn cnt eps s ss g b x = ((x * (g * (Real.sqrt v)⁻¹) + (b - m * (g * (Real.sqrt v)⁻¹)) : ℝ) : EReal) := by
    rw [kbn, hk, hm]; push_cast; rfl
  refine ⟨?_, h1 ▸ Fine.coe _⟩
  rw [h1, rbn, hv', hm, Ideal.sqrt_coe, if_neg hv0.not_gt, Ideal.div_coe hq]
  rw [← EReal.coe_sub, ← EReal.coe_mul, ← EReal.coe_mul, ← EReal.coe_add]
  congr 1
  ring

/-- Row `r` after `j` rounds: the entry `n` is gone from the start, and each round the largest one goes. -/
def rnd {N : ℕ} (r : Fin N → EReal) (n : Fin N) : ℕ → Fin N → EReal
  | 0, m => if n = m then ⊥ else r m
  | j + 1, m => if ∀ c, rnd r n j c ≤ rnd r n j m then ⊥ else rnd r n j m

/-- Where the first entries of the sorted row decrease strictly and `n` is a largest entry, round `j` takes
    the entry that the sort puts at place `j + 1`, and no other. -/
theorem rnd_max {N : ℕ} (K : ℕ) (hK : K < N) (r : Fin N → EReal) (σ : Fin N → Fin N) (n : Fin N)
    (hsurj : Function.Surjective σ) (hinj : Function.Injective σ)
    (hsort : ∀ i j, i < j → ¬ r (σ i) < r (σ j))
    (hstrict : ∀ (j : ℕ) (hj : j < K), r (σ ⟨j + 1, by omega⟩) < r (σ ⟨j, by omega⟩))
    (hself : ∀ m, r m ≤ r n) (hbot : ∀ m, r m ≠ ⊥) (j : ℕ) (hj : j + 1 < K) (m : Fin N) :
    (∀ c, rnd r n j c ≤ rnd r n j m) ↔ m = σ ⟨j + 1, by omega⟩ := by
  have hlt : ∀ i k : Fin N, i < k → i.val < K → r (σ k) < r (σ i) := by
    intro i k hik hi
    refine lt_of_le_of_lt ?_ (hstrict i.val hi)
    rcases Nat.lt_or_ge (i.val + 1) k.val with h | h
    · exact not_lt.mp (hsort ⟨i.val + 1, by omega⟩ k h)
    · have : k = ⟨i.val + 1, by omega⟩ := Fin.ext (by simp; omega)
      rw [this]
  have h0 : σ ⟨0, by omega⟩ = n := by
    obtain ⟨k, hk⟩ := hsurj n
    rcases Nat.eq_zero_or_pos k.val with h | h
    · rw [← hk]; congr 1; exact Fin.ext h.symm
    · have h1 := hlt ⟨0, by omega⟩ k h (by simp; omega)
      rw [hk] at h1
      exact absurd (hself _) (not_le.mpr h1)
  have hmax : ∀ j : ℕ, ∀ hj : j + 1 < K,
      (∀ k : Fin N, rnd r n j (σ k) = if k.val ≤ j then ⊥ else r (σ k)) →
      ∀ k : Fin N, (∀ c, rnd r n j c ≤ rnd r n j (σ k)) ↔ k.val = j + 1 := by
    intro j hj hq k
    constructor
    · intro h
      have h1 := h (σ ⟨j + 1, by omega⟩)
      rw [hq, hq, if_neg (by simp)] at h1
      by_contra hne
      split at h1
      · exact hbot _ (le_bot_iff.mp h1)
      · exact absurd h1 (not_le.mpr (hlt ⟨j + 1, by omega⟩ k (by rw [Fin.lt_def]; simp; omega) (by simp; omega)))
    · intro h c
      obtain ⟨k', rfl⟩ := hsurj c
      rw [hq, hq, if_neg (by omega : ¬ k.val ≤ j)]
      split
      · exact bot_le
      · rcases Nat.lt_or_ge k.val k'.val with h' | h'
        · exact (hlt k k' h' (by omega)).le
        · have : k' = k := Fin.ext (by omega)
          rw [this]
  have hq : ∀ j : ℕ, j < K → ∀ k : Fin N, rnd r n j (σ k) = if k.val ≤ j then ⊥ else r (σ k) := by
    intro j
    induction j with
    | zero =>
      intro _ k
      show (if n = σ k then ⊥ else r (σ k)) = _
      have : n = σ k ↔ k.val ≤ 0 := by
        rw [← h0, hinj.eq_iff, Fin.ext_iff]; simp; exact eq_comm
      simp only [this]
    | succ j ih =>
      intro hj k
      show (if ∀ c, rnd r n j c ≤ rnd r n j (σ k) then ⊥ else rnd r n j (σ k)) = _
      have ih := ih (by omega)
      by_cases h1 : k.val = j + 1
      · rw [if_pos ((hmax j hj ih k).mpr h1), if_pos h1.le]
      · rw [if_neg (fun h => h1 ((hmax j hj ih k).mp h)), ih k]
        congr 1
        exact propext ⟨fun h => by omega, fun h => by omega⟩
  obtain ⟨k, rfl⟩ := hsurj m
  rw [hmax j hj (hq j (by omega)) k, hinj.eq_iff, Fin.ext_iff]

section kernel

variable {C N O : ℕ}

/-- The kernel's distance table of the points `p`, channels by points. -/
def kpd (p : Fin C → Fin N → EReal) (n m : Fin N) : EReal :=
  Ideal.ofBits .f32 0x40000000#32 * (∑ c, p c n * p c m) - (∑ c, p c n * p c n) - (∑ c, p c m * p c m)

/-- Whether a point is there: 0 where all its features are 0. -/
def kmask (f : Fin C → Fin N → EReal) (n : Fin N) : EReal :=
  if (∑ c, max (f c n) (-(f c n))) = 0 then 0 else 1

/-- The points, those that are not there shifted far away. -/
def kpts (x : Fin C → Fin N → EReal) (μ : Fin N → EReal) (c : Fin C) (n : Fin N) : EReal :=
  x c n + (1 - μ n) * Ideal.ofBits .f32 0x4E6E6B28#32

/-- The choice of round `j` for point `n` as numbers 0 and 1. -/
def kbit (p : Fin C → Fin N → EReal) (n : Fin N) (j : ℕ) (m : Fin N) : EReal :=
  if ∀ c, rnd (kpd p n) n j c ≤ rnd (kpd p n) n j m then 1 else 0

/-- The kernel's first edge product. -/
def kedge {D : ℕ} (x : Fin C → Fin N → EReal) (p : Fin D → Fin N → EReal) (wa wb : Fin O → Fin C → EReal) (n : Fin N) (j : ℕ) (o : Fin O) : EReal :=
  (∑ m, kbit p n j m * ∑ c, x c m * wb o c) + ∑ c, x c n * (wa o c - wb o c)

/-- Three batch norms with positive parts, and the two products between them. -/
def layers (bn : Fin 3 → Fin O → EReal → EReal) (w1 w2 : Fin O → Fin O → EReal) (y : Fin O → EReal) (o : Fin O) : EReal :=
  max (bn 2 o (∑ c, max (bn 1 c (∑ d, max (bn 0 d (y d)) 0 * w1 c d)) 0 * w2 o c)) 0

/-- The kernel's result for output channel `o` of point `n`. -/
def kout (bs : Fin O → EReal → EReal) (bn : Fin 3 → Fin O → EReal → EReal) (w wa wb : Fin O → Fin C → EReal)
    (w1 w2 : Fin O → Fin O → EReal) (x : Fin C → Fin N → EReal) (μ : Fin N → EReal) (o : Fin O) (n : Fin N) : EReal :=
  max (bs o (∑ c, x c n * w o c)
    + Ideal.div (∑ j : Fin 7, layers bn w1 w2 (kedge x (kpts x μ) wa wb n j.val) o) (Ideal.ofBits .f32 0x40E00000#32)) 0 * μ n

end kernel

/-- A row of zeroes and one 1 picks one summand. -/
theorem pick {N : ℕ} (p : Fin N → Prop) [DecidablePred p] (f : Fin N → EReal) (a : Fin N) (h : ∀ m, p m ↔ m = a) :
    ∑ m, (if p m then (1 : EReal) else 0) * f m = f a := by
  rw [Finset.sum_eq_single a]
  · rw [if_pos ((h a).mpr rfl), one_mul]
  · intro m _ hm; rw [if_neg (fun hp => hm ((h m).mp hp)), zero_mul]
  · intro hn; exact absurd (Finset.mem_univ a) hn

/-- The edge product: neighbour minus point against one half of the weights and the point against the other
    is the neighbour against the second half and the point against the difference. -/
theorem edge {C : ℕ} (x nb wa wb : Fin C → EReal) (hx : ∀ c, Fine (x c)) (hn : ∀ c, Fine (nb c))
    (ha : ∀ c, Fine (wa c)) (hb : ∀ c, Fine (wb c)) :
    (∑ c, nb c * wb c) + ∑ c, x c * (wa c - wb c) = (∑ c, wa c * x c) + ∑ c, wb c * (nb c - x c) := by
  choose x' hx using hx
  choose n' hn using hn
  choose a' ha using ha
  choose b' hb using hb
  obtain rfl : x = _ := funext hx
  obtain rfl : nb = _ := funext hn
  obtain rfl : wa = _ := funext ha
  obtain rfl : wb = _ := funext hb
  simp only [← EReal.coe_sub, ← EReal.coe_mul, ← coe_sum, ← EReal.coe_add]
  congr 1
  rw [← Finset.sum_add_distrib, ← Finset.sum_add_distrib]
  exact Finset.sum_congr rfl fun c _ => by ring

/-- A sum over `2 C` places by halves. -/
theorem sum_halves {C D : ℕ} (hD : D = C + C) (f : Fin D → EReal) :
    ∑ k, f k = (∑ c : Fin C, f ⟨c.val, by omega⟩) + ∑ c : Fin C, f ⟨C + c.val, by omega⟩ := by
  subst hD
  rw [Fin.sum_univ_add]
  rfl

end Cert.Net

end

end
-- ==== Proof.Ladder.lean ====
module

public import Idealize.ShloMosaic.Lib.Pointwise

@[expose] public section

/-! Reading equal pieces put one under the other at a row `B j + n`. -/

namespace Cert.Ladder

variable {α : Type} {B : ℕ}

/-- Seven pieces of `B` rows: row `B j + n` is row `n` of piece `j`. -/
theorem seven (f : Fin 7 → Fin B → α) (j : Fin 7) (n : Fin B) (r : ℕ) (hr : r = B * j.val + n.val) (h7 : r - B - B - B - B - B - B < B) :
    (if h : r < B then f 0 ⟨r, h⟩ else if h : r - B < B then f 1 ⟨r - B, h⟩
      else if h : r - B - B < B then f 2 ⟨r - B - B, h⟩ else if h : r - B - B - B < B then f 3 ⟨r - B - B - B, h⟩
      else if h : r - B - B - B - B < B then f 4 ⟨r - B - B - B - B, h⟩
      else if h : r - B - B - B - B - B < B then f 5 ⟨r - B - B - B - B - B, h⟩
      else f 6 ⟨r - B - B - B - B - B - B, h7⟩) = f j n := by
  obtain ⟨n, hn⟩ := n
  fin_cases j <;> simp only [Nat.mul_zero, Nat.mul_one] at hr <;>
    (repeat rw [dif_neg (by omega)]) <;> (try rw [dif_pos (by omega)]) <;> exact congrArg _ (Fin.ext (by dsimp; omega))

/-- Eight pieces of `B` rows: row `B j + n` is row `n` of piece `j`. -/
theorem eight (f : Fin 8 → Fin B → α) (j : Fin 8) (n : Fin B) (r : ℕ) (hr : r = B * j.val + n.val) (h8 : r - B - B - B - B - B - B - B < B) :
    (if h : r < B then f 0 ⟨r, h⟩ else if h : r - B < B then f 1 ⟨r - B, h⟩
      else if h : r - B - B < B then f 2 ⟨r - B - B, h⟩ else if h : r - B - B - B < B then f 3 ⟨r - B - B - B, h⟩
      else if h : r - B - B - B - B < B then f 4 ⟨r - B - B - B - B, h⟩
      else if h : r - B - B - B - B - B < B then f 5 ⟨r - B - B - B - B - B, h⟩
      else if h : r - B - B - B - B - B - B < B then f 6 ⟨r - B - B - B - B - B - B, h⟩
      else f 7 ⟨r - B - B - B - B - B - B - B, h8⟩) = f j n := by
  obtain ⟨n, hn⟩ := n
  fin_cases j <;> simp only [Nat.mul_zero, Nat.mul_one] at hr <;>
    (repeat rw [dif_neg (by omega)]) <;> (try rw [dif_pos (by omega)]) <;> exact congrArg _ (Fin.ext (by dsimp; omega))

end Cert.Ladder

end
-- ==== Proof.Pieces.lean ====
/- The kernel's body cut into pieces that every cloud of a block shares, and each piece read at an index. -/
module

public import proofs.«01_k».proof.Proof.Gen.KernelIdeal.Skeleton
public import proofs.«01_k».proof.Proof.Gen.KernelIdeal
public import proofs.«01_k».proof.Proof.Net
public import proofs.«01_k».proof.Proof.Ladder

@[expose] public section

set_option maxRecDepth 16384

noncomputable section

namespace Cert.KernelIdeal.Pieces

open Cert.KernelIdeal Cert.KernelIdeal.Gen Idealize.ShloMosaic

/-- The named constant is the least value. -/
theorem named_neg : (Named.named κ "neg" 0xFF61B1E6#32 : Ideal .f32) = ⊥ := rfl

/-- A select by a bit that decides `p`. -/
theorem select_eq_iff {α : Type} (b : BitVec 1) (p : Prop) [Decidable p] (x y : α) (h : b = 1#1 ↔ p) :
    Scalar.select b x y = if p then x else y := by
  unfold Scalar.select
  by_cases hp : p
  · rw [if_pos hp]; exact if_pos (h.mpr hp)
  · rw [if_neg hp]; exact if_neg (fun hb => hp (h.mp hb))

theorem ofBool_bit (p : Prop) [Decidable p] : BitVec.ofBool (decide p) = 1#1 ↔ p := by
  by_cases hp : p <;> simp [hp]

theorem diag_bit (n m : Fin 128) : IntOp.cmpi .eq (BitVec.ofNat 32 n.val) (BitVec.ofNat 32 m.val) = 1#1 ↔ n = m := by
  have : (BitVec.ofNat 32 n.val = BitVec.ofNat 32 m.val) ↔ n = m := by
    rw [← BitVec.toNat_inj, BitVec.toNat_ofNat, BitVec.toNat_ofNat, Nat.mod_eq_of_lt (by omega),
      Nat.mod_eq_of_lt (by omega), Fin.ext_iff]
  rw [← this]
  show BitVec.ofBool (BitVec.ofNat 32 n.val == BitVec.ofNat 32 m.val) = 1#1 ↔ _
  rw [beq_eq_decide, ofBool_bit]

/-- The maximum of a row from the least value up is at most `a` where every entry is. -/
theorem fold_le {N : ℕ} (f : Fin N → EReal) (a : EReal) :
    (Finset.fold max (Ideal.ofBits .f32 0xFF800000#32) f Finset.univ ≤ a) = ∀ c, f c ≤ a := by
  have h : Ideal.ofBits .f32 0xFF800000#32 = ⊥ := by simp [Ideal.ofBits, Ideal.ieee]
  rw [h, Finset.fold_max_le]
  simp

/-- A bit as a number. -/
theorem bit_num (b : BitVec 1) : (FloatOps.sitofp .f32 (BitVec.setWidth 32 b) : Ideal .f32) = if b = 1#1 then 1 else 0 := by
  have : b = 0#1 ∨ b = 1#1 := by revert b; decide
  rcases this with rfl | rfl
  · show (((BitVec.setWidth 32 0#1).toInt : ℝ) : EReal) = _
    simp
  · show (((BitVec.setWidth 32 1#1).toInt : ℝ) : EReal) = _
    simp

/-- The distance table of one cloud `p` (channels by points), with the diagonal put at the least value. -/
def pdOf (p : FVec Ideal S32x128 .f32) : FVec Ideal S128x128 .f32 :=
  have q : FVec Ideal S128x32 .f32 := transpose S128x32 [1, 0] p transposes_S32x128_p1_0_S128x32
  have g : FVec Ideal S128x128 .f32 := matmul dot_S128x32_S32x128_S128x128_1_0_0_1_n_n none q p (constant S128x128 .f32 0x00000000#32)
  have r : FVec Ideal S128x1 .f32 := shapeCast S128x1 (multiReduction .add [1] S128 (mulf q q) 0x00000000#32 reduces_S128x32_S128 (.inl rfl) rfl) shapeCasts_S128_S128x1
  have a : FVec Ideal S128x128 .f32 := subf (mulf (broadcast S128x128 (Scalar.ofBits .f32 0x40000000#32)) g) (broadcastTo S128x128 r broadcasts_S128x1_S128x128)
  have b : FVec Ideal S128x128 .f32 := subf a (broadcastTo S128x128 (transpose S1x128 [1, 0] r transposes_S128x1_p1_0_S1x128) broadcasts_S1x128_S128x128)
  select k0_pay5 (broadcast S128x128 (Named.named κ "neg" 0xFF61B1E6#32)) b

theorem pdOf_apply (p : FVec Ideal S32x128 .f32) (n m : Fin 128) :
    pdOf p (ix2 n m) = if n = m then ⊥ else
      Ideal.ofBits .f32 0x40000000#32 * (∑ c : Fin 32, p (ix2 c n) * p (ix2 c m)) - (∑ c : Fin 32, p (ix2 c n) * p (ix2 c n))
        - (∑ c : Fin 32, p (ix2 c m) * p (ix2 c m)) := by
  pointwise [pdOf, k0_pay5]
  rw [named_neg, select_eq_iff _ _ _ _ (diag_bit n m)]

/-- Channels by points of cloud `k` of a block. -/
def chan (x : FVec Ideal S8x32x128 .f32) (k : ℕ) (h : S8x32x128.Slices ![k, 0, 0] S1x32x128) : FVec Ideal S32x128 .f32 :=
  shapeCast S32x128 (extractStridedSlice S1x32x128 ![k, 0, 0] x h) shapeCasts_S1x32x128_S32x128

theorem chan_apply (x : FVec Ideal S8x32x128 .f32) (i : Fin 8) (h : S8x32x128.Slices ![i.val, 0, 0] S1x32x128)
    (c : Fin 32) (n : Fin 128) : chan x i.val h (ix2 c n) = x (ix3 i c n) := by
  pointwise [chan]

/-- The distance tables of a block's clouds, one under the other. -/
def allPd (x : FVec Ideal S8x32x128 .f32) : FVec Ideal S1024x128 .f32 :=
  concatenate S1024x128 0 [⟨S128x128, pdOf (chan x 0 slices_S8x32x128_o0_0_0_S1x32x128)⟩,
    ⟨S128x128, pdOf (chan x 1 slices_S8x32x128_o1_0_0_S1x32x128)⟩,
    ⟨S128x128, pdOf (chan x 2 slices_S8x32x128_o2_0_0_S1x32x128)⟩,
    ⟨S128x128, pdOf (chan x 3 slices_S8x32x128_o3_0_0_S1x32x128)⟩,
    ⟨S128x128, pdOf (chan x 4 slices_S8x32x128_o4_0_0_S1x32x128)⟩,
    ⟨S128x128, pdOf (chan x 5 slices_S8x32x128_o5_0_0_S1x32x128)⟩,
    ⟨S128x128, pdOf (chan x 6 slices_S8x32x128_o6_0_0_S1x32x128)⟩,
    ⟨S128x128, pdOf (chan x 7 slices_S8x32x128_o7_0_0_S1x32x128)⟩]
    concatenates_S128x128_S128x128_S128x128_S128x128_S128x128_S128x128_S128x128_S128x128_S1024x128_d0

theorem slices_cloud (i : Fin 8) : S8x32x128.Slices ![i.val, 0, 0] S1x32x128 := by revert i; decide

theorem allPd_apply (x : FVec Ideal S8x32x128 .f32) (i : Fin 8) (n m : Fin 128) (h : S8x32x128.Slices ![i.val, 0, 0] S1x32x128) :
    allPd x (ix2 ⟨128 * i.val + n.val, by omega⟩ m) = pdOf (chan x i.val h) (ix2 n m) := by
  unfold allPd
  pointwise []
  exact Ladder.eight (fun (j : Fin 8) n => pdOf (chan x j.val (slices_cloud j)) (ix2 n m)) i n _ rfl (by omega)

/-- Where a row's largest entries are. -/
def selOf (q : FVec Ideal S1024x128 .f32) : IVec S1024x128 1 :=
  cmpf .oge q (broadcastTo S1024x128 (shapeCast S1024x1 (multiReduction .maximumf [1] S1024 q 0xFF800000#32 reduces_S1024x128_S1024 (.inl rfl) rfl) shapeCasts_S1024_S1024x1) broadcasts_S1024x1_S1024x128)

theorem selOf_apply (q : FVec Ideal S1024x128 .f32) (r : Fin 1024) (m : Fin 128) :
    selOf q (ix2 r m) = BitVec.ofBool (decide (∀ c : Fin 128, q (ix2 r c) ≤ q (ix2 r m))) := by
  pointwise [selOf]
  simp only [fold_le]

/-- The tables after `j` rounds of taking the largest entries away. -/
def rounds (q : FVec Ideal S1024x128 .f32) : ℕ → FVec Ideal S1024x128 .f32
  | 0 => q
  | j + 1 => select (selOf (rounds q j)) (broadcast S1024x128 (Named.named κ "neg" 0xFF61B1E6#32)) (rounds q j)

theorem rounds_succ_apply (q : FVec Ideal S1024x128 .f32) (j : ℕ) (r : Fin 1024) (m : Fin 128) :
    rounds q (j + 1) (ix2 r m) = if ∀ c : Fin 128, rounds q j (ix2 r c) ≤ rounds q j (ix2 r m) then ⊥ else rounds q j (ix2 r m) := by
  rw [rounds]
  pointwise []
  rw [selOf_apply, named_neg, select_eq_iff _ _ _ _ (ofBool_bit _)]

/-- One round's choice for cloud `k` as numbers 0 and 1. -/
def bitsOf (s : IVec S1024x128 1) (k : ℕ) (h : S1024x128.Slices ![k, 0] S128x128) : FVec Ideal S128x128 .f32 :=
  sitofp .f32 (extui 32 (extractStridedSlice S128x128 ![k, 0] s h) natLt_1_32)

theorem bitsOf_apply (s : IVec S1024x128 1) (i : Fin 8) (h : S1024x128.Slices ![128 * i.val, 0] S128x128)
    (n m : Fin 128) : bitsOf s (128 * i.val) h (ix2 n m) = if s (ix2 ⟨128 * i.val + n.val, by omega⟩ m) = 1#1 then 1 else 0 := by
  pointwise [bitsOf]
  exact bit_num _

/-- The seven rounds' choices for one cloud, one under the other. -/
def hot (s : Fin 7 → IVec S1024x128 1) (k : ℕ) (h : S1024x128.Slices ![k, 0] S128x128) : FVec Ideal S896x128 .f32 :=
  concatenate S896x128 0 [⟨S128x128, bitsOf (s 0) k h⟩, ⟨S128x128, bitsOf (s 1) k h⟩, ⟨S128x128, bitsOf (s 2) k h⟩,
    ⟨S128x128, bitsOf (s 3) k h⟩, ⟨S128x128, bitsOf (s 4) k h⟩, ⟨S128x128, bitsOf (s 5) k h⟩, ⟨S128x128, bitsOf (s 6) k h⟩]
    concatenates_S128x128_S128x128_S128x128_S128x128_S128x128_S128x128_S128x128_S896x128_d0

theorem hot_apply (s : Fin 7 → IVec S1024x128 1) (k : ℕ) (h : S1024x128.Slices ![k, 0] S128x128) (j : Fin 7) (n m : Fin 128) :
    hot s k h (ix2 ⟨128 * j.val + n.val, by omega⟩ m) = bitsOf (s j) k h (ix2 n m) := by
  unfold hot
  pointwise []
  exact Ladder.seven (fun (j : Fin 7) n => bitsOf (s j) k h (ix2 n m)) j n _ rfl (by omega)

/-- Points by channels of cloud `k` of a block. -/
def rowsOf (x : FVec Ideal S8x128x32 .f32) (k : ℕ) (h : S8x128x32.Slices ![k, 0, 0] S1x128x32) : FVec Ideal S128x32 .f32 :=
  shapeCast S128x32 (extractStridedSlice S1x128x32 ![k, 0, 0] x h) shapeCasts_S1x128x32_S128x32

/-- The first edge product of one cloud. -/
def edgeOf (f : FVec Ideal S128x32 .f32) (a b : FVec Ideal S64x32 .f32) (o : FVec Ideal S896x128 .f32) : FVec Ideal S896x64 .f32 :=
  have y : FVec Ideal S128x64 .f32 := matmul dot_S128x32_S64x32_S128x64_1_1_0_0_n_n none f a (constant S128x64 .f32 0x00000000#32)
  have z : FVec Ideal S128x64 .f32 := matmul dot_S128x32_S64x32_S128x64_1_1_0_0_n_n none f b (constant S128x64 .f32 0x00000000#32)
  addf (matmul dot_S896x128_S128x64_S896x64_1_0_0_1_n_n none o z (constant S896x64 .f32 0x00000000#32))
    (concatenate S896x64 0 [⟨S128x64, y⟩, ⟨S128x64, y⟩, ⟨S128x64, y⟩, ⟨S128x64, y⟩, ⟨S128x64, y⟩, ⟨S128x64, y⟩, ⟨S128x64, y⟩]
      concatenates_S128x64_S128x64_S128x64_S128x64_S128x64_S128x64_S128x64_S896x64_d0)

theorem edgeOf_apply (f : FVec Ideal S128x32 .f32) (a b : FVec Ideal S64x32 .f32) (w : FVec Ideal S896x128 .f32)
    (j : Fin 7) (n : Fin 128) (o : Fin 64) :
    edgeOf f a b w (ix2 ⟨128 * j.val + n.val, by omega⟩ o) =
      (∑ m : Fin 128, w (ix2 ⟨128 * j.val + n.val, by omega⟩ m) * ∑ c : Fin 32, f (ix2 m c) * b (ix2 o c))
        + ∑ c : Fin 32, f (ix2 n c) * a (ix2 o c) := by
  unfold edgeOf
  pointwise []
  congr 1
  exact Ladder.seven (fun (_ : Fin 7) n => ∑ x, f (ix2 n x) * a (ix2 o x)) j n _ rfl (by omega)

end Cert.KernelIdeal.Pieces

end

end
-- ==== Proof.Body.lean ====
/- The body's whole result as the pieces composed, and read at an index. -/
module

public import proofs.«01_k».proof.Proof.Gen.KernelIdeal.Frame
public import proofs.«01_k».proof.Proof.Pieces

@[expose] public section

set_option maxRecDepth 16384

noncomputable section

namespace Cert.KernelIdeal.Pieces

open Cert.KernelIdeal Cert.KernelIdeal.Gen Idealize.ShloMosaic

/-- A batch norm over all edge rows of a block, then the positive part. -/
def bnRelu (y : FVec Ideal S7168x64 .f32) (s ss g b : FVec Ideal S1x64 .f32) : FVec Ideal S7168x64 .f32 :=
  have cnt : FVec Ideal S64 .f32 := broadcast S64 (Scalar.ofBits .f32 0x48600000#32)
  have m : FVec Ideal S64 .f32 := divf (shapeCast S64 s shapeCasts_S1x64_S64) cnt
  have v : FVec Ideal S64 .f32 := subf (divf (shapeCast S64 ss shapeCasts_S1x64_S64) cnt) (mulf m m)
  have k : FVec Ideal S64 .f32 := mulf (shapeCast S64 g shapeCasts_S1x64_S64) (rsqrt (addf v (broadcast S64 (Scalar.ofBits .f32 0x3727C5AC#32))))
  have t : FVec Ideal S64 .f32 := subf (shapeCast S64 b shapeCasts_S1x64_S64) (mulf m k)
  maximumf (addf (mulf y (broadcastTo S7168x64 (shapeCast S1x64 k shapeCasts_S64_S1x64) broadcasts_S1x64_S7168x64))
    (broadcastTo S7168x64 (shapeCast S1x64 t shapeCasts_S64_S1x64) broadcasts_S1x64_S7168x64)) (broadcast S7168x64 (Scalar.ofBits .f32 0x00000000#32))

theorem bnRelu_apply (y : FVec Ideal S7168x64 .f32) (s ss g b : FVec Ideal S1x64 .f32) (r : Fin 7168) (o : Fin 64) :
    bnRelu y s ss g b (ix2 r o) = max (Net.kbn (Ideal.ofBits .f32 0x48600000#32) (Ideal.ofBits .f32 0x3727C5AC#32)
      (s (ix2 0 o)) (ss (ix2 0 o)) (g (ix2 0 o)) (b (ix2 0 o)) (y (ix2 r o))) 0 := by
  pointwise [bnRelu]
  rfl

/-- An edge layer's product with its weights. -/
def layer (y : FVec Ideal S7168x64 .f32) (w : FVec Ideal S64x64 .f32) : FVec Ideal S7168x64 .f32 :=
  matmul dot_S7168x64_S64x64_S7168x64_1_1_0_0_n_n none y w (constant S7168x64 .f32 0x00000000#32)

theorem layer_apply (y : FVec Ideal S7168x64 .f32) (w : FVec Ideal S64x64 .f32) (r : Fin 7168) (o : Fin 64) :
    layer y w (ix2 r o) = ∑ c : Fin 64, y (ix2 r c) * w (ix2 o c) := by
  pointwise [layer]

/-- The sum over the seven rounds. -/
def pool (y : FVec Ideal S7168x64 .f32) : FVec Ideal S8x128x64 .f32 :=
  multiReduction .add [1] S8x128x64 (shapeCast S8x7x128x64 y shapeCasts_S7168x64_S8x7x128x64) 0x00000000#32 reduces_S8x7x128x64_S8x128x64 (.inl rfl) rfl

theorem pool_apply (y : FVec Ideal S7168x64 .f32) (i : Fin 8) (n : Fin 128) (o : Fin 64) :
    pool y (ix3 i n o) = ∑ j : Fin 7, y (ix2 ⟨896 * i.val + (128 * j.val + n.val), by omega⟩ o) := by
  pointwise [pool]
  refine Finset.sum_congr rfl fun j _ => ?_
  congr 2
  exact Fin.ext (by dsimp; omega)

/-- The seven rounds' choices. -/
def sels (q : FVec Ideal S1024x128 .f32) (j : Fin 7) : IVec S1024x128 1 := selOf (rounds q j.val)

/-- The first edge product of a block's clouds, one under the other. -/
def allEdges (v : FVec Ideal S1024x32 .f32) (w : FVec Ideal S64x64 .f32) (q : FVec Ideal S1024x128 .f32) : FVec Ideal S7168x64 .f32 :=
  concatenate S7168x64 0 [
    ⟨S896x64, edgeOf (rowsOf (k0_pay60 v) 0 slices_S8x128x32_o0_0_0_S1x128x32) (k0_pay61 w) (k0_pay62 w) (hot (sels q) 0 slices_S1024x128_o0_0_S128x128)⟩,
    ⟨S896x64, edgeOf (rowsOf (k0_pay60 v) 1 slices_S8x128x32_o1_0_0_S1x128x32) (k0_pay61 w) (k0_pay62 w) (hot (sels q) 128 slices_S1024x128_o128_0_S128x128)⟩,
    ⟨S896x64, edgeOf (rowsOf (k0_pay60 v) 2 slices_S8x128x32_o2_0_0_S1x128x32) (k0_pay61 w) (k0_pay62 w) (hot (sels q) 256 slices_S1024x128_o256_0_S128x128)⟩,
    ⟨S896x64, edgeOf (rowsOf (k0_pay60 v) 3 slices_S8x128x32_o3_0_0_S1x128x32) (k0_pay61 w) (k0_pay62 w) (hot (sels q) 384 slices_S1024x128_o384_0_S128x128)⟩,
    ⟨S896x64, edgeOf (rowsOf (k0_pay60 v) 4 slices_S8x128x32_o4_0_0_S1x128x32) (k0_pay61 w) (k0_pay62 w) (hot (sels q) 512 slices_S1024x128_o512_0_S128x128)⟩,
    ⟨S896x64, edgeOf (rowsOf (k0_pay60 v) 5 slices_S8x128x32_o5_0_0_S1x128x32) (k0_pay61 w) (k0_pay62 w) (hot (sels q) 640 slices_S1024x128_o640_0_S128x128)⟩,
    ⟨S896x64, edgeOf (rowsOf (k0_pay60 v) 6 slices_S8x128x32_o6_0_0_S1x128x32) (k0_pay61 w) (k0_pay62 w) (hot (sels q) 768 slices_S1024x128_o768_0_S128x128)⟩,
    ⟨S896x64, edgeOf (rowsOf (k0_pay60 v) 7 slices_S8x128x32_o7_0_0_S1x128x32) (k0_pay61 w) (k0_pay62 w) (hot (sels q) 896 slices_S1024x128_o896_0_S128x128)⟩]
    concatenates_S896x64_S896x64_S896x64_S896x64_S896x64_S896x64_S896x64_S896x64_S7168x64_d0

theorem slices_rows (i : Fin 8) : S8x128x32.Slices ![i.val, 0, 0] S1x128x32 := by revert i; decide

theorem slices_table (i : Fin 8) : S1024x128.Slices ![128 * i.val, 0] S128x128 := by revert i; decide

theorem allEdges_apply (v : FVec Ideal S1024x32 .f32) (w : FVec Ideal S64x64 .f32) (q : FVec Ideal S1024x128 .f32)
    (i : Fin 8) (r : Fin 896) (o : Fin 64) :
    allEdges v w q (ix2 ⟨896 * i.val + r.val, by omega⟩ o) =
      edgeOf (rowsOf (k0_pay60 v) i.val (slices_rows i)) (k0_pay61 w) (k0_pay62 w) (hot (sels q) (128 * i.val) (slices_table i)) (ix2 r o) := by
  unfold allEdges
  pointwise []
  exact Ladder.eight (fun (i : Fin 8) r => edgeOf (rowsOf (k0_pay60 v) i.val (slices_rows i)) (k0_pay61 w) (k0_pay62 w)
    (hot (sels q) (128 * i.val) (slices_table i)) (ix2 r o)) i r _ rfl (by omega)

/-- The body's result as the pieces composed, from what it loads. -/
def whole (v0 v1 : FVec Ideal S8x32x128 .f32) (w : FVec Ideal S64x32 .f32) (w0 w1 w2 : FVec Ideal S64x64 .f32) (a g : Fin 8 → FVec Ideal S1x64 .f32) :
    FVec Ideal S8x64x128 .f32 :=
  have y0 : FVec Ideal S7168x64 .f32 := bnRelu (allEdges (k0_pay3 v0) w0 (allPd (k0_pay4 v0 v1))) (a 2) (a 3) (g 0) (g 1)
  have y1 : FVec Ideal S7168x64 .f32 := bnRelu (layer y0 w1) (a 4) (a 5) (g 2) (g 3)
  have y2 : FVec Ideal S7168x64 .f32 := bnRelu (layer y1 w2) (a 6) (a 7) (g 4) (g 5)
  k0_pay1 (k0_pay2 v1) (k0_pay77 (k0_pay3 v0) (pool y2) (Scalar.ofBits .f32 0x40E00000#32) (a 0) (a 1) (g 6) (g 7) w)

/-! ### The printed steps are the pieces -/

section steps

variable (a : IVec S128x128 1) (b c d e f g h i : FVec Ideal S128x128 .f32) (j : FVec Ideal S128x1 .f32)
variable (s0 s1 s2 s3 s4 s5 s6 : IVec S1024x128 1) (q : FVec Ideal S1024x128 .f32)
variable (v : FVec Ideal S1024x32 .f32) (w : FVec Ideal S64x64 .f32)
theorem sel0_eq : k0_pay26 a b c d e f g h i j = sels (k0_pay25 a b c d e f g h i j) 0 := rfl
theorem sel1_eq : k0_pay28 a b c d e f g h i j = sels (k0_pay25 a b c d e f g h i j) 1 := rfl
theorem sel2_eq : k0_pay30 a b c d e f g h i j = sels (k0_pay25 a b c d e f g h i j) 2 := rfl
theorem sel3_eq : k0_pay32 a b c d e f g h i j = sels (k0_pay25 a b c d e f g h i j) 3 := rfl
theorem sel4_eq : k0_pay34 a b c d e f g h i j = sels (k0_pay25 a b c d e f g h i j) 4 := rfl
theorem sel5_eq : k0_pay36 a b c d e f g h i j = sels (k0_pay25 a b c d e f g h i j) 5 := rfl
theorem rounds6_eq : k0_pay37 a b c d e f g h i j = rounds (k0_pay25 a b c d e f g h i j) 6 := rfl
theorem sel6_eq : k0_pay38 (rounds q 6) = sels q 6 := rfl
theorem table_eq (v0 v1 : FVec Ideal S8x32x128 .f32) :
    k0_pay25 k0_pay5 (k0_pay6 v0 v1) (k0_pay11 k0_pay5 (k0_pay9 v0 v1) (k0_pay10 v0 v1)) (k0_pay12 (k0_pay4 v0 v1) k0_pay5)
      (k0_pay13 (k0_pay4 v0 v1) k0_pay5) (k0_pay18 k0_pay5 (k0_pay16 (k0_pay4 v0 v1)) (k0_pay17 (k0_pay4 v0 v1)))
      (k0_pay19 (k0_pay4 v0 v1) k0_pay5) (k0_pay20 (k0_pay4 v0 v1) k0_pay5) (k0_pay23 (k0_pay4 v0 v1)) (k0_pay24 (k0_pay4 v0 v1))
      = allPd (k0_pay4 v0 v1) := rfl
theorem hot0_eq : k0_pay39 (F := Ideal) (sels q 0) (sels q 1) (sels q 2) (sels q 3) (sels q 4) (sels q 5) (rounds q 6) = hot (sels q) 0 slices_S1024x128_o0_0_S128x128 := rfl
theorem hot1_eq : k0_pay40 (F := Ideal) (sels q 0) (sels q 1) (sels q 2) (sels q 3) (sels q 4) (sels q 5) (rounds q 6) = hot (sels q) 128 slices_S1024x128_o128_0_S128x128 := rfl
theorem hot2_eq : k0_pay45 (F := Ideal) (sels q 4) (sels q 5) (sels q 6) (k0_pay41 (sels q 0)) (k0_pay42 (sels q 1)) (k0_pay43 (sels q 2)) (k0_pay44 (sels q 3)) = hot (sels q) 256 slices_S1024x128_o256_0_S128x128 := rfl
theorem hot3_eq : k0_pay46 (F := Ideal) (sels q 0) (sels q 1) (sels q 2) (sels q 3) (sels q 4) (sels q 5) (sels q 6) = hot (sels q) 384 slices_S1024x128_o384_0_S128x128 := rfl
theorem hot4_eq : k0_pay47 (F := Ideal) (sels q 0) (sels q 1) (sels q 2) (sels q 3) (sels q 4) (sels q 5) (sels q 6) = hot (sels q) 512 slices_S1024x128_o512_0_S128x128 := rfl
theorem hot5_eq : k0_pay50 (F := Ideal) (sels q 2) (sels q 3) (sels q 4) (sels q 5) (sels q 6) (k0_pay48 (sels q 0)) (k0_pay49 (sels q 1)) = hot (sels q) 640 slices_S1024x128_o640_0_S128x128 := rfl
theorem hot6_eq : k0_pay51 (F := Ideal) (sels q 0) (sels q 1) (sels q 2) (sels q 3) (sels q 4) (sels q 5) (sels q 6) = hot (sels q) 768 slices_S1024x128_o768_0_S128x128 := rfl
theorem hot7_eq : k0_pay59 (F := Ideal) (k0_pay52 (sels q 0)) (k0_pay53 (sels q 1)) (k0_pay54 (sels q 2)) (k0_pay55 (sels q 3)) (k0_pay56 (sels q 4)) (k0_pay57 (sels q 5)) (k0_pay58 (sels q 6)) = hot (sels q) 896 slices_S1024x128_o896_0_S128x128 := rfl
theorem edge0_eq (o : FVec Ideal S896x128 .f32) : k0_pay63 v o w = edgeOf (rowsOf (k0_pay60 v) 0 slices_S8x128x32_o0_0_0_S1x128x32) (k0_pay61 w) (k0_pay62 w) o := rfl
theorem edge1_eq (o : FVec Ideal S896x128 .f32) : k0_pay64 v o w = edgeOf (rowsOf (k0_pay60 v) 1 slices_S8x128x32_o1_0_0_S1x128x32) (k0_pay61 w) (k0_pay62 w) o := rfl
theorem edge2_eq (o : FVec Ideal S896x128 .f32) : k0_pay65 v o w = edgeOf (rowsOf (k0_pay60 v) 2 slices_S8x128x32_o2_0_0_S1x128x32) (k0_pay61 w) (k0_pay62 w) o := rfl
theorem edge3_eq (o : FVec Ideal S896x128 .f32) : k0_pay66 v o w = edgeOf (rowsOf (k0_pay60 v) 3 slices_S8x128x32_o3_0_0_S1x128x32) (k0_pay61 w) (k0_pay62 w) o := rfl
theorem edges_eq : k0_pay68 (hot (sels q) 512 slices_S1024x128_o512_0_S128x128) (hot (sels q) 640 slices_S1024x128_o640_0_S128x128)
      (hot (sels q) 768 slices_S1024x128_o768_0_S128x128) (hot (sels q) 896 slices_S1024x128_o896_0_S128x128)
      (k0_pay60 v) (k0_pay61 w) (k0_pay62 w) (edgeOf (rowsOf (k0_pay60 v) 0 slices_S8x128x32_o0_0_0_S1x128x32) (k0_pay61 w) (k0_pay62 w) (hot (sels q) 0 slices_S1024x128_o0_0_S128x128)) (edgeOf (rowsOf (k0_pay60 v) 1 slices_S8x128x32_o1_0_0_S1x128x32) (k0_pay61 w) (k0_pay62 w) (hot (sels q) 128 slices_S1024x128_o128_0_S128x128)) (edgeOf (rowsOf (k0_pay60 v) 2 slices_S8x128x32_o2_0_0_S1x128x32) (k0_pay61 w) (k0_pay62 w) (hot (sels q) 256 slices_S1024x128_o256_0_S128x128)) (edgeOf (rowsOf (k0_pay60 v) 3 slices_S8x128x32_o3_0_0_S1x128x32) (k0_pay61 w) (k0_pay62 w) (hot (sels q) 384 slices_S1024x128_o384_0_S128x128))
      (k0_pay67 v) (constant S128x64 .f32 0x00000000#32) = allEdges v w q := rfl
theorem layer1_eq (y : FVec Ideal S7168x64 .f32) (s ss g b : FVec Ideal S1x64 .f32) :
    k0_pay72 y (k0_pay69 s) (k0_pay70 ss) (k0_pay71 g) b w = layer (bnRelu y s ss g b) w := rfl
theorem layer2_eq (y : FVec Ideal S7168x64 .f32) (s ss g b s' ss' g' b' : FVec Ideal S1x64 .f32) :
    k0_pay76 y (k0_pay73 b) (k0_pay74 s) (k0_pay75 s ss g) w s' ss' g' b' = pool (bnRelu (layer (bnRelu y s ss g b) w) s' ss' g' b') := rfl

end steps

theorem out_eq (x0 x1 : Vec Ideal S8x32x128 .f32) (x2 : Vec Ideal S64x32 .f32) (x3 : Vec Ideal S192x64 .f32) (x4 x5 : Vec Ideal S8x64 .f32) :
    out0_6 (F := Ideal) x0 x1 x2 x3 x4 x5 = View.canon [⟨r0_13, whole (View.ld x0 r0_0) (View.ld x1 r0_0) (View.ld x2 r0_12)
      (View.ld x3 r0_1) (View.ld x3 r0_6) (View.ld x3 r0_9)
      ![View.ld x5 r0_4, View.ld x5 r0_5, View.ld x5 r0_2, View.ld x5 r0_3, View.ld x5 r0_7, View.ld x5 r0_8, View.ld x5 r0_10, View.ld x5 r0_11]
      ![View.ld x4 r0_4, View.ld x4 r0_5, View.ld x4 r0_2, View.ld x4 r0_3, View.ld x4 r0_7, View.ld x4 r0_8, View.ld x4 r0_10, View.ld x4 r0_11]⟩] := by
  unfold_out out0_6
  simp only [sel0_eq, sel1_eq, sel2_eq, sel3_eq, sel4_eq, sel5_eq, rounds6_eq, table_eq, sel6_eq, hot0_eq, hot1_eq, hot2_eq, hot3_eq, hot4_eq,
    hot5_eq, hot6_eq, hot7_eq, edge0_eq, edge1_eq, edge2_eq, edge3_eq, edges_eq, layer1_eq, layer2_eq]
  rfl

end Cert.KernelIdeal.Pieces

end

end
-- ==== Proof.KVal.lean ====
/- The body's whole result read at an index. -/
module

public import proofs.«01_k».proof.Proof.Body

@[expose] public section

set_option maxRecDepth 16384

noncomputable section

namespace Cert.KernelIdeal.Pieces

open Cert.KernelIdeal Cert.KernelIdeal.Gen Idealize.ShloMosaic

/-- Whether a number is not 0, as a number. -/
theorem not_zero_num (x : EReal) :
    (FloatOps.sitofp .f32 (BitVec.setWidth 32 (BitVec.ofBool (decide (x ≠ 0)))) : Ideal .f32) = if x = 0 then 0 else 1 := by
  rw [bit_num]
  by_cases h : x = 0 <;> simp [h]

theorem mask_apply (v1 : FVec Ideal S8x32x128 .f32) (i : Fin 8) (n : Fin 128) :
    (k0_pay2 v1 (ix3 i 0 n) : Ideal .f32) = Net.kmask (fun c n => v1 (ix3 i c n)) n := by
  pointwise [k0_pay2]
  exact not_zero_num _

theorem pts_apply (v0 v1 : FVec Ideal S8x32x128 .f32) (i : Fin 8) (c : Fin 32) (n : Fin 128) :
    (k0_pay4 v0 v1 (ix3 i c n) : Ideal .f32) = Net.kpts (fun c n => v0 (ix3 i c n)) (Net.kmask fun c n => v1 (ix3 i c n)) c n := by
  pointwise [k0_pay4]
  rw [mask_apply]
  rfl

theorem rows_apply (v0 : FVec Ideal S8x32x128 .f32) (i : Fin 8) (n : Fin 128) (c : Fin 32) :
    rowsOf (k0_pay60 (k0_pay3 v0)) i.val (slices_rows i) (ix2 n c) = v0 (ix3 i c n) := by
  pointwise [rowsOf, k0_pay60, k0_pay3]

theorem tail_apply (v0 v1 : FVec Ideal S8x32x128 .f32) (w : FVec Ideal S64x32 .f32) (y : FVec Ideal S8x128x64 .f32)
    (s ss g b : FVec Ideal S1x64 .f32) (i : Fin 8) (o : Fin 64) (n : Fin 128) :
    (k0_pay1 (k0_pay2 v1) (k0_pay77 (k0_pay3 v0) y (Scalar.ofBits .f32 0x40E00000#32) s ss g b w) (ix3 i o n) : Ideal .f32)
    = max (Net.kbn (Ideal.ofBits .f32 0x47000000#32) (Ideal.ofBits .f32 0x3727C5AC#32) (s (ix2 0 o)) (ss (ix2 0 o)) (g (ix2 0 o)) (b (ix2 0 o))
        (∑ c : Fin 32, v0 (ix3 i c n) * w (ix2 o c)) + Ideal.div (y (ix3 i n o)) (Ideal.ofBits .f32 0x40E00000#32)) 0
      * Net.kmask (fun c n => v1 (ix3 i c n)) n := by
  pointwise [k0_pay1, k0_pay77, k0_pay3]
  rw [mask_apply]
  rfl

/-- The tables of a block after `j` rounds, row by row. -/
theorem rounds_apply (p : FVec Ideal S8x32x128 .f32) (i : Fin 8) (n : Fin 128) (j : ℕ) (m : Fin 128) :
    rounds (allPd p) j (ix2 ⟨128 * i.val + n.val, by omega⟩ m) = Net.rnd (Net.kpd (fun c n => p (ix3 i c n)) n) n j m := by
  induction j generalizing m with
  | zero =>
    rw [rounds, allPd_apply p i n m (slices_cloud i), pdOf_apply]
    simp only [chan_apply]
    rfl
  | succ j ih =>
    rw [rounds_succ_apply]
    simp only [ih]
    rfl

/-- One cloud's choices of round `j`. -/
theorem choice_apply (p : FVec Ideal S8x32x128 .f32) (i : Fin 8) (n : Fin 128) (j : Fin 7) (m : Fin 128) :
    hot (sels (allPd p)) (128 * i.val) (slices_table i) (ix2 ⟨128 * j.val + n.val, by omega⟩ m)
      = Net.kbit (fun c n => p (ix3 i c n)) n j.val m := by
  rw [hot_apply, bitsOf_apply, sels, selOf_apply]
  simp only [ofBool_bit, rounds_apply]
  rfl

/-- The first edge product of a block. -/
theorem edges_apply (v0 p : FVec Ideal S8x32x128 .f32) (w : FVec Ideal S64x64 .f32) (i : Fin 8) (j : Fin 7) (n : Fin 128) (o : Fin 64) :
    allEdges (k0_pay3 v0) w (allPd p) (ix2 ⟨896 * i.val + (128 * j.val + n.val), by omega⟩ o)
      = Net.kedge (fun c n => v0 (ix3 i c n)) (fun c n => p (ix3 i c n)) (fun o (c : Fin 32) => w (ix2 o ⟨c.val, by omega⟩))
          (fun o (c : Fin 32) => w (ix2 o ⟨32 + c.val, by omega⟩)) n j.val o := by
  rw [allEdges_apply (k0_pay3 v0) w (allPd p) i ⟨128 * j.val + n.val, by omega⟩ o, edgeOf_apply]
  simp only [choice_apply, rows_apply]
  pointwise [k0_pay61, k0_pay62]
  rfl

/-- The body's result at an index, as a function of the loaded vectors' entries. -/
theorem whole_apply (v0 v1 : FVec Ideal S8x32x128 .f32) (w : FVec Ideal S64x32 .f32) (w0 w1 w2 : FVec Ideal S64x64 .f32)
    (a g : Fin 8 → FVec Ideal S1x64 .f32) (i : Fin 8) (o : Fin 64) (n : Fin 128) :
    whole v0 v1 w w0 w1 w2 a g (ix3 i o n) = Net.kout
      (fun o => Net.kbn (Ideal.ofBits .f32 0x47000000#32) (Ideal.ofBits .f32 0x3727C5AC#32) (a 0 (ix2 0 o)) (a 1 (ix2 0 o)) (g 6 (ix2 0 o)) (g 7 (ix2 0 o)))
      (fun l o => Net.kbn (Ideal.ofBits .f32 0x48600000#32) (Ideal.ofBits .f32 0x3727C5AC#32)
        (a ⟨2 * l.val + 2, by omega⟩ (ix2 0 o)) (a ⟨2 * l.val + 3, by omega⟩ (ix2 0 o)) (g ⟨2 * l.val, by omega⟩ (ix2 0 o)) (g ⟨2 * l.val + 1, by omega⟩ (ix2 0 o)))
      (fun o c => w (ix2 o c)) (fun o (c : Fin 32) => w0 (ix2 o ⟨c.val, by omega⟩)) (fun o (c : Fin 32) => w0 (ix2 o ⟨32 + c.val, by omega⟩))
      (fun o c => w1 (ix2 o c)) (fun o c => w2 (ix2 o c)) (fun c n => v0 (ix3 i c n)) (Net.kmask fun c n => v1 (ix3 i c n)) o n := by
  unfold whole
  rw [tail_apply, pool_apply]
  simp only [bnRelu_apply, layer_apply, edges_apply, pts_apply]
  rfl

end Cert.KernelIdeal.Pieces

end

end
-- ==== Proof.Model.lean ====
/- The network's layer as written in the reference, and its agreement with the kernel's way of computing it. -/
module

public import Idealize.ShloMosaic.Lib.SortFacts
public import Idealize.ShloMosaic.Lib.IdealHost
public import proofs.«01_k».proof.Proof.Net

@[expose] public section

noncomputable section

namespace Cert.Net

open Idealize.ShloMosaic

/-! ### Constants -/

theorem two_bits : Ideal.ofBits .f32 0x40000000#32 = ((2 : ℝ) : EReal) := by
  simp [Ideal.ofBits, Ideal.ieee, -EReal.coe_mul]; norm_num

theorem neg_two_bits : Ideal.ofBits .f32 0xC0000000#32 = ((-2 : ℝ) : EReal) := by
  simp [Ideal.ofBits, Ideal.ieee, -EReal.coe_mul, -EReal.coe_neg]; norm_num

theorem seven_bits : Ideal.ofBits .f32 0x40E00000#32 = ((7 : ℝ) : EReal) := by
  simp [Ideal.ofBits, Ideal.ieee, -EReal.coe_mul]; norm_num

theorem cloud_bits : Ideal.ofBits .f32 0x47000000#32 = ((32768 : ℝ) : EReal) := by
  simp [Ideal.ofBits, Ideal.ieee, -EReal.coe_mul]; norm_num

theorem edge_bits : Ideal.ofBits .f32 0x48600000#32 = ((229376 : ℝ) : EReal) := by
  simp [Ideal.ofBits, Ideal.ieee, -EReal.coe_mul]; norm_num

theorem eps_fine : Fine (Ideal.ofBits .f32 0x3727C5AC#32) := by
  simp only [Ideal.ofBits, Ideal.ieee]
  rw [if_neg (by decide), if_neg (by decide)]
  exact Fine.coe _

theorem far_fine : Fine (Ideal.ofBits .f32 0x4E6E6B28#32) := by
  simp only [Ideal.ofBits, Ideal.ieee]
  rw [if_neg (by decide), if_neg (by decide)]
  exact Fine.coe _

/-! ### The sorted positions of a row -/

/-- Whether the entry at `k` comes before the entry at `k'` by size. -/
def before {N : ℕ} (r : Fin N → EReal) (k k' : Fin N) : Bool :=
  (FloatOps.cmpfTotal (F := Ideal) (φ := .f32) .gt (r k) (r k') : BitVec 1) == 1#1

theorem before_iff {N : ℕ} (r : Fin N → EReal) (k k' : Fin N) : before r k k' = true ↔ r k' < r k := by
  unfold before
  rw [beq_iff_eq]
  show BitVec.ofBool (decide (r k' < r k)) = 1#1 ↔ _
  by_cases h : r k' < r k <;> simp [h]

/-- The position of the `j`-th largest entry, equal entries in their order. -/
def order {N : ℕ} (r : Fin N → EReal) : Fin N → Fin N := sortedFrom (before r)

theorem order_sorted {N : ℕ} (r : Fin N → EReal) (i j : Fin N) (h : i < j) : ¬ r (order r i) < r (order r j) := by
  have := sortedFrom_noInversion (before r) (before r) (fun a b hab => ?_) (fun _ _ hab => hab) (fun a b c hab hbc => ?_) i j h
  · intro hlt
    rw [show before r (sortedFrom (before r) j) (sortedFrom (before r) i) = true from (before_iff r _ _).mpr hlt] at this
    exact Bool.noConfusion this
  · rw [← Bool.not_eq_true, before_iff]
    exact not_lt.mpr ((before_iff r a b).mp hab).le
  · rw [← Bool.not_eq_true, before_iff] at hab hbc ⊢
    exact not_lt.mpr (le_trans (not_lt.mp hab) (not_lt.mp hbc))

/-! ### The reference's layer -/

section reference

variable {C N O : ℕ}

/-- The reference's distance table. -/
def rpd (p : Fin C → Fin N → EReal) (n m : Fin N) : EReal :=
  -(∑ c, p c m * p c m) - Ideal.ofBits .f32 0xC0000000#32 * (∑ c, p c n * p c m) - (∑ c, p c n * p c n)

/-- The reference's first edge product, of point `n` with its neighbour `m`. -/
def redge (x : Fin C → Fin N → EReal) (wa wb : Fin O → Fin C → EReal) (n m : Fin N) (o : Fin O) : EReal :=
  (∑ c, x c n * wa o c) + ∑ c, (x c m - x c n) * wb o c

/-- The reference's result for output channel `o` of point `n`, with the point's seven neighbours. -/
def rout (bs : Fin O → EReal → EReal) (bn : Fin 3 → Fin O → EReal → EReal) (w wa wb : Fin O → Fin C → EReal)
    (w1 w2 : Fin O → Fin O → EReal) (x : Fin C → Fin N → EReal) (μ : Fin N → EReal) (near : Fin N → Fin 7 → Fin N)
    (o : Fin O) (n : Fin N) : EReal :=
  max (bs o (∑ c, x c n * w o c)
    + Ideal.div (∑ j : Fin 7, layers bn w1 w2 (redge x wa wb n (near n j)) o) (Ideal.ofBits .f32 0x40E00000#32)) 0 * μ n

end reference

section agree

variable {C N O : ℕ}

/-- Over real points the two distance tables are minus the squared distance. -/
theorem dist_eq (p : Fin C → Fin N → EReal) (hp : ∀ c n, Fine (p c n)) : ∃ p' : Fin C → Fin N → ℝ, ∀ n m,
    kpd p n m = ((-∑ c, (p' c n - p' c m) ^ 2 : ℝ) : EReal) ∧ rpd p n m = ((-∑ c, (p' c n - p' c m) ^ 2 : ℝ) : EReal) := by
  choose p' hp' using hp
  refine ⟨p', fun n m => ?_⟩
  have hs : ∀ n m, (∑ c, p c n * p c m) = ((∑ c, p' c n * p' c m : ℝ) : EReal) := fun n m => by
    rw [coe_sum]
    exact Finset.sum_congr rfl fun c _ => by rw [hp', hp', EReal.coe_mul]
  have hsq : (∑ c, (p' c n - p' c m) ^ 2 : ℝ) = (∑ c, p' c n * p' c n) + (∑ c, p' c m * p' c m) - 2 * ∑ c, p' c n * p' c m := by
    rw [Finset.mul_sum, ← Finset.sum_add_distrib, ← Finset.sum_sub_distrib]
    exact Finset.sum_congr rfl fun c _ => by ring
  constructor
  · rw [kpd, hs, hs, hs, two_bits, ← EReal.coe_mul, ← EReal.coe_sub, ← EReal.coe_sub, hsq]
    congr 1; ring
  · rw [rpd, hs, hs, hs, neg_two_bits, ← EReal.coe_mul, ← EReal.coe_neg, ← EReal.coe_sub, ← EReal.coe_sub, hsq]
    congr 1; ring

/-- Where the nine largest entries of the row of `n` are strictly separated, each round picks the neighbour
    that the sort puts next. -/
theorem kbit_eq (hN : 8 < N) (p : Fin C → Fin N → EReal) (hp : ∀ c n, Fine (p c n)) (n : Fin N)
    (hsep : ∀ (j : ℕ) (hj : j < 8), rpd p n (order (rpd p n) ⟨j + 1, by omega⟩) < rpd p n (order (rpd p n) ⟨j, by omega⟩))
    (f : Fin N → EReal) (j : Fin 7) :
    ∑ m, kbit p n j.val m * f m = f (order (rpd p n) ⟨1 + j.val, by omega⟩) := by
  obtain ⟨p', h⟩ := dist_eq p hp
  have hk : kpd p n = rpd p n := funext fun m => (h n m).1.trans (h n m).2.symm
  unfold kbit
  refine pick _ f _ fun m => ?_
  rw [hk, rnd_max 8 hN (rpd p n) (order (rpd p n)) n (sortedFrom_surjective _) (sortedFrom_injective _) (order_sorted _) hsep
    (fun m => ?_) (fun m => ?_) j.val (by omega) m]
  · simp only [Nat.add_comm]
  · rw [(h n m).2, (h n n).2, EReal.coe_le_coe_iff]
    simp only [sub_self, ne_eq, OfNat.ofNat_ne_zero, not_false_eq_true, zero_pow, Finset.sum_const_zero, neg_zero]
    exact neg_nonpos.mpr (Finset.sum_nonneg fun c _ => sq_nonneg _)
  · rw [(h n m).2]; exact EReal.coe_ne_bot _

/-- The two first edge products agree, and are real. -/
theorem kedge_eq {D : ℕ} (hN : 8 < N) (x : Fin C → Fin N → EReal) (p : Fin D → Fin N → EReal) (wa wb : Fin O → Fin C → EReal) (hx : ∀ c n, Fine (x c n))
    (hp : ∀ c n, Fine (p c n)) (ha : ∀ o c, Fine (wa o c)) (hb : ∀ o c, Fine (wb o c)) (n : Fin N)
    (hsep : ∀ (j : ℕ) (hj : j < 8), rpd p n (order (rpd p n) ⟨j + 1, by omega⟩) < rpd p n (order (rpd p n) ⟨j, by omega⟩))
    (j : Fin 7) (o : Fin O) :
    kedge x p wa wb n j.val o = redge x wa wb n (order (rpd p n) ⟨1 + j.val, by omega⟩) o
      ∧ Fine (redge x wa wb n (order (rpd p n) ⟨1 + j.val, by omega⟩) o) := by
  constructor
  · unfold kedge redge
    rw [kbit_eq hN p hp n hsep (fun m => ∑ c, x c m * wb o c) j,
      edge (fun c => x c n) (fun c => x c _) (wa o) (wb o) (fun c => hx c n) (fun c => hx c _) (ha o) (hb o)]
    simp only [mul_comm]
  · exact (Fine.sum _ _ fun c => (hx c n).mul (ha o c)).add
      (Fine.sum _ _ fun c => ((hx c _).sub (hx c n)).mul (hb o c))

/-- Layers whose batch norms agree on real entries agree. -/
theorem layers_eq (bk br : Fin 3 → Fin O → EReal → EReal) (hbn : ∀ l o x, Fine x → bk l o x = br l o x ∧ Fine (bk l o x))
    (w1 w2 : Fin O → Fin O → EReal) (h1 : ∀ o c, Fine (w1 o c)) (h2 : ∀ o c, Fine (w2 o c)) (y : Fin O → EReal)
    (hy : ∀ o, Fine (y o)) (o : Fin O) : layers bk w1 w2 y o = layers br w1 w2 y o := by
  unfold layers
  have e0 : ∀ d, bk 0 d (y d) = br 0 d (y d) := fun d => (hbn 0 d _ (hy d)).1
  have f0 : ∀ c, Fine (∑ d, max (bk 0 d (y d)) 0 * w1 c d) := fun c =>
    Fine.sum _ _ fun d => ((hbn 0 d _ (hy d)).2.max Fine.zero).mul (h1 c d)
  have f1 : Fine (∑ c, max (bk 1 c (∑ d, max (bk 0 d (y d)) 0 * w1 c d)) 0 * w2 o c) :=
    Fine.sum _ _ fun c => ((hbn 1 c _ (f0 c)).2.max Fine.zero).mul (h2 o c)
  rw [(hbn 2 o _ f1).1]
  simp only [← e0]
  simp only [(hbn 1 _ _ (f0 _)).1]

theorem kmask_cases (f : Fin C → Fin N → EReal) (n : Fin N) : kmask f n = 0 ∨ kmask f n = 1 := by
  unfold kmask; split
  · exact .inl rfl
  · exact .inr rfl

theorem kpts_fine (x : Fin C → Fin N → EReal) (hx : ∀ c n, Fine (x c n)) (μ : Fin N → EReal) (hμ : ∀ n, μ n = 0 ∨ μ n = 1)
    (c : Fin C) (n : Fin N) : Fine (kpts x μ c n) := by
  refine (hx c n).add ((Fine.one.sub ?_).mul far_fine)
  rcases hμ n with h | h <;> rw [h]
  · exact Fine.zero
  · exact Fine.one

/-- The kernel's result is the reference's. -/
theorem kout_eq (hN : 8 < N) (bsk bsr : Fin O → EReal → EReal) (bk br : Fin 3 → Fin O → EReal → EReal)
    (hbs : ∀ o x, Fine x → bsk o x = bsr o x) (hbn : ∀ l o x, Fine x → bk l o x = br l o x ∧ Fine (bk l o x))
    (w wa wb : Fin O → Fin C → EReal) (w1 w2 : Fin O → Fin O → EReal) (x : Fin C → Fin N → EReal) (μ : Fin N → EReal)
    (hμ : ∀ n, μ n = 0 ∨ μ n = 1) (hw : ∀ o c, Fine (w o c)) (ha : ∀ o c, Fine (wa o c)) (hb : ∀ o c, Fine (wb o c))
    (h1 : ∀ o c, Fine (w1 o c)) (h2 : ∀ o c, Fine (w2 o c)) (hx : ∀ c n, Fine (x c n)) (n : Fin N)
    (hsep : μ n = 0 ∨ ∀ (j : ℕ) (hj : j < 8), rpd (kpts x μ) n (order (rpd (kpts x μ) n) ⟨j + 1, by omega⟩)
      < rpd (kpts x μ) n (order (rpd (kpts x μ) n) ⟨j, by omega⟩)) (o : Fin O) :
    kout bsk bk w wa wb w1 w2 x μ o n
      = rout bsr br w wa wb w1 w2 x μ (fun n j => order (rpd (kpts x μ) n) ⟨1 + j.val, by omega⟩) o n := by
  unfold kout rout
  rcases hsep with h0 | hsep
  · rw [h0, mul_zero, mul_zero]
  · rw [hbs o _ (Fine.sum _ _ fun c => (hx c n).mul (hw o c))]
    congr 4
    refine Finset.sum_congr rfl fun j _ => ?_
    have he := fun o => kedge_eq hN x (kpts x μ) wa wb hx (kpts_fine x hx μ hμ) ha hb n hsep j o
    rw [funext fun o => (he o).1]
    exact layers_eq bk br hbn w1 w2 h1 h2 _ (fun o => (he o).2) o

end agree

end Cert.Net

end

end
-- ==== Proof.Near.lean ====
/- The reference's neighbour lists and the features it gathers along them. -/
module

public import proofs.«01_k».proof.Proof.Gen.ReferenceIdeal.Read
public import proofs.«01_k».proof.Proof.Model

@[expose] public section

set_option maxRecDepth 16384

noncomputable section

namespace Cert.ReferenceIdeal.Stages

open Cert.ReferenceIdeal Cert.ReferenceIdeal.Gen Cert.ReferenceIdeal.Read Idealize.ShloMosaic

/-- A gathered entry is the operand's at the batch and the position that the two index words name. -/
theorem gather_apply (x : FVec Ideal S256x128x32 .f32) (idx : IVec S256x128x7x2 32) (b : Fin 256) (n : Fin 128) (j : Fin 7)
    (c : Fin 32) (m : Fin 128) (h0 : (idx (ix4 b n j 0)).toInt.toNat = b.val) (h1 : (idx (ix4 b n j 1)).toInt.toNat = m.val) :
    Host.gather gather_S256x128x32_S256x128x7x2_S256x128x7x32_3_01_n_n_01_3_1132 x idx (ix4 b n j c) = x (ix3 b m c) := by
  unfold Host.gather
  congr 1
  funext a
  refine Fin.ext ?_
  match a with
  | ⟨0, _⟩ =>
    have hs : GatherDims.siIdx gather_S256x128x32_S256x128x7x2_S256x128x7x32_3_01_n_n_01_3_1132 (ix4 b n j c) ⟨0, by decide⟩ = ix4 b n j 0 :=
      funext fun a => Fin.ext (match a with | ⟨0, _⟩ => rfl | ⟨1, _⟩ => rfl | ⟨2, _⟩ => rfl | ⟨3, _⟩ => rfl)
    exact (congrArg (fun q => min (idx q).toInt.toNat 255 + 0 + 0) hs).trans (by simp only [h0]; show min b.val 255 + 0 + 0 = b.val; omega)
  | ⟨1, _⟩ =>
    have hs : GatherDims.siIdx gather_S256x128x32_S256x128x7x2_S256x128x7x32_3_01_n_n_01_3_1132 (ix4 b n j c) ⟨1, by decide⟩ = ix4 b n j 1 :=
      funext fun a => Fin.ext (match a with | ⟨0, _⟩ => rfl | ⟨1, _⟩ => rfl | ⟨2, _⟩ => rfl | ⟨3, _⟩ => rfl)
    exact (congrArg (fun q => min (idx q).toInt.toNat 127 + 0 + 0) hs).trans (by simp only [h1]; show min m.val 127 + 0 + 0 = m.val; omega)
  | ⟨2, _⟩ =>
    show 0 + 0 + c.val = c.val
    omega

/-- An index word that is not negative stays as it is. -/
theorem word_normal (k d : ℕ) (hk : k < 256) (w : BitVec 32) (hw : w = BitVec.ofNat 32 k) :
    (Scalar.select (IntOp.cmpi .slt w 0#32) (IntOp.addi w (BitVec.ofNat 32 d)) w).toInt.toNat = k := by
  subst hw
  have h : (BitVec.ofNat 32 k).toInt = k := by
    rw [BitVec.toInt_ofNat', Int.bmod_eq_of_le] <;> omega
  have hs : IntOp.cmpi .slt (BitVec.ofNat 32 k) 0#32 = 0#1 := by
    show BitVec.ofBool ((BitVec.ofNat 32 k).slt 0#32) = 0#1
    rw [BitVec.slt, h, decide_eq_false (by simp)]
    rfl
  rw [hs]
  show (BitVec.ofNat 32 k).toInt.toNat = k
  rw [h]; rfl

variable (x0 x1 : FVec Ideal S256x32x128 .f32)

/-- The neighbours of a point: the positions of its largest entries in the table, itself left out. -/
def near (b : Fin 256) (n : Fin 128) (j : Fin 7) : Fin 128 :=
  Net.order (fun m => (val_main_v24 (F := Ideal) x0 x1 (ix3 b n m) : Ideal .f32)) ⟨1 + j.val, by omega⟩

theorem along_eq (b : Fin 256) (n m k : Fin 128) : (ix3 b n m : S256x128x128.Idx).along 2 k = ix3 b n k := by
  funext a
  match a with
  | ⟨0, _⟩ => rfl
  | ⟨1, _⟩ => rfl
  | ⟨2, _⟩ => rfl

theorem indices_apply (b : Fin 256) (n : Fin 128) (j : Fin 7) :
    (val_main_v25 (F := Ideal) x0 x1 (ix3 b n j) : BitVec 32) = BitVec.ofNat 32 (near x0 x1 b n j).val := by
  pointwise [val_main_v25, val_main_indices, Host.topK, Host.sort2]
  simp only [along_eq]
  rfl

theorem gathered_apply (b : Fin 256) (n : Fin 128) (j : Fin 7) (c : Fin 32) :
    (val_main_v43 (F := Ideal) x0 x1 (ix4 b n j c) : Ideal .f32) = x0 (ix3 b c (near x0 x1 b n j)) := by
  unfold val_main_v43
  rw [gather_apply _ _ b n j c (near x0 x1 b n j)]
  · pointwise [val_main_v26]
  · pointwise [val_main_v42, val_main_v40, val_main_v39, val_main_v33, val_main_v32, val_main_v31, val_main_v30, val_main_v29, val_main_v28, val_main_v27, val_main_c, val_main_c_5]
    exact word_normal b.val 256 b.isLt _ rfl
  · pointwise [val_main_v42, val_main_v41, val_main_v38, val_main_v37, val_main_v36, val_main_v35, val_main_v34, val_main_c_6, val_main_c_7]
    exact word_normal _ 128 (by omega) _ (indices_apply x0 x1 b n j)

end Cert.ReferenceIdeal.Stages

end

end
-- ==== Proof.Stages.lean ====
/- The reference's stages read at an index. -/
module

public import proofs.«01_k».proof.Proof.Near

@[expose] public section

set_option maxRecDepth 16384

noncomputable section

namespace Cert.ReferenceIdeal.Stages

open Cert.ReferenceIdeal Cert.ReferenceIdeal.Gen Cert.ReferenceIdeal.Read Idealize.ShloMosaic

variable (x0 x1 : FVec Ideal S256x32x128 .f32) (x2 : FVec Ideal S64x32 .f32) (x3 : FVec Ideal S192x64 .f32) (x4 x5 : FVec Ideal S8x64 .f32)

/-- The points of batch element `b`, channel by channel. -/
def cloud (b : Fin 256) (c : Fin 32) (n : Fin 128) : EReal := x0 (ix3 b c n)

/-- The mask of batch element `b`. -/
def present (b : Fin 256) (n : Fin 128) : EReal := Net.kmask (fun c n => (x1 (ix3 b c n) : Ideal .f32)) n

/-- The number words of a truth value's negation and of the mask's complement agree. -/
theorem flip_num (t : Prop) [Decidable t] :
    (FloatOps.uitofp .f32 (BitVec.ofBool (decide ((if t then (0 : EReal) else 1) = 0))) : Ideal .f32) = 1 - (if t then (0 : EReal) else 1) := by
  by_cases h : t
  · simp only [if_pos h, decide_true, sub_zero]
    show (((1 : ℕ) : ℝ) : EReal) = 1
    norm_num
  · simp only [if_neg h, one_ne_zero, decide_false]
    show (((BitVec.ofBool false).toNat : ℝ) : EReal) = 1 - 1
    rw [← EReal.coe_one, ← EReal.coe_sub]
    norm_num

/-- The number word of a comparison with zero is the mask. -/
theorem mask_num (s : EReal) :
    (FloatOps.uitofp .f32 (BitVec.ofBool (decide (s ≠ 0))) : Ideal .f32) = if s = 0 then (0 : EReal) else 1 := by
  by_cases h : s = 0
  · simp only [h, ne_eq, not_true_eq_false, decide_false, if_true]
    show (((BitVec.ofBool false).toNat : ℝ) : EReal) = 0
    norm_num
  · simp only [ne_eq, h, not_false_eq_true, decide_true, if_false]
    show (((1 : ℕ) : ℝ) : EReal) = 1
    norm_num

theorem mask_apply (b : Fin 256) (n : Fin 128) :
    (val_main_v5 (F := Ideal) x1 (ix3 b 0 n) : Ideal .f32) = present x1 b n := by
  pointwise [val_main_v0, val_main_cst, val_main_v1, val_main_v2, val_main_cst_0, val_main_v3, val_main_v4, val_main_v5]
  exact mask_num _

theorem pts_apply (b : Fin 256) (c : Fin 32) (n : Fin 128) :
    (val_main_v12 (F := Ideal) x0 x1 (ix3 b c n) : Ideal .f32) = Net.kpts (cloud x0 b) (present x1 b) c n := by
  pointwise [val_main_cst_1, val_main_v6, val_main_v7, val_main_v8, val_main_cst_2, val_main_v9, val_main_v10, val_main_v11, val_main_v12]
  rw [mask_apply]
  unfold Net.kpts present Net.kmask
  rw [flip_num]
  rfl

theorem table_apply (b : Fin 256) (n m : Fin 128) :
    (val_main_v24 (F := Ideal) x0 x1 (ix3 b n m) : Ideal .f32) = Net.rpd (Net.kpts (cloud x0 b) (present x1 b)) n m := by
  pointwise [val_main_v13, val_main_cst_3, val_main_v14, val_main_v15, val_main_v16, val_main_cst_4, val_main_v17, val_main_v18, val_main_v19, val_main_v20, val_main_v21, val_main_v22, val_main_v23, val_main_v24]
  simp only [pts_apply]
  rfl

theorem near_eq (b : Fin 256) (n : Fin 128) (j : Fin 7) : near x0 x1 b n j
    = Net.order (Net.rpd (Net.kpts (cloud x0 b) (present x1 b)) n) ⟨1 + j.val, by omega⟩ := by
  unfold near
  congr 1
  exact funext fun m => table_apply x0 x1 b n m

theorem features_apply (b : Fin 256) (c : Fin 64) (n : Fin 128) (j : Fin 7) :
    (val_main_v48 (F := Ideal) x0 x1 (ix4 b c n j) : Ideal .f32) = if h : c.val < 32 then cloud x0 b ⟨c.val, h⟩ n
      else cloud x0 b ⟨c.val - 32, by omega⟩ (near x0 x1 b n j) - cloud x0 b ⟨c.val - 32, by omega⟩ n := by
  pointwise [val_main_v44, val_main_v45, val_main_v46, val_main_v47, val_main_v48]
  simp only [gathered_apply]
  rfl

/-- The weight of layer `l`. -/
def weight (l : Fin 3) (o c : Fin 64) : EReal := x3 (ix2 ⟨64 * l.val + o.val, by omega⟩ c)

/-- The batch norm of layer `l`, from its rows of sums and parameters. -/
def norm (l : Fin 3) (o : Fin 64) (x : EReal) : EReal :=
  Net.rbn (Ideal.ofBits .f32 0x48600000#32) (Ideal.ofBits .f32 0x3727C5AC#32) (x5 (ix2 ⟨2 * l.val + 2, by omega⟩ o))
    (x5 (ix2 ⟨2 * l.val + 3, by omega⟩ o)) (x4 (ix2 ⟨2 * l.val, by omega⟩ o)) (x4 (ix2 ⟨2 * l.val + 1, by omega⟩ o)) x

theorem layer0_apply (b : Fin 256) (o : Fin 64) (n : Fin 128) (j : Fin 7) :
    (val_main_v82 (F := Ideal) x0 x1 x3 x4 x5 (ix4 b o n j) : Ideal .f32)
      = max (norm x4 x5 0 o (Net.redge (cloud x0 b) (fun o c => weight x3 0 o ⟨c.val, by omega⟩)
          (fun o c => weight x3 0 o ⟨32 + c.val, by omega⟩) n (near x0 x1 b n j) o)) 0 := by
  have hs : (∑ x : Fin 64, (val_main_v48 (F := Ideal) x0 x1 (ix4 b x n j) : Ideal .f32) * x3 (ix2 ⟨o.val, by omega⟩ x))
      = Net.redge (cloud x0 b) (fun o c => weight x3 0 o ⟨c.val, by omega⟩)
          (fun o c => weight x3 0 o ⟨32 + c.val, by omega⟩) n (near x0 x1 b n j) o := by
    rw [Net.sum_halves (C := 32) rfl]
    simp only [features_apply]
    unfold Net.redge weight
    refine congrArg₂ (· + ·) (Finset.sum_congr rfl fun c _ => ?_) (Finset.sum_congr rfl fun c _ => ?_)
    · rw [dif_pos c.isLt]; congr 3; exact Fin.ext (by simp)
    · rw [dif_neg (by omega)]
      have : (⟨32 + c.val - 32, by omega⟩ : Fin 32) = c := Fin.ext (by simp)
      rw [this]; congr 3; exact Fin.ext (by simp)
  rw [← hs]
  pointwise [val_main_v49, val_main_v50, val_main_v51, val_main_v52, val_main_v53, val_main_v54, val_main_v55, val_main_v56, val_main_v57, val_main_v58, val_main_v59, val_main_cst_8, val_main_v60, val_main_v61, val_main_cst_9, val_main_v62, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_v80, val_main_cst_11, val_main_v81, val_main_v82]
  rfl

theorem layer1_apply (b : Fin 256) (o : Fin 64) (n : Fin 128) (j : Fin 7) :
    (val_main_v116 (F := Ideal) x0 x1 x3 x4 x5 (ix4 b o n j) : Ideal .f32)
      = max (norm x4 x5 1 o (∑ c, (val_main_v82 (F := Ideal) x0 x1 x3 x4 x5 (ix4 b c n j) : Ideal .f32) * weight x3 1 o c)) 0 := by
  pointwise [val_main_v83, val_main_v84, val_main_v85, val_main_v86, val_main_v87, val_main_v88, val_main_v89, val_main_v90, val_main_v91, val_main_v92, val_main_v93, val_main_cst_12, val_main_v94, val_main_v95, val_main_cst_13, val_main_v96, val_main_v97, val_main_v98, val_main_v99, val_main_v100, val_main_v101, val_main_v102, val_main_v103, val_main_cst_14, val_main_v104, val_main_v105, val_main_v106, val_main_v107, val_main_v108, val_main_v109, val_main_v110, val_main_v111, val_main_v112, val_main_v113, val_main_v114, val_main_cst_15, val_main_v115, val_main_v116]
  rfl

theorem layer2_apply (b : Fin 256) (o : Fin 64) (n : Fin 128) (j : Fin 7) :
    (val_main_v150 (F := Ideal) x0 x1 x3 x4 x5 (ix4 b o n j) : Ideal .f32)
      = max (norm x4 x5 2 o (∑ c, (val_main_v116 (F := Ideal) x0 x1 x3 x4 x5 (ix4 b c n j) : Ideal .f32) * weight x3 2 o c)) 0 := by
  pointwise [val_main_v117, val_main_v118, val_main_v119, val_main_v120, val_main_v121, val_main_v122, val_main_v123, val_main_v124, val_main_v125, val_main_v126, val_main_v127, val_main_cst_16, val_main_v128, val_main_v129, val_main_cst_17, val_main_v130, val_main_v131, val_main_v132, val_main_v133, val_main_v134, val_main_v135, val_main_v136, val_main_v137, val_main_cst_18, val_main_v138, val_main_v139, val_main_v140, val_main_v141, val_main_v142, val_main_v143, val_main_v144, val_main_v145, val_main_v146, val_main_v147, val_main_v148, val_main_cst_19, val_main_v149, val_main_v150]
  rfl

theorem layers_apply (b : Fin 256) (o : Fin 64) (n : Fin 128) (j : Fin 7) :
    (val_main_v150 (F := Ideal) x0 x1 x3 x4 x5 (ix4 b o n j) : Ideal .f32)
      = Net.layers (norm x4 x5) (weight x3 1) (weight x3 2) (Net.redge (cloud x0 b) (fun o c => weight x3 0 o ⟨c.val, by omega⟩)
          (fun o c => weight x3 0 o ⟨32 + c.val, by omega⟩) n (near x0 x1 b n j)) o := by
  rw [layer2_apply]
  simp only [layer1_apply, layer0_apply]
  rfl

/-- The shortcut's batch norm. -/
def shortNorm (o : Fin 64) (x : EReal) : EReal :=
  Net.rbn (Ideal.ofBits .f32 0x47000000#32) (Ideal.ofBits .f32 0x3727C5AC#32) (x5 (ix2 0 o)) (x5 (ix2 1 o)) (x4 (ix2 6 o)) (x4 (ix2 7 o)) x

/-- The reference's result at an index. -/
theorem out_apply (b : Fin 256) (o : Fin 64) (n : Fin 128) :
    (val_main_v189 (F := Ideal) x0 x1 x2 x3 x4 x5 (ix3 b o n) : Ideal .f32)
      = Net.rout (shortNorm x4 x5) (norm x4 x5) (fun o c => (x2 (ix2 o c) : Ideal .f32)) (fun o c => weight x3 0 o ⟨c.val, by omega⟩)
          (fun o c => weight x3 0 o ⟨32 + c.val, by omega⟩) (weight x3 1) (weight x3 2) (cloud x0 b) (present x1 b)
          (fun n j => Net.order (Net.rpd (Net.kpts (cloud x0 b) (present x1 b)) n) ⟨1 + j.val, by omega⟩) o n := by
  unfold Net.rout
  simp only [← near_eq, ← layers_apply, ← mask_apply]
  pointwise [val_main_cst_20, val_main_v151, val_main_cst_21, val_main_v152, val_main_v153, val_main_v154, val_main_v155, val_main_v156, val_main_v157, val_main_v158, val_main_v159, val_main_v160, val_main_v161, val_main_v162, val_main_v163, val_main_cst_22, val_main_v164, val_main_v165, val_main_cst_23, val_main_v166, val_main_v167, val_main_v168, val_main_v169, val_main_v170, val_main_v171, val_main_v172, val_main_v173, val_main_cst_24, val_main_v174, val_main_v175, val_main_v176, val_main_v177, val_main_v178, val_main_v179, val_main_v180, val_main_v181, val_main_v182, val_main_v183, val_main_v184, val_main_v185, val_main_cst_25, val_main_v186, val_main_v187, val_main_v188, val_main_v189]
  rfl

end Cert.ReferenceIdeal.Stages

end

end
-- ==== Proof.Bounds.lean ====
/- What the precondition says of the arrays, entry by entry. -/
module

public import proofs.«01_k».proof.Defs
public import proofs.«01_k».proof.Proof.Gen.Pre_separated
public import proofs.«01_k».proof.Proof.Stages

@[expose] public section

set_option maxRecDepth 16384

noncomputable section

namespace Cert.Pre_separated.Bounds

open Cert.Pre_separated Cert.Pre_separated.Gen Cert.ReferenceIdeal.Stages Idealize.ShloMosaic

variable (x0 x1 : FVec Ideal S256x32x128 .f32) (x2 : FVec Ideal S64x32 .f32) (x3 : FVec Ideal S192x64 .f32) (x4 x5 : FVec Ideal S8x64 .f32)

/-- A true comparison bit is the comparison. -/
theorem bit_true {p : Prop} [Decidable p] (h : BitVec.ofBool (decide p) = 1#1) : p := by
  by_contra hp
  rw [decide_eq_false hp] at h
  exact absurd h (by decide)

theorem top_bits : Ideal.ofBits .f32 0x7F800000#32 = ⊤ := by
  simp [Ideal.ofBits, Ideal.ieee]

/-- An entry whose absolute value compares below the infinite word is real. -/
theorem fine_of_bit (x : EReal) (h : BitVec.ofBool (decide (max x (-x) < Ideal.ofBits .f32 0x7F800000#32)) = 1#1) : Net.Fine x := by
  rw [top_bits] at h
  exact Net.fine_of_abs (bit_true h)

theorem fine_points (h : (fn (F := Ideal) x0 x1 x2 x3 x4 x5).1 = fun _ => 1#1) (i) : Net.Fine (x0 i) :=
  fine_of_bit _ (congrFun h i)

theorem fine_short (h : (fn (F := Ideal) x0 x1 x2 x3 x4 x5).2.1 = fun _ => 1#1) (i) : Net.Fine (x2 i) :=
  fine_of_bit _ (congrFun h i)

theorem fine_weights (h : (fn (F := Ideal) x0 x1 x2 x3 x4 x5).2.2.1 = fun _ => 1#1) (i) : Net.Fine (x3 i) :=
  fine_of_bit _ (congrFun h i)

theorem fine_params (h : (fn (F := Ideal) x0 x1 x2 x3 x4 x5).2.2.2.1 = fun _ => 1#1) (i) : Net.Fine (x4 i) :=
  fine_of_bit _ (congrFun h i)

theorem fine_sums (h : (fn (F := Ideal) x0 x1 x2 x3 x4 x5).2.2.2.2.1 = fun _ => 1#1) (i) : Net.Fine (x5 i) :=
  fine_of_bit _ (congrFun h i)

/-- The comparison of a variance with zero, read at a channel. -/
theorem variance_apply (r q : ℕ) (hr : r < 8) (hq : q < 8) (cnt : BitVec 32) (h1 : S8x64.Slices ![r, 0] S1x64) (h2 : S8x64.Slices ![q, 0] S1x64)
    (o : Fin 64)
    (h : cmpf .ogt (addf (subf
        (Host.divf (shapeCast S64 (extractStridedSlice S1x64 ![q, 0] x5 h2) shapeCasts_S1x64_S64) (broadcastInDim S64 ![] bcast_S_S64 (constant S_ .f32 cnt)))
        (mulf (Host.divf (shapeCast S64 (extractStridedSlice S1x64 ![r, 0] x5 h1) shapeCasts_S1x64_S64) (broadcastInDim S64 ![] bcast_S_S64 (constant S_ .f32 cnt)))
          (Host.divf (shapeCast S64 (extractStridedSlice S1x64 ![r, 0] x5 h1) shapeCasts_S1x64_S64) (broadcastInDim S64 ![] bcast_S_S64 (constant S_ .f32 cnt)))))
        (broadcastInDim S64 ![] bcast_S_S64 (constant S_ .f32 0x3727C5AC#32))) (broadcastInDim S64 ![] bcast_S_S64 (constant S_ .f32 0x00000000#32))
      = fun _ => 1#1) :
    0 < Net.vare (Ideal.ofBits .f32 cnt) (Ideal.ofBits .f32 0x3727C5AC#32) (x5 (ix2 ⟨r, hr⟩ o)) (x5 (ix2 ⟨q, hq⟩ o)) := by
  have h' := congrFun h (ix1 o)
  rw [show (cmpf .ogt (addf (subf
        (Host.divf (shapeCast S64 (extractStridedSlice S1x64 ![q, 0] x5 h2) shapeCasts_S1x64_S64) (broadcastInDim S64 ![] bcast_S_S64 (constant S_ .f32 cnt)))
        (mulf (Host.divf (shapeCast S64 (extractStridedSlice S1x64 ![r, 0] x5 h1) shapeCasts_S1x64_S64) (broadcastInDim S64 ![] bcast_S_S64 (constant S_ .f32 cnt)))
          (Host.divf (shapeCast S64 (extractStridedSlice S1x64 ![r, 0] x5 h1) shapeCasts_S1x64_S64) (broadcastInDim S64 ![] bcast_S_S64 (constant S_ .f32 cnt)))))
        (broadcastInDim S64 ![] bcast_S_S64 (constant S_ .f32 0x3727C5AC#32))) (broadcastInDim S64 ![] bcast_S_S64 (constant S_ .f32 0x00000000#32)) (ix1 o) : BitVec 1)
      = BitVec.ofBool (decide (0 < Net.vare (Ideal.ofBits .f32 cnt) (Ideal.ofBits .f32 0x3727C5AC#32) (x5 (ix2 ⟨r, hr⟩ o)) (x5 (ix2 ⟨q, hq⟩ o)))) from by
    pointwise []
    rfl] at h'
  exact bit_true h'

theorem variance_short (h : (fn (F := Ideal) x0 x1 x2 x3 x4 x5).2.2.2.2.2.1 = fun _ => 1#1) (o : Fin 64) :
    0 < Net.vare (Ideal.ofBits .f32 0x47000000#32) (Ideal.ofBits .f32 0x3727C5AC#32) (x5 (ix2 0 o)) (x5 (ix2 1 o)) :=
  variance_apply x5 0 1 (by decide) (by decide) _ slices_S8x64_S1x64_0_0 slices_S8x64_S1x64_1_0 o h

theorem variance0 (h : (fn (F := Ideal) x0 x1 x2 x3 x4 x5).2.2.2.2.2.2.1 = fun _ => 1#1) (o : Fin 64) :
    0 < Net.vare (Ideal.ofBits .f32 0x48600000#32) (Ideal.ofBits .f32 0x3727C5AC#32) (x5 (ix2 2 o)) (x5 (ix2 3 o)) :=
  variance_apply x5 2 3 (by decide) (by decide) _ slices_S8x64_S1x64_2_0 slices_S8x64_S1x64_3_0 o h

theorem variance1 (h : (fn (F := Ideal) x0 x1 x2 x3 x4 x5).2.2.2.2.2.2.2.1 = fun _ => 1#1) (o : Fin 64) :
    0 < Net.vare (Ideal.ofBits .f32 0x48600000#32) (Ideal.ofBits .f32 0x3727C5AC#32) (x5 (ix2 4 o)) (x5 (ix2 5 o)) :=
  variance_apply x5 4 5 (by decide) (by decide) _ slices_S8x64_S1x64_4_0 slices_S8x64_S1x64_5_0 o h

theorem variance2 (h : (fn (F := Ideal) x0 x1 x2 x3 x4 x5).2.2.2.2.2.2.2.2.1 = fun _ => 1#1) (o : Fin 64) :
    0 < Net.vare (Ideal.ofBits .f32 0x48600000#32) (Ideal.ofBits .f32 0x3727C5AC#32) (x5 (ix2 6 o)) (x5 (ix2 7 o)) :=
  variance_apply x5 6 7 (by decide) (by decide) _ slices_S8x64_S1x64_6_0 slices_S8x64_S1x64_7_0 o h

/-- The table's nine largest entries of a row. -/
theorem top_apply (v : FVec Ideal S256x128x128 .f32) (b : Fin 256) (n : Fin 128) (k : Fin 9) :
    (Host.topK S256x128x9 2 (FloatOps.cmpfTotal .gt) v sliceFits_S256x128x128_S256x128x9).1 (ix3 b n k)
      = v (ix3 b n (Net.order (fun m => (v (ix3 b n m) : Ideal .f32)) ⟨k.val, by omega⟩)) := by
  pointwise [Host.topK, Host.sort2]
  simp only [along_eq]
  rfl

/-- The reference's distance table. -/
def table : FVec Ideal S256x128x128 .f32 := Cert.ReferenceIdeal.Read.val_main_v24 (F := Ideal) x0 x1

/-- The reference's mask. -/
def shown : FVec Ideal S256x1x128 .f32 := Cert.ReferenceIdeal.Read.val_main_v5 (F := Ideal) x1

theorem table_eq (b : Fin 256) (n : Fin 128) :
    (fun m => (table x0 x1 (ix3 b n m) : Ideal .f32)) = Net.rpd (Net.kpts (cloud x0 b) (present x1 b)) n :=
  funext fun m => table_apply x0 x1 b n m

/-- A point that is not masked has its nine largest table entries strictly separated. -/
theorem apart (h : (fn (F := Ideal) x0 x1 x2 x3 x4 x5).2.2.2.2.2.2.2.2.2 = fun _ => 1#1) (b : Fin 256) (n : Fin 128) :
    present x1 b n = 0 ∨ ∀ (j : ℕ) (hj : j < 8),
      Net.rpd (Net.kpts (cloud x0 b) (present x1 b)) n (Net.order (Net.rpd (Net.kpts (cloud x0 b) (present x1 b)) n) ⟨j + 1, by omega⟩)
        < Net.rpd (Net.kpts (cloud x0 b) (present x1 b)) n (Net.order (Net.rpd (Net.kpts (cloud x0 b) (present x1 b)) n) ⟨j, by omega⟩) := by
  by_cases h0 : present x1 b n = 0
  · exact .inl h0
  refine .inr fun j hj => ?_
  have h' := congrFun h (ix3 b n ⟨j, hj⟩)
  have e : ((fn (F := Ideal) x0 x1 x2 x3 x4 x5).2.2.2.2.2.2.2.2.2 (ix3 b n ⟨j, hj⟩) : BitVec 1)
      = BitVec.ofBool (decide ((shown x1 (ix3 b 0 n) : Ideal .f32) = 0))
        ||| BitVec.ofBool (decide ((Host.topK S256x128x9 2 (FloatOps.cmpfTotal .gt) (table x0 x1) sliceFits_S256x128x128_S256x128x9).1 (ix3 b n ⟨1 + j, by omega⟩)
          < (Host.topK S256x128x9 2 (FloatOps.cmpfTotal .gt) (table x0 x1) sliceFits_S256x128x128_S256x128x9).1 (ix3 b n ⟨j, by omega⟩))) := by
    show ori (broadcastInDim S256x128x8 ![0, 1, 2] bcast_S256x128x1_S256x128x8_0_1_2 (cmpf .oeq (transpose S256x128x1 [0, 2, 1] (shown x1) transposes_S256x1x128_S256x128x1_0_2_1) (broadcastInDim S256x128x1 ![] bcast_S_S256x128x1 (constant S_ .f32 0x00000000#32))))
      (cmpf .ogt (extractStridedSlice S256x128x8 ![0, 0, 0] (Host.topK S256x128x9 2 (FloatOps.cmpfTotal .gt) (table x0 x1) sliceFits_S256x128x128_S256x128x9).1 slices_S256x128x9_S256x128x8_0_0_0)
        (extractStridedSlice S256x128x8 ![0, 0, 1] (Host.topK S256x128x9 2 (FloatOps.cmpfTotal .gt) (table x0 x1) sliceFits_S256x128x128_S256x128x9).1 slices_S256x128x9_S256x128x8_0_0_1)) (ix3 b n ⟨j, hj⟩) = _
    pointwise []
    rfl
  rw [e, show (shown x1 (ix3 b 0 n) : Ideal .f32) = present x1 b n from mask_apply x1 b n, decide_eq_false h0, top_apply, top_apply, table_eq] at h'
  have h2 := bit_true ((BitVec.zero_or (x := BitVec.ofBool _)).symm.trans h')
  have ej : (⟨1 + j, by omega⟩ : Fin 128) = ⟨j + 1, by omega⟩ := Fin.ext (Nat.add_comm 1 j)
  rw [ej] at h2
  exact (congrArg₂ (· < ·) (table_apply x0 x1 b n _) (table_apply x0 x1 b n _)).mp h2

end Cert.Pre_separated.Bounds

end

end
-- ==== Proof.First.lean ====
/- The first edge convolution, whose points are not its features and whose shortcut is the features themselves. -/
module

public import proofs.«01_k».proof.Proof.Model

@[expose] public section

noncomputable section

namespace Cert.Net

open Idealize.ShloMosaic

variable {D N O : ℕ}

/-- The kernel's result for output channel `o` of point `n`. -/
def kfirst (bn : Fin 3 → Fin O → EReal → EReal) (wa wb w1 w2 : Fin O → Fin O → EReal) (x : Fin O → Fin N → EReal)
    (p : Fin D → Fin N → EReal) (μ : Fin N → EReal) (o : Fin O) (n : Fin N) : EReal :=
  max (x o n + Ideal.div (∑ j : Fin 7, layers bn w1 w2 (kedge x p wa wb n j.val) o) (Ideal.ofBits .f32 0x40E00000#32)) 0 * μ n

/-- The reference's result for output channel `o` of point `n`, with the point's seven neighbours. -/
def rfirst (bn : Fin 3 → Fin O → EReal → EReal) (wa wb w1 w2 : Fin O → Fin O → EReal) (x : Fin O → Fin N → EReal)
    (μ : Fin N → EReal) (near : Fin N → Fin 7 → Fin N) (o : Fin O) (n : Fin N) : EReal :=
  max (x o n + Ideal.div (∑ j : Fin 7, layers bn w1 w2 (redge x wa wb n (near n j)) o) (Ideal.ofBits .f32 0x40E00000#32)) 0 * μ n

/-- The kernel's result is the reference's. -/
theorem first_eq (hN : 8 < N) (bk br : Fin 3 → Fin O → EReal → EReal)
    (hbn : ∀ l o x, Fine x → bk l o x = br l o x ∧ Fine (bk l o x)) (wa wb w1 w2 : Fin O → Fin O → EReal)
    (x : Fin O → Fin N → EReal) (p : Fin D → Fin N → EReal) (μ : Fin N → EReal)
    (ha : ∀ o c, Fine (wa o c)) (hb : ∀ o c, Fine (wb o c)) (h1 : ∀ o c, Fine (w1 o c)) (h2 : ∀ o c, Fine (w2 o c))
    (hx : ∀ c n, Fine (x c n)) (hp : ∀ c n, Fine (p c n)) (n : Fin N)
    (hsep : μ n = 0 ∨ ∀ (j : ℕ) (hj : j < 8), rpd p n (order (rpd p n) ⟨j + 1, by omega⟩) < rpd p n (order (rpd p n) ⟨j, by omega⟩))
    (o : Fin O) :
    kfirst bk wa wb w1 w2 x p μ o n = rfirst br wa wb w1 w2 x μ (fun n j => order (rpd p n) ⟨1 + j.val, by omega⟩) o n := by
  unfold kfirst rfirst
  rcases hsep with h0 | hsep
  · rw [h0, mul_zero, mul_zero]
  · congr 4
    refine Finset.sum_congr rfl fun j _ => ?_
    have he := fun o => kedge_eq hN x p wa wb hx hp ha hb n hsep j o
    rw [funext fun o => (he o).1]
    exact layers_eq bk br hbn w1 w2 h1 h2 _ (fun o => (he o).2) o

/-- A masked batch norm: of the entry, or of the entry already masked. -/
theorem masked_bn_eq {cnt : ℝ} (hc : cnt ≠ 0) {eps s ss g b x μ : EReal} (he : Fine eps) (hs : Fine s) (hss : Fine ss)
    (hg : Fine g) (hb : Fine b) (hx : Fine x) (hμ : μ = 0 ∨ μ = 1) (hv : 0 < vare cnt eps s ss) :
    kbn cnt eps s ss g b x * μ = rbn cnt eps s ss g b (x * μ) * μ ∧ Fine (rbn cnt eps s ss g b (x * μ) * μ) := by
  rcases hμ with rfl | rfl
  · rw [mul_zero, mul_zero]
    exact ⟨rfl, Fine.zero⟩
  · have h := bn_eq hc he hs hss hg hb hx hv
    rw [mul_one, mul_one, mul_one, ← h.1]
    exact ⟨rfl, h.2⟩

end Cert.Net

end

end
-- ==== Proof.Finite.lean ====
/- The edge convolutions of real arrays are real. -/
module

public import proofs.«01_k».proof.Proof.First

@[expose] public section

noncomputable section

namespace Cert.Net

open Idealize.ShloMosaic

variable {C O N D : ℕ}

/-- Layers whose batch norms keep real entries real do so too. -/
theorem layers_fine (bn : Fin 3 → Fin O → EReal → EReal) (hbn : ∀ l o x, Fine x → Fine (bn l o x)) (w1 w2 : Fin O → Fin O → EReal)
    (h1 : ∀ o c, Fine (w1 o c)) (h2 : ∀ o c, Fine (w2 o c)) (y : Fin O → EReal) (hy : ∀ o, Fine (y o)) (o : Fin O) :
    Fine (layers bn w1 w2 y o) :=
  (hbn 2 o _ (Fine.sum _ _ fun c => ((hbn 1 c _ (Fine.sum _ _ fun d => ((hbn 0 d _ (hy d)).max Fine.zero).mul (h1 c d))).max Fine.zero).mul
    (h2 o c))).max Fine.zero

/-- A positive part of a real and a mean of seven, masked unless the seven are real. -/
theorem mean_fine {x μ : EReal} (hx : Fine x) (hμ : μ = 0 ∨ μ = 1) (f : Fin 7 → EReal) (hf : μ = 0 ∨ ∀ j, Fine (f j)) :
    Fine (max (x + Ideal.div (∑ j : Fin 7, f j) (Ideal.ofBits .f32 0x40E00000#32)) 0 * μ) := by
  rcases hf with h | hf
  · rw [h, mul_zero]
    exact Fine.zero
  · rw [seven_bits]
    exact ((hx.add ((Fine.sum _ _ hf).div (by norm_num))).max Fine.zero).mul (hμ.elim (fun h => h ▸ Fine.zero) fun h => h ▸ Fine.one)

/-- The first edge convolution's result is real. -/
theorem kfirst_fine (hN : 8 < N) (bn : Fin 3 → Fin O → EReal → EReal) (hbn : ∀ l o x, Fine x → Fine (bn l o x)) (wa wb w1 w2 : Fin O → Fin O → EReal)
    (x : Fin O → Fin N → EReal) (p : Fin D → Fin N → EReal) (μ : Fin N → EReal) (hμ : ∀ n, μ n = 0 ∨ μ n = 1)
    (ha : ∀ o c, Fine (wa o c)) (hb : ∀ o c, Fine (wb o c)) (h1 : ∀ o c, Fine (w1 o c)) (h2 : ∀ o c, Fine (w2 o c))
    (hx : ∀ c n, Fine (x c n)) (hp : ∀ c n, Fine (p c n)) (n : Fin N)
    (hsep : μ n = 0 ∨ ∀ (j : ℕ) (hj : j < 8), rpd p n (order (rpd p n) ⟨j + 1, by omega⟩) < rpd p n (order (rpd p n) ⟨j, by omega⟩))
    (o : Fin O) : Fine (kfirst bn wa wb w1 w2 x p μ o n) := by
  refine mean_fine (hx o n) (hμ n) _ (hsep.imp id fun hsep j => layers_fine bn hbn w1 w2 h1 h2 _ (fun o => ?_) o)
  have h := kedge_eq hN x p wa wb hx hp ha hb n hsep j o
  rw [h.1]
  exact h.2

/-- The second edge convolution's result is real. -/
theorem kout_fine (hN : 8 < N) (bs : Fin O → EReal → EReal) (bn : Fin 3 → Fin O → EReal → EReal) (hbs : ∀ o x, Fine x → Fine (bs o x))
    (hbn : ∀ l o x, Fine x → Fine (bn l o x)) (w wa wb : Fin O → Fin C → EReal) (w1 w2 : Fin O → Fin O → EReal) (x : Fin C → Fin N → EReal)
    (μ : Fin N → EReal) (hμ : ∀ n, μ n = 0 ∨ μ n = 1) (hw : ∀ o c, Fine (w o c)) (ha : ∀ o c, Fine (wa o c)) (hb : ∀ o c, Fine (wb o c))
    (h1 : ∀ o c, Fine (w1 o c)) (h2 : ∀ o c, Fine (w2 o c)) (hx : ∀ c n, Fine (x c n)) (n : Fin N)
    (hsep : μ n = 0 ∨ ∀ (j : ℕ) (hj : j < 8), rpd (kpts x μ) n (order (rpd (kpts x μ) n) ⟨j + 1, by omega⟩)
      < rpd (kpts x μ) n (order (rpd (kpts x μ) n) ⟨j, by omega⟩)) (o : Fin O) : Fine (kout bs bn w wa wb w1 w2 x μ o n) := by
  refine mean_fine (hbs o _ (Fine.sum _ _ fun c => (hx c n).mul (hw o c))) (hμ n) _
    (hsep.imp id fun hsep j => layers_fine bn hbn w1 w2 h1 h2 _ (fun o => ?_) o)
  have h := kedge_eq hN x (kpts x μ) wa wb hx (kpts_fine x hx μ hμ) ha hb n hsep j o
  rw [h.1]
  exact h.2

end Cert.Net

end

end
-- ==== Proof.Blocks.lean ====
/- The kernel's result array is the reference's. -/
module

public import proofs.«01_k».proof.Proof.KVal
public import proofs.«01_k».proof.Proof.Bounds
public import proofs.«01_k».proof.Proof.Finite
public import proofs.«01_k».proof.Proof.Gen.KernelIdeal.Value
public import Idealize.ShloMosaic.Lib.Pipeline.ValueKit.Geometry

@[expose] public section

set_option maxRecDepth 16384

noncomputable section

namespace Cert.KernelIdeal.Blocks

open Cert.KernelIdeal Cert.KernelIdeal.Gen Cert.KernelIdeal.Pieces Idealize.ShloMosaic Idealize.ShloMosaic.TcCoe Idealize.SL.Sem
open Cert.ReferenceIdeal.Stages (cloud present weight norm shortNorm)

variable (m : (ℓ : Loc nD τ sig) → Buf (Elt Ideal) ℓ) (c : Dev nD)

/-- The arguments of device `c`. -/
abbrev A0 : FVec Ideal S256x32x128 .f32 := m ((c : Thread nD τ).loc main_arg0)
abbrev A1 : FVec Ideal S256x32x128 .f32 := m ((c : Thread nD τ).loc main_arg1)
abbrev A2 : FVec Ideal S64x32 .f32 := m ((c : Thread nD τ).loc main_arg2)
abbrev A3 : FVec Ideal S192x64 .f32 := m ((c : Thread nD τ).loc main_arg3)
abbrev A4 : FVec Ideal S8x64 .f32 := m ((c : Thread nD τ).loc main_arg4)
abbrev A5 : FVec Ideal S8x64 .f32 := m ((c : Thread nD τ).loc main_arg5)

/-- Batch element `i` of block `t`. -/
def row (t : Fin cfg0.N) (i : Fin 8) : Fin 256 := ⟨8 * t.val + i.val, by have : t.val < 32 := t.isLt; omega⟩

theorem moved_index : ∀ t : Fin cfg0.N, win0_0.index t 0 = t.val ∧ win0_0.index t 1 = 0 ∧ win0_0.index t 2 = 0
    ∧ win0_1.index t 0 = t.val ∧ win0_1.index t 1 = 0 ∧ win0_1.index t 2 = 0
    ∧ win0_6.index t 0 = t.val ∧ win0_6.index t 1 = 0 ∧ win0_6.index t 2 = 0 :=
  (by decide +kernel : ∀ t : Fin grid0.N, _)

theorem fixed_index : ∀ t : Fin cfg0.N, (∀ a, win0_2.index t a = 0) ∧ (∀ a, win0_3.index t a = 0) ∧ (∀ a, win0_4.index t a = 0)
    ∧ (∀ a, win0_5.index t a = 0) :=
  (by decide +kernel : ∀ t : Fin grid0.N, _)

theorem blk0_apply (t : Fin cfg0.N) (i : Fin 8) (k : Fin 32) (n : Fin 128) :
    (iblk m c 0 t (ix3 i k n) : Ideal .f32) = A0 m c (ix3 (row t i) k n) := by
  show A0 m c (((cfg0.win 0).blk t).view.emb (ix3 i k n)) = _
  refine congrArg (A0 m c) (funext fun a => Fin.ext ?_)
  obtain ⟨h0, h1, h2, -⟩ := moved_index t
  match a with
  | ⟨0, _⟩ => show win0_0.index t 0 * 8 + 1 * i.val = 8 * t.val + i.val; rw [h0]; omega
  | ⟨1, _⟩ => show win0_0.index t 1 * 32 + 1 * k.val = k.val; rw [h1]; omega
  | ⟨2, _⟩ => show win0_0.index t 2 * 128 + 1 * n.val = n.val; rw [h2]; omega

theorem blk1_apply (t : Fin cfg0.N) (i : Fin 8) (k : Fin 32) (n : Fin 128) :
    (iblk m c 1 t (ix3 i k n) : Ideal .f32) = A1 m c (ix3 (row t i) k n) := by
  show A1 m c (((cfg0.win 1).blk t).view.emb (ix3 i k n)) = _
  refine congrArg (A1 m c) (funext fun a => Fin.ext ?_)
  obtain ⟨-, -, -, h0, h1, h2, -⟩ := moved_index t
  match a with
  | ⟨0, _⟩ => show win0_1.index t 0 * 8 + 1 * i.val = 8 * t.val + i.val; rw [h0]; omega
  | ⟨1, _⟩ => show win0_1.index t 1 * 32 + 1 * k.val = k.val; rw [h1]; omega
  | ⟨2, _⟩ => show win0_1.index t 2 * 128 + 1 * n.val = n.val; rw [h2]; omega

theorem blk2_apply (t : Fin cfg0.N) (o : Fin 64) (k : Fin 32) :
    (iblk m c 2 t (ix2 o k) : Ideal .f32) = A2 m c (ix2 o k) := by
  show A2 m c (((cfg0.win 2).blk t).view.emb (ix2 o k)) = _
  refine congrArg (A2 m c) (funext fun a => Fin.ext ?_)
  have h := (fixed_index t).1 a
  match a with
  | ⟨0, _⟩ => show win0_2.index t 0 * 64 + 1 * o.val = o.val; rw [show win0_2.index t 0 = 0 from h]; omega
  | ⟨1, _⟩ => show win0_2.index t 1 * 32 + 1 * k.val = k.val; rw [show win0_2.index t 1 = 0 from h]; omega

theorem blk3_apply (t : Fin cfg0.N) (o : Fin 192) (k : Fin 64) :
    (iblk m c 3 t (ix2 o k) : Ideal .f32) = A3 m c (ix2 o k) := by
  show A3 m c (((cfg0.win 3).blk t).view.emb (ix2 o k)) = _
  refine congrArg (A3 m c) (funext fun a => Fin.ext ?_)
  have h := (fixed_index t).2.1 a
  match a with
  | ⟨0, _⟩ => show win0_3.index t 0 * 192 + 1 * o.val = o.val; rw [show win0_3.index t 0 = 0 from h]; omega
  | ⟨1, _⟩ => show win0_3.index t 1 * 64 + 1 * k.val = k.val; rw [show win0_3.index t 1 = 0 from h]; omega

theorem blk4_apply (t : Fin cfg0.N) (o : Fin 8) (k : Fin 64) :
    (iblk m c 4 t (ix2 o k) : Ideal .f32) = A4 m c (ix2 o k) := by
  show A4 m c (((cfg0.win 4).blk t).view.emb (ix2 o k)) = _
  refine congrArg (A4 m c) (funext fun a => Fin.ext ?_)
  have h := (fixed_index t).2.2.1 a
  match a with
  | ⟨0, _⟩ => show win0_4.index t 0 * 8 + 1 * o.val = o.val; rw [show win0_4.index t 0 = 0 from h]; omega
  | ⟨1, _⟩ => show win0_4.index t 1 * 64 + 1 * k.val = k.val; rw [show win0_4.index t 1 = 0 from h]; omega

theorem blk5_apply (t : Fin cfg0.N) (o : Fin 8) (k : Fin 64) :
    (iblk m c 5 t (ix2 o k) : Ideal .f32) = A5 m c (ix2 o k) := by
  show A5 m c (((cfg0.win 5).blk t).view.emb (ix2 o k)) = _
  refine congrArg (A5 m c) (funext fun a => Fin.ext ?_)
  have h := (fixed_index t).2.2.2 a
  match a with
  | ⟨0, _⟩ => show win0_5.index t 0 * 8 + 1 * o.val = o.val; rw [show win0_5.index t 0 = 0 from h]; omega
  | ⟨1, _⟩ => show win0_5.index t 1 * 64 + 1 * k.val = k.val; rw [show win0_5.index t 1 = 0 from h]; omega

/-- A loaded row of a table of eight. -/
theorem ld_row (x : Vec Ideal S8x64 .f32) (q : ℕ) (hq : q < 8) (inb) (o : Fin 64) :
    (View.ld x (Rect.unit (s := S8x64) ![q, 0] S1x64.size inb) (ix2 0 o) : Ideal .f32) = x (ix2 ⟨q, hq⟩ o) := by
  refine congrArg x (funext fun a => Fin.ext ?_)
  match a with
  | ⟨0, _⟩ => show q + 1 * 0 = q; omega
  | ⟨1, _⟩ => show 0 + 1 * o.val = o.val; omega

/-- A loaded square of the weights. -/
theorem ld_square (x : Vec Ideal S192x64 .f32) (q : ℕ) (hq : q ≤ 128) (inb) (o k : Fin 64) :
    (View.ld x (Rect.unit (s := S192x64) ![q, 0] S64x64.size inb) (ix2 o k) : Ideal .f32) = x (ix2 ⟨q + o.val, by omega⟩ k) := by
  refine congrArg x (funext fun a => Fin.ext ?_)
  match a with
  | ⟨0, _⟩ => show q + 1 * o.val = q + o.val; omega
  | ⟨1, _⟩ => show 0 + 1 * k.val = k.val; omega

/-- The kernel's batch norm of layer `l`, from its rows of sums and parameters. -/
def knorm (x4 x5 : FVec Ideal S8x64 .f32) (l : Fin 3) (o : Fin 64) (x : EReal) : EReal :=
  Net.kbn (Ideal.ofBits .f32 0x48600000#32) (Ideal.ofBits .f32 0x3727C5AC#32) (x5 (ix2 ⟨2 * l.val + 2, by omega⟩ o))
    (x5 (ix2 ⟨2 * l.val + 3, by omega⟩ o)) (x4 (ix2 ⟨2 * l.val, by omega⟩ o)) (x4 (ix2 ⟨2 * l.val + 1, by omega⟩ o)) x

/-- The kernel's batch norm of the shortcut. -/
def kshort (x4 x5 : FVec Ideal S8x64 .f32) (o : Fin 64) (x : EReal) : EReal :=
  Net.kbn (Ideal.ofBits .f32 0x47000000#32) (Ideal.ofBits .f32 0x3727C5AC#32) (x5 (ix2 0 o)) (x5 (ix2 1 o)) (x4 (ix2 6 o)) (x4 (ix2 7 o)) x

/-- What the body leaves in its result block, entry by entry, from its input blocks. -/
theorem body_apply (x0 x1 : Vec Ideal S8x32x128 .f32) (x2 : Vec Ideal S64x32 .f32) (x3 : Vec Ideal S192x64 .f32) (x4 x5 : Vec Ideal S8x64 .f32)
    (i : Fin 8) (o : Fin 64) (n : Fin 128) :
    (out0_6 (F := Ideal) x0 x1 x2 x3 x4 x5 (ix3 i o n) : Ideal .f32)
      = Net.kout (kshort x4 x5) (knorm x4 x5) (fun o k => (x2 (ix2 o k) : Ideal .f32)) (fun o k => weight x3 0 o ⟨k.val, by omega⟩)
          (fun o k => weight x3 0 o ⟨32 + k.val, by omega⟩) (weight x3 1) (weight x3 2) (fun k n => (x0 (ix3 i k n) : Ideal .f32))
          (Net.kmask fun k n => (x1 (ix3 i k n) : Ideal .f32)) o n := by
  rw [out_eq, View.canon_cons_unit_lit _ _ _ (by decide), whole_apply, View.ld_unit_lit _ x0 (by decide), View.ld_unit_lit _ x1 (by decide),
    View.ld_unit_lit _ x2 (by decide)]
  have hs : (fun o => Net.kbn (Ideal.ofBits .f32 0x47000000#32) (Ideal.ofBits .f32 0x3727C5AC#32)
      (View.ld x5 r0_4 (ix2 0 o)) (View.ld x5 r0_5 (ix2 0 o)) (View.ld x4 r0_10 (ix2 0 o)) (View.ld x4 r0_11 (ix2 0 o))) = kshort x4 x5 := by
    funext o
    rw [ld_row x5 0 (by decide), ld_row x5 1 (by decide), ld_row x4 6 (by decide), ld_row x4 7 (by decide)]
    rfl
  have hn : (fun (l : Fin 3) o => Net.kbn (Ideal.ofBits .f32 0x48600000#32) (Ideal.ofBits .f32 0x3727C5AC#32)
      ((![View.ld x5 r0_4, View.ld x5 r0_5, View.ld x5 r0_2, View.ld x5 r0_3, View.ld x5 r0_7, View.ld x5 r0_8, View.ld x5 r0_10, View.ld x5 r0_11] : Fin 8 → FVec Ideal S1x64 .f32) ⟨2 * l.val + 2, by omega⟩ (ix2 0 o))
      ((![View.ld x5 r0_4, View.ld x5 r0_5, View.ld x5 r0_2, View.ld x5 r0_3, View.ld x5 r0_7, View.ld x5 r0_8, View.ld x5 r0_10, View.ld x5 r0_11] : Fin 8 → FVec Ideal S1x64 .f32) ⟨2 * l.val + 3, by omega⟩ (ix2 0 o))
      ((![View.ld x4 r0_4, View.ld x4 r0_5, View.ld x4 r0_2, View.ld x4 r0_3, View.ld x4 r0_7, View.ld x4 r0_8, View.ld x4 r0_10, View.ld x4 r0_11] : Fin 8 → FVec Ideal S1x64 .f32) ⟨2 * l.val, by omega⟩ (ix2 0 o))
      ((![View.ld x4 r0_4, View.ld x4 r0_5, View.ld x4 r0_2, View.ld x4 r0_3, View.ld x4 r0_7, View.ld x4 r0_8, View.ld x4 r0_10, View.ld x4 r0_11] : Fin 8 → FVec Ideal S1x64 .f32) ⟨2 * l.val + 1, by omega⟩ (ix2 0 o))) = knorm x4 x5 := by
    funext l o
    have hr : ∀ (x : Vec Ideal S8x64 .f32) (k : Fin 8), ((![View.ld x r0_4, View.ld x r0_5, View.ld x r0_2, View.ld x r0_3, View.ld x r0_7, View.ld x r0_8, View.ld x r0_10, View.ld x r0_11] : Fin 8 → FVec Ideal S1x64 .f32) k (ix2 0 o) : Ideal .f32) = x (ix2 k o) := by
      intro x k
      match k with
      | 0 => exact ld_row x 0 (by decide) _ o
      | 1 => exact ld_row x 1 (by decide) _ o
      | 2 => exact ld_row x 2 (by decide) _ o
      | 3 => exact ld_row x 3 (by decide) _ o
      | 4 => exact ld_row x 4 (by decide) _ o
      | 5 => exact ld_row x 5 (by decide) _ o
      | 6 => exact ld_row x 6 (by decide) _ o
      | 7 => exact ld_row x 7 (by decide) _ o
    rw [hr, hr, hr, hr]
    rfl
  rw [hn]
  have hw : ∀ (l : Fin 3) (q : ℕ) (hq : q = 64 * l.val) (inb) (o k : Fin 64),
      (View.ld x3 (Rect.unit (s := S192x64) ![q, 0] S64x64.size inb) (ix2 o k) : Ideal .f32) = weight x3 l o k := by
    intro l q hq inb o k
    subst hq
    rw [ld_square x3 _ (by omega)]
    rfl
  congr 1
  · funext o k; exact hw 0 0 rfl _ o _
  · funext o k; exact hw 0 0 rfl _ o _
  · funext o k; exact hw 1 64 rfl _ o _
  · funext o k; exact hw 2 128 rfl _ o _

/-- What block `t` of the kernel computes, entry by entry. -/
theorem block_apply (t : Fin cfg0.N) (i : Fin 8) (o : Fin 64) (n : Fin 128) :
    (out0_6 (F := Ideal) (iblk m c 0 t) (iblk m c 1 t) (iblk m c 2 t) (iblk m c 3 t) (iblk m c 4 t) (iblk m c 5 t) (ix3 i o n) : Ideal .f32)
      = Net.kout (kshort (A4 m c) (A5 m c)) (knorm (A4 m c) (A5 m c)) (fun o k => (A2 m c (ix2 o k) : Ideal .f32)) (fun o k => weight (A3 m c) 0 o ⟨k.val, by omega⟩)
          (fun o k => weight (A3 m c) 0 o ⟨32 + k.val, by omega⟩) (weight (A3 m c) 1) (weight (A3 m c) 2) (cloud (A0 m c) (row t i))
          (present (A1 m c) (row t i)) o n := by
  rw [body_apply]
  unfold kshort knorm weight cloud present
  simp only [blk0_apply, blk1_apply, blk2_apply, blk3_apply, blk4_apply, blk5_apply]

/-- The reference's result array on the kernel's arguments. -/
abbrev result : FVec Ideal S256x64x128 .f32 :=
  Cert.ReferenceIdeal.Read.val_main_v189 (F := Ideal) (A0 m c) (A1 m c) (A2 m c) (A3 m c) (A4 m c) (A5 m c)

section Arrays

variable (x0 x1 : FVec Ideal S256x32x128 .f32) (x2 : FVec Ideal S64x32 .f32) (x3 : FVec Ideal S192x64 .f32) (x4 x5 : FVec Ideal S8x64 .f32)

/-- What the precondition says of the arrays, entry by entry. -/
structure Regular : Prop where
  points : ∀ i, Net.Fine (x0 i)
  short : ∀ i, Net.Fine (x2 i)
  weights : ∀ i, Net.Fine (x3 i)
  params : ∀ i, Net.Fine (x4 i)
  sums : ∀ i, Net.Fine (x5 i)
  varianceShort : ∀ o, 0 < Net.vare (Ideal.ofBits .f32 0x47000000#32) (Ideal.ofBits .f32 0x3727C5AC#32) (x5 (ix2 0 o)) (x5 (ix2 1 o))
  variance0 : ∀ o, 0 < Net.vare (Ideal.ofBits .f32 0x48600000#32) (Ideal.ofBits .f32 0x3727C5AC#32) (x5 (ix2 2 o)) (x5 (ix2 3 o))
  variance1 : ∀ o, 0 < Net.vare (Ideal.ofBits .f32 0x48600000#32) (Ideal.ofBits .f32 0x3727C5AC#32) (x5 (ix2 4 o)) (x5 (ix2 5 o))
  variance2 : ∀ o, 0 < Net.vare (Ideal.ofBits .f32 0x48600000#32) (Ideal.ofBits .f32 0x3727C5AC#32) (x5 (ix2 6 o)) (x5 (ix2 7 o))
  apart : ∀ b n, present x1 b n = 0 ∨ ∀ (j : ℕ) (hj : j < 8),
    Net.rpd (Net.kpts (cloud x0 b) (present x1 b)) n (Net.order (Net.rpd (Net.kpts (cloud x0 b) (present x1 b)) n) ⟨j + 1, by omega⟩)
      < Net.rpd (Net.kpts (cloud x0 b) (present x1 b)) n (Net.order (Net.rpd (Net.kpts (cloud x0 b) (present x1 b)) n) ⟨j, by omega⟩)

/-- The kernel's result at an index, from the arrays. -/
def kvalue (b : Fin 256) (o : Fin 64) (n : Fin 128) : EReal :=
  Net.kout (kshort x4 x5) (knorm x4 x5) (fun o k => (x2 (ix2 o k) : Ideal .f32)) (fun o k => weight x3 0 o ⟨k.val, by omega⟩)
    (fun o k => weight x3 0 o ⟨32 + k.val, by omega⟩) (weight x3 1) (weight x3 2) (cloud x0 b) (present x1 b) o n

variable {x0 x1 x2 x3 x4 x5} (h : Regular x0 x1 x2 x3 x4 x5)

include h

theorem Regular.short_norm (o : Fin 64) (x : EReal) (hx : Net.Fine x) :
    kshort x4 x5 o x = shortNorm x4 x5 o x ∧ Net.Fine (kshort x4 x5 o x) := by
  unfold kshort shortNorm
  have vs := h.varianceShort o
  rw [Net.cloud_bits] at vs ⊢
  exact Net.bn_eq (by norm_num) Net.eps_fine (h.sums _) (h.sums _) (h.params _) (h.params _) hx vs

theorem Regular.norm (l : Fin 3) (o : Fin 64) (x : EReal) (hx : Net.Fine x) :
    knorm x4 x5 l o x = Cert.ReferenceIdeal.Stages.norm x4 x5 l o x ∧ Net.Fine (knorm x4 x5 l o x) := by
  have hv : 0 < Net.vare (Ideal.ofBits .f32 0x48600000#32) (Ideal.ofBits .f32 0x3727C5AC#32) (x5 (ix2 ⟨2 * l.val + 2, by omega⟩ o))
      (x5 (ix2 ⟨2 * l.val + 3, by omega⟩ o)) := by
    match l with
    | 0 => exact h.variance0 o
    | 1 => exact h.variance1 o
    | 2 => exact h.variance2 o
  unfold knorm Cert.ReferenceIdeal.Stages.norm
  rw [Net.edge_bits] at hv ⊢
  have := Net.bn_eq (by norm_num) Net.eps_fine (h.sums _) (h.sums _) (h.params (ix2 ⟨2 * l.val, by omega⟩ o)) (h.params (ix2 ⟨2 * l.val + 1, by omega⟩ o)) hx hv
  exact this

theorem Regular.weight (l : Fin 3) (o k : Fin 64) : Net.Fine (Cert.ReferenceIdeal.Stages.weight x3 l o k) := h.weights _

/-- The kernel's value is the reference's at every index. -/
theorem Regular.agree (b : Fin 256) (o : Fin 64) (n : Fin 128) :
    kvalue x0 x1 x2 x3 x4 x5 b o n = Cert.ReferenceIdeal.Read.val_main_v189 (F := Ideal) x0 x1 x2 x3 x4 x5 (ix3 b o n) := by
  refine Eq.trans ?_ (Cert.ReferenceIdeal.Stages.out_apply x0 x1 x2 x3 x4 x5 b o n).symm
  exact Net.kout_eq (by decide) _ (shortNorm x4 x5) _ (Cert.ReferenceIdeal.Stages.norm x4 x5) (fun o x hx => (h.short_norm o x hx).1) h.norm _ _ _ _ _ _ _
    (fun n => Net.kmask_cases _ n) (fun o k => h.short _) (fun o k => h.weight _ _ _) (fun o k => h.weight _ _ _) (h.weight 1) (h.weight 2)
    (fun k n => h.points _) n (h.apart b n) o

/-- The kernel's value is real at every index. -/
theorem Regular.fine (b : Fin 256) (o : Fin 64) (n : Fin 128) : Net.Fine (kvalue x0 x1 x2 x3 x4 x5 b o n) :=
  Net.kout_fine (by decide) _ _ (fun o x hx => (h.short_norm o x hx).2) (fun l o x hx => (h.norm l o x hx).2) _ _ _ _ _ _ _
    (fun n => Net.kmask_cases _ n) (fun o k => h.short _) (fun o k => h.weight _ _ _) (fun o k => h.weight _ _ _) (h.weight 1) (h.weight 2)
    (fun k n => h.points _) n (h.apart b n) o

end Arrays

/-- Under the precondition the arguments are as they should be. -/
theorem regular (hpre : Cert.Pre_KernelIdeal_separated m) : Regular (A0 m c) (A1 m c) (A2 m c) (A3 m c) (A4 m c) (A5 m c) := by
  obtain ⟨h0, h2, h3, h4, h5, vs, v0, v1, v2, hap⟩ := hpre c
  exact {
    points := Cert.Pre_separated.Bounds.fine_points _ _ _ _ _ _ h0
    short := Cert.Pre_separated.Bounds.fine_short _ _ _ _ _ _ h2
    weights := Cert.Pre_separated.Bounds.fine_weights _ _ _ _ _ _ h3
    params := Cert.Pre_separated.Bounds.fine_params _ _ _ _ _ _ h4
    sums := Cert.Pre_separated.Bounds.fine_sums _ _ _ _ _ _ h5
    varianceShort := Cert.Pre_separated.Bounds.variance_short _ _ _ _ _ _ vs
    variance0 := Cert.Pre_separated.Bounds.variance0 _ _ _ _ _ _ v0
    variance1 := Cert.Pre_separated.Bounds.variance1 _ _ _ _ _ _ v1
    variance2 := Cert.Pre_separated.Bounds.variance2 _ _ _ _ _ _ v2
    apart := Cert.Pre_separated.Bounds.apart _ _ _ _ _ _ hap }

/-- Under the precondition the kernel's value and the reference's agree at every index. -/
theorem agree (hpre : Cert.Pre_KernelIdeal_separated m) (b : Fin 256) (o : Fin 64) (n : Fin 128) :
    kvalue (A0 m c) (A1 m c) (A2 m c) (A3 m c) (A4 m c) (A5 m c) b o n = result m c (ix3 b o n) :=
  (regular m c hpre).agree b o n

/-- What block `t` writes back is the reference's result there. -/
theorem flushed_eq (hpre : Cert.Pre_KernelIdeal_separated m) (t : Fin cfg0.N) :
    (dats m 0 c).flushed 6 t = ((cfg0.win 6).blk t).view.read (Elt Ideal) (result m c) := by
  rw [Cert.KernelIdeal.Value.flushed6]
  funext y
  have hy : y = ix3 (⟨(y 0).val, (y 0).isLt⟩ : Fin 8) (⟨(y 1).val, (y 1).isLt⟩ : Fin 64) (⟨(y 2).val, (y 2).isLt⟩ : Fin 128) := by
    funext a
    match a with
    | ⟨0, _⟩ => rfl
    | ⟨1, _⟩ => rfl
    | ⟨2, _⟩ => rfl
  generalize (⟨(y 0).val, (y 0).isLt⟩ : Fin 8) = i at hy
  generalize (⟨(y 1).val, (y 1).isLt⟩ : Fin 64) = o at hy
  generalize (⟨(y 2).val, (y 2).isLt⟩ : Fin 128) = n at hy
  subst hy
  show (out0_6 (F := Ideal) (iblk m c 0 t) (iblk m c 1 t) (iblk m c 2 t) (iblk m c 3 t) (iblk m c 4 t) (iblk m c 5 t) (ix3 i o n) : Ideal .f32)
    = result m c (((cfg0.win 6).blk t).view.emb (ix3 i o n))
  refine ((block_apply m c t i o n).trans (agree m c hpre (row t i) o n)).trans ?_
  refine congrArg (result m c) (funext fun a => Fin.ext ?_)
  obtain ⟨-, -, -, -, -, -, h0, h1, h2⟩ := moved_index t
  match a with
  | ⟨0, _⟩ => show 8 * t.val + i.val = win0_6.index t 0 * 8 + 1 * i.val; rw [h0]; omega
  | ⟨1, _⟩ => show o.val = win0_6.index t 1 * 64 + 1 * o.val; rw [h1]; omega
  | ⟨2, _⟩ => show n.val = win0_6.index t 2 * 128 + 1 * n.val; rw [h2]; omega

/-- The kernel's result array after the run is the reference's. -/
theorem final (hpre : Cert.Pre_KernelIdeal_separated m) : (dats m 0 c).arrAt 6 cfg0.N = result m c :=
  (dats m 0 c).arrAt_eq_of_covers 6 (result m c) (by decide +kernel) fun t _ y => congrFun (flushed_eq m c hpre t) y

end Cert.KernelIdeal.Blocks

end

end
-- ==== Proof.Head.lean ====
/- The head's value as a function of its entries. -/
module

public import proofs.«01_k».proof.Proof.Model

@[expose] public section

noncomputable section

namespace Cert.Net

open Idealize.ShloMosaic

/-- The product of two stacks of channels, one after the other, with a weight. -/
def fused (x : Fin 32 → Fin 128 → EReal) (y : Fin 64 → Fin 128 → EReal) (w : Fin 128 → Fin 96 → EReal) (o n : Fin 128) : EReal :=
  ∑ c, x c n * w o ⟨c.val, by omega⟩ + ∑ c, y c n * w o ⟨32 + c.val, by omega⟩

/-- The masked mean over the points of the fused features. -/
def pooled (bn : Fin 128 → EReal → EReal) (f : Fin 128 → Fin 128 → EReal) (mask : Fin 128 → EReal) (o : Fin 128) : EReal :=
  Ideal.div (∑ n, max (bn o (f o n)) 0 * mask n) (max (∑ n, mask n) 1)

/-- An entry of the head's result, from the pooled row, the hidden layer and the last layer's row and offset. -/
def scored (p : Fin 128 → EReal) (w : Fin 128 → Fin 128 → EReal) (b : Fin 128 → EReal) (w2 : Fin 128 → EReal) (b2 : EReal) : EReal :=
  ∑ k, max (∑ c, p c * w k c + b k) 0 * w2 k + b2

theorem fused_fine {x : Fin 32 → Fin 128 → EReal} {y : Fin 64 → Fin 128 → EReal} {w : Fin 128 → Fin 96 → EReal} (hx : ∀ c n, Fine (x c n))
    (hy : ∀ c n, Fine (y c n)) (hw : ∀ o c, Fine (w o c)) (o n : Fin 128) : Fine (fused x y w o n) :=
  (Fine.sum _ _ fun c => (hx c n).mul (hw o _)).add (Fine.sum _ _ fun c => (hy c n).mul (hw o _))

/-- The pooled rows agree when the batch norms agree on real entries. -/
theorem pooled_eq (bn bn' : Fin 128 → EReal → EReal) (hbn : ∀ o x, Fine x → bn o x = bn' o x) (f : Fin 128 → Fin 128 → EReal)
    (mask : Fin 128 → EReal) (hf : ∀ o n, Fine (f o n)) : pooled bn f mask = pooled bn' f mask := by
  funext o
  unfold pooled
  simp only [fun n => hbn o (f o n) (hf o n)]

/-- A last row and offset of zeros score zero. -/
theorem scored_zero (p : Fin 128 → EReal) (w : Fin 128 → Fin 128 → EReal) (b : Fin 128 → EReal) :
    scored p w b (fun _ => 0) 0 = 0 := by
  simp [scored]

end Cert.Net

end

end
-- ==== Proof.HeadKer.lean ====
/- The head's body read at an index. -/
module

public import proofs.«01_k».proof.Proof.Head
public import proofs.«01_k».proof.Proof.Stages
public import proofs.«01_k».proof.Proof.KVal
public import proofs.«01_k».proof.Proof.Gen.HeadKernelIdeal.Frame

@[expose] public section

set_option maxRecDepth 16384

noncomputable section

namespace Cert.HeadKernelIdeal.Pieces

open Cert.HeadKernelIdeal Cert.HeadKernelIdeal.Gen Idealize.ShloMosaic

theorem mask_apply (v0 : FVec Ideal S8x32x128 .f32) (i : Fin 8) (n : Fin 128) :
    (k0_pay2 v0 (ix3 i 0 n) : Ideal .f32) = Net.kmask (fun c n => v0 (ix3 i c n)) n := by
  pointwise [k0_pay2]
  exact Cert.KernelIdeal.Pieces.not_zero_num _

theorem fused_apply (v8 : FVec Ideal S8x32x128 .f32) (v10 : FVec Ideal S8x64x128 .f32) (v14 : FVec Ideal S128x96 .f32)
    (i : Fin 8) (n o : Fin 128) :
    (k0_pay3 v8 v10 v14 (ix2 ⟨i.val * 128 + n.val, by omega⟩ o) : Ideal .f32)
      = Net.fused (fun c n => v8 (ix3 i c n)) (fun c n => v10 (ix3 i c n)) (fun o c => v14 (ix2 o c)) o n := by
  pointwise [k0_pay3]
  rfl

/-- The body's batch norm of the fused features. -/
def bnorm (s ss g b : FVec Ideal S1x128 .f32) (o : Fin 128) (x : EReal) : EReal :=
  Net.kbn (Ideal.ofBits .f32 0x47000000#32) (Ideal.ofBits .f32 0x3727C5AC#32) (s (ix2 0 o)) (ss (ix2 0 o)) (g (ix2 0 o)) (b (ix2 0 o)) x

/-- The body's result at an index, from the loaded vectors. -/
theorem whole_apply (v0 v8 : FVec Ideal S8x32x128 .f32) (v10 : FVec Ideal S8x64x128 .f32) (v14 : FVec Ideal S128x96 .f32) (s ss g b : FVec Ideal S1x128 .f32)
    (v54 : FVec Ideal S128x128 .f32) (v56 : FVec Ideal S1x128 .f32) (v63 : FVec Ideal S16x128 .f32) (v66 : FVec Ideal S1x16 .f32)
    (i : Fin 8) (o : Fin 16) :
    (k0_pay1 (k0_pay2 v0) (k0_pay3 v8 v10 v14) (k0_pay4 b) (k0_pay5 s) (k0_pay6 s ss g) v54 v56 v63 v66 (ix2 i o) : Ideal .f32)
      = Net.scored (Net.pooled (bnorm s ss g b) (Net.fused (fun c n => v8 (ix3 i c n)) (fun c n => v10 (ix3 i c n)) (fun o c => v14 (ix2 o c)))
            (Net.kmask fun c n => v0 (ix3 i c n)))
          (fun o c => v54 (ix2 o c)) (fun o => v56 (ix2 0 o)) (fun c => v63 (ix2 o c)) (v66 (ix2 0 o)) := by
  pointwise [k0_pay1, k0_pay4, k0_pay5, k0_pay6]
  simp only [mask_apply, fused_apply]
  rfl

end Cert.HeadKernelIdeal.Pieces

end

end
-- ==== Proof.HeadHost.lean ====
/- What the host lines before the head's call leave in its parameter tables. -/
module

public import proofs.«01_k».proof.Proof.HeadKer
public import Idealize.ShloMosaic.Lib.Routing.OpsSet
public import Idealize.ShloMosaic.Lib.Routing.OpsPair
public import Idealize.ShloMosaic.Lib.StableHlo.RunRead

@[expose] public section

set_option maxRecDepth 16384

noncomputable section

namespace Cert.HeadKernelIdeal.Tables

open Cert.HeadKernelIdeal Cert.HeadKernelIdeal.Gen Idealize.ShloMosaic Idealize.ShloMosaic.Routing Idealize.ShloMosaic.TcCoe Idealize.SL.Sem

variable (m : (ℓ : Loc nD τ sig) → Buf (Elt Ideal) ℓ) (c : Dev nD)

/-- The offsets the two tables are filled at. -/
abbrev origin : IVec S1 32 := broadcastInDim S1 ![] bcast_S_S1 (constantI S_ 32 0#32)

/-- The last layer's weight, padded to sixteen rows. -/
def padded (x8 : FVec Ideal S10x128 .f32) : FVec Ideal S16x128 .f32 :=
  Host.scatter scatter_S16x128_S1_S10x128_01_n_0_0 (fun _ b => b) (broadcastInDim S16x128 ![] bcast_S_S16x128 (constant (F := Ideal) S_ .f32 0x00000000#32)) origin x8

/-- The last layer's offset, padded to a row. -/
def paddedRow (x9 : FVec Ideal S10 .f32) : FVec Ideal S128 .f32 :=
  Host.scatter scatter_S128_S1_S10_0_n_0_0 (fun _ b => b) (broadcastInDim S128 ![] bcast_S_S128 (constant (F := Ideal) S_ .f32 0x00000000#32)) origin x9

/-- The four rows of parameters. -/
def stacked (x4 x5 x7 : FVec Ideal S128 .f32) (x9 : FVec Ideal S10 .f32) : FVec Ideal S4x128 .f32 :=
  concatenate S4x128 0 [⟨S1x128, broadcastInDim S1x128 ![1] bcast_S128_S1x128_1 x4⟩, ⟨S1x128, broadcastInDim S1x128 ![1] bcast_S128_S1x128_1 x5⟩,
    ⟨S1x128, broadcastInDim S1x128 ![1] bcast_S128_S1x128_1 x7⟩, ⟨S1x128, broadcastInDim S1x128 ![1] bcast_S128_S1x128_1 (paddedRow x9)⟩]
    concatenates_S1x128_S1x128_S1x128_S1x128_S4x128_d0

theorem last_eq : V m c main_v2 = padded (m ((c : Thread nD τ).loc main_arg8)) := by
  entry_read
  rfl

theorem row0_eq : V m c main_v6 = broadcastInDim S1x128 ![1] bcast_S128_S1x128_1 (m ((c : Thread nD τ).loc main_arg4) : FVec Ideal S128 .f32) := by
  entry_read
  rfl

theorem row1_eq : V m c main_v7 = broadcastInDim S1x128 ![1] bcast_S128_S1x128_1 (m ((c : Thread nD τ).loc main_arg5) : FVec Ideal S128 .f32) := by
  entry_read
  rfl

theorem row2_eq : V m c main_v8 = broadcastInDim S1x128 ![1] bcast_S128_S1x128_1 (m ((c : Thread nD τ).loc main_arg7) : FVec Ideal S128 .f32) := by
  entry_read
  rfl

theorem row3_eq : V m c main_v9 = broadcastInDim S1x128 ![1] bcast_S128_S1x128_1 (paddedRow (m ((c : Thread nD τ).loc main_arg9))) := by
  entry_read
  rfl

/-- The last host line leaves the other buffers as they were before it. -/
theorem before_last (r : Ref sig .tc) (h : r ≠ main_v10) :
    StableHlo.upto hostOps0 (fun b => m (c, b)) 14 (Proc.devRef .tc r) = V m c r :=
  (StableHlo.nary_result_ne _ _ _ _ _ _ h).symm

theorem rows_eq : V m c main_v10 = stacked (m ((c : Thread nD τ).loc main_arg4)) (m ((c : Thread nD τ).loc main_arg5)) (m ((c : Thread nD τ).loc main_arg7)) (m ((c : Thread nD τ).loc main_arg9)) := by
  unfold stacked
  rw [← row0_eq, ← row1_eq, ← row2_eq, ← row3_eq, ← before_last m c main_v6 (by decide), ← before_last m c main_v7 (by decide),
    ← before_last m c main_v8 (by decide), ← before_last m c main_v9 (by decide)]
  exact (StableHlo.after_last_write (i := 14) [] rfl rfl (by simp) _).trans (StableHlo.nary4_result _ _ _ _)

theorem lands (k : Fin 10) (q : Fin 128) (r : Fin 16) (p : Fin 128) :
    scatter_S16x128_S1_S10x128_01_n_0_0.resultIdx? (ix2 k q) origin = some (ix2 r p) ↔ k.val = r.val ∧ q.val = p.val := by
  have h0 : scatter_S16x128_S1_S10x128_01_n_0_0.start (ix2 k q) origin (0 : Fin 2) = 0 := rfl
  have h1 : scatter_S16x128_S1_S10x128_01_n_0_0.start (ix2 k q) origin (1 : Fin 2) = 0 := rfl
  have w0 : scatter_S16x128_S1_S10x128_01_n_0_0.window (ix2 k q) (0 : Fin 2) = k.val := rfl
  have w1 : scatter_S16x128_S1_S10x128_01_n_0_0.window (ix2 k q) (1 : Fin 2) = q.val := rfl
  refine (resultIdx?_ix2 _ _ _ _ _).trans ?_
  rw [h0, h1, w0, w1]
  omega

theorem lands_row (k : Fin 10) (r : Fin 128) :
    scatter_S128_S1_S10_0_n_0_0.resultIdx? (ix1 k) origin = some (ix1 r) ↔ k.val = r.val := by
  have h0 : scatter_S128_S1_S10_0_n_0_0.start (ix1 k) origin (0 : Fin 1) = 0 := rfl
  have w0 : scatter_S128_S1_S10_0_n_0_0.window (ix1 k) (0 : Fin 1) = k.val := rfl
  refine (resultIdx?_ix1 _ _ _ _).trans ?_
  rw [h0, w0]
  omega

theorem padded_apply (x8 : FVec Ideal S10x128 .f32) (r : Fin 16) (p : Fin 128) :
    (padded x8 (ix2 r p) : Ideal .f32) = if h : r.val < 10 then x8 (ix2 ⟨r.val, h⟩ p) else 0 := by
  have hk : ∀ k : S10x128.Idx, ∃ (a : Fin 10) (b : Fin 128), k = ix2 a b := fun k =>
    ⟨⟨(k 0).val, (k 0).isLt⟩, ⟨(k 1).val, (k 1).isLt⟩, funext fun a => match a with | ⟨0, _⟩ => rfl | ⟨1, _⟩ => rfl⟩
  unfold padded
  split
  next h =>
    refine scatter_set_hit _ _ _ _ _ _ (fun k hk' => ?_) (ix2 ⟨r.val, h⟩ p) ((lands _ _ _ _).mpr ⟨rfl, rfl⟩)
    obtain ⟨a, b, rfl⟩ := hk k
    obtain ⟨e1, e2⟩ := (lands _ _ _ _).mp hk'
    rw [show a = ⟨r.val, h⟩ from Fin.ext e1, show b = p from Fin.ext e2]
  next h =>
    refine (scatter_set_miss _ _ _ _ _ (fun k hk' => ?_)).trans ?_
    · obtain ⟨a, b, rfl⟩ := hk k
      have := ((lands _ _ _ _).mp hk').1
      omega
    · pointwise []

theorem paddedRow_apply (x9 : FVec Ideal S10 .f32) (r : Fin 128) :
    (paddedRow x9 (ix1 r) : Ideal .f32) = if h : r.val < 10 then x9 (ix1 ⟨r.val, h⟩) else 0 := by
  have hk : ∀ k : S10.Idx, ∃ a : Fin 10, k = ix1 a := fun k =>
    ⟨⟨(k 0).val, (k 0).isLt⟩, funext fun a => match a with | ⟨0, _⟩ => rfl⟩
  unfold paddedRow
  split
  next h =>
    refine scatter_set_hit _ _ _ _ _ _ (fun k hk' => ?_) (ix1 ⟨r.val, h⟩) ((lands_row _ _).mpr rfl)
    obtain ⟨a, rfl⟩ := hk k
    rw [show a = ⟨r.val, h⟩ from Fin.ext ((lands_row _ _).mp hk')]
  next h =>
    refine (scatter_set_miss _ _ _ _ _ (fun k hk' => ?_)).trans ?_
    · obtain ⟨a, rfl⟩ := hk k
      have := (lands_row _ _).mp hk'
      omega
    · pointwise []

variable (x4 x5 x7 : FVec Ideal S128 .f32) (x9 : FVec Ideal S10 .f32) (o : Fin 128)

theorem stacked0 : (stacked x4 x5 x7 x9 (ix2 0 o) : Ideal .f32) = x4 (ix1 o) := by pointwise [stacked]
theorem stacked1 : (stacked x4 x5 x7 x9 (ix2 1 o) : Ideal .f32) = x5 (ix1 o) := by pointwise [stacked]
theorem stacked2 : (stacked x4 x5 x7 x9 (ix2 2 o) : Ideal .f32) = x7 (ix1 o) := by pointwise [stacked]
theorem stacked3 : (stacked x4 x5 x7 x9 (ix2 3 o) : Ideal .f32) = paddedRow x9 (ix1 o) := by pointwise [stacked]

end Cert.HeadKernelIdeal.Tables

end

end
-- ==== Proof.HeadRef.lean ====
/- The head's reference read at an index. -/
module

public import proofs.«01_k».proof.Proof.Head
public import proofs.«01_k».proof.Proof.Stages
public import proofs.«01_k».proof.Proof.Gen.HeadReferenceIdeal.Read

@[expose] public section

set_option maxRecDepth 16384

noncomputable section

namespace Cert.HeadReferenceIdeal.Stages

open Cert.HeadReferenceIdeal Cert.HeadReferenceIdeal.Gen Cert.HeadReferenceIdeal.Read Idealize.ShloMosaic

variable (x0 x2 : FVec Ideal S256x32x128 .f32) (x1 : FVec Ideal S256x64x128 .f32) (x3 : FVec Ideal S128x96 .f32) (x4 x5 x7 : FVec Ideal S128 .f32)
  (x6 : FVec Ideal S128x128 .f32) (x8 : FVec Ideal S10x128 .f32) (x9 : FVec Ideal S10 .f32) (x10 : FVec Ideal S2x128 .f32)

theorem mask_apply (b : Fin 256) (n : Fin 128) :
    (val_main_v5 (F := Ideal) x2 (ix3 b 0 n) : Ideal .f32) = Net.kmask (fun c n => (x2 (ix3 b c n) : Ideal .f32)) n := by
  pointwise [val_main_v0, val_main_cst, val_main_v1, val_main_v2, val_main_cst_0, val_main_v3, val_main_v4, val_main_v5]
  exact Cert.ReferenceIdeal.Stages.mask_num _

/-- The product of batch element `b`'s features with the fusing weight. -/
def fusedOf (b : Fin 256) : Fin 128 → Fin 128 → EReal :=
  Net.fused (fun c n => x0 (ix3 b c n)) (fun c n => x1 (ix3 b c n)) (fun o c => x3 (ix2 o c))

theorem fused_apply (b : Fin 256) (o n : Fin 128) :
    (val_main_v11 (F := Ideal) x0 x1 x3 (ix3 b o n) : Ideal .f32) = fusedOf x0 x1 x3 b o n := by
  pointwise [val_main_v9, val_main_v10, val_main_v11]
  rfl

/-- The reference's batch norm of the fused features. -/
def bnorm (o : Fin 128) (x : EReal) : EReal :=
  Net.rbn (Ideal.ofBits .f32 0x47000000#32) (Ideal.ofBits .f32 0x3727C5AC#32) (x10 (ix2 0 o)) (x10 (ix2 1 o)) (x4 (ix1 o)) (x5 (ix1 o)) x

theorem gated_apply (b : Fin 256) (o n : Fin 128) :
    (val_main_v40 (F := Ideal) x0 x1 x2 x3 x4 x5 x10 (ix3 b o n) : Ideal .f32)
      = max (bnorm x4 x5 x10 o (fusedOf x0 x1 x3 b o n)) 0 * Net.kmask (fun c n => (x2 (ix3 b c n) : Ideal .f32)) n := by
  rw [← fused_apply, ← mask_apply]
  pointwise [val_main_v12, val_main_v13, val_main_v14, val_main_v15, val_main_cst_3, val_main_v16, val_main_v17, val_main_cst_4, val_main_v18, val_main_v19, val_main_v20, val_main_v21, val_main_v22, val_main_v23, val_main_v24, val_main_v25, val_main_cst_5, val_main_v26, val_main_v27, val_main_v28, val_main_v29, val_main_v30, val_main_v31, val_main_v32, val_main_v33, val_main_v34, val_main_v35, val_main_v36, val_main_cst_6, val_main_v37, val_main_v38, val_main_v39, val_main_v40]
  rfl

/-- The reference's first ten results. -/
theorem score_apply (b : Fin 256) (o : Fin 10) :
    (val_main_v55 (F := Ideal) x0 x1 x2 x3 x4 x5 x6 x7 x8 x9 x10 (ix2 b o) : Ideal .f32)
      = Net.scored (Net.pooled (bnorm x4 x5 x10) (fusedOf x0 x1 x3 b) (Net.kmask fun c n => (x2 (ix3 b c n) : Ideal .f32)))
          (fun o c => x6 (ix2 o c)) (fun o => x7 (ix1 o)) (fun c => x8 (ix2 o c)) (x9 (ix1 o)) := by
  pointwise [val_main_cst_1, val_main_v6, val_main_cst_2, val_main_v7, val_main_v8, val_main_cst_7, val_main_v41, val_main_v42, val_main_v43, val_main_v44, val_main_v45, val_main_v46, val_main_v47, val_main_v48, val_main_cst_8, val_main_v49, val_main_v50, val_main_v51, val_main_v52, val_main_v53, val_main_v54, val_main_v55]
  simp only [mask_apply, gated_apply]
  rfl

/-- The reference's result at an index. -/
theorem out_apply (b : Fin 256) (o : Fin 16) :
    (val_main_v57 (F := Ideal) x0 x1 x2 x3 x4 x5 x6 x7 x8 x9 x10 (ix2 b o) : Ideal .f32)
      = if h : o.val < 10 then (val_main_v55 (F := Ideal) x0 x1 x2 x3 x4 x5 x6 x7 x8 x9 x10 (ix2 b ⟨o.val, h⟩) : Ideal .f32) else 0 := by
  pointwise [val_main_cst_9, val_main_v56, val_main_v57]

end Cert.HeadReferenceIdeal.Stages

end

end
-- ==== Proof.HeadBounds.lean ====
/- What the head's precondition says of its arrays, entry by entry. -/
module

public import proofs.«01_k».proof.Proof.Gen.Pre_head_regular
public import proofs.«01_k».proof.Proof.Bounds

@[expose] public section

set_option maxRecDepth 16384

noncomputable section

namespace Cert.Pre_head_regular.Bounds

open Cert.Pre_head_regular Cert.Pre_head_regular.Gen Cert.Pre_separated.Bounds Idealize.ShloMosaic

variable (x0 x2 : FVec Ideal S256x32x128 .f32) (x1 : FVec Ideal S256x64x128 .f32) (x3 : FVec Ideal S128x96 .f32) (x4 x5 x7 : FVec Ideal S128 .f32)
  (x6 : FVec Ideal S128x128 .f32) (x8 : FVec Ideal S10x128 .f32) (x9 : FVec Ideal S10 .f32) (x10 : FVec Ideal S2x128 .f32)

theorem fine_near (h : (fn (F := Ideal) x0 x1 x2 x3 x4 x5 x6 x7 x8 x9 x10).1 = fun _ => 1#1) (i) : Net.Fine (x0 i) :=
  fine_of_bit _ (congrFun h i)

theorem fine_far (h : (fn (F := Ideal) x0 x1 x2 x3 x4 x5 x6 x7 x8 x9 x10).2.1 = fun _ => 1#1) (i) : Net.Fine (x1 i) :=
  fine_of_bit _ (congrFun h i)

theorem fine_weight (h : (fn (F := Ideal) x0 x1 x2 x3 x4 x5 x6 x7 x8 x9 x10).2.2.1 = fun _ => 1#1) (i) : Net.Fine (x3 i) :=
  fine_of_bit _ (congrFun h i)

theorem fine_gain (h : (fn (F := Ideal) x0 x1 x2 x3 x4 x5 x6 x7 x8 x9 x10).2.2.2.1 = fun _ => 1#1) (i) : Net.Fine (x4 i) :=
  fine_of_bit _ (congrFun h i)

theorem fine_offset (h : (fn (F := Ideal) x0 x1 x2 x3 x4 x5 x6 x7 x8 x9 x10).2.2.2.2.1 = fun _ => 1#1) (i) : Net.Fine (x5 i) :=
  fine_of_bit _ (congrFun h i)

theorem fine_sums (h : (fn (F := Ideal) x0 x1 x2 x3 x4 x5 x6 x7 x8 x9 x10).2.2.2.2.2.1 = fun _ => 1#1) (i) : Net.Fine (x10 i) :=
  fine_of_bit _ (congrFun h i)

theorem variance (h : (fn (F := Ideal) x0 x1 x2 x3 x4 x5 x6 x7 x8 x9 x10).2.2.2.2.2.2 = fun _ => 1#1) (o : Fin 128) :
    0 < Net.vare (Ideal.ofBits .f32 0x47000000#32) (Ideal.ofBits .f32 0x3727C5AC#32) (x10 (ix2 0 o)) (x10 (ix2 1 o)) := by
  have h' := congrFun h (ix1 o)
  rw [show ((fn (F := Ideal) x0 x1 x2 x3 x4 x5 x6 x7 x8 x9 x10).2.2.2.2.2.2 (ix1 o) : BitVec 1)
      = BitVec.ofBool (decide (0 < Net.vare (Ideal.ofBits .f32 0x47000000#32) (Ideal.ofBits .f32 0x3727C5AC#32) (x10 (ix2 0 o)) (x10 (ix2 1 o)))) from by
    pointwise [fn, fn_part1]
    rfl] at h'
  exact bit_true h'

end Cert.Pre_head_regular.Bounds

end

end
-- ==== Proof.HeadBlocks.lean ====
/- The head's result array is its reference's. -/
module

public import proofs.«01_k».proof.Proof.HeadHost
public import proofs.«01_k».proof.Proof.HeadRef
public import proofs.«01_k».proof.Proof.HeadBounds
public import proofs.«01_k».proof.Proof.Gen.HeadKernelIdeal.Value
public import Idealize.ShloMosaic.Lib.Pipeline.ValueKit.Geometry

@[expose] public section

set_option maxRecDepth 16384

noncomputable section

namespace Cert.HeadKernelIdeal.Blocks

open Cert.HeadKernelIdeal Cert.HeadKernelIdeal.Gen Cert.HeadKernelIdeal.Pieces Cert.HeadKernelIdeal.Tables Idealize.ShloMosaic Idealize.ShloMosaic.TcCoe Idealize.SL.Sem

variable (m : (ℓ : Loc nD τ sig) → Buf (Elt Ideal) ℓ) (c : Dev nD)

/-- The arguments of device `c`. -/
abbrev A0 : FVec Ideal S256x32x128 .f32 := m ((c : Thread nD τ).loc main_arg0)
abbrev A1 : FVec Ideal S256x64x128 .f32 := m ((c : Thread nD τ).loc main_arg1)
abbrev A2 : FVec Ideal S256x32x128 .f32 := m ((c : Thread nD τ).loc main_arg2)
abbrev A3 : FVec Ideal S128x96 .f32 := m ((c : Thread nD τ).loc main_arg3)
abbrev A4 : FVec Ideal S128 .f32 := m ((c : Thread nD τ).loc main_arg4)
abbrev A5 : FVec Ideal S128 .f32 := m ((c : Thread nD τ).loc main_arg5)
abbrev A6 : FVec Ideal S128x128 .f32 := m ((c : Thread nD τ).loc main_arg6)
abbrev A7 : FVec Ideal S128 .f32 := m ((c : Thread nD τ).loc main_arg7)
abbrev A8 : FVec Ideal S10x128 .f32 := m ((c : Thread nD τ).loc main_arg8)
abbrev A9 : FVec Ideal S10 .f32 := m ((c : Thread nD τ).loc main_arg9)
abbrev A10 : FVec Ideal S2x128 .f32 := m ((c : Thread nD τ).loc main_arg10)

/-- Batch element `i` of block `t`. -/
def row (t : Fin cfg0.N) (i : Fin 8) : Fin 256 := ⟨8 * t.val + i.val, by have : t.val < 32 := t.isLt; omega⟩

theorem moved_index : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ win0_8.index t 0 = t.val ∧ win0_8.index t 1 = 0 :=
  (by decide +kernel : ∀ t : Fin grid0.N, _)

theorem fixed_index : ∀ t : Fin cfg0.N, (∀ a, win0_3.index t a = 0) ∧ (∀ a, win0_4.index t a = 0) ∧ (∀ a, win0_5.index t a = 0)
    ∧ (∀ a, win0_6.index t a = 0) ∧ (∀ a, win0_7.index t a = 0) :=
  (by decide +kernel : ∀ t : Fin grid0.N, _)

theorem blk0_apply (t : Fin cfg0.N) (i : Fin 8) (k : Fin 32) (n : Fin 128) :
    (iblk m c 0 t (ix3 i k n) : Ideal .f32) = A0 m c (ix3 (row t i) k n) := by
  show V m c main_arg0 (((cfg0.win 0).blk t).view.emb (ix3 i k n)) = _
  rw [V_main_arg0]
  refine congrArg (A0 m c) (funext fun a => Fin.ext ?_)
  obtain ⟨h0, h1, h2⟩ := (moved_index t).1
  match a with
  | ⟨0, _⟩ => show win0_0.index t 0 * 8 + 1 * i.val = 8 * t.val + i.val; rw [h0]; omega
  | ⟨1, _⟩ => show win0_0.index t 1 * 32 + 1 * k.val = k.val; rw [h1]; omega
  | ⟨2, _⟩ => show win0_0.index t 2 * 128 + 1 * n.val = n.val; rw [h2]; omega

theorem blk1_apply (t : Fin cfg0.N) (i : Fin 8) (k : Fin 64) (n : Fin 128) :
    (iblk m c 1 t (ix3 i k n) : Ideal .f32) = A1 m c (ix3 (row t i) k n) := by
  show V m c main_arg1 (((cfg0.win 1).blk t).view.emb (ix3 i k n)) = _
  rw [V_main_arg1]
  refine congrArg (A1 m c) (funext fun a => Fin.ext ?_)
  obtain ⟨h0, h1, h2⟩ := (moved_index t).2.1
  match a with
  | ⟨0, _⟩ => show win0_1.index t 0 * 8 + 1 * i.val = 8 * t.val + i.val; rw [h0]; omega
  | ⟨1, _⟩ => show win0_1.index t 1 * 64 + 1 * k.val = k.val; rw [h1]; omega
  | ⟨2, _⟩ => show win0_1.index t 2 * 128 + 1 * n.val = n.val; rw [h2]; omega

theorem blk2_apply (t : Fin cfg0.N) (i : Fin 8) (k : Fin 32) (n : Fin 128) :
    (iblk m c 2 t (ix3 i k n) : Ideal .f32) = A2 m c (ix3 (row t i) k n) := by
  show V m c main_arg2 (((cfg0.win 2).blk t).view.emb (ix3 i k n)) = _
  rw [V_main_arg2]
  refine congrArg (A2 m c) (funext fun a => Fin.ext ?_)
  obtain ⟨h0, h1, h2⟩ := (moved_index t).2.2.1
  match a with
  | ⟨0, _⟩ => show win0_2.index t 0 * 8 + 1 * i.val = 8 * t.val + i.val; rw [h0]; omega
  | ⟨1, _⟩ => show win0_2.index t 1 * 32 + 1 * k.val = k.val; rw [h1]; omega
  | ⟨2, _⟩ => show win0_2.index t 2 * 128 + 1 * n.val = n.val; rw [h2]; omega

theorem blk3_eq (t : Fin cfg0.N) : (iblk m c 3 t : FVec Ideal S128x96 .f32) = A3 m c := by
  funext y
  show V m c main_arg3 (((cfg0.win 3).blk t).view.emb y) = _
  rw [V_main_arg3]
  refine congrArg (A3 m c) (funext fun a => Fin.ext ?_)
  have h := (fixed_index t).1
  match a with
  | ⟨0, _⟩ => show win0_3.index t 0 * 128 + 1 * (y 0).val = (y 0).val; rw [h]; omega
  | ⟨1, _⟩ => show win0_3.index t 1 * 96 + 1 * (y 1).val = (y 1).val; rw [h]; omega

theorem blk4_eq (t : Fin cfg0.N) : (iblk m c 4 t : FVec Ideal S4x128 .f32) = stacked (A4 m c) (A5 m c) (A7 m c) (A9 m c) := by
  funext y
  show V m c main_v10 (((cfg0.win 4).blk t).view.emb y) = _
  rw [rows_eq]
  refine congrArg (stacked (A4 m c) (A5 m c) (A7 m c) (A9 m c)) (funext fun a => Fin.ext ?_)
  have h := (fixed_index t).2.1
  match a with
  | ⟨0, _⟩ => show win0_4.index t 0 * 4 + 1 * (y 0).val = (y 0).val; rw [h]; omega
  | ⟨1, _⟩ => show win0_4.index t 1 * 128 + 1 * (y 1).val = (y 1).val; rw [h]; omega

theorem blk5_eq (t : Fin cfg0.N) : (iblk m c 5 t : FVec Ideal S128x128 .f32) = A6 m c := by
  funext y
  show V m c main_arg6 (((cfg0.win 5).blk t).view.emb y) = _
  rw [V_main_arg6]
  refine congrArg (A6 m c) (funext fun a => Fin.ext ?_)
  have h := (fixed_index t).2.2.1
  match a with
  | ⟨0, _⟩ => show win0_5.index t 0 * 128 + 1 * (y 0).val = (y 0).val; rw [h]; omega
  | ⟨1, _⟩ => show win0_5.index t 1 * 128 + 1 * (y 1).val = (y 1).val; rw [h]; omega

theorem blk6_eq (t : Fin cfg0.N) : (iblk m c 6 t : FVec Ideal S16x128 .f32) = padded (A8 m c) := by
  funext y
  show V m c main_v2 (((cfg0.win 6).blk t).view.emb y) = _
  rw [last_eq]
  refine congrArg (padded (A8 m c)) (funext fun a => Fin.ext ?_)
  have h := (fixed_index t).2.2.2.1
  match a with
  | ⟨0, _⟩ => show win0_6.index t 0 * 16 + 1 * (y 0).val = (y 0).val; rw [h]; omega
  | ⟨1, _⟩ => show win0_6.index t 1 * 128 + 1 * (y 1).val = (y 1).val; rw [h]; omega

theorem blk7_eq (t : Fin cfg0.N) : (iblk m c 7 t : FVec Ideal S2x128 .f32) = A10 m c := by
  funext y
  show V m c main_arg10 (((cfg0.win 7).blk t).view.emb y) = _
  rw [V_main_arg10]
  refine congrArg (A10 m c) (funext fun a => Fin.ext ?_)
  have h := (fixed_index t).2.2.2.2
  match a with
  | ⟨0, _⟩ => show win0_7.index t 0 * 2 + 1 * (y 0).val = (y 0).val; rw [h]; omega
  | ⟨1, _⟩ => show win0_7.index t 1 * 128 + 1 * (y 1).val = (y 1).val; rw [h]; omega

/-- A loaded row of a table of rows of 128 entries, or its first entries. -/
theorem ld_row {R C : ℕ} (x : Vec Ideal (⟨2, ![R, 128]⟩) .f32) (q : ℕ) (hq : q < R) (hC : C ≤ 128) (inb) (o : Fin C) :
    (View.ld x (Rect.unit (s := ⟨2, ![R, 128]⟩) ![q, 0] ![1, C] inb) (ix2 0 o) : Ideal .f32) = x (ix2 ⟨q, hq⟩ ⟨o.val, by omega⟩) := by
  refine congrArg x (funext fun a => Fin.ext ?_)
  match a with
  | ⟨0, _⟩ => show q + 1 * 0 = q; omega
  | ⟨1, _⟩ => show 0 + 1 * o.val = o.val; omega

/-- The kernel's batch norm of the fused features, from the arguments. -/
def knorm (x4 x5 : FVec Ideal S128 .f32) (x10 : FVec Ideal S2x128 .f32) (o : Fin 128) (x : EReal) : EReal :=
  Net.kbn (Ideal.ofBits .f32 0x47000000#32) (Ideal.ofBits .f32 0x3727C5AC#32) (x10 (ix2 0 o)) (x10 (ix2 1 o)) (x4 (ix1 o)) (x5 (ix1 o)) x

/-- The head's result at a batch element and a class, from the arguments. -/
def value (b : Fin 256) (o : Fin 16) : EReal :=
  Net.scored (Net.pooled (knorm (A4 m c) (A5 m c) (A10 m c)) (Cert.HeadReferenceIdeal.Stages.fusedOf (A0 m c) (A1 m c) (A3 m c) b)
      (Net.kmask fun k n => (A2 m c (ix3 b k n) : Ideal .f32)))
    (fun o k => A6 m c (ix2 o k)) (fun o => A7 m c (ix1 o)) (fun k => padded (A8 m c) (ix2 o k)) (paddedRow (A9 m c) (ix1 ⟨o.val, by omega⟩))

/-- What the body leaves in its result block, entry by entry, from its input blocks. -/
theorem body_apply (x0 : Vec Ideal S8x32x128 .f32) (x1 : Vec Ideal S8x64x128 .f32) (x2 : Vec Ideal S8x32x128 .f32) (x3 : Vec Ideal S128x96 .f32)
    (x4 x5 x7 : FVec Ideal S128 .f32) (x9 : FVec Ideal S10 .f32) (x6 : Vec Ideal S128x128 .f32) (x8 : Vec Ideal S16x128 .f32) (x10 : Vec Ideal S2x128 .f32)
    (xt : Vec Ideal S4x128 .f32) (hT : xt = stacked x4 x5 x7 x9)
    (i : Fin 8) (o : Fin 16) :
    (out0_8 (F := Ideal) x0 x1 x2 x3 xt x6 x8 x10 (ix2 i o) : Ideal .f32)
      = Net.scored (Net.pooled (knorm x4 x5 x10) (Net.fused (fun c n => x0 (ix3 i c n)) (fun c n => x1 (ix3 i c n)) (fun o c => x3 (ix2 o c)))
            (Net.kmask fun c n => x2 (ix3 i c n)))
          (fun o k => x6 (ix2 o k)) (fun o => x7 (ix1 o)) (fun k => x8 (ix2 o k)) (paddedRow x9 (ix1 ⟨o.val, by omega⟩)) := by
  unfold out0_8
  rw [View.canon_cons_unit_lit _ _ _ (by decide), whole_apply, View.ld_unit_lit _ x2 (by decide), View.ld_unit_lit _ x0 (by decide),
    View.ld_unit_lit _ x1 (by decide), View.ld_unit_lit _ x3 (by decide), View.ld_unit_lit _ x6 (by decide), View.ld_unit_lit _ x8 (by decide)]
  have hn : bnorm (View.ld x10 r0_3) (View.ld x10 r0_4) (View.ld xt r0_5) (View.ld xt r0_6) = knorm x4 x5 x10 := by
    funext o x
    unfold bnorm knorm
    rw [← stacked0 x4 x5 x7 x9, ← stacked1 x4 x5 x7 x9, ← hT]
    congr 1
    · exact ld_row x10 0 (by decide) (by decide) _ o
    · exact ld_row x10 1 (by decide) (by decide) _ o
    · exact ld_row xt 0 (by decide) (by decide) _ o
    · exact ld_row xt 1 (by decide) (by decide) _ o
  have hb : (fun o => (View.ld xt r0_8 (ix2 0 o) : Ideal .f32)) = fun o => x7 (ix1 o) := by
    funext o
    rw [← stacked2 x4 x5 x7 x9, ← hT]
    exact ld_row xt 2 (by decide) (by decide) _ o
  have hl : (View.ld xt r0_10 (ix2 0 o) : Ideal .f32) = paddedRow x9 (ix1 ⟨o.val, by omega⟩) := by
    rw [← stacked3 x4 x5 x7 x9, ← hT]
    exact ld_row xt 3 (by decide) (by decide) _ o
  rw [hn, hb, hl]

/-- What block `t` of the kernel computes, entry by entry. -/
theorem block_apply (t : Fin cfg0.N) (i : Fin 8) (o : Fin 16) :
    (out0_8 (F := Ideal) (iblk m c 0 t) (iblk m c 1 t) (iblk m c 2 t) (iblk m c 3 t) (iblk m c 4 t) (iblk m c 5 t) (iblk m c 6 t) (iblk m c 7 t) (ix2 i o) : Ideal .f32)
      = value m c (row t i) o := by
  rw [blk3_eq, blk5_eq, blk6_eq, blk7_eq, body_apply (hT := blk4_eq m c t)]
  unfold value Cert.HeadReferenceIdeal.Stages.fusedOf
  simp only [blk0_apply, blk1_apply, blk2_apply]

/-- The reference's result array on the kernel's arguments. -/
abbrev result : FVec Ideal S256x16 .f32 :=
  Cert.HeadReferenceIdeal.Read.val_main_v57 (F := Ideal) (A0 m c) (A1 m c) (A2 m c) (A3 m c) (A4 m c) (A5 m c) (A6 m c) (A7 m c) (A8 m c) (A9 m c) (A10 m c)

/-- Under the precondition the kernel's value and the reference's agree at every index. -/
theorem agree (hpre : Cert.Pre_HeadKernelIdeal_head_regular m) (b : Fin 256) (o : Fin 16) : value m c b o = result m c (ix2 b o) := by
  obtain ⟨h0, h1, h3, h4, h5, h10, hv⟩ := hpre c
  have f0 := Cert.Pre_head_regular.Bounds.fine_near _ _ _ _ _ _ _ _ _ _ _ h0
  have f1 := Cert.Pre_head_regular.Bounds.fine_far _ _ _ _ _ _ _ _ _ _ _ h1
  have f3 := Cert.Pre_head_regular.Bounds.fine_weight _ _ _ _ _ _ _ _ _ _ _ h3
  have f4 := Cert.Pre_head_regular.Bounds.fine_gain _ _ _ _ _ _ _ _ _ _ _ h4
  have f5 := Cert.Pre_head_regular.Bounds.fine_offset _ _ _ _ _ _ _ _ _ _ _ h5
  have f10 := Cert.Pre_head_regular.Bounds.fine_sums _ _ _ _ _ _ _ _ _ _ _ h10
  have hv := Cert.Pre_head_regular.Bounds.variance _ _ _ _ _ _ _ _ _ _ _ hv
  refine Eq.trans ?_ (Cert.HeadReferenceIdeal.Stages.out_apply (A0 m c) (A2 m c) (A1 m c) (A3 m c) (A4 m c) (A5 m c) (A7 m c) (A6 m c) (A8 m c) (A9 m c) (A10 m c) b o).symm
  unfold value
  simp only [padded_apply, paddedRow_apply]
  by_cases h : o.val < 10
  · simp only [dif_pos h]
    rw [Cert.HeadReferenceIdeal.Stages.score_apply, Net.pooled_eq (knorm (A4 m c) (A5 m c) (A10 m c)) (Cert.HeadReferenceIdeal.Stages.bnorm (A4 m c) (A5 m c) (A10 m c))]
    · intro o x hx
      have hv := hv o
      unfold knorm Cert.HeadReferenceIdeal.Stages.bnorm
      rw [Net.cloud_bits] at hv ⊢
      exact (Net.bn_eq (by norm_num) Net.eps_fine (f10 _) (f10 _) (f4 _) (f5 _) hx hv).1
    · exact Net.fused_fine (fun _ _ => f0 _) (fun _ _ => f1 _) (fun _ _ => f3 _)
  · simp only [dif_neg h]
    exact Net.scored_zero _ _ _

/-- What block `t` writes back is the reference's result there. -/
theorem flushed_eq (hpre : Cert.Pre_HeadKernelIdeal_head_regular m) (t : Fin cfg0.N) :
    (dats m 0 c).flushed 8 t = ((cfg0.win 8).blk t).view.read (Elt Ideal) (result m c) := by
  rw [Cert.HeadKernelIdeal.Value.flushed8]
  funext y
  have hy : y = ix2 (⟨(y 0).val, (y 0).isLt⟩ : Fin 8) (⟨(y 1).val, (y 1).isLt⟩ : Fin 16) := by
    funext a
    match a with
    | ⟨0, _⟩ => rfl
    | ⟨1, _⟩ => rfl
  generalize (⟨(y 0).val, (y 0).isLt⟩ : Fin 8) = i at hy
  generalize (⟨(y 1).val, (y 1).isLt⟩ : Fin 16) = o at hy
  subst hy
  show (out0_8 (F := Ideal) (iblk m c 0 t) (iblk m c 1 t) (iblk m c 2 t) (iblk m c 3 t) (iblk m c 4 t) (iblk m c 5 t) (iblk m c 6 t) (iblk m c 7 t) (ix2 i o) : Ideal .f32)
    = result m c (((cfg0.win 8).blk t).view.emb (ix2 i o))
  rw [block_apply, agree m c hpre]
  refine congrArg (result m c) (funext fun a => Fin.ext ?_)
  obtain ⟨h0, h1⟩ := (moved_index t).2.2.2
  match a with
  | ⟨0, _⟩ => show 8 * t.val + i.val = win0_8.index t 0 * 8 + 1 * i.val; rw [h0]; omega
  | ⟨1, _⟩ => show o.val = win0_8.index t 1 * 16 + 1 * o.val; rw [h1]; omega

/-- The kernel's result array after the run is the reference's. -/
theorem final (hpre : Cert.Pre_HeadKernelIdeal_head_regular m) : (dats m 0 c).arrAt 8 cfg0.N = result m c :=
  (dats m 0 c).arrAt_eq_of_covers 8 (result m c) (by decide +kernel) fun t _ y => congrFun (flushed_eq m c hpre t) y

end Cert.HeadKernelIdeal.Blocks

end

end
-- ==== Proof.FirstPieces.lean ====
/- The first edge convolution's body cut into pieces that every cloud of a block shares, and each piece read at an index. -/
module

public import proofs.«01_k».proof.Proof.Gen.FirstKernelIdeal.Skeleton
public import proofs.«01_k».proof.Proof.Gen.FirstKernelIdeal.Frame
public import proofs.«01_k».proof.Proof.KVal
public import proofs.«01_k».proof.Proof.First

@[expose] public section

set_option maxRecDepth 16384

noncomputable section

namespace Cert.FirstKernelIdeal.Pieces

open Cert.FirstKernelIdeal Cert.FirstKernelIdeal.Gen Idealize.ShloMosaic
open Cert.KernelIdeal.Pieces (sels hot hot_apply bitsOf_apply selOf_apply rounds rounds_succ_apply ofBool_bit select_eq_iff diag_bit slices_table)

/-- The named constant is the least value. -/
theorem named_neg : (Named.named κ "neg" 0xFF61B1E6#32 : Ideal .f32) = ⊥ := rfl

/-- The distance table of one cloud `p` (coordinates by points), with the diagonal put at the least value. -/
def pdOf (p : FVec Ideal S8x128 .f32) : FVec Ideal S128x128 .f32 :=
  have q : FVec Ideal S128x8 .f32 := transpose S128x8 [1, 0] p transposes_S8x128_p1_0_S128x8
  have g : FVec Ideal S128x128 .f32 := matmul dot_S128x8_S8x128_S128x128_1_0_0_1_n_n none q p (constant S128x128 .f32 0x00000000#32)
  have r : FVec Ideal S128x1 .f32 := shapeCast S128x1 (multiReduction .add [1] S128 (mulf q q) 0x00000000#32 reduces_S128x8_S128 (.inl rfl) rfl) shapeCasts_S128_S128x1
  have a : FVec Ideal S128x128 .f32 := subf (mulf (broadcast S128x128 (Scalar.ofBits .f32 0x40000000#32)) g) (broadcastTo S128x128 r broadcasts_S128x1_S128x128)
  have b : FVec Ideal S128x128 .f32 := subf a (broadcastTo S128x128 (transpose S1x128 [1, 0] r transposes_S128x1_p1_0_S1x128) broadcasts_S1x128_S128x128)
  select k0_pay3 (broadcast S128x128 (Named.named κ "neg" 0xFF61B1E6#32)) b

theorem pdOf_apply (p : FVec Ideal S8x128 .f32) (n m : Fin 128) :
    pdOf p (ix2 n m) = if n = m then ⊥ else
      Ideal.ofBits .f32 0x40000000#32 * (∑ c : Fin 8, p (ix2 c n) * p (ix2 c m)) - (∑ c : Fin 8, p (ix2 c n) * p (ix2 c n))
        - (∑ c : Fin 8, p (ix2 c m) * p (ix2 c m)) := by
  pointwise [pdOf, k0_pay3]
  rw [named_neg, select_eq_iff _ _ _ _ (diag_bit n m)]

/-- Coordinates by points of cloud `k` of a block. -/
def chan (x : FVec Ideal S8x8x128 .f32) (k : ℕ) (h : S8x8x128.Slices ![k, 0, 0] S1x8x128) : FVec Ideal S8x128 .f32 :=
  shapeCast S8x128 (extractStridedSlice S1x8x128 ![k, 0, 0] x h) shapeCasts_S1x8x128_S8x128

theorem chan_apply (x : FVec Ideal S8x8x128 .f32) (i : Fin 8) (h : S8x8x128.Slices ![i.val, 0, 0] S1x8x128)
    (c : Fin 8) (n : Fin 128) : chan x i.val h (ix2 c n) = x (ix3 i c n) := by
  pointwise [chan]

/-- The distance tables of a block's clouds, one under the other. -/
def allPd (x : FVec Ideal S8x8x128 .f32) : FVec Ideal S1024x128 .f32 :=
  concatenate S1024x128 0 [⟨S128x128, pdOf (chan x 0 slices_S8x8x128_o0_0_0_S1x8x128)⟩,
    ⟨S128x128, pdOf (chan x 1 slices_S8x8x128_o1_0_0_S1x8x128)⟩,
    ⟨S128x128, pdOf (chan x 2 slices_S8x8x128_o2_0_0_S1x8x128)⟩,
    ⟨S128x128, pdOf (chan x 3 slices_S8x8x128_o3_0_0_S1x8x128)⟩,
    ⟨S128x128, pdOf (chan x 4 slices_S8x8x128_o4_0_0_S1x8x128)⟩,
    ⟨S128x128, pdOf (chan x 5 slices_S8x8x128_o5_0_0_S1x8x128)⟩,
    ⟨S128x128, pdOf (chan x 6 slices_S8x8x128_o6_0_0_S1x8x128)⟩,
    ⟨S128x128, pdOf (chan x 7 slices_S8x8x128_o7_0_0_S1x8x128)⟩]
    concatenates_S128x128_S128x128_S128x128_S128x128_S128x128_S128x128_S128x128_S128x128_S1024x128_d0

theorem slices_cloud (i : Fin 8) : S8x8x128.Slices ![i.val, 0, 0] S1x8x128 := by revert i; decide

theorem allPd_apply (x : FVec Ideal S8x8x128 .f32) (i : Fin 8) (n m : Fin 128) (h : S8x8x128.Slices ![i.val, 0, 0] S1x8x128) :
    allPd x (ix2 ⟨128 * i.val + n.val, by omega⟩ m) = pdOf (chan x i.val h) (ix2 n m) := by
  unfold allPd
  pointwise []
  exact Ladder.eight (fun (j : Fin 8) n => pdOf (chan x j.val (slices_cloud j)) (ix2 n m)) i n _ rfl (by omega)

/-- Points by channels of cloud `k` of a block. -/
def rowsOf (x : FVec Ideal S8x128x32 .f32) (k : ℕ) (h : S8x128x32.Slices ![k, 0, 0] S1x128x32) : FVec Ideal S128x32 .f32 :=
  shapeCast S128x32 (extractStridedSlice S1x128x32 ![k, 0, 0] x h) shapeCasts_S1x128x32_S128x32

theorem rowsOf_apply (x : FVec Ideal S8x128x32 .f32) (i : Fin 8) (h : S8x128x32.Slices ![i.val, 0, 0] S1x128x32) (n : Fin 128) (c : Fin 32) :
    rowsOf x i.val h (ix2 n c) = x (ix3 i n c) := by
  pointwise [rowsOf]

/-- The first edge product of one cloud. -/
def edgeOf (f : FVec Ideal S128x32 .f32) (a b : FVec Ideal S32x32 .f32) (o : FVec Ideal S896x128 .f32) : FVec Ideal S896x32 .f32 :=
  have y : FVec Ideal S128x32 .f32 := matmul dot_S128x32_S32x32_S128x32_1_1_0_0_n_n none f a (constant S128x32 .f32 0x00000000#32)
  have z : FVec Ideal S128x32 .f32 := matmul dot_S128x32_S32x32_S128x32_1_1_0_0_n_n none f b (constant S128x32 .f32 0x00000000#32)
  addf (matmul dot_S896x128_S128x32_S896x32_1_0_0_1_n_n none o z (constant S896x32 .f32 0x00000000#32))
    (concatenate S896x32 0 [⟨S128x32, y⟩, ⟨S128x32, y⟩, ⟨S128x32, y⟩, ⟨S128x32, y⟩, ⟨S128x32, y⟩, ⟨S128x32, y⟩, ⟨S128x32, y⟩]
      concatenates_S128x32_S128x32_S128x32_S128x32_S128x32_S128x32_S128x32_S896x32_d0)

theorem edgeOf_apply (f : FVec Ideal S128x32 .f32) (a b : FVec Ideal S32x32 .f32) (w : FVec Ideal S896x128 .f32)
    (j : Fin 7) (n : Fin 128) (o : Fin 32) :
    edgeOf f a b w (ix2 ⟨128 * j.val + n.val, by omega⟩ o) =
      (∑ m : Fin 128, w (ix2 ⟨128 * j.val + n.val, by omega⟩ m) * ∑ c : Fin 32, f (ix2 m c) * b (ix2 o c))
        + ∑ c : Fin 32, f (ix2 n c) * a (ix2 o c) := by
  unfold edgeOf
  pointwise []
  congr 1
  exact Ladder.seven (fun (_ : Fin 7) n => ∑ x, f (ix2 n x) * a (ix2 o x)) j n _ rfl (by omega)

/-- A batch norm over all edge rows of a block, then the positive part. -/
def bnRelu (y : FVec Ideal S7168x32 .f32) (s ss g b : FVec Ideal S1x32 .f32) : FVec Ideal S7168x32 .f32 :=
  have cnt : FVec Ideal S32 .f32 := broadcast S32 (Scalar.ofBits .f32 0x48600000#32)
  have m : FVec Ideal S32 .f32 := divf (shapeCast S32 s shapeCasts_S1x32_S32) cnt
  have v : FVec Ideal S32 .f32 := subf (divf (shapeCast S32 ss shapeCasts_S1x32_S32) cnt) (mulf m m)
  have k : FVec Ideal S32 .f32 := mulf (shapeCast S32 g shapeCasts_S1x32_S32) (rsqrt (addf v (broadcast S32 (Scalar.ofBits .f32 0x3727C5AC#32))))
  have t : FVec Ideal S32 .f32 := subf (shapeCast S32 b shapeCasts_S1x32_S32) (mulf m k)
  maximumf (addf (mulf y (broadcastTo S7168x32 (shapeCast S1x32 k shapeCasts_S32_S1x32) broadcasts_S1x32_S7168x32))
    (broadcastTo S7168x32 (shapeCast S1x32 t shapeCasts_S32_S1x32) broadcasts_S1x32_S7168x32)) (broadcast S7168x32 (Scalar.ofBits .f32 0x00000000#32))

theorem bnRelu_apply (y : FVec Ideal S7168x32 .f32) (s ss g b : FVec Ideal S1x32 .f32) (r : Fin 7168) (o : Fin 32) :
    bnRelu y s ss g b (ix2 r o) = max (Net.kbn (Ideal.ofBits .f32 0x48600000#32) (Ideal.ofBits .f32 0x3727C5AC#32)
      (s (ix2 0 o)) (ss (ix2 0 o)) (g (ix2 0 o)) (b (ix2 0 o)) (y (ix2 r o))) 0 := by
  pointwise [bnRelu]
  rfl

/-- An edge layer's product with its weights. -/
def layer (y : FVec Ideal S7168x32 .f32) (w : FVec Ideal S32x32 .f32) : FVec Ideal S7168x32 .f32 :=
  matmul dot_S7168x32_S32x32_S7168x32_1_1_0_0_n_n none y w (constant S7168x32 .f32 0x00000000#32)

theorem layer_apply (y : FVec Ideal S7168x32 .f32) (w : FVec Ideal S32x32 .f32) (r : Fin 7168) (o : Fin 32) :
    layer y w (ix2 r o) = ∑ c : Fin 32, y (ix2 r c) * w (ix2 o c) := by
  pointwise [layer]

/-- The sum over the seven rounds. -/
def pool (y : FVec Ideal S7168x32 .f32) : FVec Ideal S8x128x32 .f32 :=
  multiReduction .add [1] S8x128x32 (shapeCast S8x7x128x32 y shapeCasts_S7168x32_S8x7x128x32) 0x00000000#32 reduces_S8x7x128x32_S8x128x32 (.inl rfl) rfl

theorem pool_apply (y : FVec Ideal S7168x32 .f32) (i : Fin 8) (n : Fin 128) (o : Fin 32) :
    pool y (ix3 i n o) = ∑ j : Fin 7, y (ix2 ⟨896 * i.val + (128 * j.val + n.val), by omega⟩ o) := by
  pointwise [pool]
  refine Finset.sum_congr rfl fun j _ => ?_
  congr 2
  exact Fin.ext (by dsimp; omega)

/-- The shortcut, the mean over the neighbours and the mask. -/
def last (μ : FVec Ideal S8x1x128 .f32) (f : FVec Ideal S8x128x32 .f32) (y : FVec Ideal S8x128x32 .f32) : FVec Ideal S8x32x128 .f32 :=
  mulf (transpose S8x32x128 [0, 2, 1] (maximumf (addf f (divf y (broadcast S8x128x32 (Scalar.ofBits .f32 0x40E00000#32))))
    (broadcast S8x128x32 (Scalar.ofBits .f32 0x00000000#32))) transposes_S8x128x32_p0_2_1_S8x32x128) (broadcastTo S8x32x128 μ broadcasts_S8x1x128_S8x32x128)

theorem last_apply (μ : FVec Ideal S8x1x128 .f32) (f y : FVec Ideal S8x128x32 .f32) (i : Fin 8) (o : Fin 32) (n : Fin 128) :
    (last μ f y (ix3 i o n) : Ideal .f32) = max (f (ix3 i n o) + Ideal.div (y (ix3 i n o)) (Ideal.ofBits .f32 0x40E00000#32)) 0 * μ (ix3 i 0 n) := by
  pointwise [last]

/-- The first edge product of a block's clouds, one under the other. -/
def allEdges (f : FVec Ideal S8x128x32 .f32) (a b : FVec Ideal S32x32 .f32) (q : FVec Ideal S1024x128 .f32) : FVec Ideal S7168x32 .f32 :=
  concatenate S7168x32 0 [
    ⟨S896x32, edgeOf (rowsOf f 0 slices_S8x128x32_o0_0_0_S1x128x32) a b (hot (sels q) 0 slices_S1024x128_o0_0_S128x128)⟩,
    ⟨S896x32, edgeOf (rowsOf f 1 slices_S8x128x32_o1_0_0_S1x128x32) a b (hot (sels q) 128 slices_S1024x128_o128_0_S128x128)⟩,
    ⟨S896x32, edgeOf (rowsOf f 2 slices_S8x128x32_o2_0_0_S1x128x32) a b (hot (sels q) 256 slices_S1024x128_o256_0_S128x128)⟩,
    ⟨S896x32, edgeOf (rowsOf f 3 slices_S8x128x32_o3_0_0_S1x128x32) a b (hot (sels q) 384 slices_S1024x128_o384_0_S128x128)⟩,
    ⟨S896x32, edgeOf (rowsOf f 4 slices_S8x128x32_o4_0_0_S1x128x32) a b (hot (sels q) 512 slices_S1024x128_o512_0_S128x128)⟩,
    ⟨S896x32, edgeOf (rowsOf f 5 slices_S8x128x32_o5_0_0_S1x128x32) a b (hot (sels q) 640 slices_S1024x128_o640_0_S128x128)⟩,
    ⟨S896x32, edgeOf (rowsOf f 6 slices_S8x128x32_o6_0_0_S1x128x32) a b (hot (sels q) 768 slices_S1024x128_o768_0_S128x128)⟩,
    ⟨S896x32, edgeOf (rowsOf f 7 slices_S8x128x32_o7_0_0_S1x128x32) a b (hot (sels q) 896 slices_S1024x128_o896_0_S128x128)⟩]
    concatenates_S896x32_S896x32_S896x32_S896x32_S896x32_S896x32_S896x32_S896x32_S7168x32_d0

theorem slices_rows (i : Fin 8) : S8x128x32.Slices ![i.val, 0, 0] S1x128x32 := by revert i; decide

theorem allEdges_apply (f : FVec Ideal S8x128x32 .f32) (a b : FVec Ideal S32x32 .f32) (q : FVec Ideal S1024x128 .f32)
    (i : Fin 8) (r : Fin 896) (o : Fin 32) :
    allEdges f a b q (ix2 ⟨896 * i.val + r.val, by omega⟩ o) =
      edgeOf (rowsOf f i.val (slices_rows i)) a b (hot (sels q) (128 * i.val) (slices_table i)) (ix2 r o) := by
  unfold allEdges
  pointwise []
  exact Ladder.eight (fun (i : Fin 8) r => edgeOf (rowsOf f i.val (slices_rows i)) a b
    (hot (sels q) (128 * i.val) (slices_table i)) (ix2 r o)) i r _ rfl (by omega)

/-- The body's result as the pieces composed, from what it loads. -/
def whole (v0 : FVec Ideal S8x8x128 .f32) (v1 : FVec Ideal S8x32x128 .f32) (fg fb : FVec Ideal S1x32 .f32) (w0 : FVec Ideal S32x64 .f32)
    (w1 w2 : FVec Ideal S32x32 .f32) (a : Fin 8 → FVec Ideal S1x32 .f32) (g : Fin 6 → FVec Ideal S1x32 .f32) : FVec Ideal S8x32x128 .f32 :=
  have f : FVec Ideal S8x128x32 .f32 := k0_pay58 v1 (k0_pay1 v1) (a 0) (a 1) fg fb
  have y0 : FVec Ideal S7168x32 .f32 := bnRelu (allEdges f (k0_pay59 w0) (k0_pay60 w0) (allPd (k0_pay2 v1 v0))) (a 2) (a 3) (g 0) (g 1)
  have y1 : FVec Ideal S7168x32 .f32 := bnRelu (layer y0 w1) (a 4) (a 5) (g 2) (g 3)
  have y2 : FVec Ideal S7168x32 .f32 := bnRelu (layer y1 w2) (a 6) (a 7) (g 4) (g 5)
  last (k0_pay1 v1) f (pool y2)

/-! ### The printed steps are the pieces -/

section steps

variable (a : IVec S128x128 1) (b c d e f g h i : FVec Ideal S128x128 .f32) (j : FVec Ideal S128x1 .f32)
variable (q : FVec Ideal S1024x128 .f32) (x : FVec Ideal S8x128x32 .f32) (wa wb : FVec Ideal S32x32 .f32) (o : FVec Ideal S896x128 .f32)

theorem sel0_eq : k0_pay24 a b c d e f g h i j = sels (k0_pay23 a b c d e f g h i j) 0 := rfl
theorem sel1_eq : k0_pay26 a b c d e f g h i j = sels (k0_pay23 a b c d e f g h i j) 1 := rfl
theorem sel2_eq : k0_pay28 a b c d e f g h i j = sels (k0_pay23 a b c d e f g h i j) 2 := rfl
theorem sel3_eq : k0_pay30 a b c d e f g h i j = sels (k0_pay23 a b c d e f g h i j) 3 := rfl
theorem sel4_eq : k0_pay32 a b c d e f g h i j = sels (k0_pay23 a b c d e f g h i j) 4 := rfl
theorem sel5_eq : k0_pay34 a b c d e f g h i j = sels (k0_pay23 a b c d e f g h i j) 5 := rfl
theorem rounds6_eq : k0_pay35 a b c d e f g h i j = rounds (k0_pay23 a b c d e f g h i j) 6 := rfl
theorem sel6_eq : k0_pay36 (rounds q 6) = sels q 6 := rfl
theorem table_eq (v0 : FVec Ideal S8x32x128 .f32) (v8 : FVec Ideal S8x8x128 .f32) :
    k0_pay23 k0_pay3 (k0_pay4 v0 v8) (k0_pay9 k0_pay3 (k0_pay7 v0 v8) (k0_pay8 v0 v8)) (k0_pay10 (k0_pay2 v0 v8) k0_pay3)
      (k0_pay11 (k0_pay2 v0 v8) k0_pay3) (k0_pay16 k0_pay3 (k0_pay14 (k0_pay2 v0 v8)) (k0_pay15 (k0_pay2 v0 v8)))
      (k0_pay17 (k0_pay2 v0 v8) k0_pay3) (k0_pay18 (k0_pay2 v0 v8) k0_pay3) (k0_pay21 (k0_pay2 v0 v8)) (k0_pay22 (k0_pay2 v0 v8))
      = allPd (k0_pay2 v0 v8) := rfl
theorem hot0_eq : k0_pay37 (F := Ideal) (sels q 0) (sels q 1) (sels q 2) (sels q 3) (sels q 4) (sels q 5) (rounds q 6) = hot (sels q) 0 slices_S1024x128_o0_0_S128x128 := rfl
theorem hot1_eq : k0_pay38 (F := Ideal) (sels q 0) (sels q 1) (sels q 2) (sels q 3) (sels q 4) (sels q 5) (rounds q 6) = hot (sels q) 128 slices_S1024x128_o128_0_S128x128 := rfl
theorem hot2_eq : k0_pay43 (F := Ideal) (sels q 4) (sels q 5) (sels q 6) (k0_pay39 (sels q 0)) (k0_pay40 (sels q 1)) (k0_pay41 (sels q 2)) (k0_pay42 (sels q 3)) = hot (sels q) 256 slices_S1024x128_o256_0_S128x128 := rfl
theorem hot3_eq : k0_pay44 (F := Ideal) (sels q 0) (sels q 1) (sels q 2) (sels q 3) (sels q 4) (sels q 5) (sels q 6) = hot (sels q) 384 slices_S1024x128_o384_0_S128x128 := rfl
theorem hot4_eq : k0_pay45 (F := Ideal) (sels q 0) (sels q 1) (sels q 2) (sels q 3) (sels q 4) (sels q 5) (sels q 6) = hot (sels q) 512 slices_S1024x128_o512_0_S128x128 := rfl
theorem hot5_eq : k0_pay48 (F := Ideal) (sels q 2) (sels q 3) (sels q 4) (sels q 5) (sels q 6) (k0_pay46 (sels q 0)) (k0_pay47 (sels q 1)) = hot (sels q) 640 slices_S1024x128_o640_0_S128x128 := rfl
theorem hot6_eq : k0_pay49 (F := Ideal) (sels q 0) (sels q 1) (sels q 2) (sels q 3) (sels q 4) (sels q 5) (sels q 6) = hot (sels q) 768 slices_S1024x128_o768_0_S128x128 := rfl
theorem hot7_eq : k0_pay57 (F := Ideal) (k0_pay50 (sels q 0)) (k0_pay51 (sels q 1)) (k0_pay52 (sels q 2)) (k0_pay53 (sels q 3)) (k0_pay54 (sels q 4)) (k0_pay55 (sels q 5)) (k0_pay56 (sels q 6)) = hot (sels q) 896 slices_S1024x128_o896_0_S128x128 := rfl
theorem edge0_eq (v : FVec Ideal S8x32x128 .f32) (μ : FVec Ideal S8x1x128 .f32) (s ss g b : FVec Ideal S1x32 .f32) (w : FVec Ideal S32x64 .f32) :
    k0_pay61 v μ o s ss g b w = edgeOf (rowsOf (k0_pay58 v μ s ss g b) 0 slices_S8x128x32_o0_0_0_S1x128x32) (k0_pay59 w) (k0_pay60 w) o := rfl
theorem edge1_eq : k0_pay62 o x wa wb = edgeOf (rowsOf x 1 slices_S8x128x32_o1_0_0_S1x128x32) wa wb o := rfl
theorem edge2_eq : k0_pay63 o x wa wb = edgeOf (rowsOf x 2 slices_S8x128x32_o2_0_0_S1x128x32) wa wb o := rfl
theorem edge3_eq : k0_pay64 o x wa wb = edgeOf (rowsOf x 3 slices_S8x128x32_o3_0_0_S1x128x32) wa wb o := rfl
theorem edge4_eq : k0_pay65 o x wa wb = edgeOf (rowsOf x 4 slices_S8x128x32_o4_0_0_S1x128x32) wa wb o := rfl
theorem edge5_eq : k0_pay66 o x wa wb = edgeOf (rowsOf x 5 slices_S8x128x32_o5_0_0_S1x128x32) wa wb o := rfl
theorem layers_eq (s ss g b s' ss' g' b' : FVec Ideal S1x32 .f32) (w w' : FVec Ideal S32x32 .f32) :
    k0_pay71 (k0_pay69 (hot (sels q) 768 slices_S1024x128_o768_0_S128x128) (hot (sels q) 896 slices_S1024x128_o896_0_S128x128) x wa wb
      (edgeOf (rowsOf x 0 slices_S8x128x32_o0_0_0_S1x128x32) wa wb (hot (sels q) 0 slices_S1024x128_o0_0_S128x128))
      (edgeOf (rowsOf x 1 slices_S8x128x32_o1_0_0_S1x128x32) wa wb (hot (sels q) 128 slices_S1024x128_o128_0_S128x128))
      (edgeOf (rowsOf x 2 slices_S8x128x32_o2_0_0_S1x128x32) wa wb (hot (sels q) 256 slices_S1024x128_o256_0_S128x128))
      (edgeOf (rowsOf x 3 slices_S8x128x32_o3_0_0_S1x128x32) wa wb (hot (sels q) 384 slices_S1024x128_o384_0_S128x128))
      (edgeOf (rowsOf x 4 slices_S8x128x32_o4_0_0_S1x128x32) wa wb (hot (sels q) 512 slices_S1024x128_o512_0_S128x128))
      (edgeOf (rowsOf x 5 slices_S8x128x32_o5_0_0_S1x128x32) wa wb (hot (sels q) 640 slices_S1024x128_o640_0_S128x128)) s ss g)
      (k0_pay70 s ss g b) w s' ss' g' b' w'
      = layer (bnRelu (layer (bnRelu (allEdges x wa wb q) s ss g b) w) s' ss' g' b') w' := rfl
theorem last_eq (μ : FVec Ideal S8x1x128 .f32) (y : FVec Ideal S7168x32 .f32) (s ss g b : FVec Ideal S1x32 .f32) :
    k0_pay73 μ x y (k0_pay72 s) ss g b = last μ x (pool (bnRelu y s ss g b)) := rfl

end steps

theorem out_eq (x0 : Vec Ideal S8x8x128 .f32) (x1 : Vec Ideal S8x32x128 .f32) (x2 x3 : Vec Ideal S1x32 .f32) (x4 : Vec Ideal S96x64 .f32)
    (x5 : Vec Ideal S6x32 .f32) (x6 : Vec Ideal S8x32 .f32) :
    out0_7 (F := Ideal) x0 x1 x2 x3 x4 x5 x6 = View.canon [⟨r0_0, whole (View.ld x0 r0_1) (View.ld x1 r0_0) (View.ld x2 r0_4) (View.ld x3 r0_4)
      (View.ld x4 r0_5) (View.ld x4 r0_10) (View.ld x4 r0_15)
      ![View.ld x6 r0_2, View.ld x6 r0_3, View.ld x6 r0_6, View.ld x6 r0_7, View.ld x6 r0_11, View.ld x6 r0_12, View.ld x6 r0_16, View.ld x6 r0_17]
      ![View.ld x5 r0_8, View.ld x5 r0_9, View.ld x5 r0_13, View.ld x5 r0_14, View.ld x5 r0_18, View.ld x5 r0_19]⟩] := by
  unfold_out out0_7
  simp only [sel0_eq, sel1_eq, sel2_eq, sel3_eq, sel4_eq, sel5_eq, rounds6_eq, table_eq, sel6_eq, hot0_eq, hot1_eq, hot2_eq, hot3_eq, hot4_eq,
    hot5_eq, hot6_eq, hot7_eq, edge0_eq, edge1_eq, edge2_eq, edge3_eq, edge4_eq, edge5_eq, layers_eq, last_eq]
  rfl

end Cert.FirstKernelIdeal.Pieces

end

end
-- ==== Proof.FirstKVal.lean ====
/- The first edge convolution's whole result read at an index. -/
module

public import proofs.«01_k».proof.Proof.FirstPieces

@[expose] public section

set_option maxRecDepth 16384

noncomputable section

namespace Cert.FirstKernelIdeal.Pieces

open Cert.FirstKernelIdeal Cert.FirstKernelIdeal.Gen Idealize.ShloMosaic
open Cert.KernelIdeal.Pieces (sels hot hot_apply bitsOf_apply selOf_apply rounds rounds_succ_apply ofBool_bit slices_table not_zero_num)

theorem mask_apply (v1 : FVec Ideal S8x32x128 .f32) (i : Fin 8) (n : Fin 128) :
    (k0_pay1 v1 (ix3 i 0 n) : Ideal .f32) = Net.kmask (fun c n => v1 (ix3 i c n)) n := by
  pointwise [k0_pay1]
  exact not_zero_num _

theorem pts_apply (v1 : FVec Ideal S8x32x128 .f32) (v0 : FVec Ideal S8x8x128 .f32) (i : Fin 8) (c : Fin 8) (n : Fin 128) :
    (k0_pay2 v1 v0 (ix3 i c n) : Ideal .f32)
      = Net.kpts (fun c n => v0 (ix3 i c n) * Net.kmask (fun c n => v1 (ix3 i c n)) n) (Net.kmask fun c n => v1 (ix3 i c n)) c n := by
  pointwise [k0_pay2]
  rw [mask_apply]
  rfl

/-- The normalised features, masked, points by channels. -/
theorem features_apply (v1 : FVec Ideal S8x32x128 .f32) (s ss g b : FVec Ideal S1x32 .f32) (i : Fin 8) (n : Fin 128) (c : Fin 32) :
    (k0_pay58 v1 (k0_pay1 v1) s ss g b (ix3 i n c) : Ideal .f32)
      = Net.kbn (Ideal.ofBits .f32 0x47000000#32) (Ideal.ofBits .f32 0x3727C5AC#32) (s (ix2 0 c)) (ss (ix2 0 c)) (g (ix2 0 c)) (b (ix2 0 c))
          (v1 (ix3 i c n)) * Net.kmask (fun c n => v1 (ix3 i c n)) n := by
  pointwise [k0_pay58]
  rw [mask_apply]
  rfl

/-- The tables of a block after `j` rounds, row by row. -/
theorem rounds_apply (p : FVec Ideal S8x8x128 .f32) (i : Fin 8) (n : Fin 128) (j : ℕ) (m : Fin 128) :
    rounds (allPd p) j (ix2 ⟨128 * i.val + n.val, by omega⟩ m) = Net.rnd (Net.kpd (fun c n => p (ix3 i c n)) n) n j m := by
  induction j generalizing m with
  | zero =>
    rw [rounds, allPd_apply p i n m (slices_cloud i), pdOf_apply]
    simp only [chan_apply]
    rfl
  | succ j ih =>
    rw [rounds_succ_apply]
    simp only [ih]
    rfl

/-- One cloud's choices of round `j`. -/
theorem choice_apply (p : FVec Ideal S8x8x128 .f32) (i : Fin 8) (n : Fin 128) (j : Fin 7) (m : Fin 128) :
    hot (sels (allPd p)) (128 * i.val) (slices_table i) (ix2 ⟨128 * j.val + n.val, by omega⟩ m)
      = Net.kbit (fun c n => p (ix3 i c n)) n j.val m := by
  rw [hot_apply, bitsOf_apply, sels, selOf_apply]
  simp only [ofBool_bit, rounds_apply]
  rfl

/-- The first edge product of a block. -/
theorem edges_apply (f : FVec Ideal S8x128x32 .f32) (p : FVec Ideal S8x8x128 .f32) (w : FVec Ideal S32x64 .f32) (i : Fin 8) (j : Fin 7)
    (n : Fin 128) (o : Fin 32) :
    allEdges f (k0_pay59 w) (k0_pay60 w) (allPd p) (ix2 ⟨896 * i.val + (128 * j.val + n.val), by omega⟩ o)
      = Net.kedge (fun c n => f (ix3 i n c)) (fun c n => p (ix3 i c n)) (fun o (c : Fin 32) => w (ix2 o ⟨c.val, by omega⟩))
          (fun o (c : Fin 32) => w (ix2 o ⟨32 + c.val, by omega⟩)) n j.val o := by
  rw [allEdges_apply f _ _ (allPd p) i ⟨128 * j.val + n.val, by omega⟩ o, edgeOf_apply]
  simp only [choice_apply, rowsOf_apply]
  pointwise [k0_pay59, k0_pay60]
  rfl

/-- The body's result at an index, as a function of the loaded vectors' entries. -/
theorem whole_apply (v0 : FVec Ideal S8x8x128 .f32) (v1 : FVec Ideal S8x32x128 .f32) (fg fb : FVec Ideal S1x32 .f32) (w0 : FVec Ideal S32x64 .f32)
    (w1 w2 : FVec Ideal S32x32 .f32) (a : Fin 8 → FVec Ideal S1x32 .f32) (g : Fin 6 → FVec Ideal S1x32 .f32) (i : Fin 8) (o : Fin 32) (n : Fin 128) :
    whole v0 v1 fg fb w0 w1 w2 a g (ix3 i o n) = Net.kfirst
      (fun l o => Net.kbn (Ideal.ofBits .f32 0x48600000#32) (Ideal.ofBits .f32 0x3727C5AC#32)
        (a ⟨2 * l.val + 2, by omega⟩ (ix2 0 o)) (a ⟨2 * l.val + 3, by omega⟩ (ix2 0 o)) (g ⟨2 * l.val, by omega⟩ (ix2 0 o)) (g ⟨2 * l.val + 1, by omega⟩ (ix2 0 o)))
      (fun o (c : Fin 32) => w0 (ix2 o ⟨c.val, by omega⟩)) (fun o (c : Fin 32) => w0 (ix2 o ⟨32 + c.val, by omega⟩))
      (fun o c => w1 (ix2 o c)) (fun o c => w2 (ix2 o c))
      (fun c n => Net.kbn (Ideal.ofBits .f32 0x47000000#32) (Ideal.ofBits .f32 0x3727C5AC#32) (a 0 (ix2 0 c)) (a 1 (ix2 0 c)) (fg (ix2 0 c)) (fb (ix2 0 c))
          (v1 (ix3 i c n)) * Net.kmask (fun c n => v1 (ix3 i c n)) n)
      (Net.kpts (fun c n => v0 (ix3 i c n) * Net.kmask (fun c n => v1 (ix3 i c n)) n) (Net.kmask fun c n => v1 (ix3 i c n)))
      (Net.kmask fun c n => v1 (ix3 i c n)) o n := by
  unfold whole
  rw [last_apply, pool_apply]
  simp only [bnRelu_apply, layer_apply, edges_apply, pts_apply, features_apply, mask_apply]
  rfl

end Cert.FirstKernelIdeal.Pieces

end

end
-- ==== Proof.FirstStages.lean ====
/- The first edge convolution's reference read at an index. -/
module

public import proofs.«01_k».proof.Proof.Gen.FirstReferenceIdeal.Read
public import proofs.«01_k».proof.Proof.Stages
public import proofs.«01_k».proof.Proof.First

@[expose] public section

set_option maxRecDepth 16384

noncomputable section

namespace Cert.FirstReferenceIdeal.Stages

open Cert.FirstReferenceIdeal Cert.FirstReferenceIdeal.Gen Cert.FirstReferenceIdeal.Read Idealize.ShloMosaic
open Cert.ReferenceIdeal.Stages (gather_apply word_normal along_eq mask_num flip_num present)

variable (x0 : FVec Ideal S256x8x128 .f32) (x1 : FVec Ideal S256x32x128 .f32) (x2 x3 : FVec Ideal S1x32 .f32) (x4 : FVec Ideal S96x64 .f32)
  (x5 : FVec Ideal S6x32 .f32) (x6 : FVec Ideal S8x32 .f32)

/-- The masked points of batch element `b`, coordinate by coordinate. -/
def cloud (b : Fin 256) (c : Fin 8) (n : Fin 128) : EReal := x0 (ix3 b c n) * present x1 b n

/-- The normalised features of batch element `b`, masked, channel by channel. -/
def feature (b : Fin 256) (c : Fin 32) (n : Fin 128) : EReal :=
  Net.rbn (Ideal.ofBits .f32 0x47000000#32) (Ideal.ofBits .f32 0x3727C5AC#32) (x6 (ix2 0 c)) (x6 (ix2 1 c)) (x2 (ix2 0 c)) (x3 (ix2 0 c))
    (x1 (ix3 b c n) * present x1 b n) * present x1 b n

theorem mask_apply (b : Fin 256) (n : Fin 128) :
    (val_main_v5 (F := Ideal) x1 (ix3 b 0 n) : Ideal .f32) = present x1 b n := by
  pointwise [val_main_v0, val_main_cst, val_main_v1, val_main_v2, val_main_cst_0, val_main_v3, val_main_v4, val_main_v5]
  exact mask_num _

theorem pts_apply (b : Fin 256) (c : Fin 8) (n : Fin 128) :
    (val_main_v45 (F := Ideal) x0 x1 (ix3 b c n) : Ideal .f32) = Net.kpts (cloud x0 x1 b) (present x1 b) c n := by
  pointwise [val_main_v6, val_main_v7, val_main_cst_1, val_main_v10, val_main_v11, val_main_v12, val_main_cst_2, val_main_v13, val_main_v14, val_main_v44, val_main_v45]
  rw [mask_apply]
  unfold Net.kpts cloud present Net.kmask
  rw [flip_num]

theorem table_apply (b : Fin 256) (n m : Fin 128) :
    (val_main_v57 (F := Ideal) x0 x1 (ix3 b n m) : Ideal .f32) = Net.rpd (Net.kpts (cloud x0 x1 b) (present x1 b)) n m := by
  pointwise [val_main_v46, val_main_cst_6, val_main_v47, val_main_v48, val_main_v49, val_main_cst_7, val_main_v50, val_main_v51, val_main_v52, val_main_v53, val_main_v54, val_main_v55, val_main_v56, val_main_v57]
  simp only [pts_apply]
  rfl

theorem feature_apply (b : Fin 256) (c : Fin 32) (n : Fin 128) :
    (val_main_v43 (F := Ideal) x1 x2 x3 x6 (ix3 b c n) : Ideal .f32) = feature x1 x2 x3 x6 b c n := by
  unfold feature
  rw [← mask_apply]
  pointwise [val_main_v8, val_main_v9, val_main_v15, val_main_v16, val_main_v17, val_main_v18, val_main_v19, val_main_v20, val_main_cst_3, val_main_v21, val_main_v22, val_main_cst_4, val_main_v23, val_main_v24, val_main_v25, val_main_v26, val_main_v27, val_main_v28, val_main_v29, val_main_v30, val_main_cst_5, val_main_v31, val_main_v32, val_main_v33, val_main_v34, val_main_v35, val_main_v36, val_main_v37, val_main_v38, val_main_v39, val_main_v40, val_main_v41, val_main_v42, val_main_v43]
  rfl

/-- The neighbours of a point: the positions of its largest entries in the table, itself left out. -/
def near (b : Fin 256) (n : Fin 128) (j : Fin 7) : Fin 128 :=
  Net.order (fun m => (val_main_v57 (F := Ideal) x0 x1 (ix3 b n m) : Ideal .f32)) ⟨1 + j.val, by omega⟩

theorem indices_apply (b : Fin 256) (n : Fin 128) (j : Fin 7) :
    (val_main_v58 (F := Ideal) x0 x1 (ix3 b n j) : BitVec 32) = BitVec.ofNat 32 (near x0 x1 b n j).val := by
  pointwise [val_main_v58, val_main_indices, Host.topK, Host.sort2]
  simp only [along_eq]
  rfl

theorem gathered_apply (b : Fin 256) (n : Fin 128) (j : Fin 7) (c : Fin 32) :
    (val_main_v76 (F := Ideal) x0 x1 x2 x3 x6 (ix4 b n j c) : Ideal .f32) = feature x1 x2 x3 x6 b c (near x0 x1 b n j) := by
  refine (gather_apply _ _ b n j c (near x0 x1 b n j) ?_ ?_).trans ?_
  · pointwise [val_main_v75, val_main_v73, val_main_v72, val_main_v60, val_main_v61, val_main_c, val_main_v62, val_main_v63, val_main_c_8, val_main_v64, val_main_v65, val_main_v66]
    exact word_normal b.val 256 b.isLt _ rfl
  · pointwise [val_main_v75, val_main_v74, val_main_c_9, val_main_v67, val_main_v68, val_main_c_10, val_main_v69, val_main_v70, val_main_v71]
    exact word_normal _ 128 (by omega) _ (indices_apply x0 x1 b n j)
  · pointwise [val_main_v59]
    exact feature_apply x1 x2 x3 x6 b c _

theorem near_eq (b : Fin 256) (n : Fin 128) (j : Fin 7) : near x0 x1 b n j
    = Net.order (Net.rpd (Net.kpts (cloud x0 x1 b) (present x1 b)) n) ⟨1 + j.val, by omega⟩ := by
  unfold near
  congr 1
  exact funext fun m => table_apply x0 x1 b n m

theorem features_apply (b : Fin 256) (c : Fin 64) (n : Fin 128) (j : Fin 7) :
    (val_main_v81 (F := Ideal) x0 x1 x2 x3 x6 (ix4 b c n j) : Ideal .f32) = if h : c.val < 32 then feature x1 x2 x3 x6 b ⟨c.val, h⟩ n
      else feature x1 x2 x3 x6 b ⟨c.val - 32, by omega⟩ (near x0 x1 b n j) - feature x1 x2 x3 x6 b ⟨c.val - 32, by omega⟩ n := by
  pointwise [val_main_v77, val_main_v78, val_main_v79, val_main_v80, val_main_v81]
  simp only [gathered_apply, feature_apply]

/-- The weight of layer `l`. -/
def weight (l : Fin 3) (o : Fin 32) (c : Fin 64) : EReal := x4 (ix2 ⟨32 * l.val + o.val, by omega⟩ c)

/-- The batch norm of layer `l`, from its rows of sums and parameters. -/
def norm (l : Fin 3) (o : Fin 32) (x : EReal) : EReal :=
  Net.rbn (Ideal.ofBits .f32 0x48600000#32) (Ideal.ofBits .f32 0x3727C5AC#32) (x6 (ix2 ⟨2 * l.val + 2, by omega⟩ o))
    (x6 (ix2 ⟨2 * l.val + 3, by omega⟩ o)) (x5 (ix2 ⟨2 * l.val, by omega⟩ o)) (x5 (ix2 ⟨2 * l.val + 1, by omega⟩ o)) x

theorem layer0_apply (b : Fin 256) (o : Fin 32) (n : Fin 128) (j : Fin 7) :
    (val_main_v117 (F := Ideal) x0 x1 x2 x3 x4 x5 x6 (ix4 b o n j) : Ideal .f32)
      = max (norm x5 x6 0 o (Net.redge (feature x1 x2 x3 x6 b) (fun o (c : Fin 32) => weight x4 0 o ⟨c.val, by omega⟩)
          (fun o (c : Fin 32) => weight x4 0 o ⟨32 + c.val, by omega⟩) n (near x0 x1 b n j) o)) 0 := by
  have hs : (∑ x : Fin 64, (val_main_v81 (F := Ideal) x0 x1 x2 x3 x6 (ix4 b x n j) : Ideal .f32) * x4 (ix2 ⟨o.val, by omega⟩ x))
      = Net.redge (feature x1 x2 x3 x6 b) (fun o (c : Fin 32) => weight x4 0 o ⟨c.val, by omega⟩)
          (fun o (c : Fin 32) => weight x4 0 o ⟨32 + c.val, by omega⟩) n (near x0 x1 b n j) o := by
    rw [Net.sum_halves (C := 32) rfl]
    simp only [features_apply]
    unfold Net.redge weight
    refine congrArg₂ (· + ·) (Finset.sum_congr rfl fun c _ => ?_) (Finset.sum_congr rfl fun c _ => ?_)
    · rw [dif_pos c.isLt]; congr 3; exact Fin.ext (by simp)
    · rw [dif_neg (by omega)]
      have : (⟨32 + c.val - 32, by omega⟩ : Fin 32) = c := Fin.ext (by simp)
      rw [this]; congr 3; exact Fin.ext (by simp)
  rw [← hs]
  pointwise [val_main_v82, val_main_v85, val_main_v86, val_main_v87, val_main_v88, val_main_v89, val_main_v90, val_main_v91, val_main_v92, val_main_v93, val_main_v94, val_main_cst_11, val_main_v95, val_main_v96, val_main_cst_12, val_main_v97, val_main_v98, val_main_v99, val_main_v100, val_main_v101, val_main_v102, val_main_v103, val_main_v104, val_main_cst_13, val_main_v105, val_main_v106, val_main_v107, val_main_v108, val_main_v109, val_main_v110, val_main_v111, val_main_v112, val_main_v113, val_main_v114, val_main_v115, val_main_cst_14, val_main_v116, val_main_v117]
  rfl

theorem layer1_apply (b : Fin 256) (o : Fin 32) (n : Fin 128) (j : Fin 7) :
    (val_main_v150 (F := Ideal) x0 x1 x2 x3 x4 x5 x6 (ix4 b o n j) : Ideal .f32)
      = max (norm x5 x6 1 o (∑ c : Fin 32, (val_main_v117 (F := Ideal) x0 x1 x2 x3 x4 x5 x6 (ix4 b c n j) : Ideal .f32) * weight x4 1 o ⟨c.val, by omega⟩)) 0 := by
  pointwise [val_main_v83, val_main_v118, val_main_v119, val_main_v120, val_main_v121, val_main_v122, val_main_v123, val_main_v124, val_main_v125, val_main_v126, val_main_v127, val_main_cst_15, val_main_v128, val_main_v129, val_main_cst_16, val_main_v130, val_main_v131, val_main_v132, val_main_v133, val_main_v134, val_main_v135, val_main_v136, val_main_v137, val_main_cst_17, val_main_v138, val_main_v139, val_main_v140, val_main_v141, val_main_v142, val_main_v143, val_main_v144, val_main_v145, val_main_v146, val_main_v147, val_main_v148, val_main_cst_18, val_main_v149, val_main_v150]
  rfl

theorem layer2_apply (b : Fin 256) (o : Fin 32) (n : Fin 128) (j : Fin 7) :
    (val_main_v183 (F := Ideal) x0 x1 x2 x3 x4 x5 x6 (ix4 b o n j) : Ideal .f32)
      = max (norm x5 x6 2 o (∑ c : Fin 32, (val_main_v150 (F := Ideal) x0 x1 x2 x3 x4 x5 x6 (ix4 b c n j) : Ideal .f32) * weight x4 2 o ⟨c.val, by omega⟩)) 0 := by
  pointwise [val_main_v84, val_main_v151, val_main_v152, val_main_v153, val_main_v154, val_main_v155, val_main_v156, val_main_v157, val_main_v158, val_main_v159, val_main_v160, val_main_cst_19, val_main_v161, val_main_v162, val_main_cst_20, val_main_v163, val_main_v164, val_main_v165, val_main_v166, val_main_v167, val_main_v168, val_main_v169, val_main_v170, val_main_cst_21, val_main_v171, val_main_v172, val_main_v173, val_main_v174, val_main_v175, val_main_v176, val_main_v177, val_main_v178, val_main_v179, val_main_v180, val_main_v181, val_main_cst_22, val_main_v182, val_main_v183]
  rfl

theorem layers_apply (b : Fin 256) (o : Fin 32) (n : Fin 128) (j : Fin 7) :
    (val_main_v183 (F := Ideal) x0 x1 x2 x3 x4 x5 x6 (ix4 b o n j) : Ideal .f32)
      = Net.layers (norm x5 x6) (fun o (c : Fin 32) => weight x4 1 o ⟨c.val, by omega⟩) (fun o (c : Fin 32) => weight x4 2 o ⟨c.val, by omega⟩)
          (Net.redge (feature x1 x2 x3 x6 b) (fun o (c : Fin 32) => weight x4 0 o ⟨c.val, by omega⟩)
          (fun o (c : Fin 32) => weight x4 0 o ⟨32 + c.val, by omega⟩) n (near x0 x1 b n j)) o := by
  rw [layer2_apply]
  simp only [layer1_apply, layer0_apply]
  rfl

/-- The reference's result at an index. -/
theorem out_apply (b : Fin 256) (o : Fin 32) (n : Fin 128) :
    (val_main_v191 (F := Ideal) x0 x1 x2 x3 x4 x5 x6 (ix3 b o n) : Ideal .f32)
      = Net.rfirst (norm x5 x6) (fun o (c : Fin 32) => weight x4 0 o ⟨c.val, by omega⟩)
          (fun o (c : Fin 32) => weight x4 0 o ⟨32 + c.val, by omega⟩) (fun o (c : Fin 32) => weight x4 1 o ⟨c.val, by omega⟩)
          (fun o (c : Fin 32) => weight x4 2 o ⟨c.val, by omega⟩) (feature x1 x2 x3 x6 b) (present x1 b)
          (fun n j => Net.order (Net.rpd (Net.kpts (cloud x0 x1 b) (present x1 b)) n) ⟨1 + j.val, by omega⟩) o n := by
  unfold Net.rfirst
  simp only [← near_eq, ← layers_apply, ← mask_apply, ← feature_apply]
  pointwise [val_main_cst_23, val_main_v184, val_main_cst_24, val_main_v185, val_main_v186, val_main_v187, val_main_cst_25, val_main_v188, val_main_v189, val_main_v190, val_main_v191]

end Cert.FirstReferenceIdeal.Stages

end

end
-- ==== Proof.FirstBounds.lean ====
/- What the first edge convolution's precondition says of the arrays, entry by entry. -/
module

public import proofs.«01_k».proof.Proof.Gen.Pre_first_separated
public import proofs.«01_k».proof.Proof.FirstStages
public import proofs.«01_k».proof.Proof.Bounds

@[expose] public section

set_option maxRecDepth 16384

noncomputable section

namespace Cert.Pre_first_separated.Bounds

open Cert.Pre_first_separated Cert.Pre_first_separated.Gen Cert.FirstReferenceIdeal.Stages Idealize.ShloMosaic
open Cert.ReferenceIdeal.Stages (present)
open Cert.Pre_separated.Bounds (bit_true fine_of_bit top_apply)

variable (x0 : FVec Ideal S256x8x128 .f32) (x1 : FVec Ideal S256x32x128 .f32) (x2 x3 : FVec Ideal S1x32 .f32) (x4 : FVec Ideal S96x64 .f32)
  (x5 : FVec Ideal S6x32 .f32) (x6 : FVec Ideal S8x32 .f32)

/-- An array whose comparison of absolute values with the infinite word is true everywhere has real entries. -/
theorem fine_entries {s : Shape} (x : FVec Ideal s .f32)
    (h : (fun i => BitVec.ofBool (decide (max (x i) (-(x i)) < Ideal.ofBits .f32 0x7F800000#32))) = fun _ => 1#1) (i) : Net.Fine (x i) :=
  fine_of_bit _ (congrFun h i)

/-- The comparison of a variance with zero, read at a channel. -/
theorem variance_apply (r q : ℕ) (hr : r < 8) (hq : q < 8) (cnt : BitVec 32) (h1 : S8x32.Slices ![r, 0] S1x32) (h2 : S8x32.Slices ![q, 0] S1x32)
    (o : Fin 32)
    (h : cmpf .ogt (addf (subf
        (Host.divf (shapeCast S32 (extractStridedSlice S1x32 ![q, 0] x6 h2) shapeCasts_S1x32_S32) (broadcastInDim S32 ![] bcast_S_S32 (constant S_ .f32 cnt)))
        (mulf (Host.divf (shapeCast S32 (extractStridedSlice S1x32 ![r, 0] x6 h1) shapeCasts_S1x32_S32) (broadcastInDim S32 ![] bcast_S_S32 (constant S_ .f32 cnt)))
          (Host.divf (shapeCast S32 (extractStridedSlice S1x32 ![r, 0] x6 h1) shapeCasts_S1x32_S32) (broadcastInDim S32 ![] bcast_S_S32 (constant S_ .f32 cnt)))))
        (broadcastInDim S32 ![] bcast_S_S32 (constant S_ .f32 0x3727C5AC#32))) (broadcastInDim S32 ![] bcast_S_S32 (constant S_ .f32 0x00000000#32))
      = fun _ => 1#1) :
    0 < Net.vare (Ideal.ofBits .f32 cnt) (Ideal.ofBits .f32 0x3727C5AC#32) (x6 (ix2 ⟨r, hr⟩ o)) (x6 (ix2 ⟨q, hq⟩ o)) := by
  have h' := congrFun h (ix1 o)
  rw [show (cmpf .ogt (addf (subf
        (Host.divf (shapeCast S32 (extractStridedSlice S1x32 ![q, 0] x6 h2) shapeCasts_S1x32_S32) (broadcastInDim S32 ![] bcast_S_S32 (constant S_ .f32 cnt)))
        (mulf (Host.divf (shapeCast S32 (extractStridedSlice S1x32 ![r, 0] x6 h1) shapeCasts_S1x32_S32) (broadcastInDim S32 ![] bcast_S_S32 (constant S_ .f32 cnt)))
          (Host.divf (shapeCast S32 (extractStridedSlice S1x32 ![r, 0] x6 h1) shapeCasts_S1x32_S32) (broadcastInDim S32 ![] bcast_S_S32 (constant S_ .f32 cnt)))))
        (broadcastInDim S32 ![] bcast_S_S32 (constant S_ .f32 0x3727C5AC#32))) (broadcastInDim S32 ![] bcast_S_S32 (constant S_ .f32 0x00000000#32)) (ix1 o) : BitVec 1)
      = BitVec.ofBool (decide (0 < Net.vare (Ideal.ofBits .f32 cnt) (Ideal.ofBits .f32 0x3727C5AC#32) (x6 (ix2 ⟨r, hr⟩ o)) (x6 (ix2 ⟨q, hq⟩ o)))) from by
    pointwise []
    rfl] at h'
  exact bit_true h'

theorem variance_short (h : (fn (F := Ideal) x0 x1 x2 x3 x4 x5 x6).2.2.2.2.2.2.2.1 = fun _ => 1#1) (o : Fin 32) :
    0 < Net.vare (Ideal.ofBits .f32 0x47000000#32) (Ideal.ofBits .f32 0x3727C5AC#32) (x6 (ix2 0 o)) (x6 (ix2 1 o)) :=
  variance_apply x6 0 1 (by decide) (by decide) _ slices_S8x32_S1x32_0_0 slices_S8x32_S1x32_1_0 o h

theorem variance0 (h : (fn (F := Ideal) x0 x1 x2 x3 x4 x5 x6).2.2.2.2.2.2.2.2.1 = fun _ => 1#1) (o : Fin 32) :
    0 < Net.vare (Ideal.ofBits .f32 0x48600000#32) (Ideal.ofBits .f32 0x3727C5AC#32) (x6 (ix2 2 o)) (x6 (ix2 3 o)) :=
  variance_apply x6 2 3 (by decide) (by decide) _ slices_S8x32_S1x32_2_0 slices_S8x32_S1x32_3_0 o h

theorem variance1 (h : (fn (F := Ideal) x0 x1 x2 x3 x4 x5 x6).2.2.2.2.2.2.2.2.2.1 = fun _ => 1#1) (o : Fin 32) :
    0 < Net.vare (Ideal.ofBits .f32 0x48600000#32) (Ideal.ofBits .f32 0x3727C5AC#32) (x6 (ix2 4 o)) (x6 (ix2 5 o)) :=
  variance_apply x6 4 5 (by decide) (by decide) _ slices_S8x32_S1x32_4_0 slices_S8x32_S1x32_5_0 o h

theorem variance2 (h : (fn (F := Ideal) x0 x1 x2 x3 x4 x5 x6).2.2.2.2.2.2.2.2.2.2.1 = fun _ => 1#1) (o : Fin 32) :
    0 < Net.vare (Ideal.ofBits .f32 0x48600000#32) (Ideal.ofBits .f32 0x3727C5AC#32) (x6 (ix2 6 o)) (x6 (ix2 7 o)) :=
  variance_apply x6 6 7 (by decide) (by decide) _ slices_S8x32_S1x32_6_0 slices_S8x32_S1x32_7_0 o h

/-- The reference's distance table. -/
def table : FVec Ideal S256x128x128 .f32 := Cert.FirstReferenceIdeal.Read.val_main_v57 (F := Ideal) x0 x1

/-- The reference's mask. -/
def shown : FVec Ideal S256x1x128 .f32 := Cert.FirstReferenceIdeal.Read.val_main_v5 (F := Ideal) x1

theorem table_eq (b : Fin 256) (n : Fin 128) :
    (fun m => (table x0 x1 (ix3 b n m) : Ideal .f32)) = Net.rpd (Net.kpts (cloud x0 x1 b) (present x1 b)) n :=
  funext fun m => table_apply x0 x1 b n m

/-- A point that is not masked has its nine largest table entries strictly separated. -/
theorem apart (h : (fn (F := Ideal) x0 x1 x2 x3 x4 x5 x6).2.2.2.2.2.2.2.2.2.2.2 = fun _ => 1#1) (b : Fin 256) (n : Fin 128) :
    present x1 b n = 0 ∨ ∀ (j : ℕ) (hj : j < 8),
      Net.rpd (Net.kpts (cloud x0 x1 b) (present x1 b)) n (Net.order (Net.rpd (Net.kpts (cloud x0 x1 b) (present x1 b)) n) ⟨j + 1, by omega⟩)
        < Net.rpd (Net.kpts (cloud x0 x1 b) (present x1 b)) n (Net.order (Net.rpd (Net.kpts (cloud x0 x1 b) (present x1 b)) n) ⟨j, by omega⟩) := by
  by_cases h0 : present x1 b n = 0
  · exact .inl h0
  refine .inr fun j hj => ?_
  have h' := congrFun h (ix3 b n ⟨j, hj⟩)
  have e : ((fn (F := Ideal) x0 x1 x2 x3 x4 x5 x6).2.2.2.2.2.2.2.2.2.2.2 (ix3 b n ⟨j, hj⟩) : BitVec 1)
      = BitVec.ofBool (decide ((shown x1 (ix3 b 0 n) : Ideal .f32) = 0))
        ||| BitVec.ofBool (decide ((Host.topK S256x128x9 2 (FloatOps.cmpfTotal .gt) (table x0 x1) sliceFits_S256x128x128_S256x128x9).1 (ix3 b n ⟨1 + j, by omega⟩)
          < (Host.topK S256x128x9 2 (FloatOps.cmpfTotal .gt) (table x0 x1) sliceFits_S256x128x128_S256x128x9).1 (ix3 b n ⟨j, by omega⟩))) := by
    show ori (broadcastInDim S256x128x8 ![0, 1, 2] bcast_S256x128x1_S256x128x8_0_1_2 (cmpf .oeq (transpose S256x128x1 [0, 2, 1] (shown x1) transposes_S256x1x128_S256x128x1_0_2_1) (broadcastInDim S256x128x1 ![] bcast_S_S256x128x1 (constant S_ .f32 0x00000000#32))))
      (cmpf .ogt (extractStridedSlice S256x128x8 ![0, 0, 0] (Host.topK S256x128x9 2 (FloatOps.cmpfTotal .gt) (table x0 x1) sliceFits_S256x128x128_S256x128x9).1 slices_S256x128x9_S256x128x8_0_0_0)
        (extractStridedSlice S256x128x8 ![0, 0, 1] (Host.topK S256x128x9 2 (FloatOps.cmpfTotal .gt) (table x0 x1) sliceFits_S256x128x128_S256x128x9).1 slices_S256x128x9_S256x128x8_0_0_1)) (ix3 b n ⟨j, hj⟩) = _
    pointwise []
    rfl
  rw [e, show (shown x1 (ix3 b 0 n) : Ideal .f32) = present x1 b n from mask_apply x1 b n, decide_eq_false h0, top_apply, top_apply, table_eq] at h'
  have h2 := bit_true ((BitVec.zero_or (x := BitVec.ofBool _)).symm.trans h')
  have ej : (⟨1 + j, by omega⟩ : Fin 128) = ⟨j + 1, by omega⟩ := Fin.ext (Nat.add_comm 1 j)
  rw [ej] at h2
  exact (congrArg₂ (· < ·) (table_apply x0 x1 b n _) (table_apply x0 x1 b n _)).mp h2

end Cert.Pre_first_separated.Bounds

end

end
-- ==== Proof.FirstBlocks.lean ====
/- The first edge convolution's result array is the reference's. -/
module

public import proofs.«01_k».proof.Proof.FirstKVal
public import proofs.«01_k».proof.Proof.FirstBounds
public import proofs.«01_k».proof.Proof.Finite
public import proofs.«01_k».proof.Proof.Gen.FirstKernelIdeal.Value
public import Idealize.ShloMosaic.Lib.Pipeline.ValueKit.Geometry

@[expose] public section

set_option maxRecDepth 16384

noncomputable section

namespace Cert.FirstKernelIdeal.Blocks

open Cert.FirstKernelIdeal Cert.FirstKernelIdeal.Gen Cert.FirstKernelIdeal.Pieces Idealize.ShloMosaic Idealize.ShloMosaic.TcCoe Idealize.SL.Sem
open Cert.ReferenceIdeal.Stages (present)
open Cert.FirstReferenceIdeal.Stages (cloud feature weight norm)

variable (m : (ℓ : Loc nD τ sig) → Buf (Elt Ideal) ℓ) (c : Dev nD)

/-- The arguments of device `c`. -/
abbrev A0 : FVec Ideal S256x8x128 .f32 := m ((c : Thread nD τ).loc main_arg0)
abbrev A1 : FVec Ideal S256x32x128 .f32 := m ((c : Thread nD τ).loc main_arg1)
abbrev A2 : FVec Ideal S1x32 .f32 := m ((c : Thread nD τ).loc main_arg2)
abbrev A3 : FVec Ideal S1x32 .f32 := m ((c : Thread nD τ).loc main_arg3)
abbrev A4 : FVec Ideal S96x64 .f32 := m ((c : Thread nD τ).loc main_arg4)
abbrev A5 : FVec Ideal S6x32 .f32 := m ((c : Thread nD τ).loc main_arg5)
abbrev A6 : FVec Ideal S8x32 .f32 := m ((c : Thread nD τ).loc main_arg6)

/-- Batch element `i` of block `t`. -/
def row (t : Fin cfg0.N) (i : Fin 8) : Fin 256 := ⟨8 * t.val + i.val, by have : t.val < 32 := t.isLt; omega⟩

theorem moved_index : ∀ t : Fin cfg0.N, win0_0.index t 0 = t.val ∧ win0_0.index t 1 = 0 ∧ win0_0.index t 2 = 0
    ∧ win0_1.index t 0 = t.val ∧ win0_1.index t 1 = 0 ∧ win0_1.index t 2 = 0
    ∧ win0_7.index t 0 = t.val ∧ win0_7.index t 1 = 0 ∧ win0_7.index t 2 = 0 :=
  (by decide +kernel : ∀ t : Fin grid0.N, _)

theorem fixed_index : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) :=
  (by decide +kernel : ∀ t : Fin grid0.N, _)

theorem blk0_apply (t : Fin cfg0.N) (i : Fin 8) (k : Fin 8) (n : Fin 128) :
    (iblk m c 0 t (ix3 i k n) : Ideal .f32) = A0 m c (ix3 (row t i) k n) := by
  show A0 m c (((cfg0.win 0).blk t).view.emb (ix3 i k n)) = _
  refine congrArg (A0 m c) (funext fun a => Fin.ext ?_)
  obtain ⟨h0, h1, h2, -⟩ := moved_index t
  match a with
  | ⟨0, _⟩ => show win0_0.index t 0 * 8 + 1 * i.val = 8 * t.val + i.val; rw [h0]; omega
  | ⟨1, _⟩ => show win0_0.index t 1 * 8 + 1 * k.val = k.val; rw [h1]; omega
  | ⟨2, _⟩ => show win0_0.index t 2 * 128 + 1 * n.val = n.val; rw [h2]; omega

theorem blk1_apply (t : Fin cfg0.N) (i : Fin 8) (k : Fin 32) (n : Fin 128) :
    (iblk m c 1 t (ix3 i k n) : Ideal .f32) = A1 m c (ix3 (row t i) k n) := by
  show A1 m c (((cfg0.win 1).blk t).view.emb (ix3 i k n)) = _
  refine congrArg (A1 m c) (funext fun a => Fin.ext ?_)
  obtain ⟨-, -, -, h0, h1, h2, -⟩ := moved_index t
  match a with
  | ⟨0, _⟩ => show win0_1.index t 0 * 8 + 1 * i.val = 8 * t.val + i.val; rw [h0]; omega
  | ⟨1, _⟩ => show win0_1.index t 1 * 32 + 1 * k.val = k.val; rw [h1]; omega
  | ⟨2, _⟩ => show win0_1.index t 2 * 128 + 1 * n.val = n.val; rw [h2]; omega

/-- Where a block at the origin puts a coordinate. -/
theorem origin (q s v : ℕ) (h : q = 0) : q * s + 1 * v = v := by subst h; omega

theorem blk2_apply (t : Fin cfg0.N) (o : Fin 1) (k : Fin 32) :
    (iblk m c 2 t (ix2 o k) : Ideal .f32) = A2 m c (ix2 o k) :=
  congrArg (A2 m c) (funext fun a => Fin.ext (match a with
    | ⟨0, _⟩ => origin (win0_2.index t 0) 1 o.val ((fixed_index t).1 0)
    | ⟨1, _⟩ => origin (win0_2.index t 1) 32 k.val ((fixed_index t).1 1)))

theorem blk3_apply (t : Fin cfg0.N) (o : Fin 1) (k : Fin 32) :
    (iblk m c 3 t (ix2 o k) : Ideal .f32) = A3 m c (ix2 o k) :=
  congrArg (A3 m c) (funext fun a => Fin.ext (match a with
    | ⟨0, _⟩ => origin (win0_3.index t 0) 1 o.val ((fixed_index t).2.1 0)
    | ⟨1, _⟩ => origin (win0_3.index t 1) 32 k.val ((fixed_index t).2.1 1)))

theorem blk4_apply (t : Fin cfg0.N) (o : Fin 96) (k : Fin 64) :
    (iblk m c 4 t (ix2 o k) : Ideal .f32) = A4 m c (ix2 o k) :=
  congrArg (A4 m c) (funext fun a => Fin.ext (match a with
    | ⟨0, _⟩ => origin (win0_4.index t 0) 96 o.val ((fixed_index t).2.2.1 0)
    | ⟨1, _⟩ => origin (win0_4.index t 1) 64 k.val ((fixed_index t).2.2.1 1)))

theorem blk5_apply (t : Fin cfg0.N) (o : Fin 6) (k : Fin 32) :
    (iblk m c 5 t (ix2 o k) : Ideal .f32) = A5 m c (ix2 o k) :=
  congrArg (A5 m c) (funext fun a => Fin.ext (match a with
    | ⟨0, _⟩ => origin (win0_5.index t 0) 6 o.val ((fixed_index t).2.2.2.1 0)
    | ⟨1, _⟩ => origin (win0_5.index t 1) 32 k.val ((fixed_index t).2.2.2.1 1)))

theorem blk6_apply (t : Fin cfg0.N) (o : Fin 8) (k : Fin 32) :
    (iblk m c 6 t (ix2 o k) : Ideal .f32) = A6 m c (ix2 o k) :=
  congrArg (A6 m c) (funext fun a => Fin.ext (match a with
    | ⟨0, _⟩ => origin (win0_6.index t 0) 8 o.val ((fixed_index t).2.2.2.2 0)
    | ⟨1, _⟩ => origin (win0_6.index t 1) 32 k.val ((fixed_index t).2.2.2.2 1)))

/-- A loaded row of a table. -/
theorem ld_row {R : ℕ} (x : Vec Ideal ⟨2, ![R, 32]⟩ .f32) (q : ℕ) (hq : q < R) (inb) (o : Fin 32) :
    (View.ld x (Rect.unit (s := ⟨2, ![R, 32]⟩) ![q, 0] S1x32.size inb) (ix2 0 o) : Ideal .f32) = x (ix2 ⟨q, hq⟩ o) := by
  refine congrArg x (funext fun a => Fin.ext ?_)
  match a with
  | ⟨0, _⟩ => show q + 1 * 0 = q; omega
  | ⟨1, _⟩ => show 0 + 1 * o.val = o.val; omega

/-- The first layer's loaded weights. -/
theorem ld_wide (x : Vec Ideal S96x64 .f32) (o : Fin 32) (k : Fin 64) :
    (View.ld x r0_5 (ix2 o k) : Ideal .f32) = weight x 0 o k := by
  refine congrArg x (funext fun a => Fin.ext ?_)
  match a with
  | ⟨0, _⟩ => show 0 + 1 * o.val = 32 * 0 + o.val; omega
  | ⟨1, _⟩ => show 0 + 1 * k.val = k.val; omega

/-- A later layer's loaded weights. -/
theorem ld_square (x : Vec Ideal S96x64 .f32) (l : Fin 3) (inb) (o k : Fin 32) :
    (View.ld x (Rect.unit (s := S96x64) ![32 * l.val, 0] S32x32.size inb) (ix2 o k) : Ideal .f32) = weight x l o ⟨k.val, by omega⟩ := by
  refine congrArg x (funext fun a => Fin.ext ?_)
  match a with
  | ⟨0, _⟩ => show 32 * l.val + 1 * o.val = 32 * l.val + o.val; omega
  | ⟨1, _⟩ => show 0 + 1 * k.val = k.val; omega

/-- The kernel's batch norm of layer `l`, from its rows of sums and parameters. -/
def knorm (x5 : FVec Ideal S6x32 .f32) (x6 : FVec Ideal S8x32 .f32) (l : Fin 3) (o : Fin 32) (x : EReal) : EReal :=
  Net.kbn (Ideal.ofBits .f32 0x48600000#32) (Ideal.ofBits .f32 0x3727C5AC#32) (x6 (ix2 ⟨2 * l.val + 2, by omega⟩ o))
    (x6 (ix2 ⟨2 * l.val + 3, by omega⟩ o)) (x5 (ix2 ⟨2 * l.val, by omega⟩ o)) (x5 (ix2 ⟨2 * l.val + 1, by omega⟩ o)) x

/-- The kernel's normalised feature of channel `k`, from its value and the mask there. -/
def kfeature (x2 x3 : FVec Ideal S1x32 .f32) (x6 : FVec Ideal S8x32 .f32) (k : Fin 32) (x μ : EReal) : EReal :=
  Net.kbn (Ideal.ofBits .f32 0x47000000#32) (Ideal.ofBits .f32 0x3727C5AC#32) (x6 (ix2 0 k)) (x6 (ix2 1 k)) (x2 (ix2 0 k)) (x3 (ix2 0 k)) x * μ

/-- What the body leaves in its result block, entry by entry, from its input blocks. -/
theorem body_apply (x0 : Vec Ideal S8x8x128 .f32) (x1 : Vec Ideal S8x32x128 .f32) (x2 x3 : Vec Ideal S1x32 .f32) (x4 : Vec Ideal S96x64 .f32)
    (x5 : Vec Ideal S6x32 .f32) (x6 : Vec Ideal S8x32 .f32) (i : Fin 8) (o : Fin 32) (n : Fin 128) :
    (out0_7 (F := Ideal) x0 x1 x2 x3 x4 x5 x6 (ix3 i o n) : Ideal .f32)
      = Net.kfirst (knorm x5 x6) (fun o (k : Fin 32) => weight x4 0 o ⟨k.val, by omega⟩) (fun o (k : Fin 32) => weight x4 0 o ⟨32 + k.val, by omega⟩)
          (fun o (k : Fin 32) => weight x4 1 o ⟨k.val, by omega⟩) (fun o (k : Fin 32) => weight x4 2 o ⟨k.val, by omega⟩)
          (fun k n => kfeature x2 x3 x6 k (x1 (ix3 i k n)) (Net.kmask (fun k n => (x1 (ix3 i k n) : Ideal .f32)) n))
          (Net.kpts (fun k n => (x0 (ix3 i k n) : Ideal .f32) * Net.kmask (fun k n => (x1 (ix3 i k n) : Ideal .f32)) n)
            (Net.kmask fun k n => (x1 (ix3 i k n) : Ideal .f32)))
          (Net.kmask fun k n => (x1 (ix3 i k n) : Ideal .f32)) o n := by
  rw [out_eq, View.canon_cons_unit_lit _ _ _ (by decide), whole_apply, View.ld_unit_lit _ x0 (by decide), View.ld_unit_lit _ x1 (by decide)]
  have hn : (fun (l : Fin 3) o => Net.kbn (Ideal.ofBits .f32 0x48600000#32) (Ideal.ofBits .f32 0x3727C5AC#32)
      ((![View.ld x6 r0_2, View.ld x6 r0_3, View.ld x6 r0_6, View.ld x6 r0_7, View.ld x6 r0_11, View.ld x6 r0_12, View.ld x6 r0_16, View.ld x6 r0_17] : Fin 8 → FVec Ideal S1x32 .f32) ⟨2 * l.val + 2, by omega⟩ (ix2 0 o))
      ((![View.ld x6 r0_2, View.ld x6 r0_3, View.ld x6 r0_6, View.ld x6 r0_7, View.ld x6 r0_11, View.ld x6 r0_12, View.ld x6 r0_16, View.ld x6 r0_17] : Fin 8 → FVec Ideal S1x32 .f32) ⟨2 * l.val + 3, by omega⟩ (ix2 0 o))
      ((![View.ld x5 r0_8, View.ld x5 r0_9, View.ld x5 r0_13, View.ld x5 r0_14, View.ld x5 r0_18, View.ld x5 r0_19] : Fin 6 → FVec Ideal S1x32 .f32) ⟨2 * l.val, by omega⟩ (ix2 0 o))
      ((![View.ld x5 r0_8, View.ld x5 r0_9, View.ld x5 r0_13, View.ld x5 r0_14, View.ld x5 r0_18, View.ld x5 r0_19] : Fin 6 → FVec Ideal S1x32 .f32) ⟨2 * l.val + 1, by omega⟩ (ix2 0 o))) = knorm x5 x6 := by
    funext l o
    unfold knorm
    match l with
    | 0 => exact congr (congr (congrArg₂ _ (ld_row x6 2 (by decide) _ o) (ld_row x6 3 (by decide) _ o)) (ld_row x5 0 (by decide) _ o)) (ld_row x5 1 (by decide) _ o)
    | 1 => exact congr (congr (congrArg₂ _ (ld_row x6 4 (by decide) _ o) (ld_row x6 5 (by decide) _ o)) (ld_row x5 2 (by decide) _ o)) (ld_row x5 3 (by decide) _ o)
    | 2 => exact congr (congr (congrArg₂ _ (ld_row x6 6 (by decide) _ o) (ld_row x6 7 (by decide) _ o)) (ld_row x5 4 (by decide) _ o)) (ld_row x5 5 (by decide) _ o)
  rw [hn]
  congr 1
  · funext o k; exact ld_wide x4 o _
  · funext o k; exact ld_wide x4 o _
  · funext o k; exact ld_square x4 1 _ o k
  · funext o k; exact ld_square x4 2 _ o k
  · funext k n
    unfold kfeature
    exact congrArg (· * _) (congrFun (congr (congr (congrArg₂ (Net.kbn _ _) (ld_row x6 0 (by decide) _ k) (ld_row x6 1 (by decide) _ k))
      (ld_row x2 0 (by decide) _ k)) (ld_row x3 0 (by decide) _ k)) _)

/-- What block `t` of the kernel computes, entry by entry. -/
theorem block_apply (t : Fin cfg0.N) (i : Fin 8) (o : Fin 32) (n : Fin 128) :
    (out0_7 (F := Ideal) (iblk m c 0 t) (iblk m c 1 t) (iblk m c 2 t) (iblk m c 3 t) (iblk m c 4 t) (iblk m c 5 t) (iblk m c 6 t) (ix3 i o n) : Ideal .f32)
      = Net.kfirst (knorm (A5 m c) (A6 m c)) (fun o (k : Fin 32) => weight (A4 m c) 0 o ⟨k.val, by omega⟩)
          (fun o (k : Fin 32) => weight (A4 m c) 0 o ⟨32 + k.val, by omega⟩) (fun o (k : Fin 32) => weight (A4 m c) 1 o ⟨k.val, by omega⟩)
          (fun o (k : Fin 32) => weight (A4 m c) 2 o ⟨k.val, by omega⟩)
          (fun k n => kfeature (A2 m c) (A3 m c) (A6 m c) k (A1 m c (ix3 (row t i) k n)) (present (A1 m c) (row t i) n))
          (Net.kpts (cloud (A0 m c) (A1 m c) (row t i)) (present (A1 m c) (row t i))) (present (A1 m c) (row t i)) o n := by
  rw [body_apply]
  unfold kfeature knorm weight cloud present
  simp only [blk0_apply, blk1_apply, blk2_apply, blk3_apply, blk4_apply, blk5_apply, blk6_apply]

/-- The reference's result array on the kernel's arguments. -/
abbrev result : FVec Ideal S256x32x128 .f32 :=
  Cert.FirstReferenceIdeal.Read.val_main_v191 (F := Ideal) (A0 m c) (A1 m c) (A2 m c) (A3 m c) (A4 m c) (A5 m c) (A6 m c)

section Arrays

variable (x0 : FVec Ideal S256x8x128 .f32) (x1 : FVec Ideal S256x32x128 .f32) (x2 x3 : FVec Ideal S1x32 .f32) (x4 : FVec Ideal S96x64 .f32)
  (x5 : FVec Ideal S6x32 .f32) (x6 : FVec Ideal S8x32 .f32)

/-- What the precondition says of the arrays, entry by entry. -/
structure Regular : Prop where
  points : ∀ i, Net.Fine (x0 i)
  features : ∀ i, Net.Fine (x1 i)
  gain : ∀ i, Net.Fine (x2 i)
  shift : ∀ i, Net.Fine (x3 i)
  weights : ∀ i, Net.Fine (x4 i)
  params : ∀ i, Net.Fine (x5 i)
  sums : ∀ i, Net.Fine (x6 i)
  varianceShort : ∀ o, 0 < Net.vare (Ideal.ofBits .f32 0x47000000#32) (Ideal.ofBits .f32 0x3727C5AC#32) (x6 (ix2 0 o)) (x6 (ix2 1 o))
  variance0 : ∀ o, 0 < Net.vare (Ideal.ofBits .f32 0x48600000#32) (Ideal.ofBits .f32 0x3727C5AC#32) (x6 (ix2 2 o)) (x6 (ix2 3 o))
  variance1 : ∀ o, 0 < Net.vare (Ideal.ofBits .f32 0x48600000#32) (Ideal.ofBits .f32 0x3727C5AC#32) (x6 (ix2 4 o)) (x6 (ix2 5 o))
  variance2 : ∀ o, 0 < Net.vare (Ideal.ofBits .f32 0x48600000#32) (Ideal.ofBits .f32 0x3727C5AC#32) (x6 (ix2 6 o)) (x6 (ix2 7 o))
  apart : ∀ b n, present x1 b n = 0 ∨ ∀ (j : ℕ) (hj : j < 8),
    Net.rpd (Net.kpts (cloud x0 x1 b) (present x1 b)) n (Net.order (Net.rpd (Net.kpts (cloud x0 x1 b) (present x1 b)) n) ⟨j + 1, by omega⟩)
      < Net.rpd (Net.kpts (cloud x0 x1 b) (present x1 b)) n (Net.order (Net.rpd (Net.kpts (cloud x0 x1 b) (present x1 b)) n) ⟨j, by omega⟩)

/-- The kernel's result at an index, from the arrays. -/
def kvalue (b : Fin 256) (o : Fin 32) (n : Fin 128) : EReal :=
  Net.kfirst (knorm x5 x6) (fun o (k : Fin 32) => weight x4 0 o ⟨k.val, by omega⟩) (fun o (k : Fin 32) => weight x4 0 o ⟨32 + k.val, by omega⟩)
    (fun o (k : Fin 32) => weight x4 1 o ⟨k.val, by omega⟩) (fun o (k : Fin 32) => weight x4 2 o ⟨k.val, by omega⟩)
    (fun k n => kfeature x2 x3 x6 k (x1 (ix3 b k n)) (present x1 b n)) (Net.kpts (cloud x0 x1 b) (present x1 b)) (present x1 b) o n

variable {x0 x1 x2 x3 x4 x5 x6} (h : Regular x0 x1 x2 x3 x4 x5 x6)

include h

theorem Regular.norm (l : Fin 3) (o : Fin 32) (x : EReal) (hx : Net.Fine x) :
    knorm x5 x6 l o x = Cert.FirstReferenceIdeal.Stages.norm x5 x6 l o x ∧ Net.Fine (knorm x5 x6 l o x) := by
  have hv : 0 < Net.vare (Ideal.ofBits .f32 0x48600000#32) (Ideal.ofBits .f32 0x3727C5AC#32) (x6 (ix2 ⟨2 * l.val + 2, by omega⟩ o))
      (x6 (ix2 ⟨2 * l.val + 3, by omega⟩ o)) := by
    match l with
    | 0 => exact h.variance0 o
    | 1 => exact h.variance1 o
    | 2 => exact h.variance2 o
  unfold knorm Cert.FirstReferenceIdeal.Stages.norm
  rw [Net.edge_bits] at hv ⊢
  exact Net.bn_eq (by norm_num) Net.eps_fine (h.sums _) (h.sums _) (h.params (ix2 ⟨2 * l.val, by omega⟩ o)) (h.params (ix2 ⟨2 * l.val + 1, by omega⟩ o)) hx hv

theorem Regular.weight (l : Fin 3) (o : Fin 32) (k : Fin 64) : Net.Fine (Cert.FirstReferenceIdeal.Stages.weight x4 l o k) := h.weights _

omit h in
theorem mask_cases (b : Fin 256) (n : Fin 128) : present x1 b n = 0 ∨ present x1 b n = 1 := Net.kmask_cases _ n

theorem Regular.feature (b : Fin 256) (k : Fin 32) (n : Fin 128) :
    kfeature x2 x3 x6 k (x1 (ix3 b k n)) (present x1 b n) = Cert.FirstReferenceIdeal.Stages.feature x1 x2 x3 x6 b k n
      ∧ Net.Fine (Cert.FirstReferenceIdeal.Stages.feature x1 x2 x3 x6 b k n) := by
  unfold kfeature Cert.FirstReferenceIdeal.Stages.feature
  have vs := h.varianceShort k
  rw [Net.cloud_bits] at vs ⊢
  exact Net.masked_bn_eq (by norm_num) Net.eps_fine (h.sums _) (h.sums _) (h.gain _) (h.shift _) (h.features _) (mask_cases b n) vs

theorem Regular.cloud (b : Fin 256) (k : Fin 8) (n : Fin 128) :
    Net.Fine (Net.kpts (Cert.FirstReferenceIdeal.Stages.cloud x0 x1 b) (present x1 b) k n) :=
  Net.kpts_fine _ (fun _ n => (h.points _).mul ((mask_cases b n).elim (fun e => e ▸ Net.Fine.zero) fun e => e ▸ Net.Fine.one)) _ (mask_cases b) k n

/-- The kernel's value is the reference's at every index. -/
theorem Regular.agree (b : Fin 256) (o : Fin 32) (n : Fin 128) :
    kvalue x0 x1 x2 x3 x4 x5 x6 b o n = Cert.FirstReferenceIdeal.Read.val_main_v191 (F := Ideal) x0 x1 x2 x3 x4 x5 x6 (ix3 b o n) := by
  refine Eq.trans ?_ (Cert.FirstReferenceIdeal.Stages.out_apply x0 x1 x2 x3 x4 x5 x6 b o n).symm
  unfold kvalue
  rw [funext fun k => funext fun n => (h.feature b k n).1]
  exact Net.first_eq (by decide) _ (Cert.FirstReferenceIdeal.Stages.norm x5 x6) h.norm _ _ _ _ _ _ _
    (fun o k => h.weight _ _ _) (fun o k => h.weight _ _ _) (fun o k => h.weight _ _ _) (fun o k => h.weight _ _ _)
    (fun k n => (h.feature b k n).2) (h.cloud b) n (h.apart b n) o

/-- The kernel's value is real at every index. -/
theorem Regular.fine (b : Fin 256) (o : Fin 32) (n : Fin 128) : Net.Fine (kvalue x0 x1 x2 x3 x4 x5 x6 b o n) := by
  unfold kvalue
  rw [funext fun k => funext fun n => (h.feature b k n).1]
  exact Net.kfirst_fine (by decide) _ (fun l o x hx => (h.norm l o x hx).2) _ _ _ _ _ _ _ (mask_cases b)
    (fun o k => h.weight _ _ _) (fun o k => h.weight _ _ _) (fun o k => h.weight _ _ _) (fun o k => h.weight _ _ _)
    (fun k n => (h.feature b k n).2) (h.cloud b) n (h.apart b n) o

end Arrays

/-- Under the precondition the arguments are as they should be. -/
theorem regular (hpre : Cert.Pre_FirstKernelIdeal_first_separated m) :
    Regular (A0 m c) (A1 m c) (A2 m c) (A3 m c) (A4 m c) (A5 m c) (A6 m c) := by
  obtain ⟨h0, h1, h2, h3, h4, h5, h6, vs, v0, v1, v2, hap⟩ := hpre c
  exact {
    points := Cert.Pre_first_separated.Bounds.fine_entries _ h0
    features := Cert.Pre_first_separated.Bounds.fine_entries _ h1
    gain := Cert.Pre_first_separated.Bounds.fine_entries _ h2
    shift := Cert.Pre_first_separated.Bounds.fine_entries _ h3
    weights := Cert.Pre_first_separated.Bounds.fine_entries _ h4
    params := Cert.Pre_first_separated.Bounds.fine_entries _ h5
    sums := Cert.Pre_first_separated.Bounds.fine_entries _ h6
    varianceShort := Cert.Pre_first_separated.Bounds.variance_short _ _ _ _ _ _ _ vs
    variance0 := Cert.Pre_first_separated.Bounds.variance0 _ _ _ _ _ _ _ v0
    variance1 := Cert.Pre_first_separated.Bounds.variance1 _ _ _ _ _ _ _ v1
    variance2 := Cert.Pre_first_separated.Bounds.variance2 _ _ _ _ _ _ _ v2
    apart := Cert.Pre_first_separated.Bounds.apart _ _ _ _ _ _ _ hap }

/-- Under the precondition the kernel's value and the reference's agree at every index. -/
theorem agree (hpre : Cert.Pre_FirstKernelIdeal_first_separated m) (b : Fin 256) (o : Fin 32) (n : Fin 128) :
    kvalue (A0 m c) (A1 m c) (A2 m c) (A3 m c) (A4 m c) (A5 m c) (A6 m c) b o n = result m c (ix3 b o n) :=
  (regular m c hpre).agree b o n

/-- What block `t` writes back is the reference's result there. -/
theorem flushed_eq (hpre : Cert.Pre_FirstKernelIdeal_first_separated m) (t : Fin cfg0.N) :
    (dats m 0 c).flushed 7 t = ((cfg0.win 7).blk t).view.read (Elt Ideal) (result m c) := by
  rw [Cert.FirstKernelIdeal.Value.flushed7]
  funext y
  have hy : y = ix3 (⟨(y 0).val, (y 0).isLt⟩ : Fin 8) (⟨(y 1).val, (y 1).isLt⟩ : Fin 32) (⟨(y 2).val, (y 2).isLt⟩ : Fin 128) := by
    funext a
    match a with
    | ⟨0, _⟩ => rfl
    | ⟨1, _⟩ => rfl
    | ⟨2, _⟩ => rfl
  generalize (⟨(y 0).val, (y 0).isLt⟩ : Fin 8) = i at hy
  generalize (⟨(y 1).val, (y 1).isLt⟩ : Fin 32) = o at hy
  generalize (⟨(y 2).val, (y 2).isLt⟩ : Fin 128) = n at hy
  subst hy
  show (out0_7 (F := Ideal) (iblk m c 0 t) (iblk m c 1 t) (iblk m c 2 t) (iblk m c 3 t) (iblk m c 4 t) (iblk m c 5 t) (iblk m c 6 t) (ix3 i o n) : Ideal .f32)
    = result m c (((cfg0.win 7).blk t).view.emb (ix3 i o n))
  refine ((block_apply m c t i o n).trans (agree m c hpre (row t i) o n)).trans ?_
  refine congrArg (result m c) (funext fun a => Fin.ext ?_)
  obtain ⟨-, -, -, -, -, -, h0, h1, h2⟩ := moved_index t
  match a with
  | ⟨0, _⟩ => show 8 * t.val + i.val = win0_7.index t 0 * 8 + 1 * i.val; rw [h0]; omega
  | ⟨1, _⟩ => show o.val = win0_7.index t 1 * 32 + 1 * o.val; rw [h1]; omega
  | ⟨2, _⟩ => show n.val = win0_7.index t 2 * 128 + 1 * n.val; rw [h2]; omega

/-- The kernel's result array after the run is the reference's. -/
theorem final (hpre : Cert.Pre_FirstKernelIdeal_first_separated m) : (dats m 0 c).arrAt 7 cfg0.N = result m c :=
  (dats m 0 c).arrAt_eq_of_covers 7 (result m c) (by decide +kernel) fun t _ y => congrFun (flushed_eq m c hpre t) y

end Cert.FirstKernelIdeal.Blocks

end

end
-- ==== Proof.SumsRef.lean ====
/- The batch sums of the fused features: the reference read at an index. -/
module

public import proofs.«01_k».proof.Proof.Head
public import proofs.«01_k».proof.Proof.Gen.SumsReferenceIdeal.Read

@[expose] public section

set_option maxRecDepth 16384

noncomputable section

namespace Cert.SumsReferenceIdeal.Stages

open Cert.SumsReferenceIdeal Cert.SumsReferenceIdeal.Gen Cert.SumsReferenceIdeal.Read Idealize.ShloMosaic

variable (x0 : FVec Ideal S256x32x128 .f32) (x1 : FVec Ideal S256x64x128 .f32) (x2 : FVec Ideal S128x96 .f32)

/-- The product of batch element `b`'s features with the fusing weight. -/
def fusedOf (b : Fin 256) : Fin 128 → Fin 128 → EReal :=
  Net.fused (fun c n => x0 (ix3 b c n)) (fun c n => x1 (ix3 b c n)) (fun o c => x2 (ix2 o c))

theorem fused_apply (b : Fin 256) (o n : Fin 128) :
    (val_main_v2 (F := Ideal) x0 x1 x2 (ix3 b o n) : Ideal .f32) = fusedOf x0 x1 x2 b o n := by
  pointwise [val_main_v0, val_main_v1, val_main_v2]
  rfl

/-- An index of a batch of matrices falls on a channel when the channel is its middle coordinate. -/
theorem fiber (o : Fin 128) (i : S256x128x128.Idx) :
    (reducesTo_S256x128x128_S128_d0_2 : S256x128x128.ReducesTo [0, 2] S128).drop i = ix1 o ↔ ∃ k : Fin 256 × Fin 128, ix3 k.1 o k.2 = i := by
  constructor
  · intro e
    refine ⟨(i 0, i 2), funext fun a => Fin.ext ?_⟩
    match a with
    | ⟨0, _⟩ => rfl
    | ⟨1, _⟩ => exact (congrArg Fin.val (congrFun e 0)).symm
    | ⟨2, _⟩ => rfl
  · rintro ⟨k, rfl⟩
    refine funext fun a => Fin.ext ?_
    match a with
    | ⟨0, _⟩ => rfl

/-- The host's sum over the batch and the points, at a channel. -/
theorem sum_apply (v : FVec Ideal S256x128x128 .f32) (z : EReal) (o : Fin 128) :
    Ideal.hostReduceAdd reducesTo_S256x128x128_S128_d0_2 v z (ix1 o) = z + ∑ b : Fin 256, ∑ n : Fin 128, (v (ix3 b o n) : EReal) := by
  refine congrArg (z + ·) ((Finset.sum_filter_eq_sum_of_fiber _ (fun k : Fin 256 × Fin 128 => (ix3 k.1 o k.2 : S256x128x128.Idx))
    (fun _ _ e => Prod.ext (congrFun e 0) (congrFun e 2)) (fiber o) v).trans ?_)
  rw [Fintype.sum_prod_type]

theorem total_apply (o : Fin 128) :
    (val_main_v8 (F := Ideal) x0 x1 x2 (ix2 0 o) : Ideal .f32) = ∑ b : Fin 256, ∑ n : Fin 128, fusedOf x0 x1 x2 b o n := by
  pointwise [val_main_v8, val_main_v6, val_main_v3, val_main_cst]
  rw [sum_apply]
  simp only [fused_apply, zero_add]

theorem squares_apply (o : Fin 128) :
    (val_main_v8 (F := Ideal) x0 x1 x2 (ix2 1 o) : Ideal .f32)
      = ∑ b : Fin 256, ∑ n : Fin 128, fusedOf x0 x1 x2 b o n * fusedOf x0 x1 x2 b o n := by
  pointwise [val_main_v8, val_main_v7, val_main_v5, val_main_cst_0]
  rw [sum_apply]
  pointwise [val_main_v4]
  simp only [fused_apply, zero_add]

end Cert.SumsReferenceIdeal.Stages

end

end
-- ==== Proof.SumsKer.lean ====
/- The batch sums of the fused features: the kernel's body read at an index. -/
module

public import proofs.«01_k».proof.Proof.Head
public import proofs.«01_k».proof.Proof.Pieces
public import proofs.«01_k».proof.Proof.Gen.SumsKernelIdeal.Value
public import Idealize.ShloMosaic.Lib.Pipeline.ValueKit.Acc

@[expose] public section

set_option maxRecDepth 16384

noncomputable section

namespace Cert.SumsKernelIdeal.Pieces

open Cert.SumsKernelIdeal Cert.SumsKernelIdeal.Gen Idealize.ShloMosaic

variable (v3 : FVec Ideal S8x32x128 .f32) (v5 : FVec Ideal S8x64x128 .f32) (v9 : FVec Ideal S128x96 .f32)

/-- The product of the features of the block's element `i` with the fusing weight. -/
def fusedOf (i : Fin 8) : Fin 128 → Fin 128 → EReal :=
  Net.fused (fun c n => v3 (ix3 i c n)) (fun c n => v5 (ix3 i c n)) (fun o c => v9 (ix2 o c))

theorem fused_apply (i : Fin 8) (n o : Fin 128) :
    (k0_pay2 v3 v5 v9 (ix2 ⟨i.val * 128 + n.val, by omega⟩ o) : Ideal .f32) = fusedOf v3 v5 v9 i o n := by
  pointwise [k0_pay2]
  rfl

/-- A sum over the block's rows is one over its elements and the points. -/
theorem rows (f : Fin 1024 → EReal) : ∑ r, f r = ∑ i : Fin 8, ∑ n : Fin 128, f ⟨i.val * 128 + n.val, by omega⟩ :=
  (Fin.sum_mul_add_fin 8 128 f).symm

theorem total_apply (v20 : FVec Ideal S1x128 .f32) (o : Fin 128) :
    (k0_pay3 v3 v5 v9 v20 (ix2 0 o) : Ideal .f32) = v20 (ix2 0 o) + ∑ i : Fin 8, ∑ n : Fin 128, fusedOf v3 v5 v9 i o n := by
  pointwise [k0_pay3]
  rw [rows]
  simp only [fused_apply]

theorem squares_apply (v27 : FVec Ideal S1x128 .f32) (o : Fin 128) :
    (k0_pay4 v3 v5 v9 v27 (ix2 0 o) : Ideal .f32)
      = v27 (ix2 0 o) + ∑ i : Fin 8, ∑ n : Fin 128, fusedOf v3 v5 v9 i o n * fusedOf v3 v5 v9 i o n := by
  pointwise [k0_pay4]
  rw [Finset.sum_eq_single o ?_ fun h => absurd (Finset.mem_univ o) h]
  · rw [Cert.KernelIdeal.Pieces.select_eq_iff _ _ _ _ (Cert.KernelIdeal.Pieces.diag_bit o o), if_pos rfl, rows]
    simp only [fused_apply]
  · intro x _ h
    rw [Cert.KernelIdeal.Pieces.select_eq_iff _ _ _ _ (Cert.KernelIdeal.Pieces.diag_bit x o), if_neg h]

end Cert.SumsKernelIdeal.Pieces

end

end
-- ==== Proof.SumsBlocks.lean ====
/- The batch sums of the fused features: the kernel's result array is its reference's. -/
module

public import proofs.«01_k».proof.Proof.SumsRef
public import proofs.«01_k».proof.Proof.SumsKer
public import Idealize.ShloMosaic.Lib.Pipeline.ValueKit.Geometry

@[expose] public section

set_option maxRecDepth 16384

noncomputable section

namespace Cert.SumsKernelIdeal.Blocks

open Cert.SumsKernelIdeal Cert.SumsKernelIdeal.Gen Cert.SumsKernelIdeal.Pieces Idealize.ShloMosaic Idealize.ShloMosaic.TcCoe Idealize.SL.Sem

/-- What holds of both rows holds of the table. -/
theorem both_rows {P : S2x128.Idx → Prop} (h0 : ∀ o : Fin 128, P (ix2 0 o)) (h1 : ∀ o : Fin 128, P (ix2 1 o)) (j : S2x128.Idx) : P j := by
  have hj : j = ix2 (⟨(j 0).val, (j 0).isLt⟩ : Fin 2) (⟨(j 1).val, (j 1).isLt⟩ : Fin 128) := by
    funext a
    match a with
    | ⟨0, _⟩ => rfl
    | ⟨1, _⟩ => rfl
  generalize (⟨(j 0).val, (j 0).isLt⟩ : Fin 2) = q at hj
  generalize (⟨(j 1).val, (j 1).isLt⟩ : Fin 128) = o at hj
  subst hj
  match q with
  | ⟨0, _⟩ => exact h0 o
  | ⟨1, _⟩ => exact h1 o

/-- Row `q` of the two rows, as a rectangle, holds the entries of row `q`. -/
theorem row_emb (q : Fin 2) (k : ℕ) (hk : k = q.val) (inb) (o : Fin 128) :
    (Rect.unit (s := S2x128) ![k, 0] ![1, 128] inb).emb (ix2 0 o) = (ix2 q o : S2x128.Idx) := by
  subst hk
  refine funext fun a => Fin.ext ?_
  match a with
  | ⟨0, _⟩ => show q.val + 1 * 0 = q.val; omega
  | ⟨1, _⟩ => show 0 + 1 * o.val = o.val; omega

/-- A store of a row leaves its payload in the row. -/
theorem canon_same (q : Fin 2) (k : ℕ) (hk : k = q.val) (inb) (w : S1x128.Idx → Elt Ideal .f32)
    (L : List (View.Piece (Elt Ideal) S2x128 .f32)) (o : Fin 128) :
    View.canon (⟨Rect.unit (s := S2x128) ![k, 0] ![1, 128] inb, w⟩ :: L) (ix2 q o) = w (ix2 0 o) := by
  rw [← row_emb q k hk inb o]
  exact View.canon_cons_emb _ _ _ _

/-- A store of a row leaves the other row alone. -/
theorem canon_other (q r : Fin 2) (h : q ≠ r) (k : ℕ) (hk : k = q.val) (inb) (w : S1x128.Idx → Elt Ideal .f32)
    (L : List (View.Piece (Elt Ideal) S2x128 .f32)) (o : Fin 128) :
    View.canon (⟨Rect.unit (s := S2x128) ![k, 0] ![1, 128] inb, w⟩ :: L) (ix2 r o) = View.canon L (ix2 r o) := by
  refine View.canon_cons_of_not_mem _ _ fun hm => ?_
  obtain ⟨x, hx⟩ := (Rect.unit (s := S2x128) ![k, 0] ![1, 128] inb).exists_idx_of_mem hm
  have := congrArg Fin.val (congrFun hx 0)
  have h0 : (x 0).val < 1 := (x 0).isLt
  have e : k + 1 * (x 0).val = r.val := this
  exact h (Fin.ext (by omega))

/-- What a block adds to the two rows: the sums of its fused features and of their squares. -/
def part (v3 : FVec Ideal S8x32x128 .f32) (v5 : FVec Ideal S8x64x128 .f32) (v9 : FVec Ideal S128x96 .f32) (j : S2x128.Idx) : EReal :=
  if (j 0).val = 0 then ∑ i : Fin 8, ∑ n : Fin 128, fusedOf v3 v5 v9 i (j 1) n
  else ∑ i : Fin 8, ∑ n : Fin 128, fusedOf v3 v5 v9 i (j 1) n * fusedOf v3 v5 v9 i (j 1) n

theorem part_total (v3 : FVec Ideal S8x32x128 .f32) (v5 : FVec Ideal S8x64x128 .f32) (v9 : FVec Ideal S128x96 .f32) (o : Fin 128) :
    part v3 v5 v9 (ix2 0 o) = ∑ i : Fin 8, ∑ n : Fin 128, fusedOf v3 v5 v9 i o n := by
  unfold part
  exact if_pos rfl

theorem part_squares (v3 : FVec Ideal S8x32x128 .f32) (v5 : FVec Ideal S8x64x128 .f32) (v9 : FVec Ideal S128x96 .f32) (o : Fin 128) :
    part v3 v5 v9 (ix2 1 o) = ∑ i : Fin 8, ∑ n : Fin 128, fusedOf v3 v5 v9 i o n * fusedOf v3 v5 v9 i o n := by
  unfold part
  exact if_neg (show ¬((1 : Fin 2).val = 0) by decide)

section Body

variable (c : Dev nD) (i : grid0.Coords) (arg1 : Memref sig .tc .vmem S8x32x128 .f32) (harg1 : arg1.IsWhole)
  (arg2 : Memref sig .tc .vmem S8x64x128 .f32) (harg2 : arg2.IsWhole) (arg3 : Memref sig .tc .vmem S128x96 .f32) (harg3 : arg3.IsWhole)
  (arg4 : Memref sig .tc .vmem S2x128 .f32) (harg4 : arg4.IsWhole)
  (x0 : Vec Ideal S8x32x128 .f32) (x1 : Vec Ideal S8x64x128 .f32) (x2 : Vec Ideal S128x96 .f32)

/-- At a later block the body adds the block's sums to the rows it finds. -/
theorem later_apply (hc : ¬cond0_0 i) (xo : Vec Ideal S2x128 .f32) (j : S2x128.Idx) :
    (out0_B_3 c i arg1 harg1 arg2 harg2 arg3 harg3 arg4 harg4 hc x0 x1 x2 xo j : Ideal .f32) = xo j + part x0 x1 x2 j := by
  frame_out
  revert j
  refine both_rows (fun o => ?_) fun o => ?_
  · rw [canon_other 1 0 (by decide) 1 rfl, canon_same 0 0 rfl, total_apply, part_total]
    exact congrArg (fun y => (xo y : EReal) + _) (row_emb 0 0 rfl _ o)
  · rw [canon_same 1 1 rfl, squares_apply, part_squares]
    exact congrArg (fun y => (xo y : EReal) + _) (row_emb 1 1 rfl _ o)

/-- At the first block the body leaves the block's sums. -/
theorem first_apply (hc : cond0_0 i) (j : S2x128.Idx) :
    (out0_A_3 (F := Ideal) c i arg1 harg1 arg2 harg2 arg3 harg3 arg4 harg4 hc x0 x1 x2 j : Ideal .f32) = 0 + part x0 x1 x2 j := by
  frame_out
  simp only [View.readCov_eq_canon']
  revert j
  refine both_rows (fun o => ?_) fun o => ?_
  · rw [canon_other 1 0 (by decide) 1 rfl, canon_same 0 0 rfl, total_apply, part_total]
    refine congrArg (fun y : EReal => y + _) ?_
    rw [View.canon_cons_unit_lit _ _ _ (by decide)]
    pointwise [k0_pay1]
  · rw [canon_same 1 1 rfl, squares_apply, part_squares]
    refine congrArg (fun y : EReal => y + _) ?_
    refine (congrArg (View.canon _) (row_emb 1 1 rfl _ o)).trans ?_
    rw [canon_other 0 1 (by decide) 0 rfl, View.canon_cons_unit_lit _ _ _ (by decide)]
    pointwise [k0_pay1]

end Body

variable (m : (ℓ : Loc nD τ sig) → Buf (Elt Ideal) ℓ) (c : Dev nD)

/-- The arguments of device `c`. -/
abbrev A0 : FVec Ideal S256x32x128 .f32 := m ((c : Thread nD τ).loc main_arg0)
abbrev A1 : FVec Ideal S256x64x128 .f32 := m ((c : Thread nD τ).loc main_arg1)
abbrev A2 : FVec Ideal S128x96 .f32 := m ((c : Thread nD τ).loc main_arg2)

/-- Batch element `i` of block `t`. -/
def row (t : Fin cfg0.N) (i : Fin 8) : Fin 256 := ⟨t.val * 8 + i.val, by have : t.val < 32 := t.isLt; omega⟩

theorem indices : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) ∧ ∀ a, win0_2.index t a = 0 :=
  (by decide +kernel : ∀ t : Fin grid0.N, _)

theorem blk0_apply (t : Fin cfg0.N) (i : Fin 8) (k : Fin 32) (n : Fin 128) :
    (iblk m c 0 t (ix3 i k n) : Ideal .f32) = A0 m c (ix3 (row t i) k n) := by
  show V m c main_arg0 (((cfg0.win 0).blk t).view.emb (ix3 i k n)) = _
  rw [V_main_arg0]
  refine congrArg (A0 m c) (funext fun a => Fin.ext ?_)
  obtain ⟨h0, h1, h2⟩ := (indices t).1
  match a with
  | ⟨0, _⟩ => show win0_0.index t 0 * 8 + 1 * i.val = t.val * 8 + i.val; rw [h0]; omega
  | ⟨1, _⟩ => show win0_0.index t 1 * 32 + 1 * k.val = k.val; rw [h1]; omega
  | ⟨2, _⟩ => show win0_0.index t 2 * 128 + 1 * n.val = n.val; rw [h2]; omega

theorem blk1_apply (t : Fin cfg0.N) (i : Fin 8) (k : Fin 64) (n : Fin 128) :
    (iblk m c 1 t (ix3 i k n) : Ideal .f32) = A1 m c (ix3 (row t i) k n) := by
  show V m c main_arg1 (((cfg0.win 1).blk t).view.emb (ix3 i k n)) = _
  rw [V_main_arg1]
  refine congrArg (A1 m c) (funext fun a => Fin.ext ?_)
  obtain ⟨h0, h1, h2⟩ := (indices t).2.1
  match a with
  | ⟨0, _⟩ => show win0_1.index t 0 * 8 + 1 * i.val = t.val * 8 + i.val; rw [h0]; omega
  | ⟨1, _⟩ => show win0_1.index t 1 * 64 + 1 * k.val = k.val; rw [h1]; omega
  | ⟨2, _⟩ => show win0_1.index t 2 * 128 + 1 * n.val = n.val; rw [h2]; omega

theorem blk2_eq (t : Fin cfg0.N) : (iblk m c 2 t : FVec Ideal S128x96 .f32) = A2 m c := by
  funext y
  show V m c main_arg2 (((cfg0.win 2).blk t).view.emb y) = _
  rw [V_main_arg2]
  refine congrArg (A2 m c) (funext fun a => Fin.ext ?_)
  have h := (indices t).2.2
  match a with
  | ⟨0, _⟩ => show win0_2.index t 0 * 128 + 1 * (y 0).val = (y 0).val; rw [h]; omega
  | ⟨1, _⟩ => show win0_2.index t 1 * 96 + 1 * (y 1).val = (y 1).val; rw [h]; omega

/-- A block's fused features are those of its batch elements. -/
theorem fused_block (t : Fin cfg0.N) (i : Fin 8) :
    fusedOf (iblk m c 0 t) (iblk m c 1 t) (iblk m c 2 t) i = Cert.SumsReferenceIdeal.Stages.fusedOf (A0 m c) (A1 m c) (A2 m c) (row t i) := by
  rw [blk2_eq]
  unfold fusedOf Cert.SumsReferenceIdeal.Stages.fusedOf
  simp only [blk0_apply, blk1_apply]

/-- The reference's result array on the kernel's arguments. -/
abbrev result : FVec Ideal S2x128 .f32 := Cert.SumsReferenceIdeal.Read.val_main_v8 (F := Ideal) (A0 m c) (A1 m c) (A2 m c)

/-- The blocks' sums add up to the reference's. -/
theorem parts_sum (j : S2x128.Idx) :
    ∑ t : Fin cfg0.N, part (iblk m c 0 t) (iblk m c 1 t) (iblk m c 2 t) j = result m c j := by
  revert j
  refine both_rows (fun o => ?_) fun o => ?_
  · refine Eq.trans ?_ (Cert.SumsReferenceIdeal.Stages.total_apply (A0 m c) (A1 m c) (A2 m c) o).symm
    refine Eq.trans (Finset.sum_congr rfl fun t _ => ?_) (Fin.sum_mul_add_fin 32 8
      fun b : Fin 256 => ∑ n, Cert.SumsReferenceIdeal.Stages.fusedOf (A0 m c) (A1 m c) (A2 m c) b o n)
    refine (part_total _ _ _ o).trans ?_
    simp only [fused_block]
    rfl
  · refine Eq.trans ?_ (Cert.SumsReferenceIdeal.Stages.squares_apply (A0 m c) (A1 m c) (A2 m c) o).symm
    refine Eq.trans (Finset.sum_congr rfl fun t _ => ?_) (Fin.sum_mul_add_fin 32 8
      fun b : Fin 256 => ∑ n, Cert.SumsReferenceIdeal.Stages.fusedOf (A0 m c) (A1 m c) (A2 m c) b o n
        * Cert.SumsReferenceIdeal.Stages.fusedOf (A0 m c) (A1 m c) (A2 m c) b o n)
    refine (part_squares _ _ _ o).trans ?_
    simp only [fused_block]
    rfl

/-- The last block of the grid. -/
def last : Fin cfg0.N := ⟨31, by decide⟩

/-- After the last block the two rows hold the reference's sums. -/
theorem outs_eq (j : S2x128.Idx) : (outsAt0 m c last.val last.isLt j : EReal) = result m c j := by
  rw [Pipeline.eq_sum_fin_of_reset_step_apply_last (M := EReal) (fun n h => outsAt0 m c n h) 32 (fun _ => 0)
    (fun t => part (iblk m c 0 t) (iblk m c 1 t) (iblk m c 2 t))
    (fun t h j => by rw [outsAt0_A m c t h, first_apply])
    (fun t h j => by rw [outsAt0_B m c t h, later_apply])
    (le_of_eq N_0) last rfl j, zero_add]
  exact parts_sum m c j

/-- The kernel's result array after the run is the reference's. -/
theorem final : (dats m 0 c).arrAt 3 cfg0.N = result m c :=
  (dats m 0 c).arrAt_eq_of_after_last 3 last (by decide +kernel) (result m c) fun j => by
    rw [after0_3]
    exact outs_eq m c j

end Cert.SumsKernelIdeal.Blocks

end

end
-- ==== Proof.Tail.lean ====
/- The mean square distance from the mean, as the mean of the squares less the square of the mean. -/
module

public import proofs.«01_k».proof.Proof.Head

@[expose] public section

noncomputable section

namespace Cert.Net

open Idealize.ShloMosaic

/-- The sum of a batch of rows. -/
def sum2 (f : Fin 256 → Fin 128 → EReal) : EReal := ∑ b, ∑ n, f b n

/-- The mean square distance of a batch of rows from its mean. -/
def spread (cnt : EReal) (f : Fin 256 → Fin 128 → EReal) : EReal :=
  Ideal.div (sum2 fun b n => (f b n - Ideal.div (sum2 f) cnt) * (f b n - Ideal.div (sum2 f) cnt)) cnt

/-- A batch norm over the batch of rows. -/
def sbn (cnt eps : EReal) (f : Fin 256 → Fin 128 → EReal) (g b x : EReal) : EReal :=
  Ideal.div (x - Ideal.div (sum2 f) cnt) (Ideal.sqrt (spread cnt f + eps)) * g + b

theorem sum2_coe (f : Fin 256 → Fin 128 → ℝ) : sum2 (fun b n => (f b n : EReal)) = ((∑ b, ∑ n, f b n : ℝ) : EReal) := by
  unfold sum2
  simp only [coe_sum]

theorem sum2_fine {f : Fin 256 → Fin 128 → EReal} (hf : ∀ b n, Fine (f b n)) : Fine (sum2 f) :=
  Fine.sum _ _ fun b => Fine.sum _ _ fun n => hf b n

/-- Over the reals. -/
theorem spread_real (f : Fin 256 → Fin 128 → ℝ) (M : ℝ) (hM : M = (∑ b, ∑ n, f b n) * (1 / 32768)) :
    (∑ b, ∑ n, (f b n - M) * (f b n - M)) * (1 / 32768) = (∑ b, ∑ n, f b n * f b n) * (1 / 32768) - M * M := by
  have h : ∀ b n, (f b n - M) * (f b n - M) = f b n * f b n - f b n * (2 * M) + M * M := fun b n => by ring
  simp only [h, Finset.sum_add_distrib, Finset.sum_sub_distrib, ← Finset.sum_mul, Finset.sum_const, Finset.card_univ, Fintype.card_fin, nsmul_eq_mul]
  rw [hM]
  push_cast
  ring

/-- The spread plus the small constant is the sums' variance plus the small constant. -/
theorem spread_eq {f : Fin 256 → Fin 128 → EReal} (hf : ∀ b n, Fine (f b n)) (eps : EReal) :
    spread ((32768 : ℝ) : EReal) f + eps = vare ((32768 : ℝ) : EReal) eps (sum2 f) (sum2 fun b n => f b n * f b n) := by
  choose g hg using hf
  obtain rfl : f = fun b n => (g b n : EReal) := funext fun b => funext fun n => hg b n
  unfold vare spread
  have h0 : (32768 : ℝ) ≠ 0 := by norm_num
  simp only [sum2_coe, Ideal.div_coe h0, ← EReal.coe_mul, ← EReal.coe_sub]
  congr 2
  exact spread_real g _ rfl

/-- The spread plus a positive constant is positive. -/
theorem spread_pos {f : Fin 256 → Fin 128 → EReal} (hf : ∀ b n, Fine (f b n)) {eps : ℝ} (he : 0 < eps) :
    0 < spread ((32768 : ℝ) : EReal) f + (eps : EReal) := by
  choose g hg using hf
  obtain rfl : f = fun b n => (g b n : EReal) := funext fun b => funext fun n => hg b n
  unfold spread
  have h0 : (32768 : ℝ) ≠ 0 := by norm_num
  simp only [sum2_coe, Ideal.div_coe h0, ← EReal.coe_mul, ← EReal.coe_sub, ← EReal.coe_add]
  have h : 0 ≤ ∑ b, ∑ n, (g b n - (∑ b, ∑ n, g b n) * (1 / 32768)) * (g b n - (∑ b, ∑ n, g b n) * (1 / 32768)) :=
    Finset.sum_nonneg fun b _ => Finset.sum_nonneg fun n _ => mul_self_nonneg _
  exact_mod_cast add_pos_of_nonneg_of_pos (mul_nonneg h (by norm_num)) he

/-- The two ways of writing a batch norm agree whatever the offset. -/
theorem bn_eq_offset {cnt : ℝ} (hc : cnt ≠ 0) {eps s ss g x : EReal} (b : EReal) (he : Fine eps) (hs : Fine s) (hss : Fine ss)
    (hg : Fine g) (hx : Fine x) (hv : 0 < vare cnt eps s ss) : kbn cnt eps s ss g b x = rbn cnt eps s ss g b x := by
  obtain ⟨h1, h2⟩ := bn_eq hc he hs hss hg Fine.zero hx hv
  have hk : Fine (kscale cnt eps s ss g) := by
    obtain ⟨v, hv'⟩ : Fine (vare cnt eps s ss) := ((hss.div hc).sub ((hs.div hc).mul (hs.div hc))).add he
    rw [hv'] at hv
    have hv0 : 0 < v := by exact_mod_cast hv
    rw [kscale, hv', Ideal.rsqrt_coe, if_neg hv0.not_gt, if_neg hv0.ne']
    exact hg.mul (Fine.coe _)
  have hr : rbn cnt eps s ss g b x = rbn cnt eps s ss g 0 x + b := by simp only [rbn, add_zero]
  rw [hr, ← h1]
  unfold kbn
  obtain ⟨k, hk⟩ := hk
  obtain ⟨M, hM⟩ := hs.div hc
  obtain ⟨x, rfl⟩ := hx
  rw [hk, hM, zero_sub, sub_eq_add_neg, add_comm b, add_assoc]

/-- The kernel's batch norm from the two sums is the batch norm over the rows. -/
theorem kbn_eq_sbn {f : Fin 256 → Fin 128 → EReal} (hf : ∀ b n, Fine (f b n)) {eps : ℝ} (he : 0 < eps) {g x : EReal} (b : EReal)
    (hg : Fine g) (hx : Fine x) :
    kbn ((32768 : ℝ) : EReal) eps (sum2 f) (sum2 fun b n => f b n * f b n) g b x = sbn ((32768 : ℝ) : EReal) eps f g b x := by
  have hv := spread_pos hf he
  rw [spread_eq hf] at hv
  rw [bn_eq_offset (by norm_num) b (Fine.coe _) (sum2_fine hf) (sum2_fine fun b n => (hf b n).mul (hf b n)) hg hx hv]
  unfold rbn sbn
  rw [spread_eq hf]

/-- The small constant is a positive real. -/
theorem eps_real : ∃ e : ℝ, Ideal.ofBits .f32 0x3727C5AC#32 = (e : EReal) ∧ 0 < e := by
  simp only [Ideal.ofBits, Ideal.ieee]
  rw [if_neg (by decide), if_neg (by decide)]
  refine ⟨_, rfl, ?_⟩
  rw [if_neg (by decide)]
  positivity

end Cert.Net

end

end
-- ==== Proof.TailRef.lean ====
/- The reference of the head's two calls, read at an index. -/
module

public import proofs.«01_k».proof.Proof.Tail
public import proofs.«01_k».proof.Proof.HeadRef
public import proofs.«01_k».proof.Proof.SumsRef
public import proofs.«01_k».proof.Proof.Gen.TailReferenceIdeal.Read

@[expose] public section

set_option maxRecDepth 16384

noncomputable section

namespace Cert.TailReferenceIdeal.Stages

open Cert.TailReferenceIdeal Cert.TailReferenceIdeal.Gen Cert.TailReferenceIdeal.Read Idealize.ShloMosaic
open Cert.HeadReferenceIdeal.Stages (fusedOf)

variable (x0 x2 : FVec Ideal S256x32x128 .f32) (x1 : FVec Ideal S256x64x128 .f32) (x3 : FVec Ideal S128x96 .f32) (x4 x5 x7 : FVec Ideal S128 .f32)
  (x6 : FVec Ideal S128x128 .f32) (x8 : FVec Ideal S10x128 .f32) (x9 : FVec Ideal S10 .f32)

theorem mask_apply (b : Fin 256) (n : Fin 128) :
    (val_main_v5 (F := Ideal) x2 (ix3 b 0 n) : Ideal .f32) = Net.kmask (fun c n => (x2 (ix3 b c n) : Ideal .f32)) n :=
  Cert.HeadReferenceIdeal.Stages.mask_apply x2 b n

theorem fused_apply (b : Fin 256) (o n : Fin 128) : (val_main_v11 (F := Ideal) x0 x1 x3 (ix3 b o n) : Ideal .f32) = fusedOf x0 x1 x3 b o n :=
  Cert.HeadReferenceIdeal.Stages.fused_apply x0 x1 x3 b o n

theorem mean_apply (o : Fin 128) :
    (val_main_v15 (F := Ideal) x0 x1 x3 (ix3 0 o 0) : Ideal .f32)
      = Ideal.div (Net.sum2 fun b n => fusedOf x0 x1 x3 b o n) (Ideal.ofBits .f32 0x47000000#32) := by
  pointwise [val_main_cst_3, val_main_v12, val_main_v13, val_main_cst_4, val_main_v14, val_main_v15]
  rw [Cert.SumsReferenceIdeal.Stages.sum_apply]
  simp only [fused_apply, zero_add]
  rfl

theorem inner_mean_apply (o : Fin 128) :
    (val_main_call0_v3 (F := Ideal) x0 x1 x3 (ix3 0 o 0) : Ideal .f32)
      = Ideal.div (Net.sum2 fun b n => fusedOf x0 x1 x3 b o n) (Ideal.ofBits .f32 0x47000000#32) :=
  mean_apply x0 x1 x3 o

theorem square_apply (b : Fin 256) (o n : Fin 128) :
    (val_main_call0_v6 (F := Ideal) x0 x1 x3 (ix3 b o n) : Ideal .f32)
      = (fusedOf x0 x1 x3 b o n - Ideal.div (Net.sum2 fun b n => fusedOf x0 x1 x3 b o n) (Ideal.ofBits .f32 0x47000000#32))
        * (fusedOf x0 x1 x3 b o n - Ideal.div (Net.sum2 fun b n => fusedOf x0 x1 x3 b o n) (Ideal.ofBits .f32 0x47000000#32)) := by
  rw [← fused_apply, ← inner_mean_apply]
  pointwise [val_main_call0_v4, val_main_call0_v5, val_main_call0_v6]

/-- The count of entries the variance leaves out is zero. -/
theorem no_ddof : FloatOps.sitofp (F := Ideal) .f32 (0#32 : BitVec 32) = (0 : EReal) := by
  show (((0#32 : BitVec 32).toInt : ℝ) : EReal) = 0
  simp

theorem cloud_pos : (0 : EReal) < Ideal.ofBits .f32 0x47000000#32 := by
  rw [Net.cloud_bits]
  exact_mod_cast (by norm_num : (0 : ℝ) < 32768)

theorem spread_apply (o : Fin 128) :
    (val_main_v16 (F := Ideal) x0 x1 x3 (ix3 0 o 0) : Ideal .f32) = Net.spread (Ideal.ofBits .f32 0x47000000#32) (fun b n => fusedOf x0 x1 x3 b o n) := by
  pointwise [val_main_c, val_main_call0_v7, val_main_call0_cst_1, val_main_call0_v8, val_main_call0_cst_2, val_main_call0_v9, val_main_call0_v10, val_main_call0_v11, val_main_call0_v12, val_main_call0_cst_3, val_main_call0_v13, val_main_call0_cst_4, val_main_call0_call0_v0, val_main_call0_call0_v1, val_main_v16]
  rw [Cert.SumsReferenceIdeal.Stages.sum_apply, no_ddof, sub_zero, if_pos cloud_pos]
  simp only [square_apply, zero_add]
  rfl

/-- The reference's batch norm of the fused features. -/
def bnorm (o : Fin 128) (x : EReal) : EReal :=
  Net.sbn (Ideal.ofBits .f32 0x47000000#32) (Ideal.ofBits .f32 0x3727C5AC#32) (fun b n => fusedOf x0 x1 x3 b o n) (x4 (ix1 o)) (x5 (ix1 o)) x

theorem gated_apply (b : Fin 256) (o n : Fin 128) :
    (val_main_v33 (F := Ideal) x0 x1 x2 x3 x4 x5 (ix3 b o n) : Ideal .f32)
      = max (bnorm x0 x1 x3 x4 x5 o (fusedOf x0 x1 x3 b o n)) 0 * Net.kmask (fun c n => (x2 (ix3 b c n) : Ideal .f32)) n := by
  unfold bnorm Net.sbn
  rw [← spread_apply, ← mean_apply, ← fused_apply, ← mask_apply]
  pointwise [val_main_v17, val_main_v18, val_main_cst_5, val_main_v19, val_main_v20, val_main_v21, val_main_v22, val_main_v23, val_main_v24, val_main_v25, val_main_v26, val_main_v27, val_main_v28, val_main_v29, val_main_cst_6, val_main_v30, val_main_v31, val_main_v32, val_main_v33]

/-- The reference's result at an index. -/
theorem score_apply (b : Fin 256) (o : Fin 10) :
    (val_main_v48 (F := Ideal) x0 x1 x2 x3 x4 x5 x6 x7 x8 x9 (ix2 b o) : Ideal .f32)
      = Net.scored (Net.pooled (bnorm x0 x1 x3 x4 x5) (fusedOf x0 x1 x3 b) (Net.kmask fun c n => (x2 (ix3 b c n) : Ideal .f32)))
          (fun o c => x6 (ix2 o c)) (fun o => x7 (ix1 o)) (fun c => x8 (ix2 o c)) (x9 (ix1 o)) := by
  pointwise [val_main_cst_1, val_main_v6, val_main_cst_2, val_main_v7, val_main_v8, val_main_cst_7, val_main_v34, val_main_v35, val_main_v36, val_main_v37, val_main_v38, val_main_v39, val_main_v40, val_main_v41, val_main_cst_8, val_main_v42, val_main_v43, val_main_v44, val_main_v45, val_main_v46, val_main_v47, val_main_v48]
  simp only [mask_apply, gated_apply]
  rfl

end Cert.TailReferenceIdeal.Stages

end

end
-- ==== Proof.TailBounds.lean ====
/- What the precondition of the head's two calls says of its arrays, entry by entry. -/
module

public import proofs.«01_k».proof.Proof.Gen.Pre_tail_finite
public import proofs.«01_k».proof.Proof.Bounds

@[expose] public section

set_option maxRecDepth 16384

noncomputable section

namespace Cert.Pre_tail_finite.Bounds

open Cert.Pre_tail_finite Cert.Pre_tail_finite.Gen Cert.Pre_separated.Bounds Idealize.ShloMosaic

variable (x0 x2 : FVec Ideal S256x32x128 .f32) (x1 : FVec Ideal S256x64x128 .f32) (x3 : FVec Ideal S128x96 .f32) (x4 x5 x7 : FVec Ideal S128 .f32)
  (x6 : FVec Ideal S128x128 .f32) (x8 : FVec Ideal S10x128 .f32) (x9 : FVec Ideal S10 .f32)

theorem fine_near (h : (fn (F := Ideal) x0 x1 x2 x3 x4 x5 x6 x7 x8 x9).1 = fun _ => 1#1) (i) : Net.Fine (x0 i) :=
  fine_of_bit _ (congrFun h i)

theorem fine_far (h : (fn (F := Ideal) x0 x1 x2 x3 x4 x5 x6 x7 x8 x9).2.1 = fun _ => 1#1) (i) : Net.Fine (x1 i) :=
  fine_of_bit _ (congrFun h i)

theorem fine_weight (h : (fn (F := Ideal) x0 x1 x2 x3 x4 x5 x6 x7 x8 x9).2.2.1 = fun _ => 1#1) (i) : Net.Fine (x3 i) :=
  fine_of_bit _ (congrFun h i)

theorem fine_gain (h : (fn (F := Ideal) x0 x1 x2 x3 x4 x5 x6 x7 x8 x9).2.2.2 = fun _ => 1#1) (i) : Net.Fine (x4 i) :=
  fine_of_bit _ (congrFun h i)

end Cert.Pre_tail_finite.Bounds

end

end
-- ==== Proof.TailRun.lean ====
/- The head's two calls as one program: what its run leaves. -/
module

public import Idealize.ShloMosaic.Lib.Pipeline.RegionsLoop
public import proofs.«01_k».proof.Proof.Gen.TailKernelIdeal.Frame

@[expose] public section

set_option maxRecDepth 16384

noncomputable section

namespace Cert.TailKernelIdeal.Run

open Cert.TailKernelIdeal Cert.TailKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

set_option backward.isDefEq.respectTransparency.types false in
/-- Every run ends, with the result at what the last host line leaves in it and the arguments as they were. -/
theorem run : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.TailKernelIdeal.Run

end

end
-- ==== Proof.TailBlocks.lean ====
/- The head's two calls as one program: its result array is its reference's. -/
module

public import proofs.«01_k».proof.Proof.TailRef
public import proofs.«01_k».proof.Proof.TailBounds
public import proofs.«01_k».proof.Proof.TailRun
public import proofs.«01_k».proof.Proof.HeadBlocks
public import proofs.«01_k».proof.Proof.SumsBlocks

@[expose] public section

set_option maxRecDepth 16384

noncomputable section

namespace Cert.TailKernelIdeal.Blocks

open Cert.TailKernelIdeal Cert.TailKernelIdeal.Gen Idealize.ShloMosaic Idealize.ShloMosaic.TcCoe Idealize.SL.Sem
open Cert.SumsKernelIdeal.Blocks (both_rows row_emb canon_same canon_other part part_total part_squares)
open Cert.HeadKernelIdeal.Tables (padded paddedRow stacked padded_apply paddedRow_apply)
open Cert.HeadReferenceIdeal.Stages (fusedOf)

/-- Batch element `i` of block `t` of 32. -/
def row (t : ℕ) (ht : t < 32) (i : Fin 8) : Fin 256 := ⟨t * 8 + i.val, by omega⟩

section Arrays

variable (x0 x2 : FVec Ideal S256x32x128 .f32) (x1 : FVec Ideal S256x64x128 .f32) (x3 : FVec Ideal S128x96 .f32) (x4 x5 x7 : FVec Ideal S128 .f32)
  (x6 : FVec Ideal S128x128 .f32) (x8 : FVec Ideal S10x128 .f32) (x9 : FVec Ideal S10 .f32)

/-- The two rows of sums over all blocks are the sums over the batch. -/
theorem part_sums (y0 : Fin 32 → FVec Ideal S8x32x128 .f32) (y1 : Fin 32 → FVec Ideal S8x64x128 .f32)
    (h0 : ∀ t i k n, y0 t (ix3 i k n) = x0 (ix3 (row t.val t.isLt i) k n)) (h1 : ∀ t i k n, y1 t (ix3 i k n) = x1 (ix3 (row t.val t.isLt i) k n))
    (o : Fin 128) :
    (∑ t : Fin 32, part (y0 t) (y1 t) x3 (ix2 0 o)) = Net.sum2 (fun b n => fusedOf x0 x1 x3 b o n)
      ∧ (∑ t : Fin 32, part (y0 t) (y1 t) x3 (ix2 1 o)) = Net.sum2 (fun b n => fusedOf x0 x1 x3 b o n * fusedOf x0 x1 x3 b o n) := by
  have hf : ∀ t i, Cert.SumsKernelIdeal.Pieces.fusedOf (y0 t) (y1 t) x3 i = fusedOf x0 x1 x3 (row t.val t.isLt i) := fun t i => by
    unfold Cert.SumsKernelIdeal.Pieces.fusedOf fusedOf
    simp only [h0, h1]
  constructor
  · refine Eq.trans (Finset.sum_congr rfl fun t _ => ?_) (Fin.sum_mul_add_fin 32 8 fun b : Fin 256 => ∑ n, fusedOf x0 x1 x3 b o n)
    refine (part_total _ _ _ o).trans ?_
    simp only [hf]
    rfl
  · refine Eq.trans (Finset.sum_congr rfl fun t _ => ?_)
      (Fin.sum_mul_add_fin 32 8 fun b : Fin 256 => ∑ n, fusedOf x0 x1 x3 b o n * fusedOf x0 x1 x3 b o n)
    refine (part_squares _ _ _ o).trans ?_
    simp only [hf]
    rfl

/-- The kernel's batch norm of the fused features, from the arguments. -/
def knorm (o : Fin 128) (x : EReal) : EReal :=
  Net.kbn (Ideal.ofBits .f32 0x47000000#32) (Ideal.ofBits .f32 0x3727C5AC#32) (Net.sum2 fun b n => fusedOf x0 x1 x3 b o n)
    (Net.sum2 fun b n => fusedOf x0 x1 x3 b o n * fusedOf x0 x1 x3 b o n) (x4 (ix1 o)) (x5 (ix1 o)) x

/-- The head's result at a batch element and a class, from the arguments. -/
def value (b : Fin 256) (o : Fin 16) : EReal :=
  Net.scored (Net.pooled (knorm x0 x1 x3 x4 x5) (fusedOf x0 x1 x3 b) (Net.kmask fun k n => (x2 (ix3 b k n) : Ideal .f32)))
    (fun o k => x6 (ix2 o k)) (fun o => x7 (ix1 o)) (fun k => padded x8 (ix2 o k)) (paddedRow x9 (ix1 ⟨o.val, by omega⟩))

/-- What a block of the second call computes from its parts of the arguments and the two rows of sums. -/
theorem value_apply (t : ℕ) (ht : t < 32) (y0 : Vec Ideal S8x32x128 .f32) (y1 : Vec Ideal S8x64x128 .f32) (y2 : Vec Ideal S8x32x128 .f32)
    (xt : Vec Ideal S4x128 .f32) (s : Vec Ideal S2x128 .f32) (hT : xt = stacked x4 x5 x7 x9)
    (h0 : ∀ i k n, y0 (ix3 i k n) = x0 (ix3 (row t ht i) k n)) (h1 : ∀ i k n, y1 (ix3 i k n) = x1 (ix3 (row t ht i) k n))
    (h2 : ∀ i k n, y2 (ix3 i k n) = x2 (ix3 (row t ht i) k n))
    (hs : ∀ o, s (ix2 0 o) = Net.sum2 (fun b n => fusedOf x0 x1 x3 b o n)
      ∧ s (ix2 1 o) = Net.sum2 (fun b n => fusedOf x0 x1 x3 b o n * fusedOf x0 x1 x3 b o n)) (i : Fin 8) (o : Fin 16) :
    (Cert.HeadKernelIdeal.Gen.out0_8 (F := Ideal) y0 y1 y2 x3 xt x6 (padded x8) s (ix2 i o) : Ideal .f32)
      = value x0 x2 x1 x3 x4 x5 x7 x6 x8 x9 (row t ht i) o := by
  refine (Cert.HeadKernelIdeal.Blocks.body_apply _ _ _ _ x4 x5 x7 x9 _ _ _ _ hT i o).trans ?_
  have hn : Cert.HeadKernelIdeal.Blocks.knorm x4 x5 s = knorm x0 x1 x3 x4 x5 := by
    funext o x
    unfold Cert.HeadKernelIdeal.Blocks.knorm knorm
    rw [(hs o).1, (hs o).2]
  rw [hn]
  unfold value fusedOf
  simp only [h0, h1, h2]

/-- The kernel's value and the reference's agree at every index where the features, the fusing weight and the gain are real. -/
theorem value_agree (f0 : ∀ y, Net.Fine (x0 y)) (f1 : ∀ y, Net.Fine (x1 y)) (f3 : ∀ y, Net.Fine (x3 y)) (f4 : ∀ y, Net.Fine (x4 y))
    (b : Fin 256) (o : Fin 10) :
    value x0 x2 x1 x3 x4 x5 x7 x6 x8 x9 b ⟨o.val, by omega⟩
      = Cert.TailReferenceIdeal.Read.val_main_v48 (F := Ideal) x0 x1 x2 x3 x4 x5 x6 x7 x8 x9 (ix2 b o) := by
  have hf : ∀ b, ∀ o n, Net.Fine (fusedOf x0 x1 x3 b o n) := fun b =>
    Net.fused_fine (fun _ _ => f0 _) (fun _ _ => f1 _) (fun _ _ => f3 _)
  obtain ⟨e, he, hp⟩ := Net.eps_real
  refine Eq.trans ?_ (Cert.TailReferenceIdeal.Stages.score_apply x0 x2 x1 x3 x4 x5 x7 x6 x8 x9 b o).symm
  unfold value
  simp only [padded_apply, paddedRow_apply, dif_pos o.isLt]
  rw [Net.pooled_eq (knorm x0 x1 x3 x4 x5) (Cert.TailReferenceIdeal.Stages.bnorm x0 x1 x3 x4 x5) _ _ _ (hf b)]
  intro o x hx
  unfold knorm Cert.TailReferenceIdeal.Stages.bnorm
  rw [Net.cloud_bits, he]
  exact Net.kbn_eq_sbn (fun b n => hf b o n) hp _ (f4 _) hx

end Arrays

section Body

variable (c : Dev nD) (i : grid0.Coords) (arg1 : Memref sig .tc .vmem S8x32x128 .f32) (harg1 : arg1.IsWhole)
  (arg2 : Memref sig .tc .vmem S8x64x128 .f32) (harg2 : arg2.IsWhole) (arg3 : Memref sig .tc .vmem S128x96 .f32) (harg3 : arg3.IsWhole)
  (arg4 : Memref sig .tc .vmem S2x128 .f32) (harg4 : arg4.IsWhole)
  (x0 : Vec Ideal S8x32x128 .f32) (x1 : Vec Ideal S8x64x128 .f32) (x2 : Vec Ideal S128x96 .f32)

theorem total_apply (v : FVec Ideal S1x128 .f32) (o : Fin 128) :
    (k0_pay3 x0 x1 x2 v (ix2 0 o) : Ideal .f32) = v (ix2 0 o) + part x0 x1 x2 (ix2 0 o) := by
  rw [part_total]
  exact Cert.SumsKernelIdeal.Pieces.total_apply x0 x1 x2 v o

theorem squares_apply (v : FVec Ideal S1x128 .f32) (o : Fin 128) :
    (k0_pay4 x0 x1 x2 v (ix2 0 o) : Ideal .f32) = v (ix2 0 o) + part x0 x1 x2 (ix2 1 o) := by
  rw [part_squares]
  exact Cert.SumsKernelIdeal.Pieces.squares_apply x0 x1 x2 v o

/-- At a later block the first call adds the block's sums to the rows it finds. -/
theorem later_apply (hc : ¬cond0_0 i) (xo : Vec Ideal S2x128 .f32) (j : S2x128.Idx) :
    (out0_B_3 c i arg1 harg1 arg2 harg2 arg3 harg3 arg4 harg4 hc x0 x1 x2 xo j : Ideal .f32) = xo j + part x0 x1 x2 j := by
  frame_out
  revert j
  refine both_rows (fun o => ?_) fun o => ?_
  · rw [canon_other 1 0 (by decide) 1 rfl, canon_same 0 0 rfl, total_apply]
    exact congrArg (fun y => (xo y : EReal) + _) (row_emb 0 0 rfl _ o)
  · rw [canon_same 1 1 rfl, squares_apply]
    exact congrArg (fun y => (xo y : EReal) + _) (row_emb 1 1 rfl _ o)

/-- At the first block the first call leaves the block's sums. -/
theorem first_apply (hc : cond0_0 i) (j : S2x128.Idx) :
    (out0_A_3 (F := Ideal) c i arg1 harg1 arg2 harg2 arg3 harg3 arg4 harg4 hc x0 x1 x2 j : Ideal .f32) = 0 + part x0 x1 x2 j := by
  frame_out
  simp only [View.readCov_eq_canon']
  revert j
  refine both_rows (fun o => ?_) fun o => ?_
  · rw [canon_other 1 0 (by decide) 1 rfl, canon_same 0 0 rfl, total_apply]
    refine congrArg (fun y : EReal => y + _) ?_
    rw [View.canon_cons_unit_lit _ _ _ (by decide)]
    pointwise [k0_pay1]
  · rw [canon_same 1 1 rfl, squares_apply]
    refine congrArg (fun y : EReal => y + _) ?_
    refine (congrArg (View.canon _) (row_emb 1 1 rfl _ o)).trans ?_
    rw [canon_other 0 1 (by decide) 0 rfl, View.canon_cons_unit_lit _ _ _ (by decide)]
    pointwise [k0_pay1]

end Body

variable (m : (ℓ : Loc nD τ sig) → Buf (Elt Ideal) ℓ) (ρ : Dev nD → PrngReg) (c : Dev nD)

/-- The arguments of device `c`. -/
abbrev A0 : FVec Ideal S256x32x128 .f32 := m ((c : Thread nD τ).loc main_arg0)
abbrev A1 : FVec Ideal S256x64x128 .f32 := m ((c : Thread nD τ).loc main_arg1)
abbrev A2 : FVec Ideal S256x32x128 .f32 := m ((c : Thread nD τ).loc main_arg2)
abbrev A3 : FVec Ideal S128x96 .f32 := m ((c : Thread nD τ).loc main_arg3)
abbrev A4 : FVec Ideal S128 .f32 := m ((c : Thread nD τ).loc main_arg4)
abbrev A5 : FVec Ideal S128 .f32 := m ((c : Thread nD τ).loc main_arg5)
abbrev A6 : FVec Ideal S128x128 .f32 := m ((c : Thread nD τ).loc main_arg6)
abbrev A7 : FVec Ideal S128 .f32 := m ((c : Thread nD τ).loc main_arg7)
abbrev A8 : FVec Ideal S10x128 .f32 := m ((c : Thread nD τ).loc main_arg8)
abbrev A9 : FVec Ideal S10 .f32 := m ((c : Thread nD τ).loc main_arg9)

section Entry

variable (V : (c : Dev nD) → (b : Ref sig .tc) → Buf (Elt Ideal) ((c : Thread nD τ).loc b))

theorem indices0 : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) ∧ ∀ a, win0_2.index t a = 0 :=
  (by decide +kernel : ∀ t : Fin grid0.N, _)

theorem moved1 : ∀ t : Fin cfg1.N, (win1_0.index t 0 = t.val ∧ win1_0.index t 1 = 0 ∧ win1_0.index t 2 = 0)
    ∧ (win1_1.index t 0 = t.val ∧ win1_1.index t 1 = 0 ∧ win1_1.index t 2 = 0)
    ∧ (win1_2.index t 0 = t.val ∧ win1_2.index t 1 = 0 ∧ win1_2.index t 2 = 0)
    ∧ win1_8.index t 0 = t.val ∧ win1_8.index t 1 = 0 :=
  (by decide +kernel : ∀ t : Fin grid1.N, _)

theorem fixed1 : ∀ t : Fin cfg1.N, (∀ a, win1_3.index t a = 0) ∧ (∀ a, win1_4.index t a = 0) ∧ (∀ a, win1_5.index t a = 0)
    ∧ (∀ a, win1_6.index t a = 0) ∧ (∀ a, win1_7.index t a = 0) :=
  (by decide +kernel : ∀ t : Fin grid1.N, _)

/-- A matrix read through a window that stands still over all of it. -/
theorem still {A B : ℕ} (x : (⟨2, ![A, B]⟩ : Shape).Idx → EReal) (y y' : (⟨2, ![A, B]⟩ : Shape).Idx) (p : Fin 2 → ℕ) (hp : ∀ a, p a = 0)
    (h0 : (y' 0).val = p 0 * A + 1 * (y 0).val) (h1 : (y' 1).val = p 1 * B + 1 * (y 1).val) : x y' = x y := by
  refine congrArg x (funext fun a => Fin.ext ?_)
  match a with
  | ⟨0, _⟩ => refine h0.trans ?_; rw [hp]; show 0 * A + 1 * (y 0).val = (y 0).val; omega
  | ⟨1, _⟩ => refine h1.trans ?_; rw [hp]; show 0 * B + 1 * (y 1).val = (y 1).val; omega

/-- A batch read through a window that takes eight elements at a time. -/
theorem moves {A B : ℕ} (x : (⟨3, ![256, A, B]⟩ : Shape).Idx → EReal) (t : ℕ) (ht : t < 32) (i : Fin 8) (k : Fin A) (n : Fin B)
    (y' : (⟨3, ![256, A, B]⟩ : Shape).Idx) (p : Fin 3 → ℕ) (hp : p 0 = t ∧ p 1 = 0 ∧ p 2 = 0)
    (h0 : (y' 0).val = p 0 * 8 + 1 * i.val) (h1 : (y' 1).val = p 1 * A + 1 * k.val) (h2 : (y' 2).val = p 2 * B + 1 * n.val) :
    x y' = x (ix3 (row t ht i) k n) := by
  refine congrArg x (funext fun a => Fin.ext ?_)
  obtain ⟨e0, e1, e2⟩ := hp
  match a with
  | ⟨0, _⟩ => refine h0.trans ?_; rw [e0]; show t * 8 + 1 * i.val = t * 8 + i.val; omega
  | ⟨1, _⟩ => refine h1.trans ?_; rw [e1]; show 0 * A + 1 * k.val = k.val; omega
  | ⟨2, _⟩ => refine h2.trans ?_; rw [e2]; show 0 * B + 1 * n.val = n.val; omega

theorem lt0 (t : Fin cfg0.N) : t.val < 32 := t.isLt
theorem lt1 (t : Fin cfg1.N) : t.val < 32 := t.isLt

theorem blk0_0 (t : Fin cfg0.N) (i : Fin 8) (k : Fin 32) (n : Fin 128) :
    (iblk0 V c 0 t (ix3 i k n) : Ideal .f32) = V c main_arg0 (ix3 (row t.val (lt0 t) i) k n) :=
  moves (V c main_arg0) t.val (lt0 t) i k n _ (win0_0.index t) (indices0 t).1 rfl rfl rfl

theorem blk0_1 (t : Fin cfg0.N) (i : Fin 8) (k : Fin 64) (n : Fin 128) :
    (iblk0 V c 1 t (ix3 i k n) : Ideal .f32) = V c main_arg1 (ix3 (row t.val (lt0 t) i) k n) :=
  moves (V c main_arg1) t.val (lt0 t) i k n _ (win0_1.index t) (indices0 t).2.1 rfl rfl rfl

theorem blk0_2 (t : Fin cfg0.N) : (iblk0 V c 2 t : FVec Ideal S128x96 .f32) = V c main_arg3 :=
  funext fun y => still (V c main_arg3) y _ (win0_2.index t) (indices0 t).2.2 rfl rfl

theorem blk1_0 (t : Fin cfg1.N) (i : Fin 8) (k : Fin 32) (n : Fin 128) :
    (iblk1 V c 0 t (ix3 i k n) : Ideal .f32) = V c main_arg0 (ix3 (row t.val (lt1 t) i) k n) :=
  moves (V c main_arg0) t.val (lt1 t) i k n _ (win1_0.index t) (moved1 t).1 rfl rfl rfl

theorem blk1_1 (t : Fin cfg1.N) (i : Fin 8) (k : Fin 64) (n : Fin 128) :
    (iblk1 V c 1 t (ix3 i k n) : Ideal .f32) = V c main_arg1 (ix3 (row t.val (lt1 t) i) k n) :=
  moves (V c main_arg1) t.val (lt1 t) i k n _ (win1_1.index t) (moved1 t).2.1 rfl rfl rfl

theorem blk1_2 (t : Fin cfg1.N) (i : Fin 8) (k : Fin 32) (n : Fin 128) :
    (iblk1 V c 2 t (ix3 i k n) : Ideal .f32) = V c main_arg2 (ix3 (row t.val (lt1 t) i) k n) :=
  moves (V c main_arg2) t.val (lt1 t) i k n _ (win1_2.index t) (moved1 t).2.2.1 rfl rfl rfl

theorem blk1_3 (t : Fin cfg1.N) : (iblk1 V c 3 t : FVec Ideal S128x96 .f32) = V c main_arg3 :=
  funext fun y => still (V c main_arg3) y _ (win1_3.index t) (fixed1 t).1 rfl rfl

theorem blk1_4 (t : Fin cfg1.N) : (iblk1 V c 4 t : FVec Ideal S4x128 .f32) = V c main_v11 :=
  funext fun y => still (V c main_v11) y _ (win1_4.index t) (fixed1 t).2.1 rfl rfl

theorem blk1_5 (t : Fin cfg1.N) : (iblk1 V c 5 t : FVec Ideal S128x128 .f32) = V c main_arg6 :=
  funext fun y => still (V c main_arg6) y _ (win1_5.index t) (fixed1 t).2.2.1 rfl rfl

theorem blk1_6 (t : Fin cfg1.N) : (iblk1 V c 6 t : FVec Ideal S16x128 .f32) = V c main_v3 :=
  funext fun y => still (V c main_v3) y _ (win1_6.index t) (fixed1 t).2.2.2.1 rfl rfl

theorem blk1_7 (t : Fin cfg1.N) : (iblk1 V c 7 t : FVec Ideal S2x128 .f32) = V c main_v0 :=
  funext fun y => still (V c main_v0) y _ (win1_7.index t) (fixed1 t).2.2.2.2 rfl rfl

end Entry

/-! ## What the second call is entered with -/

/-- The two rows of sums. -/
def sums (j : S2x128.Idx) : EReal :=
  ∑ t : Fin cfg0.N, part (iblk0 (V0 m ρ) c 0 t) (iblk0 (V0 m ρ) c 1 t) (iblk0 (V0 m ρ) c 2 t) j

theorem sums_eq (o : Fin 128) :
    sums m ρ c (ix2 0 o) = Net.sum2 (fun b n => fusedOf (A0 m c) (A1 m c) (A3 m c) b o n)
      ∧ sums m ρ c (ix2 1 o) = Net.sum2 (fun b n => fusedOf (A0 m c) (A1 m c) (A3 m c) b o n * fusedOf (A0 m c) (A1 m c) (A3 m c) b o n) := by
  unfold sums
  simp only [blk0_2]
  exact part_sums (A0 m c) (A1 m c) (A3 m c) (fun t => iblk0 (V0 m ρ) c 0 t) (fun t => iblk0 (V0 m ρ) c 1 t)
    (fun t i k n => blk0_0 c (V0 m ρ) t i k n) (fun t i k n => blk0_1 c (V0 m ρ) t i k n) o

/-- The last block of the first call's grid. -/
def last : Fin cfg0.N := ⟨31, by decide⟩

/-- After the last block the two rows hold the sums. -/
theorem outs_eq (j : S2x128.Idx) : (outsAt0 (V0 m ρ) c last.val last.isLt j : EReal) = sums m ρ c j := by
  rw [Pipeline.eq_sum_fin_of_reset_step_apply_last (M := EReal) (fun n h => outsAt0 (V0 m ρ) c n h) 32 (fun _ => 0)
    (fun t => part (iblk0 (V0 m ρ) c 0 t) (iblk0 (V0 m ρ) c 1 t) (iblk0 (V0 m ρ) c 2 t))
    (fun t h j => by rw [outsAt0_A (V0 m ρ) c t h, first_apply])
    (fun t h j => by rw [outsAt0_B (V0 m ρ) c t h, later_apply])
    (le_of_eq N_0) last rfl j, zero_add]
  rfl

/-- What the first call leaves in its result array. -/
theorem first_final : (dat0 (V0 m ρ) c).arrAt 3 cfg0.N = sums m ρ c :=
  (dat0 (V0 m ρ) c).arrAt_eq_of_after_last 3 last (by decide +kernel) (sums m ρ c) fun j => by
    rw [after0_3]
    exact outs_eq m ρ c j

theorem entry_sums : V2 m ρ c main_v0 = sums m ρ c :=
  (W2_of m ρ c main_v0 (by decide)).trans ((W1_arr m ρ c 3).trans (first_final m ρ c))

theorem entry_arg (a : Ref sig .tc) (h : a ∈ argRefs) : V2 m ρ c a = m ((c : Thread nD τ).loc a) := W2_args m ρ c a h

theorem left_arg (a : Ref sig .tc) (h : a ∈ argRefs) : W1 m ρ c (Proc.devRef .tc a) = m ((c : Thread nD τ).loc a) := W1_args m ρ c a h

theorem entry_last : V2 m ρ c main_v3 = padded (A8 m c) := by
  unfold A8
  rw [← left_arg m ρ c main_arg8 (by decide)]
  show StableHlo.after hostOps1 (W1 m ρ c) main_v3 = _
  entry_read
  rfl

theorem entry_row0 : V2 m ρ c main_v7 = broadcastInDim S1x128 ![1] bcast_S128_S1x128_1 (A4 m c) := by
  unfold A4
  rw [← left_arg m ρ c main_arg4 (by decide)]
  show StableHlo.after hostOps1 (W1 m ρ c) main_v7 = _
  entry_read
  rfl

theorem entry_row1 : V2 m ρ c main_v8 = broadcastInDim S1x128 ![1] bcast_S128_S1x128_1 (A5 m c) := by
  unfold A5
  rw [← left_arg m ρ c main_arg5 (by decide)]
  show StableHlo.after hostOps1 (W1 m ρ c) main_v8 = _
  entry_read
  rfl

theorem entry_row2 : V2 m ρ c main_v9 = broadcastInDim S1x128 ![1] bcast_S128_S1x128_1 (A7 m c) := by
  unfold A7
  rw [← left_arg m ρ c main_arg7 (by decide)]
  show StableHlo.after hostOps1 (W1 m ρ c) main_v9 = _
  entry_read
  rfl

theorem entry_row3 : V2 m ρ c main_v10 = broadcastInDim S1x128 ![1] bcast_S128_S1x128_1 (paddedRow (A9 m c)) := by
  unfold A9
  rw [← left_arg m ρ c main_arg9 (by decide)]
  show StableHlo.after hostOps1 (W1 m ρ c) main_v10 = _
  entry_read
  rfl

/-- The last host line before the second call leaves the other buffers as they were before it. -/
theorem before_last (r : Ref sig .tc) (h : r ≠ main_v11) :
    StableHlo.upto hostOps1 (W1 m ρ c) 14 (Proc.devRef .tc r) = V2 m ρ c r :=
  (StableHlo.nary_result_ne _ _ _ _ _ _ h).symm

theorem entry_rows : V2 m ρ c main_v11 = stacked (A4 m c) (A5 m c) (A7 m c) (A9 m c) := by
  unfold stacked
  rw [← entry_row0 m ρ, ← entry_row1 m ρ, ← entry_row2 m ρ, ← entry_row3 m ρ, ← before_last m ρ c main_v7 (by decide), ← before_last m ρ c main_v8 (by decide),
    ← before_last m ρ c main_v9 (by decide), ← before_last m ρ c main_v10 (by decide)]
  exact (StableHlo.after_last_write (i := 14) [] rfl rfl (by simp) _).trans (StableHlo.nary4_result _ _ _ _)

/-! ## What the second call leaves -/

/-- The head's result of the arguments. -/
abbrev out (b : Fin 256) (o : Fin 16) : EReal :=
  value (A0 m c) (A2 m c) (A1 m c) (A3 m c) (A4 m c) (A5 m c) (A7 m c) (A6 m c) (A8 m c) (A9 m c) b o

/-- What block `t` of the second call computes, entry by entry. -/
theorem block_apply (t : Fin cfg1.N) (i : Fin 8) (o : Fin 16) :
    (out1_8 (F := Ideal) (iblk1 (V2 m ρ) c 0 t) (iblk1 (V2 m ρ) c 1 t) (iblk1 (V2 m ρ) c 2 t) (iblk1 (V2 m ρ) c 3 t) (iblk1 (V2 m ρ) c 4 t)
        (iblk1 (V2 m ρ) c 5 t) (iblk1 (V2 m ρ) c 6 t) (iblk1 (V2 m ρ) c 7 t) (ix2 i o) : Ideal .f32)
      = out m c (row t.val (lt1 t) i) o := by
  rw [blk1_3, blk1_5, blk1_6, blk1_7, entry_sums, entry_last, entry_arg m ρ c main_arg3 (by decide), entry_arg m ρ c main_arg6 (by decide)]
  exact value_apply (A0 m c) (A2 m c) (A1 m c) (A3 m c) (A4 m c) (A5 m c) (A7 m c) (A6 m c) (A8 m c) (A9 m c) t.val (lt1 t) _ _ _ _ _
    ((blk1_4 c (V2 m ρ) t).trans (entry_rows m ρ c))
    (fun i k n => (blk1_0 c (V2 m ρ) t i k n).trans (congrFun (entry_arg m ρ c main_arg0 (by decide)) _))
    (fun i k n => (blk1_1 c (V2 m ρ) t i k n).trans (congrFun (entry_arg m ρ c main_arg1 (by decide)) _))
    (fun i k n => (blk1_2 c (V2 m ρ) t i k n).trans (congrFun (entry_arg m ρ c main_arg2 (by decide)) _))
    (sums_eq m ρ c) i o

/-- The second call's result array. -/
def values : FVec Ideal S256x16 .f32 := fun y => out m c (y 0) (y 1)

/-- What block `t` writes back. -/
theorem flushed_eq (t : Fin cfg1.N) :
    (dat1 (V2 m ρ) c).flushed 8 t = ((cfg1.win 8).blk t).view.read (Elt Ideal) (values m c) := by
  refine (show _ = (cfg1.win 8).cut (grid1.coords t) ((dat1 (V2 m ρ) c).after 8 t) from rfl).trans ?_
  rw [after1_8]
  funext y
  have hy : y = ix2 (⟨(y 0).val, (y 0).isLt⟩ : Fin 8) (⟨(y 1).val, (y 1).isLt⟩ : Fin 16) := by
    funext a
    match a with
    | ⟨0, _⟩ => rfl
    | ⟨1, _⟩ => rfl
  generalize (⟨(y 0).val, (y 0).isLt⟩ : Fin 8) = i at hy
  generalize (⟨(y 1).val, (y 1).isLt⟩ : Fin 16) = o at hy
  subst hy
  refine (block_apply m ρ c t i o).trans ?_
  show values m c (ix2 (row t.val (lt1 t) i) o) = values m c (((cfg1.win 8).blk t).view.emb (ix2 i o))
  refine congrArg (values m c) (funext fun a => Fin.ext ?_)
  obtain ⟨h0, h1⟩ := (moved1 t).2.2.2
  match a with
  | ⟨0, _⟩ => show t.val * 8 + i.val = win1_8.index t 0 * 8 + 1 * i.val; rw [h0]; omega
  | ⟨1, _⟩ => show o.val = win1_8.index t 1 * 16 + 1 * o.val; rw [h1]; omega

/-- The second call's result array after the run. -/
theorem second_final : (dat1 (V2 m ρ) c).arrAt 8 cfg1.N = values m c :=
  (dat1 (V2 m ρ) c).arrAt_eq_of_covers 8 (values m c) (by decide +kernel) fun t _ y => congrFun (flushed_eq m ρ c t) y

/-- The reference's result array on the kernel's arguments. -/
abbrev result : FVec Ideal S256x10 .f32 :=
  Cert.TailReferenceIdeal.Read.val_main_v48 (F := Ideal) (A0 m c) (A1 m c) (A2 m c) (A3 m c) (A4 m c) (A5 m c) (A6 m c) (A7 m c) (A8 m c) (A9 m c)

/-- Under the precondition the kernel's value and the reference's agree at every index. -/
theorem agree (hpre : Cert.Pre_TailKernelIdeal_tail_finite m) (b : Fin 256) (o : Fin 10) :
    out m c b ⟨o.val, by omega⟩ = result m c (ix2 b o) := by
  obtain ⟨h0, h1, h3, h4⟩ := hpre c
  exact value_agree (A0 m c) (A2 m c) (A1 m c) (A3 m c) (A4 m c) (A5 m c) (A7 m c) (A6 m c) (A8 m c) (A9 m c)
    (Cert.Pre_tail_finite.Bounds.fine_near _ _ _ _ _ _ _ _ _ _ h0) (Cert.Pre_tail_finite.Bounds.fine_far _ _ _ _ _ _ _ _ _ _ h1)
    (Cert.Pre_tail_finite.Bounds.fine_weight _ _ _ _ _ _ _ _ _ _ h3) (Cert.Pre_tail_finite.Bounds.fine_gain _ _ _ _ _ _ _ _ _ _ h4) b o

/-- The program's result array after the run is the reference's. -/
theorem final (hpre : Cert.Pre_TailKernelIdeal_tail_finite m) : W4 m ρ c (Proc.devRef .tc main_v13) = result m c := by
  show StableHlo.after hostOps2 (W3 m ρ c) main_v13 = _
  entry_read
  rw [show W3 m ρ c (Proc.devRef .tc main_v12) = values m c from (W3_arr m ρ c 8).trans (second_final m ρ c)]
  funext y
  have hy : y = ix2 (⟨(y 0).val, (y 0).isLt⟩ : Fin 256) (⟨(y 1).val, (y 1).isLt⟩ : Fin 10) := by
    funext a
    match a with
    | ⟨0, _⟩ => rfl
    | ⟨1, _⟩ => rfl
  generalize (⟨(y 0).val, (y 0).isLt⟩ : Fin 256) = b at hy
  generalize (⟨(y 1).val, (y 1).isLt⟩ : Fin 10) = o at hy
  subst hy
  refine Eq.trans ?_ (agree m c hpre b o)
  pointwise []
  rfl

end Cert.TailKernelIdeal.Blocks

end

end
-- ==== Proof.NetSecond.lean ====
/- The second edge convolution's body inside the chain of four calls is the body of the call on its own. -/
module

public import proofs.«01_k».proof.Proof.Gen.NetKernelIdeal.Frame
public import proofs.«01_k».proof.Proof.Body

@[expose] public section

set_option maxRecDepth 16384

noncomputable section

namespace Cert.KernelIdeal.Chained

open Cert.KernelIdeal Cert.KernelIdeal.Gen Cert.KernelIdeal.Pieces Idealize.ShloMosaic
open Cert.NetKernelIdeal.Gen (k1_pay3 k1_pay4 k1_pay5 k1_pay6 k1_pay9 k1_pay10 k1_pay11 k1_pay12 k1_pay13 k1_pay16 k1_pay17 k1_pay18 k1_pay19
  k1_pay20 k1_pay23 k1_pay24 k1_pay25 k1_pay26 k1_pay28 k1_pay30 k1_pay32 k1_pay34 k1_pay35 k1_pay36 k1_pay37 k1_pay38 k1_pay39 k1_pay40 k1_pay41
  k1_pay42 k1_pay43 k1_pay44 k1_pay45 k1_pay46 k1_pay47 k1_pay48 k1_pay49 k1_pay50 k1_pay51 k1_pay52 k1_pay53 k1_pay54 k1_pay55 k1_pay56 k1_pay57
  k1_pay58 k1_pay59 k1_pay60 k1_pay62 k1_pay63 k1_pay64 k1_pay65 k1_pay66 k1_pay67 k1_pay68 k1_pay69 k1_pay70 k1_pay71 k1_pay72 k1_pay73 k1_pay74
  k1_pay75 k1_pay76 k1_pay77 k1_pay78 k1_pay79 out1_6)

/-- A reshape to the same shape changes nothing. -/
theorem same_shape {s : Shape} {α : Type} (v : s.Idx → α) (h : s.ShapeCasts s) : shapeCast s v h = v :=
  funext fun i => congrArg v (Shape.reshapeEquiv_self h i)

section steps

variable (a : IVec S128x128 1) (b c d e f g h i : FVec Ideal S128x128 .f32) (j : FVec Ideal S128 .f32)
variable (q : FVec Ideal S1024x128 .f32) (v : FVec Ideal S1024x32 .f32) (w : FVec Ideal S64x64 .f32)

theorem sel0_eq : k1_pay26 a b c d e f g h i j = sels (k1_pay25 a b c d e f g h i j) 0 := rfl
theorem sel1_eq : k1_pay28 a b c d e f g h i j = sels (k1_pay25 a b c d e f g h i j) 1 := rfl
theorem sel2_eq : k1_pay30 a b c d e f g h i j = sels (k1_pay25 a b c d e f g h i j) 2 := rfl
theorem sel3_eq : k1_pay32 a b c d e f g h i j = sels (k1_pay25 a b c d e f g h i j) 3 := rfl
theorem sel4_eq : k1_pay34 a b c d e f g h i j = sels (k1_pay25 a b c d e f g h i j) 4 := rfl
theorem sel5_eq : k1_pay36 a b c d e f g h i j = sels (k1_pay25 a b c d e f g h i j) 5 := rfl
theorem rounds5_eq : k1_pay35 a b c d e f g h i j = rounds (k1_pay25 a b c d e f g h i j) 5 := rfl
theorem sel6_eq : k1_pay38 (rounds q 5) (sels q 5) k1_pay37 = sels q 6 := rfl

theorem rows_eq (v0 : Vec Ideal S8x32x128 .f32) : k1_pay3 v0 = k0_pay3 v0 :=
  congrArg (k0_pay3 (F := Ideal)) (same_shape v0 _)

theorem table_eq (v0 v1 : FVec Ideal S8x32x128 .f32) :
    k1_pay25 k1_pay5 (k1_pay6 v0 v1) (k1_pay11 k1_pay5 (k1_pay9 v0 v1) (k1_pay10 v0 v1)) (k1_pay12 (k1_pay4 v0 v1) k1_pay5)
      (k1_pay13 (k1_pay4 v0 v1) k1_pay5) (k1_pay18 k1_pay5 (k1_pay16 (k1_pay4 v0 v1)) (k1_pay17 (k1_pay4 v0 v1)))
      (k1_pay19 (k1_pay4 v0 v1) k1_pay5) (k1_pay20 (k1_pay4 v0 v1) k1_pay5) (k1_pay23 (k1_pay4 v0 v1)) (k1_pay24 (k1_pay4 v0 v1))
      = allPd (k0_pay4 v0 v1) :=
  congrArg (fun z => allPd (k0_pay4 z v1)) (same_shape v0 _)

theorem hot0_eq : k1_pay39 (F := Ideal) (sels q 0) (sels q 1) (sels q 2) (sels q 3) (sels q 4) (rounds q 5) (sels q 5) k1_pay37 = hot (sels q) 0 slices_S1024x128_o0_0_S128x128 := rfl
theorem hot1_eq : k1_pay40 (F := Ideal) (sels q 0) (sels q 1) (sels q 2) (sels q 3) (sels q 4) (rounds q 5) (sels q 5) k1_pay37 = hot (sels q) 128 slices_S1024x128_o128_0_S128x128 := rfl
theorem hot2_eq : k1_pay45 (F := Ideal) (sels q 4) (sels q 5) (sels q 6) (k1_pay41 (sels q 0)) (k1_pay42 (sels q 1)) (k1_pay43 (sels q 2)) (k1_pay44 (sels q 3)) = hot (sels q) 256 slices_S1024x128_o256_0_S128x128 := rfl
theorem hot3_eq : k1_pay46 (F := Ideal) (sels q 0) (sels q 1) (sels q 2) (sels q 3) (sels q 4) (sels q 5) (sels q 6) = hot (sels q) 384 slices_S1024x128_o384_0_S128x128 := rfl
theorem hot4_eq : k1_pay47 (F := Ideal) (sels q 0) (sels q 1) (sels q 2) (sels q 3) (sels q 4) (sels q 5) (sels q 6) = hot (sels q) 512 slices_S1024x128_o512_0_S128x128 := rfl
theorem hot5_eq : k1_pay50 (F := Ideal) (sels q 2) (sels q 3) (sels q 4) (sels q 5) (sels q 6) (k1_pay48 (sels q 0)) (k1_pay49 (sels q 1)) = hot (sels q) 640 slices_S1024x128_o640_0_S128x128 := rfl
theorem hot6_eq : k1_pay51 (F := Ideal) (sels q 0) (sels q 1) (sels q 2) (sels q 3) (sels q 4) (sels q 5) (sels q 6) = hot (sels q) 768 slices_S1024x128_o768_0_S128x128 := rfl
theorem hot7_eq : k1_pay59 (F := Ideal) (k1_pay52 (sels q 0)) (k1_pay53 (sels q 1)) (k1_pay54 (sels q 2)) (k1_pay55 (sels q 3)) (k1_pay56 (sels q 4)) (k1_pay57 (sels q 5)) (k1_pay58 (sels q 6)) = hot (sels q) 896 slices_S1024x128_o896_0_S128x128 := rfl

theorem edge0_eq (o : FVec Ideal S896x128 .f32) : k1_pay64 v o w = k0_pay63 v o w :=
  congrArg (k0_pay63 v o) (same_shape w _)
theorem edge1_eq (o : FVec Ideal S896x128 .f32) : k1_pay65 v o w = k0_pay64 v o w :=
  congrArg (k0_pay64 v o) (same_shape w _)
theorem edge2_eq (o : FVec Ideal S896x128 .f32) : k1_pay66 v o w = k0_pay65 v o w :=
  congrArg (k0_pay65 v o) (same_shape w _)
theorem edge3_eq (o : FVec Ideal S896x128 .f32) : k1_pay67 v o w = k0_pay66 v o w :=
  congrArg (k0_pay66 v o) (same_shape w _)

theorem left_eq : k1_pay62 (F := Ideal) w = k0_pay61 w := congrArg (k0_pay61 (F := Ideal)) (same_shape w _)
theorem right_eq : k1_pay63 (F := Ideal) w = k0_pay62 w := congrArg (k0_pay62 (F := Ideal)) (same_shape w _)

theorem edges_eq : k1_pay69 (hot (sels q) 512 slices_S1024x128_o512_0_S128x128) (hot (sels q) 640 slices_S1024x128_o640_0_S128x128)
      (hot (sels q) 768 slices_S1024x128_o768_0_S128x128) (hot (sels q) 896 slices_S1024x128_o896_0_S128x128)
      (k1_pay60 v) (k0_pay61 w) (k0_pay62 w) (k0_pay63 v (hot (sels q) 0 slices_S1024x128_o0_0_S128x128) w)
      (k0_pay64 v (hot (sels q) 128 slices_S1024x128_o128_0_S128x128) w) (k0_pay65 v (hot (sels q) 256 slices_S1024x128_o256_0_S128x128) w)
      (k0_pay66 v (hot (sels q) 384 slices_S1024x128_o384_0_S128x128) w) (k1_pay68 v) = allEdges v w q := rfl

theorem layer1_eq (y : FVec Ideal S7168x64 .f32) (s ss g b : FVec Ideal S1x64 .f32) :
    k1_pay73 y (k1_pay70 s) (k1_pay71 ss) (k1_pay72 g) b w = layer (bnRelu y s ss g b) w :=
  congrArg (layer (bnRelu y s ss g b)) (same_shape w _)
theorem layer2_eq (y : FVec Ideal S7168x64 .f32) (s ss g b s' ss' g' b' : FVec Ideal S1x64 .f32) :
    k1_pay79 y (k1_pay74 g) (k1_pay75 b) (k1_pay76 s) (k1_pay77 s ss) k1_pay78 w s' ss' g' b' = bnRelu (layer (bnRelu y s ss g b) w) s' ss' g' b' :=
  congrArg (fun z => bnRelu (layer (bnRelu y s ss g b) z) s' ss' g' b') (same_shape w _)

end steps

theorem out_eq (x0 x1 : Vec Ideal S8x32x128 .f32) (x2 : Vec Ideal S64x32 .f32) (x3 : Vec Ideal S192x64 .f32) (x4 x5 : Vec Ideal S8x64 .f32) :
    out1_6 (F := Ideal) x0 x1 x2 x3 x4 x5 = out0_6 (F := Ideal) x0 x1 x2 x3 x4 x5 := by
  rw [Cert.KernelIdeal.Pieces.out_eq]
  unfold_out out1_6
  simp only [sel0_eq, sel1_eq, sel2_eq, sel3_eq, sel4_eq, sel5_eq, rounds5_eq, table_eq, sel6_eq, hot0_eq, hot1_eq, hot2_eq, hot3_eq, hot4_eq,
    hot5_eq, hot6_eq, hot7_eq, edge0_eq, edge1_eq, edge2_eq, edge3_eq, left_eq, right_eq, edges_eq, layer1_eq, layer2_eq, rows_eq]
  rfl

end Cert.KernelIdeal.Chained

end
-- ==== Proof.NetFirst.lean ====
/- The first edge convolution's body inside the chain of four calls is the body of the call on its own. -/
module

public import proofs.«01_k».proof.Proof.Gen.NetKernelIdeal.Frame
public import proofs.«01_k».proof.Proof.FirstPieces
public import proofs.«01_k».proof.Proof.NetSecond

@[expose] public section

set_option maxRecDepth 16384

noncomputable section

namespace Cert.FirstKernelIdeal.Chained

open Cert.FirstKernelIdeal Cert.FirstKernelIdeal.Pieces Idealize.ShloMosaic
open Cert.FirstKernelIdeal.Gen (slices_S1024x128_o0_0_S128x128 slices_S1024x128_o128_0_S128x128 slices_S1024x128_o256_0_S128x128 slices_S1024x128_o384_0_S128x128
  slices_S1024x128_o512_0_S128x128 slices_S1024x128_o640_0_S128x128 slices_S1024x128_o768_0_S128x128
  slices_S1024x128_o896_0_S128x128 slices_S8x128x32_o0_0_0_S1x128x32 slices_S8x128x32_o1_0_0_S1x128x32
  slices_S8x128x32_o2_0_0_S1x128x32 slices_S8x128x32_o3_0_0_S1x128x32 slices_S8x128x32_o4_0_0_S1x128x32)
open Cert.KernelIdeal.Pieces (sels hot rounds)
open Cert.KernelIdeal.Chained (same_shape)
open Cert.NetKernelIdeal.Gen (k0_pay1 k0_pay2 k0_pay3 k0_pay4 k0_pay5 k0_pay6 k0_pay7 k0_pay8 k0_pay9 k0_pay10 k0_pay11 k0_pay12 k0_pay13 k0_pay14 k0_pay15 k0_pay16
  k0_pay17 k0_pay18 k0_pay19 k0_pay20 k0_pay21 k0_pay22 k0_pay23 k0_pay24 k0_pay25 k0_pay26 k0_pay27 k0_pay28 k0_pay29 k0_pay30 k0_pay31
  k0_pay32 k0_pay33 k0_pay34 k0_pay35 k0_pay36 k0_pay37 k0_pay38 k0_pay39 k0_pay40 k0_pay41 k0_pay42 k0_pay43 k0_pay44 k0_pay45 k0_pay46
  k0_pay47 k0_pay48 k0_pay49 k0_pay50 k0_pay51 k0_pay52 k0_pay53 k0_pay54 k0_pay55 k0_pay56 k0_pay57 k0_pay58 k0_pay59 k0_pay60 k0_pay61
  k0_pay62 k0_pay63 k0_pay64 k0_pay65 k0_pay66 k0_pay67 k0_pay68 k0_pay69 k0_pay70 k0_pay71 k0_pay72 k0_pay73 k0_pay74 k0_pay75 k0_pay76
  k0_pay77 k0_pay78 k0_pay79 k0_pay80 k0_pay81 k0_pay82 k0_pay83 k0_pay84 k0_pay85 k0_pay86 k0_pay87 k0_pay88 k0_pay89 k0_pay90 k0_pay91
  k0_pay92 k0_pay93 k0_pay94 k0_pay95 k0_pay96 k0_pay97 k0_pay98 k0_pay99 k0_pay100)

section steps

variable (a : IVec S128x128 1) (b c d e f g h i : FVec Ideal S128x128 .f32) (j : FVec Ideal S128x1 .f32)
variable (q : FVec Ideal S1024x128 .f32) (x : FVec Ideal S8x128x32 .f32) (wa wb : FVec Ideal S32x32 .f32) (o : FVec Ideal S896x128 .f32)

theorem sel0_eq : k0_pay25 a b c d e f g h i j = sels (k0_pay24 a b c d e f g h i j) 0 := rfl
theorem sel1_eq : k0_pay27 a b c d e f g h i j = sels (k0_pay24 a b c d e f g h i j) 1 := rfl
theorem sel2_eq : k0_pay29 a b c d e f g h i j = sels (k0_pay24 a b c d e f g h i j) 2 := rfl
theorem sel3_eq : k0_pay31 a b c d e f g h i j = sels (k0_pay24 a b c d e f g h i j) 3 := rfl
theorem sel4_eq : k0_pay33 a b c d e f g h i j = sels (k0_pay24 a b c d e f g h i j) 4 := rfl
theorem sel5_eq : k0_pay35 a b c d e f g h i j = sels (k0_pay24 a b c d e f g h i j) 5 := rfl
theorem rounds6_eq : k0_pay36 a b c d e f g h i j = rounds (k0_pay24 a b c d e f g h i j) 6 := rfl
theorem sel6_eq : k0_pay37 (rounds q 6) = sels q 6 := rfl
theorem table_eq (v0 : FVec Ideal S8x32x128 .f32) (v8 : FVec Ideal S8x8x128 .f32) :
    k0_pay24 k0_pay4 (k0_pay5 v0 v8) (k0_pay10 k0_pay4 (k0_pay8 v0 v8) (k0_pay9 v0 v8)) (k0_pay11 (k0_pay3 v0 v8) k0_pay4)
      (k0_pay12 (k0_pay3 v0 v8) k0_pay4) (k0_pay17 k0_pay4 (k0_pay15 (k0_pay3 v0 v8)) (k0_pay16 (k0_pay3 v0 v8)))
      (k0_pay18 (k0_pay3 v0 v8) k0_pay4) (k0_pay19 (k0_pay3 v0 v8) k0_pay4) (k0_pay22 (k0_pay3 v0 v8)) (k0_pay23 (k0_pay3 v0 v8))
      = allPd (Cert.FirstKernelIdeal.Gen.k0_pay2 v0 v8) := rfl
theorem hot0_eq : k0_pay38 (F := Ideal) (sels q 0) (sels q 1) (sels q 2) (sels q 3) (sels q 4) (sels q 5) (rounds q 6) = hot (sels q) 0 slices_S1024x128_o0_0_S128x128 := rfl
theorem hot1_eq : k0_pay39 (F := Ideal) (sels q 0) (sels q 1) (sels q 2) (sels q 3) (sels q 4) (sels q 5) (rounds q 6) = hot (sels q) 128 slices_S1024x128_o128_0_S128x128 := rfl
theorem hot2_eq : k0_pay44 (F := Ideal) (sels q 4) (sels q 5) (sels q 6) (k0_pay40 (sels q 0)) (k0_pay41 (sels q 1)) (k0_pay42 (sels q 2)) (k0_pay43 (sels q 3)) = hot (sels q) 256 slices_S1024x128_o256_0_S128x128 := rfl
theorem hot3_eq : k0_pay45 (F := Ideal) (sels q 0) (sels q 1) (sels q 2) (sels q 3) (sels q 4) (sels q 5) (sels q 6) = hot (sels q) 384 slices_S1024x128_o384_0_S128x128 := rfl
theorem hot4_eq : k0_pay46 (F := Ideal) (sels q 0) (sels q 1) (sels q 2) (sels q 3) (sels q 4) (sels q 5) (sels q 6) = hot (sels q) 512 slices_S1024x128_o512_0_S128x128 := rfl
theorem hot5_eq : k0_pay49 (F := Ideal) (sels q 2) (sels q 3) (sels q 4) (sels q 5) (sels q 6) (k0_pay47 (sels q 0)) (k0_pay48 (sels q 1)) = hot (sels q) 640 slices_S1024x128_o640_0_S128x128 := rfl
theorem hot6_eq : k0_pay50 (F := Ideal) (sels q 0) (sels q 1) (sels q 2) (sels q 3) (sels q 4) (sels q 5) (sels q 6) = hot (sels q) 768 slices_S1024x128_o768_0_S128x128 := rfl
theorem hot7_eq : k0_pay58 (F := Ideal) (k0_pay51 (sels q 0)) (k0_pay52 (sels q 1)) (k0_pay53 (sels q 2)) (k0_pay54 (sels q 3)) (k0_pay55 (sels q 4)) (k0_pay56 (sels q 5)) (k0_pay57 (sels q 6)) = hot (sels q) 896 slices_S1024x128_o896_0_S128x128 := rfl
theorem left_eq (w : FVec Ideal S32x64 .f32) : k0_pay61 (F := Ideal) w = Gen.k0_pay59 w :=
  congrArg (Gen.k0_pay59 (F := Ideal)) (same_shape w _)
theorem right_eq (w : FVec Ideal S32x64 .f32) : k0_pay62 (F := Ideal) w = Gen.k0_pay60 w :=
  congrArg (Gen.k0_pay60 (F := Ideal)) (same_shape w _)
theorem rows_eq (v : FVec Ideal S8x32x128 .f32) (μ : FVec Ideal S8x1x128 .f32) (s ss g b : FVec Ideal S1x32 .f32) :
    k0_pay59 (F := Ideal) v μ s ss g b = Gen.k0_pay58 v μ s ss g b := rfl
theorem edge0_eq (v : FVec Ideal S8x32x128 .f32) (μ : FVec Ideal S8x1x128 .f32) (s ss g b : FVec Ideal S1x32 .f32) (w : FVec Ideal S32x64 .f32) :
    k0_pay65 (k0_pay63 v μ o s ss g b w) (k0_pay64 v μ s ss g b w)
      = edgeOf (rowsOf (Gen.k0_pay58 v μ s ss g b) 0 slices_S8x128x32_o0_0_0_S1x128x32) (Gen.k0_pay59 w) (Gen.k0_pay60 w) o :=
  congrArg (fun z => edgeOf (rowsOf (Gen.k0_pay58 v μ s ss g b) 0 slices_S8x128x32_o0_0_0_S1x128x32) (Gen.k0_pay59 z) (Gen.k0_pay60 z) o)
    (same_shape w _)
theorem edge1_eq : k0_pay66 o x wa wb = edgeOf (rowsOf x 1 slices_S8x128x32_o1_0_0_S1x128x32) wa wb o := rfl
theorem edge2_eq : k0_pay67 o x wa wb = edgeOf (rowsOf x 2 slices_S8x128x32_o2_0_0_S1x128x32) wa wb o := rfl
theorem edge3_eq : k0_pay68 o x wa wb = edgeOf (rowsOf x 3 slices_S8x128x32_o3_0_0_S1x128x32) wa wb o := rfl
theorem edge4_eq : k0_pay69 o x wa wb = edgeOf (rowsOf x 4 slices_S8x128x32_o4_0_0_S1x128x32) wa wb o := rfl
theorem layers_eq (s ss g b s' ss' g' b' : FVec Ideal S1x32 .f32) (w w' : FVec Ideal S32x32 .f32) :
    k0_pay76 (k0_pay74 s ss g b) (k0_pay75 (hot (sels q) 768 slices_S1024x128_o768_0_S128x128) (hot (sels q) 896 slices_S1024x128_o896_0_S128x128) x wa wb
      (edgeOf (rowsOf x 0 slices_S8x128x32_o0_0_0_S1x128x32) wa wb (hot (sels q) 0 slices_S1024x128_o0_0_S128x128))
      (edgeOf (rowsOf x 1 slices_S8x128x32_o1_0_0_S1x128x32) wa wb (hot (sels q) 128 slices_S1024x128_o128_0_S128x128))
      (edgeOf (rowsOf x 2 slices_S8x128x32_o2_0_0_S1x128x32) wa wb (hot (sels q) 256 slices_S1024x128_o256_0_S128x128))
      (edgeOf (rowsOf x 3 slices_S8x128x32_o3_0_0_S1x128x32) wa wb (hot (sels q) 384 slices_S1024x128_o384_0_S128x128))
      (edgeOf (rowsOf x 4 slices_S8x128x32_o4_0_0_S1x128x32) wa wb (hot (sels q) 512 slices_S1024x128_o512_0_S128x128))
      (k0_pay70 (hot (sels q) 640 slices_S1024x128_o640_0_S128x128) x wb) (k0_pay71 x wa) s ss g) w s' ss' g' b' w'
      = layer (bnRelu (layer (bnRelu (allEdges x wa wb q) s ss g b) w) s' ss' g' b') w' :=
  congrArg₂ (fun z z' => layer (bnRelu (layer (bnRelu (allEdges x wa wb q) s ss g b) z) s' ss' g' b') z') (same_shape w _) (same_shape w' _)
theorem last_eq (μ : FVec Ideal S8x1x128 .f32) (y : FVec Ideal S7168x32 .f32) (s ss g b : FVec Ideal S1x32 .f32) :
    k0_pay1 μ (k0_pay77 x y s ss g b) = last μ x (pool (bnRelu y s ss g b)) := rfl

end steps

theorem out_eq (x0 : Vec Ideal S8x8x128 .f32) (x1 : Vec Ideal S8x32x128 .f32) (x2 x3 : Vec Ideal S1x32 .f32) (x4 : Vec Ideal S96x64 .f32)
    (x5 : Vec Ideal S6x32 .f32) (x6 : Vec Ideal S8x32 .f32) :
    Cert.NetKernelIdeal.Gen.out0_7 (F := Ideal) x0 x1 x2 x3 x4 x5 x6 = Gen.out0_7 (F := Ideal) x0 x1 x2 x3 x4 x5 x6 := by
  rw [Cert.FirstKernelIdeal.Pieces.out_eq]
  unfold Cert.NetKernelIdeal.Gen.out0_7 k0_pay100 k0_pay99 k0_pay98 k0_pay97 k0_pay96 k0_pay95 k0_pay94 k0_pay93 k0_pay92 k0_pay91 k0_pay90 k0_pay89
    k0_pay88 k0_pay87 k0_pay86 k0_pay85 k0_pay84 k0_pay83 k0_pay82 k0_pay81 k0_pay80 k0_pay79 k0_pay78
  simp only [sel0_eq, sel1_eq, sel2_eq, sel3_eq, sel4_eq, sel5_eq, rounds6_eq, table_eq, sel6_eq, hot0_eq, hot1_eq, hot2_eq, hot3_eq, hot4_eq,
    hot5_eq, hot6_eq, hot7_eq, left_eq, right_eq, rows_eq, edge0_eq, edge1_eq, edge2_eq, edge3_eq, edge4_eq, layers_eq, last_eq]
  rfl

end Cert.FirstKernelIdeal.Chained

end

end
-- ==== Proof.NetPack.lean ====
/- The parameter tables of the two edge convolutions which the host lines build: their entries, and the slices the single calls'
references take of them. -/
module

public import proofs.«01_k».proof.Proof.Net
public import proofs.«01_k».proof.Proof.Gen.NetKernelIdeal
public import proofs.«01_k».proof.Proof.Gen.FirstReferenceIdeal.Read
public import proofs.«01_k».proof.Proof.Gen.ReferenceIdeal.Read
public import Idealize.ShloMosaic.Lib.Routing.OpsSet
public import Idealize.ShloMosaic.Lib.Routing.OpsPair

@[expose] public section

set_option maxRecDepth 16384

noncomputable section

namespace Cert.NetKernelIdeal.Pack

open Cert.NetKernelIdeal Cert.NetKernelIdeal.Gen Idealize.ShloMosaic Idealize.ShloMosaic.Routing

/-! ## The tables -/

/-- The corner of a block whose first row is `w`. -/
abbrev corner (w : BitVec 32) : IVec S2 32 :=
  concatenate S2 0 [⟨S1, broadcastInDim S1 ![] bcast_S_S1 (constantI S_ 32 w)⟩, ⟨S1, broadcastInDim S1 ![] bcast_S_S1 (constantI S_ 32 0#32)⟩]
    concatenates_S1_S1_S2_d0

/-- The first rows. -/
abbrev top : IVec S1 32 := broadcastInDim S1 ![] bcast_S_S1 (constantI S_ 32 0#32)

/-- The table of zeros with the first layer's weight in its first rows. -/
def filled (u : FVec Ideal S32x64 .f32) : FVec Ideal S96x64 .f32 :=
  Host.scatter scatter_S96x64_S1_S32x64_01_n_0_0 (fun _ b => b) (broadcastInDim S96x64 ![] bcast_S_S96x64 (constant (F := Ideal) S_ .f32 0x00000000#32)) top u

/-- A table with a square block put at row `w`. -/
def placed (w : BitVec 32) (x : FVec Ideal S96x64 .f32) (u : FVec Ideal S32x32 .f32) : FVec Ideal S96x64 .f32 :=
  Host.scatter scatter_S96x64_S2_S32x32_01_n_01_0 (fun _ b => b) x (corner w) u

/-- The first edge convolution's weights, one under the other. -/
def weights1 (u : FVec Ideal S32x64 .f32) (v w : FVec Ideal S32x32 .f32) : FVec Ideal S96x64 .f32 := placed 64#32 (placed 32#32 (filled u) v) w

/-- The first edge convolution's gains and offsets, row by row. -/
def params1 (a b c d e f : FVec Ideal S32 .f32) : FVec Ideal S6x32 .f32 :=
  concatenate S6x32 0 [⟨S1x32, broadcastInDim S1x32 ![1] bcast_S32_S1x32_1 a⟩, ⟨S1x32, broadcastInDim S1x32 ![1] bcast_S32_S1x32_1 b⟩,
    ⟨S1x32, broadcastInDim S1x32 ![1] bcast_S32_S1x32_1 c⟩, ⟨S1x32, broadcastInDim S1x32 ![1] bcast_S32_S1x32_1 d⟩,
    ⟨S1x32, broadcastInDim S1x32 ![1] bcast_S32_S1x32_1 e⟩, ⟨S1x32, broadcastInDim S1x32 ![1] bcast_S32_S1x32_1 f⟩]
    concatenates_S1x32_S1x32_S1x32_S1x32_S1x32_S1x32_S6x32_d0

/-- A vector as a row. -/
def rowOf (g : FVec Ideal S32 .f32) : FVec Ideal S1x32 .f32 := shapeCast S1x32 g shapeCasts_S32_S1x32

/-- The second edge convolution's weights, one under the other. -/
def weights2 (u v w : FVec Ideal S64x64 .f32) : FVec Ideal S192x64 .f32 :=
  concatenate S192x64 0 [⟨S64x64, u⟩, ⟨S64x64, v⟩, ⟨S64x64, w⟩] concatenates_S64x64_S64x64_S64x64_S192x64_d0

/-- The second edge convolution's gains and offsets, row by row. -/
def params2 (a b c d e f g h : FVec Ideal S64 .f32) : FVec Ideal S8x64 .f32 :=
  concatenate S8x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩,
    ⟨S1x64, broadcastInDim S1x64 ![1] bcast_S64_S1x64_1 e⟩, ⟨S1x64, broadcastInDim S1x64 ![1] bcast_S64_S1x64_1 f⟩,
    ⟨S1x64, broadcastInDim S1x64 ![1] bcast_S64_S1x64_1 g⟩, ⟨S1x64, broadcastInDim S1x64 ![1] bcast_S64_S1x64_1 h⟩]
    concatenates_S1x64_S1x64_S1x64_S1x64_S1x64_S1x64_S1x64_S1x64_S8x64_d0

/-! ## Their entries -/

theorem filled_lands (k : Fin 32) (q : Fin 64) (r : Fin 96) (p : Fin 64) :
    scatter_S96x64_S1_S32x64_01_n_0_0.resultIdx? (ix2 k q) top = some (ix2 r p) ↔ k.val = r.val ∧ q.val = p.val := by
  have h0 : scatter_S96x64_S1_S32x64_01_n_0_0.start (ix2 k q) top (0 : Fin 2) = 0 := rfl
  have h1 : scatter_S96x64_S1_S32x64_01_n_0_0.start (ix2 k q) top (1 : Fin 2) = 0 := rfl
  have w0 : scatter_S96x64_S1_S32x64_01_n_0_0.window (ix2 k q) (0 : Fin 2) = k.val := rfl
  have w1 : scatter_S96x64_S1_S32x64_01_n_0_0.window (ix2 k q) (1 : Fin 2) = q.val := rfl
  refine (resultIdx?_ix2 _ _ _ _ _).trans ?_
  rw [h0, h1, w0, w1]
  omega

theorem placed_lands (w : BitVec 32) (k q : Fin 32) (r : Fin 96) (p : Fin 64) :
    scatter_S96x64_S2_S32x32_01_n_01_0.resultIdx? (ix2 k q) (corner w) = some (ix2 r p) ↔ w.toInt + k.val = r.val ∧ q.val = p.val := by
  have h0 : scatter_S96x64_S2_S32x32_01_n_01_0.start (ix2 k q) (corner w) (0 : Fin 2) = w.toInt := rfl
  have h1 : scatter_S96x64_S2_S32x32_01_n_01_0.start (ix2 k q) (corner w) (1 : Fin 2) = 0 := rfl
  have w0 : scatter_S96x64_S2_S32x32_01_n_01_0.window (ix2 k q) (0 : Fin 2) = k.val := rfl
  have w1 : scatter_S96x64_S2_S32x32_01_n_01_0.window (ix2 k q) (1 : Fin 2) = q.val := rfl
  refine (resultIdx?_ix2 _ _ _ _ _).trans ?_
  rw [h0, h1, w0, w1]
  omega

theorem filled_apply (u : FVec Ideal S32x64 .f32) (r : Fin 96) (p : Fin 64) :
    (filled u (ix2 r p) : Ideal .f32) = if h : r.val < 32 then u (ix2 ⟨r.val, h⟩ p) else 0 := by
  have hk : ∀ k : S32x64.Idx, ∃ (a : Fin 32) (b : Fin 64), k = ix2 a b := fun k =>
    ⟨⟨(k 0).val, (k 0).isLt⟩, ⟨(k 1).val, (k 1).isLt⟩, funext fun a => match a with | ⟨0, _⟩ => rfl | ⟨1, _⟩ => rfl⟩
  unfold filled
  split
  next h =>
    refine scatter_set_hit _ _ _ _ _ _ (fun k hk' => ?_) (ix2 ⟨r.val, h⟩ p) ((filled_lands _ _ _ _).mpr ⟨rfl, rfl⟩)
    obtain ⟨a, b, rfl⟩ := hk k
    obtain ⟨e1, e2⟩ := (filled_lands _ _ _ _).mp hk'
    rw [show a = ⟨r.val, h⟩ from Fin.ext e1, show b = p from Fin.ext e2]
  next h =>
    refine (scatter_set_miss _ _ _ _ _ (fun k hk' => ?_)).trans ?_
    · obtain ⟨a, b, rfl⟩ := hk k
      have := ((filled_lands _ _ _ _).mp hk').1
      omega
    · pointwise []

theorem placed_apply (w : BitVec 32) (x : FVec Ideal S96x64 .f32) (u : FVec Ideal S32x32 .f32) (s : ℕ) (hw : w.toInt = s) (r : Fin 96) (p : Fin 64) :
    (placed w x u (ix2 r p) : Ideal .f32)
      = if h : (s ≤ r.val ∧ r.val < s + 32) ∧ p.val < 32 then u (ix2 ⟨r.val - s, by omega⟩ ⟨p.val, h.2⟩) else x (ix2 r p) := by
  have hk : ∀ k : S32x32.Idx, ∃ (a : Fin 32) (b : Fin 32), k = ix2 a b := fun k =>
    ⟨⟨(k 0).val, (k 0).isLt⟩, ⟨(k 1).val, (k 1).isLt⟩, funext fun a => match a with | ⟨0, _⟩ => rfl | ⟨1, _⟩ => rfl⟩
  unfold placed
  split
  next h =>
    refine scatter_set_hit _ _ _ _ _ _ (fun k hk' => ?_) (ix2 ⟨r.val - s, by omega⟩ ⟨p.val, h.2⟩) ((placed_lands _ _ _ _ _).mpr ⟨?_, rfl⟩)
    · obtain ⟨a, b, rfl⟩ := hk k
      obtain ⟨e1, e2⟩ := (placed_lands _ _ _ _ _).mp hk'
      rw [hw] at e1
      rw [show a = ⟨r.val - s, by omega⟩ from Fin.ext (by show a.val = r.val - s; omega), show b = ⟨p.val, h.2⟩ from Fin.ext e2]
    · rw [hw]
      show (s : ℤ) + ((r.val - s : ℕ) : ℤ) = r.val
      omega
  next h =>
    refine scatter_set_miss _ _ _ _ _ (fun k hk' => h ?_)
    obtain ⟨a, b, rfl⟩ := hk k
    obtain ⟨e1, e2⟩ := (placed_lands _ _ _ _ _).mp hk'
    rw [hw] at e1
    have := a.isLt
    have := b.isLt
    omega

section First

variable (u : FVec Ideal S32x64 .f32) (v w : FVec Ideal S32x32 .f32)

theorem weights1_first : Cert.FirstReferenceIdeal.Read.val_main_v82 (F := Ideal) (weights1 u v w) = u := by
  funext i
  refine (Cert.FirstReferenceIdeal.Read.val_main_v82_apply _ _).trans ?_
  have hr : (i 0).val < 32 := (i 0).isLt
  have hp : (i 1).val < 64 := (i 1).isLt
  have e : Cert.FirstReferenceIdeal.Read.idx_main_v82 i = ix2 (⟨(i 0).val, by omega⟩ : Fin 96) (⟨(i 1).val, hp⟩ : Fin 64) :=
    funext fun a => match a with | ⟨0, _⟩ => rfl | ⟨1, _⟩ => rfl
  rw [e]
  unfold weights1
  rw [placed_apply _ _ _ 64 rfl, dif_neg (by show ¬((64 ≤ (i 0).val ∧ _) ∧ _); omega), placed_apply _ _ _ 32 rfl,
    dif_neg (by show ¬((32 ≤ (i 0).val ∧ _) ∧ _); omega), filled_apply, dif_pos hr]
  exact congrArg u (funext fun a => match a with | ⟨0, _⟩ => rfl | ⟨1, _⟩ => rfl)

theorem weights1_second : Cert.FirstReferenceIdeal.Read.val_main_v83 (F := Ideal) (weights1 u v w) = v := by
  funext i
  refine (Cert.FirstReferenceIdeal.Read.val_main_v83_apply _ _).trans ?_
  have hr : (i 0).val < 32 := (i 0).isLt
  have hp : (i 1).val < 32 := (i 1).isLt
  have e : Cert.FirstReferenceIdeal.Read.idx_main_v83 i = ix2 (⟨32 + (i 0).val, by omega⟩ : Fin 96) (⟨(i 1).val, by omega⟩ : Fin 64) :=
    funext fun a => match a with | ⟨0, _⟩ => rfl | ⟨1, _⟩ => rfl
  rw [e]
  unfold weights1
  rw [placed_apply _ _ _ 64 rfl, dif_neg (by show ¬((64 ≤ 32 + (i 0).val ∧ _) ∧ _); omega), placed_apply _ _ _ 32 rfl,
    dif_pos (by show (32 ≤ 32 + (i 0).val ∧ 32 + (i 0).val < 32 + 32) ∧ (i 1).val < 32; omega)]
  exact congrArg v (funext fun a => match a with
    | ⟨0, _⟩ => Fin.ext (by show 32 + (i 0).val - 32 = (i 0).val; omega)
    | ⟨1, _⟩ => rfl)

theorem weights1_third : Cert.FirstReferenceIdeal.Read.val_main_v84 (F := Ideal) (weights1 u v w) = w := by
  funext i
  refine (Cert.FirstReferenceIdeal.Read.val_main_v84_apply _ _).trans ?_
  have hr : (i 0).val < 32 := (i 0).isLt
  have hp : (i 1).val < 32 := (i 1).isLt
  have e : Cert.FirstReferenceIdeal.Read.idx_main_v84 i = ix2 (⟨64 + (i 0).val, by omega⟩ : Fin 96) (⟨(i 1).val, by omega⟩ : Fin 64) :=
    funext fun a => match a with | ⟨0, _⟩ => rfl | ⟨1, _⟩ => rfl
  rw [e]
  unfold weights1
  rw [placed_apply _ _ _ 64 rfl, dif_pos (by show (64 ≤ 64 + (i 0).val ∧ 64 + (i 0).val < 64 + 32) ∧ (i 1).val < 32; omega)]
  exact congrArg w (funext fun a => match a with
    | ⟨0, _⟩ => Fin.ext (by show 64 + (i 0).val - 64 = (i 0).val; omega)
    | ⟨1, _⟩ => rfl)

/-- The table of real weights is real. -/
theorem weights1_fine (hu : ∀ i, Net.Fine (u i)) (hv : ∀ i, Net.Fine (v i)) (hw : ∀ i, Net.Fine (w i)) (y) : Net.Fine (weights1 u v w y) := by
  have hy : y = ix2 (⟨(y 0).val, (y 0).isLt⟩ : Fin 96) (⟨(y 1).val, (y 1).isLt⟩ : Fin 64) :=
    funext fun a => match a with | ⟨0, _⟩ => rfl | ⟨1, _⟩ => rfl
  rw [hy]
  unfold weights1
  rw [placed_apply _ _ _ 64 rfl]
  split
  · exact hw _
  rw [placed_apply _ _ _ 32 rfl]
  split
  · exact hv _
  rw [filled_apply]
  split
  · exact hu _
  · exact Net.Fine.zero

theorem rowOf_same (g : FVec Ideal S32 .f32) : Cert.FirstReferenceIdeal.Read.val_main_v19 (F := Ideal) (rowOf g) = g := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v19, rowOf]

theorem rowOf_fine (g : FVec Ideal S32 .f32) (hg : ∀ i, Net.Fine (g i)) (y) : Net.Fine (rowOf g y) := by
  unfold rowOf shapeCast
  exact hg _

variable (a b c d e f : FVec Ideal S32 .f32)

theorem params1_0 : Cert.FirstReferenceIdeal.Read.val_main_v92 (F := Ideal) (params1 a b c d e f) = a := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v91, Cert.FirstReferenceIdeal.Read.val_main_v92, params1]

theorem params1_1 : Cert.FirstReferenceIdeal.Read.val_main_v94 (F := Ideal) (params1 a b c d e f) = b := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v93, Cert.FirstReferenceIdeal.Read.val_main_v94, params1]

theorem params1_2 : Cert.FirstReferenceIdeal.Read.val_main_v125 (F := Ideal) (params1 a b c d e f) = c := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v124, Cert.FirstReferenceIdeal.Read.val_main_v125, params1]

theorem params1_3 : Cert.FirstReferenceIdeal.Read.val_main_v127 (F := Ideal) (params1 a b c d e f) = d := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v126, Cert.FirstReferenceIdeal.Read.val_main_v127, params1]

theorem params1_4 : Cert.FirstReferenceIdeal.Read.val_main_v158 (F := Ideal) (params1 a b c d e f) = e := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v157, Cert.FirstReferenceIdeal.Read.val_main_v158, params1]

theorem params1_5 : Cert.FirstReferenceIdeal.Read.val_main_v160 (F := Ideal) (params1 a b c d e f) = f := by
  funext i
  have hi : i = ix1 (⟨(i 0).val, (i 0).isLt⟩ : Fin 32) := funext fun a => match a with | ⟨0, _⟩ => rfl
  generalize (⟨(i 0).val, (i 0).isLt⟩ : Fin 32) = o at hi
  subst hi
  pointwise [Cert.FirstReferenceIdeal.Read.val_main_v159, Cert.FirstReferenceIdeal.Read.val_main_v160, params1]

theorem params1_fine (ha : ∀ i, Net.Fine (a i)) (hb : ∀ i, Net.Fine (b i)) (hc : ∀ i, Net.Fine (c i)) (hd : ∀ i, Net.Fine (d i))
    (he : ∀ i, Net.Fine (e i)) (hf : ∀ i, Net.Fine (f i)) (y) : Net.Fine (params1 a b c d e f y) := by
  unfold params1
  refine concatenate_forall (P := Net.Fine) _ _ _ _ (fun p hp i => ?_) y
  simp only [List.mem_cons, List.not_mem_nil, or_false] at hp
  rcases hp with rfl | rfl | rfl | rfl | rfl | rfl
  · exact ha _
  · exact hb _
  · exact hc _
  · exact hd _
  · exact he _
  · exact hf _

end First

section Second

variable (u v w : FVec Ideal S64x64 .f32)

theorem weights2_first : Cert.ReferenceIdeal.Read.val_main_v49 (F := Ideal) (weights2 u v w) = u := by
  funext i
  refine (Cert.ReferenceIdeal.Read.val_main_v49_apply _ _).trans ?_
  unfold weights2
  exact concatenate_apply_piece (t := S192x64) 0 [⟨S64x64, u⟩, ⟨S64x64, v⟩, ⟨S64x64, w⟩] _ _ 0 (Nat.lt_of_lt_of_eq (by decide : 0 < 3) rfl) S64x64 u rfl rfl 0 rfl i
    (fun b hb => match b with | ⟨0, _⟩ => absurd rfl hb | ⟨1, _⟩ => rfl) (Nat.zero_add _)

theorem weights2_second : Cert.ReferenceIdeal.Read.val_main_v83 (F := Ideal) (weights2 u v w) = v := by
  funext i
  refine (Cert.ReferenceIdeal.Read.val_main_v83_apply _ _).trans ?_
  unfold weights2
  exact concatenate_apply_piece (t := S192x64) 0 [⟨S64x64, u⟩, ⟨S64x64, v⟩, ⟨S64x64, w⟩] _ _ 1 (Nat.lt_of_lt_of_eq (by decide : 1 < 3) rfl) S64x64 v rfl rfl 64 rfl i
    (fun b hb => match b with | ⟨0, _⟩ => absurd rfl hb | ⟨1, _⟩ => rfl) rfl

theorem weights2_third : Cert.ReferenceIdeal.Read.val_main_v117 (F := Ideal) (weights2 u v w) = w := by
  funext i
  refine (Cert.ReferenceIdeal.Read.val_main_v117_apply _ _).trans ?_
  unfold weights2
  exact concatenate_apply_piece (t := S192x64) 0 [⟨S64x64, u⟩, ⟨S64x64, v⟩, ⟨S64x64, w⟩] _ _ 2 (Nat.lt_of_lt_of_eq (by decide : 2 < 3) rfl) S64x64 w rfl rfl 128 rfl i
    (fun b hb => match b with | ⟨0, _⟩ => absurd rfl hb | ⟨1, _⟩ => rfl) rfl

theorem weights2_fine (hu : ∀ i, Net.Fine (u i)) (hv : ∀ i, Net.Fine (v i)) (hw : ∀ i, Net.Fine (w i)) (y) : Net.Fine (weights2 u v w y) := by
  unfold weights2
  refine concatenate_forall (P := Net.Fine) _ _ _ _ (fun p hp i => ?_) y
  simp only [List.mem_cons, List.not_mem_nil, or_false] at hp
  rcases hp with rfl | rfl | rfl
  · exact hu _
  · exact hv _
  · exact hw _

variable (a b c d e f g h : FVec Ideal S64 .f32)

theorem params2_0 : Cert.ReferenceIdeal.Read.val_main_v57 (F := Ideal) (params2 a b c d e f g h) = a := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v56, Cert.ReferenceIdeal.Read.val_main_v57, params2]

theorem params2_1 : Cert.ReferenceIdeal.Read.val_main_v59 (F := Ideal) (params2 a b c d e f g h) = b := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v58, Cert.ReferenceIdeal.Read.val_main_v59, params2]

theorem params2_2 : Cert.ReferenceIdeal.Read.val_main_v91 (F := Ideal) (params2 a b c d e f g h) = c := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v90, Cert.ReferenceIdeal.Read.val_main_v91, params2]

theorem params2_3 : Cert.ReferenceIdeal.Read.val_main_v93 (F := Ideal) (params2 a b c d e f g h) = d := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v92, Cert.ReferenceIdeal.Read.val_main_v93, params2]

theorem params2_4 : Cert.ReferenceIdeal.Read.val_main_v125 (F := Ideal) (params2 a b c d e f g h) = e := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v124, Cert.ReferenceIdeal.Read.val_main_v125, params2]

theorem params2_5 : Cert.ReferenceIdeal.Read.val_main_v127 (F := Ideal) (params2 a b c d e f g h) = f := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v126, Cert.ReferenceIdeal.Read.val_main_v127, params2]

theorem params2_6 : Cert.ReferenceIdeal.Read.val_main_v161 (F := Ideal) (params2 a b c d e f g h) = g := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v160, Cert.ReferenceIdeal.Read.val_main_v161, params2]

theorem params2_7 : Cert.ReferenceIdeal.Read.val_main_v163 (F := Ideal) (params2 a b c d e f g h) = h := by
  funext i
  have hi : i = ix1 (⟨(i 0).val, (i 0).isLt⟩ : Fin 64) := funext fun a => match a with | ⟨0, _⟩ => rfl
  generalize (⟨(i 0).val, (i 0).isLt⟩ : Fin 64) = o at hi
  subst hi
  pointwise [Cert.ReferenceIdeal.Read.val_main_v162, Cert.ReferenceIdeal.Read.val_main_v163, params2]

theorem params2_fine (ha : ∀ i, Net.Fine (a i)) (hb : ∀ i, Net.Fine (b i)) (hc : ∀ i, Net.Fine (c i)) (hd : ∀ i, Net.Fine (d i))
    (he : ∀ i, Net.Fine (e i)) (hf : ∀ i, Net.Fine (f i)) (hg : ∀ i, Net.Fine (g i)) (hh : ∀ i, Net.Fine (h i)) (y) :
    Net.Fine (params2 a b c d e f g h y) := by
  unfold params2
  refine concatenate_forall (P := Net.Fine) _ _ _ _ (fun p hp i => ?_) y
  simp only [List.mem_cons, List.not_mem_nil, or_false] at hp
  rcases hp with rfl | rfl | rfl | rfl | rfl | rfl | rfl | rfl
  · exact ha _
  · exact hb _
  · exact hc _
  · exact hd _
  · exact he _
  · exact hf _
  · exact hg _
  · exact hh _

end Second

end Cert.NetKernelIdeal.Pack

end

end
-- ==== Proof.NetBounds.lean ====
/- The four calls as one program: its reference in the words of the single calls' references, and what its precondition gives. -/
module

public import proofs.«01_k».proof.Proof.FirstBlocks
public import proofs.«01_k».proof.Proof.Blocks
public import Idealize.ShloMosaic.Lib.ReduceAll
public import proofs.«01_k».proof.Proof.NetPack
public import proofs.«01_k».proof.Proof.TailRef
public import proofs.«01_k».proof.Proof.TailBounds
public import proofs.«01_k».proof.Proof.Gen.NetReferenceIdeal.Read
public import proofs.«01_k».proof.Proof.Gen.Pre_both_separated
public import proofs.«01_k».proof.Proof.Gen.NetKernelIdeal.Frame

@[expose] public section

set_option maxRecDepth 16384

noncomputable section

namespace Cert.NetReferenceIdeal.Stages

open Cert.NetReferenceIdeal Cert.NetReferenceIdeal.Gen Cert.NetReferenceIdeal.Read Idealize.ShloMosaic
open Cert.NetKernelIdeal.Pack
open Cert.NetKernelIdeal (S96x64 S6x32 S192x64)

section Tables

variable (x0 : FVec Ideal S256x8x128 .f32) (x1 : FVec Ideal S256x32x128 .f32) (x2 x3 : FVec Ideal S1x32 .f32) (x4 : FVec Ideal S96x64 .f32)
  (x5 : FVec Ideal S6x32 .f32) (x6 : FVec Ideal S8x32 .f32) (x7 : FVec Ideal S64x32 .f32) (x8 : FVec Ideal S192x64 .f32) (x9 x10 : FVec Ideal S8x64 .f32)

/-- The first edge convolution's features, of its tables. -/
abbrev near : FVec Ideal S256x32x128 .f32 := Cert.FirstReferenceIdeal.Read.val_main_v191 (F := Ideal) x0 x1 x2 x3 x4 x5 x6

/-- The second edge convolution's features, of its tables and any first ones. -/
abbrev far (y : FVec Ideal S256x32x128 .f32) : FVec Ideal S256x64x128 .f32 := Cert.ReferenceIdeal.Read.val_main_v189 (F := Ideal) y x1 x7 x8 x9 x10

/-- The first edge convolution of the tables' parts is that of the tables. -/
theorem near_parts : val_main_v174 (F := Ideal) x0 x1 (Cert.FirstReferenceIdeal.Read.val_main_v19 (F := Ideal) x2)
    (Cert.FirstReferenceIdeal.Read.val_main_v20 (F := Ideal) x3)
      (Cert.FirstReferenceIdeal.Read.val_main_v82 (F := Ideal) x4) (Cert.FirstReferenceIdeal.Read.val_main_v83 (F := Ideal) x4)
          (Cert.FirstReferenceIdeal.Read.val_main_v84 (F := Ideal) x4)
      (Cert.FirstReferenceIdeal.Read.val_main_v92 (F := Ideal) x5) (Cert.FirstReferenceIdeal.Read.val_main_v94 (F := Ideal) x5)
          (Cert.FirstReferenceIdeal.Read.val_main_v125 (F := Ideal) x5)
      (Cert.FirstReferenceIdeal.Read.val_main_v127 (F := Ideal) x5) (Cert.FirstReferenceIdeal.Read.val_main_v158 (F := Ideal) x5)
          (Cert.FirstReferenceIdeal.Read.val_main_v160 (F := Ideal) x5) x6
    = near x0 x1 x2 x3 x4 x5 x6 := rfl

variable (y2 y3 : FVec Ideal S32 .f32) (y4 : FVec Ideal S32x64 .f32) (y5 y6 : FVec Ideal S32x32 .f32) (y7 y8 y9 y10 y11 y12 : FVec Ideal S32 .f32)

/-- The second edge convolution of the tables' parts is that of the tables. -/
theorem far_parts : val_main_v345 (F := Ideal) x0 x1 y2 y3 y4 y5 y6 y7 y8 y9 y10 y11 y12
      (Cert.ReferenceIdeal.Read.val_main_v49 (F := Ideal) x8) (Cert.ReferenceIdeal.Read.val_main_v83 (F := Ideal) x8)
          (Cert.ReferenceIdeal.Read.val_main_v117 (F := Ideal) x8)
      (Cert.ReferenceIdeal.Read.val_main_v57 (F := Ideal) x9) (Cert.ReferenceIdeal.Read.val_main_v59 (F := Ideal) x9)
          (Cert.ReferenceIdeal.Read.val_main_v91 (F := Ideal) x9)
      (Cert.ReferenceIdeal.Read.val_main_v93 (F := Ideal) x9) (Cert.ReferenceIdeal.Read.val_main_v125 (F := Ideal) x9)
          (Cert.ReferenceIdeal.Read.val_main_v127 (F := Ideal) x9)
      x7 (Cert.ReferenceIdeal.Read.val_main_v161 (F := Ideal) x9) (Cert.ReferenceIdeal.Read.val_main_v163 (F := Ideal) x9) x6 x10
    = far x1 x7 x8 x9 x10 (val_main_v174 (F := Ideal) x0 x1 y2 y3 y4 y5 y6 y7 y8 y9 y10 y11 y12 x6) := rfl

end Tables

variable (x0 : FVec Ideal S256x8x128 .f32) (x1 : FVec Ideal S256x32x128 .f32) (x2 x3 : FVec Ideal S32 .f32) (x4 : FVec Ideal S32x64 .f32)
  (x5 x6 : FVec Ideal S32x32 .f32) (x7 x8 x9 x10 x11 x12 : FVec Ideal S32 .f32) (x13 x14 x15 : FVec Ideal S64x64 .f32)
      (x16 x17 x18 x19 x20 x21 : FVec Ideal S64 .f32)
  (x22 : FVec Ideal S64x32 .f32) (x23 x24 : FVec Ideal S64 .f32) (x25 : FVec Ideal S128x96 .f32) (x26 x27 : FVec Ideal S128 .f32)
  (x28 : FVec Ideal S128x128 .f32) (x29 : FVec Ideal S128 .f32) (x30 : FVec Ideal S10x128 .f32) (x31 : FVec Ideal S10 .f32)
  (x32 : FVec Ideal S8x32 .f32) (x33 : FVec Ideal S8x64 .f32)

/-- The first edge convolution's features, of the plain parameters. -/
theorem near_pack : val_main_v174 (F := Ideal) x0 x1 x2 x3 x4 x5 x6 x7 x8 x9 x10 x11 x12 x32
    = near x0 x1 (rowOf x2) (rowOf x3) (weights1 x4 x5 x6) (params1 x7 x8 x9 x10 x11 x12) x32 := by
  rw [← near_parts, rowOf_same, show Cert.FirstReferenceIdeal.Read.val_main_v20 (F := Ideal)
      (rowOf x3) = x3 from rowOf_same x3, weights1_first, weights1_second, weights1_third,
    params1_0, params1_1, params1_2, params1_3, params1_4, params1_5]

/-- The second edge convolution's features, of the plain parameters. -/
theorem far_pack : val_main_v345 (F := Ideal) x0 x1 x2 x3 x4 x5 x6 x7 x8 x9 x10 x11 x12 x13 x14 x15 x16 x17 x18 x19 x20 x21 x22 x23 x24 x32 x33
    = far x1 x22 (weights2 x13 x14 x15) (params2 x16 x17 x18 x19 x20 x21 x23 x24) x33
      (val_main_v174 (F := Ideal) x0 x1 x2 x3 x4 x5 x6 x7 x8 x9 x10 x11 x12 x32) := by
  rw [← far_parts, weights2_first, weights2_second, weights2_third, params2_0, params2_1, params2_2, params2_3, params2_4, params2_5, params2_6,
    params2_7]

/-- The reference is the head of the two edge convolutions' features. -/
theorem score_eq : val_main_v394 (F := Ideal) x0 x1 x2 x3 x4 x5 x6 x7 x8 x9 x10 x11 x12 x13 x14 x15 x16 x17 x18 x19 x20 x21 x22 x23 x24 x25 x26 x27 x28 x29 x30 x31 x32 x33
    = Cert.TailReferenceIdeal.Read.val_main_v48 (F := Ideal) (val_main_v174 (F := Ideal) x0 x1 x2 x3 x4 x5 x6 x7 x8 x9 x10 x11 x12 x32)
      (val_main_v345 (F := Ideal) x0 x1 x2 x3 x4 x5 x6 x7 x8 x9 x10 x11 x12 x13 x14 x15 x16 x17 x18 x19 x20 x21 x22 x23 x24 x32 x33) x1 x25 x26 x27 x28 x29 x30 x31 := rfl

end Cert.NetReferenceIdeal.Stages

namespace Cert.NetKernelIdeal.Blocks

open Cert.NetKernelIdeal Cert.NetKernelIdeal.Gen Cert.NetKernelIdeal.Pack Idealize.ShloMosaic Idealize.ShloMosaic.TcCoe Idealize.SL.Sem
open Cert.NetReferenceIdeal.Stages (near far)

variable (m : (ℓ : Loc nD τ sig) → Buf (Elt Ideal) ℓ) (c : Dev nD)

/-- The arguments of device `c`. -/
abbrev A0 : FVec Ideal S256x8x128 .f32 := m ((c : Thread nD τ).loc main_arg0)
abbrev A1 : FVec Ideal S256x32x128 .f32 := m ((c : Thread nD τ).loc main_arg1)
abbrev A2 : FVec Ideal S32 .f32 := m ((c : Thread nD τ).loc main_arg2)
abbrev A3 : FVec Ideal S32 .f32 := m ((c : Thread nD τ).loc main_arg3)
abbrev A4 : FVec Ideal S32x64 .f32 := m ((c : Thread nD τ).loc main_arg4)
abbrev A5 : FVec Ideal S32x32 .f32 := m ((c : Thread nD τ).loc main_arg5)
abbrev A6 : FVec Ideal S32x32 .f32 := m ((c : Thread nD τ).loc main_arg6)
abbrev A7 : FVec Ideal S32 .f32 := m ((c : Thread nD τ).loc main_arg7)
abbrev A8 : FVec Ideal S32 .f32 := m ((c : Thread nD τ).loc main_arg8)
abbrev A9 : FVec Ideal S32 .f32 := m ((c : Thread nD τ).loc main_arg9)
abbrev A10 : FVec Ideal S32 .f32 := m ((c : Thread nD τ).loc main_arg10)
abbrev A11 : FVec Ideal S32 .f32 := m ((c : Thread nD τ).loc main_arg11)
abbrev A12 : FVec Ideal S32 .f32 := m ((c : Thread nD τ).loc main_arg12)
abbrev A13 : FVec Ideal S64x64 .f32 := m ((c : Thread nD τ).loc main_arg13)
abbrev A14 : FVec Ideal S64x64 .f32 := m ((c : Thread nD τ).loc main_arg14)
abbrev A15 : FVec Ideal S64x64 .f32 := m ((c : Thread nD τ).loc main_arg15)
abbrev A16 : FVec Ideal S64 .f32 := m ((c : Thread nD τ).loc main_arg16)
abbrev A17 : FVec Ideal S64 .f32 := m ((c : Thread nD τ).loc main_arg17)
abbrev A18 : FVec Ideal S64 .f32 := m ((c : Thread nD τ).loc main_arg18)
abbrev A19 : FVec Ideal S64 .f32 := m ((c : Thread nD τ).loc main_arg19)
abbrev A20 : FVec Ideal S64 .f32 := m ((c : Thread nD τ).loc main_arg20)
abbrev A21 : FVec Ideal S64 .f32 := m ((c : Thread nD τ).loc main_arg21)
abbrev A22 : FVec Ideal S64x32 .f32 := m ((c : Thread nD τ).loc main_arg22)
abbrev A23 : FVec Ideal S64 .f32 := m ((c : Thread nD τ).loc main_arg23)
abbrev A24 : FVec Ideal S64 .f32 := m ((c : Thread nD τ).loc main_arg24)
abbrev A25 : FVec Ideal S128x96 .f32 := m ((c : Thread nD τ).loc main_arg25)
abbrev A26 : FVec Ideal S128 .f32 := m ((c : Thread nD τ).loc main_arg26)
abbrev A27 : FVec Ideal S128 .f32 := m ((c : Thread nD τ).loc main_arg27)
abbrev A28 : FVec Ideal S128x128 .f32 := m ((c : Thread nD τ).loc main_arg28)
abbrev A29 : FVec Ideal S128 .f32 := m ((c : Thread nD τ).loc main_arg29)
abbrev A30 : FVec Ideal S10x128 .f32 := m ((c : Thread nD τ).loc main_arg30)
abbrev A31 : FVec Ideal S10 .f32 := m ((c : Thread nD τ).loc main_arg31)
abbrev A32 : FVec Ideal S8x32 .f32 := m ((c : Thread nD τ).loc main_arg32)
abbrev A33 : FVec Ideal S8x64 .f32 := m ((c : Thread nD τ).loc main_arg33)

/-- The tables the host lines make of them. -/
abbrev gain1 : FVec Ideal S1x32 .f32 := rowOf (A2 m c)
abbrev shift1 : FVec Ideal S1x32 .f32 := rowOf (A3 m c)
abbrev table1 : FVec Ideal S96x64 .f32 := weights1 (A4 m c) (A5 m c) (A6 m c)
abbrev rows1 : FVec Ideal S6x32 .f32 := params1 (A7 m c) (A8 m c) (A9 m c) (A10 m c) (A11 m c) (A12 m c)
abbrev table2 : FVec Ideal S192x64 .f32 := weights2 (A13 m c) (A14 m c) (A15 m c)
abbrev rows2 : FVec Ideal S8x64 .f32 := params2 (A16 m c) (A17 m c) (A18 m c) (A19 m c) (A20 m c) (A21 m c) (A23 m c) (A24 m c)

/-- The first edge convolution's features of the arguments. -/
abbrev fts1 : FVec Ideal S256x32x128 .f32 := near (A0 m c) (A1 m c) (gain1 m c) (shift1 m c) (table1 m c) (rows1 m c) (A32 m c)

/-- The second edge convolution's features of the arguments. -/
abbrev fts2 : FVec Ideal S256x64x128 .f32 := far (A1 m c) (A22 m c) (table2 m c) (rows2 m c) (A33 m c) (fts1 m c)

/-- The reference's first features are these. -/
theorem fts1_same : Cert.NetReferenceIdeal.Read.val_main_v174 (F := Ideal) (A0 m c) (A1 m c) (A2 m c) (A3 m c) (A4 m c) (A5 m c) (A6 m c) (A7 m c)
    (A8 m c) (A9 m c) (A10 m c) (A11 m c) (A12 m c) (A32 m c) = fts1 m c :=
  Cert.NetReferenceIdeal.Stages.near_pack (A0 m c) (A1 m c) (A2 m c) (A3 m c) (A4 m c) (A5 m c) (A6 m c) (A7 m c) (A8 m c) (A9 m c) (A10 m c) (A11 m c)
      (A12 m c) (A32 m c)

/-- The reference's second features are these. -/
theorem fts2_same : Cert.NetReferenceIdeal.Read.val_main_v345 (F := Ideal) (A0 m c) (A1 m c) (A2 m c) (A3 m c) (A4 m c) (A5 m c) (A6 m c) (A7 m c)
    (A8 m c) (A9 m c) (A10 m c) (A11 m c) (A12 m c) (A13 m c) (A14 m c) (A15 m c) (A16 m c) (A17 m c) (A18 m c) (A19 m c) (A20 m c) (A21 m c) (A22 m c)
        (A23 m c) (A24 m c) (A32 m c) (A33 m c) = fts2 m c :=
  (Cert.NetReferenceIdeal.Stages.far_pack (A0 m c) (A1 m c) (A2 m c) (A3 m c) (A4 m c) (A5 m c) (A6 m c) (A7 m c) (A8 m c) (A9 m c) (A10 m c) (A11 m c)
      (A12 m c) (A13 m c) (A14 m c) (A15 m c) (A16 m c) (A17 m c) (A18 m c) (A19 m c) (A20 m c) (A21 m c) (A22 m c) (A23 m c) (A24 m c) (A32 m c)
          (A33 m c)).trans (congrArg (far (A1 m c) (A22 m c) (table2 m c) (rows2 m c) (A33 m c)) (fts1_same m c))

/-- Two conditions hold when their conjunction does. -/
theorem both_hold (x y : IVec S_ 1) : (andi x y = fun _ => 1#1) ↔ (x = fun _ => 1#1) ∧ y = fun _ => 1#1 :=
  ⟨fun h => ⟨funext fun i => (IntOp.andi_eq_one.1 (congrFun h i)).1, funext fun i => (IntOp.andi_eq_one.1 (congrFun h i)).2⟩,
    fun h => funext fun i => IntOp.andi_eq_one.2 ⟨congrFun h.1 i, congrFun h.2 i⟩⟩

/-- A condition on every entry holds of each. -/
theorem each_holds {s : Shape} {axes : List (Fin s.rank)} (p : IVec s 1) (init : IVec S_ 1) (h : s.ReducesTo axes S_) (hu : 0 < S_.numel)
    (e : Host.reduce IntOp.andi p init h hu = fun _ => 1#1) : p = fun _ => 1#1 :=
  haveI : Subsingleton S_.Idx := ⟨fun a b => funext fun k => k.elim0⟩
  funext fun i => Host.reduce_andi_all p init h hu (fun k => k.elim0) (congrFun e _) i

/-- Whether every entry of an array is real. -/
abbrev every {s : Shape} {axes : List (Fin s.rank)} (x : FVec Ideal s .f32) (h : s.ReducesTo axes S_) : IVec S_ 1 :=
  Host.reduce IntOp.andi (fun i => BitVec.ofBool (decide (max (x i) (-(x i)) < Ideal.ofBits .f32 0x7F800000#32))) (constantI S_ 1 1#1) h
    (by decide)

theorem every_fine {s : Shape} {axes : List (Fin s.rank)} (x : FVec Ideal s .f32) (h : s.ReducesTo axes S_) (e : every x h = fun _ => 1#1) (i) :
    Net.Fine (x i) :=
  Cert.Pre_first_separated.Bounds.fine_entries x (each_holds _ _ _ _ e) i

/-- Four conditions on every entry hold of each. -/
theorem four_hold {s : Shape} {axes : List (Fin s.rank)} {p q r t : IVec s 1} {i0 i1 i2 i3 : IVec S_ 1} {h : s.ReducesTo axes S_} {hu : 0 < S_.numel}
    (e : andi (andi (andi (Host.reduce IntOp.andi p i0 h hu) (Host.reduce IntOp.andi q i1 h hu)) (Host.reduce IntOp.andi r i2 h hu))
      (Host.reduce IntOp.andi t i3 h hu) = fun _ => 1#1) :
    (p = fun _ => 1#1) ∧ (q = fun _ => 1#1) ∧ (r = fun _ => 1#1) ∧ t = fun _ => 1#1 := by
  obtain ⟨e', e3⟩ := (both_hold _ _).1 e
  obtain ⟨e', e2⟩ := (both_hold _ _).1 e'
  obtain ⟨e0, e1⟩ := (both_hold _ _).1 e'
  exact ⟨each_holds _ _ _ _ e0, each_holds _ _ _ _ e1, each_holds _ _ _ _ e2, each_holds _ _ _ _ e3⟩

variable (hpre : Cert.Pre_NetKernelIdeal_both_separated m)

include hpre

/-- Under the precondition these arguments are real. -/
theorem args_fine : (∀ i, Net.Fine (A0 m c i)) ∧ (∀ i, Net.Fine (A1 m c i)) ∧ (∀ i, Net.Fine (A2 m c i)) ∧ (∀ i, Net.Fine (A3 m c i))
    ∧ (∀ i, Net.Fine (A4 m c i)) ∧ (∀ i, Net.Fine (A5 m c i)) ∧ (∀ i, Net.Fine (A6 m c i)) ∧ (∀ i, Net.Fine (A7 m c i))
    ∧ (∀ i, Net.Fine (A8 m c i)) ∧ (∀ i, Net.Fine (A9 m c i)) ∧ (∀ i, Net.Fine (A10 m c i)) ∧ (∀ i, Net.Fine (A11 m c i))
    ∧ (∀ i, Net.Fine (A12 m c i)) ∧ (∀ i, Net.Fine (A13 m c i)) ∧ (∀ i, Net.Fine (A14 m c i)) ∧ (∀ i, Net.Fine (A15 m c i))
    ∧ (∀ i, Net.Fine (A16 m c i)) ∧ (∀ i, Net.Fine (A17 m c i)) ∧ (∀ i, Net.Fine (A18 m c i)) ∧ (∀ i, Net.Fine (A19 m c i))
    ∧ (∀ i, Net.Fine (A20 m c i)) ∧ (∀ i, Net.Fine (A21 m c i)) ∧ (∀ i, Net.Fine (A22 m c i)) ∧ (∀ i, Net.Fine (A23 m c i))
    ∧ (∀ i, Net.Fine (A24 m c i)) ∧ (∀ i, Net.Fine (A25 m c i)) ∧ (∀ i, Net.Fine (A26 m c i)) ∧ (∀ i, Net.Fine (A32 m c i))
    ∧ (∀ i, Net.Fine (A33 m c i)) := by
  obtain ⟨h, -⟩ := hpre c
  have h : (
    andi (andi (andi (andi (andi (andi (andi (andi (andi (andi (andi (andi (andi (andi (andi (andi (andi (andi (andi (andi (andi (andi (andi (andi (andi (andi (andi (andi (every (A0 m c) Cert.Pre_both_separated.Facts.reducesTo_S256x8x128_S_d0_1_2) (every (A1 m c) Cert.Pre_both_separated.Facts.reducesTo_S256x32x128_S_d0_1_2))
      (every (A2 m c) Cert.Pre_both_separated.Facts.reducesTo_S32_S_d0))
      (every (A3 m c) Cert.Pre_both_separated.Facts.reducesTo_S32_S_d0))
      (every (A4 m c) Cert.Pre_both_separated.Facts.reducesTo_S32x64_S_d0_1))
      (every (A5 m c) Cert.Pre_both_separated.Facts.reducesTo_S32x32_S_d0_1))
      (every (A6 m c) Cert.Pre_both_separated.Facts.reducesTo_S32x32_S_d0_1))
      (every (A7 m c) Cert.Pre_both_separated.Facts.reducesTo_S32_S_d0))
      (every (A8 m c) Cert.Pre_both_separated.Facts.reducesTo_S32_S_d0))
      (every (A9 m c) Cert.Pre_both_separated.Facts.reducesTo_S32_S_d0))
      (every (A10 m c) Cert.Pre_both_separated.Facts.reducesTo_S32_S_d0))
      (every (A11 m c) Cert.Pre_both_separated.Facts.reducesTo_S32_S_d0))
      (every (A12 m c) Cert.Pre_both_separated.Facts.reducesTo_S32_S_d0))
      (every (A13 m c) Cert.Pre_both_separated.Facts.reducesTo_S64x64_S_d0_1))
      (every (A14 m c) Cert.Pre_both_separated.Facts.reducesTo_S64x64_S_d0_1))
      (every (A15 m c) Cert.Pre_both_separated.Facts.reducesTo_S64x64_S_d0_1))
      (every (A16 m c) Cert.Pre_both_separated.Facts.reducesTo_S64_S_d0))
      (every (A17 m c) Cert.Pre_both_separated.Facts.reducesTo_S64_S_d0))
      (every (A18 m c) Cert.Pre_both_separated.Facts.reducesTo_S64_S_d0))
      (every (A19 m c) Cert.Pre_both_separated.Facts.reducesTo_S64_S_d0))
      (every (A20 m c) Cert.Pre_both_separated.Facts.reducesTo_S64_S_d0))
      (every (A21 m c) Cert.Pre_both_separated.Facts.reducesTo_S64_S_d0))
      (every (A22 m c) Cert.Pre_both_separated.Facts.reducesTo_S64x32_S_d0_1))
      (every (A23 m c) Cert.Pre_both_separated.Facts.reducesTo_S64_S_d0))
      (every (A24 m c) Cert.Pre_both_separated.Facts.reducesTo_S64_S_d0))
      (every (A25 m c) Cert.Pre_both_separated.Facts.reducesTo_S128x96_S_d0_1))
      (every (A26 m c) Cert.Pre_both_separated.Facts.reducesTo_S128_S_d0))
      (every (A32 m c) Cert.Pre_both_separated.Facts.reducesTo_S8x32_S_d0_1))
      (every (A33 m c) Cert.Pre_both_separated.Facts.reducesTo_S8x64_S_d0_1)) = fun _ => 1#1 := h
  simp only [both_hold, and_assoc] at h
  obtain ⟨f0, f1, f2, f3, f4, f5, f6, f7, f8, f9, f10, f11, f12, f13, f14, f15, f16, f17, f18, f19, f20, f21, f22, f23, f24, f25, f26, f32, f33⟩ := h
  exact ⟨every_fine _ _ f0, every_fine _ _ f1, every_fine _ _ f2, every_fine _ _ f3, every_fine _ _ f4, every_fine _ _ f5, every_fine _ _ f6,
    every_fine _ _ f7, every_fine _ _ f8, every_fine _ _ f9, every_fine _ _ f10, every_fine _ _ f11, every_fine _ _ f12, every_fine _ _ f13,
    every_fine _ _ f14, every_fine _ _ f15, every_fine _ _ f16, every_fine _ _ f17, every_fine _ _ f18, every_fine _ _ f19, every_fine _ _ f20,
    every_fine _ _ f21, every_fine _ _ f22, every_fine _ _ f23, every_fine _ _ f24, every_fine _ _ f25, every_fine _ _ f26, every_fine _ _ f32,
    every_fine _ _ f33⟩

/-- Under the precondition the first edge convolution's arguments are as they should be. -/
theorem first_regular : Cert.FirstKernelIdeal.Blocks.Regular (A0 m c) (A1 m c) (gain1 m c) (shift1 m c) (table1 m c) (rows1 m c) (A32 m c) := by
  obtain ⟨f0, f1, f2, f3, f4, f5, f6, f7, f8, f9, f10, f11, f12, -, -, -, -, -, -, -, -, -, -, -, -, -, -, f32, -⟩ := args_fine m c hpre
  obtain ⟨-, v, -, ap, -⟩ := hpre c
  obtain ⟨as_, a0, a1, a2⟩ := four_hold v
  exact {
    points := f0
    features := f1
    gain := rowOf_fine _ f2
    shift := rowOf_fine _ f3
    weights := weights1_fine _ _ _ f4 f5
        f6
    params := params1_fine _ _ _ _ _ _ f7 f8
        f9 f10
        f11 f12
    sums := f32
    varianceShort := Cert.Pre_first_separated.Bounds.variance_short (A0 m c) (A1 m c) (gain1 m c) (shift1 m c) (table1 m c) (rows1 m c) (A32 m c) as_
    variance0 := Cert.Pre_first_separated.Bounds.variance0 (A0 m c) (A1 m c) (gain1 m c) (shift1 m c) (table1 m c) (rows1 m c) (A32 m c) a0
    variance1 := Cert.Pre_first_separated.Bounds.variance1 (A0 m c) (A1 m c) (gain1 m c) (shift1 m c) (table1 m c) (rows1 m c) (A32 m c) a1
    variance2 := Cert.Pre_first_separated.Bounds.variance2 (A0 m c) (A1 m c) (gain1 m c) (shift1 m c) (table1 m c) (rows1 m c) (A32 m c) a2
    apart := Cert.Pre_first_separated.Bounds.apart (A0 m c) (A1 m c) (gain1 m c) (shift1 m c) (table1 m c) (rows1 m c) (A32 m c) ap }

/-- The first edge convolution's features are real. -/
theorem fts1_fine (y) : Net.Fine (fts1 m c y) := by
  have hy : y = ix3 (⟨(y 0).val, (y 0).isLt⟩ : Fin 256) (⟨(y 1).val, (y 1).isLt⟩ : Fin 32) (⟨(y 2).val, (y 2).isLt⟩ : Fin 128) := by
    funext a
    match a with
    | ⟨0, _⟩ => rfl
    | ⟨1, _⟩ => rfl
    | ⟨2, _⟩ => rfl
  rw [hy]
  exact (congrArg Net.Fine ((first_regular m c hpre).agree _ _ _)).mp ((first_regular m c hpre).fine _ _ _)

/-- Under the precondition the second edge convolution's arguments are as they should be. -/
theorem second_regular : Cert.KernelIdeal.Blocks.Regular (fts1 m c) (A1 m c) (A22 m c) (table2 m c) (rows2 m c) (A33 m c) := by
  obtain ⟨-, -, -, -, -, -, -, -, -, -, -, -, -, f13, f14, f15, f16, f17, f18, f19, f20, f21, f22, f23, f24, -, -, -, f33⟩ := args_fine m c hpre
  obtain ⟨-, -, v, -, aq⟩ := hpre c
  obtain ⟨bs, b0, b1, b2⟩ := four_hold v
  exact {
    points := fts1_fine m c hpre
    short := f22
    weights := weights2_fine _ _ _ f13 f14
        f15
    params := params2_fine _ _ _ _ _ _ _ _ f16 f17
        f18 f19
        f20 f21
        f23 f24
    sums := f33
    varianceShort := Cert.Pre_separated.Bounds.variance_short (fts1 m c) (A1 m c) (A22 m c) (table2 m c) (rows2 m c) (A33 m c) bs
    variance0 := Cert.Pre_separated.Bounds.variance0 (fts1 m c) (A1 m c) (A22 m c) (table2 m c) (rows2 m c) (A33 m c) b0
    variance1 := Cert.Pre_separated.Bounds.variance1 (fts1 m c) (A1 m c) (A22 m c) (table2 m c) (rows2 m c) (A33 m c) b1
    variance2 := Cert.Pre_separated.Bounds.variance2 (fts1 m c) (A1 m c) (A22 m c) (table2 m c) (rows2 m c) (A33 m c) b2
    apart := by
      rw [← fts1_same m c]
      exact Cert.Pre_separated.Bounds.apart (Cert.NetReferenceIdeal.Read.val_main_v174 (F := Ideal) (A0 m c) (A1 m c) (A2 m c) (A3 m c) (A4 m c) (A5 m c)
          (A6 m c) (A7 m c) (A8 m c) (A9 m c) (A10 m c) (A11 m c) (A12 m c) (A32 m c)) (A1 m c) (A22 m c) (table2 m c) (rows2 m c) (A33 m c) aq }

/-- The second edge convolution's features are real. -/
theorem fts2_fine (y) : Net.Fine (fts2 m c y) := by
  have hy : y = ix3 (⟨(y 0).val, (y 0).isLt⟩ : Fin 256) (⟨(y 1).val, (y 1).isLt⟩ : Fin 64) (⟨(y 2).val, (y 2).isLt⟩ : Fin 128) := by
    funext a
    match a with
    | ⟨0, _⟩ => rfl
    | ⟨1, _⟩ => rfl
    | ⟨2, _⟩ => rfl
  rw [hy]
  exact (congrArg Net.Fine ((second_regular m c hpre).agree _ _ _)).mp ((second_regular m c hpre).fine _ _ _)

theorem weight_fine (y) : Net.Fine (A25 m c y) := by
  obtain ⟨-, -, -, -, -, -, -, -, -, -, -, -, -, -, -, -, -, -, -, -, -, -, -, -, -, f25, -⟩ := args_fine m c hpre
  exact f25 y

theorem gain_fine (y) : Net.Fine (A26 m c y) := by
  obtain ⟨-, -, -, -, -, -, -, -, -, -, -, -, -, -, -, -, -, -, -, -, -, -, -, -, -, -, f26, -⟩ := args_fine m c hpre
  exact f26 y

end Cert.NetKernelIdeal.Blocks

end

end
-- ==== Proof.NetRun.lean ====
/- The four calls as one program: what its run leaves. -/
module

public import Idealize.ShloMosaic.Lib.Pipeline.RegionsLoop
public import proofs.«01_k».proof.Proof.Gen.NetKernelIdeal.Frame

@[expose] public section

set_option maxRecDepth 16384

noncomputable section

namespace Cert.NetKernelIdeal.Run

open Cert.NetKernelIdeal Cert.NetKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] (m : (ℓ : Loc nD τ sig) → Buf (Elt F) ℓ) (ρ : Dev nD → PrngReg)

set_option backward.isDefEq.respectTransparency.types false in
/-- Every run ends, with the result at what the last host line leaves in it and the arguments as they were. -/
theorem run : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c),
       (h c _ (mem_uc main_arg30 (by decide))).trans (W8_main_arg30 m ρ c),
       (h c _ (mem_uc main_arg31 (by decide))).trans (W8_main_arg31 m ρ c),
       (h c _ (mem_uc main_arg32 (by decide))).trans (W8_main_arg32 m ρ c),
       (h c _ (mem_uc main_arg33 (by decide))).trans (W8_main_arg33 m ρ c)⟩)

end Cert.NetKernelIdeal.Run

end

end
-- ==== Proof.NetBlocks.lean ====
/- The four calls as one program: its result array is its reference's. -/
module

public import proofs.«01_k».proof.Proof.NetSecond
public import proofs.«01_k».proof.Proof.NetFirst
public import proofs.«01_k».proof.Proof.NetBounds
public import proofs.«01_k».proof.Proof.NetRun
public import proofs.«01_k».proof.Proof.TailBlocks

@[expose] public section

set_option maxRecDepth 16384

noncomputable section

namespace Cert.NetKernelIdeal.Blocks

open Cert.NetKernelIdeal Cert.NetKernelIdeal.Gen Idealize.ShloMosaic Idealize.ShloMosaic.TcCoe Idealize.SL.Sem
open Cert.SumsKernelIdeal.Blocks (both_rows row_emb canon_same canon_other part part_total part_squares)
open Cert.HeadKernelIdeal.Tables (padded paddedRow stacked)
open Cert.NetKernelIdeal.Pack
open Cert.HeadReferenceIdeal.Stages (fusedOf)
open Cert.TailKernelIdeal.Blocks (row moves still part_sums value value_apply value_agree)
open Cert.KernelIdeal.Chained (same_shape)

/-! ## The bodies -/

/-- The first edge convolution's body is the body of the call on its own. -/
theorem first_body (x0 : Vec Ideal S8x8x128 .f32) (x1 : Vec Ideal S8x32x128 .f32) (x2 x3 : Vec Ideal S1x32 .f32) (x4 : Vec Ideal S96x64 .f32)
    (x5 : Vec Ideal S6x32 .f32) (x6 : Vec Ideal S8x32 .f32) :
    out0_7 (F := Ideal) x0 x1 x2 x3 x4 x5 x6 = Cert.FirstKernelIdeal.Gen.out0_7 (F := Ideal) x0 x1 x2 x3 x4 x5 x6 :=
  Cert.FirstKernelIdeal.Chained.out_eq x0 x1 x2 x3 x4 x5 x6

section Sums

variable (c : Dev nD) (i : grid2.Coords) (arg1 : Memref sig .tc .vmem S8x32x128 .f32) (harg1 : arg1.IsWhole)
  (arg2 : Memref sig .tc .vmem S8x64x128 .f32) (harg2 : arg2.IsWhole) (arg3 : Memref sig .tc .vmem S128x96 .f32) (harg3 : arg3.IsWhole)
  (arg4 : Memref sig .tc .vmem S2x128 .f32) (harg4 : arg4.IsWhole)
  (x0 : Vec Ideal S8x32x128 .f32) (x1 : Vec Ideal S8x64x128 .f32) (x2 : Vec Ideal S128x96 .f32)

theorem total_apply (v : Vec Ideal S1x128 .f32) (o : Fin 128) :
    (k2_pay4 x0 x1 x2 v (ix2 0 o) : Ideal .f32) = v (ix2 0 o) + part x0 x1 x2 (ix2 0 o) := by
  have h : k2_pay4 (F := Ideal) x0 x1 x2 v = Cert.TailKernelIdeal.Gen.k0_pay3 (F := Ideal) x0 x1 x2 v :=
    congrArg₂ (fun a b => Cert.TailKernelIdeal.Gen.k0_pay3 (F := Ideal) a b x2 v) (same_shape x0 _) (same_shape x1 _)
  rw [h, Cert.TailKernelIdeal.Blocks.total_apply]

theorem squares_apply (v : Vec Ideal S1x128 .f32) (o : Fin 128) :
    (k2_pay1 (k2_pay5 x0 x1 x2 v) (ix2 0 o) : Ideal .f32) = v (ix2 0 o) + part x0 x1 x2 (ix2 1 o) := by
  have h : k2_pay1 (k2_pay5 (F := Ideal) x0 x1 x2 v) = Cert.TailKernelIdeal.Gen.k0_pay4 (F := Ideal) x0 x1 x2 v :=
    congrArg₂ (fun a b => Cert.TailKernelIdeal.Gen.k0_pay4 (F := Ideal) a b x2 v) (same_shape x0 _) (same_shape x1 _)
  rw [h, Cert.TailKernelIdeal.Blocks.squares_apply]

/-- At a later block the third call adds the block's sums to the rows it finds. -/
theorem later_apply (hc : ¬cond2_0 i) (xo : Vec Ideal S2x128 .f32) (j : S2x128.Idx) :
    (out2_B_3 c i arg1 harg1 arg2 harg2 arg3 harg3 arg4 harg4 hc x0 x1 x2 xo j : Ideal .f32) = xo j + part x0 x1 x2 j := by
  frame_out
  revert j
  refine both_rows (fun o => ?_) fun o => ?_
  · rw [canon_other 1 0 (by decide) 1 rfl, canon_same 0 0 rfl, total_apply]
    exact congrArg (fun y => (xo y : EReal) + _) (row_emb 0 0 rfl _ o)
  · rw [canon_same 1 1 rfl, squares_apply]
    exact congrArg (fun y => (xo y : EReal) + _) (row_emb 1 1 rfl _ o)

/-- At the first block the third call leaves the block's sums. -/
theorem first_apply (hc : cond2_0 i) (j : S2x128.Idx) :
    (out2_A_3 (F := Ideal) c i arg1 harg1 arg2 harg2 arg3 harg3 arg4 harg4 hc x0 x1 x2 j : Ideal .f32) = 0 + part x0 x1 x2 j := by
  frame_out
  simp only [View.readCov_eq_canon']
  revert j
  refine both_rows (fun o => ?_) fun o => ?_
  · rw [canon_other 1 0 (by decide) 1 rfl, canon_same 0 0 rfl, total_apply]
    refine congrArg (fun y : EReal => y + _) ?_
    rw [View.canon_cons_unit_lit _ _ _ (by decide)]
    pointwise [k2_pay2]
  · rw [canon_same 1 1 rfl, squares_apply]
    refine congrArg (fun y : EReal => y + _) ?_
    refine (congrArg (View.canon _) (row_emb 1 1 rfl _ o)).trans ?_
    rw [canon_other 0 1 (by decide) 0 rfl, View.canon_cons_unit_lit _ _ _ (by decide)]
    pointwise [k2_pay2]

end Sums

theorem fused_same (x0 : Vec Ideal S8x32x128 .f32) (x1 : Vec Ideal S8x64x128 .f32) (x2 : Vec Ideal S128x96 .f32) :
    k3_pay3 (F := Ideal) x0 x1 x2 = Cert.HeadKernelIdeal.Gen.k0_pay3 (F := Ideal) x0 x1 x2 :=
  congrArg₂ (fun a b => Cert.HeadKernelIdeal.Gen.k0_pay3 (F := Ideal) a b x2) (same_shape x0 _) (same_shape x1 _)

/-- The head's body is the body of the call on its own. -/
theorem head_body (x0 : Vec Ideal S8x32x128 .f32) (x1 : Vec Ideal S8x64x128 .f32) (x2 : Vec Ideal S8x32x128 .f32) (x3 : Vec Ideal S128x96 .f32)
    (x4 : Vec Ideal S4x128 .f32) (x5 : Vec Ideal S128x128 .f32) (x6 : Vec Ideal S16x128 .f32) (x7 : Vec Ideal S2x128 .f32) :
    out3_8 (F := Ideal) x0 x1 x2 x3 x4 x5 x6 x7 = Cert.HeadKernelIdeal.Gen.out0_8 (F := Ideal) x0 x1 x2 x3 x4 x5 x6 x7 := by
  unfold out3_8
  rw [fused_same]
  rfl

/-! ## The blocks -/

section Entry

variable (c : Dev nD) (V : (c : Dev nD) → (b : Ref sig .tc) → Buf (Elt Ideal) ((c : Thread nD τ).loc b))

theorem moved0 : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ win0_7.index t 0 = t.val ∧ win0_7.index t 1 = 0 ∧ win0_7.index t 2 = 0 :=
  (by decide +kernel : ∀ t : Fin grid0.N, _)

theorem fixed0 : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) :=
  (by decide +kernel : ∀ t : Fin grid0.N, _)

theorem moved1 : ∀ t : Fin cfg1.N, (win1_0.index t 0 = t.val ∧ win1_0.index t 1 = 0 ∧ win1_0.index t 2 = 0)
    ∧ (win1_1.index t 0 = t.val ∧ win1_1.index t 1 = 0 ∧ win1_1.index t 2 = 0)
    ∧ win1_6.index t 0 = t.val ∧ win1_6.index t 1 = 0 ∧ win1_6.index t 2 = 0 :=
  (by decide +kernel : ∀ t : Fin grid1.N, _)

theorem fixed1 : ∀ t : Fin cfg1.N, (∀ a, win1_2.index t a = 0) ∧ (∀ a, win1_3.index t a = 0) ∧ (∀ a, win1_4.index t a = 0)
    ∧ (∀ a, win1_5.index t a = 0) :=
  (by decide +kernel : ∀ t : Fin grid1.N, _)

theorem indices2 : ∀ t : Fin cfg2.N, (win2_0.index t 0 = t.val ∧ win2_0.index t 1 = 0 ∧ win2_0.index t 2 = 0)
    ∧ (win2_1.index t 0 = t.val ∧ win2_1.index t 1 = 0 ∧ win2_1.index t 2 = 0) ∧ ∀ a, win2_2.index t a = 0 :=
  (by decide +kernel : ∀ t : Fin grid2.N, _)

theorem moved3 : ∀ t : Fin cfg3.N, (win3_0.index t 0 = t.val ∧ win3_0.index t 1 = 0 ∧ win3_0.index t 2 = 0)
    ∧ (win3_1.index t 0 = t.val ∧ win3_1.index t 1 = 0 ∧ win3_1.index t 2 = 0)
    ∧ (win3_2.index t 0 = t.val ∧ win3_2.index t 1 = 0 ∧ win3_2.index t 2 = 0)
    ∧ win3_8.index t 0 = t.val ∧ win3_8.index t 1 = 0 :=
  (by decide +kernel : ∀ t : Fin grid3.N, _)

theorem fixed3 : ∀ t : Fin cfg3.N, (∀ a, win3_3.index t a = 0) ∧ (∀ a, win3_4.index t a = 0) ∧ (∀ a, win3_5.index t a = 0)
    ∧ (∀ a, win3_6.index t a = 0) ∧ (∀ a, win3_7.index t a = 0) :=
  (by decide +kernel : ∀ t : Fin grid3.N, _)

theorem lt0 (t : Fin cfg0.N) : t.val < 32 := t.isLt
theorem lt1 (t : Fin cfg1.N) : t.val < 32 := t.isLt
theorem lt2 (t : Fin cfg2.N) : t.val < 32 := t.isLt
theorem lt3 (t : Fin cfg3.N) : t.val < 32 := t.isLt

theorem blk0_0 (t : Fin cfg0.N) (i : Fin 8) (k : Fin 8) (n : Fin 128) :
    (iblk0 V c 0 t (ix3 i k n) : Ideal .f32) = V c main_arg0 (ix3 (row t.val (lt0 t) i) k n) :=
  moves (V c main_arg0) t.val (lt0 t) i k n _ (win0_0.index t) (moved0 t).1 rfl rfl rfl

theorem blk0_1 (t : Fin cfg0.N) (i : Fin 8) (k : Fin 32) (n : Fin 128) :
    (iblk0 V c 1 t (ix3 i k n) : Ideal .f32) = V c main_arg1 (ix3 (row t.val (lt0 t) i) k n) :=
  moves (V c main_arg1) t.val (lt0 t) i k n _ (win0_1.index t) (moved0 t).2.1 rfl rfl rfl

theorem blk0_2 (t : Fin cfg0.N) : (iblk0 V c 2 t : FVec Ideal S1x32 .f32) = V c main_v18 :=
  funext fun y => still (V c main_v18) y _ (win0_2.index t) (fixed0 t).1 rfl rfl

theorem blk0_3 (t : Fin cfg0.N) : (iblk0 V c 3 t : FVec Ideal S1x32 .f32) = V c main_v19 :=
  funext fun y => still (V c main_v19) y _ (win0_3.index t) (fixed0 t).2.1 rfl rfl

theorem blk0_4 (t : Fin cfg0.N) : (iblk0 V c 4 t : FVec Ideal S96x64 .f32) = V c main_v10 :=
  funext fun y => still (V c main_v10) y _ (win0_4.index t) (fixed0 t).2.2.1 rfl rfl

theorem blk0_5 (t : Fin cfg0.N) : (iblk0 V c 5 t : FVec Ideal S6x32 .f32) = V c main_v17 :=
  funext fun y => still (V c main_v17) y _ (win0_5.index t) (fixed0 t).2.2.2.1 rfl rfl

theorem blk0_6 (t : Fin cfg0.N) : (iblk0 V c 6 t : FVec Ideal S8x32 .f32) = V c main_arg32 :=
  funext fun y => still (V c main_arg32) y _ (win0_6.index t) (fixed0 t).2.2.2.2 rfl rfl

theorem blk1_0 (t : Fin cfg1.N) (i : Fin 8) (k : Fin 32) (n : Fin 128) :
    (iblk1 V c 0 t (ix3 i k n) : Ideal .f32) = V c main_v20 (ix3 (row t.val (lt1 t) i) k n) :=
  moves (V c main_v20) t.val (lt1 t) i k n _ (win1_0.index t) (moved1 t).1 rfl rfl rfl

theorem blk1_1 (t : Fin cfg1.N) (i : Fin 8) (k : Fin 32) (n : Fin 128) :
    (iblk1 V c 1 t (ix3 i k n) : Ideal .f32) = V c main_arg1 (ix3 (row t.val (lt1 t) i) k n) :=
  moves (V c main_arg1) t.val (lt1 t) i k n _ (win1_1.index t) (moved1 t).2.1 rfl rfl rfl

theorem blk1_2 (t : Fin cfg1.N) : (iblk1 V c 2 t : FVec Ideal S64x32 .f32) = V c main_arg22 :=
  funext fun y => still (V c main_arg22) y _ (win1_2.index t) (fixed1 t).1 rfl rfl

theorem blk1_3 (t : Fin cfg1.N) : (iblk1 V c 3 t : FVec Ideal S192x64 .f32) = V c main_v21 :=
  funext fun y => still (V c main_v21) y _ (win1_3.index t) (fixed1 t).2.1 rfl rfl

theorem blk1_4 (t : Fin cfg1.N) : (iblk1 V c 4 t : FVec Ideal S8x64 .f32) = V c main_v30 :=
  funext fun y => still (V c main_v30) y _ (win1_4.index t) (fixed1 t).2.2.1 rfl rfl

theorem blk1_5 (t : Fin cfg1.N) : (iblk1 V c 5 t : FVec Ideal S8x64 .f32) = V c main_arg33 :=
  funext fun y => still (V c main_arg33) y _ (win1_5.index t) (fixed1 t).2.2.2 rfl rfl

theorem blk2_0 (t : Fin cfg2.N) (i : Fin 8) (k : Fin 32) (n : Fin 128) :
    (iblk2 V c 0 t (ix3 i k n) : Ideal .f32) = V c main_v20 (ix3 (row t.val (lt2 t) i) k n) :=
  moves (V c main_v20) t.val (lt2 t) i k n _ (win2_0.index t) (indices2 t).1 rfl rfl rfl

theorem blk2_1 (t : Fin cfg2.N) (i : Fin 8) (k : Fin 64) (n : Fin 128) :
    (iblk2 V c 1 t (ix3 i k n) : Ideal .f32) = V c main_v31 (ix3 (row t.val (lt2 t) i) k n) :=
  moves (V c main_v31) t.val (lt2 t) i k n _ (win2_1.index t) (indices2 t).2.1 rfl rfl rfl

theorem blk2_2 (t : Fin cfg2.N) : (iblk2 V c 2 t : FVec Ideal S128x96 .f32) = V c main_arg25 :=
  funext fun y => still (V c main_arg25) y _ (win2_2.index t) (indices2 t).2.2 rfl rfl

theorem blk3_0 (t : Fin cfg3.N) (i : Fin 8) (k : Fin 32) (n : Fin 128) :
    (iblk3 V c 0 t (ix3 i k n) : Ideal .f32) = V c main_v20 (ix3 (row t.val (lt3 t) i) k n) :=
  moves (V c main_v20) t.val (lt3 t) i k n _ (win3_0.index t) (moved3 t).1 rfl rfl rfl

theorem blk3_1 (t : Fin cfg3.N) (i : Fin 8) (k : Fin 64) (n : Fin 128) :
    (iblk3 V c 1 t (ix3 i k n) : Ideal .f32) = V c main_v31 (ix3 (row t.val (lt3 t) i) k n) :=
  moves (V c main_v31) t.val (lt3 t) i k n _ (win3_1.index t) (moved3 t).2.1 rfl rfl rfl

theorem blk3_2 (t : Fin cfg3.N) (i : Fin 8) (k : Fin 32) (n : Fin 128) :
    (iblk3 V c 2 t (ix3 i k n) : Ideal .f32) = V c main_arg1 (ix3 (row t.val (lt3 t) i) k n) :=
  moves (V c main_arg1) t.val (lt3 t) i k n _ (win3_2.index t) (moved3 t).2.2.1 rfl rfl rfl

theorem blk3_3 (t : Fin cfg3.N) : (iblk3 V c 3 t : FVec Ideal S128x96 .f32) = V c main_arg25 :=
  funext fun y => still (V c main_arg25) y _ (win3_3.index t) (fixed3 t).1 rfl rfl

theorem blk3_4 (t : Fin cfg3.N) : (iblk3 V c 4 t : FVec Ideal S4x128 .f32) = V c main_v43 :=
  funext fun y => still (V c main_v43) y _ (win3_4.index t) (fixed3 t).2.1 rfl rfl

theorem blk3_5 (t : Fin cfg3.N) : (iblk3 V c 5 t : FVec Ideal S128x128 .f32) = V c main_arg28 :=
  funext fun y => still (V c main_arg28) y _ (win3_5.index t) (fixed3 t).2.2.1 rfl rfl

theorem blk3_6 (t : Fin cfg3.N) : (iblk3 V c 6 t : FVec Ideal S16x128 .f32) = V c main_v35 :=
  funext fun y => still (V c main_v35) y _ (win3_6.index t) (fixed3 t).2.2.2.1 rfl rfl

theorem blk3_7 (t : Fin cfg3.N) : (iblk3 V c 7 t : FVec Ideal S2x128 .f32) = V c main_v32 :=
  funext fun y => still (V c main_v32) y _ (win3_7.index t) (fixed3 t).2.2.2.2 rfl rfl

/-- What block `t` of the first call computes, entry by entry. -/
theorem first_block (t : Fin cfg0.N) (i : Fin 8) (o : Fin 32) (n : Fin 128) :
    (out0_7 (F := Ideal) (iblk0 V c 0 t) (iblk0 V c 1 t) (iblk0 V c 2 t) (iblk0 V c 3 t) (iblk0 V c 4 t) (iblk0 V c 5 t) (iblk0 V c 6 t) (ix3 i o n)
        : Ideal .f32)
      = Cert.FirstKernelIdeal.Blocks.kvalue (V c main_arg0) (V c main_arg1) (V c main_v18) (V c main_v19) (V c main_v10) (V c main_v17)
          (V c main_arg32) (row t.val (lt0 t) i) o n := by
  rw [blk0_2, blk0_3, blk0_4, blk0_5, blk0_6, first_body, Cert.FirstKernelIdeal.Blocks.body_apply]
  unfold Cert.FirstKernelIdeal.Blocks.kvalue Cert.FirstReferenceIdeal.Stages.cloud Cert.ReferenceIdeal.Stages.present
  simp only [blk0_0, blk0_1]

/-- What block `t` of the second call computes, entry by entry. -/
theorem second_block (t : Fin cfg1.N) (i : Fin 8) (o : Fin 64) (n : Fin 128) :
    (out1_6 (F := Ideal) (iblk1 V c 0 t) (iblk1 V c 1 t) (iblk1 V c 2 t) (iblk1 V c 3 t) (iblk1 V c 4 t) (iblk1 V c 5 t) (ix3 i o n) : Ideal .f32)
      = Cert.KernelIdeal.Blocks.kvalue (V c main_v20) (V c main_arg1) (V c main_arg22) (V c main_v21) (V c main_v30) (V c main_arg33)
          (row t.val (lt1 t) i) o n := by
  rw [blk1_2, blk1_3, blk1_4, blk1_5, Cert.KernelIdeal.Chained.out_eq, Cert.KernelIdeal.Blocks.body_apply]
  unfold Cert.KernelIdeal.Blocks.kvalue Cert.ReferenceIdeal.Stages.cloud Cert.ReferenceIdeal.Stages.present
  simp only [blk1_0, blk1_1]

end Entry

variable (m : (ℓ : Loc nD τ sig) → Buf (Elt Ideal) ℓ) (ρ : Dev nD → PrngReg) (c : Dev nD)

/-! ## What the first two calls are entered with -/

theorem entry0_arg (a : Ref sig .tc) (h : a ∈ argRefs) : V1 m ρ c a = m ((c : Thread nD τ).loc a) := W1_args m ρ c a h

theorem start_arg (a : Ref sig .tc) : W0 m ρ c (Proc.devRef .tc a) = m ((c : Thread nD τ).loc a) := rfl

theorem middle_arg (a : Ref sig .tc) (h : a ∈ argRefs) : W2 m ρ c (Proc.devRef .tc a) = m ((c : Thread nD τ).loc a) := W2_args m ρ c a h

theorem entry0_gain : V1 m ρ c main_v18 = gain1 m c := by
  show StableHlo.after hostOps0 (W0 m ρ c) main_v18 = _
  entry_read
  rfl

theorem entry0_shift : V1 m ρ c main_v19 = shift1 m c := by
  show StableHlo.after hostOps0 (W0 m ρ c) main_v19 = _
  entry_read
  rfl

theorem entry0_weights : V1 m ρ c main_v10 = table1 m c := by
  show StableHlo.after hostOps0 (W0 m ρ c) main_v10 = _
  entry_read
  rfl

theorem entry0_params : V1 m ρ c main_v17 = rows1 m c := by
  have e0 : StableHlo.upto hostOps0 (W0 m ρ c) 23 (Proc.devRef .tc main_v11) = broadcastInDim S1x32 ![1] bcast_S32_S1x32_1 (A7 m c) :=
    (StableHlo.upto_last_write (i := 17) [main_v12, main_v13, main_v14, main_v15, main_v16] rfl rfl (by decide) _).trans ((StableHlo.unary_result _ _ _ _ _ _).trans
      (congrArg (broadcastInDim S1x32 ![1] bcast_S32_S1x32_1) (StableHlo.upto_unwritten (r := main_arg7) (hostOps0_W.take 17) rfl (by decide) _)))
  have e1 : StableHlo.upto hostOps0 (W0 m ρ c) 23 (Proc.devRef .tc main_v12) = broadcastInDim S1x32 ![1] bcast_S32_S1x32_1 (A8 m c) :=
    (StableHlo.upto_last_write (i := 18) [main_v13, main_v14, main_v15, main_v16] rfl rfl (by decide) _).trans ((StableHlo.unary_result _ _ _ _ _ _).trans
      (congrArg (broadcastInDim S1x32 ![1] bcast_S32_S1x32_1) (StableHlo.upto_unwritten (r := main_arg8) (hostOps0_W.take 18) rfl (by decide) _)))
  have e2 : StableHlo.upto hostOps0 (W0 m ρ c) 23 (Proc.devRef .tc main_v13) = broadcastInDim S1x32 ![1] bcast_S32_S1x32_1 (A9 m c) :=
    (StableHlo.upto_last_write (i := 19) [main_v14, main_v15, main_v16] rfl rfl (by decide) _).trans ((StableHlo.unary_result _ _ _ _ _ _).trans
      (congrArg (broadcastInDim S1x32 ![1] bcast_S32_S1x32_1) (StableHlo.upto_unwritten (r := main_arg9) (hostOps0_W.take 19) rfl (by decide) _)))
  have e3 : StableHlo.upto hostOps0 (W0 m ρ c) 23 (Proc.devRef .tc main_v14) = broadcastInDim S1x32 ![1] bcast_S32_S1x32_1 (A10 m c) :=
    (StableHlo.upto_last_write (i := 20) [main_v15, main_v16] rfl rfl (by decide) _).trans ((StableHlo.unary_result _ _ _ _ _ _).trans
      (congrArg (broadcastInDim S1x32 ![1] bcast_S32_S1x32_1) (StableHlo.upto_unwritten (r := main_arg10) (hostOps0_W.take 20) rfl (by decide) _)))
  have e4 : StableHlo.upto hostOps0 (W0 m ρ c) 23 (Proc.devRef .tc main_v15) = broadcastInDim S1x32 ![1] bcast_S32_S1x32_1 (A11 m c) :=
    (StableHlo.upto_last_write (i := 21) [main_v16] rfl rfl (by decide) _).trans ((StableHlo.unary_result _ _ _ _ _ _).trans
      (congrArg (broadcastInDim S1x32 ![1] bcast_S32_S1x32_1) (StableHlo.upto_unwritten (r := main_arg11) (hostOps0_W.take 21) rfl (by decide) _)))
  have e5 : StableHlo.upto hostOps0 (W0 m ρ c) 23 (Proc.devRef .tc main_v16) = broadcastInDim S1x32 ![1] bcast_S32_S1x32_1 (A12 m c) :=
    (StableHlo.upto_last_write (i := 22) [] rfl rfl (by decide) _).trans ((StableHlo.unary_result _ _ _ _ _ _).trans
      (congrArg (broadcastInDim S1x32 ![1] bcast_S32_S1x32_1) (StableHlo.upto_unwritten (r := main_arg12) (hostOps0_W.take 22) rfl (by decide) _)))
  unfold rows1 params1
  rw [← e0, ← e1, ← e2, ← e3, ← e4, ← e5]
  exact (StableHlo.after_last_write (i := 23) [main_v18, main_v19] rfl rfl (by decide) _).trans (StableHlo.nary_result _ _ _ _ _ _)

theorem entry1_weights : V3 m ρ c main_v21 = table2 m c := by
  unfold table2 A13 A14 A15
  rw [← middle_arg m ρ c main_arg13 (by decide), ← middle_arg m ρ c main_arg14 (by decide), ← middle_arg m ρ c main_arg15 (by decide)]
  show StableHlo.after hostOps1 (W2 m ρ c) main_v21 = _
  entry_read
  rfl

theorem entry1_params : V3 m ρ c main_v30 = rows2 m c := by
  have e0 : StableHlo.upto hostOps1 (W2 m ρ c) 9 (Proc.devRef .tc main_v22) = broadcastInDim S1x64 ![1] bcast_S64_S1x64_1 (A16 m c) :=
    (StableHlo.upto_last_write (i := 1) [main_v23, main_v24, main_v25, main_v26, main_v27, main_v28, main_v29] rfl rfl (by decide) _).trans ((StableHlo.unary_result _ _ _ _ _ _).trans
      (congrArg (broadcastInDim S1x64 ![1] bcast_S64_S1x64_1) ((StableHlo.upto_unwritten (r := main_arg16) (hostOps1_W.take 1) rfl (by decide) _).trans
        (middle_arg m ρ c main_arg16 (by decide)))))
  have e1 : StableHlo.upto hostOps1 (W2 m ρ c) 9 (Proc.devRef .tc main_v23) = broadcastInDim S1x64 ![1] bcast_S64_S1x64_1 (A17 m c) :=
    (StableHlo.upto_last_write (i := 2) [main_v24, main_v25, main_v26, main_v27, main_v28, main_v29] rfl rfl (by decide) _).trans ((StableHlo.unary_result _ _ _ _ _ _).trans
      (congrArg (broadcastInDim S1x64 ![1] bcast_S64_S1x64_1) ((StableHlo.upto_unwritten (r := main_arg17) (hostOps1_W.take 2) rfl (by decide) _).trans
        (middle_arg m ρ c main_arg17 (by decide)))))
  have e2 : StableHlo.upto hostOps1 (W2 m ρ c) 9 (Proc.devRef .tc main_v24) = broadcastInDim S1x64 ![1] bcast_S64_S1x64_1 (A18 m c) :=
    (StableHlo.upto_last_write (i := 3) [main_v25, main_v26, main_v27, main_v28, main_v29] rfl rfl (by decide) _).trans ((StableHlo.unary_result _ _ _ _ _ _).trans
      (congrArg (broadcastInDim S1x64 ![1] bcast_S64_S1x64_1) ((StableHlo.upto_unwritten (r := main_arg18) (hostOps1_W.take 3) rfl (by decide) _).trans
        (middle_arg m ρ c main_arg18 (by decide)))))
  have e3 : StableHlo.upto hostOps1 (W2 m ρ c) 9 (Proc.devRef .tc main_v25) = broadcastInDim S1x64 ![1] bcast_S64_S1x64_1 (A19 m c) :=
    (StableHlo.upto_last_write (i := 4) [main_v26, main_v27, main_v28, main_v29] rfl rfl (by decide) _).trans ((StableHlo.unary_result _ _ _ _ _ _).trans
      (congrArg (broadcastInDim S1x64 ![1] bcast_S64_S1x64_1) ((StableHlo.upto_unwritten (r := main_arg19) (hostOps1_W.take 4) rfl (by decide) _).trans
        (middle_arg m ρ c main_arg19 (by decide)))))
  have e4 : StableHlo.upto hostOps1 (W2 m ρ c) 9 (Proc.devRef .tc main_v26) = broadcastInDim S1x64 ![1] bcast_S64_S1x64_1 (A20 m c) :=
    (StableHlo.upto_last_write (i := 5) [main_v27, main_v28, main_v29] rfl rfl (by decide) _).trans ((StableHlo.unary_result _ _ _ _ _ _).trans
      (congrArg (broadcastInDim S1x64 ![1] bcast_S64_S1x64_1) ((StableHlo.upto_unwritten (r := main_arg20) (hostOps1_W.take 5) rfl (by decide) _).trans
        (middle_arg m ρ c main_arg20 (by decide)))))
  have e5 : StableHlo.upto hostOps1 (W2 m ρ c) 9 (Proc.devRef .tc main_v27) = broadcastInDim S1x64 ![1] bcast_S64_S1x64_1 (A21 m c) :=
    (StableHlo.upto_last_write (i := 6) [main_v28, main_v29] rfl rfl (by decide) _).trans ((StableHlo.unary_result _ _ _ _ _ _).trans
      (congrArg (broadcastInDim S1x64 ![1] bcast_S64_S1x64_1) ((StableHlo.upto_unwritten (r := main_arg21) (hostOps1_W.take 6) rfl (by decide) _).trans
        (middle_arg m ρ c main_arg21 (by decide)))))
  have e6 : StableHlo.upto hostOps1 (W2 m ρ c) 9 (Proc.devRef .tc main_v28) = broadcastInDim S1x64 ![1] bcast_S64_S1x64_1 (A23 m c) :=
    (StableHlo.upto_last_write (i := 7) [main_v29] rfl rfl (by decide) _).trans ((StableHlo.unary_result _ _ _ _ _ _).trans
      (congrArg (broadcastInDim S1x64 ![1] bcast_S64_S1x64_1) ((StableHlo.upto_unwritten (r := main_arg23) (hostOps1_W.take 7) rfl (by decide) _).trans
        (middle_arg m ρ c main_arg23 (by decide)))))
  have e7 : StableHlo.upto hostOps1 (W2 m ρ c) 9 (Proc.devRef .tc main_v29) = broadcastInDim S1x64 ![1] bcast_S64_S1x64_1 (A24 m c) :=
    (StableHlo.upto_last_write (i := 8) [] rfl rfl (by decide) _).trans ((StableHlo.unary_result _ _ _ _ _ _).trans
      (congrArg (broadcastInDim S1x64 ![1] bcast_S64_S1x64_1) ((StableHlo.upto_unwritten (r := main_arg24) (hostOps1_W.take 8) rfl (by decide) _).trans
        (middle_arg m ρ c main_arg24 (by decide)))))
  unfold rows2 params2
  rw [← e0, ← e1, ← e2, ← e3, ← e4, ← e5, ← e6, ← e7]
  exact (StableHlo.after_last_write (i := 9) [] rfl rfl (by decide) _).trans (StableHlo.nary_result _ _ _ _ _ _)

/-! ## The edge convolutions' features -/

section Features

variable (hpre : Cert.Pre_NetKernelIdeal_both_separated m)

include hpre

/-- What block `t` of the first call writes back is the reference's features there. -/
theorem first_flushed (t : Fin cfg0.N) :
    (dat0 (V1 m ρ) c).flushed 7 t = ((cfg0.win 7).blk t).view.read (Elt Ideal) (fts1 m c) := by
  refine (show _ = (cfg0.win 7).cut (grid0.coords t) ((dat0 (V1 m ρ) c).after 7 t) from rfl).trans ?_
  rw [after0_7]
  funext y
  have hy : y = ix3 (⟨(y 0).val, (y 0).isLt⟩ : Fin 8) (⟨(y 1).val, (y 1).isLt⟩ : Fin 32) (⟨(y 2).val, (y 2).isLt⟩ : Fin 128) := by
    funext a
    match a with
    | ⟨0, _⟩ => rfl
    | ⟨1, _⟩ => rfl
    | ⟨2, _⟩ => rfl
  generalize (⟨(y 0).val, (y 0).isLt⟩ : Fin 8) = i at hy
  generalize (⟨(y 1).val, (y 1).isLt⟩ : Fin 32) = o at hy
  generalize (⟨(y 2).val, (y 2).isLt⟩ : Fin 128) = n at hy
  subst hy
  refine (first_block c (V1 m ρ) t i o n).trans ?_
  rw [entry0_arg m ρ c main_arg0 (by decide), entry0_arg m ρ c main_arg1 (by decide), entry0_arg m ρ c main_arg32 (by decide), entry0_gain, entry0_shift,
    entry0_weights, entry0_params]
  refine ((first_regular m c hpre).agree (row t.val (lt0 t) i) o n).trans ?_
  exact (moves (fts1 m c) t.val (lt0 t) i o n _ (win0_7.index t) (moved0 t).2.2 rfl rfl rfl).symm

/-- The first call leaves the first edge convolution's features. -/
theorem first_final : (dat0 (V1 m ρ) c).arrAt 7 cfg0.N = fts1 m c :=
  (dat0 (V1 m ρ) c).arrAt_eq_of_covers 7 (fts1 m c) (by decide +kernel) fun t _ y => congrFun (first_flushed m ρ c hpre t) y

theorem entry1 : V3 m ρ c main_v20 = fts1 m c :=
  (W3_of m ρ c main_v20 (by decide)).trans ((W2_arr m ρ c 7).trans (first_final m ρ c hpre))

omit hpre in
theorem entry1_arg (a : Ref sig .tc) (h : a ∈ argRefs) : V3 m ρ c a = m ((c : Thread nD τ).loc a) := W3_args m ρ c a h

/-- What block `t` of the second call writes back is the reference's features there. -/
theorem second_flushed (t : Fin cfg1.N) :
    (dat1 (V3 m ρ) c).flushed 6 t = ((cfg1.win 6).blk t).view.read (Elt Ideal) (fts2 m c) := by
  refine (show _ = (cfg1.win 6).cut (grid1.coords t) ((dat1 (V3 m ρ) c).after 6 t) from rfl).trans ?_
  rw [after1_6]
  funext y
  have hy : y = ix3 (⟨(y 0).val, (y 0).isLt⟩ : Fin 8) (⟨(y 1).val, (y 1).isLt⟩ : Fin 64) (⟨(y 2).val, (y 2).isLt⟩ : Fin 128) := by
    funext a
    match a with
    | ⟨0, _⟩ => rfl
    | ⟨1, _⟩ => rfl
    | ⟨2, _⟩ => rfl
  generalize (⟨(y 0).val, (y 0).isLt⟩ : Fin 8) = i at hy
  generalize (⟨(y 1).val, (y 1).isLt⟩ : Fin 64) = o at hy
  generalize (⟨(y 2).val, (y 2).isLt⟩ : Fin 128) = n at hy
  subst hy
  refine (second_block c (V3 m ρ) t i o n).trans ?_
  rw [entry1 m ρ c hpre, entry1_arg m ρ c main_arg1 (by decide), entry1_arg m ρ c main_arg22 (by decide), entry1_weights, entry1_params,
    entry1_arg m ρ c main_arg33 (by decide)]
  refine ((second_regular m c hpre).agree (row t.val (lt1 t) i) o n).trans ?_
  exact (moves (fts2 m c) t.val (lt1 t) i o n _ (win1_6.index t) (moved1 t).2.2 rfl rfl rfl).symm

/-- The second call leaves the second edge convolution's features. -/
theorem second_final : (dat1 (V3 m ρ) c).arrAt 6 cfg1.N = fts2 m c :=
  (dat1 (V3 m ρ) c).arrAt_eq_of_covers 6 (fts2 m c) (by decide +kernel) fun t _ y => congrFun (second_flushed m ρ c hpre t) y

theorem entry2_near : V4 m ρ c main_v20 = fts1 m c := (W4_of m ρ c main_v20 (by decide)).trans (entry1 m ρ c hpre)

theorem entry2_far : V4 m ρ c main_v31 = fts2 m c := (W4_arr m ρ c 6).trans (second_final m ρ c hpre)

/-! ## The head's sums -/

omit hpre in
/-- The two rows of sums. -/
def sums (j : S2x128.Idx) : EReal :=
  ∑ t : Fin cfg2.N, part (iblk2 (V4 m ρ) c 0 t) (iblk2 (V4 m ρ) c 1 t) (iblk2 (V4 m ρ) c 2 t) j

theorem sums_eq (o : Fin 128) :
    sums m ρ c (ix2 0 o) = Net.sum2 (fun b n => fusedOf (fts1 m c) (fts2 m c) (A25 m c) b o n)
      ∧ sums m ρ c (ix2 1 o)
        = Net.sum2 (fun b n => fusedOf (fts1 m c) (fts2 m c) (A25 m c) b o n * fusedOf (fts1 m c) (fts2 m c) (A25 m c) b o n) := by
  unfold sums
  simp only [blk2_2, show V4 m ρ c main_arg25 = A25 m c from W4_args m ρ c main_arg25 (by decide)]
  exact part_sums (fts1 m c) (fts2 m c) (A25 m c) (fun t => iblk2 (V4 m ρ) c 0 t) (fun t => iblk2 (V4 m ρ) c 1 t)
    (fun t i k n => (blk2_0 c (V4 m ρ) t i k n).trans (congrFun (entry2_near m ρ c hpre) _))
    (fun t i k n => (blk2_1 c (V4 m ρ) t i k n).trans (congrFun (entry2_far m ρ c hpre) _)) o

omit hpre in
/-- The last block of the third call's grid. -/
def last : Fin cfg2.N := ⟨31, by decide⟩

omit hpre in
/-- After the last block the two rows hold the sums. -/
theorem outs_eq (j : S2x128.Idx) : (outsAt2 (V4 m ρ) c last.val last.isLt j : EReal) = sums m ρ c j := by
  rw [Pipeline.eq_sum_fin_of_reset_step_apply_last (M := EReal) (fun n h => outsAt2 (V4 m ρ) c n h) 32 (fun _ => 0)
    (fun t => part (iblk2 (V4 m ρ) c 0 t) (iblk2 (V4 m ρ) c 1 t) (iblk2 (V4 m ρ) c 2 t))
    (fun t h j => by rw [outsAt2_A (V4 m ρ) c t h, first_apply])
    (fun t h j => by rw [outsAt2_B (V4 m ρ) c t h, later_apply])
    (le_of_eq N_2) last rfl j, zero_add]
  rfl

omit hpre in
/-- What the third call leaves in its result array. -/
theorem third_final : (dat2 (V4 m ρ) c).arrAt 3 cfg2.N = sums m ρ c :=
  (dat2 (V4 m ρ) c).arrAt_eq_of_after_last 3 last (by decide +kernel) (sums m ρ c) fun j => by
    rw [after2_3]
    exact outs_eq m ρ c j

/-! ## What the fourth call is entered with -/

theorem entry_near : V6 m ρ c main_v20 = fts1 m c :=
  (W6_of m ρ c main_v20 (by decide)).trans ((W5_of m ρ c main_v20 (by decide)).trans (entry2_near m ρ c hpre))

theorem entry_far : V6 m ρ c main_v31 = fts2 m c :=
  (W6_of m ρ c main_v31 (by decide)).trans ((W5_of m ρ c main_v31 (by decide)).trans (entry2_far m ρ c hpre))

end Features

theorem entry_sums : V6 m ρ c main_v32 = sums m ρ c :=
  (W6_of m ρ c main_v32 (by decide)).trans ((W5_arr m ρ c 3).trans (third_final m ρ c))

theorem entry_arg (a : Ref sig .tc) (h : a ∈ argRefs) : V6 m ρ c a = m ((c : Thread nD τ).loc a) := W6_args m ρ c a h

theorem left_arg (a : Ref sig .tc) (h : a ∈ argRefs) : W5 m ρ c (Proc.devRef .tc a) = m ((c : Thread nD τ).loc a) := W5_args m ρ c a h

theorem entry_last : V6 m ρ c main_v35 = padded (A30 m c) := by
  unfold A30
  rw [← left_arg m ρ c main_arg30 (by decide)]
  show StableHlo.after hostOps3 (W5 m ρ c) main_v35 = _
  entry_read
  rfl

theorem entry_row0 : V6 m ρ c main_v39 = broadcastInDim S1x128 ![1] bcast_S128_S1x128_1 (A26 m c) := by
  unfold A26
  rw [← left_arg m ρ c main_arg26 (by decide)]
  show StableHlo.after hostOps3 (W5 m ρ c) main_v39 = _
  entry_read
  rfl

theorem entry_row1 : V6 m ρ c main_v40 = broadcastInDim S1x128 ![1] bcast_S128_S1x128_1 (A27 m c) := by
  unfold A27
  rw [← left_arg m ρ c main_arg27 (by decide)]
  show StableHlo.after hostOps3 (W5 m ρ c) main_v40 = _
  entry_read
  rfl

theorem entry_row2 : V6 m ρ c main_v41 = broadcastInDim S1x128 ![1] bcast_S128_S1x128_1 (A29 m c) := by
  unfold A29
  rw [← left_arg m ρ c main_arg29 (by decide)]
  show StableHlo.after hostOps3 (W5 m ρ c) main_v41 = _
  entry_read
  rfl

theorem entry_row3 : V6 m ρ c main_v42 = broadcastInDim S1x128 ![1] bcast_S128_S1x128_1 (paddedRow (A31 m c)) := by
  unfold A31
  rw [← left_arg m ρ c main_arg31 (by decide)]
  show StableHlo.after hostOps3 (W5 m ρ c) main_v42 = _
  entry_read
  rfl

/-- The last host line before the fourth call leaves the other buffers as they were before it. -/
theorem before_last (r : Ref sig .tc) (h : r ≠ main_v43) :
    StableHlo.upto hostOps3 (W5 m ρ c) 14 (Proc.devRef .tc r) = V6 m ρ c r :=
  (StableHlo.nary_result_ne _ _ _ _ _ _ h).symm

theorem entry_rows : V6 m ρ c main_v43 = stacked (A26 m c) (A27 m c) (A29 m c) (A31 m c) := by
  unfold stacked
  rw [← entry_row0 m ρ, ← entry_row1 m ρ, ← entry_row2 m ρ, ← entry_row3 m ρ, ← before_last m ρ c main_v39 (by decide), ← before_last m ρ c main_v40 (by decide),
    ← before_last m ρ c main_v41 (by decide), ← before_last m ρ c main_v42 (by decide)]
  exact (StableHlo.after_last_write (i := 14) [] rfl rfl (by simp) _).trans (StableHlo.nary4_result _ _ _ _)

/-! ## What the fourth call leaves -/

/-- The head's result of the arguments. -/
abbrev out (b : Fin 256) (o : Fin 16) : EReal :=
  value (fts1 m c) (A1 m c) (fts2 m c) (A25 m c) (A26 m c) (A27 m c) (A29 m c) (A28 m c) (A30 m c) (A31 m c) b o

/-- The fourth call's result array. -/
def values : FVec Ideal S256x16 .f32 := fun y => out m c (y 0) (y 1)

/-- The reference's result array on the kernel's arguments. -/
abbrev result : FVec Ideal S256x10 .f32 :=
  Cert.NetReferenceIdeal.Read.val_main_v394 (F := Ideal) (A0 m c) (A1 m c) (A2 m c) (A3 m c) (A4 m c) (A5 m c) (A6 m c) (A7 m c) (A8 m c) (A9 m c)
    (A10 m c) (A11 m c) (A12 m c) (A13 m c) (A14 m c) (A15 m c) (A16 m c) (A17 m c) (A18 m c) (A19 m c) (A20 m c) (A21 m c)
    (A22 m c) (A23 m c) (A24 m c) (A25 m c) (A26 m c) (A27 m c) (A28 m c) (A29 m c) (A30 m c) (A31 m c) (A32 m c) (A33 m c)

theorem result_eq : result m c = Cert.TailReferenceIdeal.Read.val_main_v48 (F := Ideal) (fts1 m c) (fts2 m c) (A1 m c) (A25 m c) (A26 m c) (A27 m c)
    (A28 m c) (A29 m c) (A30 m c) (A31 m c) := by
  rw [← fts1_same, ← fts2_same]
  exact Cert.NetReferenceIdeal.Stages.score_eq (A0 m c) (A1 m c) (A2 m c) (A3 m c) (A4 m c) (A5 m c) (A6 m c) (A7 m c) (A8 m c) (A9 m c)
    (A10 m c) (A11 m c) (A12 m c) (A13 m c) (A14 m c) (A15 m c) (A16 m c) (A17 m c) (A18 m c) (A19 m c) (A20 m c) (A21 m c)
    (A22 m c) (A23 m c) (A24 m c) (A25 m c) (A26 m c) (A27 m c) (A28 m c) (A29 m c) (A30 m c) (A31 m c) (A32 m c) (A33 m c)

variable (hpre : Cert.Pre_NetKernelIdeal_both_separated m)

include hpre

/-- What block `t` of the fourth call computes, entry by entry. -/
theorem block_apply (t : Fin cfg3.N) (i : Fin 8) (o : Fin 16) :
    (out3_8 (F := Ideal) (iblk3 (V6 m ρ) c 0 t) (iblk3 (V6 m ρ) c 1 t) (iblk3 (V6 m ρ) c 2 t) (iblk3 (V6 m ρ) c 3 t) (iblk3 (V6 m ρ) c 4 t)
        (iblk3 (V6 m ρ) c 5 t) (iblk3 (V6 m ρ) c 6 t) (iblk3 (V6 m ρ) c 7 t) (ix2 i o) : Ideal .f32)
      = out m c (row t.val (lt3 t) i) o := by
  rw [blk3_3, blk3_5, blk3_6, blk3_7, entry_sums, entry_last, entry_arg m ρ c main_arg25 (by decide), entry_arg m ρ c main_arg28 (by decide), head_body]
  exact value_apply (fts1 m c) (A1 m c) (fts2 m c) (A25 m c) (A26 m c) (A27 m c) (A29 m c) (A28 m c) (A30 m c) (A31 m c) t.val (lt3 t) _ _ _ _ _
    ((blk3_4 c (V6 m ρ) t).trans (entry_rows m ρ c))
    (fun i k n => (blk3_0 c (V6 m ρ) t i k n).trans (congrFun (entry_near m ρ c hpre) _))
    (fun i k n => (blk3_1 c (V6 m ρ) t i k n).trans (congrFun (entry_far m ρ c hpre) _))
    (fun i k n => (blk3_2 c (V6 m ρ) t i k n).trans (congrFun (entry_arg m ρ c main_arg1 (by decide)) _))
    (sums_eq m ρ c hpre) i o

/-- What block `t` of the fourth call writes back. -/
theorem flushed_eq (t : Fin cfg3.N) :
    (dat3 (V6 m ρ) c).flushed 8 t = ((cfg3.win 8).blk t).view.read (Elt Ideal) (values m c) := by
  refine (show _ = (cfg3.win 8).cut (grid3.coords t) ((dat3 (V6 m ρ) c).after 8 t) from rfl).trans ?_
  rw [after3_8]
  funext y
  have hy : y = ix2 (⟨(y 0).val, (y 0).isLt⟩ : Fin 8) (⟨(y 1).val, (y 1).isLt⟩ : Fin 16) := by
    funext a
    match a with
    | ⟨0, _⟩ => rfl
    | ⟨1, _⟩ => rfl
  generalize (⟨(y 0).val, (y 0).isLt⟩ : Fin 8) = i at hy
  generalize (⟨(y 1).val, (y 1).isLt⟩ : Fin 16) = o at hy
  subst hy
  refine (block_apply m ρ c hpre t i o).trans ?_
  show values m c (ix2 (row t.val (lt3 t) i) o) = values m c (((cfg3.win 8).blk t).view.emb (ix2 i o))
  refine congrArg (values m c) (funext fun a => Fin.ext ?_)
  obtain ⟨h0, h1⟩ := (moved3 t).2.2.2
  match a with
  | ⟨0, _⟩ => show t.val * 8 + i.val = win3_8.index t 0 * 8 + 1 * i.val; rw [h0]; omega
  | ⟨1, _⟩ => show o.val = win3_8.index t 1 * 16 + 1 * o.val; rw [h1]; omega

/-- The fourth call's result array after the run. -/
theorem fourth_final : (dat3 (V6 m ρ) c).arrAt 8 cfg3.N = values m c :=
  (dat3 (V6 m ρ) c).arrAt_eq_of_covers 8 (values m c) (by decide +kernel) fun t _ y => congrFun (flushed_eq m ρ c hpre t) y

/-- Under the precondition the kernel's value and the reference's agree at every index. -/
theorem agree (b : Fin 256) (o : Fin 10) : out m c b ⟨o.val, by omega⟩ = result m c (ix2 b o) :=
  (value_agree (fts1 m c) (A1 m c) (fts2 m c) (A25 m c) (A26 m c) (A27 m c) (A29 m c) (A28 m c) (A30 m c) (A31 m c)
    (fts1_fine m c hpre) (fts2_fine m c hpre) (weight_fine m c hpre) (gain_fine m c hpre) b o).trans
    (congrFun (result_eq m c).symm _)

/-- The program's result array after the run is the reference's. -/
theorem final : W8 m ρ c (Proc.devRef .tc main_v45) = result m c := by
  show StableHlo.after hostOps4 (W7 m ρ c) main_v45 = _
  entry_read
  rw [show W7 m ρ c (Proc.devRef .tc main_v44) = values m c from (W7_arr m ρ c 8).trans (fourth_final m ρ c hpre)]
  funext y
  have hy : y = ix2 (⟨(y 0).val, (y 0).isLt⟩ : Fin 256) (⟨(y 1).val, (y 1).isLt⟩ : Fin 10) := by
    funext a
    match a with
    | ⟨0, _⟩ => rfl
    | ⟨1, _⟩ => rfl
  generalize (⟨(y 0).val, (y 0).isLt⟩ : Fin 256) = b at hy
  generalize (⟨(y 1).val, (y 1).isLt⟩ : Fin 10) = o at hy
  subst hy
  refine Eq.trans ?_ (agree m c hpre b o)
  pointwise []
  rfl

end Cert.NetKernelIdeal.Blocks

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.HeadKernel
public import proofs.«01_k».proof.Proof.Gen.HeadKernel.Skeleton
public import proofs.«01_k».proof.Proof.Gen.HeadKernel.Launch
public import proofs.«01_k».proof.Proof.Gen.HeadKernel.Points
public import proofs.«01_k».proof.Proof.Gen.HeadKernel.Frame
public import proofs.«01_k».proof.Proof.Gen.HeadKernelIdeal
public import proofs.«01_k».proof.Proof.Gen.HeadKernelIdeal.Skeleton
public import proofs.«01_k».proof.Proof.Gen.HeadKernelIdeal.Launch
public import proofs.«01_k».proof.Proof.Gen.HeadKernelIdeal.Points
public import proofs.«01_k».proof.Proof.Gen.HeadKernelIdeal.Frame
public import proofs.«01_k».proof.Proof.Gen.HeadReferenceIdeal
public import proofs.«01_k».proof.Proof.Gen.Pre_head_regular
public import proofs.«01_k».proof.Proof.Gen.HeadKernelIdeal.Value
public import proofs.«01_k».proof.Proof.Gen.HeadReferenceIdeal.Run
public import proofs.«01_k».proof.Proof.Gen.HeadReferenceIdeal.Read
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstReferenceIdeal
public import proofs.«01_k».proof.Proof.Gen.Pre_first_separated
public import proofs.«01_k».proof.Proof.Gen.FirstKernelIdeal.Value
public import proofs.«01_k».proof.Proof.Gen.FirstReferenceIdeal.Run
public import proofs.«01_k».proof.Proof.Gen.FirstReferenceIdeal.Read
public import proofs.«01_k».proof.Proof.Gen.SumsKernel
public import proofs.«01_k».proof.Proof.Gen.SumsKernel.Skeleton
public import proofs.«01_k».proof.Proof.Gen.SumsKernel.Launch
public import proofs.«01_k».proof.Proof.Gen.SumsKernel.Points
public import proofs.«01_k».proof.Proof.Gen.SumsKernel.Frame
public import proofs.«01_k».proof.Proof.Gen.SumsKernelIdeal
public import proofs.«01_k».proof.Proof.Gen.SumsKernelIdeal.Skeleton
public import proofs.«01_k».proof.Proof.Gen.SumsKernelIdeal.Launch
public import proofs.«01_k».proof.Proof.Gen.SumsKernelIdeal.Points
public import proofs.«01_k».proof.Proof.Gen.SumsKernelIdeal.Frame
public import proofs.«01_k».proof.Proof.Gen.SumsReferenceIdeal
public import proofs.«01_k».proof.Proof.Gen.SumsKernelIdeal.Value
public import proofs.«01_k».proof.Proof.Gen.SumsReferenceIdeal.Run
public import proofs.«01_k».proof.Proof.Gen.SumsReferenceIdeal.Read
public import proofs.«01_k».proof.Proof.Gen.TailKernel
public import proofs.«01_k».proof.Proof.Gen.TailKernel.Skeleton
public import proofs.«01_k».proof.Proof.Gen.TailKernel.Launch
public import proofs.«01_k».proof.Proof.Gen.TailKernel.Points
public import proofs.«01_k».proof.Proof.Gen.TailKernel.Frame
public import proofs.«01_k».proof.Proof.Gen.TailKernelIdeal
public import proofs.«01_k».proof.Proof.Gen.TailKernelIdeal.Skeleton
public import proofs.«01_k».proof.Proof.Gen.TailKernelIdeal.Launch
public import proofs.«01_k».proof.Proof.Gen.TailKernelIdeal.Points
public import proofs.«01_k».proof.Proof.Gen.TailKernelIdeal.Frame
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Pre_tail_finite
public import proofs.«01_k».proof.Proof.Gen.NetKernel
public import proofs.«01_k».proof.Proof.Gen.NetKernel.Skeleton
public import proofs.«01_k».proof.Proof.Gen.NetKernel.Launch
public import proofs.«01_k».proof.Proof.Gen.NetKernel.Points
public import proofs.«01_k».proof.Proof.Gen.NetKernel.Frame
public import proofs.«01_k».proof.Proof.Gen.NetKernelIdeal
public import proofs.«01_k».proof.Proof.Gen.NetKernelIdeal.Skeleton
public import proofs.«01_k».proof.Proof.Gen.NetKernelIdeal.Launch
public import proofs.«01_k».proof.Proof.Gen.NetKernelIdeal.Points
public import proofs.«01_k».proof.Proof.Gen.NetKernelIdeal.Frame
public import proofs.«01_k».proof.Proof.Gen.NetReferenceIdeal
public import proofs.«01_k».proof.Proof.Gen.NetReferenceIdeal.Run
public import proofs.«01_k».proof.Proof.Gen.NetReferenceIdeal.Read
public import proofs.«01_k».proof.Proof.Gen.Pre_both_separated
public import proofs.«01_k».proof.Proof.Blocks
public import proofs.«01_k».proof.Proof.HeadBlocks
public import proofs.«01_k».proof.Proof.FirstBlocks
public import proofs.«01_k».proof.Proof.SumsBlocks
public import proofs.«01_k».proof.Proof.TailBlocks
public import proofs.«01_k».proof.Proof.NetBlocks
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference ends, leaves its arguments as they were and holds no semaphore count: it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The word of -3.0e38, by which the kernel marks what no maximum may take, stands for minus infinity. -/
theorem preserves : Cert.preserves_Kernel_KernelIdeal :=
  IdealRules.named_const.statement Cert.KernelIdeal.κ "neg" .f32 0xFF61B1E6#32 ⊥ rfl

/-- The second edge convolution's features: kernel and reference end with the same array, wherever the points
    have no two equally near neighbours. -/
theorem algebraic : Cert.algebraic_KernelIdeal_ReferenceIdeal_pre_separated := by
  intro m ρ m' ρ' hpre hagree
  refine ⟨fun c => Cert.KernelIdeal.Blocks.result m c,
    (θ_run Cert.KernelIdeal.defs _ _).mono
      (fun r h c => ⟨(h c).1.trans (Cert.KernelIdeal.Blocks.final m c hpre), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  obtain ⟨h0, h1, h2, h3, h4, h5⟩ := hagree c
  refine (Cert.ReferenceIdeal.Read.val_main_v189_eq (F := Ideal) (launchContents m' c)).trans ?_
  show Cert.ReferenceIdeal.Read.val_main_v189 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [h0, h1, h2, h3, h4, h5]

/-- The head's reference ends, leaves its arguments as they were and holds no semaphore count. -/
theorem frame_head_reference : Cert.quiescent_HeadReferenceIdeal := fun m ρ _ =>
  (θ_run Cert.HeadReferenceIdeal.defs _ _).mono
    (fun r h => ⟨fun c => (h c).2, Idealize.ShloMosaic.sem_eq_zero_of_no_sems (by decide) r.2⟩)
    (Cert.HeadReferenceIdeal.Value.run (F := Ideal) m ρ)

/-- The head's result: kernel and reference end with the same array, wherever the batch norm is regular. -/
theorem algebraic_head : Cert.algebraic_HeadKernelIdeal_HeadReferenceIdeal_pre_head_regular := by
  intro m ρ m' ρ' hpre hagree
  refine ⟨fun c => Cert.HeadKernelIdeal.Blocks.result m c,
    (θ_run Cert.HeadKernelIdeal.defs _ _).mono
      (fun r h c => ⟨(h c).1.trans (Cert.HeadKernelIdeal.Blocks.final m c hpre), (h c).2⟩)
      (Cert.HeadKernelIdeal.Value.run_blocks (F := Ideal) m ρ),
    (θ_run Cert.HeadReferenceIdeal.defs _ _).mono (fun _ h c => ⟨(h c).1.trans ?_, (h c).2⟩)
      (Cert.HeadReferenceIdeal.Value.run (F := Ideal) m' ρ')⟩
  obtain ⟨h0, h1, h2, h3, h4, h5, h6, h7, h8, h9, h10⟩ := hagree c
  refine (Cert.HeadReferenceIdeal.Read.val_main_v57_eq (F := Ideal) m' c).trans ?_
  show Cert.HeadReferenceIdeal.Read.val_main_v57 (F := Ideal)
      (m' ((c.tc : Thread Cert.HeadReferenceIdeal.nD Cert.HeadReferenceIdeal.τ).loc Cert.HeadReferenceIdeal.main_arg0))
      (m' ((c.tc : Thread Cert.HeadReferenceIdeal.nD Cert.HeadReferenceIdeal.τ).loc Cert.HeadReferenceIdeal.main_arg1))
      (m' ((c.tc : Thread Cert.HeadReferenceIdeal.nD Cert.HeadReferenceIdeal.τ).loc Cert.HeadReferenceIdeal.main_arg2))
      (m' ((c.tc : Thread Cert.HeadReferenceIdeal.nD Cert.HeadReferenceIdeal.τ).loc Cert.HeadReferenceIdeal.main_arg3))
      (m' ((c.tc : Thread Cert.HeadReferenceIdeal.nD Cert.HeadReferenceIdeal.τ).loc Cert.HeadReferenceIdeal.main_arg4))
      (m' ((c.tc : Thread Cert.HeadReferenceIdeal.nD Cert.HeadReferenceIdeal.τ).loc Cert.HeadReferenceIdeal.main_arg5))
      (m' ((c.tc : Thread Cert.HeadReferenceIdeal.nD Cert.HeadReferenceIdeal.τ).loc Cert.HeadReferenceIdeal.main_arg6))
      (m' ((c.tc : Thread Cert.HeadReferenceIdeal.nD Cert.HeadReferenceIdeal.τ).loc Cert.HeadReferenceIdeal.main_arg7))
      (m' ((c.tc : Thread Cert.HeadReferenceIdeal.nD Cert.HeadReferenceIdeal.τ).loc Cert.HeadReferenceIdeal.main_arg8))
      (m' ((c.tc : Thread Cert.HeadReferenceIdeal.nD Cert.HeadReferenceIdeal.τ).loc Cert.HeadReferenceIdeal.main_arg9))
      (m' ((c.tc : Thread Cert.HeadReferenceIdeal.nD Cert.HeadReferenceIdeal.τ).loc Cert.HeadReferenceIdeal.main_arg10)) = _
  rw [h0, h1, h2, h3, h4, h5, h6, h7, h8, h9, h10]

/-- The first edge convolution's reference ends, leaves its arguments as they were and holds no semaphore count. -/
theorem frame_first_reference : Cert.quiescent_FirstReferenceIdeal := fun m ρ _ =>
  (θ_run Cert.FirstReferenceIdeal.defs _ _).mono
    (fun r h => ⟨fun c => (h c).2, Idealize.ShloMosaic.sem_eq_zero_of_no_sems (by decide) r.2⟩)
    (Cert.FirstReferenceIdeal.Value.run (F := Ideal) m ρ)

/-- The word of -3.0e38 stands for minus infinity in the first edge convolution too. -/
theorem preserves_first : Cert.preserves_FirstKernel_FirstKernelIdeal :=
  IdealRules.named_const.statement Cert.FirstKernelIdeal.κ "neg" .f32 0xFF61B1E6#32 ⊥ rfl

/-- The first edge convolution's features: kernel and reference end with the same array, wherever the points
    have no two equally near neighbours. -/
theorem algebraic_first : Cert.algebraic_FirstKernelIdeal_FirstReferenceIdeal_pre_first_separated := by
  intro m ρ m' ρ' hpre hagree
  refine ⟨fun c => Cert.FirstKernelIdeal.Blocks.result m c,
    (θ_run Cert.FirstKernelIdeal.defs _ _).mono
      (fun r h c => ⟨(h c).1.trans (Cert.FirstKernelIdeal.Blocks.final m c hpre), (h c).2⟩)
      (Cert.FirstKernelIdeal.Value.run_blocks (F := Ideal) m ρ),
    (θ_run Cert.FirstReferenceIdeal.defs _ _).mono (fun _ h c => ⟨(h c).1.trans ?_, (h c).2⟩)
      (Cert.FirstReferenceIdeal.Value.run (F := Ideal) m' ρ')⟩
  obtain ⟨h0, h1, h2, h3, h4, h5, h6⟩ := hagree c
  refine (Cert.FirstReferenceIdeal.Read.val_main_v191_eq (F := Ideal) (launchContents m' c)).trans ?_
  show Cert.FirstReferenceIdeal.Read.val_main_v191 (F := Ideal)
      (m' ((c.tc : Thread Cert.FirstReferenceIdeal.nD Cert.FirstReferenceIdeal.τ).loc Cert.FirstReferenceIdeal.main_arg0))
      (m' ((c.tc : Thread Cert.FirstReferenceIdeal.nD Cert.FirstReferenceIdeal.τ).loc Cert.FirstReferenceIdeal.main_arg1))
      (m' ((c.tc : Thread Cert.FirstReferenceIdeal.nD Cert.FirstReferenceIdeal.τ).loc Cert.FirstReferenceIdeal.main_arg2))
      (m' ((c.tc : Thread Cert.FirstReferenceIdeal.nD Cert.FirstReferenceIdeal.τ).loc Cert.FirstReferenceIdeal.main_arg3))
      (m' ((c.tc : Thread Cert.FirstReferenceIdeal.nD Cert.FirstReferenceIdeal.τ).loc Cert.FirstReferenceIdeal.main_arg4))
      (m' ((c.tc : Thread Cert.FirstReferenceIdeal.nD Cert.FirstReferenceIdeal.τ).loc Cert.FirstReferenceIdeal.main_arg5))
      (m' ((c.tc : Thread Cert.FirstReferenceIdeal.nD Cert.FirstReferenceIdeal.τ).loc Cert.FirstReferenceIdeal.main_arg6)) = _
  rw [h0, h1, h2, h3, h4, h5, h6]

/-- The reference of the head's batch sums ends, leaves its arguments as they were and holds no semaphore count. -/
theorem frame_sums_reference : Cert.quiescent_SumsReferenceIdeal := fun m ρ _ =>
  (θ_run Cert.SumsReferenceIdeal.defs _ _).mono
    (fun r h => ⟨fun c => (h c).2, Idealize.ShloMosaic.sem_eq_zero_of_no_sems (by decide) r.2⟩)
    (Cert.SumsReferenceIdeal.Value.run (F := Ideal) m ρ)

/-- The head's batch sums: kernel and reference end with the same array, whatever the arguments. -/
theorem algebraic_sums : Cert.algebraic_SumsKernelIdeal_SumsReferenceIdeal := by
  intro m ρ m' ρ' _ hagree
  refine ⟨fun c => Cert.SumsKernelIdeal.Blocks.result m c,
    (θ_run Cert.SumsKernelIdeal.defs _ _).mono
      (fun r h c => ⟨(h c).1.trans (Cert.SumsKernelIdeal.Blocks.final m c), (h c).2⟩)
      (Cert.SumsKernelIdeal.Value.run_blocks (F := Ideal) m ρ),
    (θ_run Cert.SumsReferenceIdeal.defs _ _).mono (fun _ h c => ⟨(h c).1.trans ?_, (h c).2⟩)
      (Cert.SumsReferenceIdeal.Value.run (F := Ideal) m' ρ')⟩
  obtain ⟨h0, h1, h2⟩ := hagree c
  refine (Cert.SumsReferenceIdeal.Read.val_main_v8_eq (F := Ideal) _ _ _).trans ?_
  show Cert.SumsReferenceIdeal.Read.val_main_v8 (F := Ideal)
      (m' ((c.tc : Thread Cert.SumsReferenceIdeal.nD Cert.SumsReferenceIdeal.τ).loc Cert.SumsReferenceIdeal.main_arg0))
      (m' ((c.tc : Thread Cert.SumsReferenceIdeal.nD Cert.SumsReferenceIdeal.τ).loc Cert.SumsReferenceIdeal.main_arg1))
      (m' ((c.tc : Thread Cert.SumsReferenceIdeal.nD Cert.SumsReferenceIdeal.τ).loc Cert.SumsReferenceIdeal.main_arg2)) = _
  rw [h0, h1, h2]

/-- The reference of the head's two calls ends, leaves its arguments as they were and holds no semaphore count. -/
theorem frame_tail_reference : Cert.quiescent_TailReferenceIdeal := fun m ρ _ =>
  (θ_run Cert.TailReferenceIdeal.defs _ _).mono
    (fun r h => ⟨fun c => (h c).2, Idealize.ShloMosaic.sem_eq_zero_of_no_sems (by decide) r.2⟩)
    (Cert.TailReferenceIdeal.Value.run (F := Ideal) m ρ)

/-- The head's two calls as one program: under its precondition kernel and reference end with the same array. -/
theorem algebraic_tail : Cert.algebraic_TailKernelIdeal_TailReferenceIdeal_pre_tail_finite := by
  intro m ρ m' ρ' hpre hagree
  refine ⟨fun c => Cert.TailKernelIdeal.Blocks.result m c,
    (θ_run Cert.TailKernelIdeal.defs _ _).mono
      (fun r h c => ⟨(h c).1.trans (Cert.TailKernelIdeal.Blocks.final m ρ c hpre), (h c).2⟩)
      (Cert.TailKernelIdeal.Run.run (F := Ideal) m ρ),
    (θ_run Cert.TailReferenceIdeal.defs _ _).mono (fun _ h c => ⟨(h c).1.trans ?_, (h c).2⟩)
      (Cert.TailReferenceIdeal.Value.run (F := Ideal) m' ρ')⟩
  obtain ⟨h0, h1, h2, h3, h4, h5, h6, h7, h8, h9⟩ := hagree c
  refine (Cert.TailReferenceIdeal.Read.val_main_v48_eq (F := Ideal) _ _).trans ?_
  show Cert.TailReferenceIdeal.Read.val_main_v48 (F := Ideal)
      (m' ((c.tc : Thread Cert.TailReferenceIdeal.nD Cert.TailReferenceIdeal.τ).loc Cert.TailReferenceIdeal.main_arg0))
      (m' ((c.tc : Thread Cert.TailReferenceIdeal.nD Cert.TailReferenceIdeal.τ).loc Cert.TailReferenceIdeal.main_arg1))
      (m' ((c.tc : Thread Cert.TailReferenceIdeal.nD Cert.TailReferenceIdeal.τ).loc Cert.TailReferenceIdeal.main_arg2))
      (m' ((c.tc : Thread Cert.TailReferenceIdeal.nD Cert.TailReferenceIdeal.τ).loc Cert.TailReferenceIdeal.main_arg3))
      (m' ((c.tc : Thread Cert.TailReferenceIdeal.nD Cert.TailReferenceIdeal.τ).loc Cert.TailReferenceIdeal.main_arg4))
      (m' ((c.tc : Thread Cert.TailReferenceIdeal.nD Cert.TailReferenceIdeal.τ).loc Cert.TailReferenceIdeal.main_arg5))
      (m' ((c.tc : Thread Cert.TailReferenceIdeal.nD Cert.TailReferenceIdeal.τ).loc Cert.TailReferenceIdeal.main_arg6))
      (m' ((c.tc : Thread Cert.TailReferenceIdeal.nD Cert.TailReferenceIdeal.τ).loc Cert.TailReferenceIdeal.main_arg7))
      (m' ((c.tc : Thread Cert.TailReferenceIdeal.nD Cert.TailReferenceIdeal.τ).loc Cert.TailReferenceIdeal.main_arg8))
      (m' ((c.tc : Thread Cert.TailReferenceIdeal.nD Cert.TailReferenceIdeal.τ).loc Cert.TailReferenceIdeal.main_arg9)) = _
  rw [h0, h1, h2, h3, h4, h5, h6, h7, h8, h9]

/-- The reference of the four calls ends, leaves its arguments as they were and holds no semaphore count. -/
theorem frame_net_reference : Cert.quiescent_NetReferenceIdeal := fun m ρ _ =>
  (θ_run Cert.NetReferenceIdeal.defs _ _).mono
    (fun r h => ⟨fun c => (h c).2, Idealize.ShloMosaic.sem_eq_zero_of_no_sems (by decide) r.2⟩)
    (Cert.NetReferenceIdeal.Value.run (F := Ideal) m ρ)

/-- The word of -3.0e38 stands for minus infinity in the four calls too. -/
theorem preserves_net : Cert.preserves_NetKernel_NetKernelIdeal :=
  IdealRules.named_const.statement Cert.NetKernelIdeal.κ "neg" .f32 0xFF61B1E6#32 ⊥ rfl

/-- The four calls as one program: under its precondition kernel and reference end with the same array. -/
theorem algebraic_net : Cert.algebraic_NetKernelIdeal_NetReferenceIdeal_pre_both_separated := by
  intro m ρ m' ρ' hpre hagree
  refine ⟨fun c => Cert.NetKernelIdeal.Blocks.result m c,
    (θ_run Cert.NetKernelIdeal.defs _ _).mono
      (fun r h c => ⟨(h c).1.trans (Cert.NetKernelIdeal.Blocks.final m ρ c hpre), (h c).2⟩)
      (Cert.NetKernelIdeal.Run.run (F := Ideal) m ρ),
    (θ_run Cert.NetReferenceIdeal.defs _ _).mono (fun _ h c => ⟨(h c).1.trans ?_, (h c).2⟩)
      (Cert.NetReferenceIdeal.Value.run (F := Ideal) m' ρ')⟩
  obtain ⟨h0, h1, h2, h3, h4, h5, h6, h7, h8, h9, h10, h11, h12, h13, h14, h15, h16,
    h17, h18, h19, h20, h21, h22, h23, h24, h25, h26, h27, h28, h29, h30, h31, h32, h33⟩ := hagree c
  refine (Cert.NetReferenceIdeal.Read.val_main_v394_eq (F := Ideal) (launchContents m' c)).trans ?_
  show Cert.NetReferenceIdeal.Read.val_main_v394 (F := Ideal)
      (m' ((c.tc : Thread Cert.NetReferenceIdeal.nD Cert.NetReferenceIdeal.τ).loc Cert.NetReferenceIdeal.main_arg0))
      (m' ((c.tc : Thread Cert.NetReferenceIdeal.nD Cert.NetReferenceIdeal.τ).loc Cert.NetReferenceIdeal.main_arg1))
      (m' ((c.tc : Thread Cert.NetReferenceIdeal.nD Cert.NetReferenceIdeal.τ).loc Cert.NetReferenceIdeal.main_arg2))
      (m' ((c.tc : Thread Cert.NetReferenceIdeal.nD Cert.NetReferenceIdeal.τ).loc Cert.NetReferenceIdeal.main_arg3))
      (m' ((c.tc : Thread Cert.NetReferenceIdeal.nD Cert.NetReferenceIdeal.τ).loc Cert.NetReferenceIdeal.main_arg4))
      (m' ((c.tc : Thread Cert.NetReferenceIdeal.nD Cert.NetReferenceIdeal.τ).loc Cert.NetReferenceIdeal.main_arg5))
      (m' ((c.tc : Thread Cert.NetReferenceIdeal.nD Cert.NetReferenceIdeal.τ).loc Cert.NetReferenceIdeal.main_arg6))
      (m' ((c.tc : Thread Cert.NetReferenceIdeal.nD Cert.NetReferenceIdeal.τ).loc Cert.NetReferenceIdeal.main_arg7))
      (m' ((c.tc : Thread Cert.NetReferenceIdeal.nD Cert.NetReferenceIdeal.τ).loc Cert.NetReferenceIdeal.main_arg8))
      (m' ((c.tc : Thread Cert.NetReferenceIdeal.nD Cert.NetReferenceIdeal.τ).loc Cert.NetReferenceIdeal.main_arg9))
      (m' ((c.tc : Thread Cert.NetReferenceIdeal.nD Cert.NetReferenceIdeal.τ).loc Cert.NetReferenceIdeal.main_arg10))
      (m' ((c.tc : Thread Cert.NetReferenceIdeal.nD Cert.NetReferenceIdeal.τ).loc Cert.NetReferenceIdeal.main_arg11))
      (m' ((c.tc : Thread Cert.NetReferenceIdeal.nD Cert.NetReferenceIdeal.τ).loc Cert.NetReferenceIdeal.main_arg12))
      (m' ((c.tc : Thread Cert.NetReferenceIdeal.nD Cert.NetReferenceIdeal.τ).loc Cert.NetReferenceIdeal.main_arg13))
      (m' ((c.tc : Thread Cert.NetReferenceIdeal.nD Cert.NetReferenceIdeal.τ).loc Cert.NetReferenceIdeal.main_arg14))
      (m' ((c.tc : Thread Cert.NetReferenceIdeal.nD Cert.NetReferenceIdeal.τ).loc Cert.NetReferenceIdeal.main_arg15))
      (m' ((c.tc : Thread Cert.NetReferenceIdeal.nD Cert.NetReferenceIdeal.τ).loc Cert.NetReferenceIdeal.main_arg16))
      (m' ((c.tc : Thread Cert.NetReferenceIdeal.nD Cert.NetReferenceIdeal.τ).loc Cert.NetReferenceIdeal.main_arg17))
      (m' ((c.tc : Thread Cert.NetReferenceIdeal.nD Cert.NetReferenceIdeal.τ).loc Cert.NetReferenceIdeal.main_arg18))
      (m' ((c.tc : Thread Cert.NetReferenceIdeal.nD Cert.NetReferenceIdeal.τ).loc Cert.NetReferenceIdeal.main_arg19))
      (m' ((c.tc : Thread Cert.NetReferenceIdeal.nD Cert.NetReferenceIdeal.τ).loc Cert.NetReferenceIdeal.main_arg20))
      (m' ((c.tc : Thread Cert.NetReferenceIdeal.nD Cert.NetReferenceIdeal.τ).loc Cert.NetReferenceIdeal.main_arg21))
      (m' ((c.tc : Thread Cert.NetReferenceIdeal.nD Cert.NetReferenceIdeal.τ).loc Cert.NetReferenceIdeal.main_arg22))
      (m' ((c.tc : Thread Cert.NetReferenceIdeal.nD Cert.NetReferenceIdeal.τ).loc Cert.NetReferenceIdeal.main_arg23))
      (m' ((c.tc : Thread Cert.NetReferenceIdeal.nD Cert.NetReferenceIdeal.τ).loc Cert.NetReferenceIdeal.main_arg24))
      (m' ((c.tc : Thread Cert.NetReferenceIdeal.nD Cert.NetReferenceIdeal.τ).loc Cert.NetReferenceIdeal.main_arg25))
      (m' ((c.tc : Thread Cert.NetReferenceIdeal.nD Cert.NetReferenceIdeal.τ).loc Cert.NetReferenceIdeal.main_arg26))
      (m' ((c.tc : Thread Cert.NetReferenceIdeal.nD Cert.NetReferenceIdeal.τ).loc Cert.NetReferenceIdeal.main_arg27))
      (m' ((c.tc : Thread Cert.NetReferenceIdeal.nD Cert.NetReferenceIdeal.τ).loc Cert.NetReferenceIdeal.main_arg28))
      (m' ((c.tc : Thread Cert.NetReferenceIdeal.nD Cert.NetReferenceIdeal.τ).loc Cert.NetReferenceIdeal.main_arg29))
      (m' ((c.tc : Thread Cert.NetReferenceIdeal.nD Cert.NetReferenceIdeal.τ).loc Cert.NetReferenceIdeal.main_arg30))
      (m' ((c.tc : Thread Cert.NetReferenceIdeal.nD Cert.NetReferenceIdeal.τ).loc Cert.NetReferenceIdeal.main_arg31))
      (m' ((c.tc : Thread Cert.NetReferenceIdeal.nD Cert.NetReferenceIdeal.τ).loc Cert.NetReferenceIdeal.main_arg32))
      (m' ((c.tc : Thread Cert.NetReferenceIdeal.nD Cert.NetReferenceIdeal.τ).loc Cert.NetReferenceIdeal.main_arg33)) = _
  rw [h0, h1, h2, h3, h4, h5, h6, h7, h8, h9, h10, h11, h12, h13, h14, h15, h16,
    h17, h18, h19, h20, h21, h22, h23, h24, h25, h26, h27, h28, h29, h30, h31, h32, h33]

theorem claim : Cert.Claim := ⟨Cert.Kernel.Gen.facts, Cert.KernelIdeal.Gen.facts, Cert.ReferenceIdeal.Gen.facts,
  Cert.HeadKernel.Gen.facts, Cert.HeadKernelIdeal.Gen.facts, Cert.HeadReferenceIdeal.Gen.facts,
  Cert.FirstKernel.Gen.facts, Cert.FirstKernelIdeal.Gen.facts, Cert.FirstReferenceIdeal.Gen.facts,
  Cert.SumsKernel.Gen.facts, Cert.SumsKernelIdeal.Gen.facts, Cert.SumsReferenceIdeal.Gen.facts,
  Cert.TailKernel.Gen.facts, Cert.TailKernelIdeal.Gen.facts, Cert.TailReferenceIdeal.Gen.facts,
  Cert.NetKernel.Gen.facts, Cert.NetKernelIdeal.Gen.facts, Cert.NetReferenceIdeal.Gen.facts,
  Cert.Pre_separated.Gen.facts, Cert.Pre_head_regular.Gen.facts, Cert.Pre_first_separated.Gen.facts, Cert.Pre_tail_finite.Gen.facts,
  Cert.Pre_both_separated.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.HeadKernel.Gen.frame m ρ,
  fun m ρ _ => Cert.HeadKernelIdeal.Gen.frame m ρ,
  fun m ρ _ => Cert.HeadKernelIdeal.Gen.frame m ρ,
  frame_head_reference,
  fun m ρ _ => frame_head_reference m ρ trivial,
  fun m ρ _ => Cert.FirstKernel.Gen.frame m ρ,
  fun m ρ _ => Cert.FirstKernelIdeal.Gen.frame m ρ,
  fun m ρ _ => Cert.FirstKernelIdeal.Gen.frame m ρ,
  frame_first_reference,
  fun m ρ _ => frame_first_reference m ρ trivial,
  fun m ρ _ => Cert.SumsKernel.Gen.frame m ρ,
  fun m ρ _ => Cert.SumsKernelIdeal.Gen.frame m ρ,
  frame_sums_reference,
  fun m ρ _ => Cert.TailKernel.Gen.frame m ρ,
  fun m ρ _ => Cert.TailKernelIdeal.Gen.frame m ρ,
  fun m ρ _ => Cert.TailKernelIdeal.Gen.frame m ρ,
  frame_tail_reference,
  fun m ρ _ => frame_tail_reference m ρ trivial,
  fun m ρ _ => Cert.NetKernel.Gen.frame m ρ,
  fun m ρ _ => Cert.NetKernelIdeal.Gen.frame m ρ,
  fun m ρ _ => Cert.NetKernelIdeal.Gen.frame m ρ,
  frame_net_reference,
  fun m ρ _ => frame_net_reference m ρ trivial,
  preserves,
  algebraic,
  trivial,
  algebraic_head,
  preserves_first,
  algebraic_first,
  trivial,
  algebraic_sums,
  trivial,
  algebraic_tail,
  preserves_net,
  algebraic_net⟩

end Cert.Proof

end
